-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_finite_ret [hPre_finite_ret : Cert.Pre_finite_ret.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_finite_ret.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))) = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_finite_ret [hPre_finite_ret : Cert.Pre_finite_ret.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_finite_ret.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      True)
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      True)
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      True)
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetKernelIdeal_pre_finite_ret [hRetKernelIdeal : Cert.RetKernelIdeal.Facts] [hPre_finite_ret : Cert.Pre_finite_ret.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_finite_ret m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetReferenceIdeal_pre_finite_ret [hRetReferenceIdeal : Cert.RetReferenceIdeal.Facts] [hPre_finite_ret : Cert.Pre_finite_ret.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_finite_ret m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v17)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v17) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v53) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)) →
    ∃ (v0 : (c : Dev Cert.InprojKernelIdeal.nD) → Buf (Elt Ideal) ((c.tc : Thread Cert.InprojKernelIdeal.nD Cert.InprojKernelIdeal.τ).loc Cert.InprojKernelIdeal.main_v15)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v15) = v0 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v74) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v21)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v21) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v77) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)) →
    ∃ (v0 : (c : Dev Cert.ModKernelIdeal.nD) → Buf (Elt Ideal) ((c.tc : Thread Cert.ModKernelIdeal.nD Cert.ModKernelIdeal.τ).loc Cert.ModKernelIdeal.main_v3)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v3) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v6) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      True) →
    ∃ (v0 : (c : Dev Cert.RopeKernelIdeal.nD) → Buf (Elt Ideal) ((c.tc : Thread Cert.RopeKernelIdeal.nD Cert.RopeKernelIdeal.τ).loc Cert.RopeKernelIdeal.main_v8_0)) (v1 : (c : Dev Cert.RopeKernelIdeal.nD) → Buf (Elt Ideal) ((c.tc : Thread Cert.RopeKernelIdeal.nD Cert.RopeKernelIdeal.τ).loc Cert.RopeKernelIdeal.main_v8_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v8_0) = v0 c
          ∧ r.2.mem ((c.tc : Thread Cert.RopeKernelIdeal.nD Cert.RopeKernelIdeal.τ).loc Cert.RopeKernelIdeal.main_v8_1) = v1 c)
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v13) = v0 c
          ∧ r.2.mem ((c.tc : Thread Cert.RopeReferenceIdeal.nD Cert.RopeReferenceIdeal.τ).loc Cert.RopeReferenceIdeal.main_v14) = v1 c)

def preserves_RetKernel_RetKernelIdeal : Prop :=
  True

def algebraic_RetKernelIdeal_RetReferenceIdeal_pre_finite_ret [hRetKernelIdeal : Cert.RetKernelIdeal.Facts] [hRetReferenceIdeal : Cert.RetReferenceIdeal.Facts] [hPre_finite_ret : Cert.Pre_finite_ret.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_finite_ret m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)) →
    ∃ (v0 : (c : Dev Cert.RetKernelIdeal.nD) → Buf (Elt Ideal) ((c.tc : Thread Cert.RetKernelIdeal.nD Cert.RetKernelIdeal.τ).loc Cert.RetKernelIdeal.main_v1)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v1) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v40) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hInprojKernel : Cert.InprojKernel.Facts) (hInprojKernelIdeal : Cert.InprojKernelIdeal.Facts) (hInprojReferenceIdeal : Cert.InprojReferenceIdeal.Facts) (hMergeKernel : Cert.MergeKernel.Facts) (hMergeKernelIdeal : Cert.MergeKernelIdeal.Facts) (hMergeReferenceIdeal : Cert.MergeReferenceIdeal.Facts) (hModKernel : Cert.ModKernel.Facts) (hModKernelIdeal : Cert.ModKernelIdeal.Facts) (hModReferenceIdeal : Cert.ModReferenceIdeal.Facts) (hRopeKernel : Cert.RopeKernel.Facts) (hRopeKernelIdeal : Cert.RopeKernelIdeal.Facts) (hRopeReferenceIdeal : Cert.RopeReferenceIdeal.Facts) (hRetKernel : Cert.RetKernel.Facts) (hRetKernelIdeal : Cert.RetKernelIdeal.Facts) (hRetReferenceIdeal : Cert.RetReferenceIdeal.Facts) (hPre_finite : Cert.Pre_finite.Facts) (hPre_finite_ret : Cert.Pre_finite_ret.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_RetKernel (hRetKernel := hRetKernel)
    ∧ quiescent_RetKernelIdeal (hRetKernelIdeal := hRetKernelIdeal)
    ∧ quiescent_RetKernelIdeal_pre_finite_ret (hRetKernelIdeal := hRetKernelIdeal) (hPre_finite_ret := hPre_finite_ret)
    ∧ quiescent_RetReferenceIdeal (hRetReferenceIdeal := hRetReferenceIdeal)
    ∧ quiescent_RetReferenceIdeal_pre_finite_ret (hRetReferenceIdeal := hRetReferenceIdeal) (hPre_finite_ret := hPre_finite_ret)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_InprojKernel_InprojKernelIdeal
    ∧ algebraic_InprojKernelIdeal_InprojReferenceIdeal (hInprojKernelIdeal := hInprojKernelIdeal) (hInprojReferenceIdeal := hInprojReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_ModKernel_ModKernelIdeal
    ∧ algebraic_ModKernelIdeal_ModReferenceIdeal (hModKernelIdeal := hModKernelIdeal) (hModReferenceIdeal := hModReferenceIdeal)
    ∧ preserves_RopeKernel_RopeKernelIdeal
    ∧ algebraic_RopeKernelIdeal_RopeReferenceIdeal (hRopeKernelIdeal := hRopeKernelIdeal) (hRopeReferenceIdeal := hRopeReferenceIdeal)
    ∧ preserves_RetKernel_RetKernelIdeal
    ∧ algebraic_RetKernelIdeal_RetReferenceIdeal_pre_finite_ret (hRetKernelIdeal := hRetKernelIdeal) (hRetReferenceIdeal := hRetReferenceIdeal) (hPre_finite_ret := hPre_finite_ret)
-- ==== Pre_finite.lean ====
abbrev S2x8192x11264 : Shape := ⟨3, ![2, 8192, 11264]⟩
abbrev S16x15x31 : Shape := ⟨3, ![16, 15, 31]⟩
abbrev S_ : Shape := ⟨0, ![]⟩

class Facts : Prop where
  bcast_S_S2x8192x11264 : S_.BroadcastsInDim S2x8192x11264 (![] : Fin 0 → Fin S2x8192x11264.rank)
  bcast_S_S16x15x31 : S_.BroadcastsInDim S16x15x31 (![] : Fin 0 → Fin S16x15x31.rank)

variable [Facts]

def fn {F : FTy → Type} [FloatOps F] (main_arg0 : FVec F S2x8192x11264 .bf16) (main_arg1 : FVec F S16x15x31 .f32) : IVec S2x8192x11264 1 × IVec S16x15x31 1 :=
  let main_v0 : FVec F S2x8192x11264 .bf16 := Host.absf main_arg0
  let main_cst : FVec F S_ .bf16 := constant S_ .bf16 0x7F80#16
  let main_v1 : FVec F S2x8192x11264 .bf16 := broadcastInDim S2x8192x11264 ![] bcast_S_S2x8192x11264 main_cst
  let main_v2 : IVec S2x8192x11264 1 := cmpf .olt main_v0 main_v1
  let main_v3 : FVec F S16x15x31 .f32 := Host.absf main_arg1
  let main_cst_0 : FVec F S_ .f32 := constant S_ .f32 0x7F800000#32
  let main_v4 : FVec F S16x15x31 .f32 := broadcastInDim S16x15x31 ![] bcast_S_S16x15x31 main_cst_0
  let main_v5 : IVec S16x15x31 1 := cmpf .olt main_v3 main_v4
  (main_v2, main_v5)
-- ==== Pre_finite_ret.lean ====
abbrev S2x8192x11264 : Shape := ⟨3, ![2, 8192, 11264]⟩
abbrev S2x4 : Shape := ⟨2, ![2, 4]⟩
abbrev S_ : Shape := ⟨0, ![]⟩

class Facts : Prop where
  bcast_S_S2x8192x11264 : S_.BroadcastsInDim S2x8192x11264 (![] : Fin 0 → Fin S2x8192x11264.rank)

variable [Facts]

def fn {F : FTy → Type} [FloatOps F] (main_arg0 : FVec F S2x8192x11264 .bf16) (main_arg1 : FVec F S2x4 .f32) : IVec S2x8192x11264 1 :=
  let main_v0 : FVec F S2x8192x11264 .bf16 := Host.absf main_arg0
  let main_cst : FVec F S_ .bf16 := constant S_ .bf16 0x7F80#16
  let main_v1 : FVec F S2x8192x11264 .bf16 := broadcastInDim S2x8192x11264 ![] bcast_S_S2x8192x11264 main_cst
  let main_v2 : IVec S2x8192x11264 1 := cmpf .olt main_v0 main_v1
  main_v2
-- ==== Kernel.lean ====
abbrev S2x8192x11264 : Shape := ⟨3, ![2, 8192, 11264]⟩
abbrev S16x15x31 : Shape := ⟨3, ![16, 15, 31]⟩
abbrev S_ : Shape := ⟨0, ![]⟩
abbrev S16x15x97 : Shape := ⟨3, ![16, 15, 97]⟩
abbrev S16x15x16 : Shape := ⟨3, ![16, 15, 16]⟩
abbrev S16x15x15 : Shape := ⟨3, ![16, 15, 15]⟩
abbrev S16x15x128 : Shape := ⟨3, ![16, 15, 128]⟩
abbrev S8x2x15x128 : Shape := ⟨4, ![8, 2, 15, 128]⟩
abbrev S8x14x128x128 : Shape := ⟨4, ![8, 14, 128, 128]⟩
abbrev S1x2x15x128 : Shape := ⟨4, ![1, 2, 15, 128]⟩
abbrev S1x14x128x128 : Shape := ⟨4, ![1, 14, 128, 128]⟩
abbrev S64x128 : Shape := ⟨2, ![64, 128]⟩
abbrev S1x1x1x128 : Shape := ⟨4, ![1, 1, 1, 128]⟩
abbrev S1x128 : Shape := ⟨2, ![1, 128]⟩
abbrev S1x1x64x128 : Shape := ⟨4, ![1, 1, 64, 128]⟩
abbrev S2x8192x1024 : Shape := ⟨3, ![2, 8192, 1024]⟩
abbrev S1x512x1024 : Shape := ⟨3, ![1, 512, 1024]⟩
abbrev S1x1024x1024 : Shape := ⟨3, ![1, 1024, 1024]⟩
abbrev S2048x512 : Shape := ⟨2, ![2048, 512]⟩
abbrev S256x256 : Shape := ⟨2, ![256, 256]⟩
abbrev S512x128 : Shape := ⟨2, ![512, 128]⟩
abbrev S1x64x256 : Shape := ⟨3, ![1, 64, 256]⟩
abbrev S64x256 : Shape := ⟨2, ![64, 256]⟩
abbrev S1x512x256 : Shape := ⟨3, ![1, 512, 256]⟩
abbrev S512x256 : Shape := ⟨2, ![512, 256]⟩
abbrev S256x512 : Shape := ⟨2, ![256, 512]⟩
abbrev S128x128 : Shape := ⟨2, ![128, 128]⟩
abbrev S1x1x128x128 : Shape := ⟨4, ![1, 1, 128, 128]⟩
abbrev S256 : Shape := ⟨1, ![256]⟩
abbrev S256x1 : Shape := ⟨2, ![256, 1]⟩
abbrev S1x512x128 : Shape := ⟨3, ![1, 512, 128]⟩
abbrev S128x512 : Shape := ⟨2, ![128, 512]⟩
abbrev S128x256 : Shape := ⟨2, ![128, 256]⟩
abbrev S1x64x128 : Shape := ⟨3, ![1, 64, 128]⟩

abbrev nBuf : Space → Nat
  | .hbm => 10
  | .vmem => 17
  | .smem => 0
  | _ => 0

abbrev bufTy : (tb : Table) → Fin (tcTables nBuf tb) → BufTy
  | .hbm, ⟨0, _⟩ => ⟨S2x8192x11264, .bf16⟩
  | .hbm, ⟨1, _⟩ => ⟨S16x15x31, .f32⟩
  | .hbm, ⟨2, _⟩ => ⟨S_, .f32⟩
  | .hbm, ⟨3, _⟩ => ⟨S16x15x97, .f32⟩
  | .hbm, ⟨4, _⟩ => ⟨S16x15x16, .f32⟩
  | .hbm, ⟨5, _⟩ => ⟨S16x15x15, .f32⟩
  | .hbm, ⟨6, _⟩ => ⟨S16x15x128, .f32⟩
  | .hbm, ⟨7, _⟩ => ⟨S8x2x15x128, .f32⟩
  | .hbm, ⟨8, _⟩ => ⟨S8x14x128x128, .f32⟩
  | .hbm, ⟨9, _⟩ => ⟨S2x8192x1024, .bf16⟩
  | .local _ .vmem, ⟨0, _⟩ => ⟨S1x2x15x128, .f32⟩
  | .local _ .vmem, ⟨1, _⟩ => ⟨S1x2x15x128, .f32⟩
  | .local _ .vmem, ⟨2, _⟩ => ⟨S1x14x128x128, .f32⟩
  | .local _ .vmem, ⟨3, _⟩ => ⟨S1x14x128x128, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S8x14x128x128, .f32⟩
  | .local _ .vmem, ⟨11, _⟩ => ⟨S1x512x1024, .bf16⟩
  | .local _ .vmem, ⟨12, _⟩ => ⟨S1x512x1024, .bf16⟩
  | .local _ .vmem, ⟨13, _⟩ => ⟨S2048x512, .f32⟩
  | .local _ .vmem, ⟨14, _⟩ => ⟨S2048x512, .f32⟩
  | .local _ .vmem, ⟨15, _⟩ => ⟨S2048x512, .bf16⟩
  | .local _ .vmem, ⟨16, _⟩ => ⟨S2048x512, .bf16⟩
  | _, _ => ⟨S2x8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x15x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_mult1 (i : grid1.Coords) : BitVec 32 :=
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let c0_i32_16 : BitVec 32 := 0#32
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  v69
def k1_mult2 (i : grid1.Coords) : BitVec 32 :=
  let c120_i32_24 : BitVec 32 := 120#32
  let c0_i32_23 : BitVec 32 := 0#32
  let arg1 : BitVec 32 := BitVec.ofNat 32 (i 1).val
  let c8_i32_20 : BitVec 32 := 8#32
  let v73 : BitVec 32 := Scalar.muli arg1 c8_i32_20
  let c1_i32_21 : BitVec 32 := 1#32
  let v74 : BitVec 32 := Scalar.addi v73 c1_i32_21
  let c4_i32_22 : BitVec 32 := 4#32
  let v75 : BitVec 32 := Scalar.subi v74 c4_i32_22
  let v76 : BitVec 32 := Scalar.maxsi c0_i32_23 v75
  let v77 : BitVec 32 := Scalar.minsi c120_i32_24 v76
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v78 : BitVec 32 := Scalar.subi v77 v62
  let c64_i32_25 : BitVec 32 := 64#32
  let v79 : BitVec 32 := Scalar.muli v78 c64_i32_25
  v79
def k1_mult3 (i : grid1.Coords) : BitVec 32 :=
  let c120_i32_30 : BitVec 32 := 120#32
  let c0_i32_29 : BitVec 32 := 0#32
  let arg1 : BitVec 32 := BitVec.ofNat 32 (i 1).val
  let c8_i32_27 : BitVec 32 := 8#32
  let v83 : BitVec 32 := Scalar.muli arg1 c8_i32_27
  let c2_i32 : BitVec 32 := 2#32
  let v84 : BitVec 32 := Scalar.addi v83 c2_i32
  let c4_i32_28 : BitVec 32 := 4#32
  let v85 : BitVec 32 := Scalar.subi v84 c4_i32_28
  let v86 : BitVec 32 := Scalar.maxsi c0_i32_29 v85
  let v87 : BitVec 32 := Scalar.minsi c120_i32_30 v86
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v88 : BitVec 32 := Scalar.subi v87 v62
  let c64_i32_31 : BitVec 32 := 64#32
  let v89 : BitVec 32 := Scalar.muli v88 c64_i32_31
  v89
def k1_mult4 (i : grid1.Coords) : BitVec 32 :=
  let c120_i32_36 : BitVec 32 := 120#32
  let c0_i32_35 : BitVec 32 := 0#32
  let arg1 : BitVec 32 := BitVec.ofNat 32 (i 1).val
  let c8_i32_33 : BitVec 32 := 8#32
  let v93 : BitVec 32 := Scalar.muli arg1 c8_i32_33
  let c3_i32 : BitVec 32 := 3#32
  let v94 : BitVec 32 := Scalar.addi v93 c3_i32
  let c4_i32_34 : BitVec 32 := 4#32
  let v95 : BitVec 32 := Scalar.subi v94 c4_i32_34
  let v96 : BitVec 32 := Scalar.maxsi c0_i32_35 v95
  let v97 : BitVec 32 := Scalar.minsi c120_i32_36 v96
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v98 : BitVec 32 := Scalar.subi v97 v62
  let c64_i32_37 : BitVec 32 := 64#32
  let v99 : BitVec 32 := Scalar.muli v98 c64_i32_37
  v99
def k1_mult5 (i : grid1.Coords) : BitVec 32 :=
  let c120_i32_43 : BitVec 32 := 120#32
  let c0_i32_42 : BitVec 32 := 0#32
  let arg1 : BitVec 32 := BitVec.ofNat 32 (i 1).val
  let c8_i32_39 : BitVec 32 := 8#32
  let v103 : BitVec 32 := Scalar.muli arg1 c8_i32_39
  let c4_i32_40 : BitVec 32 := 4#32
  let v104 : BitVec 32 := Scalar.addi v103 c4_i32_40
  let c4_i32_41 : BitVec 32 := 4#32
  let v105 : BitVec 32 := Scalar.subi v104 c4_i32_41
  let v106 : BitVec 32 := Scalar.maxsi c0_i32_42 v105
  let v107 : BitVec 32 := Scalar.minsi c120_i32_43 v106
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v108 : BitVec 32 := Scalar.subi v107 v62
  let c64_i32_44 : BitVec 32 := 64#32
  let v109 : BitVec 32 := Scalar.muli v108 c64_i32_44
  v109
def k1_mult6 (i : grid1.Coords) : BitVec 32 :=
  let c120_i32_49 : BitVec 32 := 120#32
  let c0_i32_48 : BitVec 32 := 0#32
  let arg1 : BitVec 32 := BitVec.ofNat 32 (i 1).val
  let c8_i32_46 : BitVec 32 := 8#32
  let v113 : BitVec 32 := Scalar.muli arg1 c8_i32_46
  let c5_i32 : BitVec 32 := 5#32
  let v114 : BitVec 32 := Scalar.addi v113 c5_i32
  let c4_i32_47 : BitVec 32 := 4#32
  let v115 : BitVec 32 := Scalar.subi v114 c4_i32_47
  let v116 : BitVec 32 := Scalar.maxsi c0_i32_48 v115
  let v117 : BitVec 32 := Scalar.minsi c120_i32_49 v116
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v118 : BitVec 32 := Scalar.subi v117 v62
  let c64_i32_50 : BitVec 32 := 64#32
  let v119 : BitVec 32 := Scalar.muli v118 c64_i32_50
  v119
def k1_mult7 (i : grid1.Coords) : BitVec 32 :=
  let c120_i32_55 : BitVec 32 := 120#32
  let c0_i32_54 : BitVec 32 := 0#32
  let arg1 : BitVec 32 := BitVec.ofNat 32 (i 1).val
  let c8_i32_52 : BitVec 32 := 8#32
  let v123 : BitVec 32 := Scalar.muli arg1 c8_i32_52
  let c6_i32 : BitVec 32 := 6#32
  let v124 : BitVec 32 := Scalar.addi v123 c6_i32
  let c4_i32_53 : BitVec 32 := 4#32
  let v125 : BitVec 32 := Scalar.subi v124 c4_i32_53
  let v126 : BitVec 32 := Scalar.maxsi c0_i32_54 v125
  let v127 : BitVec 32 := Scalar.minsi c120_i32_55 v126
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v128 : BitVec 32 := Scalar.subi v127 v62
  let c64_i32_56 : BitVec 32 := 64#32
  let v129 : BitVec 32 := Scalar.muli v128 c64_i32_56
  v129
def k1_mult8 (i : grid1.Coords) : BitVec 32 :=
  let c120_i32_62 : BitVec 32 := 120#32
  let c0_i32_61 : BitVec 32 := 0#32
  let arg1 : BitVec 32 := BitVec.ofNat 32 (i 1).val
  let c8_i32_58 : BitVec 32 := 8#32
  let v133 : BitVec 32 := Scalar.muli arg1 c8_i32_58
  let c7_i32_59 : BitVec 32 := 7#32
  let v134 : BitVec 32 := Scalar.addi v133 c7_i32_59
  let c4_i32_60 : BitVec 32 := 4#32
  let v135 : BitVec 32 := Scalar.subi v134 c4_i32_60
  let v136 : BitVec 32 := Scalar.maxsi c0_i32_61 v135
  let v137 : BitVec 32 := Scalar.minsi c120_i32_62 v136
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v138 : BitVec 32 := Scalar.subi v137 v62
  let c64_i32_63 : BitVec 32 := 64#32
  let v139 : BitVec 32 := Scalar.muli v138 c64_i32_63
  v139
def k1_off1 (i : grid1.Coords) (c0_i32_16 : BitVec 32) : Fin 3 → Nat :=
  let c0_68 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v151 : Index := Scalar.indexCast v70
  let c0_69 : Index := 0#32
  ![0, v151.toNat, 0]
def k1_off2 (i : grid1.Coords) (c0_i32_16 : BitVec 32) (c0_i32_71 : BitVec 32) : Fin 4 → Nat :=
  let c0_72 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v156 : BitVec 32 := Scalar.addi v72 c0_i32_71
  let v157 : Index := Scalar.indexCast v156
  let c0_73 : Index := 0#32
  let c0_74 : Index := 0#32
  ![0, v157.toNat, 0, 0]
def k1_off3 (i : grid1.Coords) (c0_i32_16 : BitVec 32) (c0_i32_92 : BitVec 32) : Fin 4 → Nat :=
  let c1 : Index := 1#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v192 : BitVec 32 := Scalar.addi v72 c0_i32_92
  let v193 : Index := Scalar.indexCast v192
  let c0_93 : Index := 0#32
  let c0_94 : Index := 0#32
  ![1, v193.toNat, 0, 0]
def k1_off4 (i : grid1.Coords) (c0_i32_16 : BitVec 32) : Fin 3 → Nat :=
  let c0_524 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v895 : Index := Scalar.indexCast v70
  let c0_525 : Index := 0#32
  ![0, v895.toNat, 0]
def k1_off5 (i : grid1.Coords) (c0_i32_16 : BitVec 32) : Fin 3 → Nat :=
  let c0_532 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v911 : Index := Scalar.indexCast v70
  let c128_533 : Index := 128#32
  ![0, v911.toNat, 128]
def k1_off6 (i : grid1.Coords) (c0_i32_16 : BitVec 32) : Fin 3 → Nat :=
  let c0_656 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v1159 : Index := Scalar.indexCast v70
  let c256_657 : Index := 256#32
  ![0, v1159.toNat, 256]
def k1_off7 (i : grid1.Coords) (c0_i32_16 : BitVec 32) (c0_i32_659 : BitVec 32) : Fin 4 → Nat :=
  let c2 : Index := 2#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v1164 : BitVec 32 := Scalar.addi v72 c0_i32_659
  let v1165 : Index := Scalar.indexCast v1164
  let c0_660 : Index := 0#32
  let c0_661 : Index := 0#32
  ![2, v1165.toNat, 0, 0]
def k1_off8 (i : grid1.Coords) (c0_i32_16 : BitVec 32) (c0_i32_682 : BitVec 32) : Fin 4 → Nat :=
  let c3 : Index := 3#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v1200 : BitVec 32 := Scalar.addi v72 c0_i32_682
  let v1201 : Index := Scalar.indexCast v1200
  let c0_683 : Index := 0#32
  let c0_684 : Index := 0#32
  ![3, v1201.toNat, 0, 0]
def k1_off9 (i : grid1.Coords) (c0_i32_16 : BitVec 32) : Fin 3 → Nat :=
  let c0_1130 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v1903 : Index := Scalar.indexCast v70
  let c256_1131 : Index := 256#32
  ![0, v1903.toNat, 256]
def k1_off10 (i : grid1.Coords) (c0_i32_16 : BitVec 32) : Fin 3 → Nat :=
  let c0_1138 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v1919 : Index := Scalar.indexCast v70
  let c384_1139 : Index := 384#32
  ![0, v1919.toNat, 384]
def k1_off11 (i : grid1.Coords) (c0_i32_16 : BitVec 32) : Fin 3 → Nat :=
  let c0_1262 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v2167 : Index := Scalar.indexCast v70
  let c512_1263 : Index := 512#32
  ![0, v2167.toNat, 512]
def k1_off12 (i : grid1.Coords) (c0_i32_16 : BitVec 32) (c0_i32_1265 : BitVec 32) : Fin 4 → Nat :=
  let c4 : Index := 4#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v2172 : BitVec 32 := Scalar.addi v72 c0_i32_1265
  let v2173 : Index := Scalar.indexCast v2172
  let c0_1266 : Index := 0#32
  let c0_1267 : Index := 0#32
  ![4, v2173.toNat, 0, 0]
def k1_off13 (i : grid1.Coords) (c0_i32_16 : BitVec 32) (c0_i32_1288 : BitVec 32) : Fin 4 → Nat :=
  let c5 : Index := 5#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v2208 : BitVec 32 := Scalar.addi v72 c0_i32_1288
  let v2209 : Index := Scalar.indexCast v2208
  let c0_1289 : Index := 0#32
  let c0_1290 : Index := 0#32
  ![5, v2209.toNat, 0, 0]
def k1_off14 (i : grid1.Coords) (c0_i32_16 : BitVec 32) : Fin 3 → Nat :=
  let c0_1736 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v2911 : Index := Scalar.indexCast v70
  let c512_1737 : Index := 512#32
  ![0, v2911.toNat, 512]
def k1_off15 (i : grid1.Coords) (c0_i32_16 : BitVec 32) : Fin 3 → Nat :=
  let c0_1744 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v2927 : Index := Scalar.indexCast v70
  let c640_1745 : Index := 640#32
  ![0, v2927.toNat, 640]
def k1_off16 (i : grid1.Coords) (c0_i32_16 : BitVec 32) : Fin 3 → Nat :=
  let c0_1868 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v3175 : Index := Scalar.indexCast v70
  let c768_1869 : Index := 768#32
  ![0, v3175.toNat, 768]
def k1_off17 (i : grid1.Coords) (c0_i32_16 : BitVec 32) (c0_i32_1871 : BitVec 32) : Fin 4 → Nat :=
  let c6 : Index := 6#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v3180 : BitVec 32 := Scalar.addi v72 c0_i32_1871
  let v3181 : Index := Scalar.indexCast v3180
  let c0_1872 : Index := 0#32
  let c0_1873 : Index := 0#32
  ![6, v3181.toNat, 0, 0]
def k1_off18 (i : grid1.Coords) (c0_i32_16 : BitVec 32) (c0_i32_1894 : BitVec 32) : Fin 4 → Nat :=
  let c7 : Index := 7#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let v71 : BitVec 32 := Scalar.subi v67 v64
  let c7_i32 : BitVec 32 := 7#32
  let v72 : BitVec 32 := Scalar.addi v71 c7_i32
  let v3216 : BitVec 32 := Scalar.addi v72 c0_i32_1894
  let v3217 : Index := Scalar.indexCast v3216
  let c0_1895 : Index := 0#32
  let c0_1896 : Index := 0#32
  ![7, v3217.toNat, 0, 0]
def k1_off19 (i : grid1.Coords) (c0_i32_16 : BitVec 32) : Fin 3 → Nat :=
  let c0_2342 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v3919 : Index := Scalar.indexCast v70
  let c768_2343 : Index := 768#32
  ![0, v3919.toNat, 768]
def k1_off20 (i : grid1.Coords) (c0_i32_16 : BitVec 32) : Fin 3 → Nat :=
  let c0_2350 : Index := 0#32
  let c120_i32 : BitVec 32 := 120#32
  let c0_i32_18 : BitVec 32 := 0#32
  let arg1 : BitVec 32 := BitVec.ofNat 32 (i 1).val
  let c8_i32_15 : BitVec 32 := 8#32
  let v63 : BitVec 32 := Scalar.muli arg1 c8_i32_15
  let v64 : BitVec 32 := Scalar.addi v63 c0_i32_16
  let c4_i32_17 : BitVec 32 := 4#32
  let v65 : BitVec 32 := Scalar.subi v64 c4_i32_17
  let v66 : BitVec 32 := Scalar.maxsi c0_i32_18 v65
  let v67 : BitVec 32 := Scalar.minsi c120_i32 v66
  let c112_i32 : BitVec 32 := 112#32
  let c0_i32_14 : BitVec 32 := 0#32
  let c8_i32 : BitVec 32 := 8#32
  let v59 : BitVec 32 := Scalar.muli arg1 c8_i32
  let c4_i32 : BitVec 32 := 4#32
  let v60 : BitVec 32 := Scalar.subi v59 c4_i32
  let v61 : BitVec 32 := Scalar.maxsi c0_i32_14 v60
  let v62 : BitVec 32 := Scalar.minsi c112_i32 v61
  let v68 : BitVec 32 := Scalar.subi v67 v62
  let c64_i32_19 : BitVec 32 := 64#32
  let v69 : BitVec 32 := Scalar.muli v68 c64_i32_19
  let v70 : BitVec 32 := v69
  let v3935 : Index := Scalar.indexCast v70
  let c896_2351 : Index := 896#32
  ![0, v3935.toNat, 896]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let c0_i32 : BitVec 32 := 0#32
  let c112_i32 : BitVec 32 := 112#32
  let v2 : BitVec 32 := Scalar.maxsi c0_i32 v1
  let v3 : BitVec 32 := Scalar.minsi c112_i32 v2
  let c64_i32 : BitVec 32 := 64#32
  let v4 : BitVec 32 := Scalar.muli v3 c64_i32
  let c1024_i32 : BitVec 32 := 1024#32
  let c0_i32_0 : BitVec 32 := 0#32
  ![arg0.toNat, v4.toNat, c1024_i32.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let c0_i32 : BitVec 32 := 0#32
  let c112_i32 : BitVec 32 := 112#32
  let v2 : BitVec 32 := Scalar.maxsi c0_i32 v1
  let v3 : BitVec 32 := Scalar.minsi c112_i32 v2
  let c64_i32 : BitVec 32 := 64#32
  let v4 : BitVec 32 := Scalar.muli v3 c64_i32
  let c2048_i32 : BitVec 32 := 2048#32
  let c0_i32_0 : BitVec 32 := 0#32
  ![arg0.toNat, v4.toNat, c2048_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8x14x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "q_scale" => some (((1 / 8) * (Real.log 2)⁻¹ : ℝ) : EReal)
  | _ => none
-- ==== ReferenceIdeal.lean ====
abbrev S2x8192x11264 : Shape := ⟨3, ![2, 8192, 11264]⟩
abbrev S16x15x31 : Shape := ⟨3, ![16, 15, 31]⟩
abbrev S2x8192x1024 : Shape := ⟨3, ![2, 8192, 1024]⟩
abbrev S2x8192x16x64 : Shape := ⟨4, ![2, 8192, 16, 64]⟩
abbrev S128 : Shape := ⟨1, ![128]⟩
abbrev S128x1 : Shape := ⟨2, ![128, 1]⟩
abbrev S64 : Shape := ⟨1, ![64]⟩
abbrev S64x1 : Shape := ⟨2, ![64, 1]⟩
abbrev S_ : Shape := ⟨0, ![]⟩
abbrev S8 : Shape := ⟨1, ![8]⟩
abbrev S1x8 : Shape := ⟨2, ![1, 8]⟩
abbrev S128x8 : Shape := ⟨2, ![128, 8]⟩
abbrev S16 : Shape := ⟨1, ![16]⟩
abbrev S1x16 : Shape := ⟨2, ![1, 16]⟩
abbrev S64x16 : Shape := ⟨2, ![64, 16]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S8192x128 : Shape := ⟨2, ![8192, 128]⟩
abbrev S8192x128x1 : Shape := ⟨3, ![8192, 128, 1]⟩
abbrev S2x8192x128x16x64 : Shape := ⟨5, ![2, 8192, 128, 16, 64]⟩
abbrev S16x465 : Shape := ⟨2, ![16, 465]⟩
abbrev S16x8192x128 : Shape := ⟨3, ![16, 8192, 128]⟩
abbrev S2x16x8192x128 : Shape := ⟨4, ![2, 16, 8192, 128]⟩
abbrev S1x16x8192x128 : Shape := ⟨4, ![1, 16, 8192, 128]⟩
abbrev S2x16x8192 : Shape := ⟨3, ![2, 16, 8192]⟩
abbrev S2x16x8192x1 : Shape := ⟨4, ![2, 16, 8192, 1]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x11264, .bf16⟩
  | .hbm, ⟨1, _⟩ => ⟨S16x15x31, .f32⟩
  | .hbm, ⟨2, _⟩ => ⟨S2x8192x11264, .f32⟩
  | .hbm, ⟨3, _⟩ => ⟨S2x8192x1024, .f32⟩
  | .hbm, ⟨4, _⟩ => ⟨S2x8192x16x64, .f32⟩
  | .hbm, ⟨5, _⟩ => ⟨S2x8192x1024, .f32⟩
  | .hbm, ⟨6, _⟩ => ⟨S2x8192x16x64, .f32⟩
  | .hbm, ⟨7, _⟩ => ⟨S2x8192x1024, .f32⟩
  | .hbm, ⟨8, _⟩ => ⟨S2x8192x16x64, .f32⟩
  | .hbm, ⟨9, _⟩ => ⟨S128, .i32⟩
  | .hbm, ⟨10, _⟩ => ⟨S128x1, .i32⟩
  | .hbm, ⟨11, _⟩ => ⟨S64, .i32⟩
  | .hbm, ⟨12, _⟩ => ⟨S64x1, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S8, .i32⟩
  | .hbm, ⟨25, _⟩ => ⟨S1x8, .i32⟩
  | .hbm, ⟨26, _⟩ => ⟨S128x8, .i32⟩
  | .hbm, ⟨27, _⟩ => ⟨S128x8, .i32⟩
  | .hbm, ⟨28, _⟩ => ⟨S128x8, .i32⟩
  | .hbm, ⟨29, _⟩ => ⟨S_, .i32⟩
  | .hbm, ⟨30, _⟩ => ⟨S64x1, .i32⟩
  | .hbm, ⟨31, _⟩ => ⟨S64x1, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x1, .i32⟩
  | .hbm, ⟨36, _⟩ => ⟨S64x1, .i32⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S16, .i32⟩
  | .hbm, ⟨41, _⟩ => ⟨S1x16, .i32⟩
  | .hbm, ⟨42, _⟩ => ⟨S64x16, .i32⟩
  | .hbm, ⟨43, _⟩ => ⟨S64x16, .i32⟩
  | .hbm, ⟨44, _⟩ => ⟨S64x16, .i32⟩
  | .hbm, ⟨45, _⟩ => ⟨S128x1x8x1, .i32⟩
  | .hbm, ⟨46, _⟩ => ⟨S_, .i32⟩
  | .hbm, ⟨47, _⟩ => ⟨S128x1x8x1, .i32⟩
  | .hbm, ⟨48, _⟩ => ⟨S128x1x8x1, .i32⟩
  | .hbm, ⟨49, _⟩ => ⟨S1x64x1x16, .i32⟩
  | .hbm, ⟨50, _⟩ => ⟨S128x64x8x16, .i32⟩
  | .hbm, ⟨51, _⟩ => ⟨S128x64x8x16, .i32⟩
  | .hbm, ⟨52, _⟩ => ⟨S128x64x8x16, .i32⟩
  | .hbm, ⟨53, _⟩ => ⟨S8192x128, .i32⟩
  | .hbm, ⟨54, _⟩ => ⟨S128x8, .i32⟩
  | .hbm, ⟨55, _⟩ => ⟨S128x8, .i32⟩
  | .hbm, ⟨56, _⟩ => ⟨S_, .i32⟩
  | .hbm, ⟨57, _⟩ => ⟨S128x8, .i32⟩
  | .hbm, ⟨58, _⟩ => ⟨S128x8, .i32⟩
  | .hbm, ⟨59, _⟩ => ⟨S64x16, .i32⟩
  | .hbm, ⟨60, _⟩ => ⟨S64x16, .i32⟩
  | .hbm, ⟨61, _⟩ => ⟨S_, .i32⟩
  | .hbm, ⟨62, _⟩ => ⟨S64x16, .i32⟩
  | .hbm, ⟨63, _⟩ => ⟨S64x16, .i32⟩
  | .hbm, ⟨64, _⟩ => ⟨S128x1x8x1, .i32⟩
  | .hbm, ⟨65, _⟩ => ⟨S_, .i32⟩
  | .hbm, ⟨66, _⟩ => ⟨S128x1x8x1, .i32⟩
  | .hbm, ⟨67, _⟩ => ⟨S128x1x8x1, .i32⟩
  | .hbm, ⟨68, _⟩ => ⟨S1x64x1x16, .i32⟩
  | .hbm, ⟨69, _⟩ => ⟨S128x64x8x16, .i32⟩
  | .hbm, ⟨70, _⟩ => ⟨S128x64x8x16, .i32⟩
  | .hbm, ⟨71, _⟩ => ⟨S128x64x8x16, .i32⟩
  | .hbm, ⟨72, _⟩ => ⟨S8192x128, .i32⟩
  | .hbm, ⟨73, _⟩ => ⟨S_, .i32⟩
  | .hbm, ⟨74, _⟩ => ⟨S8192x128, .i32⟩
  | .hbm, ⟨75, _⟩ => ⟨S8192x128, .i1⟩
  | .hbm, ⟨76, _⟩ => ⟨S_, .i32⟩
  | .hbm, ⟨77, _⟩ => ⟨S8192x128, .i32⟩
  | .hbm, ⟨78, _⟩ => ⟨S8192x128, .i32⟩
  | .hbm, ⟨79, _⟩ => ⟨S8192x128, .i32⟩
  | .hbm, ⟨80, _⟩ => ⟨S8192x128x1, .i32⟩
  | .hbm, ⟨81, _⟩ => ⟨S2x8192x128x16x64, .f32⟩
  | .hbm, ⟨82, _⟩ => ⟨S_, .i32⟩
  | .hbm, ⟨83, _⟩ => ⟨S8192x128, .i32⟩
  | .hbm, ⟨84, _⟩ => ⟨S8192x128, .i1⟩
  | .hbm, ⟨85, _⟩ => ⟨S_, .i32⟩
  | .hbm, ⟨86, _⟩ => ⟨S8192x128, .i32⟩
  | .hbm, ⟨87, _⟩ => ⟨S8192x128, .i32⟩
  | .hbm, ⟨88, _⟩ => ⟨S8192x128, .i32⟩
  | .hbm, ⟨89, _⟩ => ⟨S8192x128x1, .i32⟩
  | .hbm, ⟨90, _⟩ => ⟨S2x8192x128x16x64, .f32⟩
  | .hbm, ⟨91, _⟩ => ⟨S16x465, .f32⟩
  | .hbm, ⟨92, _⟩ => ⟨S_, .i32⟩
  | .hbm, ⟨93, _⟩ => ⟨S8192x128, .i32⟩
  | .hbm, ⟨94, _⟩ => ⟨S8192x128, .i1⟩
  | .hbm, ⟨95, _⟩ => ⟨S_, .i32⟩
  | .hbm, ⟨96, _⟩ => ⟨S8192x128, .i32⟩
  | .hbm, ⟨97, _⟩ => ⟨S8192x128, .i32⟩
  | .hbm, ⟨98, _⟩ => ⟨S8192x128, .i32⟩
  | .hbm, ⟨99, _⟩ => ⟨S8192x128x1, .i32⟩
  | .hbm, ⟨100, _⟩ => ⟨S16x8192x128, .f32⟩
  | .hbm, ⟨101, _⟩ => ⟨S_, .f32⟩
  | .hbm, ⟨102, _⟩ => ⟨S2x8192x16x64, .f32⟩
  | .hbm, ⟨103, _⟩ => ⟨S2x8192x16x64, .f32⟩
  | .hbm, ⟨104, _⟩ => ⟨S2x16x8192x128, .f32⟩
  | .hbm, ⟨105, _⟩ => ⟨S1x16x8192x128, .f32⟩
  | .hbm, ⟨106, _⟩ => ⟨S2x16x8192x128, .f32⟩
  | .hbm, ⟨107, _⟩ => ⟨S2x16x8192x128, .f32⟩
  | .hbm, ⟨108, _⟩ => ⟨S_, .f32⟩
  | .hbm, ⟨109, _⟩ => ⟨S2x16x8192, .f32⟩
  | .hbm, ⟨110, _⟩ => ⟨S_, .f32⟩
  | .hbm, ⟨111, _⟩ => ⟨S2x16x8192, .f32⟩
  | .hbm, ⟨112, _⟩ => ⟨S2x16x8192, .f32⟩
  | .hbm, ⟨113, _⟩ => ⟨S2x16x8192x1, .f32⟩
  | .hbm, ⟨114, _⟩ => ⟨S2x16x8192x128, .f32⟩
  | .hbm, ⟨115, _⟩ => ⟨S2x16x8192x128, .f32⟩
  | .hbm, ⟨116, _⟩ => ⟨S2x16x8192x128, .f32⟩
  | .hbm, ⟨117, _⟩ => ⟨S_, .f32⟩
  | .hbm, ⟨118, _⟩ => ⟨S2x16x8192, .f32⟩
  | .hbm, ⟨119, _⟩ => ⟨S2x16x8192x1, .f32⟩
  | .hbm, ⟨120, _⟩ => ⟨S2x16x8192x128, .f32⟩
  | .hbm, ⟨121, _⟩ => ⟨S2x16x8192x128, .f32⟩
  | .hbm, ⟨122, _⟩ => ⟨S2x8192x16x64, .f32⟩
  | .hbm, ⟨123, _⟩ => ⟨S2x8192x1024, .f32⟩
  | .hbm, ⟨124, _⟩ => ⟨S2x8192x1024, .bf16⟩
  | _, _ => ⟨S2x8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== FfnKernel.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S2816x1024 : Shape := ⟨2, ![2816, 1024]⟩
abbrev S2x1024 : Shape := ⟨2, ![2, 1024]⟩
abbrev S2x1x1024 : Shape := ⟨3, ![2, 1, 1024]⟩
abbrev S16384x1024 : Shape := ⟨2, ![16384, 1024]⟩
abbrev S1x1024 : Shape := ⟨2, ![1, 1024]⟩
abbrev S1024x1024 : Shape := ⟨2, ![1024, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 24
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S16384x1024, .f32⟩
  | .hbm, ⟨19, _⟩ => ⟨S1x1024, .f32⟩
  | .hbm, ⟨20, _⟩ => ⟨S1024x5632, .bf16⟩
  | .hbm, ⟨21, _⟩ => ⟨S2816x1024, .bf16⟩
  | .hbm, ⟨22, _⟩ => ⟨S1x1024, .f32⟩
  | .hbm, ⟨23, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S2816x1024 : Shape := ⟨2, ![2816, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x5632, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== InprojKernel.lean ====
abbrev S2x8192x1024 : Shape := ⟨3, ![2, 8192, 1024]⟩
abbrev S2x6144 : Shape := ⟨2, ![2, 6144]⟩
abbrev S1024 : Shape := ⟨1, ![1024]⟩
abbrev S1024x11264 : Shape := ⟨2, ![1024, 11264]⟩
abbrev S8192x128 : Shape := ⟨2, ![8192, 128]⟩
abbrev S2x1024 : Shape := ⟨2, ![2, 1024]⟩
abbrev S2x1x1024 : Shape := ⟨3, ![2, 1, 1024]⟩
abbrev S16384x1024 : Shape := ⟨2, ![16384, 1024]⟩
abbrev S1x1024 : Shape := ⟨2, ![1, 1024]⟩
abbrev S16384x11264 : Shape := ⟨2, ![16384, 11264]⟩
abbrev S512x1024 : Shape := ⟨2, ![512, 1024]⟩
abbrev S1x1x1024 : Shape := ⟨3, ![1, 1, 1024]⟩
abbrev S512x128 : Shape := ⟨2, ![512, 128]⟩
abbrev S512x11264 : Shape := ⟨2, ![512, 11264]⟩
abbrev S512 : Shape := ⟨1, ![512]⟩
abbrev S512x1 : Shape := ⟨2, ![512, 1]⟩
abbrev S1024x1024 : Shape := ⟨2, ![1024, 1024]⟩
abbrev S1024x256 : Shape := ⟨2, ![1024, 256]⟩
abbrev S512x256 : Shape := ⟨2, ![512, 256]⟩

abbrev nBuf : Space → Nat
  | .hbm => 22
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x11264, .f32⟩
  | .hbm, ⟨4, _⟩ => ⟨S8192x128, .f32⟩
  | .hbm, ⟨5, _⟩ => ⟨S8192x128, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S16384x1024, .f32⟩
  | .hbm, ⟨19, _⟩ => ⟨S1x1024, .f32⟩
  | .hbm, ⟨20, _⟩ => ⟨S1024x11264, .bf16⟩
  | .hbm, ⟨21, _⟩ => ⟨S16384x11264, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x11264, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x11264, .bf16⟩
  | .local _ .vmem, ⟨13, _⟩ => ⟨S512x11264, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x11264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x11264 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojReferenceIdeal.lean ====
abbrev S2x8192x1024 : Shape := ⟨3, ![2, 8192, 1024]⟩
abbrev S2x6144 : Shape := ⟨2, ![2, 6144]⟩
abbrev S1024 : Shape := ⟨1, ![1024]⟩
abbrev S1024x11264 : Shape := ⟨2, ![1024, 11264]⟩
abbrev S8192x128 : Shape := ⟨2, ![8192, 128]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x11264 : Shape := ⟨3, ![2, 8192, 11264]⟩
abbrev S2x8192x3072 : Shape := ⟨3, ![2, 8192, 3072]⟩
abbrev S2x8192x6144 : Shape := ⟨3, ![2, 8192, 6144]⟩
abbrev S2x8192x4x256 : Shape := ⟨4, ![2, 8192, 4, 256]⟩
abbrev S2x8192x4x128 : Shape := ⟨4, ![2, 8192, 4, 128]⟩
abbrev S1x8192x1x128 : Shape := ⟨4, ![1, 8192, 1, 128]⟩
abbrev S16384x11264 : Shape := ⟨2, ![16384, 11264]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x11264, .f32⟩
  | .hbm, ⟨4, _⟩ => ⟨S8192x128, .f32⟩
  | .hbm, ⟨5, _⟩ => ⟨S8192x128, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x11264, .f32⟩
  | .hbm, ⟨42, _⟩ => ⟨S2x8192x3072, .f32⟩
  | .hbm, ⟨43, _⟩ => ⟨S2x8192x1024, .f32⟩
  | .hbm, ⟨44, _⟩ => ⟨S2x8192x1024, .f32⟩
  | .hbm, ⟨45, _⟩ => ⟨S2x8192x6144, .f32⟩
  | .hbm, ⟨46, _⟩ => ⟨S2x8192x4x256, .f32⟩
  | .hbm, ⟨47, _⟩ => ⟨S2x8192x4x128, .f32⟩
  | .hbm, ⟨48, _⟩ => ⟨S2x8192x4x128, .f32⟩
  | .hbm, ⟨49, _⟩ => ⟨S1x8192x1x128, .f32⟩
  | .hbm, ⟨50, _⟩ => ⟨S1x8192x1x128, .f32⟩
  | .hbm, ⟨51, _⟩ => ⟨S2x8192x4x128, .f32⟩
  | .hbm, ⟨52, _⟩ => ⟨S2x8192x4x128, .f32⟩
  | .hbm, ⟨53, _⟩ => ⟨S2x8192x4x128, .f32⟩
  | .hbm, ⟨54, _⟩ => ⟨S2x8192x4x128, .f32⟩
  | .hbm, ⟨55, _⟩ => ⟨S2x8192x4x128, .f32⟩
  | .hbm, ⟨56, _⟩ => ⟨S2x8192x4x128, .f32⟩
  | .hbm, ⟨57, _⟩ => ⟨S2x8192x4x128, .f32⟩
  | .hbm, ⟨58, _⟩ => ⟨S2x8192x4x128, .f32⟩
  | .hbm, ⟨59, _⟩ => ⟨S2x8192x4x128, .f32⟩
  | .hbm, ⟨60, _⟩ => ⟨S2x8192x4x128, .f32⟩
  | .hbm, ⟨61, _⟩ => ⟨S2x8192x4x256, .f32⟩
  | .hbm, ⟨62, _⟩ => ⟨S2x8192x1024, .f32⟩
  | .hbm, ⟨63, _⟩ => ⟨S2x8192x4x256, .f32⟩
  | .hbm, ⟨64, _⟩ => ⟨S2x8192x4x128, .f32⟩
  | .hbm, ⟨65, _⟩ => ⟨S2x8192x4x128, .f32⟩
  | .hbm, ⟨66, _⟩ => ⟨S1x8192x1x128, .f32⟩
  | .hbm, ⟨67, _⟩ => ⟨S1x8192x1x128, .f32⟩
  | .hbm, ⟨68, _⟩ => ⟨S2x8192x4x128, .f32⟩
  | .hbm, ⟨69, _⟩ => ⟨S2x8192x4x128, .f32⟩
  | .hbm, ⟨70, _⟩ => ⟨S2x8192x4x128, .f32⟩
  | .hbm, ⟨71, _⟩ => ⟨S2x8192x4x128, .f32⟩
  | .hbm, ⟨72, _⟩ => ⟨S2x8192x4x128, .f32⟩
  | .hbm, ⟨73, _⟩ => ⟨S2x8192x4x128, .f32⟩
  | .hbm, ⟨74, _⟩ => ⟨S2x8192x4x128, .f32⟩
  | .hbm, ⟨75, _⟩ => ⟨S2x8192x4x128, .f32⟩
  | .hbm, ⟨76, _⟩ => ⟨S2x8192x4x128, .f32⟩
  | .hbm, ⟨77, _⟩ => ⟨S2x8192x4x128, .f32⟩
  | .hbm, ⟨78, _⟩ => ⟨S2x8192x4x256, .f32⟩
  | .hbm, ⟨79, _⟩ => ⟨S2x8192x1024, .f32⟩
  | .hbm, ⟨80, _⟩ => ⟨S_, .f32⟩
  | .hbm, ⟨81, _⟩ => ⟨S2x8192x1024, .f32⟩
  | .hbm, ⟨82, _⟩ => ⟨S2x8192x1024, .f32⟩
  | .hbm, ⟨83, _⟩ => ⟨S2x8192x11264, .f32⟩
  | .hbm, ⟨84, _⟩ => ⟨S16384x11264, .f32⟩
  | .hbm, ⟨85, _⟩ => ⟨S16384x11264, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_3 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩

abbrev nD : Nat := 1
abbrev τ : Topo := Topo.v7x

variable {F : FTy → Type} [FloatOps F]
-- ==== MergeKernel.lean ====
abbrev S2x8192x1024 : Shape := ⟨3, ![2, 8192, 1024]⟩
abbrev S2x6144 : Shape := ⟨2, ![2, 6144]⟩
abbrev S2x8192x2048 : Shape := ⟨3, ![2, 8192, 2048]⟩
abbrev S2x8192x11264 : Shape := ⟨3, ![2, 8192, 11264]⟩
abbrev S2048 : Shape := ⟨1, ![2048]⟩
abbrev S1024x1024 : Shape := ⟨2, ![1024, 1024]⟩
abbrev S2048x1024 : Shape := ⟨2, ![2048, 1024]⟩
abbrev S1024 : Shape := ⟨1, ![1024]⟩
abbrev S2x1024 : Shape := ⟨2, ![2, 1024]⟩
abbrev S2x1x1024 : Shape := ⟨3, ![2, 1, 1024]⟩
abbrev S16384x1024 : Shape := ⟨2, ![16384, 1024]⟩
abbrev S16384x2048 : Shape := ⟨2, ![16384, 2048]⟩
abbrev S16384x11264 : Shape := ⟨2, ![16384, 11264]⟩
abbrev S1x1024 : Shape := ⟨2, ![1, 1024]⟩
abbrev S1x2048 : Shape := ⟨2, ![1, 2048]⟩
abbrev S512x1024 : Shape := ⟨2, ![512, 1024]⟩
abbrev S512x2048 : Shape := ⟨2, ![512, 2048]⟩
abbrev S1x1x1024 : Shape := ⟨3, ![1, 1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S256x2048 : Shape := ⟨2, ![256, 2048]⟩

abbrev nBuf : Space → Nat
  | .hbm => 32
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S2x8192x1024, .bf16⟩
  | .hbm, ⟨3, _⟩ => ⟨S2x8192x2048, .bf16⟩
  | .hbm, ⟨4, _⟩ => ⟨S2x8192x11264, .bf16⟩
  | .hbm, ⟨5, _⟩ => ⟨S2048, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S16384x1024, .f32⟩
  | .hbm, ⟨23, _⟩ => ⟨S16384x1024, .bf16⟩
  | .hbm, ⟨24, _⟩ => ⟨S16384x2048, .bf16⟩
  | .hbm, ⟨25, _⟩ => ⟨S16384x11264, .bf16⟩
  | .hbm, ⟨26, _⟩ => ⟨S1024x1024, .bf16⟩
  | .hbm, ⟨27, _⟩ => ⟨S2048x1024, .bf16⟩
  | .hbm, ⟨28, _⟩ => ⟨S1024x1024, .bf16⟩
  | .hbm, ⟨29, _⟩ => ⟨S1x1024, .f32⟩
  | .hbm, ⟨30, _⟩ => ⟨S1x2048, .f32⟩
  | .hbm, ⟨31, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x2048, .f32⟩
  | .local _ .vmem, ⟨15, _⟩ => ⟨S1024x1024, .bf16⟩
  | .local _ .vmem, ⟨16, _⟩ => ⟨S2048x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1x1024, .f32⟩
  | .local _ .vmem, ⟨20, _⟩ => ⟨S1x1x1024, .f32⟩
  | .local _ .vmem, ⟨21, _⟩ => ⟨S512x1024, .f32⟩
  | .local _ .vmem, ⟨22, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S2x8192x1024 : Shape := ⟨3, ![2, 8192, 1024]⟩
abbrev S2x6144 : Shape := ⟨2, ![2, 6144]⟩
abbrev S2x8192x2048 : Shape := ⟨3, ![2, 8192, 2048]⟩
abbrev S2x8192x11264 : Shape := ⟨3, ![2, 8192, 11264]⟩
abbrev S2048 : Shape := ⟨1, ![2048]⟩
abbrev S1024x1024 : Shape := ⟨2, ![1024, 1024]⟩
abbrev S2048x1024 : Shape := ⟨2, ![2048, 1024]⟩
abbrev S1024 : Shape := ⟨1, ![1024]⟩
abbrev S2x1024 : Shape := ⟨2, ![2, 1024]⟩
abbrev S2x1x1024 : Shape := ⟨3, ![2, 1, 1024]⟩
abbrev S2x8192x4x512 : Shape := ⟨4, ![2, 8192, 4, 512]⟩
abbrev S_ : Shape := ⟨0, ![]⟩
abbrev S2x8192x4 : Shape := ⟨3, ![2, 8192, 4]⟩
abbrev S2x8192x4x1 : Shape := ⟨4, ![2, 8192, 4, 1]⟩
abbrev S1x1x2048 : Shape := ⟨3, ![1, 1, 2048]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S2x8192x1024, .bf16⟩
  | .hbm, ⟨3, _⟩ => ⟨S2x8192x2048, .bf16⟩
  | .hbm, ⟨4, _⟩ => ⟨S2x8192x11264, .bf16⟩
  | .hbm, ⟨5, _⟩ => ⟨S2048, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x8192x1024, .f32⟩
  | .hbm, ⟨23, _⟩ => ⟨S2x8192x2048, .f32⟩
  | .hbm, ⟨24, _⟩ => ⟨S2x8192x11264, .f32⟩
  | .hbm, ⟨25, _⟩ => ⟨S2x8192x2048, .f32⟩
  | .hbm, ⟨26, _⟩ => ⟨S2x8192x1024, .f32⟩
  | .hbm, ⟨27, _⟩ => ⟨S2x8192x1024, .f32⟩
  | .hbm, ⟨28, _⟩ => ⟨S2x8192x4x512, .f32⟩
  | .hbm, ⟨29, _⟩ => ⟨S_, .f32⟩
  | .hbm, ⟨30, _⟩ => ⟨S2x8192x4, .f32⟩
  | .hbm, ⟨31, _⟩ => ⟨S2x8192x4x1, .f32⟩
  | .hbm, ⟨32, _⟩ => ⟨S_, .f32⟩
  | .hbm, ⟨33, _⟩ => ⟨S2x8192x4x1, .f32⟩
  | .hbm, ⟨34, _⟩ => ⟨S2x8192x4x1, .f32⟩
  | .hbm, ⟨35, _⟩ => ⟨S2x8192x4x512, .f32⟩
  | .hbm, ⟨36, _⟩ => ⟨S2x8192x4x512, .f32⟩
  | .hbm, ⟨37, _⟩ => ⟨S2x8192x4x512, .f32⟩
  | .hbm, ⟨38, _⟩ => ⟨S_, .f32⟩
  | .hbm, ⟨39, _⟩ => ⟨S2x8192x4, .f32⟩
  | .hbm, ⟨40, _⟩ => ⟨S2x8192x4x1, .f32⟩
  | .hbm, ⟨41, _⟩ => ⟨S_, .f32⟩
  | .hbm, ⟨42, _⟩ => ⟨S2x8192x4x1, .f32⟩
  | .hbm, ⟨43, _⟩ => ⟨S2x8192x4x1, .f32⟩
  | .hbm, ⟨44, _⟩ => ⟨S2x8192x4x512, .f32⟩
  | .hbm, ⟨45, _⟩ => ⟨S2x8192x4x512, .f32⟩
  | .hbm, ⟨46, _⟩ => ⟨S_, .f32⟩
  | .hbm, ⟨47, _⟩ => ⟨S2x8192x4x1, .f32⟩
  | .hbm, ⟨48, _⟩ => ⟨S2x8192x4x1, .f32⟩
  | .hbm, ⟨49, _⟩ => ⟨S2x8192x4x1, .f32⟩
  | .hbm, ⟨50, _⟩ => ⟨S2x8192x4x512, .f32⟩
  | .hbm, ⟨51, _⟩ => ⟨S2x8192x4x512, .f32⟩
  | .hbm, ⟨52, _⟩ => ⟨S2x8192x2048, .f32⟩
  | .hbm, ⟨53, _⟩ => ⟨S1x1x2048, .f32⟩
  | .hbm, ⟨54, _⟩ => ⟨S2x8192x2048, .f32⟩
  | .hbm, ⟨55, _⟩ => ⟨S2x8192x2048, .f32⟩
  | .hbm, ⟨56, _⟩ => ⟨S2x8192x2048, .f32⟩
  | .hbm, ⟨57, _⟩ => ⟨S2x8192x2048, .f32⟩
  | .hbm, ⟨58, _⟩ => ⟨S_, .f32⟩
  | .hbm, ⟨59, _⟩ => ⟨S2x8192x2048, .f32⟩
  | .hbm, ⟨60, _⟩ => ⟨S2x8192x2048, .f32⟩
  | .hbm, ⟨61, _⟩ => ⟨S_, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S2x8192x2048, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x8192x1024, .f32⟩
  | .hbm, ⟨70, _⟩ => ⟨S2x8192x1024, .f32⟩
  | .hbm, ⟨71, _⟩ => ⟨S_, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S2x8192x1024, .f32⟩
  | .hbm, ⟨78, _⟩ => ⟨S_, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192, .f32⟩
  | .hbm, ⟨91, _⟩ => ⟨S2x8192x1, .f32⟩
  | .hbm, ⟨92, _⟩ => ⟨S_, .f32⟩
  | .hbm, ⟨93, _⟩ => ⟨S2x8192x1, .f32⟩
  | .hbm, ⟨94, _⟩ => ⟨S2x8192x1, .f32⟩
  | .hbm, ⟨95, _⟩ => ⟨S_, .f32⟩
  | .hbm, ⟨96, _⟩ => ⟨S2x8192x1, .f32⟩
  | .hbm, ⟨97, _⟩ => ⟨S2x8192x1, .f32⟩
  | .hbm, ⟨98, _⟩ => ⟨S2x8192x1, .f32⟩
  | .hbm, ⟨99, _⟩ => ⟨S2x8192x1024, .f32⟩
  | .hbm, ⟨100, _⟩ => ⟨S2x8192x1024, .f32⟩
  | .hbm, ⟨101, _⟩ => ⟨S1x1x1024, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== ModKernel.lean ====
abbrev S2x1024 : Shape := ⟨2, ![2, 1024]⟩
abbrev S1x1024 : Shape := ⟨2, ![1, 1024]⟩
abbrev S1024x6144 : Shape := ⟨2, ![1024, 6144]⟩
abbrev S6144 : Shape := ⟨1, ![6144]⟩
abbrev S3x1024 : Shape := ⟨2, ![3, 1024]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S1024x6144, .f32⟩
  | .hbm, ⟨3, _⟩ => ⟨S6144, .f32⟩
  | .hbm, ⟨4, _⟩ => ⟨S3x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S2x1024 : Shape := ⟨2, ![2, 1024]⟩
abbrev S1x1024 : Shape := ⟨2, ![1, 1024]⟩
abbrev S1024x6144 : Shape := ⟨2, ![1024, 6144]⟩
abbrev S6144 : Shape := ⟨1, ![6144]⟩
abbrev S3x1024 : Shape := ⟨2, ![3, 1024]⟩
abbrev S_ : Shape := ⟨0, ![]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S1024x6144, .f32⟩
  | .hbm, ⟨3, _⟩ => ⟨S6144, .f32⟩
  | .hbm, ⟨4, _⟩ => ⟨S3x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_call1_cst : Ref sig .tc := ⟨.hbm, 10, rfl⟩
abbrev main_call1_v2 : Ref sig .tc := ⟨.hbm, 11, rfl⟩
abbrev main_call1_v3 : Ref sig .tc := ⟨.hbm, 12, rfl⟩
abbrev main_call1_cst_0 : Ref sig .tc := ⟨.hbm, 13, rfl⟩
abbrev main_call1_v4 : Ref sig .tc := ⟨.hbm, 14, rfl⟩
abbrev main_call1_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩

abbrev nD : Nat := 1
abbrev τ : Topo := Topo.v7x

variable {F : FTy → Type} [FloatOps F]
-- ==== RopeKernel.lean ====
abbrev S128 : Shape := ⟨1, ![128]⟩
abbrev S_ : Shape := ⟨0, ![]⟩
abbrev S1x128 : Shape := ⟨2, ![1, 128]⟩
abbrev S16384x128 : Shape := ⟨2, ![16384, 128]⟩
abbrev S2048x128 : Shape := ⟨2, ![2048, 128]⟩
abbrev S128x128 : Shape := ⟨2, ![128, 128]⟩
abbrev S16x128 : Shape := ⟨2, ![16, 128]⟩

abbrev nBuf : Space → Nat
  | .hbm => 13
  | .vmem => 5
  | .smem => 0
  | _ => 0

abbrev bufTy : (tb : Table) → Fin (tcTables nBuf tb) → BufTy
  | .hbm, ⟨0, _⟩ => ⟨S128, .f32⟩
  | .hbm, ⟨1, _⟩ => ⟨S_, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S16384x128, .f32⟩
  | .hbm, ⟨12, _⟩ => ⟨S16384x128, .f32⟩
  | .local _ .vmem, ⟨0, _⟩ => ⟨S1x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_v0 : Ref sig .tc := ⟨.hbm, 0, rfl⟩
abbrev main_cst : Ref sig .tc := ⟨.hbm, 1, rfl⟩
abbrev main_v1 : Ref sig .tc := ⟨.hbm, 2, rfl⟩
abbrev main_v2 : Ref sig .tc := ⟨.hbm, 3, rfl⟩
abbrev main_cst_0 : Ref sig .tc := ⟨.hbm, 4, rfl⟩
abbrev main_v3 : Ref sig .tc := ⟨.hbm, 5, rfl⟩
abbrev main_v4 : Ref sig .tc := ⟨.hbm, 6, rfl⟩
abbrev main_cst_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RopeReferenceIdeal.lean ====
abbrev S128 : Shape := ⟨1, ![128]⟩
abbrev S_ : Shape := ⟨0, ![]⟩
abbrev S16384 : Shape := ⟨1, ![16384]⟩
abbrev S16384x1 : Shape := ⟨2, ![16384, 1]⟩
abbrev S1x128 : Shape := ⟨2, ![1, 128]⟩
abbrev S16384x128 : Shape := ⟨2, ![16384, 128]⟩

abbrev nBuf : Space → Nat
  | .hbm => 18
  | .vmem => 0
  | .smem => 0
  | _ => 0

abbrev bufTy : (tb : Table) → Fin (tcTables nBuf tb) → BufTy
  | .hbm, ⟨0, _⟩ => ⟨S128, .f32⟩
  | .hbm, ⟨1, _⟩ => ⟨S_, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S16384, .f32⟩
  | .hbm, ⟨11, _⟩ => ⟨S16384x1, .f32⟩
  | .hbm, ⟨12, _⟩ => ⟨S1x128, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_cst : Ref sig .tc := ⟨.hbm, 1, rfl⟩
abbrev main_v1 : Ref sig .tc := ⟨.hbm, 2, rfl⟩
abbrev main_v2 : Ref sig .tc := ⟨.hbm, 3, rfl⟩
abbrev main_cst_0 : Ref sig .tc := ⟨.hbm, 4, rfl⟩
abbrev main_v3 : Ref sig .tc := ⟨.hbm, 5, rfl⟩
abbrev main_v4 : Ref sig .tc := ⟨.hbm, 6, rfl⟩
abbrev main_cst_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== RetKernel.lean ====
abbrev S2x8192x11264 : Shape := ⟨3, ![2, 8192, 11264]⟩
abbrev S2x4 : Shape := ⟨2, ![2, 4]⟩
abbrev S2x4x1x1 : Shape := ⟨4, ![2, 4, 1, 1]⟩
abbrev S2x8192x2048 : Shape := ⟨3, ![2, 8192, 2048]⟩
abbrev S2x1x1x1 : Shape := ⟨4, ![2, 1, 1, 1]⟩
abbrev S1x4096x256 : Shape := ⟨3, ![1, 4096, 256]⟩
abbrev S1x4096x512 : Shape := ⟨3, ![1, 4096, 512]⟩
abbrev S256x512 : Shape := ⟨2, ![256, 512]⟩
abbrev S8192x512 : Shape := ⟨2, ![8192, 512]⟩
abbrev S1x1x1x1 : Shape := ⟨4, ![1, 1, 1, 1]⟩
abbrev S1x1 : Shape := ⟨2, ![1, 1]⟩
abbrev S256x256 : Shape := ⟨2, ![256, 256]⟩
abbrev S256x1 : Shape := ⟨2, ![256, 1]⟩
abbrev S1x256x256 : Shape := ⟨3, ![1, 256, 256]⟩
abbrev S1x256x512 : Shape := ⟨3, ![1, 256, 512]⟩

abbrev nBuf : Space → Nat
  | .hbm => 4
  | .vmem => 12
  | .smem => 0
  | _ => 0

abbrev bufTy : (tb : Table) → Fin (tcTables nBuf tb) → BufTy
  | .hbm, ⟨0, _⟩ => ⟨S2x8192x11264, .bf16⟩
  | .hbm, ⟨1, _⟩ => ⟨S2x4, .f32⟩
  | .hbm, ⟨2, _⟩ => ⟨S2x4x1x1, .f32⟩
  | .hbm, ⟨3, _⟩ => ⟨S2x8192x2048, .bf16⟩
  | .local _ .vmem, ⟨0, _⟩ => ⟨S2x1x1x1, .f32⟩
  | .local _ .vmem, ⟨1, _⟩ => ⟨S2x1x1x1, .f32⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S256x512, .f32⟩
  | .local _ .vmem, ⟨11, _⟩ => ⟨S8192x512, .bf16⟩
  | _, _ => ⟨S2x8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c2_i32_1 : BitVec 32 := 2#32
  let v5 : BitVec 1 := Scalar.cmpi .slt arg2 c2_i32_1
  let v6 : BitVec 32 := Scalar.extui v5
  let c0_i32_2 : BitVec 32 := 0#32
  let v7 : BitVec 1 := Scalar.cmpi .ne v6 c0_i32_2
  v7

def k0_mult1 (i : grid0.Coords) : BitVec 32 :=
  let arg2 : BitVec 32 := BitVec.ofNat 32 (i 2).val
  let c4096_i32 : BitVec 32 := 4096#32
  let v76 : BitVec 32 := Scalar.muli arg2 c4096_i32
  let c0_i32_32 : BitVec 32 := 0#32
  let v77 : BitVec 32 := Scalar.addi v76 c0_i32_32
  v77
def k0_off1 (i : grid0.Coords) (c0_i32_32 : BitVec 32) : Fin 2 → Nat :=
  let arg2 : BitVec 32 := BitVec.ofNat 32 (i 2).val
  let c4096_i32 : BitVec 32 := 4096#32
  let v76 : BitVec 32 := Scalar.muli arg2 c4096_i32
  let v77 : BitVec 32 := Scalar.addi v76 c0_i32_32
  let v78 : BitVec 32 := v77
  let v80 : Index := Scalar.indexCast v78
  let c0_33 : Index := 0#32
  ![v80.toNat, 0]
def k0_mult2 (i : grid0.Coords) : BitVec 32 :=
  let arg2 : BitVec 32 := BitVec.ofNat 32 (i 2).val
  let c4096_i32_50 : BitVec 32 := 4096#32
  let v111 : BitVec 32 := Scalar.muli arg2 c4096_i32_50
  let c256_i32 : BitVec 32 := 256#32
  let v112 : BitVec 32 := Scalar.addi v111 c256_i32
  v112
def k0_mult3 (i : grid0.Coords) : BitVec 32 :=
  let arg2 : BitVec 32 := BitVec.ofNat 32 (i 2).val
  let c4096_i32_68 : BitVec 32 := 4096#32
  let v146 : BitVec 32 := Scalar.muli arg2 c4096_i32_68
  let c512_i32 : BitVec 32 := 512#32
  let v147 : BitVec 32 := Scalar.addi v146 c512_i32
  v147
def k0_mult4 (i : grid0.Coords) : BitVec 32 :=
  let arg2 : BitVec 32 := BitVec.ofNat 32 (i 2).val
  let c4096_i32_86 : BitVec 32 := 4096#32
  let v181 : BitVec 32 := Scalar.muli arg2 c4096_i32_86
  let c768_i32 : BitVec 32 := 768#32
  let v182 : BitVec 32 := Scalar.addi v181 c768_i32
  v182
def k0_mult5 (i : grid0.Coords) : BitVec 32 :=
  let arg2 : BitVec 32 := BitVec.ofNat 32 (i 2).val
  let c4096_i32_104 : BitVec 32 := 4096#32
  let v216 : BitVec 32 := Scalar.muli arg2 c4096_i32_104
  let c1024_i32 : BitVec 32 := 1024#32
  let v217 : BitVec 32 := Scalar.addi v216 c1024_i32
  v217
def k0_mult6 (i : grid0.Coords) : BitVec 32 :=
  let arg2 : BitVec 32 := BitVec.ofNat 32 (i 2).val
  let c4096_i32_122 : BitVec 32 := 4096#32
  let v251 : BitVec 32 := Scalar.muli arg2 c4096_i32_122
  let c1280_i32 : BitVec 32 := 1280#32
  let v252 : BitVec 32 := Scalar.addi v251 c1280_i32
  v252
def k0_mult7 (i : grid0.Coords) : BitVec 32 :=
  let arg2 : BitVec 32 := BitVec.ofNat 32 (i 2).val
  let c4096_i32_140 : BitVec 32 := 4096#32
  let v286 : BitVec 32 := Scalar.muli arg2 c4096_i32_140
  let c1536_i32 : BitVec 32 := 1536#32
  let v287 : BitVec 32 := Scalar.addi v286 c1536_i32
  v287
def k0_mult8 (i : grid0.Coords) : BitVec 32 :=
  let arg2 : BitVec 32 := BitVec.ofNat 32 (i 2).val
  let c4096_i32_158 : BitVec 32 := 4096#32
  let v321 : BitVec 32 := Scalar.muli arg2 c4096_i32_158
  let c1792_i32 : BitVec 32 := 1792#32
  let v322 : BitVec 32 := Scalar.addi v321 c1792_i32
  v322
def k0_mult9 (i : grid0.Coords) : BitVec 32 :=
  let arg2 : BitVec 32 := BitVec.ofNat 32 (i 2).val
  let c4096_i32_176 : BitVec 32 := 4096#32
  let v356 : BitVec 32 := Scalar.muli arg2 c4096_i32_176
  let c2048_i32 : BitVec 32 := 2048#32
  let v357 : BitVec 32 := Scalar.addi v356 c2048_i32
  v357
def k0_mult10 (i : grid0.Coords) : BitVec 32 :=
  let arg2 : BitVec 32 := BitVec.ofNat 32 (i 2).val
  let c4096_i32_194 : BitVec 32 := 4096#32
  let v391 : BitVec 32 := Scalar.muli arg2 c4096_i32_194
  let c2304_i32 : BitVec 32 := 2304#32
  let v392 : BitVec 32 := Scalar.addi v391 c2304_i32
  v392
def k0_mult11 (i : grid0.Coords) : BitVec 32 :=
  let arg2 : BitVec 32 := BitVec.ofNat 32 (i 2).val
  let c4096_i32_212 : BitVec 32 := 4096#32
  let v426 : BitVec 32 := Scalar.muli arg2 c4096_i32_212
  let c2560_i32 : BitVec 32 := 2560#32
  let v427 : BitVec 32 := Scalar.addi v426 c2560_i32
  v427
def k0_mult12 (i : grid0.Coords) : BitVec 32 :=
  let arg2 : BitVec 32 := BitVec.ofNat 32 (i 2).val
  let c4096_i32_230 : BitVec 32 := 4096#32
  let v461 : BitVec 32 := Scalar.muli arg2 c4096_i32_230
  let c2816_i32 : BitVec 32 := 2816#32
  let v462 : BitVec 32 := Scalar.addi v461 c2816_i32
  v462
def k0_mult13 (i : grid0.Coords) : BitVec 32 :=
  let arg2 : BitVec 32 := BitVec.ofNat 32 (i 2).val
  let c4096_i32_248 : BitVec 32 := 4096#32
  let v496 : BitVec 32 := Scalar.muli arg2 c4096_i32_248
  let c3072_i32 : BitVec 32 := 3072#32
  let v497 : BitVec 32 := Scalar.addi v496 c3072_i32
  v497
def k0_mult14 (i : grid0.Coords) : BitVec 32 :=
  let arg2 : BitVec 32 := BitVec.ofNat 32 (i 2).val
  let c4096_i32_266 : BitVec 32 := 4096#32
  let v531 : BitVec 32 := Scalar.muli arg2 c4096_i32_266
  let c3328_i32 : BitVec 32 := 3328#32
  let v532 : BitVec 32 := Scalar.addi v531 c3328_i32
  v532
def k0_mult15 (i : grid0.Coords) : BitVec 32 :=
  let arg2 : BitVec 32 := BitVec.ofNat 32 (i 2).val
  let c4096_i32_284 : BitVec 32 := 4096#32
  let v566 : BitVec 32 := Scalar.muli arg2 c4096_i32_284
  let c3584_i32 : BitVec 32 := 3584#32
  let v567 : BitVec 32 := Scalar.addi v566 c3584_i32
  v567
def k0_mult16 (i : grid0.Coords) : BitVec 32 :=
  let arg2 : BitVec 32 := BitVec.ofNat 32 (i 2).val
  let c4096_i32_302 : BitVec 32 := 4096#32
  let v601 : BitVec 32 := Scalar.muli arg2 c4096_i32_302
  let c3840_i32 : BitVec 32 := 3840#32
  let v602 : BitVec 32 := Scalar.addi v601 c3840_i32
  v602
def k0_cond3 (i : grid0.Coords) : BitVec 1 :=
  let arg2 : BitVec 32 := BitVec.ofNat 32 (i 2).val
  let c2_i32_3 : BitVec 32 := 2#32
  let v8 : BitVec 1 := Scalar.cmpi .sge arg2 c2_i32_3
  let v9 : BitVec 32 := Scalar.extui v8
  let c0_i32_4 : BitVec 32 := 0#32
  let v10 : BitVec 1 := Scalar.cmpi .ne v9 c0_i32_4
  v10

def k0_mult17 (i : grid0.Coords) : BitVec 32 :=
  let c3_i32 : BitVec 32 := 3#32
  let arg2 : BitVec 32 := BitVec.ofNat 32 (i 2).val
  let v11 : BitVec 32 := Scalar.subi c3_i32 arg2
  let c4096_i32 : BitVec 32 := 4096#32
  let v75 : BitVec 32 := Scalar.muli v11 c4096_i32
  let c3840_i32 : BitVec 32 := 3840#32
  let v76 : BitVec 32 := Scalar.addi v75 c3840_i32
  v76
def k0_off2 (i : grid0.Coords) (c3840_i32 : BitVec 32) : Fin 2 → Nat :=
  let c3_i32 : BitVec 32 := 3#32
  let arg2 : BitVec 32 := BitVec.ofNat 32 (i 2).val
  let v11 : BitVec 32 := Scalar.subi c3_i32 arg2
  let c4096_i32 : BitVec 32 := 4096#32
  let v75 : BitVec 32 := Scalar.muli v11 c4096_i32
  let v76 : BitVec 32 := Scalar.addi v75 c3840_i32
  let v77 : BitVec 32 := v76
  let v78 : Index := Scalar.indexCast v77
  let c0_29 : Index := 0#32
  ![v78.toNat, 0]
def k0_mult18 (i : grid0.Coords) : BitVec 32 :=
  let c3_i32 : BitVec 32 := 3#32
  let arg2 : BitVec 32 := BitVec.ofNat 32 (i 2).val
  let v11 : BitVec 32 := Scalar.subi c3_i32 arg2
  let c4096_i32_49 : BitVec 32 := 4096#32
  let v113 : BitVec 32 := Scalar.muli v11 c4096_i32_49
  let c3584_i32 : BitVec 32 := 3584#32
  let v114 : BitVec 32 := Scalar.addi v113 c3584_i32
  v114
def k0_mult19 (i : grid0.Coords) : BitVec 32 :=
  let c3_i32 : BitVec 32 := 3#32
  let arg2 : BitVec 32 := BitVec.ofNat 32 (i 2).val
  let v11 : BitVec 32 := Scalar.subi c3_i32 arg2
  let c4096_i32_70 : BitVec 32 := 4096#32
  let v151 : BitVec 32 := Scalar.muli v11 c4096_i32_70
  let c3328_i32 : BitVec 32 := 3328#32
  let v152 : BitVec 32 := Scalar.addi v151 c3328_i32
  v152
def k0_mult20 (i : grid0.Coords) : BitVec 32 :=
  let c3_i32 : BitVec 32 := 3#32
  let arg2 : BitVec 32 := BitVec.ofNat 32 (i 2).val
  let v11 : BitVec 32 := Scalar.subi c3_i32 arg2
  let c4096_i32_91 : BitVec 32 := 4096#32
  let v189 : BitVec 32 := Scalar.muli v11 c4096_i32_91
  let c3072_i32 : BitVec 32 := 3072#32
  let v190 : BitVec 32 := Scalar.addi v189 c3072_i32
  v190
def k0_mult21 (i : grid0.Coords) : BitVec 32 :=
  let c3_i32 : BitVec 32 := 3#32
  let arg2 : BitVec 32 := BitVec.ofNat 32 (i 2).val
  let v11 : BitVec 32 := Scalar.subi c3_i32 arg2
  let c4096_i32_112 : BitVec 32 := 4096#32
  let v227 : BitVec 32 := Scalar.muli v11 c4096_i32_112
  let c2816_i32 : BitVec 32 := 2816#32
  let v228 : BitVec 32 := Scalar.addi v227 c2816_i32
  v228
def k0_mult22 (i : grid0.Coords) : BitVec 32 :=
  let c3_i32 : BitVec 32 := 3#32
  let arg2 : BitVec 32 := BitVec.ofNat 32 (i 2).val
  let v11 : BitVec 32 := Scalar.subi c3_i32 arg2
  let c4096_i32_133 : BitVec 32 := 4096#32
  let v265 : BitVec 32 := Scalar.muli v11 c4096_i32_133
  let c2560_i32 : BitVec 32 := 2560#32
  let v266 : BitVec 32 := Scalar.addi v265 c2560_i32
  v266
def k0_mult23 (i : grid0.Coords) : BitVec 32 :=
  let c3_i32 : BitVec 32 := 3#32
  let arg2 : BitVec 32 := BitVec.ofNat 32 (i 2).val
  let v11 : BitVec 32 := Scalar.subi c3_i32 arg2
  let c4096_i32_154 : BitVec 32 := 4096#32
  let v303 : BitVec 32 := Scalar.muli v11 c4096_i32_154
  let c2304_i32 : BitVec 32 := 2304#32
  let v304 : BitVec 32 := Scalar.addi v303 c2304_i32
  v304
def k0_mult24 (i : grid0.Coords) : BitVec 32 :=
  let c3_i32 : BitVec 32 := 3#32
  let arg2 : BitVec 32 := BitVec.ofNat 32 (i 2).val
  let v11 : BitVec 32 := Scalar.subi c3_i32 arg2
  let c4096_i32_175 : BitVec 32 := 4096#32
  let v341 : BitVec 32 := Scalar.muli v11 c4096_i32_175
  let c2048_i32 : BitVec 32 := 2048#32
  let v342 : BitVec 32 := Scalar.addi v341 c2048_i32
  v342
def k0_mult25 (i : grid0.Coords) : BitVec 32 :=
  let c3_i32 : BitVec 32 := 3#32
  let arg2 : BitVec 32 := BitVec.ofNat 32 (i 2).val
  let v11 : BitVec 32 := Scalar.subi c3_i32 arg2
  let c4096_i32_196 : BitVec 32 := 4096#32
  let v379 : BitVec 32 := Scalar.muli v11 c4096_i32_196
  let c1792_i32 : BitVec 32 := 1792#32
  let v380 : BitVec 32 := Scalar.addi v379 c1792_i32
  v380
def k0_mult26 (i : grid0.Coords) : BitVec 32 :=
  let c3_i32 : BitVec 32 := 3#32
  let arg2 : BitVec 32 := BitVec.ofNat 32 (i 2).val
  let v11 : BitVec 32 := Scalar.subi c3_i32 arg2
  let c4096_i32_217 : BitVec 32 := 4096#32
  let v417 : BitVec 32 := Scalar.muli v11 c4096_i32_217
  let c1536_i32 : BitVec 32 := 1536#32
  let v418 : BitVec 32 := Scalar.addi v417 c1536_i32
  v418
def k0_mult27 (i : grid0.Coords) : BitVec 32 :=
  let c3_i32 : BitVec 32 := 3#32
  let arg2 : BitVec 32 := BitVec.ofNat 32 (i 2).val
  let v11 : BitVec 32 := Scalar.subi c3_i32 arg2
  let c4096_i32_238 : BitVec 32 := 4096#32
  let v455 : BitVec 32 := Scalar.muli v11 c4096_i32_238
  let c1280_i32 : BitVec 32 := 1280#32
  let v456 : BitVec 32 := Scalar.addi v455 c1280_i32
  v456
def k0_mult28 (i : grid0.Coords) : BitVec 32 :=
  let c3_i32 : BitVec 32 := 3#32
  let arg2 : BitVec 32 := BitVec.ofNat 32 (i 2).val
  let v11 : BitVec 32 := Scalar.subi c3_i32 arg2
  let c4096_i32_259 : BitVec 32 := 4096#32
  let v493 : BitVec 32 := Scalar.muli v11 c4096_i32_259
  let c1024_i32 : BitVec 32 := 1024#32
  let v494 : BitVec 32 := Scalar.addi v493 c1024_i32
  v494
def k0_mult29 (i : grid0.Coords) : BitVec 32 :=
  let c3_i32 : BitVec 32 := 3#32
  let arg2 : BitVec 32 := BitVec.ofNat 32 (i 2).val
  let v11 : BitVec 32 := Scalar.subi c3_i32 arg2
  let c4096_i32_280 : BitVec 32 := 4096#32
  let v531 : BitVec 32 := Scalar.muli v11 c4096_i32_280
  let c768_i32 : BitVec 32 := 768#32
  let v532 : BitVec 32 := Scalar.addi v531 c768_i32
  v532
def k0_mult30 (i : grid0.Coords) : BitVec 32 :=
  let c3_i32 : BitVec 32 := 3#32
  let arg2 : BitVec 32 := BitVec.ofNat 32 (i 2).val
  let v11 : BitVec 32 := Scalar.subi c3_i32 arg2
  let c4096_i32_301 : BitVec 32 := 4096#32
  let v569 : BitVec 32 := Scalar.muli v11 c4096_i32_301
  let c512_i32 : BitVec 32 := 512#32
  let v570 : BitVec 32 := Scalar.addi v569 c512_i32
  v570
def k0_mult31 (i : grid0.Coords) : BitVec 32 :=
  let c3_i32 : BitVec 32 := 3#32
  let arg2 : BitVec 32 := BitVec.ofNat 32 (i 2).val
  let v11 : BitVec 32 := Scalar.subi c3_i32 arg2
  let c4096_i32_322 : BitVec 32 := 4096#32
  let v607 : BitVec 32 := Scalar.muli v11 c4096_i32_322
  let c256_i32 : BitVec 32 := 256#32
  let v608 : BitVec 32 := Scalar.addi v607 c256_i32
  v608
def k0_mult32 (i : grid0.Coords) : BitVec 32 :=
  let c3_i32 : BitVec 32 := 3#32
  let arg2 : BitVec 32 := BitVec.ofNat 32 (i 2).val
  let v11 : BitVec 32 := Scalar.subi c3_i32 arg2
  let c4096_i32_344 : BitVec 32 := 4096#32
  let v645 : BitVec 32 := Scalar.muli v11 c4096_i32_344
  let c0_i32_345 : BitVec 32 := 0#32
  let v646 : BitVec 32 := Scalar.addi v645 c0_i32_345
  v646
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c3_i32 : BitVec 32 := 3#32
  let v1 : BitVec 32 := Scalar.subi c3_i32 arg2
  let v2 : BitVec 32 := Scalar.select v0 arg2 v1
  let c12_i32 : BitVec 32 := 12#32
  let v3 : BitVec 32 := Scalar.addi c12_i32 arg1
  let c0_i32 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c3_i32 : BitVec 32 := 3#32
  let v1 : BitVec 32 := Scalar.subi c3_i32 arg2
  let v2 : BitVec 32 := Scalar.select v0 arg2 v1
  let c16_i32 : BitVec 32 := 16#32
  let v3 : BitVec 32 := Scalar.addi c16_i32 arg1
  let c0_i32 : BitVec 32 := 0#32
  ![arg0.toNat, v2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c3_i32 : BitVec 32 := 3#32
  let v1 : BitVec 32 := Scalar.subi c3_i32 arg2
  let v2 : BitVec 32 := Scalar.select v0 arg2 v1
  let c10_i32 : BitVec 32 := 10#32
  let v3 : BitVec 32 := Scalar.addi c10_i32 arg1
  let c0_i32 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c3_i32 : BitVec 32 := 3#32
  let v1 : BitVec 32 := Scalar.subi c3_i32 arg2
  let c1_i32 : BitVec 32 := 1#32
  let v2 : BitVec 32 := Scalar.select v0 c1_i32 v1
  let c0_i32 : BitVec 32 := 0#32
  ![arg0.toNat, v2.toNat, arg1.toNat]

abbrev stage0_0 : Fin 2 → Memref sig .tc .vmem S2x1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== RetReferenceIdeal.lean ====
abbrev S2x8192x11264 : Shape := ⟨3, ![2, 8192, 11264]⟩
abbrev S2x4 : Shape := ⟨2, ![2, 4]⟩
abbrev S2x8192x1024 : Shape := ⟨3, ![2, 8192, 1024]⟩
abbrev S2x8192x4x256 : Shape := ⟨4, ![2, 8192, 4, 256]⟩
abbrev S2x8192x2048 : Shape := ⟨3, ![2, 8192, 2048]⟩
abbrev S2x8192x4x512 : Shape := ⟨4, ![2, 8192, 4, 512]⟩
abbrev S_ : Shape := ⟨0, ![]⟩
abbrev S2x4x1x1 : Shape := ⟨4, ![2, 4, 1, 1]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x4x1x1 : Shape := ⟨4, ![1, 4, 1, 1]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S2x4x8192x8192 : Shape := ⟨4, ![2, 4, 8192, 8192]⟩
abbrev S1x4x8192x8192 : Shape := ⟨4, ![1, 4, 8192, 8192]⟩
abbrev S2x4x512x8192 : Shape := ⟨4, ![2, 4, 512, 8192]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x11264, .bf16⟩
  | .hbm, ⟨1, _⟩ => ⟨S2x4, .f32⟩
  | .hbm, ⟨2, _⟩ => ⟨S2x8192x11264, .f32⟩
  | .hbm, ⟨3, _⟩ => ⟨S2x8192x1024, .f32⟩
  | .hbm, ⟨4, _⟩ => ⟨S2x8192x4x256, .f32⟩
  | .hbm, ⟨5, _⟩ => ⟨S2x8192x1024, .f32⟩
  | .hbm, ⟨6, _⟩ => ⟨S2x8192x4x256, .f32⟩
  | .hbm, ⟨7, _⟩ => ⟨S2x8192x2048, .f32⟩
  | .hbm, ⟨8, _⟩ => ⟨S2x8192x4x512, .f32⟩
  | .hbm, ⟨9, _⟩ => ⟨S2x4, .f32⟩
  | .hbm, ⟨10, _⟩ => ⟨S_, .f32⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .i1⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S2x4, .f32⟩
  | .hbm, ⟨23, _⟩ => ⟨S2x4, .f32⟩
  | .hbm, ⟨24, _⟩ => ⟨S2x4, .f32⟩
  | .hbm, ⟨25, _⟩ => ⟨S2x4x1x1, .f32⟩
  | .hbm, ⟨26, _⟩ => ⟨S8192, .f32⟩
  | .hbm, ⟨27, _⟩ => ⟨S8192x1, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .i1⟩
  | .hbm, ⟨35, _⟩ => ⟨S1x4x1x1, .f32⟩
  | .hbm, ⟨36, _⟩ => ⟨S4x1x1, .f32⟩
  | .hbm, ⟨37, _⟩ => ⟨S1x8192x8192, .f32⟩
  | .hbm, ⟨38, _⟩ => ⟨S4x8192x8192, .f32⟩
  | .hbm, ⟨39, _⟩ => ⟨S4x8192x8192, .f32⟩
  | .hbm, ⟨40, _⟩ => ⟨S4x8192x8192, .f32⟩
  | .hbm, ⟨41, _⟩ => ⟨S4x8192x8192, .f32⟩
  | .hbm, ⟨42, _⟩ => ⟨S8192x8192, .f32⟩
  | .hbm, ⟨43, _⟩ => ⟨S1x4x1x1, .f32⟩
  | .hbm, ⟨44, _⟩ => ⟨S4x1x1, .f32⟩
  | .hbm, ⟨45, _⟩ => ⟨S1x8192x8192, .f32⟩
  | .hbm, ⟨46, _⟩ => ⟨S4x8192x8192, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S4x8192x8192, .i1⟩
  | .hbm, ⟨51, _⟩ => ⟨S4x8192x8192, .f32⟩
  | .hbm, ⟨52, _⟩ => ⟨S2x4x8192x8192, .f32⟩
  | .hbm, ⟨53, _⟩ => ⟨S1x4x8192x8192, .f32⟩
  | .hbm, ⟨54, _⟩ => ⟨S2x4x8192x8192, .f32⟩
  | .hbm, ⟨55, _⟩ => ⟨S2x4x8192x8192, .f32⟩
  | .hbm, ⟨56, _⟩ => ⟨S2x4x512x8192, .f32⟩
  | .hbm, ⟨57, _⟩ => ⟨S2x8192x4x512, .f32⟩
  | .hbm, ⟨58, _⟩ => ⟨S2x8192x2048, .f32⟩
  | .hbm, ⟨59, _⟩ => ⟨S2x8192x2048, .bf16⟩
  | _, _ => ⟨S2x8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.NaSem.lean ====
module
public import proofs.«01_k».proof.Proof.Gen.KernelIdeal.Frame
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
namespace Cert.KernelIdeal.NA
open Cert.KernelIdeal Cert.KernelIdeal.Gen Cert.KernelIdeal.Gen.kernelRun1_A.sl

/-- A view's rectangle read, three coordinates. -/
theorem rd3 {n0 n1 n2 m0 m1 m2 : Nat} {e : EltTy} (m : Memref sig Kind.tc Space.vmem ⟨3, ![n0, n1, n2]⟩ e) (hm : m.IsWhole)
    (x : Vec Ideal ⟨3, ![n0, n1, n2]⟩ e) (off : Fin 3 → Nat) (h) (a : Fin m0) (b : Fin m1) (c : Fin m2) (o0 o1 o2 : Nat) (ho : off = ![o0, o1, o2])
    (h0 : o0 + a.val < n0) (h1 : o1 + b.val < n1) (h2 : o2 + c.val < n2) :
    View.readAt (Elt Ideal) m.view (Rect.unit (s := ⟨3, ![n0, n1, n2]⟩) off ![m0, m1, m2] h).toLoadRect (hm.unread x) (ix3 a b c)
      = x (ix3 ⟨o0 + a.val, h0⟩ ⟨o1 + b.val, h1⟩ ⟨o2 + c.val, h2⟩) := by
  subst ho
  rw [View.readAt_apply, hm.read_unread]
  congr 1
  funext d
  refine Fin.ext ?_
  match d with
  | ⟨0, _⟩ => exact congrArg (o0 + ·) (Nat.one_mul _)
  | ⟨1, _⟩ => exact congrArg (o1 + ·) (Nat.one_mul _)
  | ⟨2, _⟩ => exact congrArg (o2 + ·) (Nat.one_mul _)

/-- A view's rectangle read, four coordinates. -/
theorem rd4 {n0 n1 n2 n3 m0 m1 m2 m3 : Nat} {e : EltTy} (m : Memref sig Kind.tc Space.vmem ⟨4, ![n0, n1, n2, n3]⟩ e) (hm : m.IsWhole)
    (x : Vec Ideal ⟨4, ![n0, n1, n2, n3]⟩ e) (off : Fin 4 → Nat) (h) (a : Fin m0) (b : Fin m1) (c : Fin m2) (d : Fin m3) (o0 o1 o2 o3 : Nat) (ho : off = ![o0, o1, o2, o3])
    (h0 : o0 + a.val < n0) (h1 : o1 + b.val < n1) (h2 : o2 + c.val < n2) (h3 : o3 + d.val < n3) :
    View.readAt (Elt Ideal) m.view (Rect.unit (s := ⟨4, ![n0, n1, n2, n3]⟩) off ![m0, m1, m2, m3] h).toLoadRect (hm.unread x) (ix4 a b c d)
      = x (ix4 ⟨o0 + a.val, h0⟩ ⟨o1 + b.val, h1⟩ ⟨o2 + c.val, h2⟩ ⟨o3 + d.val, h3⟩) := by
  subst ho
  rw [View.readAt_apply, hm.read_unread]
  congr 1
  funext d
  refine Fin.ext ?_
  match d with
  | ⟨0, _⟩ => exact congrArg (o0 + ·) (Nat.one_mul _)
  | ⟨1, _⟩ => exact congrArg (o1 + ·) (Nat.one_mul _)
  | ⟨2, _⟩ => exact congrArg (o2 + ·) (Nat.one_mul _)
  | ⟨3, _⟩ => exact congrArg (o3 + ·) (Nat.one_mul _)

/-- A query of the block, by token and lane. -/
def q1 (x : Vec Ideal S1x512x1024 .bf16) (r l : Nat) : EReal := x (ix3 0 ⟨r % 512, Nat.mod_lt _ (by decide)⟩ ⟨l % 1024, Nat.mod_lt _ (by decide)⟩)
/-- A key or value of the element window, by token and lane. -/
def kv1 (x : Vec Ideal S1x1024x1024 .bf16) (r l : Nat) : EReal := x (ix3 0 ⟨r % 1024, Nat.mod_lt _ (by decide)⟩ ⟨l % 1024, Nat.mod_lt _ (by decide)⟩)
/-- An entry of the bias table, by pair of heads, relative row, stacked query and lane. -/
def tb1 (x : Vec Ideal S8x14x128x128 .f32) (p t a b : Nat) : EReal :=
  x (ix4 ⟨p % 8, Nat.mod_lt _ (by decide)⟩ ⟨t % 14, Nat.mod_lt _ (by decide)⟩ ⟨a % 128, Nat.mod_lt _ (by decide)⟩ ⟨b % 128, Nat.mod_lt _ (by decide)⟩)

/-- The first row of the window of row `n`. -/
def rs (n : Nat) : Nat := min (n - 4) 120
/-- The first row of the element window of row block `k`. -/
def ws (k : Nat) : Nat := min (k * 8 - 4) 112
/-- The first token of row `j`'s window within the element window of row block `k`. -/
def koff (k j : Nat) : Nat := 64 * (rs (8 * k + j) - ws k)
/-- The relative row of the first row of row `j`'s window. -/
def rel0 (k j : Nat) : Nat := rs (8 * k + j) + 7 - (8 * k + j)

theorem koff_lt : ∀ (k : Fin 16) (j : Fin 8), koff k.val j.val + 512 ≤ 1024 := by decide +kernel
theorem rel0_lt : ∀ (k : Fin 16) (j : Fin 8), rel0 k.val j.val + 7 ≤ 14 := by decide +kernel

/-- The scale of the queries: an eighth of `log₂ e`. -/
def qs : EReal := Named.named (F := Ideal) (φ := .f32) κ "q_scale" 0x3E38AA3B#32
/-- One where stacked query `a` and lane `e` are of the same head, else zero. -/
def own (a e : Nat) : EReal := if a / 64 = e / 64 then 1 else 0
/-- A raw score: stacked query `a` of row `j` by key `l` of its window, over the 256 lanes of group `g`. -/
def sm (k : Nat) (x0 : Vec Ideal S1x512x1024 .bf16) (x1 : Vec Ideal S1x1024x1024 .bf16) (g j a l : Nat) : EReal :=
  ∑ e : Fin 256, (q1 x0 (64 * j + a % 64) (256 * g + e.val) * qs * own a e.val) * kv1 x1 (koff k j + l) (256 * g + e.val)

theorem negInf_bits : Ideal.ofBits .f32 4286578688#32 = ⊥ := by
  simp [Ideal.ofBits, Ideal.ieee]
/-- A floor division by 64, as the kernel writes it. -/
def fdiv (n : BitVec 32) : BitVec 32 :=
  Scalar.select (IntOp.andi (IntOp.cmpi .ne (IntOp.subi (BitVec.setWidth 32 (IntOp.cmpi .sgt n 0#32)) (BitVec.setWidth 32 (IntOp.cmpi .slt n 0#32))) 1#32)
    (IntOp.cmpi .ne (IntOp.remsi .vector n 64#32) 0#32)) (IntOp.subi (IntOp.divsi .vector n 64#32) 1#32) (IntOp.divsi .vector n 64#32)

theorem fdiv_at : ∀ n : Fin 256, fdiv (BitVec.ofNat 32 n.val) = BitVec.ofNat 32 (n.val / 64) := by decide +kernel

theorem own_at (a e : Fin 256) : v54 (F := Ideal) (ix2 a e) = own a.val e.val := by
  have h : v54 (F := Ideal) (ix2 a e) = Scalar.select (IntOp.cmpi .eq (fdiv (BitVec.ofNat 32 a.val)) (fdiv (BitVec.ofNat 32 e.val))) (1 : EReal) 0 := by
    unfold v54 v53 v51 v52 v24 v49 v16 v20 v23 v41 v45 v48 v5 v8 v15 v30 v33 v0 v1 v3 v25 cst cst_11
    pointwise [fdiv]
  rw [h, fdiv_at, fdiv_at]
  unfold own
  have he : ∀ a e : Fin 4, IntOp.cmpi .eq (BitVec.ofNat 32 a.val) (BitVec.ofNat 32 e.val) = BitVec.ofBool (decide (a = e)) := by decide
  have := he ⟨a.val / 64, by omega⟩ ⟨e.val / 64, by omega⟩
  simp only at this
  rw [this]
  by_cases hc : a.val / 64 = e.val / 64
  · rw [if_pos hc, decide_eq_true (Fin.ext hc)]; rfl
  · rw [if_neg hc, decide_eq_false (fun h => hc (congrArg Fin.val h))]; rfl

/-- The stacked queries, of four copies of a row's scaled queries, each copy kept on its own head's lanes. -/
def qrow (Q : Vec Ideal S1x64x256 .bf16) : FVec Ideal S64x256 .bf16 :=
  truncf .bf16 (mulf (extf .f32 (shapeCast S64x256 Q shapeCasts_S1x64x256_S64x256) bitsLt_bf16_f32) (broadcast S64x256 qs)) bitsLt_bf16_f32
/-- The raw scores of a row: stacked queries by keys. -/
def smat (Q : Vec Ideal S1x64x256 .bf16) (K : Vec Ideal S1x512x256 .bf16) : FVec Ideal S256x512 .f32 :=
  matmul (F := Ideal) (φ₁ := .bf16) (φ₂ := .bf16) dot_S256x256_S512x256_S256x512_1_1_0_0_n_n none
    (mulf (concatenate S256x256 0 [⟨S64x256, qrow Q⟩, ⟨S64x256, qrow Q⟩, ⟨S64x256, qrow Q⟩, ⟨S64x256, qrow Q⟩] concatenates_S64x256_S64x256_S64x256_S64x256_S256x256_d0) v54)
    (shapeCast S512x256 K shapeCasts_S1x512x256_S512x256) (constant S256x512 .f32 0#32)
/-- The exponentials of a row's scores less their maximum. -/
def pmat (S : FVec Ideal S256x512 .f32) : FVec Ideal S256x512 .bf16 :=
  shapeCast S256x512 (truncf .bf16 (exp2 (subf S (broadcastTo S256x512 (shapeCast S256x1 (multiReduction .maximumf [1] S256 S 0xFF800000#32 reduces_S256x512_S256 (.inl rfl) rfl) shapeCasts_S256_S256x1) broadcasts_S256x1_S256x512))) bitsLt_bf16_f32) shapeCasts_S256x512_S256x512
/-- The weighted values and the weights' sums of a pair of heads. -/
def umat (P : FVec Ideal S128x512 .bf16) (V : Vec Ideal S1x512x128 .bf16) : FVec Ideal S128x256 .f32 :=
  matmul (F := Ideal) (φ₁ := .bf16) (φ₂ := .bf16) dot_S128x512_S512x256_S128x256_1_0_0_1_n_n none P
    (concatenate S512x256 1 [⟨S512x128, shapeCast S512x128 V shapeCasts_S1x512x128_S512x128⟩, ⟨S512x128, v58⟩] concatenates_S512x128_S512x128_S512x256_d1) (constant S128x256 .f32 0#32)
/-- The quotients of the two. -/
def dmat (P : FVec Ideal S128x512 .bf16) (V : Vec Ideal S1x512x128 .bf16) : FVec Ideal S128x128 .f32 :=
  divf (extractStridedSlice S128x128 ![0, 0] (umat P V) slices_S128x256_o0_0_S128x128) (extractStridedSlice S128x128 ![0, 128] (umat P V) slices_S128x256_o0_128_S128x128)
/-- The result of a row for a pair of heads. -/
def omat (P : FVec Ideal S128x512 .bf16) (V : Vec Ideal S1x512x128 .bf16) : FVec Ideal S1x64x128 .bf16 :=
  shapeCast S1x64x128 (truncf .bf16 (select (cmpi CmpIPredicate.slt v55 v56)
    (extractStridedSlice S64x128 ![0, 0] (dmat P V) slices_S128x128_o0_0_S64x128) (extractStridedSlice S64x128 ![64, 0] (dmat P V) slices_S128x128_o64_0_S64x128)) bitsLt_bf16_f32) shapeCasts_S64x128_S1x64x128

theorem qrow_at (Q : Vec Ideal S1x64x256 .bf16) (a : Fin 64) (e : Fin 256) : qrow Q (ix2 a e) = Q (ix3 0 a e) * qs := by
  pointwise [qrow]

theorem stk_at (Q : Vec Ideal S1x64x256 .bf16) (a e : Fin 256) :
    concatenate S256x256 0 [⟨S64x256, qrow Q⟩, ⟨S64x256, qrow Q⟩, ⟨S64x256, qrow Q⟩, ⟨S64x256, qrow Q⟩] concatenates_S64x256_S64x256_S64x256_S64x256_S256x256_d0 (ix2 a e)
      = Q (ix3 0 ⟨a.val % 64, Nat.mod_lt _ (by decide)⟩ e) * qs := by
  pointwise [qrow_at]
  have ha := a.isLt
  split_ifs <;> exact congrArg (fun a => Q (ix3 0 a e) * qs) (Fin.ext (by simp only; omega))

theorem smat_at (Q : Vec Ideal S1x64x256 .bf16) (K : Vec Ideal S1x512x256 .bf16) (a : Fin 256) (l : Fin 512) :
    smat Q K (ix2 a l) = ∑ e : Fin 256, Q (ix3 0 ⟨a.val % 64, Nat.mod_lt _ (by decide)⟩ e) * qs * own a.val e.val * K (ix3 0 l e) := by
  pointwise [smat, stk_at, own_at]

theorem pmat_at (S : FVec Ideal S256x512 .f32) (a : Fin 256) (l : Fin 512) :
    pmat S (ix2 a l) = Ideal.exp2 (S (ix2 a l) - Finset.fold max ⊥ (fun w => S (ix2 a w)) Finset.univ) := by
  pointwise [pmat]
  rw [negInf_bits]
  rfl

theorem umat_at (P : FVec Ideal S128x512 .bf16) (V : Vec Ideal S1x512x128 .bf16) (a : Fin 128) (b : Fin 256) :
    umat P V (ix2 a b) = ∑ l : Fin 512, P (ix2 a l) * (if h : b.val < 128 then V (ix3 0 l ⟨b.val, h⟩) else 1) := by
  pointwise [umat, v58, cst_13]

theorem dmat_at (P : FVec Ideal S128x512 .bf16) (V : Vec Ideal S1x512x128 .bf16) (a : Fin 128) (b : Fin 128) :
    dmat P V (ix2 a b) = Ideal.div (∑ l, P (ix2 a l) * V (ix3 0 l b)) (∑ l, P (ix2 a l)) := by
  pointwise [dmat, umat_at]

theorem omat_at (P : FVec Ideal S128x512 .bf16) (V : Vec Ideal S1x512x128 .bf16) (a : Fin 64) (b : Fin 128) (x : Fin 128)
    (hx : x.val = (if b.val < 64 then 0 else 64) + a.val) :
    omat P V (ix3 0 a b) = dmat P V (ix2 x b) := by
  have h : omat P V (ix3 0 a b) = Scalar.select (IntOp.cmpi CmpIPredicate.slt (BitVec.ofNat 32 b.val) 64#32) (dmat P V (ix2 ⟨a.val, by omega⟩ b)) (dmat P V (ix2 ⟨64 + a.val, by omega⟩ b)) := by
    pointwise [omat, v55, v56]
  have hb : ∀ b : Fin 128, IntOp.cmpi CmpIPredicate.slt (BitVec.ofNat 32 b.val) 64#32 = BitVec.ofBool (decide (b.val < 64)) := by decide +kernel
  rw [h, hb]
  by_cases hc : b.val < 64
  · rw [if_pos hc] at hx
    rw [decide_eq_true hc]
    exact congrArg (fun z => dmat P V (ix2 z b)) (Fin.ext (by show a.val = x.val; omega))
  · rw [if_neg hc] at hx
    rw [decide_eq_false hc]
    exact congrArg (fun z => dmat P V (ix2 z b)) (Fin.ext (by show 64 + a.val = x.val; omega))

/-- A score with its bias, by stacked row (of all eight rows of the block) and key. -/
def gs (k : Nat) (x0 : Vec Ideal S1x512x1024 .bf16) (x1 : Vec Ideal S1x1024x1024 .bf16) (x3 : Vec Ideal S8x14x128x128 .f32) (g row col : Nat) : EReal :=
  sm k x0 x1 g (row / 256) (row % 256) col + tb1 x3 (2 * g + row % 256 / 128) (rel0 k (row / 256) + 2 * (col / 128)) (row % 128) (col % 128)
/-- A weight, before the division by the weights' sum. -/
def gp (k : Nat) (x0 : Vec Ideal S1x512x1024 .bf16) (x1 : Vec Ideal S1x1024x1024 .bf16) (x3 : Vec Ideal S8x14x128x128 .f32) (g row col : Nat) : EReal :=
  Ideal.exp2 (gs k x0 x1 x3 g row col - Finset.fold max ⊥ (fun w : Fin 512 => gs k x0 x1 x3 g row w.val) Finset.univ)
/-- A result of the block, by token and lane. -/
def go (k : Nat) (x0 : Vec Ideal S1x512x1024 .bf16) (x1 x2 : Vec Ideal S1x1024x1024 .bf16) (x3 : Vec Ideal S8x14x128x128 .f32) (R L : Nat) : EReal :=
  let row := 256 * (R / 64) + 128 * (L % 256 / 128) + ((if L % 128 < 64 then 0 else 64) + R % 64)
  Ideal.div (∑ l : Fin 512, gp k x0 x1 x3 (L / 256) row l.val * kv1 x2 (koff k (R / 64) + l.val) L) (∑ l : Fin 512, gp k x0 x1 x3 (L / 256) row l.val)

/-- A piece of the scores. -/
def pcs (S : FVec Ideal S256x512 .f32) (T : Vec Ideal S1x1x128x128 .f32) (off : Fin 2 → Nat) (hs : S256x512.Slices off S128x128) : FVec Ideal S128x128 .f32 :=
  shapeCast S128x128 (addf (extractStridedSlice S128x128 off S hs) (shapeCast S128x128 T shapeCasts_S1x1x128x128_S128x128)) shapeCasts_S128x128_S128x128

theorem pcs_at (S : FVec Ideal S256x512 .f32) (T : Vec Ideal S1x1x128x128 .f32) (o0 o1 : Nat) (off : Fin 2 → Nat) (ho : off = ![o0, o1]) (hs : S256x512.Slices off S128x128) (a b : Fin 128)
    (h0 : o0 + a.val < 256) (h1 : o1 + b.val < 512) :
    pcs S T off hs (ix2 a b) = S (ix2 ⟨o0 + a.val, h0⟩ ⟨o1 + b.val, h1⟩) + T (ix4 0 0 a b) := by
  subst ho
  pointwise [pcs]

theorem rdq (g j : Nat) (hg : g < 4) (hj : j < 8) (m : Memref sig Kind.tc Space.vmem S1x512x1024 .bf16) (hm : m.IsWhole) (x : Vec Ideal S1x512x1024 .bf16)
    (off : Fin 3 → Nat) (h) (eo : off = ![0, 64 * j, 256 * g]) (b : Fin 64) (e : Fin 256) :
    View.readAt (Elt Ideal) m.view (Rect.unit (s := S1x512x1024) off S1x64x256.size h).toLoadRect (hm.unread x) (ix3 (n0 := 1) (n1 := 64) (n2 := 256) 0 b e)
      = q1 x (64 * j + b.val) (256 * g + e.val) := by
  rw [show View.readAt (Elt Ideal) m.view (Rect.unit (s := S1x512x1024) off S1x64x256.size h).toLoadRect (hm.unread x) (ix3 (n0 := 1) (n1 := 64) (n2 := 256) 0 b e) = _ from
    rd3 m hm x off h 0 b e 0 (64 * j) (256 * g) eo (by decide) (by omega) (by omega)]
  unfold q1
  refine congrArg x (congrArg₂ (ix3 0) (Fin.ext ?_) (Fin.ext ?_))
  · show _ = _ % 512; rw [Nat.mod_eq_of_lt (by omega)]
  · show _ = _ % 1024; rw [Nat.mod_eq_of_lt (by omega)]

theorem rdk (o L n : Nat) (ho : o + 512 ≤ 1024) (hL : L + n ≤ 1024) (m : Memref sig Kind.tc Space.vmem S1x1024x1024 .bf16) (hm : m.IsWhole) (x : Vec Ideal S1x1024x1024 .bf16)
    (off : Fin 3 → Nat) (h) (eo : off = ![0, o, L]) (b : Fin 512) (e : Fin n) :
    View.readAt (Elt Ideal) m.view (Rect.unit (s := S1x1024x1024) off ![1, 512, n] h).toLoadRect (hm.unread x) (ix3 (n0 := 1) (n1 := 512) (n2 := n) 0 b e)
      = kv1 x (o + b.val) (L + e.val) := by
  rw [show View.readAt (Elt Ideal) m.view (Rect.unit (s := S1x1024x1024) off ![1, 512, n] h).toLoadRect (hm.unread x) (ix3 (n0 := 1) (n1 := 512) (n2 := n) 0 b e) = _ from
    rd3 m hm x off h 0 b e 0 o L eo (by decide) (by omega) (by omega)]
  unfold kv1
  refine congrArg x (congrArg₂ (ix3 0) (Fin.ext ?_) (Fin.ext ?_))
  · show _ = _ % 1024; rw [Nat.mod_eq_of_lt (by omega)]
  · show _ = _ % 1024; rw [Nat.mod_eq_of_lt (by omega)]

theorem rdt (p t : Nat) (hp : p < 8) (ht : t < 14) (m : Memref sig Kind.tc Space.vmem S8x14x128x128 .f32) (hm : m.IsWhole) (x : Vec Ideal S8x14x128x128 .f32)
    (off : Fin 4 → Nat) (h) (eo : off = ![p, t, 0, 0]) (a b : Fin 128) :
    View.readAt (Elt Ideal) m.view (Rect.unit (s := S8x14x128x128) off S1x1x128x128.size h).toLoadRect (hm.unread x) (ix4 (n0 := 1) (n1 := 1) (n2 := 128) (n3 := 128) 0 0 a b)
      = tb1 x p t a.val b.val := by
  rw [show View.readAt (Elt Ideal) m.view (Rect.unit (s := S8x14x128x128) off S1x1x128x128.size h).toLoadRect (hm.unread x) (ix4 (n0 := 1) (n1 := 1) (n2 := 128) (n3 := 128) 0 0 a b) = _ from
    rd4 m hm x off h 0 0 a b p t 0 0 eo (by show p + 0 < 8; omega) (by show t + 0 < 14; omega) (by omega) (by omega)]
  unfold tb1
  refine congrArg x ?_
  congr 1 <;> refine Fin.ext ?_
  · show p + 0 = _ % 8; rw [Nat.mod_eq_of_lt (by omega)]; rfl
  · show t + 0 = _ % 14; rw [Nat.mod_eq_of_lt (by omega)]; rfl
  · show 0 + _ = _ % 128; rw [Nat.mod_eq_of_lt (by omega), Nat.zero_add]
  · show 0 + _ = _ % 128; rw [Nat.mod_eq_of_lt (by omega), Nat.zero_add]

/-- A piece of the scores, where it holds `y`, is the score there. -/
theorem tile_s (k : Fin 16) (g j pr t : Nat) (hg : g < 4) (hj : j < 8) (hpr : pr < 2) (ht : t < 4)
    (arg2 : Memref sig Kind.tc Space.vmem S1x512x1024 .bf16) (harg2 : arg2.IsWhole) (arg3 : Memref sig Kind.tc Space.vmem S1x1024x1024 .bf16) (harg3 : arg3.IsWhole)
    (arg5 : Memref sig Kind.tc Space.vmem S8x14x128x128 .f32) (harg5 : arg5.IsWhole)
    (x0 : Vec Ideal S1x512x1024 .bf16) (x1 : Vec Ideal S1x1024x1024 .bf16) (x3 : Vec Ideal S8x14x128x128 .f32)
    (offq : Fin 3 → Nat) (hq) (eq : offq = ![0, 64 * j, 256 * g]) (offk : Fin 3 → Nat) (hk) (ek : offk = ![0, koff k.val j, 256 * g])
    (offb : Fin 4 → Nat) (hb) (eb : offb = ![2 * g + pr, rel0 k.val j + 2 * t, 0, 0]) (off : Fin 2 → Nat) (eo : off = ![128 * pr, 128 * t]) (hs) (y : S2048x512.Idx)
    (oo : Fin 2 → Nat) (eoo : oo = ![256 * j + 128 * pr, 128 * t]) :
    View.TileAt (Val := Elt Ideal) (e := .f32) y oo S128x128.size
      (pcs (smat (View.readAt (Elt Ideal) arg2.view (Rect.unit (s := S1x512x1024) offq S1x64x256.size hq).toLoadRect (harg2.unread x0))
          (View.readAt (Elt Ideal) arg3.view (Rect.unit (s := S1x1024x1024) offk S1x512x256.size hk).toLoadRect (harg3.unread x1)))
        (View.readAt (Elt Ideal) arg5.view (Rect.unit (s := S8x14x128x128) offb S1x1x128x128.size hb).toLoadRect (harg5.unread x3)) off hs)
      (gs k.val x0 x1 x3 g (y 0).val (y 1).val) := by
  intro x hx
  subst eoo
  have hk' : koff k.val j + 512 ≤ 1024 := koff_lt k ⟨j, hj⟩
  have hr' : rel0 k.val j + 7 ≤ 14 := rel0_lt k ⟨j, hj⟩
  have y0 : (y 0).val = 256 * j + 128 * pr + (x 0).val := hx 0
  have y1 : (y 1).val = 128 * t + (x 1).val := hx 1
  have b0 : (x 0).val < 128 := (x 0).isLt
  have b1 : (x 1).val < 128 := (x 1).isLt
  obtain ⟨a, b, rfl⟩ : ∃ a b : Fin 128, x = ix2 a b := ⟨x 0, x 1, by funext d; match d with | ⟨0, _⟩ => rfl | ⟨1, _⟩ => rfl⟩
  change (y 0).val = 256 * j + 128 * pr + a.val at y0
  change (y 1).val = 128 * t + b.val at y1
  refine (pcs_at _ _ (128 * pr) (128 * t) off eo hs a b (by omega) (by omega)).trans ?_
  rw [smat_at]
  unfold gs sm
  have r0 : (y 0).val / 256 = j := by omega
  have r1 : (y 0).val % 256 = 128 * pr + a.val := by omega
  have r2 : (y 0).val % 128 = a.val := by omega
  have r3 : (128 * pr + a.val) / 128 = pr := by omega
  have r4 : (y 1).val / 128 = t := by omega
  have r5 : (y 1).val % 128 = b.val := by omega
  rw [r0, r1, r2, r3, r4, r5, y1]
  refine congrArg₂ (· + ·) (Finset.sum_congr rfl fun e _ => congrArg₂ (· * ·) (congrArg₂ (· * ·) (congrArg (· * qs) ?_) rfl) ?_) ?_
  · exact rdq g j hg hj arg2 harg2 x0 offq hq eq _ e
  · exact rdk (koff k.val j) (256 * g) 256 hk' (by omega) arg3 harg3 x1 offk hk ek _ e
  · exact rdt (2 * g + pr) (rel0 k.val j + 2 * t) (by omega) (by omega) arg5 harg5 x3 offb hb eb a b

/-- A row's weights, from its scores. -/
theorem tile_p (k : Nat) (g j : Nat) (x0 : Vec Ideal S1x512x1024 .bf16) (x1 : Vec Ideal S1x1024x1024 .bf16) (x3 : Vec Ideal S8x14x128x128 .f32)
    (S : FVec Ideal S256x512 .f32) (hS : ∀ (a : Fin 256) (l : Fin 512), S (ix2 a l) = gs k x0 x1 x3 g (256 * j + a.val) l.val) (y : S2048x512.Idx)
    (oo : Fin 2 → Nat) (eoo : oo = ![256 * j, 0]) :
    View.TileAt (Val := Elt Ideal) (e := .bf16) y oo S256x512.size (pmat S) (gp k x0 x1 x3 g (y 0).val (y 1).val) := by
  intro x hx
  subst eoo
  have y0 : (y 0).val = 256 * j + (x 0).val := hx 0
  have y1 : (y 1).val = 0 + (x 1).val := hx 1
  obtain ⟨a, b, rfl⟩ : ∃ (a : Fin 256) (b : Fin 512), x = ix2 a b := ⟨x 0, x 1, by funext d; match d with | ⟨0, _⟩ => rfl | ⟨1, _⟩ => rfl⟩
  change (y 0).val = 256 * j + a.val at y0
  change (y 1).val = 0 + b.val at y1
  refine (pmat_at S a b).trans ?_
  unfold gp
  rw [y0, y1, Nat.zero_add, hS]
  simp only [hS]

/-- A row's results for a pair of heads, from its weights. -/
theorem tile_o (k : Fin 16) (g j pr : Nat) (hg : g < 4) (hj : j < 8) (hpr : pr < 2)
    (arg4 : Memref sig Kind.tc Space.vmem S1x1024x1024 .bf16) (harg4 : arg4.IsWhole)
    (x0 : Vec Ideal S1x512x1024 .bf16) (x1 x2 : Vec Ideal S1x1024x1024 .bf16) (x3 : Vec Ideal S8x14x128x128 .f32)
    (P : FVec Ideal S128x512 .bf16) (hP : ∀ (a : Fin 128) (l : Fin 512), P (ix2 a l) = gp k.val x0 x1 x3 g (256 * j + 128 * pr + a.val) l.val)
    (offv : Fin 3 → Nat) (hv) (ev : offv = ![0, koff k.val j, 256 * g + 128 * pr]) (y : S1x512x1024.Idx) (oo : Fin 3 → Nat) (eoo : oo = ![0, 64 * j, 256 * g + 128 * pr]) :
    View.TileAt (Val := Elt Ideal) (e := .bf16) y oo S1x64x128.size
      (omat P (View.readAt (Elt Ideal) arg4.view (Rect.unit (s := S1x1024x1024) offv S1x512x128.size hv).toLoadRect (harg4.unread x2)))
      (go k.val x0 x1 x2 x3 (y 1).val (y 2).val) := by
  intro x hx
  subst eoo
  have hk' : koff k.val j + 512 ≤ 1024 := koff_lt k ⟨j, hj⟩
  have y0 : (y 1).val = 64 * j + (x 1).val := hx 1
  have y1 : (y 2).val = 256 * g + 128 * pr + (x 2).val := hx 2
  obtain ⟨a, b, rfl⟩ : ∃ (a : Fin 64) (b : Fin 128), x = ix3 0 a b := ⟨x 1, x 2, by funext d; match d with | ⟨0, _⟩ => exact Subsingleton.elim (α := Fin 1) _ _ | ⟨1, _⟩ => rfl | ⟨2, _⟩ => rfl⟩
  change (y 1).val = 64 * j + a.val at y0
  change (y 2).val = 256 * g + 128 * pr + b.val at y1
  have hlt : (if b.val < 64 then 0 else 64) + a.val < 128 := by split_ifs <;> omega
  refine (omat_at P _ a b ⟨_, hlt⟩ rfl).trans ?_
  rw [dmat_at]
  unfold go
  have r0 : (y 1).val / 64 = j := by omega
  have r1 : (y 1).val % 64 = a.val := by omega
  have r2 : (y 2).val / 256 = g := by omega
  have r3 : (y 2).val % 256 / 128 = pr := by omega
  have r4 : (y 2).val % 128 = b.val := by omega
  simp only [r0, r1, r2, r3, r4, hP]
  refine congrArg₂ Ideal.div (Finset.sum_congr rfl fun l _ => congrArg₂ (· * ·) rfl ?_) rfl
  rw [y1]
  exact rdk (koff k.val j) (256 * g + 128 * pr) 128 hk' (by omega) arg4 harg4 x2 offv hv ev l b

end Cert.KernelIdeal.NA
end
end
-- ==== Proof.NaReg0.lean ====
module
public import proofs.«01_k».proof.Proof.NaSem

@[expose] public section
set_option maxRecDepth 65536
noncomputable section
open Idealize.ShloMosaic Idealize.ShloMosaic.TcCoe Idealize.SL.Sem
namespace Cert.KernelIdeal.NA
open Cert.KernelIdeal Cert.KernelIdeal.Gen

/-! What the bias table call leaves in its result array. -/

variable (V : (c : Dev nD) → (b : Ref sig .tc) → Buf (Elt Ideal) ((c : Thread nD τ).loc b))

/-- The factor `log2 e` and the mask, as the kernel reads them. -/
def l2e : EReal := Named.named (F := Ideal) (φ := .f32) κ "log2e" 0x3FB8AA3B#32
def msk : EReal := Named.named (F := Ideal) (φ := .f32) κ "mask" 0xF149F2CA#32

/-- The wrapped bias rows of a pair of heads: head, relative row, lane. -/
def u1 (x : Vec Ideal S1x2x15x128 .f32) (hl s l : Nat) : EReal :=
  x (ix4 0 ⟨hl % 2, Nat.mod_lt _ (by decide)⟩ ⟨s % 15, Nat.mod_lt _ (by decide)⟩ ⟨l % 128, Nat.mod_lt _ (by decide)⟩)

/-- A key column is in a query column's window. -/
def inw (c kc : Nat) : Prop := min (c - 8) 48 ≤ kc ∧ kc < min (c - 8) 48 + 16
instance (c kc : Nat) : Decidable (inw c kc) := inferInstanceAs (Decidable (_ ∧ _))

/-- A table entry: relative row `s`, stacked query column `r`, key lane `l`. -/
def tval (x : Vec Ideal S1x2x15x128 .f32) (s r l : Nat) : EReal :=
  if inw (r % 64) (l % 64) then u1 x (r / 64) (s + l / 64) ((l % 64 + 128 - r % 64) % 128) * l2e else msk

theorem win_word : ∀ (c : Fin 64) (l : Fin 128),
    IntOp.andi (IntOp.cmpi .sge (IntOp.andi (BitVec.ofNat 32 l.val) 63#32) (IntOp.minsi 48#32 (IntOp.maxsi 0#32 (IntOp.subi (BitVec.ofNat 32 c.val) 8#32))))
      (IntOp.cmpi .slt (IntOp.andi (BitVec.ofNat 32 l.val) 63#32) (IntOp.addi (IntOp.minsi 48#32 (IntOp.maxsi 0#32 (IntOp.subi (BitVec.ofNat 32 c.val) 8#32))) 16#32))
      = if inw c.val (l.val % 64) then 1#1 else 0#1 := by
  decide +kernel

theorem fst_word : ∀ l : Fin 128, IntOp.cmpi .slt (BitVec.ofNat 32 l.val) 64#32 = if l.val < 64 then 1#1 else 0#1 := by
  decide +kernel

theorem pay2_at (c : Fin 64) (l : Fin 128) : k0_pay2 (ix2 c l) = if inw c.val (l.val % 64) then 1#1 else 0#1 := by
  rw [← win_word]
  pointwise [k0_pay2]
theorem pay3_at (c : Fin 64) (l : Fin 128) : k0_pay3 (ix2 c l) = if l.val < 64 then 1#1 else 0#1 := by
  rw [← fst_word]
  pointwise [k0_pay3]

/-- A bias row broadcast over the query columns. -/
def brow (A : Vec Ideal S1x1x1x128 .f32) : FVec Ideal S64x128 .f32 :=
  broadcastTo S64x128 (shapeCast S1x128 (shapeCast S1x128 A shapeCasts_S1x1x1x128_S1x128) shapeCasts_S1x128_S1x128) broadcasts_S1x128_S64x128

theorem brow_at (A : Vec Ideal S1x1x1x128 .f32) (c : Fin 64) (l : Fin 128) : brow A (ix2 c l) = A (ix4 0 0 0 l) := by
  pointwise [brow]

/-- A broadcast row rolled by the query column. -/
theorem rot_at (n : BitVec 32) (X : FVec Ideal S64x128 .f32) (c : Fin 64) (l : Fin 128) (hn : n.toNat < 65) :
    dynamicRotate 1 n (some (1, 0)) X rotates_S64x128_d1s1a0 (ix2 c l) = X (ix2 c ⟨(l.val + 128 - (n.toNat + c.val)) % 128, Nat.mod_lt _ (by decide)⟩) := by
  have hc := c.isLt
  unfold dynamicRotate
  refine congrArg X (funext fun b => ?_)
  match b with
  | ⟨0, _⟩ => exact if_neg (fun h => absurd (congrArg Fin.val h) (by decide : ¬ (0 = 1)))
  | ⟨1, _⟩ =>
    refine (if_pos rfl).trans (Fin.ext ?_)
    show (l.val + 128 - (n.toNat + 1 * c.val) % 128) % 128 = (l.val + 128 - (n.toNat + c.val)) % 128
    omega

/-- A stored tile of the table, from two consecutive rows of the bias. -/
def tmat (A B : Vec Ideal S1x1x1x128 .f32) : FVec Ideal S1x1x64x128 .f32 :=
  shapeCast S1x1x64x128 (select k0_pay2 (mulf (select k0_pay3 (dynamicRotate 1 0#32 (some (1, 0)) (brow A) rotates_S64x128_d1s1a0) (dynamicRotate 1 64#32 (some (1, 0)) (brow B) rotates_S64x128_d1s1a0))
    (broadcast S64x128 (Named.named (F := Ideal) (φ := .f32) κ "log2e" 0x3FB8AA3B#32))) (broadcast S64x128 (Named.named (F := Ideal) (φ := .f32) κ "mask" 0xF149F2CA#32))) shapeCasts_S64x128_S1x1x64x128

theorem tm_at (p q : IVec S64x128 1) (X Y : FVec Ideal S64x128 .f32) (c : Fin 64) (l : Fin 128) :
    shapeCast S1x1x64x128 (select p (mulf (select q X Y) (broadcast S64x128 (Named.named (F := Ideal) (φ := .f32) κ "log2e" 0x3FB8AA3B#32))) (broadcast S64x128 (Named.named (F := Ideal) (φ := .f32) κ "mask" 0xF149F2CA#32))) shapeCasts_S64x128_S1x1x64x128 (ix4 0 0 c l)
      = Scalar.select (p (ix2 c l)) (Scalar.select (q (ix2 c l)) (X (ix2 c l)) (Y (ix2 c l)) * l2e) msk := by
  unfold l2e msk
  pointwise []

theorem tmat_at (A B : Vec Ideal S1x1x1x128 .f32) (c : Fin 64) (l : Fin 128) :
    tmat A B (ix4 0 0 c l) = if inw c.val (l.val % 64) then (if l.val < 64 then A (ix4 0 0 0 ⟨(l.val + 128 - c.val) % 128, Nat.mod_lt _ (by decide)⟩) else B (ix4 0 0 0 ⟨(l.val + 128 - (64 + c.val)) % 128, Nat.mod_lt _ (by decide)⟩)) * l2e else msk := by
  have e : tmat A B (ix4 0 0 c l) = Scalar.select (k0_pay2 (ix2 c l)) (Scalar.select (k0_pay3 (ix2 c l)) (dynamicRotate 1 0#32 (some (1, 0)) (brow A) rotates_S64x128_d1s1a0 (ix2 c l)) (dynamicRotate 1 64#32 (some (1, 0)) (brow B) rotates_S64x128_d1s1a0 (ix2 c l)) * l2e) msk := by
    exact tm_at _ _ _ _ c l
  rw [e, pay2_at, pay3_at, rot_at _ _ _ _ (by decide), rot_at _ _ _ _ (by decide), brow_at, brow_at]
  have z : (0#32).toNat + c.val = c.val := Nat.zero_add _
  have z' : (64#32).toNat + c.val = 64 + c.val := rfl
  simp only [z, z']
  by_cases h : inw c.val (l.val % 64)
  · rw [if_pos h, if_pos h]
    by_cases h' : l.val < 64
    · rw [if_pos h', if_pos h']; rfl
    · rw [if_neg h', if_neg h']; rfl
  · rw [if_neg h, if_neg h]; rfl

/-- A loaded row. -/
theorem ld_at (x : Vec Ideal S1x2x15x128 .f32) (hl s : Nat) (hh : hl < 2) (hs : s < 15) (off : Fin 4 → Nat) (h) (eo : off = ![0, hl, s, 0]) (l : Fin 128) :
    View.ld (Val := Elt Ideal) (e' := .f32) x (Rect.unit (s := S1x2x15x128) off S1x1x1x128.size h) (ix4 0 0 0 l) = u1 x hl s l.val := by
  subst eo
  have hl' := l.isLt
  unfold u1
  refine congrArg x (funext fun a => Fin.ext ?_)
  match a with
  | ⟨0, _⟩ => rfl
  | ⟨1, _⟩ => show hl + 1 * 0 = hl % 2; omega
  | ⟨2, _⟩ => show s + 1 * 0 = s % 15; omega
  | ⟨3, _⟩ => show 0 + 1 * l.val = l.val % 128; omega

theorem tile_t (x : Vec Ideal S1x2x15x128 .f32) (hl s : Nat) (hh : hl < 2) (hs : s < 14) (offa : Fin 4 → Nat) (ha) (ea : offa = ![0, hl, s, 0])
    (offb : Fin 4 → Nat) (hb) (eb : offb = ![0, hl, s + 1, 0]) (y : S1x14x128x128.Idx) (oo : Fin 4 → Nat) (eoo : oo = ![0, s, 64 * hl, 0]) :
    View.TileAt (Val := Elt Ideal) (e := .f32) y oo S1x1x64x128.size
      (tmat (View.ld (Val := Elt Ideal) (e' := .f32) x (Rect.unit (s := S1x2x15x128) offa S1x1x1x128.size ha)) (View.ld (Val := Elt Ideal) (e' := .f32) x (Rect.unit (s := S1x2x15x128) offb S1x1x1x128.size hb)))
      (tval x (y 1).val (y 2).val (y 3).val) := by
  intro z hz
  subst eoo
  have y1 : (y 1).val = s + (z 1).val := hz 1
  have y2 : (y 2).val = 64 * hl + (z 2).val := hz 2
  have y3 : (y 3).val = 0 + (z 3).val := hz 3
  have z1 : (z 1).val < 1 := (z 1).isLt
  obtain ⟨c, l, rfl⟩ : ∃ (c : Fin 64) (l : Fin 128), z = ix4 0 0 c l := ⟨z 2, z 3, by
    funext d
    match d with
    | ⟨0, _⟩ => exact Subsingleton.elim (α := Fin 1) _ _
    | ⟨1, _⟩ => exact Subsingleton.elim (α := Fin 1) _ _
    | ⟨2, _⟩ => rfl
    | ⟨3, _⟩ => rfl⟩
  change (y 1).val = s + 0 at y1
  change (y 2).val = 64 * hl + c.val at y2
  change (y 3).val = 0 + l.val at y3
  have hc := c.isLt
  have hl' := l.isLt
  refine (tmat_at _ _ c l).trans ?_
  rw [ld_at x hl s hh (by omega) offa ha ea, ld_at x hl (s + 1) hh (by omega) offb hb eb, y1, y2, y3]
  unfold tval
  have e1 : (64 * hl + c.val) % 64 = c.val := by omega
  have e2 : (64 * hl + c.val) / 64 = hl := by omega
  rw [Nat.zero_add, Nat.add_zero, e1, e2]
  refine if_congr Iff.rfl (congrArg (· * l2e) ?_) rfl
  by_cases h : l.val < 64
  · rw [if_pos h]
    have : l.val / 64 = 0 := by omega
    rw [this, Nat.add_zero]
    refine congrArg (u1 x hl s) ?_
    show (l.val + 128 - c.val) % 128 = _
    omega
  · rw [if_neg h]
    have : l.val / 64 = 1 := by omega
    rw [this]
    refine congrArg (u1 x hl (s + 1)) ?_
    show (l.val + 128 - (64 + c.val)) % 128 = _
    omega

/-- The tiles of a point's table. -/
theorem tab_at (x : Vec Ideal S1x2x15x128 .f32) (y : S1x14x128x128.Idx) : out0_1 x y = tval x (y 1).val (y 2).val (y 3).val := by
  refine View.canon_eq_of_allAt _ y _ (cover0_1 _ _ _ _ _ _ _ _ _ _ _ _ _ _ _ _ _ _ _ _ _ _ _ _ _ _ _ _ y) ?_
  refine View.allAt_cons_unit _ _ _ _ _ (tile_t x 1 13 (by decide) (by decide) _ _ rfl _ _ rfl y _ rfl) ?_
  refine View.allAt_cons_unit _ _ _ _ _ (tile_t x 1 12 (by decide) (by decide) _ _ rfl _ _ rfl y _ rfl) ?_
  refine View.allAt_cons_unit _ _ _ _ _ (tile_t x 1 11 (by decide) (by decide) _ _ rfl _ _ rfl y _ rfl) ?_
  refine View.allAt_cons_unit _ _ _ _ _ (tile_t x 1 10 (by decide) (by decide) _ _ rfl _ _ rfl y _ rfl) ?_
  refine View.allAt_cons_unit _ _ _ _ _ (tile_t x 1 9 (by decide) (by decide) _ _ rfl _ _ rfl y _ rfl) ?_
  refine View.allAt_cons_unit _ _ _ _ _ (tile_t x 1 8 (by decide) (by decide) _ _ rfl _ _ rfl y _ rfl) ?_
  refine View.allAt_cons_unit _ _ _ _ _ (tile_t x 1 7 (by decide) (by decide) _ _ rfl _ _ rfl y _ rfl) ?_
  refine View.allAt_cons_unit _ _ _ _ _ (tile_t x 1 6 (by decide) (by decide) _ _ rfl _ _ rfl y _ rfl) ?_
  refine View.allAt_cons_unit _ _ _ _ _ (tile_t x 1 5 (by decide) (by decide) _ _ rfl _ _ rfl y _ rfl) ?_
  refine View.allAt_cons_unit _ _ _ _ _ (tile_t x 1 4 (by decide) (by decide) _ _ rfl _ _ rfl y _ rfl) ?_
  refine View.allAt_cons_unit _ _ _ _ _ (tile_t x 1 3 (by decide) (by decide) _ _ rfl _ _ rfl y _ rfl) ?_
  refine View.allAt_cons_unit _ _ _ _ _ (tile_t x 1 2 (by decide) (by decide) _ _ rfl _ _ rfl y _ rfl) ?_
  refine View.allAt_cons_unit _ _ _ _ _ (tile_t x 1 1 (by decide) (by decide) _ _ rfl _ _ rfl y _ rfl) ?_
  refine View.allAt_cons_unit _ _ _ _ _ (tile_t x 1 0 (by decide) (by decide) _ _ rfl _ _ rfl y _ rfl) ?_
  refine View.allAt_cons_unit _ _ _ _ _ (tile_t x 0 13 (by decide) (by decide) _ _ rfl _ _ rfl y _ rfl) ?_
  refine View.allAt_cons_unit _ _ _ _ _ (tile_t x 0 12 (by decide) (by decide) _ _ rfl _ _ rfl y _ rfl) ?_
  refine View.allAt_cons_unit _ _ _ _ _ (tile_t x 0 11 (by decide) (by decide) _ _ rfl _ _ rfl y _ rfl) ?_
  refine View.allAt_cons_unit _ _ _ _ _ (tile_t x 0 10 (by decide) (by decide) _ _ rfl _ _ rfl y _ rfl) ?_
  refine View.allAt_cons_unit _ _ _ _ _ (tile_t x 0 9 (by decide) (by decide) _ _ rfl _ _ rfl y _ rfl) ?_
  refine View.allAt_cons_unit _ _ _ _ _ (tile_t x 0 8 (by decide) (by decide) _ _ rfl _ _ rfl y _ rfl) ?_
  refine View.allAt_cons_unit _ _ _ _ _ (tile_t x 0 7 (by decide) (by decide) _ _ rfl _ _ rfl y _ rfl) ?_
  refine View.allAt_cons_unit _ _ _ _ _ (tile_t x 0 6 (by decide) (by decide) _ _ rfl _ _ rfl y _ rfl) ?_
  refine View.allAt_cons_unit _ _ _ _ _ (tile_t x 0 5 (by decide) (by decide) _ _ rfl _ _ rfl y _ rfl) ?_
  refine View.allAt_cons_unit _ _ _ _ _ (tile_t x 0 4 (by decide) (by decide) _ _ rfl _ _ rfl y _ rfl) ?_
  refine View.allAt_cons_unit _ _ _ _ _ (tile_t x 0 3 (by decide) (by decide) _ _ rfl _ _ rfl y _ rfl) ?_
  refine View.allAt_cons_unit _ _ _ _ _ (tile_t x 0 2 (by decide) (by decide) _ _ rfl _ _ rfl y _ rfl) ?_
  refine View.allAt_cons_unit _ _ _ _ _ (tile_t x 0 1 (by decide) (by decide) _ _ rfl _ _ rfl y _ rfl) ?_
  refine View.allAt_cons_unit _ _ _ _ _ (tile_t x 0 0 (by decide) (by decide) _ _ rfl _ _ rfl y _ rfl) ?_
  exact View.allAt_nil _ _

theorem tr00 : ∀ i : grid0.Coords, cc0_transform_0 i = ![(i 0).val, 0, 0, 0] := by decide +kernel
theorem tr01 : ∀ i : grid0.Coords, cc0_transform_1 i = ![(i 0).val, 0, 0, 0] := by decide +kernel

/-- The wrapped bias rows: pair of heads, head of the pair, relative row, lane. -/
def un (U : Vec Ideal S8x2x15x128 .f32) (p hl s l : Nat) : EReal :=
  U (ix4 ⟨p % 8, Nat.mod_lt _ (by decide)⟩ ⟨hl % 2, Nat.mod_lt _ (by decide)⟩ ⟨s % 15, Nat.mod_lt _ (by decide)⟩ ⟨l % 128, Nat.mod_lt _ (by decide)⟩)

/-- A table entry, of the wrapped bias rows. -/
def tvg (U : Vec Ideal S8x2x15x128 .f32) (p s r l : Nat) : EReal :=
  if inw (r % 64) (l % 64) then un U p (r / 64) (s + l / 64) ((l % 64 + 128 - r % 64) % 128) * l2e else msk

theorem u_blk (c : Dev nD) (t : Fin cfg0.N) (hl s l : Nat) :
    u1 (iblk0 V c 0 t) hl s l = un (V c main_v4) (grid0.coords t 0).val hl s l := by
  have h0 : (grid0.coords t 0).val < 8 := (grid0.coords t 0).isLt
  unfold u1 un
  blk_simp [iblk0]
  refine congrArg (V c main_v4) ?_
  have e := tr00 (grid0.coords t)
  funext a; apply Fin.ext
  match a with
  | ⟨0, _⟩ =>
    show cc0_transform_0 (grid0.coords t) 0 * 1 + 1 * 0 = _
    rw [e]; show (grid0.coords t 0).val * 1 + 1 * 0 = (grid0.coords t 0).val % 8; omega
  | ⟨1, _⟩ =>
    show cc0_transform_0 (grid0.coords t) 1 * 2 + 1 * (hl % 2) = _
    rw [e]; show 0 * 2 + 1 * (hl % 2) = hl % 2; omega
  | ⟨2, _⟩ =>
    show cc0_transform_0 (grid0.coords t) 2 * 15 + 1 * (s % 15) = _
    rw [e]; show 0 * 15 + 1 * (s % 15) = s % 15; omega
  | ⟨3, _⟩ =>
    show cc0_transform_0 (grid0.coords t) 3 * 128 + 1 * (l % 128) = _
    rw [e]; show 0 * 128 + 1 * (l % 128) = l % 128; omega

/-- A point's table, at the element its block's element is. -/
theorem reg0_pt (c : Dev nD) (t : Fin cfg0.N) (y : S1x14x128x128.Idx) :
    out0_1 (iblk0 V c 0 t) y = tvg (V c main_v4) (((win0_1.blk t).view.emb y) 0).val (((win0_1.blk t).view.emb y) 1).val (((win0_1.blk t).view.emb y) 2).val (((win0_1.blk t).view.emb y) 3).val := by
  have e := tr01 (grid0.coords t)
  have e0 : (((win0_1.blk t).view.emb y) 0).val = (grid0.coords t 0).val := by
    show cc0_transform_1 (grid0.coords t) 0 * 1 + 1 * (y 0).val = _
    rw [e]; show (grid0.coords t 0).val * 1 + 1 * (y 0).val = _
    have : (y 0).val < 1 := (y 0).isLt
    omega
  have e1 : (((win0_1.blk t).view.emb y) 1).val = (y 1).val := by
    show cc0_transform_1 (grid0.coords t) 1 * 14 + 1 * (y 1).val = _
    rw [e]; show 0 * 14 + 1 * (y 1).val = _; omega
  have e2 : (((win0_1.blk t).view.emb y) 2).val = (y 2).val := by
    show cc0_transform_1 (grid0.coords t) 2 * 128 + 1 * (y 2).val = _
    rw [e]; show 0 * 128 + 1 * (y 2).val = _; omega
  have e3 : (((win0_1.blk t).view.emb y) 3).val = (y 3).val := by
    show cc0_transform_1 (grid0.coords t) 3 * 128 + 1 * (y 3).val = _
    rw [e]; show 0 * 128 + 1 * (y 3).val = _; omega
  rw [e0, e1, e2, e3]
  refine (tab_at _ y).trans ?_
  unfold tval tvg
  rw [u_blk]

/-- The table array after the call. -/
theorem reg0 (c : Dev nD) : (dat0 V c).arrAt 1 cfg0.N = fun y : S8x14x128x128.Idx => tvg (V c main_v4) (y 0).val (y 1).val (y 2).val (y 3).val := by
  refine (dat0 V c).arrAt_eq_of_covers 1 _ (by decide +kernel) fun t hf y => ?_
  rw [after0_1]
  blk_simp
  refine (reg0_pt V c t y).trans ?_
  blk_simp

/-- The wrapped bias rows, of the bias: its last sixteen entries, zeros, its first fifteen. -/
def ucat (B : Vec Ideal S16x15x31 .f32) : Vec Ideal S8x2x15x128 .f32 :=
  shapeCast S8x2x15x128 (concatenate S16x15x128 2 [⟨S16x15x16, extractStridedSlice S16x15x16 ![0, 0, 15] B slices_S16x15x31_S16x15x16_0_0_15⟩,
    ⟨S16x15x97, broadcastInDim S16x15x97 ![] bcast_S_S16x15x97 (constant (F := Ideal) S_ .f32 0x00000000#32)⟩,
    ⟨S16x15x15, extractStridedSlice S16x15x15 ![0, 0, 0] B slices_S16x15x31_S16x15x15_0_0_0⟩] concatenates_S16x15x16_S16x15x97_S16x15x15_S16x15x128_d2) shapeCasts_S16x15x128_S8x2x15x128

/-- The bias at a head, a relative row and a relative column. -/
def bi (B : Vec Ideal S16x15x31 .f32) (h s k : Nat) : EReal :=
  B (ix3 ⟨h % 16, Nat.mod_lt _ (by decide)⟩ ⟨s % 15, Nat.mod_lt _ (by decide)⟩ ⟨k % 31, Nat.mod_lt _ (by decide)⟩)

theorem ucat_lo (B : Vec Ideal S16x15x31 .f32) (p : Fin 8) (hl : Fin 2) (s : Fin 15) (l : Fin 128) (h : l.val < 16) :
    ucat B (ix4 p hl s l) = B (ix3 ⟨p.val * 2 + hl.val, by omega⟩ s ⟨15 + l.val, by omega⟩) := by
  pointwise [ucat]
  exact dif_pos h
theorem ucat_hi (B : Vec Ideal S16x15x31 .f32) (p : Fin 8) (hl : Fin 2) (s : Fin 15) (l : Fin 128) (h : 113 ≤ l.val) :
    ucat B (ix4 p hl s l) = B (ix3 ⟨p.val * 2 + hl.val, by omega⟩ s ⟨l.val - 113, by omega⟩) := by
  pointwise [ucat]
  refine (dif_neg (by omega)).trans ((dif_neg (by omega)).trans ?_)
  exact congrArg (fun k => B (ix3 _ s k)) (Fin.ext (by show l.val - 16 - 97 = l.val - 113; omega))

/-- A table entry, of the bias. -/
theorem tvg_at (B : Vec Ideal S16x15x31 .f32) (p s r l : Nat) (hp : p < 8) (hs : s < 14) (hr : r < 128) (hl : l < 128) :
    tvg (ucat B) p s r l = if inw (r % 64) (l % 64) then bi B (2 * p + r / 64) (s + l / 64) (l % 64 + 15 - r % 64) * l2e else msk := by
  unfold tvg
  by_cases h : inw (r % 64) (l % 64)
  · rw [if_pos h, if_pos h]
    refine congrArg (· * l2e) ?_
    unfold inw at h
    unfold un bi
    by_cases hc : r % 64 ≤ l % 64
    · refine (ucat_lo B _ _ _ _ (by show (l % 64 + 128 - r % 64) % 128 % 128 < 16; omega)).trans ?_
      refine congrArg B (funext fun a => Fin.ext ?_)
      match a with
      | ⟨0, _⟩ => show p % 8 * 2 + r / 64 % 2 = (2 * p + r / 64) % 16; omega
      | ⟨1, _⟩ => rfl
      | ⟨2, _⟩ => show 15 + (l % 64 + 128 - r % 64) % 128 % 128 = (l % 64 + 15 - r % 64) % 31; omega
    · refine (ucat_hi B _ _ _ _ (by show 113 ≤ (l % 64 + 128 - r % 64) % 128 % 128; omega)).trans ?_
      refine congrArg B (funext fun a => Fin.ext ?_)
      match a with
      | ⟨0, _⟩ => show p % 8 * 2 + r / 64 % 2 = (2 * p + r / 64) % 16; omega
      | ⟨1, _⟩ => rfl
      | ⟨2, _⟩ => show (l % 64 + 128 - r % 64) % 128 % 128 - 113 = (l % 64 + 15 - r % 64) % 31; omega
  · rw [if_neg h, if_neg h]

end Cert.KernelIdeal.NA
end
end
-- ==== Proof.NaOff.lean ====
module
public import proofs.«01_k».proof.Proof.NaSem

@[expose] public section
set_option maxRecDepth 65536
noncomputable section
open Idealize.ShloMosaic Idealize.ShloMosaic.TcCoe Idealize.SL.Sem
namespace Cert.KernelIdeal.NA
open Cert.KernelIdeal Cert.KernelIdeal.Gen

theorem off1 (i : grid1.Coords) (j : Fin 8) : k1_off1 i (BitVec.ofNat 32 j.val) = ![0, koff (i 1).val j.val, 0] := by
  unfold k1_off1
  obtain ⟨n, hn⟩ : ∃ n : Fin 16, i 1 = n := ⟨_, rfl⟩
  rw [hn]
  clear hn
  revert n j
  decide +kernel
theorem off2 (i : grid1.Coords) (j : Fin 8) (t : Fin 4) : k1_off2 i (BitVec.ofNat 32 j.val) (BitVec.ofNat 32 (2 * t.val)) = ![0, rel0 (i 1).val j.val + 2 * t.val, 0, 0] := by
  unfold k1_off2
  obtain ⟨n, hn⟩ : ∃ n : Fin 16, i 1 = n := ⟨_, rfl⟩
  rw [hn]
  clear hn
  revert n j t
  decide +kernel
theorem off3 (i : grid1.Coords) (j : Fin 8) (t : Fin 4) : k1_off3 i (BitVec.ofNat 32 j.val) (BitVec.ofNat 32 (2 * t.val)) = ![1, rel0 (i 1).val j.val + 2 * t.val, 0, 0] := by
  unfold k1_off3
  obtain ⟨n, hn⟩ : ∃ n : Fin 16, i 1 = n := ⟨_, rfl⟩
  rw [hn]
  clear hn
  revert n j t
  decide +kernel
theorem off4 (i : grid1.Coords) (j : Fin 8) : k1_off4 i (BitVec.ofNat 32 j.val) = ![0, koff (i 1).val j.val, 0] := by
  unfold k1_off4
  obtain ⟨n, hn⟩ : ∃ n : Fin 16, i 1 = n := ⟨_, rfl⟩
  rw [hn]
  clear hn
  revert n j
  decide +kernel
theorem off5 (i : grid1.Coords) (j : Fin 8) : k1_off5 i (BitVec.ofNat 32 j.val) = ![0, koff (i 1).val j.val, 128] := by
  unfold k1_off5
  obtain ⟨n, hn⟩ : ∃ n : Fin 16, i 1 = n := ⟨_, rfl⟩
  rw [hn]
  clear hn
  revert n j
  decide +kernel
theorem off6 (i : grid1.Coords) (j : Fin 8) : k1_off6 i (BitVec.ofNat 32 j.val) = ![0, koff (i 1).val j.val, 256] := by
  unfold k1_off6
  obtain ⟨n, hn⟩ : ∃ n : Fin 16, i 1 = n := ⟨_, rfl⟩
  rw [hn]
  clear hn
  revert n j
  decide +kernel
theorem off7 (i : grid1.Coords) (j : Fin 8) (t : Fin 4) : k1_off7 i (BitVec.ofNat 32 j.val) (BitVec.ofNat 32 (2 * t.val)) = ![2, rel0 (i 1).val j.val + 2 * t.val, 0, 0] := by
  unfold k1_off7
  obtain ⟨n, hn⟩ : ∃ n : Fin 16, i 1 = n := ⟨_, rfl⟩
  rw [hn]
  clear hn
  revert n j t
  decide +kernel
theorem off8 (i : grid1.Coords) (j : Fin 8) (t : Fin 4) : k1_off8 i (BitVec.ofNat 32 j.val) (BitVec.ofNat 32 (2 * t.val)) = ![3, rel0 (i 1).val j.val + 2 * t.val, 0, 0] := by
  unfold k1_off8
  obtain ⟨n, hn⟩ : ∃ n : Fin 16, i 1 = n := ⟨_, rfl⟩
  rw [hn]
  clear hn
  revert n j t
  decide +kernel
theorem off9 (i : grid1.Coords) (j : Fin 8) : k1_off9 i (BitVec.ofNat 32 j.val) = ![0, koff (i 1).val j.val, 256] := by
  unfold k1_off9
  obtain ⟨n, hn⟩ : ∃ n : Fin 16, i 1 = n := ⟨_, rfl⟩
  rw [hn]
  clear hn
  revert n j
  decide +kernel
theorem off10 (i : grid1.Coords) (j : Fin 8) : k1_off10 i (BitVec.ofNat 32 j.val) = ![0, koff (i 1).val j.val, 384] := by
  unfold k1_off10
  obtain ⟨n, hn⟩ : ∃ n : Fin 16, i 1 = n := ⟨_, rfl⟩
  rw [hn]
  clear hn
  revert n j
  decide +kernel
theorem off11 (i : grid1.Coords) (j : Fin 8) : k1_off11 i (BitVec.ofNat 32 j.val) = ![0, koff (i 1).val j.val, 512] := by
  unfold k1_off11
  obtain ⟨n, hn⟩ : ∃ n : Fin 16, i 1 = n := ⟨_, rfl⟩
  rw [hn]
  clear hn
  revert n j
  decide +kernel
theorem off12 (i : grid1.Coords) (j : Fin 8) (t : Fin 4) : k1_off12 i (BitVec.ofNat 32 j.val) (BitVec.ofNat 32 (2 * t.val)) = ![4, rel0 (i 1).val j.val + 2 * t.val, 0, 0] := by
  unfold k1_off12
  obtain ⟨n, hn⟩ : ∃ n : Fin 16, i 1 = n := ⟨_, rfl⟩
  rw [hn]
  clear hn
  revert n j t
  decide +kernel
theorem off13 (i : grid1.Coords) (j : Fin 8) (t : Fin 4) : k1_off13 i (BitVec.ofNat 32 j.val) (BitVec.ofNat 32 (2 * t.val)) = ![5, rel0 (i 1).val j.val + 2 * t.val, 0, 0] := by
  unfold k1_off13
  obtain ⟨n, hn⟩ : ∃ n : Fin 16, i 1 = n := ⟨_, rfl⟩
  rw [hn]
  clear hn
  revert n j t
  decide +kernel
theorem off14 (i : grid1.Coords) (j : Fin 8) : k1_off14 i (BitVec.ofNat 32 j.val) = ![0, koff (i 1).val j.val, 512] := by
  unfold k1_off14
  obtain ⟨n, hn⟩ : ∃ n : Fin 16, i 1 = n := ⟨_, rfl⟩
  rw [hn]
  clear hn
  revert n j
  decide +kernel
theorem off15 (i : grid1.Coords) (j : Fin 8) : k1_off15 i (BitVec.ofNat 32 j.val) = ![0, koff (i 1).val j.val, 640] := by
  unfold k1_off15
  obtain ⟨n, hn⟩ : ∃ n : Fin 16, i 1 = n := ⟨_, rfl⟩
  rw [hn]
  clear hn
  revert n j
  decide +kernel
theorem off16 (i : grid1.Coords) (j : Fin 8) : k1_off16 i (BitVec.ofNat 32 j.val) = ![0, koff (i 1).val j.val, 768] := by
  unfold k1_off16
  obtain ⟨n, hn⟩ : ∃ n : Fin 16, i 1 = n := ⟨_, rfl⟩
  rw [hn]
  clear hn
  revert n j
  decide +kernel
theorem off17 (i : grid1.Coords) (j : Fin 8) (t : Fin 4) : k1_off17 i (BitVec.ofNat 32 j.val) (BitVec.ofNat 32 (2 * t.val)) = ![6, rel0 (i 1).val j.val + 2 * t.val, 0, 0] := by
  unfold k1_off17
  obtain ⟨n, hn⟩ : ∃ n : Fin 16, i 1 = n := ⟨_, rfl⟩
  rw [hn]
  clear hn
  revert n j t
  decide +kernel
theorem off18 (i : grid1.Coords) (j : Fin 8) (t : Fin 4) : k1_off18 i (BitVec.ofNat 32 j.val) (BitVec.ofNat 32 (2 * t.val)) = ![7, rel0 (i 1).val j.val + 2 * t.val, 0, 0] := by
  unfold k1_off18
  obtain ⟨n, hn⟩ : ∃ n : Fin 16, i 1 = n := ⟨_, rfl⟩
  rw [hn]
  clear hn
  revert n j t
  decide +kernel
theorem off19 (i : grid1.Coords) (j : Fin 8) : k1_off19 i (BitVec.ofNat 32 j.val) = ![0, koff (i 1).val j.val, 768] := by
  unfold k1_off19
  obtain ⟨n, hn⟩ : ∃ n : Fin 16, i 1 = n := ⟨_, rfl⟩
  rw [hn]
  clear hn
  revert n j
  decide +kernel
theorem off20 (i : grid1.Coords) (j : Fin 8) : k1_off20 i (BitVec.ofNat 32 j.val) = ![0, koff (i 1).val j.val, 896] := by
  unfold k1_off20
  obtain ⟨n, hn⟩ : ∃ n : Fin 16, i 1 = n := ⟨_, rfl⟩
  rw [hn]
  clear hn
  revert n j
  decide +kernel

end Cert.KernelIdeal.NA
end
end
-- ==== Proof.NaBase.lean ====
module
public import proofs.«01_k».proof.Proof.NaOff

@[expose] public section
set_option maxRecDepth 65536
noncomputable section
open Idealize.ShloMosaic Idealize.ShloMosaic.TcCoe Idealize.SL.Sem
namespace Cert.KernelIdeal.NA
open Cert.KernelIdeal Cert.KernelIdeal.Gen Cert.KernelIdeal.Gen.kernelRun1_A.sl

variable {sig' : RefSig} {κ' : Kind} {sp : Space} {s : Shape} {e : EltTy} {Val : EltTy → Type}

/-- What the latest writes leave where they cover. -/
theorem canon_take [∀ e, Nonempty (Val e)] : ∀ (n : Nat) (L : List (View.Piece Val s e)) (y : s.Idx) (v : Val e),
    (∃ p ∈ L.take n, y ∈ p.1.set) → View.AllAt (L.take n) y v → View.canon L y = v
  | 0, _, _, _, hc, _ => by obtain ⟨p, hp, _⟩ := hc; exact absurd hp (by simp)
  | _ + 1, [], _, _, hc, _ => by obtain ⟨p, hp, _⟩ := hc; exact absurd hp (by simp)
  | n + 1, p :: L, y, v, hc, h => by
    by_cases hm : y ∈ p.1.set
    · obtain ⟨x, hx⟩ := p.1.exists_idx_of_mem hm
      have hx' : p.1.emb x = y := hx
      rw [← hx', View.canon_cons_emb]
      exact h p (by simp) x hx'
    · rw [View.canon_cons_of_not_mem p L hm]
      refine canon_take n L y v ?_ fun q hq => h q (by rw [List.take_succ_cons]; exact List.mem_cons_of_mem _ hq)
      obtain ⟨q, hq, hy⟩ := hc
      rw [List.take_succ_cons] at hq
      rcases List.mem_cons.mp hq with rfl | hq
      · exact absurd hy hm
      · exact ⟨q, hq, hy⟩

/-- A box of a matrix read back from the writes that left it. -/
theorem readCov2 [∀ e, Nonempty (Val e)] {m0 m1 n0 n1 : Nat} (v : View sig' κ' sp ⟨2, ![m0, m1]⟩ e) (L : List (View.Piece Val ⟨2, ![m0, m1]⟩ e)) (f : Nat → Nat → Val e)
    (hL : ∀ y, View.canon L y = f (y 0).val (y 1).val) (off : Fin 2 → Nat) (h) (o0 o1 : Nat) (eo : off = ![o0, o1]) (a : Fin n0) (b : Fin n1) :
    v.readCov L (Rect.unit (s := ⟨2, ![m0, m1]⟩) off ![n0, n1] h).toLoadRect (ix2 (n0 := n0) (n1 := n1) a b) = f (o0 + a.val) (o1 + b.val) := by
  subst eo
  rw [View.readCov_eq_canon']
  show View.canon L _ = _
  rw [hL]
  refine congrArg₂ f ?_ ?_
  · exact congrArg (o0 + ·) (Nat.one_mul _)
  · exact congrArg (o1 + ·) (Nat.one_mul _)

/-- A row's weights, from the scores written. -/
theorem tile_pc (k : Nat) (g j : Nat) (m : Memref sig Kind.tc Space.vmem S2048x512 .f32) (x0 : Vec Ideal S1x512x1024 .bf16) (x1 : Vec Ideal S1x1024x1024 .bf16) (x3 : Vec Ideal S8x14x128x128 .f32)
    (L : List (View.Piece (Elt Ideal) S2048x512 .f32)) (hL : ∀ y, View.canon L y = gs k x0 x1 x3 g (y 0).val (y 1).val) (off : Fin 2 → Nat) (h) (eo : off = ![256 * j, 0])
    (y : S2048x512.Idx) (oo : Fin 2 → Nat) (eoo : oo = ![256 * j, 0]) :
    View.TileAt (Val := Elt Ideal) (e := .bf16) y oo S256x512.size (pmat (m.view.readCov L (Rect.unit (s := S2048x512) off S256x512.size h).toLoadRect)) (gp k x0 x1 x3 g (y 0).val (y 1).val) :=
  tile_p k g j x0 x1 x3 _ (fun a l => (readCov2 (Val := Elt Ideal) (e := .f32) (n0 := 256) (n1 := 512) m.view L (fun a b => gs k x0 x1 x3 g a b) hL off h (256 * j) 0 eo a l).trans (congrArg (gs k x0 x1 x3 g _) (Nat.zero_add _))) y oo eoo

/-- A row's results for a pair of heads, from the weights written. -/
theorem tile_oc (k : Fin 16) (g j pr : Nat) (hg : g < 4) (hj : j < 8) (hpr : pr < 2) (m : Memref sig Kind.tc Space.vmem S2048x512 .bf16)
    (arg4 : Memref sig Kind.tc Space.vmem S1x1024x1024 .bf16) (harg4 : arg4.IsWhole)
    (x0 : Vec Ideal S1x512x1024 .bf16) (x1 x2 : Vec Ideal S1x1024x1024 .bf16) (x3 : Vec Ideal S8x14x128x128 .f32)
    (L : List (View.Piece (Elt Ideal) S2048x512 .bf16)) (hL : ∀ y, View.canon L y = gp k.val x0 x1 x3 g (y 0).val (y 1).val) (off : Fin 2 → Nat) (h) (eo : off = ![256 * j + 128 * pr, 0])
    (offv : Fin 3 → Nat) (hv) (ev : offv = ![0, koff k.val j, 256 * g + 128 * pr]) (y : S1x512x1024.Idx) (oo : Fin 3 → Nat) (eoo : oo = ![0, 64 * j, 256 * g + 128 * pr]) :
    View.TileAt (Val := Elt Ideal) (e := .bf16) y oo S1x64x128.size
      (omat (m.view.readCov L (Rect.unit (s := S2048x512) off S128x512.size h).toLoadRect) (View.readAt (Elt Ideal) arg4.view (Rect.unit (s := S1x1024x1024) offv S1x512x128.size hv).toLoadRect (harg4.unread x2)))
      (go k.val x0 x1 x2 x3 (y 1).val (y 2).val) :=
  tile_o k g j pr hg hj hpr arg4 harg4 x0 x1 x2 x3 _ (fun a l => (readCov2 (Val := Elt Ideal) (e := .bf16) (n0 := 128) (n1 := 512) m.view L (fun a b => gp k.val x0 x1 x3 g a b) hL off h (256 * j + 128 * pr) 0 eo a l).trans (congrArg (gp k.val x0 x1 x3 g _) (Nat.zero_add _)))
    offv hv ev y oo eoo

end Cert.KernelIdeal.NA
end
end
-- ==== Proof.NaS0.lean ====
module
public import proofs.«01_k».proof.Proof.NaBase

@[expose] public section
set_option maxRecDepth 65536
noncomputable section
open Idealize.ShloMosaic Idealize.ShloMosaic.TcCoe Idealize.SL.Sem
namespace Cert.KernelIdeal.NA
open Cert.KernelIdeal Cert.KernelIdeal.Gen Cert.KernelIdeal.Gen.kernelRun1_A.sl

/-- The scores written for group 0 of heads. -/
theorem all_s0 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.AllAt (Val := Elt Ideal) (e := .f32) (HS0_64 c i arg2 harg2 arg3 harg3 arg5 harg5 x0 x1 x3) y (gs (i 1).val x0 x1 x3 0 (y 0).val (y 1).val) := by
  refine View.allAt_cons_unit _ _ _ _ _ (tile_s (i 1) 0 7 1 3 (by decide) (by decide) (by decide) (by decide) arg2 harg2 arg3 harg3 arg5 harg5 x0 x1 x3 _ _ rfl _ _ (off1 i 7) _ _ (off3 i 7 3) _ rfl (by decide) y _ rfl) ?_
  refine View.allAt_cons_unit _ _ _ _ _ (tile_s (i 1) 0 7 1 2 (by decide) (by decide) (by decide) (by decide) arg2 harg2 arg3 harg3 arg5 harg5 x0 x1 x3 _ _ rfl _ _ (off1 i 7) _ _ (off3 i 7 2) _ rfl (by decide) y _ rfl) ?_
  refine View.allAt_cons_unit _ _ _ _ _ (tile_s (i 1) 0 7 1 1 (by decide) (by decide) (by decide) (by decide) arg2 harg2 arg3 harg3 arg5 harg5 x0 x1 x3 _ _ rfl _ _ (off1 i 7) _ _ (off3 i 7 1) _ rfl (by decide) y _ rfl) ?_
  refine View.allAt_cons_unit _ _ _ _ _ (tile_s (i 1) 0 7 1 0 (by decide) (by decide) (by decide) (by decide) arg2 harg2 arg3 harg3 arg5 harg5 x0 x1 x3 _ _ rfl _ _ (off1 i 7) _ _ (off3 i 7 0) _ rfl (by decide) y _ rfl) ?_
  refine View.allAt_cons_unit _ _ _ _ _ (tile_s (i 1) 0 7 0 3 (by decide) (by decide) (by decide) (by decide) arg2 harg2 arg3 harg3 arg5 harg5 x0 x1 x3 _ _ rfl _ _ (off1 i 7) _ _ (off2 i 7 3) _ rfl (by decide) y _ rfl) ?_
  refine View.allAt_cons_unit _ _ _ _ _ (tile_s (i 1) 0 7 0 2 (by decide) (by decide) (by decide) (by decide) arg2 harg2 arg3 harg3 arg5 harg5 x0 x1 x3 _ _ rfl _ _ (off1 i 7) _ _ (off2 i 7 2) _ rfl (by decide) y _ rfl) ?_
  refine View.allAt_cons_unit _ _ _ _ _ (tile_s (i 1) 0 7 0 1 (by decide) (by decide) (by decide) (by decide) arg2 harg2 arg3 harg3 arg5 harg5 x0 x1 x3 _ _ rfl _ _ (off1 i 7) _ _ (off2 i 7 1) _ rfl (by decide) y _ rfl) ?_
  refine View.allAt_cons_unit _ _ _ _ _ (tile_s (i 1) 0 7 0 0 (by decide) (by decide) (by decide) (by decide) arg2 harg2 arg3 harg3 arg5 harg5 x0 x1 x3 _ _ rfl _ _ (off1 i 7) _ _ (off2 i 7 0) _ rfl (by decide) y _ rfl) ?_
  refine View.allAt_cons_unit _ _ _ _ _ (tile_s (i 1) 0 6 1 3 (by decide) (by decide) (by decide) (by decide) arg2 harg2 arg3 harg3 arg5 harg5 x0 x1 x3 _ _ rfl _ _ (off1 i 6) _ _ (off3 i 6 3) _ rfl (by decide) y _ rfl) ?_
  refine View.allAt_cons_unit _ _ _ _ _ (tile_s (i 1) 0 6 1 2 (by decide) (by decide) (by decide) (by decide) arg2 harg2 arg3 harg3 arg5 harg5 x0 x1 x3 _ _ rfl _ _ (off1 i 6) _ _ (off3 i 6 2) _ rfl (by decide) y _ rfl) ?_
  refine View.allAt_cons_unit _ _ _ _ _ (tile_s (i 1) 0 6 1 1 (by decide) (by decide) (by decide) (by decide) arg2 harg2 arg3 harg3 arg5 harg5 x0 x1 x3 _ _ rfl _ _ (off1 i 6) _ _ (off3 i 6 1) _ rfl (by decide) y _ rfl) ?_
  refine View.allAt_cons_unit _ _ _ _ _ (tile_s (i 1) 0 6 1 0 (by decide) (by decide) (by decide) (by decide) arg2 harg2 arg3 harg3 arg5 harg5 x0 x1 x3 _ _ rfl _ _ (off1 i 6) _ _ (off3 i 6 0) _ rfl (by decide) y _ rfl) ?_
  refine View.allAt_cons_unit _ _ _ _ _ (tile_s (i 1) 0 6 0 3 (by decide) (by decide) (by decide) (by decide) arg2 harg2 arg3 harg3 arg5 harg5 x0 x1 x3 _ _ rfl _ _ (off1 i 6) _ _ (off2 i 6 3) _ rfl (by decide) y _ rfl) ?_
  refine View.allAt_cons_unit _ _ _ _ _ (tile_s (i 1) 0 6 0 2 (by decide) (by decide) (by decide) (by decide) arg2 harg2 arg3 harg3 arg5 harg5 x0 x1 x3 _ _ rfl _ _ (off1 i 6) _ _ (off2 i 6 2) _ rfl (by decide) y _ rfl) ?_
  refine View.allAt_cons_unit _ _ _ _ _ (tile_s (i 1) 0 6 0 1 (by decide) (by decide) (by decide) (by decide) arg2 harg2 arg3 harg3 arg5 harg5 x0 x1 x3 _ _ rfl _ _ (off1 i 6) _ _ (off2 i 6 1) _ rfl (by decide) y _ rfl) ?_
  refine View.allAt_cons_unit _ _ _ _ _ (tile_s (i 1) 0 6 0 0 (by decide) (by decide) (by decide) (by decide) arg2 harg2 arg3 harg3 arg5 harg5 x0 x1 x3 _ _ rfl _ _ (off1 i 6) _ _ (off2 i 6 0) _ rfl (by decide) y _ rfl) ?_
  refine View.allAt_cons_unit _ _ _ _ _ (tile_s (i 1) 0 5 1 3 (by decide) (by decide) (by decide) (by decide) arg2 harg2 arg3 harg3 arg5 harg5 x0 x1 x3 _ _ rfl _ _ (off1 i 5) _ _ (off3 i 5 3) _ rfl (by decide) y _ rfl) ?_
  refine View.allAt_cons_unit _ _ _ _ _ (tile_s (i 1) 0 5 1 2 (by decide) (by decide) (by decide) (by decide) arg2 harg2 arg3 harg3 arg5 harg5 x0 x1 x3 _ _ rfl _ _ (off1 i 5) _ _ (off3 i 5 2) _ rfl (by decide) y _ rfl) ?_
  refine View.allAt_cons_unit _ _ _ _ _ (tile_s (i 1) 0 5 1 1 (by decide) (by decide) (by decide) (by decide) arg2 harg2 arg3 harg3 arg5 harg5 x0 x1 x3 _ _ rfl _ _ (off1 i 5) _ _ (off3 i 5 1) _ rfl (by decide) y _ rfl) ?_
  refine View.allAt_cons_unit _ _ _ _ _ (tile_s (i 1) 0 5 1 0 (by decide) (by decide) (by decide) (by decide) arg2 harg2 arg3 harg3 arg5 harg5 x0 x1 x3 _ _ rfl _ _ (off1 i 5) _ _ (off3 i 5 0) _ rfl (by decide) y _ rfl) ?_
  refine View.allAt_cons_unit _ _ _ _ _ (tile_s (i 1) 0 5 0 3 (by decide) (by decide) (by decide) (by decide) arg2 harg2 arg3 harg3 arg5 harg5 x0 x1 x3 _ _ rfl _ _ (off1 i 5) _ _ (off2 i 5 3) _ rfl (by decide) y _ rfl) ?_
  refine View.allAt_cons_unit _ _ _ _ _ (tile_s (i 1) 0 5 0 2 (by decide) (by decide) (by decide) (by decide) arg2 harg2 arg3 harg3 arg5 harg5 x0 x1 x3 _ _ rfl _ _ (off1 i 5) _ _ (off2 i 5 2) _ rfl (by decide) y _ rfl) ?_
  refine View.allAt_cons_unit _ _ _ _ _ (tile_s (i 1) 0 5 0 1 (by decide) (by decide) (by decide) (by decide) arg2 harg2 arg3 harg3 arg5 harg5 x0 x1 x3 _ _ rfl _ _ (off1 i 5) _ _ (off2 i 5 1) _ rfl (by decide) y _ rfl) ?_
  refine View.allAt_cons_unit _ _ _ _ _ (tile_s (i 1) 0 5 0 0 (by decide) (by decide) (by decide) (by decide) arg2 harg2 arg3 harg3 arg5 harg5 x0 x1 x3 _ _ rfl _ _ (off1 i 5) _ _ (off2 i 5 0) _ rfl (by decide) y _ rfl) ?_
  refine View.allAt_cons_unit _ _ _ _ _ (tile_s (i 1) 0 4 1 3 (by decide) (by decide) (by decide) (by decide) arg2 harg2 arg3 harg3 arg5 harg5 x0 x1 x3 _ _ rfl _ _ (off1 i 4) _ _ (off3 i 4 3) _ rfl (by decide) y _ rfl) ?_
  refine View.allAt_cons_unit _ _ _ _ _ (tile_s (i 1) 0 4 1 2 (by decide) (by decide) (by decide) (by decide) arg2 harg2 arg3 harg3 arg5 harg5 x0 x1 x3 _ _ rfl _ _ (off1 i 4) _ _ (off3 i 4 2) _ rfl (by decide) y _ rfl) ?_
  refine View.allAt_cons_unit _ _ _ _ _ (tile_s (i 1) 0 4 1 1 (by decide) (by decide) (by decide) (by decide) arg2 harg2 arg3 harg3 arg5 harg5 x0 x1 x3 _ _ rfl _ _ (off1 i 4) _ _ (off3 i 4 1) _ rfl (by decide) y _ rfl) ?_
  refine View.allAt_cons_unit _ _ _ _ _ (tile_s (i 1) 0 4 1 0 (by decide) (by decide) (by decide) (by decide) arg2 harg2 arg3 harg3 arg5 harg5 x0 x1 x3 _ _ rfl _ _ (off1 i 4) _ _ (off3 i 4 0) _ rfl (by decide) y _ rfl) ?_
  refine View.allAt_cons_unit _ _ _ _ _ (tile_s (i 1) 0 4 0 3 (by decide) (by decide) (by decide) (by decide) arg2 harg2 arg3 harg3 arg5 harg5 x0 x1 x3 _ _ rfl _ _ (off1 i 4) _ _ (off2 i 4 3) _ rfl (by decide) y _ rfl) ?_
  refine View.allAt_cons_unit _ _ _ _ _ (tile_s (i 1) 0 4 0 2 (by decide) (by decide) (by decide) (by decide) arg2 harg2 arg3 harg3 arg5 harg5 x0 x1 x3 _ _ rfl _ _ (off1 i 4) _ _ (off2 i 4 2) _ rfl (by decide) y _ rfl) ?_
  refine View.allAt_cons_unit _ _ _ _ _ (tile_s (i 1) 0 4 0 1 (by decide) (by decide) (by decide) (by decide) arg2 harg2 arg3 harg3 arg5 harg5 x0 x1 x3 _ _ rfl _ _ (off1 i 4) _ _ (off2 i 4 1) _ rfl (by decide) y _ rfl) ?_
  refine View.allAt_cons_unit _ _ _ _ _ (tile_s (i 1) 0 4 0 0 (by decide) (by decide) (by decide) (by decide) arg2 harg2 arg3 harg3 arg5 harg5 x0 x1 x3 _ _ rfl _ _ (off1 i 4) _ _ (off2 i 4 0) _ rfl (by decide) y _ rfl) ?_
  refine View.allAt_cons_unit _ _ _ _ _ (tile_s (i 1) 0 3 1 3 (by decide) (by decide) (by decide) (by decide) arg2 harg2 arg3 harg3 arg5 harg5 x0 x1 x3 _ _ rfl _ _ (off1 i 3) _ _ (off3 i 3 3) _ rfl (by decide) y _ rfl) ?_
  refine View.allAt_cons_unit _ _ _ _ _ (tile_s (i 1) 0 3 1 2 (by decide) (by decide) (by decide) (by decide) arg2 harg2 arg3 harg3 arg5 harg5 x0 x1 x3 _ _ rfl _ _ (off1 i 3) _ _ (off3 i 3 2) _ rfl (by decide) y _ rfl) ?_
  refine View.allAt_cons_unit _ _ _ _ _ (tile_s (i 1) 0 3 1 1 (by decide) (by decide) (by decide) (by decide) arg2 harg2 arg3 harg3 arg5 harg5 x0 x1 x3 _ _ rfl _ _ (off1 i 3) _ _ (off3 i 3 1) _ rfl (by decide) y _ rfl) ?_
  refine View.allAt_cons_unit _ _ _ _ _ (tile_s (i 1) 0 3 1 0 (by decide) (by decide) (by decide) (by decide) arg2 harg2 arg3 harg3 arg5 harg5 x0 x1 x3 _ _ rfl _ _ (off1 i 3) _ _ (off3 i 3 0) _ rfl (by decide) y _ rfl) ?_
  refine View.allAt_cons_unit _ _ _ _ _ (tile_s (i 1) 0 3 0 3 (by decide) (by decide) (by decide) (by decide) arg2 harg2 arg3 harg3 arg5 harg5 x0 x1 x3 _ _ rfl _ _ (off1 i 3) _ _ (off2 i 3 3) _ rfl (by decide) y _ rfl) ?_
  refine View.allAt_cons_unit _ _ _ _ _ (tile_s (i 1) 0 3 0 2 (by decide) (by decide) (by decide) (by decide) arg2 harg2 arg3 harg3 arg5 harg5 x0 x1 x3 _ _ rfl _ _ (off1 i 3) _ _ (off2 i 3 2) _ rfl (by decide) y _ rfl) ?_
  refine View.allAt_cons_unit _ _ _ _ _ (tile_s (i 1) 0 3 0 1 (by decide) (by decide) (by decide) (by decide) arg2 harg2 arg3 harg3 arg5 harg5 x0 x1 x3 _ _ rfl _ _ (off1 i 3) _ _ (off2 i 3 1) _ rfl (by decide) y _ rfl) ?_
  refine View.allAt_cons_unit _ _ _ _ _ (tile_s (i 1) 0 3 0 0 (by decide) (by decide) (by decide) (by decide) arg2 harg2 arg3 harg3 arg5 harg5 x0 x1 x3 _ _ rfl _ _ (off1 i 3) _ _ (off2 i 3 0) _ rfl (by decide) y _ rfl) ?_
  refine View.allAt_cons_unit _ _ _ _ _ (tile_s (i 1) 0 2 1 3 (by decide) (by decide) (by decide) (by decide) arg2 harg2 arg3 harg3 arg5 harg5 x0 x1 x3 _ _ rfl _ _ (off1 i 2) _ _ (off3 i 2 3) _ rfl (by decide) y _ rfl) ?_
  refine View.allAt_cons_unit _ _ _ _ _ (tile_s (i 1) 0 2 1 2 (by decide) (by decide) (by decide) (by decide) arg2 harg2 arg3 harg3 arg5 harg5 x0 x1 x3 _ _ rfl _ _ (off1 i 2) _ _ (off3 i 2 2) _ rfl (by decide) y _ rfl) ?_
  refine View.allAt_cons_unit _ _ _ _ _ (tile_s (i 1) 0 2 1 1 (by decide) (by decide) (by decide) (by decide) arg2 harg2 arg3 harg3 arg5 harg5 x0 x1 x3 _ _ rfl _ _ (off1 i 2) _ _ (off3 i 2 1) _ rfl (by decide) y _ rfl) ?_
  refine View.allAt_cons_unit _ _ _ _ _ (tile_s (i 1) 0 2 1 0 (by decide) (by decide) (by decide) (by decide) arg2 harg2 arg3 harg3 arg5 harg5 x0 x1 x3 _ _ rfl _ _ (off1 i 2) _ _ (off3 i 2 0) _ rfl (by decide) y _ rfl) ?_
  refine View.allAt_cons_unit _ _ _ _ _ (tile_s (i 1) 0 2 0 3 (by decide) (by decide) (by decide) (by decide) arg2 harg2 arg3 harg3 arg5 harg5 x0 x1 x3 _ _ rfl _ _ (off1 i 2) _ _ (off2 i 2 3) _ rfl (by decide) y _ rfl) ?_
  refine View.allAt_cons_unit _ _ _ _ _ (tile_s (i 1) 0 2 0 2 (by decide) (by decide) (by decide) (by decide) arg2 harg2 arg3 harg3 arg5 harg5 x0 x1 x3 _ _ rfl _ _ (off1 i 2) _ _ (off2 i 2 2) _ rfl (by decide) y _ rfl) ?_
  refine View.allAt_cons_unit _ _ _ _ _ (tile_s (i 1) 0 2 0 1 (by decide) (by decide) (by decide) (by decide) arg2 harg2 arg3 harg3 arg5 harg5 x0 x1 x3 _ _ rfl _ _ (off1 i 2) _ _ (off2 i 2 1) _ rfl (by decide) y _ rfl) ?_
  refine View.allAt_cons_unit _ _ _ _ _ (tile_s (i 1) 0 2 0 0 (by decide) (by decide) (by decide) (by decide) arg2 harg2 arg3 harg3 arg5 harg5 x0 x1 x3 _ _ rfl _ _ (off1 i 2) _ _ (off2 i 2 0) _ rfl (by decide) y _ rfl) ?_
  refine View.allAt_cons_unit _ _ _ _ _ (tile_s (i 1) 0 1 1 3 (by decide) (by decide) (by decide) (by decide) arg2 harg2 arg3 harg3 arg5 harg5 x0 x1 x3 _ _ rfl _ _ (off1 i 1) _ _ (off3 i 1 3) _ rfl (by decide) y _ rfl) ?_
  refine View.allAt_cons_unit _ _ _ _ _ (tile_s (i 1) 0 1 1 2 (by decide) (by decide) (by decide) (by decide) arg2 harg2 arg3 harg3 arg5 harg5 x0 x1 x3 _ _ rfl _ _ (off1 i 1) _ _ (off3 i 1 2) _ rfl (by decide) y _ rfl) ?_
  refine View.allAt_cons_unit _ _ _ _ _ (tile_s (i 1) 0 1 1 1 (by decide) (by decide) (by decide) (by decide) arg2 harg2 arg3 harg3 arg5 harg5 x0 x1 x3 _ _ rfl _ _ (off1 i 1) _ _ (off3 i 1 1) _ rfl (by decide) y _ rfl) ?_
  refine View.allAt_cons_unit _ _ _ _ _ (tile_s (i 1) 0 1 1 0 (by decide) (by decide) (by decide) (by decide) arg2 harg2 arg3 harg3 arg5 harg5 x0 x1 x3 _ _ rfl _ _ (off1 i 1) _ _ (off3 i 1 0) _ rfl (by decide) y _ rfl) ?_
  refine View.allAt_cons_unit _ _ _ _ _ (tile_s (i 1) 0 1 0 3 (by decide) (by decide) (by decide) (by decide) arg2 harg2 arg3 harg3 arg5 harg5 x0 x1 x3 _ _ rfl _ _ (off1 i 1) _ _ (off2 i 1 3) _ rfl (by decide) y _ rfl) ?_
  refine View.allAt_cons_unit _ _ _ _ _ (tile_s (i 1) 0 1 0 2 (by decide) (by decide) (by decide) (by decide) arg2 harg2 arg3 harg3 arg5 harg5 x0 x1 x3 _ _ rfl _ _ (off1 i 1) _ _ (off2 i 1 2) _ rfl (by decide) y _ rfl) ?_
  refine View.allAt_cons_unit _ _ _ _ _ (tile_s (i 1) 0 1 0 1 (by decide) (by decide) (by decide) (by decide) arg2 harg2 arg3 harg3 arg5 harg5 x0 x1 x3 _ _ rfl _ _ (off1 i 1) _ _ (off2 i 1 1) _ rfl (by decide) y _ rfl) ?_
  refine View.allAt_cons_unit _ _ _ _ _ (tile_s (i 1) 0 1 0 0 (by decide) (by decide) (by decide) (by decide) arg2 harg2 arg3 harg3 arg5 harg5 x0 x1 x3 _ _ rfl _ _ (off1 i 1) _ _ (off2 i 1 0) _ rfl (by decide) y _ rfl) ?_
  refine View.allAt_cons_unit _ _ _ _ _ (tile_s (i 1) 0 0 1 3 (by decide) (by decide) (by decide) (by decide) arg2 harg2 arg3 harg3 arg5 harg5 x0 x1 x3 _ _ rfl _ _ (off1 i 0) _ _ (off3 i 0 3) _ rfl (by decide) y _ rfl) ?_
  refine View.allAt_cons_unit _ _ _ _ _ (tile_s (i 1) 0 0 1 2 (by decide) (by decide) (by decide) (by decide) arg2 harg2 arg3 harg3 arg5 harg5 x0 x1 x3 _ _ rfl _ _ (off1 i 0) _ _ (off3 i 0 2) _ rfl (by decide) y _ rfl) ?_
  refine View.allAt_cons_unit _ _ _ _ _ (tile_s (i 1) 0 0 1 1 (by decide) (by decide) (by decide) (by decide) arg2 harg2 arg3 harg3 arg5 harg5 x0 x1 x3 _ _ rfl _ _ (off1 i 0) _ _ (off3 i 0 1) _ rfl (by decide) y _ rfl) ?_
  refine View.allAt_cons_unit _ _ _ _ _ (tile_s (i 1) 0 0 1 0 (by decide) (by decide) (by decide) (by decide) arg2 harg2 arg3 harg3 arg5 harg5 x0 x1 x3 _ _ rfl _ _ (off1 i 0) _ _ (off3 i 0 0) _ rfl (by decide) y _ rfl) ?_
  refine View.allAt_cons_unit _ _ _ _ _ (tile_s (i 1) 0 0 0 3 (by decide) (by decide) (by decide) (by decide) arg2 harg2 arg3 harg3 arg5 harg5 x0 x1 x3 _ _ rfl _ _ (off1 i 0) _ _ (off2 i 0 3) _ rfl (by decide) y _ rfl) ?_
  refine View.allAt_cons_unit _ _ _ _ _ (tile_s (i 1) 0 0 0 2 (by decide) (by decide) (by decide) (by decide) arg2 harg2 arg3 harg3 arg5 harg5 x0 x1 x3 _ _ rfl _ _ (off1 i 0) _ _ (off2 i 0 2) _ rfl (by decide) y _ rfl) ?_
  refine View.allAt_cons_unit _ _ _ _ _ (tile_s (i 1) 0 0 0 1 (by decide) (by decide) (by decide) (by decide) arg2 harg2 arg3 harg3 arg5 harg5 x0 x1 x3 _ _ rfl _ _ (off1 i 0) _ _ (off2 i 0 1) _ rfl (by decide) y _ rfl) ?_
  refine View.allAt_cons_unit _ _ _ _ _ (tile_s (i 1) 0 0 0 0 (by decide) (by decide) (by decide) (by decide) arg2 harg2 arg3 harg3 arg5 harg5 x0 x1 x3 _ _ rfl _ _ (off1 i 0) _ _ (off2 i 0 0) _ rfl (by decide) y _ rfl) ?_
  exact View.allAt_nil _ _

theorem canon_s0 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.canon (Val := Elt Ideal) (e := .f32) (HS0_64 c i arg2 harg2 arg3 harg3 arg5 harg5 x0 x1 x3) y = gs (i 1).val x0 x1 x3 0 (y 0).val (y 1).val :=
  View.canon_eq_of_allAt _ y _ (View.cover_of_tiledL (HS0_64 c i arg2 harg2 arg3 harg3 arg5 harg5 x0 x1 x3) S128x128.size (by sl_kernel_rfl) y) (all_s0 c i arg2 harg2 arg3 harg3 arg5 harg5 x0 x1 x3 y)

/-- The weights written for group 0 of heads. -/
theorem all_p0 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg7 : Memref sig Kind.tc Space.vmem S2048x512 .f32) (x0 : Vec Ideal S1x512x1024 .bf16) (x1 : Vec Ideal S1x1024x1024 .bf16) (x3 : Vec Ideal S8x14x128x128 .f32) (y : S2048x512.Idx) :
    View.AllAt (Val := Elt Ideal) (e := .bf16) (HS2_8 c i arg2 harg2 arg3 harg3 arg5 harg5 arg7 x0 x1 x3) y (gp (i 1).val x0 x1 x3 0 (y 0).val (y 1).val) := by
  refine View.allAt_cons_unit _ _ _ _ _ (tile_pc (i 1).val 0 7 arg7 x0 x1 x3 _ (canon_s0 c i arg2 harg2 arg3 harg3 arg5 harg5 x0 x1 x3) _ (by decide) rfl y _ rfl) ?_
  refine View.allAt_cons_unit _ _ _ _ _ (tile_pc (i 1).val 0 6 arg7 x0 x1 x3 _ (canon_s0 c i arg2 harg2 arg3 harg3 arg5 harg5 x0 x1 x3) _ (by decide) rfl y _ rfl) ?_
  refine View.allAt_cons_unit _ _ _ _ _ (tile_pc (i 1).val 0 5 arg7 x0 x1 x3 _ (canon_s0 c i arg2 harg2 arg3 harg3 arg5 harg5 x0 x1 x3) _ (by decide) rfl y _ rfl) ?_
  refine View.allAt_cons_unit _ _ _ _ _ (tile_pc (i 1).val 0 4 arg7 x0 x1 x3 _ (canon_s0 c i arg2 harg2 arg3 harg3 arg5 harg5 x0 x1 x3) _ (by decide) rfl y _ rfl) ?_
  refine View.allAt_cons_unit _ _ _ _ _ (tile_pc (i 1).val 0 3 arg7 x0 x1 x3 _ (canon_s0 c i arg2 harg2 arg3 harg3 arg5 harg5 x0 x1 x3) _ (by decide) rfl y _ rfl) ?_
  refine View.allAt_cons_unit _ _ _ _ _ (tile_pc (i 1).val 0 2 arg7 x0 x1 x3 _ (canon_s0 c i arg2 harg2 arg3 harg3 arg5 harg5 x0 x1 x3) _ (by decide) rfl y _ rfl) ?_
  refine View.allAt_cons_unit _ _ _ _ _ (tile_pc (i 1).val 0 1 arg7 x0 x1 x3 _ (canon_s0 c i arg2 harg2 arg3 harg3 arg5 harg5 x0 x1 x3) _ (by decide) rfl y _ rfl) ?_
  refine View.allAt_cons_unit _ _ _ _ _ (tile_pc (i 1).val 0 0 arg7 x0 x1 x3 _ (canon_s0 c i arg2 harg2 arg3 harg3 arg5 harg5 x0 x1 x3) _ (by decide) rfl y _ rfl) ?_
  exact View.allAt_nil _ _

theorem canon_p0 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg7 : Memref sig Kind.tc Space.vmem S2048x512 .f32) (x0 : Vec Ideal S1x512x1024 .bf16) (x1 : Vec Ideal S1x1024x1024 .bf16) (x3 : Vec Ideal S8x14x128x128 .f32) (y : S2048x512.Idx) :
    View.canon (Val := Elt Ideal) (e := .bf16) (HS2_8 c i arg2 harg2 arg3 harg3 arg5 harg5 arg7 x0 x1 x3) y = gp (i 1).val x0 x1 x3 0 (y 0).val (y 1).val :=
  View.canon_eq_of_allAt _ y _ (View.cover_of_tiledL (HS2_8 c i arg2 harg2 arg3 harg3 arg5 harg5 arg7 x0 x1 x3) S256x512.size (by sl_kernel_rfl) y) (all_p0 c i arg2 harg2 arg3 harg3 arg5 harg5 arg7 x0 x1 x3 y)

end Cert.KernelIdeal.NA
end
end
-- ==== Proof.NaS1.lean ====
module
public import proofs.«01_k».proof.Proof.NaBase

@[expose] public section
set_option maxRecDepth 65536
noncomputable section
open Idealize.ShloMosaic Idealize.ShloMosaic.TcCoe Idealize.SL.Sem
namespace Cert.KernelIdeal.NA
open Cert.KernelIdeal Cert.KernelIdeal.Gen Cert.KernelIdeal.Gen.kernelRun1_A.sl

/-- The scores written for group 1 of heads. -/
theorem all_s1 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.AllAt (Val := Elt Ideal) (e := .f32) (HS1_64 c i arg2 harg2 arg3 harg3 arg5 harg5 x0 x1 x3) y (gs (i 1).val x0 x1 x3 1 (y 0).val (y 1).val) := by
  refine View.allAt_cons_unit _ _ _ _ _ (tile_s (i 1) 1 7 1 3 (by decide) (by decide) (by decide) (by decide) arg2 harg2 arg3 harg3 arg5 harg5 x0 x1 x3 _ _ rfl _ _ (off6 i 7) _ _ (off8 i 7 3) _ rfl (by decide) y _ rfl) ?_
  refine View.allAt_cons_unit _ _ _ _ _ (tile_s (i 1) 1 7 1 2 (by decide) (by decide) (by decide) (by decide) arg2 harg2 arg3 harg3 arg5 harg5 x0 x1 x3 _ _ rfl _ _ (off6 i 7) _ _ (off8 i 7 2) _ rfl (by decide) y _ rfl) ?_
  refine View.allAt_cons_unit _ _ _ _ _ (tile_s (i 1) 1 7 1 1 (by decide) (by decide) (by decide) (by decide) arg2 harg2 arg3 harg3 arg5 harg5 x0 x1 x3 _ _ rfl _ _ (off6 i 7) _ _ (off8 i 7 1) _ rfl (by decide) y _ rfl) ?_
  refine View.allAt_cons_unit _ _ _ _ _ (tile_s (i 1) 1 7 1 0 (by decide) (by decide) (by decide) (by decide) arg2 harg2 arg3 harg3 arg5 harg5 x0 x1 x3 _ _ rfl _ _ (off6 i 7) _ _ (off8 i 7 0) _ rfl (by decide) y _ rfl) ?_
  refine View.allAt_cons_unit _ _ _ _ _ (tile_s (i 1) 1 7 0 3 (by decide) (by decide) (by decide) (by decide) arg2 harg2 arg3 harg3 arg5 harg5 x0 x1 x3 _ _ rfl _ _ (off6 i 7) _ _ (off7 i 7 3) _ rfl (by decide) y _ rfl) ?_
  refine View.allAt_cons_unit _ _ _ _ _ (tile_s (i 1) 1 7 0 2 (by decide) (by decide) (by decide) (by decide) arg2 harg2 arg3 harg3 arg5 harg5 x0 x1 x3 _ _ rfl _ _ (off6 i 7) _ _ (off7 i 7 2) _ rfl (by decide) y _ rfl) ?_
  refine View.allAt_cons_unit _ _ _ _ _ (tile_s (i 1) 1 7 0 1 (by decide) (by decide) (by decide) (by decide) arg2 harg2 arg3 harg3 arg5 harg5 x0 x1 x3 _ _ rfl _ _ (off6 i 7) _ _ (off7 i 7 1) _ rfl (by decide) y _ rfl) ?_
  refine View.allAt_cons_unit _ _ _ _ _ (tile_s (i 1) 1 7 0 0 (by decide) (by decide) (by decide) (by decide) arg2 harg2 arg3 harg3 arg5 harg5 x0 x1 x3 _ _ rfl _ _ (off6 i 7) _ _ (off7 i 7 0) _ rfl (by decide) y _ rfl) ?_
  refine View.allAt_cons_unit _ _ _ _ _ (tile_s (i 1) 1 6 1 3 (by decide) (by decide) (by decide) (by decide) arg2 harg2 arg3 harg3 arg5 harg5 x0 x1 x3 _ _ rfl _ _ (off6 i 6) _ _ (off8 i 6 3) _ rfl (by decide) y _ rfl) ?_
  refine View.allAt_cons_unit _ _ _ _ _ (tile_s (i 1) 1 6 1 2 (by decide) (by decide) (by decide) (by decide) arg2 harg2 arg3 harg3 arg5 harg5 x0 x1 x3 _ _ rfl _ _ (off6 i 6) _ _ (off8 i 6 2) _ rfl (by decide) y _ rfl) ?_
  refine View.allAt_cons_unit _ _ _ _ _ (tile_s (i 1) 1 6 1 1 (by decide) (by decide) (by decide) (by decide) arg2 harg2 arg3 harg3 arg5 harg5 x0 x1 x3 _ _ rfl _ _ (off6 i 6) _ _ (off8 i 6 1) _ rfl (by decide) y _ rfl) ?_
  refine View.allAt_cons_unit _ _ _ _ _ (tile_s (i 1) 1 6 1 0 (by decide) (by decide) (by decide) (by decide) arg2 harg2 arg3 harg3 arg5 harg5 x0 x1 x3 _ _ rfl _ _ (off6 i 6) _ _ (off8 i 6 0) _ rfl (by decide) y _ rfl) ?_
  refine View.allAt_cons_unit _ _ _ _ _ (tile_s (i 1) 1 6 0 3 (by decide) (by decide) (by decide) (by decide) arg2 harg2 arg3 harg3 arg5 harg5 x0 x1 x3 _ _ rfl _ _ (off6 i 6) _ _ (off7 i 6 3) _ rfl (by decide) y _ rfl) ?_
  refine View.allAt_cons_unit _ _ _ _ _ (tile_s (i 1) 1 6 0 2 (by decide) (by decide) (by decide) (by decide) arg2 harg2 arg3 harg3 arg5 harg5 x0 x1 x3 _ _ rfl _ _ (off6 i 6) _ _ (off7 i 6 2) _ rfl (by decide) y _ rfl) ?_
  refine View.allAt_cons_unit _ _ _ _ _ (tile_s (i 1) 1 6 0 1 (by decide) (by decide) (by decide) (by decide) arg2 harg2 arg3 harg3 arg5 harg5 x0 x1 x3 _ _ rfl _ _ (off6 i 6) _ _ (off7 i 6 1) _ rfl (by decide) y _ rfl) ?_
  refine View.allAt_cons_unit _ _ _ _ _ (tile_s (i 1) 1 6 0 0 (by decide) (by decide) (by decide) (by decide) arg2 harg2 arg3 harg3 arg5 harg5 x0 x1 x3 _ _ rfl _ _ (off6 i 6) _ _ (off7 i 6 0) _ rfl (by decide) y _ rfl) ?_
  refine View.allAt_cons_unit _ _ _ _ _ (tile_s (i 1) 1 5 1 3 (by decide) (by decide) (by decide) (by decide) arg2 harg2 arg3 harg3 arg5 harg5 x0 x1 x3 _ _ rfl _ _ (off6 i 5) _ _ (off8 i 5 3) _ rfl (by decide) y _ rfl) ?_
  refine View.allAt_cons_unit _ _ _ _ _ (tile_s (i 1) 1 5 1 2 (by decide) (by decide) (by decide) (by decide) arg2 harg2 arg3 harg3 arg5 harg5 x0 x1 x3 _ _ rfl _ _ (off6 i 5) _ _ (off8 i 5 2) _ rfl (by decide) y _ rfl) ?_
  refine View.allAt_cons_unit _ _ _ _ _ (tile_s (i 1) 1 5 1 1 (by decide) (by decide) (by decide) (by decide) arg2 harg2 arg3 harg3 arg5 harg5 x0 x1 x3 _ _ rfl _ _ (off6 i 5) _ _ (off8 i 5 1) _ rfl (by decide) y _ rfl) ?_
  refine View.allAt_cons_unit _ _ _ _ _ (tile_s (i 1) 1 5 1 0 (by decide) (by decide) (by decide) (by decide) arg2 harg2 arg3 harg3 arg5 harg5 x0 x1 x3 _ _ rfl _ _ (off6 i 5) _ _ (off8 i 5 0) _ rfl (by decide) y _ rfl) ?_
  refine View.allAt_cons_unit _ _ _ _ _ (tile_s (i 1) 1 5 0 3 (by decide) (by decide) (by decide) (by decide) arg2 harg2 arg3 harg3 arg5 harg5 x0 x1 x3 _ _ rfl _ _ (off6 i 5) _ _ (off7 i 5 3) _ rfl (by decide) y _ rfl) ?_
  refine View.allAt_cons_unit _ _ _ _ _ (tile_s (i 1) 1 5 0 2 (by decide) (by decide) (by decide) (by decide) arg2 harg2 arg3 harg3 arg5 harg5 x0 x1 x3 _ _ rfl _ _ (off6 i 5) _ _ (off7 i 5 2) _ rfl (by decide) y _ rfl) ?_
  refine View.allAt_cons_unit _ _ _ _ _ (tile_s (i 1) 1 5 0 1 (by decide) (by decide) (by decide) (by decide) arg2 harg2 arg3 harg3 arg5 harg5 x0 x1 x3 _ _ rfl _ _ (off6 i 5) _ _ (off7 i 5 1) _ rfl (by decide) y _ rfl) ?_
  refine View.allAt_cons_unit _ _ _ _ _ (tile_s (i 1) 1 5 0 0 (by decide) (by decide) (by decide) (by decide) arg2 harg2 arg3 harg3 arg5 harg5 x0 x1 x3 _ _ rfl _ _ (off6 i 5) _ _ (off7 i 5 0) _ rfl (by decide) y _ rfl) ?_
  refine View.allAt_cons_unit _ _ _ _ _ (tile_s (i 1) 1 4 1 3 (by decide) (by decide) (by decide) (by decide) arg2 harg2 arg3 harg3 arg5 harg5 x0 x1 x3 _ _ rfl _ _ (off6 i 4) _ _ (off8 i 4 3) _ rfl (by decide) y _ rfl) ?_
  refine View.allAt_cons_unit _ _ _ _ _ (tile_s (i 1) 1 4 1 2 (by decide) (by decide) (by decide) (by decide) arg2 harg2 arg3 harg3 arg5 harg5 x0 x1 x3 _ _ rfl _ _ (off6 i 4) _ _ (off8 i 4 2) _ rfl (by decide) y _ rfl) ?_
  refine View.allAt_cons_unit _ _ _ _ _ (tile_s (i 1) 1 4 1 1 (by decide) (by decide) (by decide) (by decide) arg2 harg2 arg3 harg3 arg5 harg5 x0 x1 x3 _ _ rfl _ _ (off6 i 4) _ _ (off8 i 4 1) _ rfl (by decide) y _ rfl) ?_
  refine View.allAt_cons_unit _ _ _ _ _ (tile_s (i 1) 1 4 1 0 (by decide) (by decide) (by decide) (by decide) arg2 harg2 arg3 harg3 arg5 harg5 x0 x1 x3 _ _ rfl _ _ (off6 i 4) _ _ (off8 i 4 0) _ rfl (by decide) y _ rfl) ?_
  refine View.allAt_cons_unit _ _ _ _ _ (tile_s (i 1) 1 4 0 3 (by decide) (by decide) (by decide) (by decide) arg2 harg2 arg3 harg3 arg5 harg5 x0 x1 x3 _ _ rfl _ _ (off6 i 4) _ _ (off7 i 4 3) _ rfl (by decide) y _ rfl) ?_
  refine View.allAt_cons_unit _ _ _ _ _ (tile_s (i 1) 1 4 0 2 (by decide) (by decide) (by decide) (by decide) arg2 harg2 arg3 harg3 arg5 harg5 x0 x1 x3 _ _ rfl _ _ (off6 i 4) _ _ (off7 i 4 2) _ rfl (by decide) y _ rfl) ?_
  refine View.allAt_cons_unit _ _ _ _ _ (tile_s (i 1) 1 4 0 1 (by decide) (by decide) (by decide) (by decide) arg2 harg2 arg3 harg3 arg5 harg5 x0 x1 x3 _ _ rfl _ _ (off6 i 4) _ _ (off7 i 4 1) _ rfl (by decide) y _ rfl) ?_
  refine View.allAt_cons_unit _ _ _ _ _ (tile_s (i 1) 1 4 0 0 (by decide) (by decide) (by decide) (by decide) arg2 harg2 arg3 harg3 arg5 harg5 x0 x1 x3 _ _ rfl _ _ (off6 i 4) _ _ (off7 i 4 0) _ rfl (by decide) y _ rfl) ?_
  refine View.allAt_cons_unit _ _ _ _ _ (tile_s (i 1) 1 3 1 3 (by decide) (by decide) (by decide) (by decide) arg2 harg2 arg3 harg3 arg5 harg5 x0 x1 x3 _ _ rfl _ _ (off6 i 3) _ _ (off8 i 3 3) _ rfl (by decide) y _ rfl) ?_
  refine View.allAt_cons_unit _ _ _ _ _ (tile_s (i 1) 1 3 1 2 (by decide) (by decide) (by decide) (by decide) arg2 harg2 arg3 harg3 arg5 harg5 x0 x1 x3 _ _ rfl _ _ (off6 i 3) _ _ (off8 i 3 2) _ rfl (by decide) y _ rfl) ?_
  refine View.allAt_cons_unit _ _ _ _ _ (tile_s (i 1) 1 3 1 1 (by decide) (by decide) (by decide) (by decide) arg2 harg2 arg3 harg3 arg5 harg5 x0 x1 x3 _ _ rfl _ _ (off6 i 3) _ _ (off8 i 3 1) _ rfl (by decide) y _ rfl) ?_
  refine View.allAt_cons_unit _ _ _ _ _ (tile_s (i 1) 1 3 1 0 (by decide) (by decide) (by decide) (by decide) arg2 harg2 arg3 harg3 arg5 harg5 x0 x1 x3 _ _ rfl _ _ (off6 i 3) _ _ (off8 i 3 0) _ rfl (by decide) y _ rfl) ?_
  refine View.allAt_cons_unit _ _ _ _ _ (tile_s (i 1) 1 3 0 3 (by decide) (by decide) (by decide) (by decide) arg2 harg2 arg3 harg3 arg5 harg5 x0 x1 x3 _ _ rfl _ _ (off6 i 3) _ _ (off7 i 3 3) _ rfl (by decide) y _ rfl) ?_
  refine View.allAt_cons_unit _ _ _ _ _ (tile_s (i 1) 1 3 0 2 (by decide) (by decide) (by decide) (by decide) arg2 harg2 arg3 harg3 arg5 harg5 x0 x1 x3 _ _ rfl _ _ (off6 i 3) _ _ (off7 i 3 2) _ rfl (by decide) y _ rfl) ?_
  refine View.allAt_cons_unit _ _ _ _ _ (tile_s (i 1) 1 3 0 1 (by decide) (by decide) (by decide) (by decide) arg2 harg2 arg3 harg3 arg5 harg5 x0 x1 x3 _ _ rfl _ _ (off6 i 3) _ _ (off7 i 3 1) _ rfl (by decide) y _ rfl) ?_
  refine View.allAt_cons_unit _ _ _ _ _ (tile_s (i 1) 1 3 0 0 (by decide) (by decide) (by decide) (by decide) arg2 harg2 arg3 harg3 arg5 harg5 x0 x1 x3 _ _ rfl _ _ (off6 i 3) _ _ (off7 i 3 0) _ rfl (by decide) y _ rfl) ?_
  refine View.allAt_cons_unit _ _ _ _ _ (tile_s (i 1) 1 2 1 3 (by decide) (by decide) (by decide) (by decide) arg2 harg2 arg3 harg3 arg5 harg5 x0 x1 x3 _ _ rfl _ _ (off6 i 2) _ _ (off8 i 2 3) _ rfl (by decide) y _ rfl) ?_
  refine View.allAt_cons_unit _ _ _ _ _ (tile_s (i 1) 1 2 1 2 (by decide) (by decide) (by decide) (by decide) arg2 harg2 arg3 harg3 arg5 harg5 x0 x1 x3 _ _ rfl _ _ (off6 i 2) _ _ (off8 i 2 2) _ rfl (by decide) y _ rfl) ?_
  refine View.allAt_cons_unit _ _ _ _ _ (tile_s (i 1) 1 2 1 1 (by decide) (by decide) (by decide) (by decide) arg2 harg2 arg3 harg3 arg5 harg5 x0 x1 x3 _ _ rfl _ _ (off6 i 2) _ _ (off8 i 2 1) _ rfl (by decide) y _ rfl) ?_
  refine View.allAt_cons_unit _ _ _ _ _ (tile_s (i 1) 1 2 1 0 (by decide) (by decide) (by decide) (by decide) arg2 harg2 arg3 harg3 arg5 harg5 x0 x1 x3 _ _ rfl _ _ (off6 i 2) _ _ (off8 i 2 0) _ rfl (by decide) y _ rfl) ?_
  refine View.allAt_cons_unit _ _ _ _ _ (tile_s (i 1) 1 2 0 3 (by decide) (by decide) (by decide) (by decide) arg2 harg2 arg3 harg3 arg5 harg5 x0 x1 x3 _ _ rfl _ _ (off6 i 2) _ _ (off7 i 2 3) _ rfl (by decide) y _ rfl) ?_
  refine View.allAt_cons_unit _ _ _ _ _ (tile_s (i 1) 1 2 0 2 (by decide) (by decide) (by decide) (by decide) arg2 harg2 arg3 harg3 arg5 harg5 x0 x1 x3 _ _ rfl _ _ (off6 i 2) _ _ (off7 i 2 2) _ rfl (by decide) y _ rfl) ?_
  refine View.allAt_cons_unit _ _ _ _ _ (tile_s (i 1) 1 2 0 1 (by decide) (by decide) (by decide) (by decide) arg2 harg2 arg3 harg3 arg5 harg5 x0 x1 x3 _ _ rfl _ _ (off6 i 2) _ _ (off7 i 2 1) _ rfl (by decide) y _ rfl) ?_
  refine View.allAt_cons_unit _ _ _ _ _ (tile_s (i 1) 1 2 0 0 (by decide) (by decide) (by decide) (by decide) arg2 harg2 arg3 harg3 arg5 harg5 x0 x1 x3 _ _ rfl _ _ (off6 i 2) _ _ (off7 i 2 0) _ rfl (by decide) y _ rfl) ?_
  refine View.allAt_cons_unit _ _ _ _ _ (tile_s (i 1) 1 1 1 3 (by decide) (by decide) (by decide) (by decide) arg2 harg2 arg3 harg3 arg5 harg5 x0 x1 x3 _ _ rfl _ _ (off6 i 1) _ _ (off8 i 1 3) _ rfl (by decide) y _ rfl) ?_
  refine View.allAt_cons_unit _ _ _ _ _ (tile_s (i 1) 1 1 1 2 (by decide) (by decide) (by decide) (by decide) arg2 harg2 arg3 harg3 arg5 harg5 x0 x1 x3 _ _ rfl _ _ (off6 i 1) _ _ (off8 i 1 2) _ rfl (by decide) y _ rfl) ?_
  refine View.allAt_cons_unit _ _ _ _ _ (tile_s (i 1) 1 1 1 1 (by decide) (by decide) (by decide) (by decide) arg2 harg2 arg3 harg3 arg5 harg5 x0 x1 x3 _ _ rfl _ _ (off6 i 1) _ _ (off8 i 1 1) _ rfl (by decide) y _ rfl) ?_
  refine View.allAt_cons_unit _ _ _ _ _ (tile_s (i 1) 1 1 1 0 (by decide) (by decide) (by decide) (by decide) arg2 harg2 arg3 harg3 arg5 harg5 x0 x1 x3 _ _ rfl _ _ (off6 i 1) _ _ (off8 i 1 0) _ rfl (by decide) y _ rfl) ?_
  refine View.allAt_cons_unit _ _ _ _ _ (tile_s (i 1) 1 1 0 3 (by decide) (by decide) (by decide) (by decide) arg2 harg2 arg3 harg3 arg5 harg5 x0 x1 x3 _ _ rfl _ _ (off6 i 1) _ _ (off7 i 1 3) _ rfl (by decide) y _ rfl) ?_
  refine View.allAt_cons_unit _ _ _ _ _ (tile_s (i 1) 1 1 0 2 (by decide) (by decide) (by decide) (by decide) arg2 harg2 arg3 harg3 arg5 harg5 x0 x1 x3 _ _ rfl _ _ (off6 i 1) _ _ (off7 i 1 2) _ rfl (by decide) y _ rfl) ?_
  refine View.allAt_cons_unit _ _ _ _ _ (tile_s (i 1) 1 1 0 1 (by decide) (by decide) (by decide) (by decide) arg2 harg2 arg3 harg3 arg5 harg5 x0 x1 x3 _ _ rfl _ _ (off6 i 1) _ _ (off7 i 1 1) _ rfl (by decide) y _ rfl) ?_
  refine View.allAt_cons_unit _ _ _ _ _ (tile_s (i 1) 1 1 0 0 (by decide) (by decide) (by decide) (by decide) arg2 harg2 arg3 harg3 arg5 harg5 x0 x1 x3 _ _ rfl _ _ (off6 i 1) _ _ (off7 i 1 0) _ rfl (by decide) y _ rfl) ?_
  refine View.allAt_cons_unit _ _ _ _ _ (tile_s (i 1) 1 0 1 3 (by decide) (by decide) (by decide) (by decide) arg2 harg2 arg3 harg3 arg5 harg5 x0 x1 x3 _ _ rfl _ _ (off6 i 0) _ _ (off8 i 0 3) _ rfl (by decide) y _ rfl) ?_
  refine View.allAt_cons_unit _ _ _ _ _ (tile_s (i 1) 1 0 1 2 (by decide) (by decide) (by decide) (by decide) arg2 harg2 arg3 harg3 arg5 harg5 x0 x1 x3 _ _ rfl _ _ (off6 i 0) _ _ (off8 i 0 2) _ rfl (by decide) y _ rfl) ?_
  refine View.allAt_cons_unit _ _ _ _ _ (tile_s (i 1) 1 0 1 1 (by decide) (by decide) (by decide) (by decide) arg2 harg2 arg3 harg3 arg5 harg5 x0 x1 x3 _ _ rfl _ _ (off6 i 0) _ _ (off8 i 0 1) _ rfl (by decide) y _ rfl) ?_
  refine View.allAt_cons_unit _ _ _ _ _ (tile_s (i 1) 1 0 1 0 (by decide) (by decide) (by decide) (by decide) arg2 harg2 arg3 harg3 arg5 harg5 x0 x1 x3 _ _ rfl _ _ (off6 i 0) _ _ (off8 i 0 0) _ rfl (by decide) y _ rfl) ?_
  refine View.allAt_cons_unit _ _ _ _ _ (tile_s (i 1) 1 0 0 3 (by decide) (by decide) (by decide) (by decide) arg2 harg2 arg3 harg3 arg5 harg5 x0 x1 x3 _ _ rfl _ _ (off6 i 0) _ _ (off7 i 0 3) _ rfl (by decide) y _ rfl) ?_
  refine View.allAt_cons_unit _ _ _ _ _ (tile_s (i 1) 1 0 0 2 (by decide) (by decide) (by decide) (by decide) arg2 harg2 arg3 harg3 arg5 harg5 x0 x1 x3 _ _ rfl _ _ (off6 i 0) _ _ (off7 i 0 2) _ rfl (by decide) y _ rfl) ?_
  refine View.allAt_cons_unit _ _ _ _ _ (tile_s (i 1) 1 0 0 1 (by decide) (by decide) (by decide) (by decide) arg2 harg2 arg3 harg3 arg5 harg5 x0 x1 x3 _ _ rfl _ _ (off6 i 0) _ _ (off7 i 0 1) _ rfl (by decide) y _ rfl) ?_
  refine View.allAt_cons_unit _ _ _ _ _ (tile_s (i 1) 1 0 0 0 (by decide) (by decide) (by decide) (by decide) arg2 harg2 arg3 harg3 arg5 harg5 x0 x1 x3 _ _ rfl _ _ (off6 i 0) _ _ (off7 i 0 0) _ rfl (by decide) y _ rfl) ?_
  exact View.allAt_nil _ _

theorem canon_s1 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.canon (Val := Elt Ideal) (e := .f32) (HS1_64 c i arg2 harg2 arg3 harg3 arg5 harg5 x0 x1 x3) y = gs (i 1).val x0 x1 x3 1 (y 0).val (y 1).val :=
  View.canon_eq_of_allAt _ y _ (View.cover_of_tiledL (HS1_64 c i arg2 harg2 arg3 harg3 arg5 harg5 x0 x1 x3) S128x128.size (by sl_kernel_rfl) y) (all_s1 c i arg2 harg2 arg3 harg3 arg5 harg5 x0 x1 x3 y)

/-- The weights written for group 1 of heads. -/
theorem all_p1 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg8 : Memref sig Kind.tc Space.vmem S2048x512 .f32) (x0 : Vec Ideal S1x512x1024 .bf16) (x1 : Vec Ideal S1x1024x1024 .bf16) (x3 : Vec Ideal S8x14x128x128 .f32) (y : S2048x512.Idx) :
    View.AllAt (Val := Elt Ideal) (e := .bf16) (HS3_8 c i arg2 harg2 arg3 harg3 arg5 harg5 arg8 x0 x1 x3) y (gp (i 1).val x0 x1 x3 1 (y 0).val (y 1).val) := by
  refine View.allAt_cons_unit _ _ _ _ _ (tile_pc (i 1).val 1 7 arg8 x0 x1 x3 _ (canon_s1 c i arg2 harg2 arg3 harg3 arg5 harg5 x0 x1 x3) _ (by decide) rfl y _ rfl) ?_
  refine View.allAt_cons_unit _ _ _ _ _ (tile_pc (i 1).val 1 6 arg8 x0 x1 x3 _ (canon_s1 c i arg2 harg2 arg3 harg3 arg5 harg5 x0 x1 x3) _ (by decide) rfl y _ rfl) ?_
  refine View.allAt_cons_unit _ _ _ _ _ (tile_pc (i 1).val 1 5 arg8 x0 x1 x3 _ (canon_s1 c i arg2 harg2 arg3 harg3 arg5 harg5 x0 x1 x3) _ (by decide) rfl y _ rfl) ?_
  refine View.allAt_cons_unit _ _ _ _ _ (tile_pc (i 1).val 1 4 arg8 x0 x1 x3 _ (canon_s1 c i arg2 harg2 arg3 harg3 arg5 harg5 x0 x1 x3) _ (by decide) rfl y _ rfl) ?_
  refine View.allAt_cons_unit _ _ _ _ _ (tile_pc (i 1).val 1 3 arg8 x0 x1 x3 _ (canon_s1 c i arg2 harg2 arg3 harg3 arg5 harg5 x0 x1 x3) _ (by decide) rfl y _ rfl) ?_
  refine View.allAt_cons_unit _ _ _ _ _ (tile_pc (i 1).val 1 2 arg8 x0 x1 x3 _ (canon_s1 c i arg2 harg2 arg3 harg3 arg5 harg5 x0 x1 x3) _ (by decide) rfl y _ rfl) ?_
  refine View.allAt_cons_unit _ _ _ _ _ (tile_pc (i 1).val 1 1 arg8 x0 x1 x3 _ (canon_s1 c i arg2 harg2 arg3 harg3 arg5 harg5 x0 x1 x3) _ (by decide) rfl y _ rfl) ?_
  refine View.allAt_cons_unit _ _ _ _ _ (tile_pc (i 1).val 1 0 arg8 x0 x1 x3 _ (canon_s1 c i arg2 harg2 arg3 harg3 arg5 harg5 x0 x1 x3) _ (by decide) rfl y _ rfl) ?_
  exact View.allAt_nil _ _

theorem canon_p1 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg8 : Memref sig Kind.tc Space.vmem S2048x512 .f32) (x0 : Vec Ideal S1x512x1024 .bf16) (x1 : Vec Ideal S1x1024x1024 .bf16) (x3 : Vec Ideal S8x14x128x128 .f32) (y : S2048x512.Idx) :
    View.canon (Val := Elt Ideal) (e := .bf16) (HS3_8 c i arg2 harg2 arg3 harg3 arg5 harg5 arg8 x0 x1 x3) y = gp (i 1).val x0 x1 x3 1 (y 0).val (y 1).val :=
  View.canon_eq_of_allAt _ y _ (View.cover_of_tiledL (HS3_8 c i arg2 harg2 arg3 harg3 arg5 harg5 arg8 x0 x1 x3) S256x512.size (by sl_kernel_rfl) y) (all_p1 c i arg2 harg2 arg3 harg3 arg5 harg5 arg8 x0 x1 x3 y)

end Cert.KernelIdeal.NA
end
end
-- ==== Proof.NaS2.lean ====
module
public import proofs.«01_k».proof.Proof.NaBase

@[expose] public section
set_option maxRecDepth 65536
noncomputable section
open Idealize.ShloMosaic Idealize.ShloMosaic.TcCoe Idealize.SL.Sem
namespace Cert.KernelIdeal.NA
open Cert.KernelIdeal Cert.KernelIdeal.Gen Cert.KernelIdeal.Gen.kernelRun1_A.sl

/-- The scores written for group 2 of heads. -/
theorem all_s2 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.AllAt (Val := Elt Ideal) (e := .f32) (List.take 64 (HS0_128 c i arg2 harg2 arg3 harg3 arg5 harg5 x0 x1 x3)) y (gs (i 1).val x0 x1 x3 2 (y 0).val (y 1).val) := by
  refine View.allAt_cons_unit _ _ _ _ _ (tile_s (i 1) 2 7 1 3 (by decide) (by decide) (by decide) (by decide) arg2 harg2 arg3 harg3 arg5 harg5 x0 x1 x3 _ _ rfl _ _ (off11 i 7) _ _ (off13 i 7 3) _ rfl (by decide) y _ rfl) ?_
  refine View.allAt_cons_unit _ _ _ _ _ (tile_s (i 1) 2 7 1 2 (by decide) (by decide) (by decide) (by decide) arg2 harg2 arg3 harg3 arg5 harg5 x0 x1 x3 _ _ rfl _ _ (off11 i 7) _ _ (off13 i 7 2) _ rfl (by decide) y _ rfl) ?_
  refine View.allAt_cons_unit _ _ _ _ _ (tile_s (i 1) 2 7 1 1 (by decide) (by decide) (by decide) (by decide) arg2 harg2 arg3 harg3 arg5 harg5 x0 x1 x3 _ _ rfl _ _ (off11 i 7) _ _ (off13 i 7 1) _ rfl (by decide) y _ rfl) ?_
  refine View.allAt_cons_unit _ _ _ _ _ (tile_s (i 1) 2 7 1 0 (by decide) (by decide) (by decide) (by decide) arg2 harg2 arg3 harg3 arg5 harg5 x0 x1 x3 _ _ rfl _ _ (off11 i 7) _ _ (off13 i 7 0) _ rfl (by decide) y _ rfl) ?_
  refine View.allAt_cons_unit _ _ _ _ _ (tile_s (i 1) 2 7 0 3 (by decide) (by decide) (by decide) (by decide) arg2 harg2 arg3 harg3 arg5 harg5 x0 x1 x3 _ _ rfl _ _ (off11 i 7) _ _ (off12 i 7 3) _ rfl (by decide) y _ rfl) ?_
  refine View.allAt_cons_unit _ _ _ _ _ (tile_s (i 1) 2 7 0 2 (by decide) (by decide) (by decide) (by decide) arg2 harg2 arg3 harg3 arg5 harg5 x0 x1 x3 _ _ rfl _ _ (off11 i 7) _ _ (off12 i 7 2) _ rfl (by decide) y _ rfl) ?_
  refine View.allAt_cons_unit _ _ _ _ _ (tile_s (i 1) 2 7 0 1 (by decide) (by decide) (by decide) (by decide) arg2 harg2 arg3 harg3 arg5 harg5 x0 x1 x3 _ _ rfl _ _ (off11 i 7) _ _ (off12 i 7 1) _ rfl (by decide) y _ rfl) ?_
  refine View.allAt_cons_unit _ _ _ _ _ (tile_s (i 1) 2 7 0 0 (by decide) (by decide) (by decide) (by decide) arg2 harg2 arg3 harg3 arg5 harg5 x0 x1 x3 _ _ rfl _ _ (off11 i 7) _ _ (off12 i 7 0) _ rfl (by decide) y _ rfl) ?_
  refine View.allAt_cons_unit _ _ _ _ _ (tile_s (i 1) 2 6 1 3 (by decide) (by decide) (by decide) (by decide) arg2 harg2 arg3 harg3 arg5 harg5 x0 x1 x3 _ _ rfl _ _ (off11 i 6) _ _ (off13 i 6 3) _ rfl (by decide) y _ rfl) ?_
  refine View.allAt_cons_unit _ _ _ _ _ (tile_s (i 1) 2 6 1 2 (by decide) (by decide) (by decide) (by decide) arg2 harg2 arg3 harg3 arg5 harg5 x0 x1 x3 _ _ rfl _ _ (off11 i 6) _ _ (off13 i 6 2) _ rfl (by decide) y _ rfl) ?_
  refine View.allAt_cons_unit _ _ _ _ _ (tile_s (i 1) 2 6 1 1 (by decide) (by decide) (by decide) (by decide) arg2 harg2 arg3 harg3 arg5 harg5 x0 x1 x3 _ _ rfl _ _ (off11 i 6) _ _ (off13 i 6 1) _ rfl (by decide) y _ rfl) ?_
  refine View.allAt_cons_unit _ _ _ _ _ (tile_s (i 1) 2 6 1 0 (by decide) (by decide) (by decide) (by decide) arg2 harg2 arg3 harg3 arg5 harg5 x0 x1 x3 _ _ rfl _ _ (off11 i 6) _ _ (off13 i 6 0) _ rfl (by decide) y _ rfl) ?_
  refine View.allAt_cons_unit _ _ _ _ _ (tile_s (i 1) 2 6 0 3 (by decide) (by decide) (by decide) (by decide) arg2 harg2 arg3 harg3 arg5 harg5 x0 x1 x3 _ _ rfl _ _ (off11 i 6) _ _ (off12 i 6 3) _ rfl (by decide) y _ rfl) ?_
  refine View.allAt_cons_unit _ _ _ _ _ (tile_s (i 1) 2 6 0 2 (by decide) (by decide) (by decide) (by decide) arg2 harg2 arg3 harg3 arg5 harg5 x0 x1 x3 _ _ rfl _ _ (off11 i 6) _ _ (off12 i 6 2) _ rfl (by decide) y _ rfl) ?_
  refine View.allAt_cons_unit _ _ _ _ _ (tile_s (i 1) 2 6 0 1 (by decide) (by decide) (by decide) (by decide) arg2 harg2 arg3 harg3 arg5 harg5 x0 x1 x3 _ _ rfl _ _ (off11 i 6) _ _ (off12 i 6 1) _ rfl (by decide) y _ rfl) ?_
  refine View.allAt_cons_unit _ _ _ _ _ (tile_s (i 1) 2 6 0 0 (by decide) (by decide) (by decide) (by decide) arg2 harg2 arg3 harg3 arg5 harg5 x0 x1 x3 _ _ rfl _ _ (off11 i 6) _ _ (off12 i 6 0) _ rfl (by decide) y _ rfl) ?_
  refine View.allAt_cons_unit _ _ _ _ _ (tile_s (i 1) 2 5 1 3 (by decide) (by decide) (by decide) (by decide) arg2 harg2 arg3 harg3 arg5 harg5 x0 x1 x3 _ _ rfl _ _ (off11 i 5) _ _ (off13 i 5 3) _ rfl (by decide) y _ rfl) ?_
  refine View.allAt_cons_unit _ _ _ _ _ (tile_s (i 1) 2 5 1 2 (by decide) (by decide) (by decide) (by decide) arg2 harg2 arg3 harg3 arg5 harg5 x0 x1 x3 _ _ rfl _ _ (off11 i 5) _ _ (off13 i 5 2) _ rfl (by decide) y _ rfl) ?_
  refine View.allAt_cons_unit _ _ _ _ _ (tile_s (i 1) 2 5 1 1 (by decide) (by decide) (by decide) (by decide) arg2 harg2 arg3 harg3 arg5 harg5 x0 x1 x3 _ _ rfl _ _ (off11 i 5) _ _ (off13 i 5 1) _ rfl (by decide) y _ rfl) ?_
  refine View.allAt_cons_unit _ _ _ _ _ (tile_s (i 1) 2 5 1 0 (by decide) (by decide) (by decide) (by decide) arg2 harg2 arg3 harg3 arg5 harg5 x0 x1 x3 _ _ rfl _ _ (off11 i 5) _ _ (off13 i 5 0) _ rfl (by decide) y _ rfl) ?_
  refine View.allAt_cons_unit _ _ _ _ _ (tile_s (i 1) 2 5 0 3 (by decide) (by decide) (by decide) (by decide) arg2 harg2 arg3 harg3 arg5 harg5 x0 x1 x3 _ _ rfl _ _ (off11 i 5) _ _ (off12 i 5 3) _ rfl (by decide) y _ rfl) ?_
  refine View.allAt_cons_unit _ _ _ _ _ (tile_s (i 1) 2 5 0 2 (by decide) (by decide) (by decide) (by decide) arg2 harg2 arg3 harg3 arg5 harg5 x0 x1 x3 _ _ rfl _ _ (off11 i 5) _ _ (off12 i 5 2) _ rfl (by decide) y _ rfl) ?_
  refine View.allAt_cons_unit _ _ _ _ _ (tile_s (i 1) 2 5 0 1 (by decide) (by decide) (by decide) (by decide) arg2 harg2 arg3 harg3 arg5 harg5 x0 x1 x3 _ _ rfl _ _ (off11 i 5) _ _ (off12 i 5 1) _ rfl (by decide) y _ rfl) ?_
  refine View.allAt_cons_unit _ _ _ _ _ (tile_s (i 1) 2 5 0 0 (by decide) (by decide) (by decide) (by decide) arg2 harg2 arg3 harg3 arg5 harg5 x0 x1 x3 _ _ rfl _ _ (off11 i 5) _ _ (off12 i 5 0) _ rfl (by decide) y _ rfl) ?_
  refine View.allAt_cons_unit _ _ _ _ _ (tile_s (i 1) 2 4 1 3 (by decide) (by decide) (by decide) (by decide) arg2 harg2 arg3 harg3 arg5 harg5 x0 x1 x3 _ _ rfl _ _ (off11 i 4) _ _ (off13 i 4 3) _ rfl (by decide) y _ rfl) ?_
  refine View.allAt_cons_unit _ _ _ _ _ (tile_s (i 1) 2 4 1 2 (by decide) (by decide) (by decide) (by decide) arg2 harg2 arg3 harg3 arg5 harg5 x0 x1 x3 _ _ rfl _ _ (off11 i 4) _ _ (off13 i 4 2) _ rfl (by decide) y _ rfl) ?_
  refine View.allAt_cons_unit _ _ _ _ _ (tile_s (i 1) 2 4 1 1 (by decide) (by decide) (by decide) (by decide) arg2 harg2 arg3 harg3 arg5 harg5 x0 x1 x3 _ _ rfl _ _ (off11 i 4) _ _ (off13 i 4 1) _ rfl (by decide) y _ rfl) ?_
  refine View.allAt_cons_unit _ _ _ _ _ (tile_s (i 1) 2 4 1 0 (by decide) (by decide) (by decide) (by decide) arg2 harg2 arg3 harg3 arg5 harg5 x0 x1 x3 _ _ rfl _ _ (off11 i 4) _ _ (off13 i 4 0) _ rfl (by decide) y _ rfl) ?_
  refine View.allAt_cons_unit _ _ _ _ _ (tile_s (i 1) 2 4 0 3 (by decide) (by decide) (by decide) (by decide) arg2 harg2 arg3 harg3 arg5 harg5 x0 x1 x3 _ _ rfl _ _ (off11 i 4) _ _ (off12 i 4 3) _ rfl (by decide) y _ rfl) ?_
  refine View.allAt_cons_unit _ _ _ _ _ (tile_s (i 1) 2 4 0 2 (by decide) (by decide) (by decide) (by decide) arg2 harg2 arg3 harg3 arg5 harg5 x0 x1 x3 _ _ rfl _ _ (off11 i 4) _ _ (off12 i 4 2) _ rfl (by decide) y _ rfl) ?_
  refine View.allAt_cons_unit _ _ _ _ _ (tile_s (i 1) 2 4 0 1 (by decide) (by decide) (by decide) (by decide) arg2 harg2 arg3 harg3 arg5 harg5 x0 x1 x3 _ _ rfl _ _ (off11 i 4) _ _ (off12 i 4 1) _ rfl (by decide) y _ rfl) ?_
  refine View.allAt_cons_unit _ _ _ _ _ (tile_s (i 1) 2 4 0 0 (by decide) (by decide) (by decide) (by decide) arg2 harg2 arg3 harg3 arg5 harg5 x0 x1 x3 _ _ rfl _ _ (off11 i 4) _ _ (off12 i 4 0) _ rfl (by decide) y _ rfl) ?_
  refine View.allAt_cons_unit _ _ _ _ _ (tile_s (i 1) 2 3 1 3 (by decide) (by decide) (by decide) (by decide) arg2 harg2 arg3 harg3 arg5 harg5 x0 x1 x3 _ _ rfl _ _ (off11 i 3) _ _ (off13 i 3 3) _ rfl (by decide) y _ rfl) ?_
  refine View.allAt_cons_unit _ _ _ _ _ (tile_s (i 1) 2 3 1 2 (by decide) (by decide) (by decide) (by decide) arg2 harg2 arg3 harg3 arg5 harg5 x0 x1 x3 _ _ rfl _ _ (off11 i 3) _ _ (off13 i 3 2) _ rfl (by decide) y _ rfl) ?_
  refine View.allAt_cons_unit _ _ _ _ _ (tile_s (i 1) 2 3 1 1 (by decide) (by decide) (by decide) (by decide) arg2 harg2 arg3 harg3 arg5 harg5 x0 x1 x3 _ _ rfl _ _ (off11 i 3) _ _ (off13 i 3 1) _ rfl (by decide) y _ rfl) ?_
  refine View.allAt_cons_unit _ _ _ _ _ (tile_s (i 1) 2 3 1 0 (by decide) (by decide) (by decide) (by decide) arg2 harg2 arg3 harg3 arg5 harg5 x0 x1 x3 _ _ rfl _ _ (off11 i 3) _ _ (off13 i 3 0) _ rfl (by decide) y _ rfl) ?_
  refine View.allAt_cons_unit _ _ _ _ _ (tile_s (i 1) 2 3 0 3 (by decide) (by decide) (by decide) (by decide) arg2 harg2 arg3 harg3 arg5 harg5 x0 x1 x3 _ _ rfl _ _ (off11 i 3) _ _ (off12 i 3 3) _ rfl (by decide) y _ rfl) ?_
  refine View.allAt_cons_unit _ _ _ _ _ (tile_s (i 1) 2 3 0 2 (by decide) (by decide) (by decide) (by decide) arg2 harg2 arg3 harg3 arg5 harg5 x0 x1 x3 _ _ rfl _ _ (off11 i 3) _ _ (off12 i 3 2) _ rfl (by decide) y _ rfl) ?_
  refine View.allAt_cons_unit _ _ _ _ _ (tile_s (i 1) 2 3 0 1 (by decide) (by decide) (by decide) (by decide) arg2 harg2 arg3 harg3 arg5 harg5 x0 x1 x3 _ _ rfl _ _ (off11 i 3) _ _ (off12 i 3 1) _ rfl (by decide) y _ rfl) ?_
  refine View.allAt_cons_unit _ _ _ _ _ (tile_s (i 1) 2 3 0 0 (by decide) (by decide) (by decide) (by decide) arg2 harg2 arg3 harg3 arg5 harg5 x0 x1 x3 _ _ rfl _ _ (off11 i 3) _ _ (off12 i 3 0) _ rfl (by decide) y _ rfl) ?_
  refine View.allAt_cons_unit _ _ _ _ _ (tile_s (i 1) 2 2 1 3 (by decide) (by decide) (by decide) (by decide) arg2 harg2 arg3 harg3 arg5 harg5 x0 x1 x3 _ _ rfl _ _ (off11 i 2) _ _ (off13 i 2 3) _ rfl (by decide) y _ rfl) ?_
  refine View.allAt_cons_unit _ _ _ _ _ (tile_s (i 1) 2 2 1 2 (by decide) (by decide) (by decide) (by decide) arg2 harg2 arg3 harg3 arg5 harg5 x0 x1 x3 _ _ rfl _ _ (off11 i 2) _ _ (off13 i 2 2) _ rfl (by decide) y _ rfl) ?_
  refine View.allAt_cons_unit _ _ _ _ _ (tile_s (i 1) 2 2 1 1 (by decide) (by decide) (by decide) (by decide) arg2 harg2 arg3 harg3 arg5 harg5 x0 x1 x3 _ _ rfl _ _ (off11 i 2) _ _ (off13 i 2 1) _ rfl (by decide) y _ rfl) ?_
  refine View.allAt_cons_unit _ _ _ _ _ (tile_s (i 1) 2 2 1 0 (by decide) (by decide) (by decide) (by decide) arg2 harg2 arg3 harg3 arg5 harg5 x0 x1 x3 _ _ rfl _ _ (off11 i 2) _ _ (off13 i 2 0) _ rfl (by decide) y _ rfl) ?_
  refine View.allAt_cons_unit _ _ _ _ _ (tile_s (i 1) 2 2 0 3 (by decide) (by decide) (by decide) (by decide) arg2 harg2 arg3 harg3 arg5 harg5 x0 x1 x3 _ _ rfl _ _ (off11 i 2) _ _ (off12 i 2 3) _ rfl (by decide) y _ rfl) ?_
  refine View.allAt_cons_unit _ _ _ _ _ (tile_s (i 1) 2 2 0 2 (by decide) (by decide) (by decide) (by decide) arg2 harg2 arg3 harg3 arg5 harg5 x0 x1 x3 _ _ rfl _ _ (off11 i 2) _ _ (off12 i 2 2) _ rfl (by decide) y _ rfl) ?_
  refine View.allAt_cons_unit _ _ _ _ _ (tile_s (i 1) 2 2 0 1 (by decide) (by decide) (by decide) (by decide) arg2 harg2 arg3 harg3 arg5 harg5 x0 x1 x3 _ _ rfl _ _ (off11 i 2) _ _ (off12 i 2 1) _ rfl (by decide) y _ rfl) ?_
  refine View.allAt_cons_unit _ _ _ _ _ (tile_s (i 1) 2 2 0 0 (by decide) (by decide) (by decide) (by decide) arg2 harg2 arg3 harg3 arg5 harg5 x0 x1 x3 _ _ rfl _ _ (off11 i 2) _ _ (off12 i 2 0) _ rfl (by decide) y _ rfl) ?_
  refine View.allAt_cons_unit _ _ _ _ _ (tile_s (i 1) 2 1 1 3 (by decide) (by decide) (by decide) (by decide) arg2 harg2 arg3 harg3 arg5 harg5 x0 x1 x3 _ _ rfl _ _ (off11 i 1) _ _ (off13 i 1 3) _ rfl (by decide) y _ rfl) ?_
  refine View.allAt_cons_unit _ _ _ _ _ (tile_s (i 1) 2 1 1 2 (by decide) (by decide) (by decide) (by decide) arg2 harg2 arg3 harg3 arg5 harg5 x0 x1 x3 _ _ rfl _ _ (off11 i 1) _ _ (off13 i 1 2) _ rfl (by decide) y _ rfl) ?_
  refine View.allAt_cons_unit _ _ _ _ _ (tile_s (i 1) 2 1 1 1 (by decide) (by decide) (by decide) (by decide) arg2 harg2 arg3 harg3 arg5 harg5 x0 x1 x3 _ _ rfl _ _ (off11 i 1) _ _ (off13 i 1 1) _ rfl (by decide) y _ rfl) ?_
  refine View.allAt_cons_unit _ _ _ _ _ (tile_s (i 1) 2 1 1 0 (by decide) (by decide) (by decide) (by decide) arg2 harg2 arg3 harg3 arg5 harg5 x0 x1 x3 _ _ rfl _ _ (off11 i 1) _ _ (off13 i 1 0) _ rfl (by decide) y _ rfl) ?_
  refine View.allAt_cons_unit _ _ _ _ _ (tile_s (i 1) 2 1 0 3 (by decide) (by decide) (by decide) (by decide) arg2 harg2 arg3 harg3 arg5 harg5 x0 x1 x3 _ _ rfl _ _ (off11 i 1) _ _ (off12 i 1 3) _ rfl (by decide) y _ rfl) ?_
  refine View.allAt_cons_unit _ _ _ _ _ (tile_s (i 1) 2 1 0 2 (by decide) (by decide) (by decide) (by decide) arg2 harg2 arg3 harg3 arg5 harg5 x0 x1 x3 _ _ rfl _ _ (off11 i 1) _ _ (off12 i 1 2) _ rfl (by decide) y _ rfl) ?_
  refine View.allAt_cons_unit _ _ _ _ _ (tile_s (i 1) 2 1 0 1 (by decide) (by decide) (by decide) (by decide) arg2 harg2 arg3 harg3 arg5 harg5 x0 x1 x3 _ _ rfl _ _ (off11 i 1) _ _ (off12 i 1 1) _ rfl (by decide) y _ rfl) ?_
  refine View.allAt_cons_unit _ _ _ _ _ (tile_s (i 1) 2 1 0 0 (by decide) (by decide) (by decide) (by decide) arg2 harg2 arg3 harg3 arg5 harg5 x0 x1 x3 _ _ rfl _ _ (off11 i 1) _ _ (off12 i 1 0) _ rfl (by decide) y _ rfl) ?_
  refine View.allAt_cons_unit _ _ _ _ _ (tile_s (i 1) 2 0 1 3 (by decide) (by decide) (by decide) (by decide) arg2 harg2 arg3 harg3 arg5 harg5 x0 x1 x3 _ _ rfl _ _ (off11 i 0) _ _ (off13 i 0 3) _ rfl (by decide) y _ rfl) ?_
  refine View.allAt_cons_unit _ _ _ _ _ (tile_s (i 1) 2 0 1 2 (by decide) (by decide) (by decide) (by decide) arg2 harg2 arg3 harg3 arg5 harg5 x0 x1 x3 _ _ rfl _ _ (off11 i 0) _ _ (off13 i 0 2) _ rfl (by decide) y _ rfl) ?_
  refine View.allAt_cons_unit _ _ _ _ _ (tile_s (i 1) 2 0 1 1 (by decide) (by decide) (by decide) (by decide) arg2 harg2 arg3 harg3 arg5 harg5 x0 x1 x3 _ _ rfl _ _ (off11 i 0) _ _ (off13 i 0 1) _ rfl (by decide) y _ rfl) ?_
  refine View.allAt_cons_unit _ _ _ _ _ (tile_s (i 1) 2 0 1 0 (by decide) (by decide) (by decide) (by decide) arg2 harg2 arg3 harg3 arg5 harg5 x0 x1 x3 _ _ rfl _ _ (off11 i 0) _ _ (off13 i 0 0) _ rfl (by decide) y _ rfl) ?_
  refine View.allAt_cons_unit _ _ _ _ _ (tile_s (i 1) 2 0 0 3 (by decide) (by decide) (by decide) (by decide) arg2 harg2 arg3 harg3 arg5 harg5 x0 x1 x3 _ _ rfl _ _ (off11 i 0) _ _ (off12 i 0 3) _ rfl (by decide) y _ rfl) ?_
  refine View.allAt_cons_unit _ _ _ _ _ (tile_s (i 1) 2 0 0 2 (by decide) (by decide) (by decide) (by decide) arg2 harg2 arg3 harg3 arg5 harg5 x0 x1 x3 _ _ rfl _ _ (off11 i 0) _ _ (off12 i 0 2) _ rfl (by decide) y _ rfl) ?_
  refine View.allAt_cons_unit _ _ _ _ _ (tile_s (i 1) 2 0 0 1 (by decide) (by decide) (by decide) (by decide) arg2 harg2 arg3 harg3 arg5 harg5 x0 x1 x3 _ _ rfl _ _ (off11 i 0) _ _ (off12 i 0 1) _ rfl (by decide) y _ rfl) ?_
  refine View.allAt_cons_unit _ _ _ _ _ (tile_s (i 1) 2 0 0 0 (by decide) (by decide) (by decide) (by decide) arg2 harg2 arg3 harg3 arg5 harg5 x0 x1 x3 _ _ rfl _ _ (off11 i 0) _ _ (off12 i 0 0) _ rfl (by decide) y _ rfl) ?_
  exact View.allAt_nil _ _

theorem canon_s2 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.canon (Val := Elt Ideal) (e := .f32) (HS0_128 c i arg2 harg2 arg3 harg3 arg5 harg5 x0 x1 x3) y = gs (i 1).val x0 x1 x3 2 (y 0).val (y 1).val :=
  canon_take 64 _ y _ (View.cover_of_tiledL (List.take 64 (HS0_128 c i arg2 harg2 arg3 harg3 arg5 harg5 x0 x1 x3)) S128x128.size (by sl_kernel_rfl) y) (all_s2 c i arg2 harg2 arg3 harg3 arg5 harg5 x0 x1 x3 y)

/-- The weights written for group 2 of heads. -/
theorem all_p2 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg7 : Memref sig Kind.tc Space.vmem S2048x512 .f32) (x0 : Vec Ideal S1x512x1024 .bf16) (x1 : Vec Ideal S1x1024x1024 .bf16) (x3 : Vec Ideal S8x14x128x128 .f32) (y : S2048x512.Idx) :
    View.AllAt (Val := Elt Ideal) (e := .bf16) (List.take 8 (HS2_16 c i arg2 harg2 arg3 harg3 arg5 harg5 arg7 x0 x1 x3)) y (gp (i 1).val x0 x1 x3 2 (y 0).val (y 1).val) := by
  refine View.allAt_cons_unit _ _ _ _ _ (tile_pc (i 1).val 2 7 arg7 x0 x1 x3 _ (canon_s2 c i arg2 harg2 arg3 harg3 arg5 harg5 x0 x1 x3) _ (by decide) rfl y _ rfl) ?_
  refine View.allAt_cons_unit _ _ _ _ _ (tile_pc (i 1).val 2 6 arg7 x0 x1 x3 _ (canon_s2 c i arg2 harg2 arg3 harg3 arg5 harg5 x0 x1 x3) _ (by decide) rfl y _ rfl) ?_
  refine View.allAt_cons_unit _ _ _ _ _ (tile_pc (i 1).val 2 5 arg7 x0 x1 x3 _ (canon_s2 c i arg2 harg2 arg3 harg3 arg5 harg5 x0 x1 x3) _ (by decide) rfl y _ rfl) ?_
  refine View.allAt_cons_unit _ _ _ _ _ (tile_pc (i 1).val 2 4 arg7 x0 x1 x3 _ (canon_s2 c i arg2 harg2 arg3 harg3 arg5 harg5 x0 x1 x3) _ (by decide) rfl y _ rfl) ?_
  refine View.allAt_cons_unit _ _ _ _ _ (tile_pc (i 1).val 2 3 arg7 x0 x1 x3 _ (canon_s2 c i arg2 harg2 arg3 harg3 arg5 harg5 x0 x1 x3) _ (by decide) rfl y _ rfl) ?_
  refine View.allAt_cons_unit _ _ _ _ _ (tile_pc (i 1).val 2 2 arg7 x0 x1 x3 _ (canon_s2 c i arg2 harg2 arg3 harg3 arg5 harg5 x0 x1 x3) _ (by decide) rfl y _ rfl) ?_
  refine View.allAt_cons_unit _ _ _ _ _ (tile_pc (i 1).val 2 1 arg7 x0 x1 x3 _ (canon_s2 c i arg2 harg2 arg3 harg3 arg5 harg5 x0 x1 x3) _ (by decide) rfl y _ rfl) ?_
  refine View.allAt_cons_unit _ _ _ _ _ (tile_pc (i 1).val 2 0 arg7 x0 x1 x3 _ (canon_s2 c i arg2 harg2 arg3 harg3 arg5 harg5 x0 x1 x3) _ (by decide) rfl y _ rfl) ?_
  exact View.allAt_nil _ _

theorem canon_p2 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg7 : Memref sig Kind.tc Space.vmem S2048x512 .f32) (x0 : Vec Ideal S1x512x1024 .bf16) (x1 : Vec Ideal S1x1024x1024 .bf16) (x3 : Vec Ideal S8x14x128x128 .f32) (y : S2048x512.Idx) :
    View.canon (Val := Elt Ideal) (e := .bf16) (HS2_16 c i arg2 harg2 arg3 harg3 arg5 harg5 arg7 x0 x1 x3) y = gp (i 1).val x0 x1 x3 2 (y 0).val (y 1).val :=
  canon_take 8 _ y _ (View.cover_of_tiledL (List.take 8 (HS2_16 c i arg2 harg2 arg3 harg3 arg5 harg5 arg7 x0 x1 x3)) S256x512.size (by sl_kernel_rfl) y) (all_p2 c i arg2 harg2 arg3 harg3 arg5 harg5 arg7 x0 x1 x3 y)

end Cert.KernelIdeal.NA
end
end
-- ==== Proof.NaS3.lean ====
module
public import proofs.«01_k».proof.Proof.NaBase

@[expose] public section
set_option maxRecDepth 65536
noncomputable section
open Idealize.ShloMosaic Idealize.ShloMosaic.TcCoe Idealize.SL.Sem
namespace Cert.KernelIdeal.NA
open Cert.KernelIdeal Cert.KernelIdeal.Gen Cert.KernelIdeal.Gen.kernelRun1_A.sl

/-- The scores written for group 3 of heads. -/
theorem all_s3 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.AllAt (Val := Elt Ideal) (e := .f32) (List.take 64 (HS1_128 c i arg2 harg2 arg3 harg3 arg5 harg5 x0 x1 x3)) y (gs (i 1).val x0 x1 x3 3 (y 0).val (y 1).val) := by
  refine View.allAt_cons_unit _ _ _ _ _ (tile_s (i 1) 3 7 1 3 (by decide) (by decide) (by decide) (by decide) arg2 harg2 arg3 harg3 arg5 harg5 x0 x1 x3 _ _ rfl _ _ (off16 i 7) _ _ (off18 i 7 3) _ rfl (by decide) y _ rfl) ?_
  refine View.allAt_cons_unit _ _ _ _ _ (tile_s (i 1) 3 7 1 2 (by decide) (by decide) (by decide) (by decide) arg2 harg2 arg3 harg3 arg5 harg5 x0 x1 x3 _ _ rfl _ _ (off16 i 7) _ _ (off18 i 7 2) _ rfl (by decide) y _ rfl) ?_
  refine View.allAt_cons_unit _ _ _ _ _ (tile_s (i 1) 3 7 1 1 (by decide) (by decide) (by decide) (by decide) arg2 harg2 arg3 harg3 arg5 harg5 x0 x1 x3 _ _ rfl _ _ (off16 i 7) _ _ (off18 i 7 1) _ rfl (by decide) y _ rfl) ?_
  refine View.allAt_cons_unit _ _ _ _ _ (tile_s (i 1) 3 7 1 0 (by decide) (by decide) (by decide) (by decide) arg2 harg2 arg3 harg3 arg5 harg5 x0 x1 x3 _ _ rfl _ _ (off16 i 7) _ _ (off18 i 7 0) _ rfl (by decide) y _ rfl) ?_
  refine View.allAt_cons_unit _ _ _ _ _ (tile_s (i 1) 3 7 0 3 (by decide) (by decide) (by decide) (by decide) arg2 harg2 arg3 harg3 arg5 harg5 x0 x1 x3 _ _ rfl _ _ (off16 i 7) _ _ (off17 i 7 3) _ rfl (by decide) y _ rfl) ?_
  refine View.allAt_cons_unit _ _ _ _ _ (tile_s (i 1) 3 7 0 2 (by decide) (by decide) (by decide) (by decide) arg2 harg2 arg3 harg3 arg5 harg5 x0 x1 x3 _ _ rfl _ _ (off16 i 7) _ _ (off17 i 7 2) _ rfl (by decide) y _ rfl) ?_
  refine View.allAt_cons_unit _ _ _ _ _ (tile_s (i 1) 3 7 0 1 (by decide) (by decide) (by decide) (by decide) arg2 harg2 arg3 harg3 arg5 harg5 x0 x1 x3 _ _ rfl _ _ (off16 i 7) _ _ (off17 i 7 1) _ rfl (by decide) y _ rfl) ?_
  refine View.allAt_cons_unit _ _ _ _ _ (tile_s (i 1) 3 7 0 0 (by decide) (by decide) (by decide) (by decide) arg2 harg2 arg3 harg3 arg5 harg5 x0 x1 x3 _ _ rfl _ _ (off16 i 7) _ _ (off17 i 7 0) _ rfl (by decide) y _ rfl) ?_
  refine View.allAt_cons_unit _ _ _ _ _ (tile_s (i 1) 3 6 1 3 (by decide) (by decide) (by decide) (by decide) arg2 harg2 arg3 harg3 arg5 harg5 x0 x1 x3 _ _ rfl _ _ (off16 i 6) _ _ (off18 i 6 3) _ rfl (by decide) y _ rfl) ?_
  refine View.allAt_cons_unit _ _ _ _ _ (tile_s (i 1) 3 6 1 2 (by decide) (by decide) (by decide) (by decide) arg2 harg2 arg3 harg3 arg5 harg5 x0 x1 x3 _ _ rfl _ _ (off16 i 6) _ _ (off18 i 6 2) _ rfl (by decide) y _ rfl) ?_
  refine View.allAt_cons_unit _ _ _ _ _ (tile_s (i 1) 3 6 1 1 (by decide) (by decide) (by decide) (by decide) arg2 harg2 arg3 harg3 arg5 harg5 x0 x1 x3 _ _ rfl _ _ (off16 i 6) _ _ (off18 i 6 1) _ rfl (by decide) y _ rfl) ?_
  refine View.allAt_cons_unit _ _ _ _ _ (tile_s (i 1) 3 6 1 0 (by decide) (by decide) (by decide) (by decide) arg2 harg2 arg3 harg3 arg5 harg5 x0 x1 x3 _ _ rfl _ _ (off16 i 6) _ _ (off18 i 6 0) _ rfl (by decide) y _ rfl) ?_
  refine View.allAt_cons_unit _ _ _ _ _ (tile_s (i 1) 3 6 0 3 (by decide) (by decide) (by decide) (by decide) arg2 harg2 arg3 harg3 arg5 harg5 x0 x1 x3 _ _ rfl _ _ (off16 i 6) _ _ (off17 i 6 3) _ rfl (by decide) y _ rfl) ?_
  refine View.allAt_cons_unit _ _ _ _ _ (tile_s (i 1) 3 6 0 2 (by decide) (by decide) (by decide) (by decide) arg2 harg2 arg3 harg3 arg5 harg5 x0 x1 x3 _ _ rfl _ _ (off16 i 6) _ _ (off17 i 6 2) _ rfl (by decide) y _ rfl) ?_
  refine View.allAt_cons_unit _ _ _ _ _ (tile_s (i 1) 3 6 0 1 (by decide) (by decide) (by decide) (by decide) arg2 harg2 arg3 harg3 arg5 harg5 x0 x1 x3 _ _ rfl _ _ (off16 i 6) _ _ (off17 i 6 1) _ rfl (by decide) y _ rfl) ?_
  refine View.allAt_cons_unit _ _ _ _ _ (tile_s (i 1) 3 6 0 0 (by decide) (by decide) (by decide) (by decide) arg2 harg2 arg3 harg3 arg5 harg5 x0 x1 x3 _ _ rfl _ _ (off16 i 6) _ _ (off17 i 6 0) _ rfl (by decide) y _ rfl) ?_
  refine View.allAt_cons_unit _ _ _ _ _ (tile_s (i 1) 3 5 1 3 (by decide) (by decide) (by decide) (by decide) arg2 harg2 arg3 harg3 arg5 harg5 x0 x1 x3 _ _ rfl _ _ (off16 i 5) _ _ (off18 i 5 3) _ rfl (by decide) y _ rfl) ?_
  refine View.allAt_cons_unit _ _ _ _ _ (tile_s (i 1) 3 5 1 2 (by decide) (by decide) (by decide) (by decide) arg2 harg2 arg3 harg3 arg5 harg5 x0 x1 x3 _ _ rfl _ _ (off16 i 5) _ _ (off18 i 5 2) _ rfl (by decide) y _ rfl) ?_
  refine View.allAt_cons_unit _ _ _ _ _ (tile_s (i 1) 3 5 1 1 (by decide) (by decide) (by decide) (by decide) arg2 harg2 arg3 harg3 arg5 harg5 x0 x1 x3 _ _ rfl _ _ (off16 i 5) _ _ (off18 i 5 1) _ rfl (by decide) y _ rfl) ?_
  refine View.allAt_cons_unit _ _ _ _ _ (tile_s (i 1) 3 5 1 0 (by decide) (by decide) (by decide) (by decide) arg2 harg2 arg3 harg3 arg5 harg5 x0 x1 x3 _ _ rfl _ _ (off16 i 5) _ _ (off18 i 5 0) _ rfl (by decide) y _ rfl) ?_
  refine View.allAt_cons_unit _ _ _ _ _ (tile_s (i 1) 3 5 0 3 (by decide) (by decide) (by decide) (by decide) arg2 harg2 arg3 harg3 arg5 harg5 x0 x1 x3 _ _ rfl _ _ (off16 i 5) _ _ (off17 i 5 3) _ rfl (by decide) y _ rfl) ?_
  refine View.allAt_cons_unit _ _ _ _ _ (tile_s (i 1) 3 5 0 2 (by decide) (by decide) (by decide) (by decide) arg2 harg2 arg3 harg3 arg5 harg5 x0 x1 x3 _ _ rfl _ _ (off16 i 5) _ _ (off17 i 5 2) _ rfl (by decide) y _ rfl) ?_
  refine View.allAt_cons_unit _ _ _ _ _ (tile_s (i 1) 3 5 0 1 (by decide) (by decide) (by decide) (by decide) arg2 harg2 arg3 harg3 arg5 harg5 x0 x1 x3 _ _ rfl _ _ (off16 i 5) _ _ (off17 i 5 1) _ rfl (by decide) y _ rfl) ?_
  refine View.allAt_cons_unit _ _ _ _ _ (tile_s (i 1) 3 5 0 0 (by decide) (by decide) (by decide) (by decide) arg2 harg2 arg3 harg3 arg5 harg5 x0 x1 x3 _ _ rfl _ _ (off16 i 5) _ _ (off17 i 5 0) _ rfl (by decide) y _ rfl) ?_
  refine View.allAt_cons_unit _ _ _ _ _ (tile_s (i 1) 3 4 1 3 (by decide) (by decide) (by decide) (by decide) arg2 harg2 arg3 harg3 arg5 harg5 x0 x1 x3 _ _ rfl _ _ (off16 i 4) _ _ (off18 i 4 3) _ rfl (by decide) y _ rfl) ?_
  refine View.allAt_cons_unit _ _ _ _ _ (tile_s (i 1) 3 4 1 2 (by decide) (by decide) (by decide) (by decide) arg2 harg2 arg3 harg3 arg5 harg5 x0 x1 x3 _ _ rfl _ _ (off16 i 4) _ _ (off18 i 4 2) _ rfl (by decide) y _ rfl) ?_
  refine View.allAt_cons_unit _ _ _ _ _ (tile_s (i 1) 3 4 1 1 (by decide) (by decide) (by decide) (by decide) arg2 harg2 arg3 harg3 arg5 harg5 x0 x1 x3 _ _ rfl _ _ (off16 i 4) _ _ (off18 i 4 1) _ rfl (by decide) y _ rfl) ?_
  refine View.allAt_cons_unit _ _ _ _ _ (tile_s (i 1) 3 4 1 0 (by decide) (by decide) (by decide) (by decide) arg2 harg2 arg3 harg3 arg5 harg5 x0 x1 x3 _ _ rfl _ _ (off16 i 4) _ _ (off18 i 4 0) _ rfl (by decide) y _ rfl) ?_
  refine View.allAt_cons_unit _ _ _ _ _ (tile_s (i 1) 3 4 0 3 (by decide) (by decide) (by decide) (by decide) arg2 harg2 arg3 harg3 arg5 harg5 x0 x1 x3 _ _ rfl _ _ (off16 i 4) _ _ (off17 i 4 3) _ rfl (by decide) y _ rfl) ?_
  refine View.allAt_cons_unit _ _ _ _ _ (tile_s (i 1) 3 4 0 2 (by decide) (by decide) (by decide) (by decide) arg2 harg2 arg3 harg3 arg5 harg5 x0 x1 x3 _ _ rfl _ _ (off16 i 4) _ _ (off17 i 4 2) _ rfl (by decide) y _ rfl) ?_
  refine View.allAt_cons_unit _ _ _ _ _ (tile_s (i 1) 3 4 0 1 (by decide) (by decide) (by decide) (by decide) arg2 harg2 arg3 harg3 arg5 harg5 x0 x1 x3 _ _ rfl _ _ (off16 i 4) _ _ (off17 i 4 1) _ rfl (by decide) y _ rfl) ?_
  refine View.allAt_cons_unit _ _ _ _ _ (tile_s (i 1) 3 4 0 0 (by decide) (by decide) (by decide) (by decide) arg2 harg2 arg3 harg3 arg5 harg5 x0 x1 x3 _ _ rfl _ _ (off16 i 4) _ _ (off17 i 4 0) _ rfl (by decide) y _ rfl) ?_
  refine View.allAt_cons_unit _ _ _ _ _ (tile_s (i 1) 3 3 1 3 (by decide) (by decide) (by decide) (by decide) arg2 harg2 arg3 harg3 arg5 harg5 x0 x1 x3 _ _ rfl _ _ (off16 i 3) _ _ (off18 i 3 3) _ rfl (by decide) y _ rfl) ?_
  refine View.allAt_cons_unit _ _ _ _ _ (tile_s (i 1) 3 3 1 2 (by decide) (by decide) (by decide) (by decide) arg2 harg2 arg3 harg3 arg5 harg5 x0 x1 x3 _ _ rfl _ _ (off16 i 3) _ _ (off18 i 3 2) _ rfl (by decide) y _ rfl) ?_
  refine View.allAt_cons_unit _ _ _ _ _ (tile_s (i 1) 3 3 1 1 (by decide) (by decide) (by decide) (by decide) arg2 harg2 arg3 harg3 arg5 harg5 x0 x1 x3 _ _ rfl _ _ (off16 i 3) _ _ (off18 i 3 1) _ rfl (by decide) y _ rfl) ?_
  refine View.allAt_cons_unit _ _ _ _ _ (tile_s (i 1) 3 3 1 0 (by decide) (by decide) (by decide) (by decide) arg2 harg2 arg3 harg3 arg5 harg5 x0 x1 x3 _ _ rfl _ _ (off16 i 3) _ _ (off18 i 3 0) _ rfl (by decide) y _ rfl) ?_
  refine View.allAt_cons_unit _ _ _ _ _ (tile_s (i 1) 3 3 0 3 (by decide) (by decide) (by decide) (by decide) arg2 harg2 arg3 harg3 arg5 harg5 x0 x1 x3 _ _ rfl _ _ (off16 i 3) _ _ (off17 i 3 3) _ rfl (by decide) y _ rfl) ?_
  refine View.allAt_cons_unit _ _ _ _ _ (tile_s (i 1) 3 3 0 2 (by decide) (by decide) (by decide) (by decide) arg2 harg2 arg3 harg3 arg5 harg5 x0 x1 x3 _ _ rfl _ _ (off16 i 3) _ _ (off17 i 3 2) _ rfl (by decide) y _ rfl) ?_
  refine View.allAt_cons_unit _ _ _ _ _ (tile_s (i 1) 3 3 0 1 (by decide) (by decide) (by decide) (by decide) arg2 harg2 arg3 harg3 arg5 harg5 x0 x1 x3 _ _ rfl _ _ (off16 i 3) _ _ (off17 i 3 1) _ rfl (by decide) y _ rfl) ?_
  refine View.allAt_cons_unit _ _ _ _ _ (tile_s (i 1) 3 3 0 0 (by decide) (by decide) (by decide) (by decide) arg2 harg2 arg3 harg3 arg5 harg5 x0 x1 x3 _ _ rfl _ _ (off16 i 3) _ _ (off17 i 3 0) _ rfl (by decide) y _ rfl) ?_
  refine View.allAt_cons_unit _ _ _ _ _ (tile_s (i 1) 3 2 1 3 (by decide) (by decide) (by decide) (by decide) arg2 harg2 arg3 harg3 arg5 harg5 x0 x1 x3 _ _ rfl _ _ (off16 i 2) _ _ (off18 i 2 3) _ rfl (by decide) y _ rfl) ?_
  refine View.allAt_cons_unit _ _ _ _ _ (tile_s (i 1) 3 2 1 2 (by decide) (by decide) (by decide) (by decide) arg2 harg2 arg3 harg3 arg5 harg5 x0 x1 x3 _ _ rfl _ _ (off16 i 2) _ _ (off18 i 2 2) _ rfl (by decide) y _ rfl) ?_
  refine View.allAt_cons_unit _ _ _ _ _ (tile_s (i 1) 3 2 1 1 (by decide) (by decide) (by decide) (by decide) arg2 harg2 arg3 harg3 arg5 harg5 x0 x1 x3 _ _ rfl _ _ (off16 i 2) _ _ (off18 i 2 1) _ rfl (by decide) y _ rfl) ?_
  refine View.allAt_cons_unit _ _ _ _ _ (tile_s (i 1) 3 2 1 0 (by decide) (by decide) (by decide) (by decide) arg2 harg2 arg3 harg3 arg5 harg5 x0 x1 x3 _ _ rfl _ _ (off16 i 2) _ _ (off18 i 2 0) _ rfl (by decide) y _ rfl) ?_
  refine View.allAt_cons_unit _ _ _ _ _ (tile_s (i 1) 3 2 0 3 (by decide) (by decide) (by decide) (by decide) arg2 harg2 arg3 harg3 arg5 harg5 x0 x1 x3 _ _ rfl _ _ (off16 i 2) _ _ (off17 i 2 3) _ rfl (by decide) y _ rfl) ?_
  refine View.allAt_cons_unit _ _ _ _ _ (tile_s (i 1) 3 2 0 2 (by decide) (by decide) (by decide) (by decide) arg2 harg2 arg3 harg3 arg5 harg5 x0 x1 x3 _ _ rfl _ _ (off16 i 2) _ _ (off17 i 2 2) _ rfl (by decide) y _ rfl) ?_
  refine View.allAt_cons_unit _ _ _ _ _ (tile_s (i 1) 3 2 0 1 (by decide) (by decide) (by decide) (by decide) arg2 harg2 arg3 harg3 arg5 harg5 x0 x1 x3 _ _ rfl _ _ (off16 i 2) _ _ (off17 i 2 1) _ rfl (by decide) y _ rfl) ?_
  refine View.allAt_cons_unit _ _ _ _ _ (tile_s (i 1) 3 2 0 0 (by decide) (by decide) (by decide) (by decide) arg2 harg2 arg3 harg3 arg5 harg5 x0 x1 x3 _ _ rfl _ _ (off16 i 2) _ _ (off17 i 2 0) _ rfl (by decide) y _ rfl) ?_
  refine View.allAt_cons_unit _ _ _ _ _ (tile_s (i 1) 3 1 1 3 (by decide) (by decide) (by decide) (by decide) arg2 harg2 arg3 harg3 arg5 harg5 x0 x1 x3 _ _ rfl _ _ (off16 i 1) _ _ (off18 i 1 3) _ rfl (by decide) y _ rfl) ?_
  refine View.allAt_cons_unit _ _ _ _ _ (tile_s (i 1) 3 1 1 2 (by decide) (by decide) (by decide) (by decide) arg2 harg2 arg3 harg3 arg5 harg5 x0 x1 x3 _ _ rfl _ _ (off16 i 1) _ _ (off18 i 1 2) _ rfl (by decide) y _ rfl) ?_
  refine View.allAt_cons_unit _ _ _ _ _ (tile_s (i 1) 3 1 1 1 (by decide) (by decide) (by decide) (by decide) arg2 harg2 arg3 harg3 arg5 harg5 x0 x1 x3 _ _ rfl _ _ (off16 i 1) _ _ (off18 i 1 1) _ rfl (by decide) y _ rfl) ?_
  refine View.allAt_cons_unit _ _ _ _ _ (tile_s (i 1) 3 1 1 0 (by decide) (by decide) (by decide) (by decide) arg2 harg2 arg3 harg3 arg5 harg5 x0 x1 x3 _ _ rfl _ _ (off16 i 1) _ _ (off18 i 1 0) _ rfl (by decide) y _ rfl) ?_
  refine View.allAt_cons_unit _ _ _ _ _ (tile_s (i 1) 3 1 0 3 (by decide) (by decide) (by decide) (by decide) arg2 harg2 arg3 harg3 arg5 harg5 x0 x1 x3 _ _ rfl _ _ (off16 i 1) _ _ (off17 i 1 3) _ rfl (by decide) y _ rfl) ?_
  refine View.allAt_cons_unit _ _ _ _ _ (tile_s (i 1) 3 1 0 2 (by decide) (by decide) (by decide) (by decide) arg2 harg2 arg3 harg3 arg5 harg5 x0 x1 x3 _ _ rfl _ _ (off16 i 1) _ _ (off17 i 1 2) _ rfl (by decide) y _ rfl) ?_
  refine View.allAt_cons_unit _ _ _ _ _ (tile_s (i 1) 3 1 0 1 (by decide) (by decide) (by decide) (by decide) arg2 harg2 arg3 harg3 arg5 harg5 x0 x1 x3 _ _ rfl _ _ (off16 i 1) _ _ (off17 i 1 1) _ rfl (by decide) y _ rfl) ?_
  refine View.allAt_cons_unit _ _ _ _ _ (tile_s (i 1) 3 1 0 0 (by decide) (by decide) (by decide) (by decide) arg2 harg2 arg3 harg3 arg5 harg5 x0 x1 x3 _ _ rfl _ _ (off16 i 1) _ _ (off17 i 1 0) _ rfl (by decide) y _ rfl) ?_
  refine View.allAt_cons_unit _ _ _ _ _ (tile_s (i 1) 3 0 1 3 (by decide) (by decide) (by decide) (by decide) arg2 harg2 arg3 harg3 arg5 harg5 x0 x1 x3 _ _ rfl _ _ (off16 i 0) _ _ (off18 i 0 3) _ rfl (by decide) y _ rfl) ?_
  refine View.allAt_cons_unit _ _ _ _ _ (tile_s (i 1) 3 0 1 2 (by decide) (by decide) (by decide) (by decide) arg2 harg2 arg3 harg3 arg5 harg5 x0 x1 x3 _ _ rfl _ _ (off16 i 0) _ _ (off18 i 0 2) _ rfl (by decide) y _ rfl) ?_
  refine View.allAt_cons_unit _ _ _ _ _ (tile_s (i 1) 3 0 1 1 (by decide) (by decide) (by decide) (by decide) arg2 harg2 arg3 harg3 arg5 harg5 x0 x1 x3 _ _ rfl _ _ (off16 i 0) _ _ (off18 i 0 1) _ rfl (by decide) y _ rfl) ?_
  refine View.allAt_cons_unit _ _ _ _ _ (tile_s (i 1) 3 0 1 0 (by decide) (by decide) (by decide) (by decide) arg2 harg2 arg3 harg3 arg5 harg5 x0 x1 x3 _ _ rfl _ _ (off16 i 0) _ _ (off18 i 0 0) _ rfl (by decide) y _ rfl) ?_
  refine View.allAt_cons_unit _ _ _ _ _ (tile_s (i 1) 3 0 0 3 (by decide) (by decide) (by decide) (by decide) arg2 harg2 arg3 harg3 arg5 harg5 x0 x1 x3 _ _ rfl _ _ (off16 i 0) _ _ (off17 i 0 3) _ rfl (by decide) y _ rfl) ?_
  refine View.allAt_cons_unit _ _ _ _ _ (tile_s (i 1) 3 0 0 2 (by decide) (by decide) (by decide) (by decide) arg2 harg2 arg3 harg3 arg5 harg5 x0 x1 x3 _ _ rfl _ _ (off16 i 0) _ _ (off17 i 0 2) _ rfl (by decide) y _ rfl) ?_
  refine View.allAt_cons_unit _ _ _ _ _ (tile_s (i 1) 3 0 0 1 (by decide) (by decide) (by decide) (by decide) arg2 harg2 arg3 harg3 arg5 harg5 x0 x1 x3 _ _ rfl _ _ (off16 i 0) _ _ (off17 i 0 1) _ rfl (by decide) y _ rfl) ?_
  refine View.allAt_cons_unit _ _ _ _ _ (tile_s (i 1) 3 0 0 0 (by decide) (by decide) (by decide) (by decide) arg2 harg2 arg3 harg3 arg5 harg5 x0 x1 x3 _ _ rfl _ _ (off16 i 0) _ _ (off17 i 0 0) _ rfl (by decide) y _ rfl) ?_
  exact View.allAt_nil _ _

theorem canon_s3 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (x0 : Vec Ideal S1x512x1024 .bf16) (x1 : Vec Ideal S1x1024x1024 .bf16) (x3 : Vec Ideal S8x14x128x128 .f32) (y : S2048x512.Idx) :
    View.canon (Val := Elt Ideal) (e := .f32) (HS1_128 c i arg2 harg2 arg3 harg3 arg5 harg5 x0 x1 x3) y = gs (i 1).val x0 x1 x3 3 (y 0).val (y 1).val :=
  canon_take 64 _ y _ (View.cover_of_tiledL (List.take 64 (HS1_128 c i arg2 harg2 arg3 harg3 arg5 harg5 x0 x1 x3)) S128x128.size (by sl_kernel_rfl) y) (all_s3 c i arg2 harg2 arg3 harg3 arg5 harg5 x0 x1 x3 y)

/-- The weights written for group 3 of heads. -/
theorem all_p3 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg8 : Memref sig Kind.tc Space.vmem S2048x512 .f32) (x0 : Vec Ideal S1x512x1024 .bf16) (x1 : Vec Ideal S1x1024x1024 .bf16) (x3 : Vec Ideal S8x14x128x128 .f32) (y : S2048x512.Idx) :
    View.AllAt (Val := Elt Ideal) (e := .bf16) (List.take 8 (HS3_16 c i arg2 harg2 arg3 harg3 arg5 harg5 arg8 x0 x1 x3)) y (gp (i 1).val x0 x1 x3 3 (y 0).val (y 1).val) := by
  refine View.allAt_cons_unit _ _ _ _ _ (tile_pc (i 1).val 3 7 arg8 x0 x1 x3 _ (canon_s3 c i arg2 harg2 arg3 harg3 arg5 harg5 x0 x1 x3) _ (by decide) rfl y _ rfl) ?_
  refine View.allAt_cons_unit _ _ _ _ _ (tile_pc (i 1).val 3 6 arg8 x0 x1 x3 _ (canon_s3 c i arg2 harg2 arg3 harg3 arg5 harg5 x0 x1 x3) _ (by decide) rfl y _ rfl) ?_
  refine View.allAt_cons_unit _ _ _ _ _ (tile_pc (i 1).val 3 5 arg8 x0 x1 x3 _ (canon_s3 c i arg2 harg2 arg3 harg3 arg5 harg5 x0 x1 x3) _ (by decide) rfl y _ rfl) ?_
  refine View.allAt_cons_unit _ _ _ _ _ (tile_pc (i 1).val 3 4 arg8 x0 x1 x3 _ (canon_s3 c i arg2 harg2 arg3 harg3 arg5 harg5 x0 x1 x3) _ (by decide) rfl y _ rfl) ?_
  refine View.allAt_cons_unit _ _ _ _ _ (tile_pc (i 1).val 3 3 arg8 x0 x1 x3 _ (canon_s3 c i arg2 harg2 arg3 harg3 arg5 harg5 x0 x1 x3) _ (by decide) rfl y _ rfl) ?_
  refine View.allAt_cons_unit _ _ _ _ _ (tile_pc (i 1).val 3 2 arg8 x0 x1 x3 _ (canon_s3 c i arg2 harg2 arg3 harg3 arg5 harg5 x0 x1 x3) _ (by decide) rfl y _ rfl) ?_
  refine View.allAt_cons_unit _ _ _ _ _ (tile_pc (i 1).val 3 1 arg8 x0 x1 x3 _ (canon_s3 c i arg2 harg2 arg3 harg3 arg5 harg5 x0 x1 x3) _ (by decide) rfl y _ rfl) ?_
  refine View.allAt_cons_unit _ _ _ _ _ (tile_pc (i 1).val 3 0 arg8 x0 x1 x3 _ (canon_s3 c i arg2 harg2 arg3 harg3 arg5 harg5 x0 x1 x3) _ (by decide) rfl y _ rfl) ?_
  exact View.allAt_nil _ _

theorem canon_p3 (c : Dev nD) (i : grid1.Coords) (arg2 : Memref sig Kind.tc Space.vmem S1x512x1024 .bf16) (harg2 : arg2.IsWhole) (arg3 : Memref sig Kind.tc Space.vmem S1x1024x1024 .bf16) (harg3 : arg3.IsWhole) (arg5 : Memref sig Kind.tc Space.vmem S8x14x128x128 .f32) (harg5 : arg5.IsWhole) (arg8 : Memref sig Kind.tc Space.vmem S2048x512 .f32) (x0 : Vec Ideal S1x512x1024 .bf16) (x1 : Vec Ideal S1x1024x1024 .bf16) (x3 : Vec Ideal S8x14x128x128 .f32) (y : S2048x512.Idx) :
    View.canon (Val := Elt Ideal) (e := .bf16) (HS3_16 c i arg2 harg2 arg3 harg3 arg5 harg5 arg8 x0 x1 x3) y = gp (i 1).val x0 x1 x3 3 (y 0).val (y 1).val :=
  canon_take 8 _ y _ (View.cover_of_tiledL (List.take 8 (HS3_16 c i arg2 harg2 arg3 harg3 arg5 harg5 arg8 x0 x1 x3)) S256x512.size (by sl_kernel_rfl) y) (all_p3 c i arg2 harg2 arg3 harg3 arg5 harg5 arg8 x0 x1 x3 y)

end Cert.KernelIdeal.NA
end
end
-- ==== Proof.NaOut.lean ====
module
public import proofs.«01_k».proof.Proof.NaS0
public import proofs.«01_k».proof.Proof.NaS1
public import proofs.«01_k».proof.Proof.NaS2
public import proofs.«01_k».proof.Proof.NaS3

@[expose] public section
set_option maxRecDepth 65536
noncomputable section
open Idealize.ShloMosaic Idealize.ShloMosaic.TcCoe Idealize.SL.Sem
namespace Cert.KernelIdeal.NA
open Cert.KernelIdeal Cert.KernelIdeal.Gen Cert.KernelIdeal.Gen.kernelRun1_A.sl

/-- The pieces of results written. -/
theorem all_o (c : Dev nD) (i : grid1.Coords) (arg2 : Memref sig .tc .vmem S1x512x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S8x14x128x128 .f32) (harg5 : arg5.IsWhole) (arg6 : Memref sig .tc .vmem S1x512x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .bf16) (harg9 : arg9.IsWhole) (arg10 : Memref sig .tc .vmem S2048x512 .bf16) (harg10 : arg10.IsWhole) (x0 : Vec Ideal S1x512x1024 .bf16) (x1 : Vec Ideal S1x1024x1024 .bf16) (x2 : Vec Ideal S1x1024x1024 .bf16) (x3 : Vec Ideal S8x14x128x128 .f32) (y : S1x512x1024.Idx) :
    View.AllAt (Val := Elt Ideal) (e := .bf16) (kernelRun1_A (F := Ideal) c i arg2 harg2 arg3 harg3 arg4 harg4 arg5 harg5 arg6 harg6 arg7 harg7 arg8 harg8 arg9 harg9 arg10 harg10 x0 x1 x2 x3).1 y (go (i 1).val x0 x1 x2 x3 (y 1).val (y 2).val) := by
  refine View.allAt_cons_unit _ _ _ _ _ (tile_oc (i 1) 3 7 1 (by decide) (by decide) (by decide) arg10 arg4 harg4 x0 x1 x2 x3 _ (canon_p3 c i arg2 harg2 arg3 harg3 arg5 harg5 arg8 x0 x1 x3) _ (by decide) rfl _ _ (off20 i 7) y _ rfl) ?_
  refine View.allAt_cons_unit _ _ _ _ _ (tile_oc (i 1) 3 7 0 (by decide) (by decide) (by decide) arg10 arg4 harg4 x0 x1 x2 x3 _ (canon_p3 c i arg2 harg2 arg3 harg3 arg5 harg5 arg8 x0 x1 x3) _ (by decide) rfl _ _ (off19 i 7) y _ rfl) ?_
  refine View.allAt_cons_unit _ _ _ _ _ (tile_oc (i 1) 3 6 1 (by decide) (by decide) (by decide) arg10 arg4 harg4 x0 x1 x2 x3 _ (canon_p3 c i arg2 harg2 arg3 harg3 arg5 harg5 arg8 x0 x1 x3) _ (by decide) rfl _ _ (off20 i 6) y _ rfl) ?_
  refine View.allAt_cons_unit _ _ _ _ _ (tile_oc (i 1) 3 6 0 (by decide) (by decide) (by decide) arg10 arg4 harg4 x0 x1 x2 x3 _ (canon_p3 c i arg2 harg2 arg3 harg3 arg5 harg5 arg8 x0 x1 x3) _ (by decide) rfl _ _ (off19 i 6) y _ rfl) ?_
  refine View.allAt_cons_unit _ _ _ _ _ (tile_oc (i 1) 3 5 1 (by decide) (by decide) (by decide) arg10 arg4 harg4 x0 x1 x2 x3 _ (canon_p3 c i arg2 harg2 arg3 harg3 arg5 harg5 arg8 x0 x1 x3) _ (by decide) rfl _ _ (off20 i 5) y _ rfl) ?_
  refine View.allAt_cons_unit _ _ _ _ _ (tile_oc (i 1) 3 5 0 (by decide) (by decide) (by decide) arg10 arg4 harg4 x0 x1 x2 x3 _ (canon_p3 c i arg2 harg2 arg3 harg3 arg5 harg5 arg8 x0 x1 x3) _ (by decide) rfl _ _ (off19 i 5) y _ rfl) ?_
  refine View.allAt_cons_unit _ _ _ _ _ (tile_oc (i 1) 3 4 1 (by decide) (by decide) (by decide) arg10 arg4 harg4 x0 x1 x2 x3 _ (canon_p3 c i arg2 harg2 arg3 harg3 arg5 harg5 arg8 x0 x1 x3) _ (by decide) rfl _ _ (off20 i 4) y _ rfl) ?_
  refine View.allAt_cons_unit _ _ _ _ _ (tile_oc (i 1) 3 4 0 (by decide) (by decide) (by decide) arg10 arg4 harg4 x0 x1 x2 x3 _ (canon_p3 c i arg2 harg2 arg3 harg3 arg5 harg5 arg8 x0 x1 x3) _ (by decide) rfl _ _ (off19 i 4) y _ rfl) ?_
  refine View.allAt_cons_unit _ _ _ _ _ (tile_oc (i 1) 3 3 1 (by decide) (by decide) (by decide) arg10 arg4 harg4 x0 x1 x2 x3 _ (canon_p3 c i arg2 harg2 arg3 harg3 arg5 harg5 arg8 x0 x1 x3) _ (by decide) rfl _ _ (off20 i 3) y _ rfl) ?_
  refine View.allAt_cons_unit _ _ _ _ _ (tile_oc (i 1) 3 3 0 (by decide) (by decide) (by decide) arg10 arg4 harg4 x0 x1 x2 x3 _ (canon_p3 c i arg2 harg2 arg3 harg3 arg5 harg5 arg8 x0 x1 x3) _ (by decide) rfl _ _ (off19 i 3) y _ rfl) ?_
  refine View.allAt_cons_unit _ _ _ _ _ (tile_oc (i 1) 3 2 1 (by decide) (by decide) (by decide) arg10 arg4 harg4 x0 x1 x2 x3 _ (canon_p3 c i arg2 harg2 arg3 harg3 arg5 harg5 arg8 x0 x1 x3) _ (by decide) rfl _ _ (off20 i 2) y _ rfl) ?_
  refine View.allAt_cons_unit _ _ _ _ _ (tile_oc (i 1) 3 2 0 (by decide) (by decide) (by decide) arg10 arg4 harg4 x0 x1 x2 x3 _ (canon_p3 c i arg2 harg2 arg3 harg3 arg5 harg5 arg8 x0 x1 x3) _ (by decide) rfl _ _ (off19 i 2) y _ rfl) ?_
  refine View.allAt_cons_unit _ _ _ _ _ (tile_oc (i 1) 3 1 1 (by decide) (by decide) (by decide) arg10 arg4 harg4 x0 x1 x2 x3 _ (canon_p3 c i arg2 harg2 arg3 harg3 arg5 harg5 arg8 x0 x1 x3) _ (by decide) rfl _ _ (off20 i 1) y _ rfl) ?_
  refine View.allAt_cons_unit _ _ _ _ _ (tile_oc (i 1) 3 1 0 (by decide) (by decide) (by decide) arg10 arg4 harg4 x0 x1 x2 x3 _ (canon_p3 c i arg2 harg2 arg3 harg3 arg5 harg5 arg8 x0 x1 x3) _ (by decide) rfl _ _ (off19 i 1) y _ rfl) ?_
  refine View.allAt_cons_unit _ _ _ _ _ (tile_oc (i 1) 3 0 1 (by decide) (by decide) (by decide) arg10 arg4 harg4 x0 x1 x2 x3 _ (canon_p3 c i arg2 harg2 arg3 harg3 arg5 harg5 arg8 x0 x1 x3) _ (by decide) rfl _ _ (off20 i 0) y _ rfl) ?_
  refine View.allAt_cons_unit _ _ _ _ _ (tile_oc (i 1) 3 0 0 (by decide) (by decide) (by decide) arg10 arg4 harg4 x0 x1 x2 x3 _ (canon_p3 c i arg2 harg2 arg3 harg3 arg5 harg5 arg8 x0 x1 x3) _ (by decide) rfl _ _ (off19 i 0) y _ rfl) ?_
  refine View.allAt_cons_unit _ _ _ _ _ (tile_oc (i 1) 2 7 1 (by decide) (by decide) (by decide) arg9 arg4 harg4 x0 x1 x2 x3 _ (canon_p2 c i arg2 harg2 arg3 harg3 arg5 harg5 arg7 x0 x1 x3) _ (by decide) rfl _ _ (off15 i 7) y _ rfl) ?_
  refine View.allAt_cons_unit _ _ _ _ _ (tile_oc (i 1) 2 7 0 (by decide) (by decide) (by decide) arg9 arg4 harg4 x0 x1 x2 x3 _ (canon_p2 c i arg2 harg2 arg3 harg3 arg5 harg5 arg7 x0 x1 x3) _ (by decide) rfl _ _ (off14 i 7) y _ rfl) ?_
  refine View.allAt_cons_unit _ _ _ _ _ (tile_oc (i 1) 2 6 1 (by decide) (by decide) (by decide) arg9 arg4 harg4 x0 x1 x2 x3 _ (canon_p2 c i arg2 harg2 arg3 harg3 arg5 harg5 arg7 x0 x1 x3) _ (by decide) rfl _ _ (off15 i 6) y _ rfl) ?_
  refine View.allAt_cons_unit _ _ _ _ _ (tile_oc (i 1) 2 6 0 (by decide) (by decide) (by decide) arg9 arg4 harg4 x0 x1 x2 x3 _ (canon_p2 c i arg2 harg2 arg3 harg3 arg5 harg5 arg7 x0 x1 x3) _ (by decide) rfl _ _ (off14 i 6) y _ rfl) ?_
  refine View.allAt_cons_unit _ _ _ _ _ (tile_oc (i 1) 2 5 1 (by decide) (by decide) (by decide) arg9 arg4 harg4 x0 x1 x2 x3 _ (canon_p2 c i arg2 harg2 arg3 harg3 arg5 harg5 arg7 x0 x1 x3) _ (by decide) rfl _ _ (off15 i 5) y _ rfl) ?_
  refine View.allAt_cons_unit _ _ _ _ _ (tile_oc (i 1) 2 5 0 (by decide) (by decide) (by decide) arg9 arg4 harg4 x0 x1 x2 x3 _ (canon_p2 c i arg2 harg2 arg3 harg3 arg5 harg5 arg7 x0 x1 x3) _ (by decide) rfl _ _ (off14 i 5) y _ rfl) ?_
  refine View.allAt_cons_unit _ _ _ _ _ (tile_oc (i 1) 2 4 1 (by decide) (by decide) (by decide) arg9 arg4 harg4 x0 x1 x2 x3 _ (canon_p2 c i arg2 harg2 arg3 harg3 arg5 harg5 arg7 x0 x1 x3) _ (by decide) rfl _ _ (off15 i 4) y _ rfl) ?_
  refine View.allAt_cons_unit _ _ _ _ _ (tile_oc (i 1) 2 4 0 (by decide) (by decide) (by decide) arg9 arg4 harg4 x0 x1 x2 x3 _ (canon_p2 c i arg2 harg2 arg3 harg3 arg5 harg5 arg7 x0 x1 x3) _ (by decide) rfl _ _ (off14 i 4) y _ rfl) ?_
  refine View.allAt_cons_unit _ _ _ _ _ (tile_oc (i 1) 2 3 1 (by decide) (by decide) (by decide) arg9 arg4 harg4 x0 x1 x2 x3 _ (canon_p2 c i arg2 harg2 arg3 harg3 arg5 harg5 arg7 x0 x1 x3) _ (by decide) rfl _ _ (off15 i 3) y _ rfl) ?_
  refine View.allAt_cons_unit _ _ _ _ _ (tile_oc (i 1) 2 3 0 (by decide) (by decide) (by decide) arg9 arg4 harg4 x0 x1 x2 x3 _ (canon_p2 c i arg2 harg2 arg3 harg3 arg5 harg5 arg7 x0 x1 x3) _ (by decide) rfl _ _ (off14 i 3) y _ rfl) ?_
  refine View.allAt_cons_unit _ _ _ _ _ (tile_oc (i 1) 2 2 1 (by decide) (by decide) (by decide) arg9 arg4 harg4 x0 x1 x2 x3 _ (canon_p2 c i arg2 harg2 arg3 harg3 arg5 harg5 arg7 x0 x1 x3) _ (by decide) rfl _ _ (off15 i 2) y _ rfl) ?_
  refine View.allAt_cons_unit _ _ _ _ _ (tile_oc (i 1) 2 2 0 (by decide) (by decide) (by decide) arg9 arg4 harg4 x0 x1 x2 x3 _ (canon_p2 c i arg2 harg2 arg3 harg3 arg5 harg5 arg7 x0 x1 x3) _ (by decide) rfl _ _ (off14 i 2) y _ rfl) ?_
  refine View.allAt_cons_unit _ _ _ _ _ (tile_oc (i 1) 2 1 1 (by decide) (by decide) (by decide) arg9 arg4 harg4 x0 x1 x2 x3 _ (canon_p2 c i arg2 harg2 arg3 harg3 arg5 harg5 arg7 x0 x1 x3) _ (by decide) rfl _ _ (off15 i 1) y _ rfl) ?_
  refine View.allAt_cons_unit _ _ _ _ _ (tile_oc (i 1) 2 1 0 (by decide) (by decide) (by decide) arg9 arg4 harg4 x0 x1 x2 x3 _ (canon_p2 c i arg2 harg2 arg3 harg3 arg5 harg5 arg7 x0 x1 x3) _ (by decide) rfl _ _ (off14 i 1) y _ rfl) ?_
  refine View.allAt_cons_unit _ _ _ _ _ (tile_oc (i 1) 2 0 1 (by decide) (by decide) (by decide) arg9 arg4 harg4 x0 x1 x2 x3 _ (canon_p2 c i arg2 harg2 arg3 harg3 arg5 harg5 arg7 x0 x1 x3) _ (by decide) rfl _ _ (off15 i 0) y _ rfl) ?_
  refine View.allAt_cons_unit _ _ _ _ _ (tile_oc (i 1) 2 0 0 (by decide) (by decide) (by decide) arg9 arg4 harg4 x0 x1 x2 x3 _ (canon_p2 c i arg2 harg2 arg3 harg3 arg5 harg5 arg7 x0 x1 x3) _ (by decide) rfl _ _ (off14 i 0) y _ rfl) ?_
  refine View.allAt_cons_unit _ _ _ _ _ (tile_oc (i 1) 1 7 1 (by decide) (by decide) (by decide) arg10 arg4 harg4 x0 x1 x2 x3 _ (canon_p1 c i arg2 harg2 arg3 harg3 arg5 harg5 arg8 x0 x1 x3) _ (by decide) rfl _ _ (off10 i 7) y _ rfl) ?_
  refine View.allAt_cons_unit _ _ _ _ _ (tile_oc (i 1) 1 7 0 (by decide) (by decide) (by decide) arg10 arg4 harg4 x0 x1 x2 x3 _ (canon_p1 c i arg2 harg2 arg3 harg3 arg5 harg5 arg8 x0 x1 x3) _ (by decide) rfl _ _ (off9 i 7) y _ rfl) ?_
  refine View.allAt_cons_unit _ _ _ _ _ (tile_oc (i 1) 1 6 1 (by decide) (by decide) (by decide) arg10 arg4 harg4 x0 x1 x2 x3 _ (canon_p1 c i arg2 harg2 arg3 harg3 arg5 harg5 arg8 x0 x1 x3) _ (by decide) rfl _ _ (off10 i 6) y _ rfl) ?_
  refine View.allAt_cons_unit _ _ _ _ _ (tile_oc (i 1) 1 6 0 (by decide) (by decide) (by decide) arg10 arg4 harg4 x0 x1 x2 x3 _ (canon_p1 c i arg2 harg2 arg3 harg3 arg5 harg5 arg8 x0 x1 x3) _ (by decide) rfl _ _ (off9 i 6) y _ rfl) ?_
  refine View.allAt_cons_unit _ _ _ _ _ (tile_oc (i 1) 1 5 1 (by decide) (by decide) (by decide) arg10 arg4 harg4 x0 x1 x2 x3 _ (canon_p1 c i arg2 harg2 arg3 harg3 arg5 harg5 arg8 x0 x1 x3) _ (by decide) rfl _ _ (off10 i 5) y _ rfl) ?_
  refine View.allAt_cons_unit _ _ _ _ _ (tile_oc (i 1) 1 5 0 (by decide) (by decide) (by decide) arg10 arg4 harg4 x0 x1 x2 x3 _ (canon_p1 c i arg2 harg2 arg3 harg3 arg5 harg5 arg8 x0 x1 x3) _ (by decide) rfl _ _ (off9 i 5) y _ rfl) ?_
  refine View.allAt_cons_unit _ _ _ _ _ (tile_oc (i 1) 1 4 1 (by decide) (by decide) (by decide) arg10 arg4 harg4 x0 x1 x2 x3 _ (canon_p1 c i arg2 harg2 arg3 harg3 arg5 harg5 arg8 x0 x1 x3) _ (by decide) rfl _ _ (off10 i 4) y _ rfl) ?_
  refine View.allAt_cons_unit _ _ _ _ _ (tile_oc (i 1) 1 4 0 (by decide) (by decide) (by decide) arg10 arg4 harg4 x0 x1 x2 x3 _ (canon_p1 c i arg2 harg2 arg3 harg3 arg5 harg5 arg8 x0 x1 x3) _ (by decide) rfl _ _ (off9 i 4) y _ rfl) ?_
  refine View.allAt_cons_unit _ _ _ _ _ (tile_oc (i 1) 1 3 1 (by decide) (by decide) (by decide) arg10 arg4 harg4 x0 x1 x2 x3 _ (canon_p1 c i arg2 harg2 arg3 harg3 arg5 harg5 arg8 x0 x1 x3) _ (by decide) rfl _ _ (off10 i 3) y _ rfl) ?_
  refine View.allAt_cons_unit _ _ _ _ _ (tile_oc (i 1) 1 3 0 (by decide) (by decide) (by decide) arg10 arg4 harg4 x0 x1 x2 x3 _ (canon_p1 c i arg2 harg2 arg3 harg3 arg5 harg5 arg8 x0 x1 x3) _ (by decide) rfl _ _ (off9 i 3) y _ rfl) ?_
  refine View.allAt_cons_unit _ _ _ _ _ (tile_oc (i 1) 1 2 1 (by decide) (by decide) (by decide) arg10 arg4 harg4 x0 x1 x2 x3 _ (canon_p1 c i arg2 harg2 arg3 harg3 arg5 harg5 arg8 x0 x1 x3) _ (by decide) rfl _ _ (off10 i 2) y _ rfl) ?_
  refine View.allAt_cons_unit _ _ _ _ _ (tile_oc (i 1) 1 2 0 (by decide) (by decide) (by decide) arg10 arg4 harg4 x0 x1 x2 x3 _ (canon_p1 c i arg2 harg2 arg3 harg3 arg5 harg5 arg8 x0 x1 x3) _ (by decide) rfl _ _ (off9 i 2) y _ rfl) ?_
  refine View.allAt_cons_unit _ _ _ _ _ (tile_oc (i 1) 1 1 1 (by decide) (by decide) (by decide) arg10 arg4 harg4 x0 x1 x2 x3 _ (canon_p1 c i arg2 harg2 arg3 harg3 arg5 harg5 arg8 x0 x1 x3) _ (by decide) rfl _ _ (off10 i 1) y _ rfl) ?_
  refine View.allAt_cons_unit _ _ _ _ _ (tile_oc (i 1) 1 1 0 (by decide) (by decide) (by decide) arg10 arg4 harg4 x0 x1 x2 x3 _ (canon_p1 c i arg2 harg2 arg3 harg3 arg5 harg5 arg8 x0 x1 x3) _ (by decide) rfl _ _ (off9 i 1) y _ rfl) ?_
  refine View.allAt_cons_unit _ _ _ _ _ (tile_oc (i 1) 1 0 1 (by decide) (by decide) (by decide) arg10 arg4 harg4 x0 x1 x2 x3 _ (canon_p1 c i arg2 harg2 arg3 harg3 arg5 harg5 arg8 x0 x1 x3) _ (by decide) rfl _ _ (off10 i 0) y _ rfl) ?_
  refine View.allAt_cons_unit _ _ _ _ _ (tile_oc (i 1) 1 0 0 (by decide) (by decide) (by decide) arg10 arg4 harg4 x0 x1 x2 x3 _ (canon_p1 c i arg2 harg2 arg3 harg3 arg5 harg5 arg8 x0 x1 x3) _ (by decide) rfl _ _ (off9 i 0) y _ rfl) ?_
  refine View.allAt_cons_unit _ _ _ _ _ (tile_oc (i 1) 0 7 1 (by decide) (by decide) (by decide) arg9 arg4 harg4 x0 x1 x2 x3 _ (canon_p0 c i arg2 harg2 arg3 harg3 arg5 harg5 arg7 x0 x1 x3) _ (by decide) rfl _ _ (off5 i 7) y _ rfl) ?_
  refine View.allAt_cons_unit _ _ _ _ _ (tile_oc (i 1) 0 7 0 (by decide) (by decide) (by decide) arg9 arg4 harg4 x0 x1 x2 x3 _ (canon_p0 c i arg2 harg2 arg3 harg3 arg5 harg5 arg7 x0 x1 x3) _ (by decide) rfl _ _ (off4 i 7) y _ rfl) ?_
  refine View.allAt_cons_unit _ _ _ _ _ (tile_oc (i 1) 0 6 1 (by decide) (by decide) (by decide) arg9 arg4 harg4 x0 x1 x2 x3 _ (canon_p0 c i arg2 harg2 arg3 harg3 arg5 harg5 arg7 x0 x1 x3) _ (by decide) rfl _ _ (off5 i 6) y _ rfl) ?_
  refine View.allAt_cons_unit _ _ _ _ _ (tile_oc (i 1) 0 6 0 (by decide) (by decide) (by decide) arg9 arg4 harg4 x0 x1 x2 x3 _ (canon_p0 c i arg2 harg2 arg3 harg3 arg5 harg5 arg7 x0 x1 x3) _ (by decide) rfl _ _ (off4 i 6) y _ rfl) ?_
  refine View.allAt_cons_unit _ _ _ _ _ (tile_oc (i 1) 0 5 1 (by decide) (by decide) (by decide) arg9 arg4 harg4 x0 x1 x2 x3 _ (canon_p0 c i arg2 harg2 arg3 harg3 arg5 harg5 arg7 x0 x1 x3) _ (by decide) rfl _ _ (off5 i 5) y _ rfl) ?_
  refine View.allAt_cons_unit _ _ _ _ _ (tile_oc (i 1) 0 5 0 (by decide) (by decide) (by decide) arg9 arg4 harg4 x0 x1 x2 x3 _ (canon_p0 c i arg2 harg2 arg3 harg3 arg5 harg5 arg7 x0 x1 x3) _ (by decide) rfl _ _ (off4 i 5) y _ rfl) ?_
  refine View.allAt_cons_unit _ _ _ _ _ (tile_oc (i 1) 0 4 1 (by decide) (by decide) (by decide) arg9 arg4 harg4 x0 x1 x2 x3 _ (canon_p0 c i arg2 harg2 arg3 harg3 arg5 harg5 arg7 x0 x1 x3) _ (by decide) rfl _ _ (off5 i 4) y _ rfl) ?_
  refine View.allAt_cons_unit _ _ _ _ _ (tile_oc (i 1) 0 4 0 (by decide) (by decide) (by decide) arg9 arg4 harg4 x0 x1 x2 x3 _ (canon_p0 c i arg2 harg2 arg3 harg3 arg5 harg5 arg7 x0 x1 x3) _ (by decide) rfl _ _ (off4 i 4) y _ rfl) ?_
  refine View.allAt_cons_unit _ _ _ _ _ (tile_oc (i 1) 0 3 1 (by decide) (by decide) (by decide) arg9 arg4 harg4 x0 x1 x2 x3 _ (canon_p0 c i arg2 harg2 arg3 harg3 arg5 harg5 arg7 x0 x1 x3) _ (by decide) rfl _ _ (off5 i 3) y _ rfl) ?_
  refine View.allAt_cons_unit _ _ _ _ _ (tile_oc (i 1) 0 3 0 (by decide) (by decide) (by decide) arg9 arg4 harg4 x0 x1 x2 x3 _ (canon_p0 c i arg2 harg2 arg3 harg3 arg5 harg5 arg7 x0 x1 x3) _ (by decide) rfl _ _ (off4 i 3) y _ rfl) ?_
  refine View.allAt_cons_unit _ _ _ _ _ (tile_oc (i 1) 0 2 1 (by decide) (by decide) (by decide) arg9 arg4 harg4 x0 x1 x2 x3 _ (canon_p0 c i arg2 harg2 arg3 harg3 arg5 harg5 arg7 x0 x1 x3) _ (by decide) rfl _ _ (off5 i 2) y _ rfl) ?_
  refine View.allAt_cons_unit _ _ _ _ _ (tile_oc (i 1) 0 2 0 (by decide) (by decide) (by decide) arg9 arg4 harg4 x0 x1 x2 x3 _ (canon_p0 c i arg2 harg2 arg3 harg3 arg5 harg5 arg7 x0 x1 x3) _ (by decide) rfl _ _ (off4 i 2) y _ rfl) ?_
  refine View.allAt_cons_unit _ _ _ _ _ (tile_oc (i 1) 0 1 1 (by decide) (by decide) (by decide) arg9 arg4 harg4 x0 x1 x2 x3 _ (canon_p0 c i arg2 harg2 arg3 harg3 arg5 harg5 arg7 x0 x1 x3) _ (by decide) rfl _ _ (off5 i 1) y _ rfl) ?_
  refine View.allAt_cons_unit _ _ _ _ _ (tile_oc (i 1) 0 1 0 (by decide) (by decide) (by decide) arg9 arg4 harg4 x0 x1 x2 x3 _ (canon_p0 c i arg2 harg2 arg3 harg3 arg5 harg5 arg7 x0 x1 x3) _ (by decide) rfl _ _ (off4 i 1) y _ rfl) ?_
  refine View.allAt_cons_unit _ _ _ _ _ (tile_oc (i 1) 0 0 1 (by decide) (by decide) (by decide) arg9 arg4 harg4 x0 x1 x2 x3 _ (canon_p0 c i arg2 harg2 arg3 harg3 arg5 harg5 arg7 x0 x1 x3) _ (by decide) rfl _ _ (off5 i 0) y _ rfl) ?_
  refine View.allAt_cons_unit _ _ _ _ _ (tile_oc (i 1) 0 0 0 (by decide) (by decide) (by decide) arg9 arg4 harg4 x0 x1 x2 x3 _ (canon_p0 c i arg2 harg2 arg3 harg3 arg5 harg5 arg7 x0 x1 x3) _ (by decide) rfl _ _ (off4 i 0) y _ rfl) ?_
  exact View.allAt_nil _ _

/-- What a point leaves in its block of the results. -/
theorem out_at (c : Dev nD) (i : grid1.Coords) (arg2 : Memref sig .tc .vmem S1x512x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S8x14x128x128 .f32) (harg5 : arg5.IsWhole) (arg6 : Memref sig .tc .vmem S1x512x1024 .bf16) (harg6 : arg6.IsWhole) (arg7 : Memref sig .tc .vmem S2048x512 .f32) (harg7 : arg7.IsWhole) (arg8 : Memref sig .tc .vmem S2048x512 .f32) (harg8 : arg8.IsWhole) (arg9 : Memref sig .tc .vmem S2048x512 .bf16) (harg9 : arg9.IsWhole) (arg10 : Memref sig .tc .vmem S2048x512 .bf16) (harg10 : arg10.IsWhole) (x0 : Vec Ideal S1x512x1024 .bf16) (x1 : Vec Ideal S1x1024x1024 .bf16) (x2 : Vec Ideal S1x1024x1024 .bf16) (x3 : Vec Ideal S8x14x128x128 .f32) (y : S1x512x1024.Idx) :
    out1_A_4 c i arg2 harg2 arg3 harg3 arg4 harg4 arg5 harg5 arg6 harg6 arg7 harg7 arg8 harg8 arg9 harg9 arg10 harg10 x0 x1 x2 x3 y = go (i 1).val x0 x1 x2 x3 (y 1).val (y 2).val := by
  unfold out1_A_4
  refine (congrFun (View.read_writes_junk_eq_canon VO1_4 _) y).trans ?_
  exact View.canon_eq_of_allAt _ y _ (cover1_A_4 c i arg2 harg2 arg3 harg3 arg4 harg4 arg5 harg5 arg6 harg6 arg7 harg7 arg8 harg8 arg9 harg9 arg10 harg10 x0 x1 x2 x3 y) (all_o c i arg2 harg2 arg3 harg3 arg4 harg4 arg5 harg5 arg6 harg6 arg7 harg7 arg8 harg8 arg9 harg9 arg10 harg10 x0 x1 x2 x3 y)

end Cert.KernelIdeal.NA
end
end
-- ==== Proof.NaReg1.lean ====
module
public import proofs.«01_k».proof.Proof.NaOut

@[expose] public section
set_option maxRecDepth 65536
noncomputable section
open Idealize.ShloMosaic Idealize.ShloMosaic.TcCoe Idealize.SL.Sem
namespace Cert.KernelIdeal.NA
open Cert.KernelIdeal Cert.KernelIdeal.Gen

/-! What the attention call leaves in its result array. -/

variable (V : (c : Dev nD) → (b : Ref sig .tc) → Buf (Elt Ideal) ((c : Thread nD τ).loc b))

/-- The projection at a batch, a token and a column. -/
def pj (X : Vec Ideal S2x8192x11264 .bf16) (b n l : Nat) : EReal :=
  X (ix3 ⟨b % 2, Nat.mod_lt _ (by decide)⟩ ⟨n % 8192, Nat.mod_lt _ (by decide)⟩ ⟨l % 11264, Nat.mod_lt _ (by decide)⟩)

theorem tr0 : ∀ i : grid1.Coords, cc1_transform_0 i = ![(i 0).val, (i 1).val, 0] := by decide +kernel
theorem tr1 : ∀ i : grid1.Coords, cc1_transform_1 i = ![(i 0).val, ws (i 1).val * 64, 1024] := by decide +kernel
theorem tr2 : ∀ i : grid1.Coords, cc1_transform_2 i = ![(i 0).val, ws (i 1).val * 64, 2048] := by decide +kernel
theorem tr3 : ∀ i : grid1.Coords, cc1_transform_3 i = ![0, 0, 0, 0] := by decide +kernel
theorem tr4 : ∀ i : grid1.Coords, cc1_transform_4 i = ![(i 0).val, (i 1).val, 0] := by decide +kernel

theorem q_blk (c : Dev nD) (t : Fin cfg1.N) (r l : Nat) (hr : r < 512) (hl : l < 1024) :
    q1 (iblk1 V c 0 t) r l = pj (V c main_arg0) (grid1.coords t 0).val (512 * (grid1.coords t 1).val + r) l := by
  have h0 : (grid1.coords t 0).val < 2 := (grid1.coords t 0).isLt
  have h1 : (grid1.coords t 1).val < 16 := (grid1.coords t 1).isLt
  unfold q1 pj
  blk_simp [iblk1]
  refine congrArg (V c main_arg0) ?_
  have e := tr0 (grid1.coords t)
  funext a; apply Fin.ext
  match a with
  | ⟨0, _⟩ =>
    show cc1_transform_0 (grid1.coords t) 0 * 1 + 1 * 0 = _
    rw [e]; show (grid1.coords t 0).val * 1 + 1 * 0 = (grid1.coords t 0).val % 2; omega
  | ⟨1, _⟩ =>
    show cc1_transform_0 (grid1.coords t) 1 * 512 + 1 * (r % 512) = _
    rw [e]; show (grid1.coords t 1).val * 512 + 1 * (r % 512) = (512 * (grid1.coords t 1).val + r) % 8192; omega
  | ⟨2, _⟩ =>
    show cc1_transform_0 (grid1.coords t) 2 * 1024 + 1 * (l % 1024) = _
    rw [e]; show 0 * 1024 + 1 * (l % 1024) = l % 11264; omega

theorem k_blk (c : Dev nD) (t : Fin cfg1.N) (r l : Nat) (hr : r < 1024) (hl : l < 1024) :
    kv1 (iblk1 V c 1 t) r l = pj (V c main_arg0) (grid1.coords t 0).val (ws (grid1.coords t 1).val * 64 + r) (1024 + l) := by
  have h0 : (grid1.coords t 0).val < 2 := (grid1.coords t 0).isLt
  have h1 : (grid1.coords t 1).val < 16 := (grid1.coords t 1).isLt
  have h2 : ws (grid1.coords t 1).val ≤ 112 := by unfold ws; omega
  unfold kv1 pj
  blk_simp [iblk1]
  refine congrArg (V c main_arg0) ?_
  have e := tr1 (grid1.coords t)
  funext a; apply Fin.ext
  match a with
  | ⟨0, _⟩ =>
    show cc1_transform_1 (grid1.coords t) 0 + 1 * 0 = _
    rw [e]; show (grid1.coords t 0).val + 1 * 0 = (grid1.coords t 0).val % 2; omega
  | ⟨1, _⟩ =>
    show cc1_transform_1 (grid1.coords t) 1 + 1 * (r % 1024) = _
    rw [e]; show ws (grid1.coords t 1).val * 64 + 1 * (r % 1024) = (ws (grid1.coords t 1).val * 64 + r) % 8192; omega
  | ⟨2, _⟩ =>
    show cc1_transform_1 (grid1.coords t) 2 + 1 * (l % 1024) = _
    rw [e]; show 1024 + 1 * (l % 1024) = (1024 + l) % 11264; omega

theorem v_blk (c : Dev nD) (t : Fin cfg1.N) (r l : Nat) (hr : r < 1024) (hl : l < 1024) :
    kv1 (iblk1 V c 2 t) r l = pj (V c main_arg0) (grid1.coords t 0).val (ws (grid1.coords t 1).val * 64 + r) (2048 + l) := by
  have h0 : (grid1.coords t 0).val < 2 := (grid1.coords t 0).isLt
  have h1 : (grid1.coords t 1).val < 16 := (grid1.coords t 1).isLt
  have h2 : ws (grid1.coords t 1).val ≤ 112 := by unfold ws; omega
  unfold kv1 pj
  blk_simp [iblk1]
  refine congrArg (V c main_arg0) ?_
  have e := tr2 (grid1.coords t)
  funext a; apply Fin.ext
  match a with
  | ⟨0, _⟩ =>
    show cc1_transform_2 (grid1.coords t) 0 + 1 * 0 = _
    rw [e]; show (grid1.coords t 0).val + 1 * 0 = (grid1.coords t 0).val % 2; omega
  | ⟨1, _⟩ =>
    show cc1_transform_2 (grid1.coords t) 1 + 1 * (r % 1024) = _
    rw [e]; show ws (grid1.coords t 1).val * 64 + 1 * (r % 1024) = (ws (grid1.coords t 1).val * 64 + r) % 8192; omega
  | ⟨2, _⟩ =>
    show cc1_transform_2 (grid1.coords t) 2 + 1 * (l % 1024) = _
    rw [e]; show 2048 + 1 * (l % 1024) = (2048 + l) % 11264; omega

theorem t_blk (c : Dev nD) (t : Fin cfg1.N) : (iblk1 V c 3 t : S8x14x128x128.Idx → EReal) = V c main_v5 := by
  funext y
  blk_simp [iblk1]
  refine congrArg (V c main_v5) ?_
  have e := tr3 (grid1.coords t)
  funext a; apply Fin.ext
  match a with
  | ⟨0, _⟩ =>
    show cc1_transform_3 (grid1.coords t) 0 * 8 + 1 * (y 0).val = _
    rw [e]; show 0 * 8 + 1 * (y 0).val = (y 0).val; omega
  | ⟨1, _⟩ =>
    show cc1_transform_3 (grid1.coords t) 1 * 14 + 1 * (y 1).val = _
    rw [e]; show 0 * 14 + 1 * (y 1).val = (y 1).val; omega
  | ⟨2, _⟩ =>
    show cc1_transform_3 (grid1.coords t) 2 * 128 + 1 * (y 2).val = _
    rw [e]; show 0 * 128 + 1 * (y 2).val = (y 2).val; omega
  | ⟨3, _⟩ =>
    show cc1_transform_3 (grid1.coords t) 3 * 128 + 1 * (y 3).val = _
    rw [e]; show 0 * 128 + 1 * (y 3).val = (y 3).val; omega

/-- A raw score of the call, with its bias: image row `i`, stacked query row `a`, key `l` of the row window. -/
def hs (X : Vec Ideal S2x8192x11264 .bf16) (T : Vec Ideal S8x14x128x128 .f32) (b i g a l : Nat) : EReal :=
  (∑ e : Fin 256, (pj X b (64 * i + a % 64) (256 * g + e) * qs * own a e) * pj X b (64 * rs i + l) (1024 + (256 * g + e))) +
    tb1 T (2 * g + a / 128) (rs i + 7 - i + 2 * (l / 128)) (a % 128) (l % 128)

/-- A key's weight. -/
def hp (X : Vec Ideal S2x8192x11264 .bf16) (T : Vec Ideal S8x14x128x128 .f32) (b i g a l : Nat) : EReal :=
  Ideal.exp2 (hs X T b i g a l - Finset.fold max ⊥ (fun w : Fin 512 => hs X T b i g a w.val) Finset.univ)

/-- The call's result at batch `b`, token `n`, column `L`. -/
def ho (X : Vec Ideal S2x8192x11264 .bf16) (T : Vec Ideal S8x14x128x128 .f32) (b n L : Nat) : EReal :=
  let a := 128 * (L % 256 / 128) + ((if L % 128 < 64 then 0 else 64) + n % 64)
  Ideal.div (∑ l : Fin 512, hp X T b (n / 64) (L / 256) a l.val * pj X b (64 * rs (n / 64) + l.val) (2048 + L))
    (∑ l : Fin 512, hp X T b (n / 64) (L / 256) a l.val)

theorem ws_rs (k j : Nat) (hk : k < 16) (hj : j < 8) : ws k ≤ rs (8 * k + j) ∧ rs (8 * k + j) ≤ ws k + 8 := by
  unfold ws rs; omega

theorem gs_eq (c : Dev nD) (t : Fin cfg1.N) (g row l : Nat) (hg : g < 4) (hr : row < 2048) (hl : l < 512) :
    gs (grid1.coords t 1).val (iblk1 V c 0 t) (iblk1 V c 1 t) (iblk1 V c 3 t) g row l =
      hs (V c main_arg0) (V c main_v5) (grid1.coords t 0).val (8 * (grid1.coords t 1).val + row / 256) g (row % 256) l := by
  have h1 : (grid1.coords t 1).val < 16 := (grid1.coords t 1).isLt
  have hw := ws_rs (grid1.coords t 1).val (row / 256) h1 (by omega)
  unfold gs hs sm
  refine congrArg₂ (· + ·) (Finset.sum_congr rfl fun e _ => ?_) ?_
  · have he := e.isLt
    rw [q_blk V c t _ _ (by omega) (by omega), k_blk V c t _ _ (by unfold koff; omega) (by omega)]
    have e1 : 512 * (grid1.coords t 1).val + (64 * (row / 256) + row % 256 % 64) = 64 * (8 * (grid1.coords t 1).val + row / 256) + row % 256 % 64 := by omega
    have e2 : ws (grid1.coords t 1).val * 64 + (koff (grid1.coords t 1).val (row / 256) + l) = 64 * rs (8 * (grid1.coords t 1).val + row / 256) + l := by unfold koff; omega
    rw [e1, e2]
  · unfold rel0
    rw [t_blk]
    congr 1 <;> omega

theorem gp_eq (c : Dev nD) (t : Fin cfg1.N) (g row l : Nat) (hg : g < 4) (hr : row < 2048) (hl : l < 512) :
    gp (grid1.coords t 1).val (iblk1 V c 0 t) (iblk1 V c 1 t) (iblk1 V c 3 t) g row l =
      hp (V c main_arg0) (V c main_v5) (grid1.coords t 0).val (8 * (grid1.coords t 1).val + row / 256) g (row % 256) l := by
  unfold gp hp
  rw [gs_eq V c t g row l hg hr hl]
  refine congrArg Ideal.exp2 (congrArg₂ (· - ·) rfl ?_)
  exact congrArg (fun f => Finset.fold max ⊥ f Finset.univ) (funext fun w => gs_eq V c t g row w.val hg hr w.isLt)

theorem go_eq (c : Dev nD) (t : Fin cfg1.N) (R L : Nat) (hR : R < 512) (hL : L < 1024) :
    go (grid1.coords t 1).val (iblk1 V c 0 t) (iblk1 V c 1 t) (iblk1 V c 2 t) (iblk1 V c 3 t) R L =
      ho (V c main_arg0) (V c main_v5) (grid1.coords t 0).val (512 * (grid1.coords t 1).val + R) L := by
  have h1 : (grid1.coords t 1).val < 16 := (grid1.coords t 1).isLt
  have hw := ws_rs (grid1.coords t 1).val (R / 64) h1 (by omega)
  unfold go ho
  dsimp only
  have hif : (if L % 128 < 64 then 0 else 64) ≤ 64 := by split <;> omega
  generalize (if L % 128 < 64 then 0 else 64) = u at hif
  have ea : (256 * (R / 64) + 128 * (L % 256 / 128) + (u + R % 64)) % 256 = 128 * (L % 256 / 128) + (u + (512 * (grid1.coords t 1).val + R) % 64) ∨ 128 ≤ u + R % 64 := by omega
  have ea' : (256 * (R / 64) + 128 * (L % 256 / 128) + (u + R % 64)) % 256 = 128 * (L % 256 / 128) + (u + (512 * (grid1.coords t 1).val + R) % 64) := by omega
  have eb : (256 * (R / 64) + 128 * (L % 256 / 128) + (u + R % 64)) / 256 = R / 64 := by omega
  have ec : (512 * (grid1.coords t 1).val + R) / 64 = 8 * (grid1.coords t 1).val + R / 64 := by omega
  have hp' : ∀ l : Fin 512, gp (grid1.coords t 1).val (iblk1 V c 0 t) (iblk1 V c 1 t) (iblk1 V c 3 t) (L / 256) (256 * (R / 64) + 128 * (L % 256 / 128) + (u + R % 64)) l.val =
      hp (V c main_arg0) (V c main_v5) (grid1.coords t 0).val ((512 * (grid1.coords t 1).val + R) / 64) (L / 256) (128 * (L % 256 / 128) + (u + (512 * (grid1.coords t 1).val + R) % 64)) l.val := by
    intro l
    rw [gp_eq V c t _ _ _ (by omega) (by omega) l.isLt, ea', eb, ec]
  refine congrArg₂ Ideal.div (Finset.sum_congr rfl fun l _ => ?_) (Finset.sum_congr rfl fun l _ => hp' l)
  have hl := l.isLt
  rw [hp' l, v_blk V c t _ _ (by unfold koff; omega) hL]
  refine congrArg₂ (· * ·) rfl ?_
  have e2 : ws (grid1.coords t 1).val * 64 + (koff (grid1.coords t 1).val (R / 64) + l.val) = 64 * rs ((512 * (grid1.coords t 1).val + R) / 64) + l.val := by rw [ec]; unfold koff; omega
  rw [e2]

/-- The result of a point, at the element its block's element is. -/
theorem reg1_pt (c : Dev nD) (t : Fin cfg1.N) (y : S1x512x1024.Idx) :
    outsAt1 V c t y = ho (V c main_arg0) (V c main_v5) (((win1_4.blk t).view.emb y) 0).val (((win1_4.blk t).view.emb y) 1).val (((win1_4.blk t).view.emb y) 2).val := by
  have e := tr4 (grid1.coords t)
  have e0 : (((win1_4.blk t).view.emb y) 0).val = (grid1.coords t 0).val := by
    show cc1_transform_4 (grid1.coords t) 0 * 1 + 1 * (y 0).val = _
    rw [e]; show (grid1.coords t 0).val * 1 + 1 * (y 0).val = _
    have : (y 0).val < 1 := (y 0).isLt
    omega
  have e1 : (((win1_4.blk t).view.emb y) 1).val = 512 * (grid1.coords t 1).val + (y 1).val := by
    show cc1_transform_4 (grid1.coords t) 1 * 512 + 1 * (y 1).val = _
    rw [e]; show (grid1.coords t 1).val * 512 + 1 * (y 1).val = _; omega
  have e2 : (((win1_4.blk t).view.emb y) 2).val = (y 2).val := by
    show cc1_transform_4 (grid1.coords t) 2 * 1024 + 1 * (y 2).val = _
    rw [e]; show 0 * 1024 + 1 * (y 2).val = _; omega
  rw [e0, e1, e2]
  refine Eq.trans ?_ (go_eq V c t _ _ (y 1).isLt (y 2).isLt)
  unfold outsAt1
  exact out_at _ _ _ _ _ _ _ _ _ _ _ _ _ _ _ _ _ _ _ _ _ _ _ _ y

/-- The result array after the call. -/
theorem reg1 (c : Dev nD) : (dat1 V c).arrAt 4 cfg1.N = fun y : S2x8192x1024.Idx => ho (V c main_arg0) (V c main_v5) (y 0).val (y 1).val (y 2).val := by
  refine (dat1 V c).arrAt_eq_of_covers 4 _ (by decide +kernel) fun t hf y => ?_
  rw [after1_4]
  blk_simp
  refine (reg1_pt V c t y).trans ?_
  blk_simp

end Cert.KernelIdeal.NA
end
end
-- ==== Proof.NaRun.lean ====
module
public import proofs.«01_k».proof.Proof.NaReg0
public import proofs.«01_k».proof.Proof.NaReg1

@[expose] public section
set_option maxRecDepth 16384
noncomputable section
namespace Cert.KernelIdeal.NA
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! The whole program's run: what the two calls, one after the other, leave in the result array. -/

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the result array at what the last boundary holds, and the arguments as launched. -/
theorem run3 : θ_run defs (onTc (τ := τ) (main (F := Ideal))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => ⟨h c _ (mem_uc main_v6 (by decide)),
      (h c _ (mem_uc main_arg0 (by decide))).trans (W3_main_arg0 m ρ c),
      (h c _ (mem_uc main_arg1 (by decide))).trans (W3_main_arg1 m ρ c)⟩)

/-- The wrapped bias rows at the table call's entry. -/
theorem v4_eq (c : Dev nD) : V1 m ρ c main_v4 = ucat (m ((c.tc : Thread nD τ).loc main_arg1)) := by
  show StableHlo.after hostOps0 (W0 m ρ c) (Proc.devRef .tc main_v4) = _
  simp only [hostOps0]
  after_results_simp
  rfl

/-- The table at the attention call's entry. -/
theorem v5_eq (c : Dev nD) : V2 m ρ c main_v5 = fun y : S8x14x128x128.Idx => tvg (ucat (m ((c.tc : Thread nD τ).loc main_arg1))) (y 0).val (y 1).val (y 2).val (y 3).val := by
  have h := (W2_arr m ρ c 1).trans (reg0 (V1 m ρ) c)
  rw [v4_eq] at h
  exact h

theorem a0_eq (c : Dev nD) : V2 m ρ c main_arg0 = m ((c.tc : Thread nD τ).loc main_arg0) := W2_args m ρ c main_arg0 (by decide)

/-- The result array at the end. -/
theorem v6_eq (c : Dev nD) : W3 m ρ c (Proc.devRef .tc main_v6) = fun y : S2x8192x1024.Idx =>
    ho (m ((c.tc : Thread nD τ).loc main_arg0)) (fun y : S8x14x128x128.Idx => tvg (ucat (m ((c.tc : Thread nD τ).loc main_arg1))) (y 0).val (y 1).val (y 2).val (y 3).val) (y 0).val (y 1).val (y 2).val := by
  have h := (W3_arr m ρ c 4).trans (reg1 (V2 m ρ) c)
  rw [v5_eq, a0_eq] at h
  exact h

end Cert.KernelIdeal.NA
end
end
-- ==== Proof.RefRead.lean ====
module
public import proofs.«01_k».proof.Proof.Gen.ReferenceIdeal.Run
public import Idealize.ShloMosaic.Lib.Pointwise

@[expose] public section
set_option maxRecDepth 16384
noncomputable section
open Idealize.ShloMosaic Idealize.ShloMosaic.TcCoe Idealize.SL.Sem
namespace Cert.ReferenceIdeal.NA
open Cert.ReferenceIdeal Cert.ReferenceIdeal.Gen

/-- The gather of rows `k[:, idx]`, read at an index: row `idx[n, w]` of the operand, read signed and clamped into its 8192 rows. -/
theorem gather_rows {α : Type} (x : S2x8192x16x64.Idx → α) (idx : IVec S8192x128x1 32) (b : Fin 2) (n : Fin 8192) (w : Fin 128) (h : Fin 16) (d : Fin 64) :
    Host.gather gather_S2x8192x16x64_S8192x128x1_S2x8192x128x16x64_034_1_n_n_1_2_211664 x idx (ix5 b n w h d)
      = x (ix4 b ⟨min (idx (ix3 n w 0)).toInt.toNat 8191, by omega⟩ h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ => exact (congrArg (· + _) (dif_neg (by decide +revert))).trans ((Nat.zero_add _).trans ((dif_pos (by decide +revert)).trans rfl))
  | ⟨1, _⟩ =>
    rw [GatherDims.offCoord_eq_zero _ _ _ (fun h => ((GatherDims.mem_sKept _ _).mp h).1 (List.mem_singleton.mpr rfl)), Nat.add_zero]
    refine (dif_pos (by decide +revert)).trans ?_
    refine congrArg (fun i => min (idx i).toInt.toNat 8191) (?_ : _ = ix3 n w 0)
    funext b; refine Fin.ext ?_
    match b with
    | ⟨0, _⟩ => rfl
    | ⟨1, _⟩ => rfl
    | ⟨2, _⟩ => rfl
  | ⟨2, _⟩ => exact (congrArg (· + _) (dif_neg (by decide +revert))).trans ((Nat.zero_add _).trans ((dif_pos (by decide +revert)).trans rfl))
  | ⟨3, _⟩ => exact (congrArg (· + _) (dif_neg (by decide +revert))).trans ((Nat.zero_add _).trans ((dif_pos (by decide +revert)).trans rfl))
/-- The gather of the bias table's entries `rpb[:, idx]`, read at an index. -/
theorem gather_bias {α : Type} (x : S16x465.Idx → α) (idx : IVec S8192x128x1 32) (h : Fin 16) (n : Fin 8192) (w : Fin 128) :
    Host.gather gather_S16x465_S8192x128x1_S16x8192x128_0_1_n_n_1_2_161 x idx (ix3 h n w)
      = x (ix2 h ⟨min (idx (ix3 n w 0)).toInt.toNat 464, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ => exact (congrArg (· + _) (dif_neg (by decide +revert))).trans ((Nat.zero_add _).trans ((dif_pos (by decide +revert)).trans rfl))
  | ⟨1, _⟩ =>
    rw [GatherDims.offCoord_eq_zero _ _ _ (fun h => ((GatherDims.mem_sKept _ _).mp h).1 (List.mem_singleton.mpr rfl)), Nat.add_zero]
    refine (dif_pos (by decide +revert)).trans ?_
    refine congrArg (fun i => min (idx i).toInt.toNat 464) (?_ : _ = ix3 n w 0)
    funext b; refine Fin.ext ?_
    match b with
    | ⟨0, _⟩ => rfl
    | ⟨1, _⟩ => rfl
    | ⟨2, _⟩ => rfl

/-- The maximum over the window, read at an index. -/
theorem MX_at (s : FVec Ideal S2x16x8192x128 .f32) (b : Fin 2) (h : Fin 16) (n : Fin 8192) :
    Host.reduce FloatOps.maximumf s (constant S_ .f32 0xFF800000#32) reducesTo_S2x16x8192x128_S2x16x8192_d3 h_S_ (ix3 b h n)
      = Finset.fold max (Ideal.ofBits FTy.f32 4286578688#32) (fun w => s (ix4 b h n w)) Finset.univ := by
  pointwise []

/-- The sum over the window, read at an index. -/
theorem SM_at (s : FVec Ideal S2x16x8192x128 .f32) (b : Fin 2) (h : Fin 16) (n : Fin 8192) :
    Host.reduceAdd s (constant S_ .f32 0x00000000#32) reducesTo_S2x16x8192x128_S2x16x8192_d3 h_S_ (ix3 b h n)
      = Ideal.ofBits FTy.f32 0#32 + ∑ w : Fin 128, s (ix4 b h n w) := by
  pointwise []

/-- The flat index of every window position of every token, before a negative index is wrapped. -/
def KEY0 : IVec S8192x128 32 := shapeCast S8192x128 (addi (broadcastInDim S128x64x8x16 ![0, 1, 2, 3] bcast_S128x1x8x1_S128x64x8x16_0_1_2_3 (muli (broadcastInDim S128x1x8x1 ![0, 2] bcast_S128x8_S128x1x8x1_0_2 (addi (broadcastInDim S128x8 ![0, 1] bcast_S128x1_S128x8_0_1 (minsi (broadcastInDim S128x1 ![] bcast_S_S128x1 (id (constantI S_ 32 120#32))) (maxsi (broadcastInDim S128x1 ![] bcast_S_S128x1 (id (constantI S_ 32 0#32))) (subi (broadcastInDim S128x1 ![0] bcast_S128_S128x1_0 (iotaInDim S128 32 0)) (broadcastInDim S128x1 ![] bcast_S_S128x1 (constantI S_ 32 4#32)))))) (broadcastInDim S128x8 ![0, 1] bcast_S1x8_S128x8_0_1 (broadcastInDim S1x8 ![1] bcast_S8_S1x8_1 (iotaInDim S8 32 0))))) (broadcastInDim S128x1x8x1 ![] bcast_S_S128x1x8x1 (constantI S_ 32 64#32)))) (broadcastInDim S128x64x8x16 ![0, 1, 2, 3] bcast_S1x64x1x16_S128x64x8x16_0_1_2_3 (broadcastInDim S1x64x1x16 ![1, 3] bcast_S64x16_S1x64x1x16_1_3 (addi (broadcastInDim S64x16 ![0, 1] bcast_S64x1_S64x16_0_1 (minsi (broadcastInDim S64x1 ![] bcast_S_S64x1 (id (constantI S_ 32 48#32))) (maxsi (broadcastInDim S64x1 ![] bcast_S_S64x1 (id (constantI S_ 32 0#32))) (subi (broadcastInDim S64x1 ![0] bcast_S64_S64x1_0 (iotaInDim S64 32 0)) (broadcastInDim S64x1 ![] bcast_S_S64x1 (constantI S_ 32 8#32)))))) (broadcastInDim S64x16 ![0, 1] bcast_S1x16_S64x16_0_1 (broadcastInDim S1x16 ![1] bcast_S16_S1x16_1 (iotaInDim S16 32 0))))))) shapeCasts_S128x64x8x16_S8192x128
/-- The flat index into the bias table of every window position of every token, before a negative index is wrapped. -/
def REL0 : IVec S8192x128 32 := shapeCast S8192x128 (addi (broadcastInDim S128x64x8x16 ![0, 1, 2, 3] bcast_S128x1x8x1_S128x64x8x16_0_1_2_3 (muli (broadcastInDim S128x1x8x1 ![0, 2] bcast_S128x8_S128x1x8x1_0_2 (addi (subi (addi (broadcastInDim S128x8 ![0, 1] bcast_S128x1_S128x8_0_1 (minsi (broadcastInDim S128x1 ![] bcast_S_S128x1 (id (constantI S_ 32 120#32))) (maxsi (broadcastInDim S128x1 ![] bcast_S_S128x1 (id (constantI S_ 32 0#32))) (subi (broadcastInDim S128x1 ![0] bcast_S128_S128x1_0 (iotaInDim S128 32 0)) (broadcastInDim S128x1 ![] bcast_S_S128x1 (constantI S_ 32 4#32)))))) (broadcastInDim S128x8 ![0, 1] bcast_S1x8_S128x8_0_1 (broadcastInDim S1x8 ![1] bcast_S8_S1x8_1 (iotaInDim S8 32 0)))) (broadcastInDim S128x8 ![0, 1] bcast_S128x1_S128x8_0_1 (broadcastInDim S128x1 ![0] bcast_S128_S128x1_0 (iotaInDim S128 32 0)))) (broadcastInDim S128x8 ![] bcast_S_S128x8 (constantI S_ 32 7#32)))) (broadcastInDim S128x1x8x1 ![] bcast_S_S128x1x8x1 (constantI S_ 32 31#32)))) (broadcastInDim S128x64x8x16 ![0, 1, 2, 3] bcast_S1x64x1x16_S128x64x8x16_0_1_2_3 (broadcastInDim S1x64x1x16 ![1, 3] bcast_S64x16_S1x64x1x16_1_3 (addi (subi (addi (broadcastInDim S64x16 ![0, 1] bcast_S64x1_S64x16_0_1 (minsi (broadcastInDim S64x1 ![] bcast_S_S64x1 (id (constantI S_ 32 48#32))) (maxsi (broadcastInDim S64x1 ![] bcast_S_S64x1 (id (constantI S_ 32 0#32))) (subi (broadcastInDim S64x1 ![0] bcast_S64_S64x1_0 (iotaInDim S64 32 0)) (broadcastInDim S64x1 ![] bcast_S_S64x1 (constantI S_ 32 8#32)))))) (broadcastInDim S64x16 ![0, 1] bcast_S1x16_S64x16_0_1 (broadcastInDim S1x16 ![1] bcast_S16_S1x16_1 (iotaInDim S16 32 0)))) (broadcastInDim S64x16 ![0, 1] bcast_S64x1_S64x16_0_1 (broadcastInDim S64x1 ![0] bcast_S64_S64x1_0 (iotaInDim S64 32 0)))) (broadcastInDim S64x16 ![] bcast_S_S64x16 (constantI S_ 32 15#32)))))) shapeCasts_S128x64x8x16_S8192x128
/-- The tokens of every token's window. -/
def KEY : IVec S8192x128x1 32 := broadcastInDim S8192x128x1 ![0, 1] bcast_S8192x128_S8192x128x1_0_1 (select (cmpi .slt KEY0 (broadcastInDim S8192x128 ![] bcast_S_S8192x128 (constantI S_ 32 0#32))) (addi KEY0 (broadcastInDim S8192x128 ![] bcast_S_S8192x128 (constantI S_ 32 8192#32))) KEY0)
/-- The bias entries of every token's window. -/
def REL : IVec S8192x128x1 32 := broadcastInDim S8192x128x1 ![0, 1] bcast_S8192x128_S8192x128x1_0_1 (select (cmpi .slt REL0 (broadcastInDim S8192x128 ![] bcast_S_S8192x128 (constantI S_ 32 0#32))) (addi REL0 (broadcastInDim S8192x128 ![] bcast_S_S8192x128 (constantI S_ 32 465#32))) REL0)

/-- The scores: the scaled query by every key of its window, plus the bias. -/
def SC {F : FTy → Type} [FloatOps F] (x : FVec F S2x8192x11264 .bf16) (B : FVec F S16x15x31 .f32) (key rel : IVec S8192x128x1 32) : FVec F S2x16x8192x128 .f32 :=
  addf (Host.dotGeneral dot_S2x8192x16x64_S2x8192x128x16x64_S2x16x8192x128_3_4_n_2_021_031 none (mulf (shapeCast S2x8192x16x64 (extractStridedSlice S2x8192x1024 ![0, 0, 0] (extf .f32 x bitsLt_bf16_f32) slices_S2x8192x11264_S2x8192x1024_0_0_0) shapeCasts_S2x8192x1024_S2x8192x16x64) (broadcastInDim S2x8192x16x64 ![] bcast_S_S2x8192x16x64 (constant S_ .f32 0x3E000000#32))) (Host.gather gather_S2x8192x16x64_S8192x128x1_S2x8192x128x16x64_034_1_n_n_1_2_211664 (shapeCast S2x8192x16x64 (extractStridedSlice S2x8192x1024 ![0, 0, 1024] (extf .f32 x bitsLt_bf16_f32) slices_S2x8192x11264_S2x8192x1024_0_0_1024) shapeCasts_S2x8192x1024_S2x8192x16x64) key)) (broadcastInDim S2x16x8192x128 ![0, 1, 2, 3] bcast_S1x16x8192x128_S2x16x8192x128_0_1_2_3 (broadcastInDim S1x16x8192x128 ![1, 2, 3] bcast_S16x8192x128_S1x16x8192x128_1_2_3 (Host.gather gather_S16x465_S8192x128x1_S16x8192x128_0_1_n_n_1_2_161 (shapeCast S16x465 B shapeCasts_S16x15x31_S16x465) rel)))

/-- The maximum over the window. -/
def MX {F : FTy → Type} [FloatOps F] (s : FVec F S2x16x8192x128 .f32) : FVec F S2x16x8192 .f32 :=
  maximumf (broadcastInDim S2x16x8192 ![] bcast_S_S2x16x8192 (constant S_ .f32 0xFF800000#32)) (Host.reduce FloatOps.maximumf s (constant S_ .f32 0xFF800000#32) reducesTo_S2x16x8192x128_S2x16x8192_d3 h_S_)

/-- The exponentials of the scores less the maximum over the window. -/
def EX {F : FTy → Type} [FloatOps F] (s : FVec F S2x16x8192x128 .f32) (m : FVec F S2x16x8192 .f32) : FVec F S2x16x8192x128 .f32 :=
  Host.exp (subf s (broadcastInDim S2x16x8192x128 ![0, 1, 2, 3] bcast_S2x16x8192x1_S2x16x8192x128_0_1_2_3 (broadcastInDim S2x16x8192x1 ![0, 1, 2] bcast_S2x16x8192_S2x16x8192x1_0_1_2 m)))

/-- The values of the window, weighted by the normalised exponentials. -/
def OUT {F : FTy → Type} [FloatOps F] (x : FVec F S2x8192x11264 .bf16) (e : FVec F S2x16x8192x128 .f32) (key : IVec S8192x128x1 32) : FVec F S2x8192x1024 .bf16 :=
  truncf .bf16 (shapeCast S2x8192x1024 (Host.dotGeneral (F := F) (φ₁ := .f32) (φ₂ := .f32) dot_S2x16x8192x128_S2x8192x128x16x64_S2x8192x16x64_3_2_n_4_021_013 none (Host.divf e (broadcastInDim S2x16x8192x128 ![0, 1, 2, 3] bcast_S2x16x8192x1_S2x16x8192x128_0_1_2_3 (broadcastInDim S2x16x8192x1 ![0, 1, 2] bcast_S2x16x8192_S2x16x8192x1_0_1_2 (Host.reduceAdd e (constant S_ .f32 0x00000000#32) reducesTo_S2x16x8192x128_S2x16x8192_d3 h_S_)))) (Host.gather gather_S2x8192x16x64_S8192x128x1_S2x8192x128x16x64_034_1_n_n_1_2_211664 (shapeCast S2x8192x16x64 (extractStridedSlice S2x8192x1024 ![0, 0, 2048] (extf .f32 x bitsLt_bf16_f32) slices_S2x8192x11264_S2x8192x1024_0_0_2048) shapeCasts_S2x8192x1024_S2x8192x16x64) key)) shapeCasts_S2x8192x16x64_S2x8192x1024) bitsLt_bf16_f32

/-- The reference's result in one term. -/
def TXT {F : FTy → Type} [FloatOps F] (x : FVec F S2x8192x11264 .bf16) (B : FVec F S16x15x31 .f32) (key rel : IVec S8192x128x1 32) : FVec F S2x8192x1024 .bf16 :=
  truncf .bf16 (shapeCast _ (Host.dotGeneral dot_S2x16x8192x128_S2x8192x128x16x64_S2x8192x16x64_3_2_n_4_021_013 none (Host.divf (Host.exp (subf (addf (Host.dotGeneral dot_S2x8192x16x64_S2x8192x128x16x64_S2x16x8192x128_3_4_n_2_021_031 none (mulf (shapeCast _ (extractStridedSlice S2x8192x1024 ![0, 0, 0] (extf .f32 x bitsLt_bf16_f32) slices_S2x8192x11264_S2x8192x1024_0_0_0) shapeCasts_S2x8192x1024_S2x8192x16x64) (broadcastInDim S2x8192x16x64 ![] bcast_S_S2x8192x16x64 (constant S_ .f32 0x3E000000#32))) (Host.gather gather_S2x8192x16x64_S8192x128x1_S2x8192x128x16x64_034_1_n_n_1_2_211664 (shapeCast _ (extractStridedSlice S2x8192x1024 ![0, 0, 1024] (extf .f32 x bitsLt_bf16_f32) slices_S2x8192x11264_S2x8192x1024_0_0_1024) shapeCasts_S2x8192x1024_S2x8192x16x64) key)) (broadcastInDim S2x16x8192x128 ![0, 1, 2, 3] bcast_S1x16x8192x128_S2x16x8192x128_0_1_2_3 (broadcastInDim S1x16x8192x128 ![1, 2, 3] bcast_S16x8192x128_S1x16x8192x128_1_2_3 (Host.gather gather_S16x465_S8192x128x1_S16x8192x128_0_1_n_n_1_2_161 (shapeCast _ B shapeCasts_S16x15x31_S16x465) rel)))) (broadcastInDim S2x16x8192x128 ![0, 1, 2, 3] bcast_S2x16x8192x1_S2x16x8192x128_0_1_2_3 (broadcastInDim S2x16x8192x1 ![0, 1, 2] bcast_S2x16x8192_S2x16x8192x1_0_1_2 (maximumf (broadcastInDim S2x16x8192 ![] bcast_S_S2x16x8192 (constant S_ .f32 0xFF800000#32)) (Host.reduce FloatOps.maximumf (addf (Host.dotGeneral dot_S2x8192x16x64_S2x8192x128x16x64_S2x16x8192x128_3_4_n_2_021_031 none (mulf (shapeCast _ (extractStridedSlice S2x8192x1024 ![0, 0, 0] (extf .f32 x bitsLt_bf16_f32) slices_S2x8192x11264_S2x8192x1024_0_0_0) shapeCasts_S2x8192x1024_S2x8192x16x64) (broadcastInDim S2x8192x16x64 ![] bcast_S_S2x8192x16x64 (constant S_ .f32 0x3E000000#32))) (Host.gather gather_S2x8192x16x64_S8192x128x1_S2x8192x128x16x64_034_1_n_n_1_2_211664 (shapeCast _ (extractStridedSlice S2x8192x1024 ![0, 0, 1024] (extf .f32 x bitsLt_bf16_f32) slices_S2x8192x11264_S2x8192x1024_0_0_1024) shapeCasts_S2x8192x1024_S2x8192x16x64) key)) (broadcastInDim S2x16x8192x128 ![0, 1, 2, 3] bcast_S1x16x8192x128_S2x16x8192x128_0_1_2_3 (broadcastInDim S1x16x8192x128 ![1, 2, 3] bcast_S16x8192x128_S1x16x8192x128_1_2_3 (Host.gather gather_S16x465_S8192x128x1_S16x8192x128_0_1_n_n_1_2_161 (shapeCast _ B shapeCasts_S16x15x31_S16x465) rel)))) (constant S_ .f32 0xFF800000#32) reducesTo_S2x16x8192x128_S2x16x8192_d3 h_S_)))))) (broadcastInDim S2x16x8192x128 ![0, 1, 2, 3] bcast_S2x16x8192x1_S2x16x8192x128_0_1_2_3 (broadcastInDim S2x16x8192x1 ![0, 1, 2] bcast_S2x16x8192_S2x16x8192x1_0_1_2 (Host.reduceAdd (Host.exp (subf (addf (Host.dotGeneral dot_S2x8192x16x64_S2x8192x128x16x64_S2x16x8192x128_3_4_n_2_021_031 none (mulf (shapeCast _ (extractStridedSlice S2x8192x1024 ![0, 0, 0] (extf .f32 x bitsLt_bf16_f32) slices_S2x8192x11264_S2x8192x1024_0_0_0) shapeCasts_S2x8192x1024_S2x8192x16x64) (broadcastInDim S2x8192x16x64 ![] bcast_S_S2x8192x16x64 (constant S_ .f32 0x3E000000#32))) (Host.gather gather_S2x8192x16x64_S8192x128x1_S2x8192x128x16x64_034_1_n_n_1_2_211664 (shapeCast _ (extractStridedSlice S2x8192x1024 ![0, 0, 1024] (extf .f32 x bitsLt_bf16_f32) slices_S2x8192x11264_S2x8192x1024_0_0_1024) shapeCasts_S2x8192x1024_S2x8192x16x64) key)) (broadcastInDim S2x16x8192x128 ![0, 1, 2, 3] bcast_S1x16x8192x128_S2x16x8192x128_0_1_2_3 (broadcastInDim S1x16x8192x128 ![1, 2, 3] bcast_S16x8192x128_S1x16x8192x128_1_2_3 (Host.gather gather_S16x465_S8192x128x1_S16x8192x128_0_1_n_n_1_2_161 (shapeCast _ B shapeCasts_S16x15x31_S16x465) rel)))) (broadcastInDim S2x16x8192x128 ![0, 1, 2, 3] bcast_S2x16x8192x1_S2x16x8192x128_0_1_2_3 (broadcastInDim S2x16x8192x1 ![0, 1, 2] bcast_S2x16x8192_S2x16x8192x1_0_1_2 (maximumf (broadcastInDim S2x16x8192 ![] bcast_S_S2x16x8192 (constant S_ .f32 0xFF800000#32)) (Host.reduce FloatOps.maximumf (addf (Host.dotGeneral dot_S2x8192x16x64_S2x8192x128x16x64_S2x16x8192x128_3_4_n_2_021_031 none (mulf (shapeCast _ (extractStridedSlice S2x8192x1024 ![0, 0, 0] (extf .f32 x bitsLt_bf16_f32) slices_S2x8192x11264_S2x8192x1024_0_0_0) shapeCasts_S2x8192x1024_S2x8192x16x64) (broadcastInDim S2x8192x16x64 ![] bcast_S_S2x8192x16x64 (constant S_ .f32 0x3E000000#32))) (Host.gather gather_S2x8192x16x64_S8192x128x1_S2x8192x128x16x64_034_1_n_n_1_2_211664 (shapeCast _ (extractStridedSlice S2x8192x1024 ![0, 0, 1024] (extf .f32 x bitsLt_bf16_f32) slices_S2x8192x11264_S2x8192x1024_0_0_1024) shapeCasts_S2x8192x1024_S2x8192x16x64) key)) (broadcastInDim S2x16x8192x128 ![0, 1, 2, 3] bcast_S1x16x8192x128_S2x16x8192x128_0_1_2_3 (broadcastInDim S1x16x8192x128 ![1, 2, 3] bcast_S16x8192x128_S1x16x8192x128_1_2_3 (Host.gather gather_S16x465_S8192x128x1_S16x8192x128_0_1_n_n_1_2_161 (shapeCast _ B shapeCasts_S16x15x31_S16x465) rel)))) (constant S_ .f32 0xFF800000#32) reducesTo_S2x16x8192x128_S2x16x8192_d3 h_S_)))))) (constant S_ .f32 0x00000000#32) reducesTo_S2x16x8192x128_S2x16x8192_d3 h_S_)))) (Host.gather gather_S2x8192x16x64_S8192x128x1_S2x8192x128x16x64_034_1_n_n_1_2_211664 (shapeCast _ (extractStridedSlice S2x8192x1024 ![0, 0, 2048] (extf .f32 x bitsLt_bf16_f32) slices_S2x8192x11264_S2x8192x1024_0_0_2048) shapeCasts_S2x8192x1024_S2x8192x16x64) key)) shapeCasts_S2x8192x16x64_S2x8192x1024) bitsLt_bf16_f32

theorem TXT_eq {F : FTy → Type} [FloatOps F] (x : FVec F S2x8192x11264 .bf16) (B : FVec F S16x15x31 .f32) (key rel : IVec S8192x128x1 32) : TXT x B key rel = OUT x (EX (SC x B key rel) (MX (SC x B key rel))) key := by
  unfold TXT OUT EX MX SC
  rfl

theorem res_txt {F : FTy → Type} [FloatOps F] (m : (ℓ : Loc nD τ sig) → Buf (Elt F) ℓ) (c : Dev nD) :
    Value.res_main_v92 m c = TXT (m ((c.tc : Thread nD τ).loc main_arg0)) (m ((c.tc : Thread nD τ).loc main_arg1)) KEY REL := by
  unfold Value.res_main_v92 TXT
  rfl

/-- The reference's result, step by step. -/
theorem res_eq {F : FTy → Type} [FloatOps F] (m : (ℓ : Loc nD τ sig) → Buf (Elt F) ℓ) (c : Dev nD) :
    Value.res_main_v92 m c = OUT (m ((c.tc : Thread nD τ).loc main_arg0)) (EX (SC (m ((c.tc : Thread nD τ).loc main_arg0)) (m ((c.tc : Thread nD τ).loc main_arg1)) KEY REL) (MX (SC (m ((c.tc : Thread nD τ).loc main_arg0)) (m ((c.tc : Thread nD τ).loc main_arg1)) KEY REL))) KEY :=
  (res_txt m c).trans (TXT_eq _ _ _ _)

/-- A score: the scaled query row by the key row, plus the bias entry. -/
theorem SC_at (x : FVec Ideal S2x8192x11264 .bf16) (B : FVec Ideal S16x15x31 .f32) (key rel : IVec S8192x128x1 32) (b : Fin 2) (h : Fin 16) (n : Fin 8192) (w : Fin 128) :
    SC x B key rel (ix4 b h n w) =
      ∑ d : Fin 64, x (ix3 b n ⟨h.val * 64 + d.val, by omega⟩) * Ideal.ofBits .f32 1040187392#32 *
          x (ix3 b ⟨min (key (ix3 n w 0)).toInt.toNat 8191, by omega⟩ ⟨1024 + (h.val * 64 + d.val), by omega⟩) +
      B (ix3 h ⟨min (rel (ix3 n w 0)).toInt.toNat 464 / 31, by omega⟩ ⟨min (rel (ix3 n w 0)).toInt.toNat 464 % 31, by omega⟩) := by
  pointwise [SC, gather_rows, gather_bias]

theorem max_at {S : Shape} (x y : FVec Ideal S .f32) (i : S.Idx) : maximumf x y i = max (x i) (y i) := rfl
theorem ninf_at (b : Fin 2) (h : Fin 16) (n : Fin 8192) :
    (broadcastInDim S2x16x8192 ![] bcast_S_S2x16x8192 (constant (F := Ideal) S_ .f32 0xFF800000#32)) (ix3 b h n) = Ideal.ofBits .f32 4286578688#32 := by
  pointwise []
theorem MX_at' (s : FVec Ideal S2x16x8192x128 .f32) (b : Fin 2) (h : Fin 16) (n : Fin 8192) :
    MX s (ix3 b h n) = max (Ideal.ofBits .f32 4286578688#32)
      (Finset.fold max (Ideal.ofBits .f32 4286578688#32) (fun w => s (ix4 b h n w)) Finset.univ) := by
  unfold MX
  rw [max_at, ninf_at, MX_at]

/-- An exponential: of a score less the window's maximum. -/
theorem EX_at (s : FVec Ideal S2x16x8192x128 .f32) (m : FVec Ideal S2x16x8192 .f32) (b : Fin 2) (h : Fin 16) (n : Fin 8192) (w : Fin 128) :
    EX s m (ix4 b h n w) = Ideal.exp (s (ix4 b h n w) - m (ix3 b h n)) := by
  pointwise [EX]

/-- A result: the values of the window, weighted. -/
theorem OUT_at (x : FVec Ideal S2x8192x11264 .bf16) (e : FVec Ideal S2x16x8192x128 .f32) (key : IVec S8192x128x1 32) (b : Fin 2) (n : Fin 8192) (l : Fin 1024) :
    OUT x e key (ix3 b n l) = ∑ w : Fin 128, Ideal.div (e (ix4 b ⟨l.val / 64, by omega⟩ n w)) (∑ w : Fin 128, e (ix4 b ⟨l.val / 64, by omega⟩ n w)) *
        x (ix3 b ⟨min (key (ix3 n w 0)).toInt.toNat 8191, by omega⟩ ⟨2048 + l.val, by omega⟩) := by
  pointwise [OUT, gather_rows, SM_at]

/-- The token at position `w` of token `n`'s window. -/
def keyOf (n w : Nat) : Nat := (min (n / 64 - 4) 120 + w / 16) * 64 + (min (n % 64 - 8) 48 + w % 16)
/-- The flat bias entry at position `w` of token `n`'s window. -/
def relOf (n w : Nat) : Nat := (min (n / 64 - 4) 120 + w / 16 + 7 - n / 64) * 31 + (min (n % 64 - 8) 48 + w % 16 + 15 - n % 64)

theorem row_word : ∀ (r : Fin 128) (i : Fin 8),
    IntOp.addi (IntOp.minsi 120#32 (IntOp.maxsi 0#32 (IntOp.subi (BitVec.ofNat 32 r.val) 4#32))) (BitVec.ofNat 32 i.val) = BitVec.ofNat 32 (min (r.val - 4) 120 + i.val) := by
  decide +kernel
theorem col_word : ∀ (r : Fin 64) (i : Fin 16),
    IntOp.addi (IntOp.minsi 48#32 (IntOp.maxsi 0#32 (IntOp.subi (BitVec.ofNat 32 r.val) 8#32))) (BitVec.ofNat 32 i.val) = BitVec.ofNat 32 (min (r.val - 8) 48 + i.val) := by
  decide +kernel
theorem rowRel_word : ∀ (r : Fin 128) (i : Fin 8),
    IntOp.addi (IntOp.subi (BitVec.ofNat 32 (min (r.val - 4) 120 + i.val)) (BitVec.ofNat 32 r.val)) 7#32 = BitVec.ofNat 32 (min (r.val - 4) 120 + i.val + 7 - r.val) := by
  decide +kernel
theorem colRel_word : ∀ (r : Fin 64) (i : Fin 16),
    IntOp.addi (IntOp.subi (BitVec.ofNat 32 (min (r.val - 8) 48 + i.val)) (BitVec.ofNat 32 r.val)) 15#32 = BitVec.ofNat 32 (min (r.val - 8) 48 + i.val + 15 - r.val) := by
  decide +kernel

theorem flat_word (a b c : Nat) : IntOp.addi (IntOp.muli (BitVec.ofNat 32 a) (BitVec.ofNat 32 c)) (BitVec.ofNat 32 b) = BitVec.ofNat 32 (a * c + b) := by
  show BitVec.ofNat 32 a * BitVec.ofNat 32 c + BitVec.ofNat 32 b = _
  rw [BitVec.ofNat_add, BitVec.ofNat_mul]

theorem KEY0_at (n : Fin 8192) (w : Fin 128) : KEY0 (ix2 n w) = BitVec.ofNat 32 (keyOf n.val w.val) := by
  have h : KEY0 (ix2 n w) = IntOp.addi (IntOp.muli (IntOp.addi (IntOp.minsi 120#32 (IntOp.maxsi 0#32 (IntOp.subi (BitVec.ofNat 32 (n.val / 64)) 4#32))) (BitVec.ofNat 32 (w.val / 16))) 64#32)
      (IntOp.addi (IntOp.minsi 48#32 (IntOp.maxsi 0#32 (IntOp.subi (BitVec.ofNat 32 (n.val % 64)) 8#32))) (BitVec.ofNat 32 (w.val % 16))) := by
    pointwise [KEY0]
    rfl
  rw [h, row_word ⟨n.val / 64, by omega⟩ ⟨w.val / 16, by omega⟩, col_word ⟨n.val % 64, by omega⟩ ⟨w.val % 16, by omega⟩]
  exact flat_word _ _ 64
theorem REL0_at (n : Fin 8192) (w : Fin 128) : REL0 (ix2 n w) = BitVec.ofNat 32 (relOf n.val w.val) := by
  have h : REL0 (ix2 n w) = IntOp.addi (IntOp.muli (IntOp.addi (IntOp.subi (IntOp.addi (IntOp.minsi 120#32 (IntOp.maxsi 0#32 (IntOp.subi (BitVec.ofNat 32 (n.val / 64)) 4#32))) (BitVec.ofNat 32 (w.val / 16))) (BitVec.ofNat 32 (n.val / 64))) 7#32) 31#32)
      (IntOp.addi (IntOp.subi (IntOp.addi (IntOp.minsi 48#32 (IntOp.maxsi 0#32 (IntOp.subi (BitVec.ofNat 32 (n.val % 64)) 8#32))) (BitVec.ofNat 32 (w.val % 16))) (BitVec.ofNat 32 (n.val % 64))) 15#32) := by
    pointwise [REL0]
    rfl
  rw [h, row_word ⟨n.val / 64, by omega⟩ ⟨w.val / 16, by omega⟩, col_word ⟨n.val % 64, by omega⟩ ⟨w.val % 16, by omega⟩,
    rowRel_word ⟨n.val / 64, by omega⟩ ⟨w.val / 16, by omega⟩, colRel_word ⟨n.val % 64, by omega⟩ ⟨w.val % 16, by omega⟩]
  exact flat_word _ _ 31

theorem wrap_word (k : Nat) (hk : k < 8192) (c : BitVec 32) :
    Scalar.select (IntOp.cmpi .slt (BitVec.ofNat 32 k) 0#32) (IntOp.addi (BitVec.ofNat 32 k) c) (BitVec.ofNat 32 k) = BitVec.ofNat 32 k := by
  have h : (BitVec.ofNat 32 k).slt 0#32 = false := by
    rw [BitVec.slt_eq_decide]
    refine decide_eq_false ?_
    simp only [BitVec.toInt_eq_toNat_bmod, BitVec.toNat_ofNat, Int.bmod]
    omega
  show Scalar.select (BitVec.ofBool ((BitVec.ofNat 32 k).slt 0#32)) _ _ = _
  rw [h]
  rfl

theorem toNat_word (k : Nat) (hk : k < 8192) : (BitVec.ofNat 32 k).toInt.toNat = k := by
  simp only [BitVec.toInt_eq_toNat_bmod, BitVec.toNat_ofNat, Int.bmod]
  omega

theorem keyOf_lt (n : Fin 8192) (w : Fin 128) : keyOf n.val w.val < 8192 := by unfold keyOf; omega
theorem relOf_lt (n : Fin 8192) (w : Fin 128) : relOf n.val w.val < 465 := by unfold relOf; omega

theorem KEY_at (n : Fin 8192) (w : Fin 128) : (KEY (ix3 n w 0)).toInt.toNat = keyOf n.val w.val := by
  have h : KEY (ix3 n w 0) = BitVec.ofNat 32 (keyOf n.val w.val) := by
    pointwise [KEY]
    rw [KEY0_at]
    exact wrap_word _ (keyOf_lt n w) _
  rw [h]; exact toNat_word _ (keyOf_lt n w)
theorem REL_at (n : Fin 8192) (w : Fin 128) : (REL (ix3 n w 0)).toInt.toNat = relOf n.val w.val := by
  have h : REL (ix3 n w 0) = BitVec.ofNat 32 (relOf n.val w.val) := by
    pointwise [REL]
    rw [REL0_at]
    exact wrap_word _ (lt_trans (relOf_lt n w) (by omega)) _
  rw [h]; exact toNat_word _ (lt_trans (relOf_lt n w) (by omega))

end Cert.ReferenceIdeal.NA
end
end
-- ==== Proof.Softmax.lean ====
module
public import Idealize.ShloMosaic.Lib.Pointwise
public import Idealize.ShloMosaic.Lib.IdealHost

@[expose] public section
noncomputable section
open Idealize.ShloMosaic
namespace Cert.Softmax

/-! A softmax over the keys of a window, taken two ways: over a longer row whose other keys are masked, in powers of two and
    normalised after the values are summed; and over the window alone, in powers of `e` and normalised before. -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum that is attained. -/
theorem fold_max {n : Nat} (f : Fin n → EReal) (v : EReal) (h : ∀ i, f i ≤ v) (i0 : Fin n) (h0 : f i0 = v) :
    Finset.fold max ⊥ f Finset.univ = v := by
  refine le_antisymm ?_ ?_
  · exact (Finset.fold_max_le (b := ⊥) (f := f) (s := Finset.univ) v).2 ⟨bot_le, fun i _ => h i⟩
  · exact (Finset.le_fold_max (b := ⊥) (f := f) (s := Finset.univ) v).2 (Or.inr ⟨i0, Finset.mem_univ _, h0 ▸ le_rfl⟩)

theorem exp2_log (x : ℝ) : Ideal.exp2 ((x * (Real.log 2)⁻¹ : ℝ) : EReal) = ((Real.exp x : ℝ) : EReal) := by
  have h : Real.log 2 ≠ 0 := (Real.log_pos (by norm_num)).ne'
  rw [Ideal.exp2_coe]
  refine congrArg _ ?_
  show (2 : ℝ) ^ (x * (Real.log 2)⁻¹) = _
  rw [Real.rpow_def_of_pos (by norm_num)]
  congr 1
  field_simp

/-- A row's masked weights against the window's: the same weighted sum. -/
theorem softmax_eq {n k : Nat} (S : Fin n → EReal) (V : Fin n → EReal) (s v : Fin k → ℝ) (φ : Fin k → Fin n) (hφ : Function.Injective φ) (k0 : 0 < k)
    (hS : ∀ w, S (φ w) = ((s w * (Real.log 2)⁻¹ : ℝ) : EReal)) (hS' : ∀ l, (∀ w, φ w ≠ l) → S l = ⊥) (hV : ∀ w, V (φ w) = (v w : EReal)) :
    Ideal.div (∑ l, Ideal.exp2 (S l - Finset.fold max ⊥ S Finset.univ) * V l) (∑ l, Ideal.exp2 (S l - Finset.fold max ⊥ S Finset.univ))
      = ∑ w, Ideal.div (Ideal.exp ((s w : EReal) - max ⊥ (Finset.fold max ⊥ (fun w => (s w : EReal)) Finset.univ)))
          (∑ w, Ideal.exp ((s w : EReal) - max ⊥ (Finset.fold max ⊥ (fun w => (s w : EReal)) Finset.univ))) * (v w : EReal) := by
  classical
  haveI : Nonempty (Fin k) := ⟨⟨0, k0⟩⟩
  obtain ⟨w0, hw0⟩ := Finite.exists_max s
  have hlog : 0 < (Real.log 2)⁻¹ := inv_pos.2 (Real.log_pos (by norm_num))
  have hM : Finset.fold max ⊥ S Finset.univ = ((s w0 * (Real.log 2)⁻¹ : ℝ) : EReal) := by
    refine fold_max S _ (fun l => ?_) (φ w0) (hS w0)
    by_cases hl : ∃ w, φ w = l
    · obtain ⟨w, rfl⟩ := hl
      rw [hS]
      exact EReal.coe_le_coe_iff.2 (mul_le_mul_of_nonneg_right (hw0 w) hlog.le)
    · rw [hS' l (fun w hw => hl ⟨w, hw⟩)]; exact bot_le
  have hm : max ⊥ (Finset.fold max ⊥ (fun w => (s w : EReal)) Finset.univ) = ((s w0 : ℝ) : EReal) := by
    rw [fold_max _ (s w0 : EReal) (fun w => EReal.coe_le_coe_iff.2 (hw0 w)) w0 rfl]
    exact max_eq_right bot_le
  rw [hM, hm]
  have hE : ∀ w, Ideal.exp2 (S (φ w) - ((s w0 * (Real.log 2)⁻¹ : ℝ) : EReal)) = ((Real.exp (s w - s w0) : ℝ) : EReal) := by
    intro w
    rw [hS, ← EReal.coe_sub, ← sub_mul, exp2_log]
  have hE' : ∀ l, (∀ w, φ w ≠ l) → Ideal.exp2 (S l - ((s w0 * (Real.log 2)⁻¹ : ℝ) : EReal)) = 0 := by
    intro l hl
    rw [hS' l hl]
    show Ideal.exp2 (⊥ - _) = 0
    rw [EReal.bot_sub]
    exact Ideal.exp2_bot
  have hsum : ∀ f : Fin n → EReal, (∀ l, (∀ w, φ w ≠ l) → f l = 0) → ∑ l, f l = ∑ w, f (φ w) := by
    intro f hf
    rw [← Finset.sum_image (s := Finset.univ) (g := φ) (f := f) (fun a _ b _ h => hφ h)]
    refine (Finset.sum_subset (Finset.subset_univ _) fun l _ hl => hf l fun w hw => hl ?_).symm
    exact Finset.mem_image.2 ⟨w, Finset.mem_univ _, hw⟩
  rw [hsum _ (fun l hl => by rw [hE' l hl, zero_mul]), hsum _ hE']
  have hZ : (∑ w, Real.exp (s w - s w0)) ≠ 0 := (Finset.sum_pos (fun w _ => Real.exp_pos _) Finset.univ_nonempty).ne'
  have eZ : (∑ w, Ideal.exp2 (S (φ w) - ((s w0 * (Real.log 2)⁻¹ : ℝ) : EReal))) = ((∑ w, Real.exp (s w - s w0) : ℝ) : EReal) := by
    rw [coe_sum]; exact Finset.sum_congr rfl fun w _ => hE w
  have eN : (∑ w, Ideal.exp2 (S (φ w) - ((s w0 * (Real.log 2)⁻¹ : ℝ) : EReal)) * V (φ w)) = ((∑ w, Real.exp (s w - s w0) * v w : ℝ) : EReal) := by
    rw [coe_sum]; exact Finset.sum_congr rfl fun w _ => by rw [hE w, hV w, EReal.coe_mul]
  have eX : ∀ w, Ideal.exp ((s w : EReal) - ((s w0 : ℝ) : EReal)) = ((Real.exp (s w - s w0) : ℝ) : EReal) := by
    intro w
    rw [← EReal.coe_sub, Ideal.exp_coe]
  have eX' : (∑ w, Ideal.exp ((s w : EReal) - ((s w0 : ℝ) : EReal))) = ((∑ w, Real.exp (s w - s w0) : ℝ) : EReal) := by
    rw [coe_sum]; exact Finset.sum_congr rfl fun w _ => eX w
  rw [eZ, eN, eX', Ideal.div_coe hZ, ← EReal.coe_mul]
  have : ∀ w, Ideal.div (Ideal.exp ((s w : EReal) - ((s w0 : ℝ) : EReal))) ((∑ w, Real.exp (s w - s w0) : ℝ) : EReal) * (v w : EReal)
      = ((Real.exp (s w - s w0) * v w * (1 / ∑ w, Real.exp (s w - s w0)) : ℝ) : EReal) := by
    intro w
    rw [eX, Ideal.div_coe hZ, ← EReal.coe_mul, ← EReal.coe_mul]
    congr 1; ring
  rw [Finset.sum_congr rfl fun w _ => this w, ← coe_sum, Finset.sum_mul]

end Cert.Softmax
end
end
-- ==== Proof.NaMath.lean ====
module
public import proofs.«01_k».proof.Proof.NaRun
public import proofs.«01_k».proof.Proof.RefRead
public import proofs.«01_k».proof.Proof.Softmax

@[expose] public section
set_option maxRecDepth 65536
noncomputable section
open Idealize.ShloMosaic Idealize.ShloMosaic.TcCoe Idealize.SL.Sem
namespace Cert.KernelIdeal.NA
open Cert.KernelIdeal Cert.KernelIdeal.Gen Cert.Softmax
open Cert.ReferenceIdeal.NA (keyOf relOf SC MX EX OUT KEY REL)

/-! The two values of the neighbourhood attention, over inputs that are real numbers: the kernel's row of 512 masked keys is the
    reference's window of 128. -/

theorem eighth_bits : Ideal.ofBits .f32 1040187392#32 = (((1 : ℝ) / 8 : ℝ) : EReal) := by
  simp [Ideal.ofBits, Ideal.ieee, -EReal.coe_mul]; norm_num
theorem ninf_bits : Ideal.ofBits .f32 4286578688#32 = ⊥ := by
  simp [Ideal.ofBits, Ideal.ieee, -EReal.coe_mul]

theorem qs_eq : qs = (((1 / 8) * (Real.log 2)⁻¹ : ℝ) : EReal) := IdealRules.named_const.ideal_named_scalar κ "q_scale" _ _ rfl
theorem l2e_eq : l2e = (((Real.log 2)⁻¹ : ℝ) : EReal) := IdealRules.named_const.ideal_named_scalar κ "log2e" _ _ rfl
theorem msk_eq : msk = ⊥ := IdealRules.named_const.ideal_named_scalar κ "mask" _ _ rfl

section
variable (Xr : S2x8192x11264.Idx → ℝ) (Br : S16x15x31.Idx → ℝ)

/-- The projections, as reals. -/
def xr (b n l : Nat) : ℝ := Xr (ix3 ⟨b % 2, Nat.mod_lt _ (by decide)⟩ ⟨n % 8192, Nat.mod_lt _ (by decide)⟩ ⟨l % 11264, Nat.mod_lt _ (by decide)⟩)
/-- The bias, as reals. -/
def br (h s k : Nat) : ℝ := Br (ix3 ⟨h % 16, Nat.mod_lt _ (by decide)⟩ ⟨s % 15, Nat.mod_lt _ (by decide)⟩ ⟨k % 31, Nat.mod_lt _ (by decide)⟩)

/-- A score: query token `n` by the key at position `w` of its window, at head `h`. -/
def sr (b n h w : Nat) : ℝ :=
  (∑ d : Fin 64, xr Xr b n (h * 64 + d.val) * (1 / 8) * xr Xr b (keyOf n w) (1024 + (h * 64 + d.val))) + br Br h (relOf n w / 31) (relOf n w % 31)

theorem sum_lane (k : Nat) (hk : k < 4) (f : Nat → ℝ) : (∑ e : Fin 256, if k = e.val / 64 then f e.val else 0) = ∑ d : Fin 64, f (64 * k + d.val) := by
  let φ : Fin 64 → Fin 256 := fun d => ⟨64 * k + d.val, by omega⟩
  have hφ : Function.Injective φ := fun a b h => Fin.ext (by have := congrArg Fin.val h; simp only [φ] at this; omega)
  have e1 : (∑ d : Fin 64, f (64 * k + d.val)) = ∑ d : Fin 64, (fun e : Fin 256 => if k = e.val / 64 then f e.val else 0) (φ d) :=
    Finset.sum_congr rfl fun d _ => by
      show _ = if k = (64 * k + d.val) / 64 then f (64 * k + d.val) else 0
      rw [if_pos (by omega)]
  rw [e1, ← Finset.sum_image (s := Finset.univ) (g := φ) (f := fun e : Fin 256 => if k = e.val / 64 then f e.val else 0) (fun a _ b _ h => hφ h)]
  refine (Finset.sum_subset (Finset.subset_univ _) fun e _ he => ?_).symm
  show (if k = e.val / 64 then f e.val else 0) = 0
  rw [if_neg]
  intro h
  exact he (Finset.mem_image.2 ⟨⟨e.val - 64 * k, by omega⟩, Finset.mem_univ _, Fin.ext (by simp only [φ]; omega)⟩)

/-- The key of the row of 512 at position `w` of the window of column `c`. -/
def phi (c : Nat) (hc : c < 64) (w : Fin 128) : Fin 512 := ⟨w.val / 16 * 64 + (min (c - 8) 48 + w.val % 16), by omega⟩

theorem phi_inj (c : Nat) (hc : c < 64) : Function.Injective (phi c hc) := fun a b h => by
  have := congrArg Fin.val h
  simp only [phi] at this
  exact Fin.ext (by omega)

theorem phi_in (c : Nat) (hc : c < 64) (l : Fin 512) (h : ∀ w, phi c hc w ≠ l) : ¬ inw c (l.val % 64) := by
  intro hi
  unfold inw at hi
  exact h ⟨l.val / 64 * 16 + (l.val % 64 - min (c - 8) 48), by omega⟩ (Fin.ext (by simp only [phi]; omega))

variable (X : Vec Ideal S2x8192x11264 .bf16) (B : Vec Ideal S16x15x31 .f32) (hX : ∀ y, X y = (Xr y : EReal)) (hB : ∀ y, B y = (Br y : EReal))

/-- The kernel's bias table, over the bias. -/
abbrev tab : Vec Ideal S8x14x128x128 .f32 := fun y => tvg (ucat B) (y 0).val (y 1).val (y 2).val (y 3).val

include hX in
theorem raw_eq (b i g a l : Nat) (ha : a < 256) :
    (∑ e : Fin 256, (pj X b (64 * i + a % 64) (256 * g + e) * qs * own a e) * pj X b (64 * rs i + l) (1024 + (256 * g + e)))
      = ((∑ d : Fin 64, xr Xr b (64 * i + a % 64) (256 * g + (64 * (a / 64) + d.val)) * (1 / 8 * (Real.log 2)⁻¹) *
          xr Xr b (64 * rs i + l) (1024 + (256 * g + (64 * (a / 64) + d.val))) : ℝ) : EReal) := by
  rw [← sum_lane (a / 64) (by omega) (fun e => xr Xr b (64 * i + a % 64) (256 * g + e) * (1 / 8 * (Real.log 2)⁻¹) * xr Xr b (64 * rs i + l) (1024 + (256 * g + e))), coe_sum]
  refine Finset.sum_congr rfl fun e _ => ?_
  rw [qs_eq, show pj X b (64 * i + a % 64) (256 * g + e) = (xr Xr b (64 * i + a % 64) (256 * g + e) : EReal) from hX _,
    show pj X b (64 * rs i + l) (1024 + (256 * g + e)) = (xr Xr b (64 * rs i + l) (1024 + (256 * g + e)) : EReal) from hX _]
  unfold own
  by_cases h : a / 64 = e.val / 64
  · rw [if_pos h, if_pos h, mul_one, ← EReal.coe_mul, ← EReal.coe_mul]
  · rw [if_neg h, if_neg h, mul_zero, zero_mul, EReal.coe_zero]

theorem tbl_at (i g a l : Nat) (hi : i < 128) (hg : g < 4) (ha : a < 256) (hl : l < 512) :
    tb1 (tab B) (2 * g + a / 128) (rs i + 7 - i + 2 * (l / 128)) (a % 128) (l % 128) =
      if inw (a % 64) (l % 64) then bi B (4 * g + a / 64) (rs i + 7 - i + l / 64) (l % 64 + 15 - a % 64) * l2e else msk := by
  have hr : rs i + 7 - i ≤ 7 := by unfold rs; omega
  show tvg (ucat B) ((2 * g + a / 128) % 8) ((rs i + 7 - i + 2 * (l / 128)) % 14) (a % 128 % 128) (l % 128 % 128) = _
  rw [Nat.mod_eq_of_lt (a := 2 * g + a / 128) (by omega), Nat.mod_eq_of_lt (a := rs i + 7 - i + 2 * (l / 128)) (by omega), Nat.mod_mod, Nat.mod_mod,
    tvg_at B _ _ _ _ (by omega) (by omega) (by omega) (by omega),
    show a % 128 % 64 = a % 64 by omega, show l % 128 % 64 = l % 64 by omega,
    show 2 * (2 * g + a / 128) + a % 128 / 64 = 4 * g + a / 64 by omega,
    show rs i + 7 - i + 2 * (l / 128) + l % 128 / 64 = rs i + 7 - i + l / 64 by omega]

include hB in
theorem bi_eq (h s k : Nat) : bi B h s k = (br Br h s k : EReal) := by
  unfold bi br
  exact hB _

include hX hB in
theorem hs_in (b i g a : Nat) (hi : i < 128) (hg : g < 4) (ha : a < 256) (w : Fin 128) :
    hs X (tab B) b i g a (phi (a % 64) (by omega) w).val = ((sr Xr Br b (64 * i + a % 64) (4 * g + a / 64) w.val * (Real.log 2)⁻¹ : ℝ) : EReal) := by
  have hphi : (phi (a % 64) (by omega) w).val = w.val / 16 * 64 + (min (a % 64 - 8) 48 + w.val % 16) := rfl
  have hin : inw (a % 64) ((phi (a % 64) (by omega) w).val % 64) := by unfold inw; rw [hphi]; omega
  unfold hs
  rw [raw_eq Xr X hX b i g a _ ha, tbl_at B i g a _ hi hg ha (phi (a % 64) (by omega) w).isLt, if_pos hin, l2e_eq,
    bi_eq Br B hB,
    ← EReal.coe_mul, ← EReal.coe_add]
  refine congrArg _ ?_
  have e1 : (64 * i + a % 64) / 64 = i := by omega
  have e2 : (64 * i + a % 64) % 64 = a % 64 := by omega
  have hc : a % 64 < 64 := by omega
  have hk : 64 * rs i + (phi (a % 64) (by omega) w).val = keyOf (64 * i + a % 64) w.val := by rw [hphi]; unfold keyOf rs; rw [e1, e2]; omega
  have h1 : rs i + 7 - i + (phi (a % 64) (by omega) w).val / 64 = relOf (64 * i + a % 64) w.val / 31 := by
    rw [hphi]; unfold relOf rs; rw [e1, e2]
    generalize a % 64 = c at hc
    omega
  have h2 : (phi (a % 64) (by omega) w).val % 64 + 15 - a % 64 = relOf (64 * i + a % 64) w.val % 31 := by
    rw [hphi]; unfold relOf; rw [e1, e2, Nat.mul_add_mod_self_right]
    generalize a % 64 = c at hc
    omega
  rw [hk, h1, h2]
  unfold sr
  rw [add_mul, Finset.sum_mul]
  refine congrArg₂ (· + ·) (Finset.sum_congr rfl fun d _ => ?_) rfl
  rw [show 256 * g + (64 * (a / 64) + d.val) = (4 * g + a / 64) * 64 + d.val by omega]
  ring

include hX in
theorem hs_out (b i g a : Nat) (hi : i < 128) (hg : g < 4) (ha : a < 256) (l : Fin 512) (h : ∀ w, phi (a % 64) (by omega) w ≠ l) :
    hs X (tab B) b i g a l.val = ⊥ := by
  unfold hs
  rw [raw_eq Xr X hX b i g a _ ha, tbl_at B i g a _ hi hg ha l.isLt, if_neg (phi_in _ _ l h), msk_eq]
  exact EReal.add_bot _

/-- A result, over the reals' scores. -/
def outv (b n L : Nat) : EReal :=
  ∑ w : Fin 128, Ideal.div (Ideal.exp ((sr Xr Br b n (L / 64) w.val : EReal) - max ⊥ (Finset.fold max ⊥ (fun w : Fin 128 => (sr Xr Br b n (L / 64) w.val : EReal)) Finset.univ)))
    (∑ w : Fin 128, Ideal.exp ((sr Xr Br b n (L / 64) w.val : EReal) - max ⊥ (Finset.fold max ⊥ (fun w : Fin 128 => (sr Xr Br b n (L / 64) w.val : EReal)) Finset.univ)))
      * (xr Xr b (keyOf n w.val) (2048 + L) : EReal)

include hX hB in
theorem ker_eq (b n L : Nat) (hn : n < 8192) (hL : L < 1024) : ho X (tab B) b n L = outv Xr Br b n L := by
  unfold ho
  obtain ⟨a, ea⟩ : ∃ a, a = 128 * (L % 256 / 128) + ((if L % 128 < 64 then 0 else 64) + n % 64) := ⟨_, rfl⟩
  have ea' : a = 64 * (L % 256 / 64) + n % 64 := by
    rw [ea]; split <;> omega
  have h1 : a % 64 = n % 64 := by omega
  have h2 : 64 * (n / 64) + a % 64 = n := by omega
  have h3 : 4 * (L / 256) + a / 64 = L / 64 := by omega
  show Ideal.div (∑ l : Fin 512, hp X (tab B) b (n / 64) (L / 256) (128 * (L % 256 / 128) + ((if L % 128 < 64 then 0 else 64) + n % 64)) l.val * pj X b (64 * rs (n / 64) + l.val) (2048 + L))
    (∑ l : Fin 512, hp X (tab B) b (n / 64) (L / 256) (128 * (L % 256 / 128) + ((if L % 128 < 64 then 0 else 64) + n % 64)) l.val) = _
  rw [← ea]
  refine softmax_eq (fun l : Fin 512 => hs X (tab B) b (n / 64) (L / 256) a l.val) (fun l : Fin 512 => pj X b (64 * rs (n / 64) + l.val) (2048 + L))
    (fun w => sr Xr Br b n (L / 64) w.val) (fun w => xr Xr b (keyOf n w.val) (2048 + L)) (phi (a % 64) (by omega)) (phi_inj _ _) (by omega)
    (fun w => ?_) (fun l hl => ?_) (fun w => ?_)
  · have := hs_in Xr Br X B hX hB b (n / 64) (L / 256) a (by omega) (by omega) (by omega) w
    rw [h2, h3] at this
    exact this
  · exact hs_out Xr X B hX b (n / 64) (L / 256) a (by omega) (by omega) (by omega) l hl
  · have hk : 64 * rs (n / 64) + (phi (a % 64) (by omega) w).val = keyOf n w.val := by
      show 64 * rs (n / 64) + (w.val / 16 * 64 + (min (a % 64 - 8) 48 + w.val % 16)) = _
      unfold keyOf rs; omega
    show pj X b (64 * rs (n / 64) + (phi (a % 64) (by omega) w).val) (2048 + L) = _
    rw [hk]
    exact hX _

include hX in
theorem x_of (b : Fin 2) (n : Fin 8192) (l : Fin 11264) (n' l' : Nat) (hn : n.val = n') (hl : l.val = l') : X (ix3 b n l) = (xr Xr b.val n' l' : EReal) := by
  subst hn hl
  rw [hX]
  unfold xr
  simp only [Nat.mod_eq_of_lt b.isLt, Nat.mod_eq_of_lt n.isLt, Nat.mod_eq_of_lt l.isLt]

include hB in
theorem b_of (h : Fin 16) (s : Fin 15) (k : Fin 31) (s' k' : Nat) (hs : s.val = s') (hk : k.val = k') : B (ix3 h s k) = (br Br h.val s' k' : EReal) := by
  subst hs hk
  rw [hB]
  unfold br
  simp only [Nat.mod_eq_of_lt h.isLt, Nat.mod_eq_of_lt s.isLt, Nat.mod_eq_of_lt k.isLt]

include hX hB in
theorem sc_eq (b : Fin 2) (h : Fin 16) (n : Fin 8192) (w : Fin 128) : (SC (F := Ideal) X B KEY REL (ix4 b h n w) : EReal) = (sr Xr Br b.val n.val h.val w.val : EReal) := by
  have hk := Cert.ReferenceIdeal.NA.keyOf_lt n w
  have hr := Cert.ReferenceIdeal.NA.relOf_lt n w
  have ek : min (KEY (ix3 n w 0)).toInt.toNat 8191 = keyOf n.val w.val := by rw [Cert.ReferenceIdeal.NA.KEY_at]; omega
  have er : min (REL (ix3 n w 0)).toInt.toNat 464 = relOf n.val w.val := by rw [Cert.ReferenceIdeal.NA.REL_at]; omega
  refine (Cert.ReferenceIdeal.NA.SC_at X B KEY REL b h n w).trans ?_
  unfold sr
  rw [EReal.coe_add, coe_sum, eighth_bits]
  refine congrArg₂ (· + ·) (Finset.sum_congr rfl fun d _ => ?_) ?_
  · rw [EReal.coe_mul, EReal.coe_mul]
    exact congrArg₂ (· * ·) (congrArg₂ (· * ·) (x_of Xr X hX b n _ _ _ rfl rfl) rfl) (x_of Xr X hX b _ _ _ _ ek rfl)
  · exact b_of Br B hB h _ _ _ _ (congrArg (· / 31) er) (congrArg (· % 31) er)

include hX hB in
theorem mx_eq (b : Fin 2) (h : Fin 16) (n : Fin 8192) : (MX (F := Ideal) (SC X B KEY REL) (ix3 b h n) : EReal) =
    max ⊥ (Finset.fold max ⊥ (fun w : Fin 128 => (sr Xr Br b.val n.val h.val w.val : EReal)) Finset.univ) := by
  refine (Cert.ReferenceIdeal.NA.MX_at' _ b h n).trans ?_
  rw [ninf_bits]
  exact congrArg (fun f => max ⊥ (Finset.fold max ⊥ f Finset.univ)) (funext fun w => sc_eq Xr Br X B hX hB b h n w)

include hX hB in
theorem ex_eq (b : Fin 2) (h : Fin 16) (n : Fin 8192) (w : Fin 128) : (EX (F := Ideal) (SC X B KEY REL) (MX (SC X B KEY REL)) (ix4 b h n w) : EReal) =
    Ideal.exp ((sr Xr Br b.val n.val h.val w.val : EReal) - max ⊥ (Finset.fold max ⊥ (fun w : Fin 128 => (sr Xr Br b.val n.val h.val w.val : EReal)) Finset.univ)) := by
  refine (Cert.ReferenceIdeal.NA.EX_at _ _ b h n w).trans ?_
  exact congrArg Ideal.exp (congrArg₂ (· - ·) (sc_eq Xr Br X B hX hB b h n w) (mx_eq Xr Br X B hX hB b h n))

include hX hB in
theorem ref_eq (b : Fin 2) (n : Fin 8192) (l : Fin 1024) :
    (OUT (F := Ideal) X (EX (SC X B KEY REL) (MX (SC X B KEY REL))) KEY (ix3 b n l) : EReal) = outv Xr Br b.val n.val l.val := by
  refine (Cert.ReferenceIdeal.NA.OUT_at X _ KEY b n l).trans ?_
  unfold outv
  refine Finset.sum_congr rfl fun w _ => congrArg₂ (· * ·) (congrArg₂ Ideal.div ?_ (Finset.sum_congr rfl fun w _ => ?_)) ?_
  · exact ex_eq Xr Br X B hX hB b ⟨l.val / 64, by omega⟩ n w
  · exact ex_eq Xr Br X B hX hB b ⟨l.val / 64, by omega⟩ n w
  · have hk := Cert.ReferenceIdeal.NA.keyOf_lt n w
    refine x_of Xr X hX b _ _ _ _ ?_ rfl
    show min (KEY (ix3 n w 0)).toInt.toNat 8191 = keyOf n.val w.val
    rw [Cert.ReferenceIdeal.NA.KEY_at]; omega

end

/-- Over real inputs the kernel's result and the reference's are the same. -/
theorem values_eq (X : Vec Ideal S2x8192x11264 .bf16) (B : Vec Ideal S16x15x31 .f32) (hX : ∀ y, ∃ r : ℝ, X y = (r : EReal)) (hB : ∀ y, ∃ r : ℝ, B y = (r : EReal)) :
    (fun y : S2x8192x1024.Idx => ho X (tab B) (y 0).val (y 1).val (y 2).val) = OUT (F := Ideal) X (EX (SC X B KEY REL) (MX (SC X B KEY REL))) KEY := by
  choose Xr hX using hX
  choose Br hB using hB
  funext y
  obtain ⟨b, n, l, rfl⟩ : ∃ (b : Fin 2) (n : Fin 8192) (l : Fin 1024), y = ix3 b n l := ⟨y 0, y 1, y 2, (ix3_eta y).symm⟩
  exact (ker_eq Xr Br X B hX hB b.val n.val l.val n.isLt l.isLt).trans (ref_eq Xr Br X B hX hB b n l).symm

end Cert.KernelIdeal.NA
end
end
-- ==== Proof.LayerMath.lean ====
module
public import Idealize.ShloMosaic.Lib.Pointwise

@[expose] public section
noncomputable section
open Idealize.ShloMosaic
namespace Cert.Layer

/-! One token's arithmetic in the sub-layers, on a row of extended reals: what kernel and reference are both read as. -/

/-- The mean of a row's squares. -/
def ms (x : Fin 1024 → EReal) : EReal := Ideal.div (∑ e, x e * x e) (Ideal.ofBits .f32 0x44800000#32)
/-- The row over its root mean square, times a learned gain. -/
def nrm (x g : Fin 1024 → EReal) (e : Fin 1024) : EReal := x e * Ideal.rsqrt (ms x + Ideal.ofBits .f32 0x358637BD#32) * g e
/-- The normalised row, scaled by one plus `sc` and shifted by `sh`. -/
def hrow (x g sc sh : Fin 1024 → EReal) (e : Fin 1024) : EReal := nrm x g e * (1 + sc e) + sh e
/-- A row times a matrix. -/
def mulrow {k n : Nat} (h : Fin k → EReal) (W : Fin k → Fin n → EReal) (l : Fin n) : EReal := ∑ e, h e * W e l
/-- `a · sigmoid(a) · g`. -/
def swi (a g : EReal) : EReal := a * Ideal.logistic a * g
/-- A sub-layer's close: the stream plus the gate times the normalised update. -/
def close (x gt f gp : Fin 1024 → EReal) (o : Fin 1024) : EReal := x o + gt o * nrm f gp o
/-- A row of the feed-forward sub-layer, whole. -/
def ffnrow (x g sc sh : Fin 1024 → EReal) (w1 w2 : Fin 1024 → Fin 2816 → EReal) (wo : Fin 2816 → Fin 1024 → EReal) (gp gt : Fin 1024 → EReal) (o : Fin 1024) : EReal :=
  close x gt (mulrow (fun k => swi (mulrow (hrow x g sc sh) w1 k) (mulrow (hrow x g sc sh) w2 k)) wo) gp o
/-- The feed-forward sub-layer at a batch, token and lane, of its arguments. -/
def ffnOut (X : Fin 2 → Fin 8192 → Fin 1024 → EReal) (M : Fin 2 → Fin 6144 → EReal) (g : Fin 1024 → EReal) (W : Fin 1024 → Fin 5632 → EReal)
    (W2 : Fin 2816 → Fin 1024 → EReal) (gp : Fin 1024 → EReal) (b : Fin 2) (n : Fin 8192) (o : Fin 1024) : EReal :=
  ffnrow (X b n) g (fun e => M b ⟨4096 + e.val, by omega⟩) (fun e => M b ⟨3072 + e.val, by omega⟩) (fun e l => W e ⟨l.val, by omega⟩) (fun e l => W e ⟨2816 + l.val, by omega⟩)
    W2 gp (fun e => M b ⟨5120 + e.val, by omega⟩) o
theorem ffnrow_congr {x x' g g' sc sc' sh sh' : Fin 1024 → EReal} {w1 w1' w2 w2' : Fin 1024 → Fin 2816 → EReal} {wo wo' : Fin 2816 → Fin 1024 → EReal} {gp gp' gt gt' : Fin 1024 → EReal} {o o' : Fin 1024}
    (h1 : ∀ e, x e = x' e) (h2 : ∀ e, g e = g' e) (h3 : ∀ e, sc e = sc' e) (h4 : ∀ e, sh e = sh' e) (h5 : ∀ e l, w1 e l = w1' e l) (h6 : ∀ e l, w2 e l = w2' e l)
    (h7 : ∀ k o, wo k o = wo' k o) (h8 : ∀ e, gp e = gp' e) (h9 : ∀ e, gt e = gt' e) (h10 : o = o') :
    ffnrow x g sc sh w1 w2 wo gp gt o = ffnrow x' g' sc' sh' w1' w2' wo' gp' gt' o' := by
  obtain rfl := funext h1
  obtain rfl := funext h2
  obtain rfl := funext h3
  obtain rfl := funext h4
  obtain rfl := funext fun e => funext (h5 e)
  obtain rfl := funext fun e => funext (h6 e)
  obtain rfl := funext fun e => funext (h7 e)
  obtain rfl := funext h8
  obtain rfl := funext h9
  rw [h10]
/-- Two batches of tokens laid out as one list of rows: the row of a batch and token. -/
theorem flat_at {α : Type} {k : Nat} (X : (⟨3, ![2, 8192, k]⟩ : Shape).Idx → α) (h : (⟨3, ![2, 8192, k]⟩ : Shape).ShapeCasts ⟨2, ![16384, k]⟩) (R : Fin 16384) (e : Fin k) (b : Fin 2) (n : Fin 8192)
    (hR : R.val = 8192 * b.val + n.val) : shapeCast (⟨2, ![16384, k]⟩ : Shape) X h (ix2 R e) = X (ix3 b n e) := by
  rw [Pointwise.shapeCast_apply]
  refine congrArg X (Shape.reshapeEquiv_eq_of_vals _ _ _ (R.val * k + e.val) (R.val * k + e.val) ?_ ?_ rfl)
  · refine (rowMajor_val3 (d := ![2, 8192, k]) _ (8192 * k) k rfl rfl).trans ?_
    show b.val * (8192 * k) + n.val * k + e.val = R.val * k + e.val
    rw [hR, Nat.add_mul, ← Nat.mul_assoc, Nat.mul_comm b.val 8192]
  · exact rowMajor_val2 (d := ![16384, k]) _ k rfl
/-- A row times column `k` of the input projection. -/
def dotc (h : Fin 1024 → EReal) (W : Fin 1024 → Fin 11264 → EReal) (k : Nat) : EReal := if hk : k < 11264 then mulrow h W ⟨k, hk⟩ else 0
/-- First half of a rotated pair, its tables scaled by `s`. -/
def rotA (a b c d s : EReal) : EReal := a * (c * s) - b * (d * s)
/-- Second half of a rotated pair. -/
def rotB (a b c d s : EReal) : EReal := a * (d * s) + b * (c * s)
/-- The factor on the rotary tables at column `k`: one for queries, a sixteenth for keys. -/
def rsc (k : Nat) : EReal := if k < 4096 then 1 else Ideal.ofBits .f32 0x3D800000#32
/-- Column `k` of the input projection of a modulated row `h`, queries and keys of the retention rotated by the tables' rows `C` and `S`. -/
def inpv (h : Fin 1024 → EReal) (W : Fin 1024 → Fin 11264 → EReal) (C S : Fin 128 → EReal) (k : Nat) : EReal :=
  if k < 3072 ∨ 5120 ≤ k then dotc h W k
  else if k % 256 < 128 then rotA (dotc h W k) (dotc h W (k + 128)) (C ⟨k % 128, Nat.mod_lt _ (by decide)⟩) (S ⟨k % 128, Nat.mod_lt _ (by decide)⟩) (rsc k)
  else rotB (dotc h W (k - 128)) (dotc h W k) (C ⟨k % 128, Nat.mod_lt _ (by decide)⟩) (S ⟨k % 128, Nat.mod_lt _ (by decide)⟩) (rsc k)
/-- The input projection at a batch, token and column, of its arguments. -/
def inpOut (X : Fin 2 → Fin 8192 → Fin 1024 → EReal) (M : Fin 2 → Fin 6144 → EReal) (g : Fin 1024 → EReal) (W : Fin 1024 → Fin 11264 → EReal) (C S : Fin 8192 → Fin 128 → EReal)
    (b : Fin 2) (n : Fin 8192) (k : Nat) : EReal :=
  inpv (hrow (X b n) g (fun e => M b ⟨1024 + e.val, by omega⟩) (fun e => M b ⟨e.val, by omega⟩)) W (C n) (S n) k
theorem hrow_congr {x x' g g' sc sc' sh sh' : Fin 1024 → EReal} (h1 : ∀ e, x e = x' e) (h2 : ∀ e, g e = g' e) (h3 : ∀ e, sc e = sc' e) (h4 : ∀ e, sh e = sh' e) (e : Fin 1024) :
    hrow x g sc sh e = hrow x' g' sc' sh' e := by
  obtain rfl := funext h1
  obtain rfl := funext h2
  obtain rfl := funext h3
  obtain rfl := funext h4
  rfl
theorem inpv_congr {h h' : Fin 1024 → EReal} {W W' : Fin 1024 → Fin 11264 → EReal} {C C' S S' : Fin 128 → EReal} (h1 : ∀ e, h e = h' e) (h2 : ∀ e l, W e l = W' e l) (h3 : ∀ d, C d = C' d) (h4 : ∀ d, S d = S' d) (k : Nat) :
    inpv h W C S k = inpv h' W' C' S' k := by
  obtain rfl := funext h1
  obtain rfl := funext fun e => funext (h2 e)
  obtain rfl := funext h3
  obtain rfl := funext h4
  rfl
/-- The columns of every token split into `H` heads of `w`. -/
theorem split_at {α : Type} (H w : Nat) (X : (⟨3, ![2, 8192, H * w]⟩ : Shape).Idx → α) (h : (⟨3, ![2, 8192, H * w]⟩ : Shape).ShapeCasts ⟨4, ![2, 8192, H, w]⟩) (b : Fin 2) (n : Fin 8192) (hd : Fin H) (j : Fin w) (k : Fin (H * w))
    (hk : k.val = w * hd.val + j.val) : shapeCast (⟨4, ![2, 8192, H, w]⟩ : Shape) X h (ix4 b n hd j) = X (ix3 b n k) := by
  rw [Pointwise.shapeCast_apply]
  refine congrArg X (Shape.reshapeEquiv_eq_of_vals _ _ _ (b.val * (8192 * (H * w)) + n.val * (H * w) + k.val) (b.val * (8192 * (H * w)) + n.val * (H * w) + k.val) ?_ ?_ rfl)
  · exact rowMajor_val3 (d := ![2, 8192, H * w]) _ (8192 * (H * w)) (H * w) rfl rfl
  · refine (rowMajor_val4 (d := ![2, 8192, H, w]) _ (8192 * (H * w)) (H * w) w rfl rfl rfl).trans ?_
    show b.val * (8192 * (H * w)) + n.val * (H * w) + hd.val * w + j.val = _
    rw [hk, Nat.mul_comm w, Nat.add_assoc]
/-- `H` heads of `w` joined into every token's columns. -/
theorem join_at {α : Type} (H w : Nat) (X : (⟨4, ![2, 8192, H, w]⟩ : Shape).Idx → α) (h : (⟨4, ![2, 8192, H, w]⟩ : Shape).ShapeCasts ⟨3, ![2, 8192, H * w]⟩) (b : Fin 2) (n : Fin 8192) (hd : Fin H) (j : Fin w) (k : Fin (H * w))
    (hk : k.val = w * hd.val + j.val) : shapeCast (⟨3, ![2, 8192, H * w]⟩ : Shape) X h (ix3 b n k) = X (ix4 b n hd j) := by
  rw [Pointwise.shapeCast_apply]
  refine congrArg X (Shape.reshapeEquiv_eq_of_vals _ _ _ (b.val * (8192 * (H * w)) + n.val * (H * w) + k.val) (b.val * (8192 * (H * w)) + n.val * (H * w) + k.val) ?_ ?_ rfl)
  · refine (rowMajor_val4 (d := ![2, 8192, H, w]) _ (8192 * (H * w)) (H * w) w rfl rfl rfl).trans ?_
    show b.val * (8192 * (H * w)) + n.val * (H * w) + hd.val * w + j.val = _
    rw [hk, Nat.mul_comm w, Nat.add_assoc]
  · exact rowMajor_val3 (d := ![2, 8192, H * w]) _ (8192 * (H * w)) (H * w) rfl rfl
/-- The mean of a head's lanes. -/
def mu (y : Fin 512 → EReal) : EReal := Ideal.div (∑ e, y e) (Ideal.ofBits .f32 0x44000000#32)
/-- A retention head: mean and variance normalised, times its gain, gated by `silu` of `rg`. -/
def ghead (y gn rg : Fin 512 → EReal) (j : Fin 512) : EReal :=
  rg j * Ideal.logistic (rg j) * ((y j - mu y) * Ideal.rsqrt (mu (fun e => (y e - mu y) * (y e - mu y)) + Ideal.ofBits .f32 0x358637BD#32) * gn j)
/-- Four heads' normalised gated lanes, side by side. -/
def gret (y gn rg : Fin 2048 → EReal) (k : Fin 2048) : EReal :=
  ghead (fun j => y ⟨512 * (k.val / 512) + j.val, by omega⟩) (fun j => gn ⟨512 * (k.val / 512) + j.val, by omega⟩) (fun j => rg ⟨512 * (k.val / 512) + j.val, by omega⟩) ⟨k.val % 512, by omega⟩
/-- The two branches' updates, each weighed by its sigmoid gate. -/
def mix (ga gb a b : EReal) : EReal := Ideal.logistic ga * a + Ideal.logistic gb * b
/-- A row of the merge, whole: `a` the attention's row, `z` the retention's normalised gated row, `ga` and `gb` their gates. -/
def mergerow (x a : Fin 1024 → EReal) (z : Fin 2048 → EReal) (ga gb : Fin 1024 → EReal) (wa : Fin 1024 → Fin 1024 → EReal) (wb : Fin 2048 → Fin 1024 → EReal) (wo : Fin 1024 → Fin 1024 → EReal) (gp gt : Fin 1024 → EReal) (o : Fin 1024) : EReal :=
  close x gt (mulrow (fun k => mix (ga k) (gb k) (mulrow a wa k) (mulrow z wb k)) wo) gp o
/-- The merge at a batch, token and lane, of its arguments. -/
def mergeOut (X : Fin 2 → Fin 8192 → Fin 1024 → EReal) (M : Fin 2 → Fin 6144 → EReal) (A : Fin 2 → Fin 8192 → Fin 1024 → EReal) (Y : Fin 2 → Fin 8192 → Fin 2048 → EReal) (P : Fin 2 → Fin 8192 → Fin 11264 → EReal)
    (gn : Fin 2048 → EReal) (wa : Fin 1024 → Fin 1024 → EReal) (wb : Fin 2048 → Fin 1024 → EReal) (wo : Fin 1024 → Fin 1024 → EReal) (gp : Fin 1024 → EReal) (b : Fin 2) (n : Fin 8192) (o : Fin 1024) : EReal :=
  mergerow (X b n) (A b n) (gret (Y b n) gn (fun k => P b n ⟨7168 + k.val, by omega⟩)) (fun e => P b n ⟨9216 + e.val, by omega⟩) (fun e => P b n ⟨10240 + e.val, by omega⟩) wa wb wo gp (fun e => M b ⟨2048 + e.val, by omega⟩) o
theorem ghead_congr {y y' gn gn' rg rg' : Fin 512 → EReal} {j j' : Fin 512} (h1 : ∀ e, y e = y' e) (h2 : ∀ e, gn e = gn' e) (h3 : ∀ e, rg e = rg' e) (h4 : j = j') : ghead y gn rg j = ghead y' gn' rg' j' := by
  obtain rfl := funext h1
  obtain rfl := funext h2
  obtain rfl := funext h3
  rw [h4]
theorem mergerow_congr {x x' a a' : Fin 1024 → EReal} {z z' : Fin 2048 → EReal} {ga ga' gb gb' : Fin 1024 → EReal} {wa wa' : Fin 1024 → Fin 1024 → EReal} {wb wb' : Fin 2048 → Fin 1024 → EReal} {wo wo' : Fin 1024 → Fin 1024 → EReal} {gp gp' gt gt' : Fin 1024 → EReal} {o o' : Fin 1024}
    (h1 : ∀ e, x e = x' e) (h2 : ∀ e, a e = a' e) (h3 : ∀ e, z e = z' e) (h4 : ∀ e, ga e = ga' e) (h5 : ∀ e, gb e = gb' e) (h6 : ∀ e l, wa e l = wa' e l) (h7 : ∀ e l, wb e l = wb' e l)
    (h8 : ∀ e l, wo e l = wo' e l) (h9 : ∀ e, gp e = gp' e) (h10 : ∀ e, gt e = gt' e) (h11 : o = o') :
    mergerow x a z ga gb wa wb wo gp gt o = mergerow x' a' z' ga' gb' wa' wb' wo' gp' gt' o' := by
  obtain rfl := funext h1
  obtain rfl := funext h2
  obtain rfl := funext h3
  obtain rfl := funext h4
  obtain rfl := funext h5
  obtain rfl := funext fun e => funext (h6 e)
  obtain rfl := funext fun e => funext (h7 e)
  obtain rfl := funext fun e => funext (h8 e)
  obtain rfl := funext h9
  obtain rfl := funext h10
  rw [h11]
/-- The modulation at a row and a column: the row's `silu` against the column, and the offset. -/
def modrow (x w : Fin 1024 → EReal) (b : EReal) : EReal := ∑ e, x e * Ideal.logistic (x e) * w e + b
end Cert.Layer
-- ==== Proof.FfnKer.lean ====
module
public import proofs.«01_k».proof.Proof.Gen.FfnKernelIdeal.Skeleton
public import proofs.«01_k».proof.Proof.LayerMath
public import Idealize.ShloMosaic.Lib.Pointwise

@[expose] public section
set_option maxRecDepth 16384
noncomputable section
open Idealize.ShloMosaic Idealize.ShloMosaic.TcCoe Idealize.SL.Sem
namespace Cert.FfnKernelIdeal.Ffn
open Cert.FfnKernelIdeal Cert.FfnKernelIdeal.Gen Cert.Layer

theorem P13_at (x : Vec Ideal S256x1024 .f32) (g : Vec Ideal S1x1024 .f32) (sc sh : Vec Ideal S1x1x1024 .f32) (r : Fin 256) (e : Fin 1024) :
    (k0_pay13 x g sc sh (ix2 r e) : EReal) = hrow (fun e => x (ix2 r e)) (fun e => g (ix2 0 e)) (fun e => sc (ix3 0 0 e)) (fun e => sh (ix3 0 0 e)) e := by
  pointwise [k0_pay13, k0_pay12, hrow, nrm, ms]
theorem P14_at (x : Vec Ideal S256x1024 .f32) (g : Vec Ideal S1x1024 .f32) (sc sh : Vec Ideal S1x1x1024 .f32) (w : Vec Ideal S1024x2816 .bf16) (r : Fin 256) (l : Fin 2816) :
    (k0_pay14 x g sc sh w (ix2 r l) : EReal) = mulrow (fun e => k0_pay13 x g sc sh (ix2 r e)) (fun e l => w (ix2 e l)) l := by
  pointwise [k0_pay14, mulrow]

/-- The gated hidden layer of a slab, from the two projections. -/
def ACT {F : FTy → Type} [FloatOps F] (a : FVec F S256x2816 .f32) (h : FVec F S256x1024 .bf16) (w2 : FVec F S1024x2816 .bf16) : FVec F S256x2816 .bf16 :=
  truncf .bf16 (mulf (mulf a (logistic a)) (matmul dot_S256x1024_S1024x2816_S256x2816_1_0_0_1_n_n none h w2 (constant S256x2816 .f32 0x00000000#32))) bitsLt_bf16_f32
/-- The second matrix product of a slab. -/
def FF {F : FTy → Type} [FloatOps F] (u : FVec F S256x2816 .bf16) (wo : Vec F S2816x1024 .bf16) : FVec F S256x1024 .f32 :=
  matmul dot_S256x2816_S2816x1024_S256x1024_1_0_0_1_n_n none u (shapeCast S2816x1024 wo shapeCasts_S2816x1024_S2816x1024) (constant S256x1024 .f32 0x00000000#32)
/-- The slab's close: norm, gate and residual. -/
def CLO {F : FTy → Type} [FloatOps F] (x f : FVec F S256x1024 .f32) (gp : Vec F S1x1024 .f32) (gt : Vec F S1x1x1024 .f32) : FVec F S256x1024 .f32 :=
  addf x (mulf (broadcastTo S256x1024 (shapeCast S1x1024 gt shapeCasts_S1x1x1024_S1x1024) broadcasts_S1x1024_S256x1024)
    (mulf (mulf f (broadcastTo S256x1024 (rsqrt (addf (divf (shapeCast S256x1 (multiReduction .add [1] S256 (mulf f f) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024))
      (broadcastTo S256x1024 (shapeCast S1x1024 gp shapeCasts_S1x1024_S1x1024) broadcasts_S1x1024_S256x1024)))
theorem ACT_at (a : FVec Ideal S256x2816 .f32) (h : FVec Ideal S256x1024 .bf16) (w2 : FVec Ideal S1024x2816 .bf16) (r : Fin 256) (l : Fin 2816) :
    (ACT a h w2 (ix2 r l) : EReal) = swi (a (ix2 r l)) (mulrow (fun e => h (ix2 r e)) (fun e l => w2 (ix2 e l)) l) := by
  pointwise [ACT, mulrow, swi]
theorem FF_at (u : FVec Ideal S256x2816 .bf16) (wo : Vec Ideal S2816x1024 .bf16) (r : Fin 256) (o : Fin 1024) :
    (FF u wo (ix2 r o) : EReal) = mulrow (fun k => u (ix2 r k)) (fun k o => wo (ix2 k o)) o := by
  pointwise [FF, mulrow]
theorem CLO_at (x f : FVec Ideal S256x1024 .f32) (gp : Vec Ideal S1x1024 .f32) (gt : Vec Ideal S1x1x1024 .f32) (r : Fin 256) (o : Fin 1024) :
    (CLO x f gp gt (ix2 r o) : EReal) = close (fun e => x (ix2 r e)) (fun e => gt (ix3 0 0 e)) (fun e => f (ix2 r e)) (fun e => gp (ix2 0 e)) o := by
  pointwise [CLO, close, nrm, ms]

/-- One slab's whole arithmetic. -/
def SLAB {F : FTy → Type} [FloatOps F] (x : Vec F S256x1024 .f32) (g : Vec F S1x1024 .f32) (sc sh : Vec F S1x1x1024 .f32) (w1 w2 : Vec F S1024x2816 .bf16) (wo : Vec F S2816x1024 .bf16) (gp : Vec F S1x1024 .f32) (gt : Vec F S1x1x1024 .f32) : FVec F S256x1024 .f32 :=
  CLO (k0_pay12 x) (FF (ACT (k0_pay14 x g sc sh w1) (k0_pay13 x g sc sh) (k0_pay15 w2)) wo) gp gt
theorem slab2 {F : FTy → Type} [FloatOps F] (x : Vec F S256x1024 .f32) (g : Vec F S1x1024 .f32) (sc sh : Vec F S1x1x1024 .f32) (w1 w2 : Vec F S1024x2816 .bf16) (wo : Vec F S2816x1024 .bf16) (gp : Vec F S1x1024 .f32) (gt : Vec F S1x1x1024 .f32) :
    k0_pay16 (k0_pay12 x) (k0_pay13 x g sc sh) (k0_pay14 x g sc sh w1) (k0_pay15 w2) wo gp gt = SLAB x g sc sh w1 w2 wo gp gt := by
  unfold SLAB CLO FF ACT k0_pay12 k0_pay14 k0_pay13 k0_pay15 k0_pay16; rfl
theorem slab0 {F : FTy → Type} [FloatOps F] (x : Vec F S256x1024 .f32) (g : Vec F S1x1024 .f32) (sc sh : Vec F S1x1x1024 .f32) (w1 w2 : Vec F S1024x2816 .bf16) (wo : Vec F S2816x1024 .bf16) (gp : Vec F S1x1024 .f32) (gt : Vec F S1x1x1024 .f32) :
    k0_pay4 (k0_pay2 x) (k0_pay3 x g sc sh w1 w2) wo gp gt = SLAB x g sc sh w1 w2 wo gp gt := by
  unfold SLAB CLO FF ACT k0_pay12 k0_pay14 k0_pay13 k0_pay15 k0_pay4 k0_pay2 k0_pay3; rfl
theorem slab1 {F : FTy → Type} [FloatOps F] (x : Vec F S256x1024 .f32) (g : Vec F S1x1024 .f32) (sc sh : Vec F S1x1x1024 .f32) (w1 w2 : Vec F S1024x2816 .bf16) (wo : Vec F S2816x1024 .bf16) (gp : Vec F S1x1024 .f32) (gt : Vec F S1x1x1024 .f32) :
    k0_pay11 (k0_pay5 x) (k0_pay10 (k0_pay5 x) (k0_pay6 g) (k0_pay7 sc) (k0_pay8 sh) (k0_pay9 x) w1 w2 wo gp) gt = SLAB x g sc sh w1 w2 wo gp gt := by
  unfold SLAB CLO FF ACT k0_pay12 k0_pay14 k0_pay13 k0_pay15 k0_pay11 k0_pay10 k0_pay5 k0_pay6 k0_pay7 k0_pay8 k0_pay9; rfl
theorem slab3 {F : FTy → Type} [FloatOps F] (x : Vec F S256x1024 .f32) (g : Vec F S1x1024 .f32) (sc sh : Vec F S1x1x1024 .f32) (w1 w2 : Vec F S1024x2816 .bf16) (wo : Vec F S2816x1024 .bf16) (gp : Vec F S1x1024 .f32) (gt : Vec F S1x1x1024 .f32) :
    k0_pay1 (k0_pay17 x) (k0_pay20 (k0_pay17 x) (k0_pay18 g) (k0_pay19 sc) sh w1 w2 wo) gp gt = SLAB x g sc sh w1 w2 wo gp gt := by
  unfold SLAB CLO FF ACT k0_pay12 k0_pay14 k0_pay13 k0_pay15 k0_pay1 k0_pay17 k0_pay18 k0_pay19 k0_pay20; rfl

/-- A slab at a row and lane. -/
theorem SLAB_at (x : Vec Ideal S256x1024 .f32) (g : Vec Ideal S1x1024 .f32) (sc sh : Vec Ideal S1x1x1024 .f32) (w1 w2 : Vec Ideal S1024x2816 .bf16) (wo : Vec Ideal S2816x1024 .bf16) (gp : Vec Ideal S1x1024 .f32) (gt : Vec Ideal S1x1x1024 .f32) (r : Fin 256) (o : Fin 1024) :
    (SLAB x g sc sh w1 w2 wo gp gt (ix2 r o) : EReal) = ffnrow (fun e => x (ix2 r e)) (fun e => g (ix2 0 e)) (fun e => sc (ix3 0 0 e)) (fun e => sh (ix3 0 0 e))
      (fun e l => w1 (ix2 e l)) (fun e l => w2 (ix2 e l)) (fun k o => wo (ix2 k o)) (fun e => gp (ix2 0 e)) (fun e => gt (ix3 0 0 e)) o := by
  have e12 : k0_pay12 x = x := shapeCast_self _ _
  have e15 : k0_pay15 w2 = w2 := shapeCast_self _ _
  rw [SLAB, CLO_at, e12, e15]
  simp only [FF_at, ACT_at, P14_at, P13_at]
  rfl
end Cert.FfnKernelIdeal.Ffn
-- ==== Proof.FfnRun.lean ====
module
public import proofs.«01_k».proof.Proof.FfnKer
public import proofs.«01_k».proof.Proof.Gen.FfnKernelIdeal.Value
public import Idealize.ShloMosaic.Lib.Pipeline.ValueKit

@[expose] public section
set_option maxRecDepth 65536
noncomputable section
open Idealize.ShloMosaic Idealize.ShloMosaic.TcCoe Idealize.SL.Sem
namespace Cert.FfnKernelIdeal.Ffn
open Cert.FfnKernelIdeal Cert.FfnKernelIdeal.Gen Cert.Layer

/-- A block's row, of the windows' blocks. -/
def brow (x0 : Vec Ideal S1024x1024 .f32) (x1 x2 : Vec Ideal S1x1x1024 .f32) (x3 : Vec Ideal S1x1024 .f32) (x4 : Vec Ideal S1024x5632 .bf16) (x5 : Vec Ideal S2816x1024 .bf16) (x6 : Vec Ideal S1x1024 .f32) (x7 : Vec Ideal S1x1x1024 .f32)
    (r : Fin 1024) (o : Fin 1024) : EReal :=
  ffnrow (fun e => x0 (ix2 r e)) (fun e => x3 (ix2 0 e)) (fun e => x1 (ix3 0 0 e)) (fun e => x2 (ix3 0 0 e)) (fun e l => x4 (ix2 e ⟨l.val, by omega⟩)) (fun e l => x4 (ix2 e ⟨2816 + l.val, by omega⟩))
    (fun k o => x5 (ix2 k o)) (fun e => x6 (ix2 0 e)) (fun e => x7 (ix3 0 0 e)) o

theorem ld1 (x : Vec Ideal S1x1024 .f32) (e : Fin 1024) : View.ld (Val := Elt Ideal) (e' := .f32) x r0_1 (ix2 0 e) = x (ix2 0 e) := by
  refine congrArg x (funext fun a => Fin.ext ?_)
  match a with
  | ⟨0, _⟩ => rfl
  | ⟨1, _⟩ => show 0 + 1 * e.val = e.val; omega
theorem ld2 (x : Vec Ideal S1x1x1024 .f32) (e : Fin 1024) : View.ld (Val := Elt Ideal) (e' := .f32) x r0_2 (ix3 0 0 e) = x (ix3 0 0 e) := by
  refine congrArg x (funext fun a => Fin.ext ?_)
  match a with
  | ⟨0, _⟩ => rfl
  | ⟨1, _⟩ => rfl
  | ⟨2, _⟩ => show 0 + 1 * e.val = e.val; omega
theorem ld3 (x : Vec Ideal S1024x5632 .bf16) (e : Fin 1024) (l : Fin 2816) : View.ld (Val := Elt Ideal) (e' := .bf16) x r0_3 (ix2 e l) = x (ix2 e ⟨l.val, by omega⟩) := by
  refine congrArg x (funext fun a => Fin.ext ?_)
  match a with
  | ⟨0, _⟩ => show 0 + 1 * e.val = e.val; omega
  | ⟨1, _⟩ => show 0 + 1 * l.val = l.val; omega
theorem ld4 (x : Vec Ideal S1024x5632 .bf16) (e : Fin 1024) (l : Fin 2816) : View.ld (Val := Elt Ideal) (e' := .bf16) x r0_4 (ix2 e l) = x (ix2 e ⟨2816 + l.val, by omega⟩) := by
  refine congrArg x (funext fun a => Fin.ext ?_)
  match a with
  | ⟨0, _⟩ => show 0 + 1 * e.val = e.val; omega
  | ⟨1, _⟩ => show 2816 + 1 * l.val = 2816 + l.val; omega
theorem ld5 (x : Vec Ideal S2816x1024 .bf16) (k : Fin 2816) (o : Fin 1024) : View.ld (Val := Elt Ideal) (e' := .bf16) x r0_5 (ix2 k o) = x (ix2 k o) := by
  refine congrArg x (funext fun a => Fin.ext ?_)
  match a with
  | ⟨0, _⟩ => show 0 + 1 * k.val = k.val; omega
  | ⟨1, _⟩ => show 0 + 1 * o.val = o.val; omega

/-- A slab stored is the block's rows there. -/
theorem slab_t (x0 : Vec Ideal S1024x1024 .f32) (x1 x2 : Vec Ideal S1x1x1024 .f32) (x3 : Vec Ideal S1x1024 .f32) (x4 : Vec Ideal S1024x5632 .bf16) (x5 : Vec Ideal S2816x1024 .bf16) (x6 : Vec Ideal S1x1024 .f32) (x7 : Vec Ideal S1x1x1024 .f32)
    (k : Nat) (off : Fin 2 → Nat) (ho) (eo : off = ![k, 0]) (y : S1024x1024.Idx) :
    View.TileAt (Val := Elt Ideal) (e := .f32) y off S256x1024.size
      (SLAB (View.ld (Val := Elt Ideal) (e' := .f32) x0 (Rect.unit (s := S1024x1024) off S256x1024.size ho)) (View.ld x3 r0_1) (View.ld x1 r0_2) (View.ld x2 r0_2) (View.ld x4 r0_3) (View.ld x4 r0_4) (View.ld x5 r0_5) (View.ld x6 r0_1) (View.ld x7 r0_2))
      (brow x0 x1 x2 x3 x4 x5 x6 x7 (y 0) (y 1)) := by
  intro z hz
  subst eo
  have y0 : (y 0).val = k + (z 0).val := hz 0
  have y1 : (y 1).val = 0 + (z 1).val := hz 1
  obtain ⟨r, o, rfl⟩ : ∃ (r : Fin 256) (o : Fin 1024), z = ix2 r o := ⟨z 0, z 1, by
    funext d
    match d with
    | ⟨0, _⟩ => rfl
    | ⟨1, _⟩ => rfl⟩
  change (y 0).val = k + r.val at y0
  change (y 1).val = 0 + o.val at y1
  refine (SLAB_at _ _ _ _ _ _ _ _ _ r o).trans ?_
  have eo : o = y 1 := Fin.ext (by omega)
  refine ffnrow_congr (fun e => congrArg x0 (funext fun a => Fin.ext ?_)) (fun e => ld1 x3 e) (fun e => ld2 x1 e) (fun e => ld2 x2 e) (fun e l => ld3 x4 e l) (fun e l => ld4 x4 e l) (fun k o => ld5 x5 k o) (fun e => ld1 x6 e) (fun e => ld2 x7 e) eo
  match a with
  | ⟨0, _⟩ => show k + 1 * r.val = (y 0).val; omega
  | ⟨1, _⟩ => show 0 + 1 * e.val = e.val; omega

/-- A point's block. -/
theorem out_at (x0 : Vec Ideal S1024x1024 .f32) (x1 x2 : Vec Ideal S1x1x1024 .f32) (x3 : Vec Ideal S1x1024 .f32) (x4 : Vec Ideal S1024x5632 .bf16) (x5 : Vec Ideal S2816x1024 .bf16) (x6 : Vec Ideal S1x1024 .f32) (x7 : Vec Ideal S1x1x1024 .f32) (y : S1024x1024.Idx) :
    out0_8 x0 x1 x2 x3 x4 x5 x6 x7 y = brow x0 x1 x2 x3 x4 x5 x6 x7 (y 0) (y 1) := by
  unfold out0_8 k0_pay22 k0_pay21
  rw [slab0, slab1, slab2, slab3]
  refine View.canon_eq_of_allAt _ y _ (cover0_8 _ _ _ _ y) ?_
  refine View.allAt_cons_unit _ _ _ _ _ (slab_t x0 x1 x2 x3 x4 x5 x6 x7 768 _ _ rfl y) ?_
  refine View.allAt_cons_unit _ _ _ _ _ (slab_t x0 x1 x2 x3 x4 x5 x6 x7 512 _ _ rfl y) ?_
  refine View.allAt_cons_unit _ _ _ _ _ (slab_t x0 x1 x2 x3 x4 x5 x6 x7 256 _ _ rfl y) ?_
  refine View.allAt_cons_unit _ _ _ _ _ (slab_t x0 x1 x2 x3 x4 x5 x6 x7 0 _ _ rfl y) ?_
  exact View.allAt_nil _ _

variable (m : (ℓ : Loc nD τ sig) → Buf (Elt Ideal) ℓ) (ρ : Dev nD → PrngReg)
theorem v12 (c : Dev nD) : V m c main_v12 = shapeCast S16384x1024 (m ((c.tc : Thread nD τ).loc main_arg0)) shapeCasts_S2x8192x1024_S16384x1024 := by
  show StableHlo.after hostOps0 _ _ = _
  simp only [hostOps0]
  after_results_simp
  rfl
theorem v10 (c : Dev nD) : V m c main_v10 = shapeCast S2x1x1024 (extractStridedSlice S2x1024 ![0, 4096] (m ((c.tc : Thread nD τ).loc main_arg1)) slices_S2x6144_S2x1024_0_4096) shapeCasts_S2x1024_S2x1x1024 := by
  show StableHlo.after hostOps0 _ _ = _
  simp only [hostOps0]
  after_results_simp
  rfl
theorem v9 (c : Dev nD) : V m c main_v9 = shapeCast S2x1x1024 (extractStridedSlice S2x1024 ![0, 3072] (m ((c.tc : Thread nD τ).loc main_arg1)) slices_S2x6144_S2x1024_0_3072) shapeCasts_S2x1024_S2x1x1024 := by
  show StableHlo.after hostOps0 _ _ = _
  simp only [hostOps0]
  after_results_simp
  rfl
theorem v11 (c : Dev nD) : V m c main_v11 = shapeCast S2x1x1024 (extractStridedSlice S2x1024 ![0, 5120] (m ((c.tc : Thread nD τ).loc main_arg1)) slices_S2x6144_S2x1024_0_5120) shapeCasts_S2x1024_S2x1x1024 := by
  show StableHlo.after hostOps0 _ _ = _
  simp only [hostOps0]
  after_results_simp
  rfl
theorem v13 (c : Dev nD) : V m c main_v13 = shapeCast S1x1024 (m ((c.tc : Thread nD τ).loc main_arg2)) shapeCasts_S1024_S1x1024 := by
  show StableHlo.after hostOps0 _ _ = _
  simp only [hostOps0]
  after_results_simp
  rfl
theorem v14 (c : Dev nD) : V m c main_v14 = m ((c.tc : Thread nD τ).loc main_arg3) := by
  show StableHlo.after hostOps0 _ _ = _
  simp only [hostOps0]
  after_results_simp
  rfl
theorem v15 (c : Dev nD) : V m c main_v15 = m ((c.tc : Thread nD τ).loc main_arg4) := by
  show StableHlo.after hostOps0 _ _ = _
  simp only [hostOps0]
  after_results_simp
  rfl
theorem v16 (c : Dev nD) : V m c main_v16 = shapeCast S1x1024 (m ((c.tc : Thread nD τ).loc main_arg5)) shapeCasts_S1024_S1x1024 := by
  show StableHlo.after hostOps0 _ _ = _
  simp only [hostOps0]
  after_results_simp
  rfl

theorem tr0 : ∀ i : grid0.Coords, cc0_transform_0 i = ![(i 0).val, 0] := by decide +kernel
theorem tr1 : ∀ i : grid0.Coords, cc0_transform_1 i = ![(i 0).val / 8, 0, 0] := by decide +kernel
theorem tr2 : ∀ i : grid0.Coords, cc0_transform_2 i = ![(i 0).val / 8, 0, 0] := by decide +kernel
theorem tr7 : ∀ i : grid0.Coords, cc0_transform_7 i = ![(i 0).val / 8, 0, 0] := by decide +kernel
theorem tr8 : ∀ i : grid0.Coords, cc0_transform_8 i = ![(i 0).val, 0] := by decide +kernel

variable (c : Dev nD) (t : Fin cfg0.N)
/-- The array row and the batch a block's row lies in. -/
theorem pt_lt : (grid0.coords t 0).val < 16 := (grid0.coords t 0).isLt
theorem b0 (r e : Fin 1024) (b : Fin 2) (n : Fin 8192) (h : 1024 * (grid0.coords t 0).val + r.val = 8192 * b.val + n.val) :
    (iblk m c 0 t (ix2 r e) : EReal) = (m ((c.tc : Thread nD τ).loc main_arg0) : Vec Ideal S2x8192x1024 .f32) (ix3 b n e) := by
  have h0 := pt_lt t
  have e1 : (iblk m c 0 t (ix2 r e) : EReal) = (V m c main_v12 : Vec Ideal S16384x1024 .f32) (ix2 ⟨8192 * b.val + n.val, by omega⟩ e) := by
    blk_simp [iblk]
    refine congrArg (V m c main_v12) (funext fun a => Fin.ext ?_)
    have ec := tr0 (grid0.coords t)
    match a with
    | ⟨0, _⟩ =>
      show cc0_transform_0 (grid0.coords t) 0 * 1024 + 1 * r.val = _
      rw [ec]; show (grid0.coords t 0).val * 1024 + 1 * r.val = 8192 * b.val + n.val; omega
    | ⟨1, _⟩ =>
      show cc0_transform_0 (grid0.coords t) 1 * 1024 + 1 * e.val = _
      rw [ec]; show 0 * 1024 + 1 * e.val = e.val; omega
  rw [e1, v12]
  exact flat_at _ _ _ _ b n rfl
theorem b1 (e : Fin 1024) (b : Fin 2) (h : (grid0.coords t 0).val / 8 = b.val) :
    (iblk m c 1 t (ix3 0 0 e) : EReal) = (m ((c.tc : Thread nD τ).loc main_arg1) : Vec Ideal S2x6144 .f32) (ix2 b ⟨4096 + e.val, by omega⟩) := by
  have e1 : (iblk m c 1 t (ix3 0 0 e) : EReal) = (V m c main_v10 : Vec Ideal S2x1x1024 .f32) (ix3 b 0 e) := by
    blk_simp [iblk]
    refine congrArg (V m c main_v10) (funext fun a => Fin.ext ?_)
    have ec := tr1 (grid0.coords t)
    match a with
    | ⟨0, _⟩ =>
      show cc0_transform_1 (grid0.coords t) 0 * 1 + 1 * 0 = _
      rw [ec]; show (grid0.coords t 0).val / 8 * 1 + 1 * 0 = b.val; omega
    | ⟨1, _⟩ =>
      show cc0_transform_1 (grid0.coords t) 1 * 1 + 1 * 0 = _
      rw [ec]; rfl
    | ⟨2, _⟩ =>
      show cc0_transform_1 (grid0.coords t) 2 * 1024 + 1 * e.val = _
      rw [ec]; show 0 * 1024 + 1 * e.val = e.val; omega
  rw [e1, v10]
  pointwise []
theorem b2 (e : Fin 1024) (b : Fin 2) (h : (grid0.coords t 0).val / 8 = b.val) :
    (iblk m c 2 t (ix3 0 0 e) : EReal) = (m ((c.tc : Thread nD τ).loc main_arg1) : Vec Ideal S2x6144 .f32) (ix2 b ⟨3072 + e.val, by omega⟩) := by
  have e1 : (iblk m c 2 t (ix3 0 0 e) : EReal) = (V m c main_v9 : Vec Ideal S2x1x1024 .f32) (ix3 b 0 e) := by
    blk_simp [iblk]
    refine congrArg (V m c main_v9) (funext fun a => Fin.ext ?_)
    have ec := tr2 (grid0.coords t)
    match a with
    | ⟨0, _⟩ =>
      show cc0_transform_2 (grid0.coords t) 0 * 1 + 1 * 0 = _
      rw [ec]; show (grid0.coords t 0).val / 8 * 1 + 1 * 0 = b.val; omega
    | ⟨1, _⟩ =>
      show cc0_transform_2 (grid0.coords t) 1 * 1 + 1 * 0 = _
      rw [ec]; rfl
    | ⟨2, _⟩ =>
      show cc0_transform_2 (grid0.coords t) 2 * 1024 + 1 * e.val = _
      rw [ec]; show 0 * 1024 + 1 * e.val = e.val; omega
  rw [e1, v9]
  pointwise []
theorem b7 (e : Fin 1024) (b : Fin 2) (h : (grid0.coords t 0).val / 8 = b.val) :
    (iblk m c 7 t (ix3 0 0 e) : EReal) = (m ((c.tc : Thread nD τ).loc main_arg1) : Vec Ideal S2x6144 .f32) (ix2 b ⟨5120 + e.val, by omega⟩) := by
  have e1 : (iblk m c 7 t (ix3 0 0 e) : EReal) = (V m c main_v11 : Vec Ideal S2x1x1024 .f32) (ix3 b 0 e) := by
    blk_simp [iblk]
    refine congrArg (V m c main_v11) (funext fun a => Fin.ext ?_)
    have ec := tr7 (grid0.coords t)
    match a with
    | ⟨0, _⟩ =>
      show cc0_transform_7 (grid0.coords t) 0 * 1 + 1 * 0 = _
      rw [ec]; show (grid0.coords t 0).val / 8 * 1 + 1 * 0 = b.val; omega
    | ⟨1, _⟩ =>
      show cc0_transform_7 (grid0.coords t) 1 * 1 + 1 * 0 = _
      rw [ec]; rfl
    | ⟨2, _⟩ =>
      show cc0_transform_7 (grid0.coords t) 2 * 1024 + 1 * e.val = _
      rw [ec]; show 0 * 1024 + 1 * e.val = e.val; omega
  rw [e1, v11]
  pointwise []
theorem b3 (e : Fin 1024) : (iblk m c 3 t (ix2 0 e) : EReal) = (m ((c.tc : Thread nD τ).loc main_arg2) : Vec Ideal S1024 .f32) (ix1 e) := by
  have e1 : (iblk m c 3 t (ix2 0 e) : EReal) = (V m c main_v13 : Vec Ideal S1x1024 .f32) (ix2 0 e) := by
    blk_simp [iblk]
    refine congrArg (V m c main_v13) (funext fun a => Fin.ext ?_)
    match a with
    | ⟨0, _⟩ => show 0 * 1 + 1 * 0 = 0; rfl
    | ⟨1, _⟩ => show 0 * 1024 + 1 * e.val = e.val; omega
  rw [e1, v13]
  pointwise []
theorem b6 (e : Fin 1024) : (iblk m c 6 t (ix2 0 e) : EReal) = (m ((c.tc : Thread nD τ).loc main_arg5) : Vec Ideal S1024 .f32) (ix1 e) := by
  have e1 : (iblk m c 6 t (ix2 0 e) : EReal) = (V m c main_v16 : Vec Ideal S1x1024 .f32) (ix2 0 e) := by
    blk_simp [iblk]
    refine congrArg (V m c main_v16) (funext fun a => Fin.ext ?_)
    match a with
    | ⟨0, _⟩ => show 0 * 1 + 1 * 0 = 0; rfl
    | ⟨1, _⟩ => show 0 * 1024 + 1 * e.val = e.val; omega
  rw [e1, v16]
  pointwise []
theorem b4 (e : Fin 1024) (l : Fin 5632) : (iblk m c 4 t (ix2 e l) : EReal) = (m ((c.tc : Thread nD τ).loc main_arg3) : Vec Ideal S1024x5632 .f32) (ix2 e l) := by
  have e1 : (iblk m c 4 t (ix2 e l) : EReal) = (V m c main_v14 : Vec Ideal S1024x5632 .bf16) (ix2 e l) := by
    blk_simp [iblk]
    refine congrArg (V m c main_v14) (funext fun a => Fin.ext ?_)
    match a with
    | ⟨0, _⟩ => show 0 * 1024 + 1 * e.val = e.val; omega
    | ⟨1, _⟩ => show 0 * 5632 + 1 * l.val = l.val; omega
  rw [e1, v14]
theorem b5 (e : Fin 2816) (l : Fin 1024) : (iblk m c 5 t (ix2 e l) : EReal) = (m ((c.tc : Thread nD τ).loc main_arg4) : Vec Ideal S2816x1024 .f32) (ix2 e l) := by
  have e1 : (iblk m c 5 t (ix2 e l) : EReal) = (V m c main_v15 : Vec Ideal S2816x1024 .bf16) (ix2 e l) := by
    blk_simp [iblk]
    refine congrArg (V m c main_v15) (funext fun a => Fin.ext ?_)
    match a with
    | ⟨0, _⟩ => show 0 * 2816 + 1 * e.val = e.val; omega
    | ⟨1, _⟩ => show 0 * 1024 + 1 * l.val = l.val; omega
  rw [e1, v15]

/-- The result array's row and lane, of the arguments. -/
def outArr (R : Fin 16384) (o : Fin 1024) : EReal :=
  ffnOut (fun b n e => (m ((c.tc : Thread nD τ).loc main_arg0) : Vec Ideal S2x8192x1024 .f32) (ix3 b n e)) (fun b j => (m ((c.tc : Thread nD τ).loc main_arg1) : Vec Ideal S2x6144 .f32) (ix2 b j))
    (fun e => (m ((c.tc : Thread nD τ).loc main_arg2) : Vec Ideal S1024 .f32) (ix1 e)) (fun e l => (m ((c.tc : Thread nD τ).loc main_arg3) : Vec Ideal S1024x5632 .f32) (ix2 e l))
    (fun k o => (m ((c.tc : Thread nD τ).loc main_arg4) : Vec Ideal S2816x1024 .f32) (ix2 k o)) (fun e => (m ((c.tc : Thread nD τ).loc main_arg5) : Vec Ideal S1024 .f32) (ix1 e))
    ⟨R.val / 8192, by omega⟩ ⟨R.val % 8192, by omega⟩ o

theorem point (r o : Fin 1024) (R : Fin 16384) (h : R.val = 1024 * (grid0.coords t 0).val + r.val) :
    brow (iblk m c 0 t) (iblk m c 1 t) (iblk m c 2 t) (iblk m c 3 t) (iblk m c 4 t) (iblk m c 5 t) (iblk m c 6 t) (iblk m c 7 t) r o = outArr m c R o := by
  have h0 := pt_lt t
  have hb : (grid0.coords t 0).val / 8 = R.val / 8192 := by omega
  unfold brow outArr ffnOut
  refine ffnrow_congr (fun e => b0 m c t r e _ _ ?_) (fun e => b3 m c t e) (fun e => b1 m c t e _ hb) (fun e => b2 m c t e _ hb) (fun e l => b4 m c t e _) (fun e l => b4 m c t e _) (fun k o => b5 m c t k o) (fun e => b6 m c t e) (fun e => b7 m c t e _ hb) rfl
  show _ = 8192 * (R.val / 8192) + R.val % 8192
  omega

/-- The result array after the call. -/
theorem arr : (dats m 0 c).arrAt 8 cfg0.N = fun y : S16384x1024.Idx => outArr m c (y 0) (y 1) := by
  refine (dats m 0 c).arrAt_eq_of_covers 8 _ (by decide +kernel) fun t hf y => ?_
  rw [after0_8]
  blk_simp
  refine (out_at _ _ _ _ _ _ _ _ y).trans ?_
  have ec := tr8 (grid0.coords t)
  have e0 : (((win0_8.blk t).view.emb y) 0).val = 1024 * (grid0.coords t 0).val + (y 0).val := by
    show cc0_transform_8 (grid0.coords t) 0 * 1024 + 1 * (y 0).val = _
    rw [ec]; show (grid0.coords t 0).val * 1024 + 1 * (y 0).val = _
    omega
  have e1 : ((win0_8.blk t).view.emb y) 1 = y 1 := by
    refine Fin.ext ?_
    show cc0_transform_8 (grid0.coords t) 1 * 1024 + 1 * (y 1).val = _
    rw [ec]; show 0 * 1024 + 1 * (y 1).val = _; omega
  refine (point m c t (y 0) (y 1) (((win0_8.blk t).view.emb y) 0) e0).trans ?_
  refine (congrArg (outArr m c _) e1.symm).trans ?_
  blk_simp
end Cert.FfnKernelIdeal.Ffn
-- ==== Proof.FfnRef.lean ====
module
public import proofs.«01_k».proof.Proof.Gen.FfnReferenceIdeal.Run
public import proofs.«01_k».proof.Proof.LayerMath
public import Idealize.ShloMosaic.Lib.Pointwise

@[expose] public section
set_option maxRecDepth 16384
noncomputable section
open Idealize.ShloMosaic Idealize.ShloMosaic.TcCoe Idealize.SL.Sem
namespace Cert.FfnReferenceIdeal.Ffn
open Cert.FfnReferenceIdeal Cert.FfnReferenceIdeal.Gen Cert.Layer

/-! The reference's feed-forward sub-layer, in stages, each read at an index. -/

/-- The modulated norm of the tokens. -/
def Hs {F : FTy → Type} [FloatOps F] (arg0 : FVec F S2x8192x1024 .f32) (arg1 : FVec F S2x6144 .f32) (arg2 : FVec F S1024 .f32) : FVec F S2x8192x1024 .f32 :=
  have v12 : FVec F S2x8192x1024 .f32 := mulf arg0 arg0
  have cst : FVec F S_ .f32 := (constant S_ .f32 0x00000000#32)
  have v13 : FVec F S2x8192 .f32 := Host.reduceAdd v12 cst reducesTo_S2x8192x1024_S2x8192_d2 h_S_
  have v14 : FVec F S2x8192x1 .f32 := broadcastInDim S2x8192x1 ![0, 1] bcast_S2x8192_S2x8192x1_0_1 v13
  have cst_0 : FVec F S_ .f32 := (constant S_ .f32 0x44800000#32)
  have v15 : FVec F S2x8192x1 .f32 := broadcastInDim S2x8192x1 ![] bcast_S_S2x8192x1 cst_0
  have v16 : FVec F S2x8192x1 .f32 := Host.divf v14 v15
  have cst_1 : FVec F S_ .f32 := (constant S_ .f32 0x358637BD#32)
  have v17 : FVec F S2x8192x1 .f32 := broadcastInDim S2x8192x1 ![] bcast_S_S2x8192x1 cst_1
  have v18 : FVec F S2x8192x1 .f32 := addf v16 v17
  have v19 : FVec F S2x8192x1 .f32 := Host.rsqrt v18
  have v20 : FVec F S2x8192x1024 .f32 := broadcastInDim S2x8192x1024 ![0, 1, 2] bcast_S2x8192x1_S2x8192x1024_0_1_2 v19
  have v21 : FVec F S2x8192x1024 .f32 := mulf arg0 v20
  have v22 : FVec F S1x1x1024 .f32 := broadcastInDim S1x1x1024 ![2] bcast_S1024_S1x1x1024_2 arg2
  have v23 : FVec F S2x8192x1024 .f32 := broadcastInDim S2x8192x1024 ![0, 1, 2] bcast_S1x1x1024_S2x8192x1024_0_1_2 v22
  have v24 : FVec F S2x8192x1024 .f32 := mulf v21 v23
  have cst_2 : FVec F S_ .f32 := (constant S_ .f32 0x3F800000#32)
  have v25 : FVec F S2x1x1024 .f32 := broadcastInDim S2x1x1024 ![] bcast_S_S2x1x1024 cst_2
  have v4 : FVec F S2x1024 .f32 := extractStridedSlice S2x1024 ![0, 4096] arg1 slices_S2x6144_S2x1024_0_4096
  have v10 : FVec F S2x1x1024 .f32 := broadcastInDim S2x1x1024 ![0, 2] bcast_S2x1024_S2x1x1024_0_2 v4
  have v26 : FVec F S2x1x1024 .f32 := addf v25 v10
  have v27 : FVec F S2x8192x1024 .f32 := broadcastInDim S2x8192x1024 ![0, 1, 2] bcast_S2x1x1024_S2x8192x1024_0_1_2 v26
  have v28 : FVec F S2x8192x1024 .f32 := mulf v24 v27
  have v3 : FVec F S2x1024 .f32 := extractStridedSlice S2x1024 ![0, 3072] arg1 slices_S2x6144_S2x1024_0_3072
  have v9 : FVec F S2x1x1024 .f32 := broadcastInDim S2x1x1024 ![0, 2] bcast_S2x1024_S2x1x1024_0_2 v3
  have v29 : FVec F S2x8192x1024 .f32 := broadcastInDim S2x8192x1024 ![0, 1, 2] bcast_S2x1x1024_S2x8192x1024_0_1_2 v9
  have v30 : FVec F S2x8192x1024 .f32 := addf v28 v29
  v30
/-- Its product with the first weight. -/
def UPs {F : FTy → Type} [FloatOps F] (arg3 : FVec F S1024x5632 .f32) (v30 : FVec F S2x8192x1024 .f32) : FVec F S2x8192x5632 .f32 :=
  have v31 : FVec F S2x8192x5632 .f32 := Host.dotGeneral dot_S2x8192x1024_S1024x5632_S2x8192x5632_2_0_01_1_n_n none v30 arg3
  v31
/-- The gated hidden layer. -/
def Us {F : FTy → Type} [FloatOps F] (v31 : FVec F S2x8192x5632 .f32) : FVec F S2x8192x2816 .f32 :=
  have v32 : FVec F S2x8192x2816 .f32 := extractStridedSlice S2x8192x2816 ![0, 0, 0] v31 slices_S2x8192x5632_S2x8192x2816_0_0_0
  have v34 : FVec F S2x8192x2816 .f32 := mulf v32 (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf v32))))
  have v33 : FVec F S2x8192x2816 .f32 := extractStridedSlice S2x8192x2816 ![0, 0, 2816] v31 slices_S2x8192x5632_S2x8192x2816_0_0_2816
  have v35 : FVec F S2x8192x2816 .f32 := mulf v34 v33
  v35
/-- Its product with the second weight. -/
def Fs {F : FTy → Type} [FloatOps F] (arg4 : FVec F S2816x1024 .f32) (v35 : FVec F S2x8192x2816 .f32) : FVec F S2x8192x1024 .f32 :=
  have v36 : FVec F S2x8192x1024 .f32 := Host.dotGeneral dot_S2x8192x2816_S2816x1024_S2x8192x1024_2_0_01_1_n_n none v35 arg4
  v36
/-- The norm, gate and residual. -/
def Os {F : FTy → Type} [FloatOps F] (arg0 : FVec F S2x8192x1024 .f32) (arg1 : FVec F S2x6144 .f32) (arg5 : FVec F S1024 .f32) (v36 : FVec F S2x8192x1024 .f32) : FVec F S2x8192x1024 .f32 :=
  have v5 : FVec F S2x1024 .f32 := extractStridedSlice S2x1024 ![0, 5120] arg1 slices_S2x6144_S2x1024_0_5120
  have v11 : FVec F S2x1x1024 .f32 := broadcastInDim S2x1x1024 ![0, 2] bcast_S2x1024_S2x1x1024_0_2 v5
  have v50 : FVec F S2x8192x1024 .f32 := broadcastInDim S2x8192x1024 ![0, 1, 2] bcast_S2x1x1024_S2x8192x1024_0_1_2 v11
  have v37 : FVec F S2x8192x1024 .f32 := mulf v36 v36
  have cst_3 : FVec F S_ .f32 := (constant S_ .f32 0x00000000#32)
  have v38 : FVec F S2x8192 .f32 := Host.reduceAdd v37 cst_3 reducesTo_S2x8192x1024_S2x8192_d2 h_S_
  have v39 : FVec F S2x8192x1 .f32 := broadcastInDim S2x8192x1 ![0, 1] bcast_S2x8192_S2x8192x1_0_1 v38
  have cst_4 : FVec F S_ .f32 := (constant S_ .f32 0x44800000#32)
  have v40 : FVec F S2x8192x1 .f32 := broadcastInDim S2x8192x1 ![] bcast_S_S2x8192x1 cst_4
  have v41 : FVec F S2x8192x1 .f32 := Host.divf v39 v40
  have cst_5 : FVec F S_ .f32 := (constant S_ .f32 0x358637BD#32)
  have v42 : FVec F S2x8192x1 .f32 := broadcastInDim S2x8192x1 ![] bcast_S_S2x8192x1 cst_5
  have v43 : FVec F S2x8192x1 .f32 := addf v41 v42
  have v44 : FVec F S2x8192x1 .f32 := Host.rsqrt v43
  have v45 : FVec F S2x8192x1024 .f32 := broadcastInDim S2x8192x1024 ![0, 1, 2] bcast_S2x8192x1_S2x8192x1024_0_1_2 v44
  have v46 : FVec F S2x8192x1024 .f32 := mulf v36 v45
  have v47 : FVec F S1x1x1024 .f32 := broadcastInDim S1x1x1024 ![2] bcast_S1024_S1x1x1024_2 arg5
  have v48 : FVec F S2x8192x1024 .f32 := broadcastInDim S2x8192x1024 ![0, 1, 2] bcast_S1x1x1024_S2x8192x1024_0_1_2 v47
  have v49 : FVec F S2x8192x1024 .f32 := mulf v46 v48
  have v51 : FVec F S2x8192x1024 .f32 := mulf v50 v49
  have v52 : FVec F S2x8192x1024 .f32 := addf arg0 v51
  v52

theorem Hs_at (x : FVec Ideal S2x8192x1024 .f32) (M : FVec Ideal S2x6144 .f32) (g : FVec Ideal S1024 .f32) (b : Fin 2) (n : Fin 8192) (e : Fin 1024) :
    (Hs x M g (ix3 b n e) : EReal) = hrow (fun e => x (ix3 b n e)) (fun e => g (ix1 e)) (fun e => M (ix2 b ⟨4096 + e.val, by omega⟩)) (fun e => M (ix2 b ⟨3072 + e.val, by omega⟩)) e := by
  pointwise [Hs, hrow, nrm, ms]
theorem UPs_at (W : FVec Ideal S1024x5632 .f32) (h : FVec Ideal S2x8192x1024 .f32) (b : Fin 2) (n : Fin 8192) (l : Fin 5632) :
    (UPs W h (ix3 b n l) : EReal) = mulrow (fun e => h (ix3 b n e)) (fun e l => W (ix2 e l)) l := by
  pointwise [UPs, mulrow]
theorem Us_at (v : FVec Ideal S2x8192x5632 .f32) (b : Fin 2) (n : Fin 8192) (l : Fin 2816) :
    (Us v (ix3 b n l) : EReal) = swi (v (ix3 b n ⟨l.val, by omega⟩)) (v (ix3 b n ⟨2816 + l.val, by omega⟩)) := by
  pointwise [Us, swi, Ideal.logistic]
theorem Fs_at (W : FVec Ideal S2816x1024 .f32) (u : FVec Ideal S2x8192x2816 .f32) (b : Fin 2) (n : Fin 8192) (o : Fin 1024) :
    (Fs W u (ix3 b n o) : EReal) = mulrow (fun k => u (ix3 b n k)) (fun k o => W (ix2 k o)) o := by
  pointwise [Fs, mulrow]
theorem Os_at (x : FVec Ideal S2x8192x1024 .f32) (M : FVec Ideal S2x6144 .f32) (g : FVec Ideal S1024 .f32) (f : FVec Ideal S2x8192x1024 .f32) (b : Fin 2) (n : Fin 8192) (o : Fin 1024) :
    (Os x M g f (ix3 b n o) : EReal) = close (fun e => x (ix3 b n e)) (fun e => M (ix2 b ⟨5120 + e.val, by omega⟩)) (fun e => f (ix3 b n e)) (fun e => g (ix1 e)) o := by
  pointwise [Os, close, nrm, ms]

/-- The reference's result, composed of the stages. -/
theorem res_eq {F : FTy → Type} [FloatOps F] (m : (ℓ : Loc nD τ sig) → Buf (Elt F) ℓ) (c : Dev nD) :
    Value.res_main_v53 m c = shapeCast S16384x1024 (Os (m ((c.tc : Thread nD τ).loc main_arg0)) (m ((c.tc : Thread nD τ).loc main_arg1)) (m ((c.tc : Thread nD τ).loc main_arg5))
      (Fs (m ((c.tc : Thread nD τ).loc main_arg4)) (Us (UPs (m ((c.tc : Thread nD τ).loc main_arg3)) (Hs (m ((c.tc : Thread nD τ).loc main_arg0)) (m ((c.tc : Thread nD τ).loc main_arg1)) (m ((c.tc : Thread nD τ).loc main_arg2))))))) shapeCasts_S2x8192x1024_S16384x1024 := by
  unfold Value.res_main_v53 Os Fs Us UPs Hs
  rfl

/-- The reference's result at a row and lane. -/
theorem res_at (m : (ℓ : Loc nD τ sig) → Buf (Elt Ideal) ℓ) (c : Dev nD) (R : Fin 16384) (o : Fin 1024) :
    (Value.res_main_v53 m c (ix2 R o) : EReal) = ffnOut (fun b n e => (m ((c.tc : Thread nD τ).loc main_arg0) : Vec Ideal S2x8192x1024 .f32) (ix3 b n e)) (fun b j => (m ((c.tc : Thread nD τ).loc main_arg1) : Vec Ideal S2x6144 .f32) (ix2 b j))
    (fun e => (m ((c.tc : Thread nD τ).loc main_arg2) : Vec Ideal S1024 .f32) (ix1 e)) (fun e l => (m ((c.tc : Thread nD τ).loc main_arg3) : Vec Ideal S1024x5632 .f32) (ix2 e l))
    (fun k o => (m ((c.tc : Thread nD τ).loc main_arg4) : Vec Ideal S2816x1024 .f32) (ix2 k o)) (fun e => (m ((c.tc : Thread nD τ).loc main_arg5) : Vec Ideal S1024 .f32) (ix1 e))
    ⟨R.val / 8192, by omega⟩ ⟨R.val % 8192, by omega⟩ o := by
  rw [res_eq]
  refine (flat_at _ _ R o ⟨R.val / 8192, by omega⟩ ⟨R.val % 8192, by omega⟩ (by show _ = 8192 * (R.val / 8192) + R.val % 8192; omega)).trans ?_
  rw [Os_at]
  simp only [Fs_at, Us_at, UPs_at, Hs_at]
  rfl
end Cert.FfnReferenceIdeal.Ffn
-- ==== Proof.FfnAlg.lean ====
module
public import proofs.«01_k».proof.Defs
public import proofs.«01_k».proof.Proof.FfnRun
public import proofs.«01_k».proof.Proof.FfnRef

@[expose] public section
set_option maxRecDepth 16384
noncomputable section
open Idealize.ShloMosaic Idealize.ShloMosaic.TcCoe Idealize.SL.Sem
namespace Cert.Proof

/-- Every execution of the feed-forward reference ends with its arguments as launched and every semaphore at zero. -/
theorem ffn_reference_frame : Cert.quiescent_FfnReferenceIdeal := fun m ρ _ =>
  (θ_run _ _ _).mono (fun r h => ⟨fun c => (h c).2, Idealize.ShloMosaic.sem_eq_zero_of_no_sems (by decide) r.2⟩) (Cert.FfnReferenceIdeal.Value.run m ρ)

/-- The feed-forward call's results are the reference's, of any arguments. -/
theorem ffn_algebraic : Cert.algebraic_FfnKernelIdeal_FfnReferenceIdeal := by
  intro m g m' g' hpre hargs
  refine ⟨fun c => (Cert.FfnKernelIdeal.Gen.dats m 0 c).arrAt 8 Cert.FfnKernelIdeal.cfg0.N, Cert.FfnKernelIdeal.Value.run_blocks m g,
    (θ_run _ _ _).mono (fun r h c => ⟨(h c).1.trans ?_, (h c).2⟩) (Cert.FfnReferenceIdeal.Value.run m' g')⟩
  refine Eq.trans ?_ (Cert.FfnKernelIdeal.Ffn.arr m c).symm
  obtain ⟨h0, h1, h2, h3, h4, h5⟩ := hargs c
  funext y
  obtain ⟨R, o, rfl⟩ : ∃ (R : Fin 16384) (o : Fin 1024), y = ix2 R o := ⟨y 0, y 1, by
    funext d
    match d with
    | ⟨0, _⟩ => rfl
    | ⟨1, _⟩ => rfl⟩
  refine (Cert.FfnReferenceIdeal.Ffn.res_at m' c R o).trans ?_
  rw [h0, h1, h2, h3, h4, h5]
  rfl
end Cert.Proof
-- ==== Proof.InpKer.lean ====
module
public import proofs.«01_k».proof.Proof.Gen.InprojKernelIdeal.Value
public import proofs.«01_k».proof.Proof.LayerMath
public import Idealize.ShloMosaic.Lib.Pointwise
public import Idealize.ShloMosaic.Lib.Pipeline.ValueKit

@[expose] public section
set_option maxRecDepth 65536
noncomputable section
open Idealize.ShloMosaic Idealize.ShloMosaic.TcCoe Idealize.SL.Sem
namespace Cert.InprojKernelIdeal.Inp
open Cert.InprojKernelIdeal Cert.InprojKernelIdeal.Gen Cert.Layer

/-! The input projection's kernel: its stores, each a plain or a rotated group of columns. -/

theorem H_at (x : Vec Ideal S512x1024 .f32) (g : Vec Ideal S1x1024 .f32) (sc sh : Vec Ideal S1x1x1024 .f32) (r : Fin 512) (e : Fin 1024) :
    (k0_pay1 x g sc sh (ix2 r e) : EReal) = hrow (fun e => x (ix2 r e)) (fun e => g (ix2 0 e)) (fun e => sc (ix3 0 0 e)) (fun e => sh (ix3 0 0 e)) e := by
  pointwise [k0_pay1, hrow, nrm, ms]
theorem PL_at (H : FVec Ideal S512x1024 .bf16) (w : Vec Ideal S1024x1024 .bf16) (r : Fin 512) (l : Fin 1024) :
    (k0_pay4 H w (ix2 r l) : EReal) = mulrow (fun e => H (ix2 r e)) (fun e l => w (ix2 e l)) l := by
  pointwise [k0_pay4, mulrow]
theorem RA_at (H : FVec Ideal S512x1024 .bf16) (C S : FVec Ideal S512x128 .f32) (w : Vec Ideal S1024x256 .bf16) (r : Fin 512) (d : Fin 128) :
    (k0_pay21 H C S w (ix2 r d) : EReal) = mulrow (fun e => H (ix2 r e)) (fun e l => w (ix2 e l)) ⟨d.val, by omega⟩ * C (ix2 r d)
      - mulrow (fun e => H (ix2 r e)) (fun e l => w (ix2 e l)) ⟨128 + d.val, by omega⟩ * S (ix2 r d) := by
  pointwise [k0_pay21, k0_pay20, k0_pay19, k0_pay18, mulrow]
theorem RB_at (H : FVec Ideal S512x1024 .bf16) (C S : FVec Ideal S512x128 .f32) (w : Vec Ideal S1024x256 .bf16) (r : Fin 512) (d : Fin 128) :
    (k0_pay22 H C S w (ix2 r d) : EReal) = mulrow (fun e => H (ix2 r e)) (fun e l => w (ix2 e l)) ⟨d.val, by omega⟩ * S (ix2 r d)
      + mulrow (fun e => H (ix2 r e)) (fun e l => w (ix2 e l)) ⟨128 + d.val, by omega⟩ * C (ix2 r d) := by
  pointwise [k0_pay22, k0_pay20, k0_pay19, k0_pay18, mulrow]
theorem q5_at (c : Vec Ideal S512x128 .f32) (r : Fin 512) (d : Fin 128) : (k0_pay5 c (ix2 r d) : EReal) = c (ix2 r d) * 1 := by pointwise [k0_pay5]
theorem q6_at (c : Vec Ideal S512x128 .f32) (r : Fin 512) (d : Fin 128) : (k0_pay6 c (ix2 r d) : EReal) = c (ix2 r d) * 1 := by pointwise [k0_pay6]
theorem q28_at (c : Vec Ideal S512x128 .f32) (r : Fin 512) (d : Fin 128) : (k0_pay28 c (ix2 r d) : EReal) = c (ix2 r d) * Ideal.ofBits .f32 0x3D800000#32 := by pointwise [k0_pay28]
theorem q29_at (c : Vec Ideal S512x128 .f32) (r : Fin 512) (d : Fin 128) : (k0_pay29 c (ix2 r d) : EReal) = c (ix2 r d) * Ideal.ofBits .f32 0x3D800000#32 := by pointwise [k0_pay29]

section
variable {F : FTy → Type} [FloatOps F]
theorem e2 (x : Vec F S512x1024 .f32) (g : Vec F S1x1024 .f32) (sc sh : Vec F S1x1x1024 .f32) (w : Vec F S1024x1024 .bf16) :
    k0_pay2 x g sc sh w = k0_pay4 (k0_pay1 x g sc sh) w := by
  unfold k0_pay2 k0_pay4; rfl
theorem e3 (x : Vec F S512x1024 .f32) (g : Vec F S1x1024 .f32) (sc sh : Vec F S1x1x1024 .f32) (w : Vec F S1024x1024 .bf16) :
    k0_pay3 x g sc sh w = k0_pay4 (k0_pay1 x g sc sh) w := by
  unfold k0_pay3 k0_pay4; rfl
theorem e50 (H : FVec F S512x1024 .bf16) (w : Vec F S1024x1024 .bf16) :
    k0_pay50 H w = k0_pay4 H w := by
  unfold k0_pay50 k0_pay4; rfl
theorem e51 (H : FVec F S512x1024 .bf16) (w : Vec F S1024x1024 .bf16) :
    k0_pay51 H w = k0_pay4 H w := by
  unfold k0_pay51 k0_pay4; rfl
theorem e52 (H : FVec F S512x1024 .bf16) (w : Vec F S1024x1024 .bf16) :
    k0_pay52 H w = k0_pay4 H w := by
  unfold k0_pay52 k0_pay4; rfl
theorem e53 (H : FVec F S512x1024 .bf16) (w : Vec F S1024x1024 .bf16) :
    k0_pay53 H w = k0_pay4 H w := by
  unfold k0_pay53 k0_pay4; rfl
theorem e54 (H : FVec F S512x1024 .bf16) (w : Vec F S1024x1024 .bf16) :
    k0_pay54 H w = k0_pay4 H w := by
  unfold k0_pay54 k0_pay4; rfl
theorem e55 (H : FVec F S512x1024 .bf16) (w : Vec F S1024x1024 .bf16) :
    k0_pay55 H w = k0_pay4 H w := by
  unfold k0_pay55 k0_pay4; rfl
theorem e10 (H : FVec F S512x1024 .bf16) (c s : Vec F S512x128 .f32) (w : Vec F S1024x256 .bf16) :
    k0_pay10 H c s w = k0_pay21 H (k0_pay5 c) (k0_pay6 s) w := by
  unfold k0_pay21 k0_pay20 k0_pay19 k0_pay18 k0_pay10 k0_pay8 k0_pay9 k0_pay7; rfl
theorem e11 (H : FVec F S512x1024 .bf16) (c s : Vec F S512x128 .f32) (w : Vec F S1024x256 .bf16) :
    k0_pay11 H c s w = k0_pay22 H (k0_pay5 c) (k0_pay6 s) w := by
  unfold k0_pay22 k0_pay20 k0_pay19 k0_pay18 k0_pay11 k0_pay8 k0_pay9 k0_pay7; rfl
theorem e16 (H : FVec F S512x1024 .bf16) (c s : Vec F S512x128 .f32) (w : Vec F S1024x256 .bf16) :
    k0_pay16 (k0_pay6 s) (k0_pay14 H w) (k0_pay15 H c w) = k0_pay21 H (k0_pay5 c) (k0_pay6 s) w := by
  unfold k0_pay21 k0_pay20 k0_pay19 k0_pay18 k0_pay16 k0_pay15 k0_pay14 k0_pay13 k0_pay12; rfl
theorem e17 (H : FVec F S512x1024 .bf16) (c s : Vec F S512x128 .f32) (w : Vec F S1024x256 .bf16) :
    k0_pay17 (k0_pay5 c) (k0_pay6 s) (k0_pay13 H w) (k0_pay14 H w) = k0_pay22 H (k0_pay5 c) (k0_pay6 s) w := by
  unfold k0_pay22 k0_pay20 k0_pay19 k0_pay18 k0_pay17 k0_pay14 k0_pay13 k0_pay12; rfl
theorem e26 (H : FVec F S512x1024 .bf16) (C S : FVec F S512x128 .f32) (w : Vec F S1024x256 .bf16) :
    k0_pay26 H C S w = k0_pay21 H C S w := by
  unfold k0_pay21 k0_pay20 k0_pay19 k0_pay18 k0_pay26 k0_pay25 k0_pay24 k0_pay23; rfl
theorem e27 (H : FVec F S512x1024 .bf16) (C S : FVec F S512x128 .f32) (w : Vec F S1024x256 .bf16) :
    k0_pay27 H C S w = k0_pay22 H C S w := by
  unfold k0_pay22 k0_pay20 k0_pay19 k0_pay18 k0_pay27 k0_pay25 k0_pay24 k0_pay23; rfl
theorem e33 (H : FVec F S512x1024 .bf16) (c s : Vec F S512x128 .f32) (w : Vec F S1024x256 .bf16) :
    k0_pay33 H c s w = k0_pay21 H (k0_pay28 c) (k0_pay29 s) w := by
  unfold k0_pay21 k0_pay20 k0_pay19 k0_pay18 k0_pay33 k0_pay32 k0_pay31 k0_pay30; rfl
theorem e34 (H : FVec F S512x1024 .bf16) (c s : Vec F S512x128 .f32) (w : Vec F S1024x256 .bf16) :
    k0_pay34 H c s w = k0_pay22 H (k0_pay28 c) (k0_pay29 s) w := by
  unfold k0_pay22 k0_pay20 k0_pay19 k0_pay18 k0_pay34 k0_pay32 k0_pay31 k0_pay30; rfl
theorem e38 (H : FVec F S512x1024 .bf16) (c s : Vec F S512x128 .f32) (w : Vec F S1024x256 .bf16) :
    k0_pay38 H c s w = k0_pay21 H (k0_pay28 c) (k0_pay29 s) w := by
  unfold k0_pay21 k0_pay20 k0_pay19 k0_pay18 k0_pay38 k0_pay37 k0_pay36 k0_pay35; rfl
theorem e39 (H : FVec F S512x1024 .bf16) (c s : Vec F S512x128 .f32) (w : Vec F S1024x256 .bf16) :
    k0_pay39 H c s w = k0_pay22 H (k0_pay28 c) (k0_pay29 s) w := by
  unfold k0_pay22 k0_pay20 k0_pay19 k0_pay18 k0_pay39 k0_pay37 k0_pay36 k0_pay35; rfl
theorem e43 (H : FVec F S512x1024 .bf16) (C S : FVec F S512x128 .f32) (w : Vec F S1024x256 .bf16) :
    k0_pay43 H C S w = k0_pay21 H C S w := by
  unfold k0_pay21 k0_pay20 k0_pay19 k0_pay18 k0_pay43 k0_pay42 k0_pay41 k0_pay40; rfl
theorem e44 (H : FVec F S512x1024 .bf16) (C S : FVec F S512x128 .f32) (w : Vec F S1024x256 .bf16) :
    k0_pay44 H C S w = k0_pay22 H C S w := by
  unfold k0_pay22 k0_pay20 k0_pay19 k0_pay18 k0_pay44 k0_pay42 k0_pay41 k0_pay40; rfl
theorem e48 (H : FVec F S512x1024 .bf16) (C S : FVec F S512x128 .f32) (w : Vec F S1024x256 .bf16) :
    k0_pay48 H C S w = k0_pay21 H C S w := by
  unfold k0_pay21 k0_pay20 k0_pay19 k0_pay18 k0_pay48 k0_pay47 k0_pay46 k0_pay45; rfl
theorem e49 (H : FVec F S512x1024 .bf16) (C S : FVec F S512x128 .f32) (w : Vec F S1024x256 .bf16) :
    k0_pay49 H C S w = k0_pay22 H C S w := by
  unfold k0_pay22 k0_pay20 k0_pay19 k0_pay18 k0_pay49 k0_pay47 k0_pay46 k0_pay45; rfl
end

/-- A rectangle read through a whole view, two coordinates. -/
theorem rd2 {n0 n1 m0 m1 : Nat} {e : EltTy} (m : Memref sig Kind.tc Space.vmem ⟨2, ![n0, n1]⟩ e) (hm : m.IsWhole) (x : Vec Ideal ⟨2, ![n0, n1]⟩ e) (o0 o1 : Nat) (h)
    (a : Fin m0) (b : Fin m1) (a' : Fin n0) (b' : Fin n1) (h0 : o0 + a.val = a'.val) (h1 : o1 + b.val = b'.val) :
    View.readAt (Elt Ideal) m.view (Rect.unit (s := ⟨2, ![n0, n1]⟩) ![o0, o1] ![m0, m1] h).toLoadRect (hm.unread x) (ix2 a b) = x (ix2 a' b') := by
  rw [View.readAt_apply, hm.read_unread]
  congr 1
  funext d
  refine Fin.ext ?_
  match d with
  | ⟨0, _⟩ => exact (congrArg (o0 + ·) (Nat.one_mul _)).trans h0
  | ⟨1, _⟩ => exact (congrArg (o1 + ·) (Nat.one_mul _)).trans h1
/-- A one-row vector read whole. -/
theorem rd3 {n : Nat} {e : EltTy} (m : Memref sig Kind.tc Space.vmem ⟨3, ![1, 1, n]⟩ e) (hm : m.IsWhole) (x : Vec Ideal ⟨3, ![1, 1, n]⟩ e) (h) (a : Fin n) :
    View.readAt (Elt Ideal) m.view (Rect.unit (s := ⟨3, ![1, 1, n]⟩) ![0, 0, 0] ![1, 1, n] h).toLoadRect (hm.unread x) (ix3 0 0 a) = x (ix3 0 0 a) := by
  rw [View.readAt_apply, hm.read_unread]
  congr 1
  funext d
  refine Fin.ext ?_
  match d with
  | ⟨0, _⟩ => rfl
  | ⟨1, _⟩ => rfl
  | ⟨2, _⟩ => exact (congrArg (0 + ·) (Nat.one_mul _)).trans (Nat.zero_add _)

variable (h : Fin 512 → Fin 1024 → EReal) (x4 : Vec Ideal S1024x11264 .bf16) (x5 x6 : Vec Ideal S512x128 .f32)
/-- A block's value at a row and column, of its modulated rows `h`. -/
def bcol (r : Fin 512) (k : Nat) : EReal := inpv (h r) (fun e l => x4 (ix2 e l)) (fun d => x5 (ix2 r d)) (fun d => x6 (ix2 r d)) k

theorem dot_part {n : Nat} (H : FVec Ideal S512x1024 .bf16) (hH : ∀ r e, (H (ix2 r e) : EReal) = h r e) (w : Vec Ideal ⟨2, ![1024, n]⟩ .bf16) (K : Nat) (hK : K + n ≤ 11264)
    (hw : ∀ e (l : Fin n), w (ix2 e l) = x4 (ix2 e ⟨K + l.val, by omega⟩)) (r r' : Fin 512) (hr : r = r') (l : Fin n) (k : Nat) (hk : K + l.val = k) :
    mulrow (fun e => (H (ix2 r e) : EReal)) (fun e l => w (ix2 e l)) l = dotc (h r') (fun e l => x4 (ix2 e l)) k := by
  subst hk hr
  rw [dotc, dif_pos (by omega)]
  exact Finset.sum_congr rfl fun e _ => congrArg₂ (· * ·) (hH r e) (hw e l)

/-- A plain group of columns. -/
theorem plain_t (H : FVec Ideal S512x1024 .bf16) (hH : ∀ r e, (H (ix2 r e) : EReal) = h r e) (w : Vec Ideal S1024x1024 .bf16) (K : Nat) (hK : K + 1024 ≤ 3072 ∨ (5120 ≤ K ∧ K + 1024 ≤ 11264))
    (hw : ∀ e (l : Fin 1024), w (ix2 e l) = x4 (ix2 e ⟨K + l.val, by omega⟩)) (P : FVec Ideal S512x1024 .bf16) (hP : P = k0_pay4 H w) (y : S512x11264.Idx) :
    View.TileAt (Val := Elt Ideal) (e := .bf16) y ![0, K] S512x1024.size P (bcol h x4 x5 x6 (y 0) (y 1).val) := by
  intro z hz
  have y0 : (y 0).val = 0 + (z 0).val := hz 0
  have y1 : (y 1).val = K + (z 1).val := hz 1
  obtain ⟨r, l, rfl⟩ : ∃ (r : Fin 512) (l : Fin 1024), z = ix2 r l := ⟨z 0, z 1, by
    funext d
    match d with
    | ⟨0, _⟩ => rfl
    | ⟨1, _⟩ => rfl⟩
  change (y 0).val = 0 + r.val at y0
  change (y 1).val = K + l.val at y1
  subst hP
  refine (PL_at H w r l).trans ?_
  have hl := l.isLt
  unfold bcol inpv
  rw [if_pos (by omega)]
  exact dot_part h x4 H hH w K (by omega) hw r _ (Fin.ext (by omega)) l _ y1.symm

/-- The first half of a rotated head. -/
theorem rotA_t (s : EReal) (H : FVec Ideal S512x1024 .bf16) (hH : ∀ r e, (H (ix2 r e) : EReal) = h r e) (C S : FVec Ideal S512x128 .f32)
    (hC : ∀ r d, (C (ix2 r d) : EReal) = x5 (ix2 r d) * s) (hS : ∀ r d, (S (ix2 r d) : EReal) = x6 (ix2 r d) * s) (w : Vec Ideal S1024x256 .bf16) (K : Nat) (hK : 3072 ≤ K ∧ K + 256 ≤ 5120) (h8 : K % 256 = 0) (hs : ∀ k, K ≤ k → k < K + 256 → rsc k = s)
    (hw : ∀ e (l : Fin 256), w (ix2 e l) = x4 (ix2 e ⟨K + l.val, by omega⟩)) (P : FVec Ideal S512x128 .bf16) (hP : P = k0_pay21 H C S w) (y : S512x11264.Idx) :
    View.TileAt (Val := Elt Ideal) (e := .bf16) y ![0, K] S512x128.size P (bcol h x4 x5 x6 (y 0) (y 1).val) := by
  intro z hz
  have y0 : (y 0).val = 0 + (z 0).val := hz 0
  have y1 : (y 1).val = K + (z 1).val := hz 1
  obtain ⟨r, l, rfl⟩ : ∃ (r : Fin 512) (l : Fin 128), z = ix2 r l := ⟨z 0, z 1, by
    funext d
    match d with
    | ⟨0, _⟩ => rfl
    | ⟨1, _⟩ => rfl⟩
  change (y 0).val = 0 + r.val at y0
  change (y 1).val = K + l.val at y1
  subst hP
  refine (RA_at H C S w r l).trans ?_
  have hl := l.isLt
  have hr : r = y 0 := Fin.ext (by omega)
  have hd : l = ⟨(y 1).val % 128, Nat.mod_lt _ (by decide)⟩ := Fin.ext (by show l.val = (y 1).val % 128; omega)
  unfold bcol inpv
  rw [if_neg (by omega), if_pos (by omega), hs _ (by omega) (by omega), hC, hS, dot_part h x4 H hH w K (by omega) hw r _ hr ⟨l.val, by omega⟩ (y 1).val y1.symm,
    dot_part h x4 H hH w K (by omega) hw r _ hr ⟨128 + l.val, by omega⟩ ((y 1).val + 128) (by show K + (128 + l.val) = _; omega), ← hd, ← hr]
  rfl

/-- The second half of a rotated head. -/
theorem rotB_t (s : EReal) (H : FVec Ideal S512x1024 .bf16) (hH : ∀ r e, (H (ix2 r e) : EReal) = h r e) (C S : FVec Ideal S512x128 .f32)
    (hC : ∀ r d, (C (ix2 r d) : EReal) = x5 (ix2 r d) * s) (hS : ∀ r d, (S (ix2 r d) : EReal) = x6 (ix2 r d) * s) (w : Vec Ideal S1024x256 .bf16) (K K' : Nat) (hK' : K' = K + 128) (hK : 3072 ≤ K ∧ K + 256 ≤ 5120) (h8 : K % 256 = 0) (hs : ∀ k, K ≤ k → k < K + 256 → rsc k = s)
    (hw : ∀ e (l : Fin 256), w (ix2 e l) = x4 (ix2 e ⟨K + l.val, by omega⟩)) (P : FVec Ideal S512x128 .bf16) (hP : P = k0_pay22 H C S w) (y : S512x11264.Idx) :
    View.TileAt (Val := Elt Ideal) (e := .bf16) y ![0, K'] S512x128.size P (bcol h x4 x5 x6 (y 0) (y 1).val) := by
  subst hK'
  intro z hz
  have y0 : (y 0).val = 0 + (z 0).val := hz 0
  have y1 : (y 1).val = K + 128 + (z 1).val := hz 1
  obtain ⟨r, l, rfl⟩ : ∃ (r : Fin 512) (l : Fin 128), z = ix2 r l := ⟨z 0, z 1, by
    funext d
    match d with
    | ⟨0, _⟩ => rfl
    | ⟨1, _⟩ => rfl⟩
  change (y 0).val = 0 + r.val at y0
  change (y 1).val = K + 128 + l.val at y1
  subst hP
  refine (RB_at H C S w r l).trans ?_
  have hl := l.isLt
  have hr : r = y 0 := Fin.ext (by omega)
  have hd : l = ⟨(y 1).val % 128, Nat.mod_lt _ (by decide)⟩ := Fin.ext (by show l.val = (y 1).val % 128; omega)
  unfold bcol inpv
  rw [if_neg (by omega), if_neg (by omega), hs _ (by omega) (by omega), hC, hS, dot_part h x4 H hH w K (by omega) hw r _ hr ⟨l.val, by omega⟩ ((y 1).val - 128) (by show K + l.val = _; omega),
    dot_part h x4 H hH w K (by omega) hw r _ hr ⟨128 + l.val, by omega⟩ (y 1).val (by show K + (128 + l.val) = _; omega), ← hd, ← hr]
  rfl
end Cert.InprojKernelIdeal.Inp
-- ==== Proof.InpRun.lean ====
module
public import proofs.«01_k».proof.Proof.InpKer

@[expose] public section
set_option maxRecDepth 65536
noncomputable section
open Idealize.ShloMosaic Idealize.ShloMosaic.TcCoe Idealize.SL.Sem
namespace Cert.InprojKernelIdeal.Inp
open Cert.InprojKernelIdeal Cert.InprojKernelIdeal.Gen Cert.Layer

/-- A block's modulated rows, of the windows' blocks. -/
def bh (x0 : Vec Ideal S512x1024 .f32) (x1 x2 : Vec Ideal S1x1x1024 .f32) (x3 : Vec Ideal S1x1024 .f32) (r : Fin 512) (e : Fin 1024) : EReal :=
  hrow (fun e => x0 (ix2 r e)) (fun e => x3 (ix2 0 e)) (fun e => x1 (ix3 0 0 e)) (fun e => x2 (ix3 0 0 e)) e

/-- A point's block. -/
theorem out_at (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x11264 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x11264 .bf16) (harg8 : arg8.IsWhole)
    (x0 : Vec Ideal S512x1024 .f32) (x1 : Vec Ideal S1x1x1024 .f32) (x2 : Vec Ideal S1x1x1024 .f32) (x3 : Vec Ideal S1x1024 .f32) (x4 : Vec Ideal S1024x11264 .bf16) (x5 : Vec Ideal S512x128 .f32) (x6 : Vec Ideal S512x128 .f32) (y : S512x11264.Idx) :
    out0_A_7 c i arg1 harg1 arg2 harg2 arg3 harg3 arg4 harg4 arg5 harg5 arg6 harg6 arg7 harg7 arg8 harg8 x0 x1 x2 x3 x4 x5 x6 y = bcol (bh x0 x1 x2 x3) x4 x5 x6 (y 0) (y 1).val := by
  have hH : ∀ r e, (kernelRun0_A.sl.r c arg1 harg1 arg2 harg2 arg3 harg3 arg4 harg4 x0 x1 x2 x3 (ix2 r e) : EReal) = bh x0 x1 x2 x3 r e := by
    intro r e
    refine (H_at _ _ _ _ r e).trans ?_
    unfold bh
    congr 1 <;> funext e
    · exact rd2 arg1 harg1 x0 0 0 _ r e r e (by omega) (by omega)
    · exact rd2 arg4 harg4 x3 0 0 _ 0 e 0 e (by rfl) (by omega)
    · exact rd3 arg2 harg2 x1 _ e
    · exact rd3 arg3 harg3 x2 _ e
  have hC : ∀ r d, (kernelRun0_A.sl.r_2 c arg6 harg6 x5 (ix2 r d) : EReal) = x5 (ix2 r d) * 1 := fun r d =>
    (q5_at _ r d).trans (congrArg (· * (1 : EReal)) (rd2 arg6 harg6 x5 0 0 _ r d r d (by omega) (by omega)))
  have hS : ∀ r d, (kernelRun0_A.sl.r_3 c arg7 harg7 x6 (ix2 r d) : EReal) = x6 (ix2 r d) * 1 := fun r d =>
    (q6_at _ r d).trans (congrArg (· * (1 : EReal)) (rd2 arg7 harg7 x6 0 0 _ r d r d (by omega) (by omega)))
  have hCk : ∀ r d, (kernelRun0_A.sl.r_8 c arg6 harg6 x5 (ix2 r d) : EReal) = x5 (ix2 r d) * Ideal.ofBits .f32 0x3D800000#32 := fun r d =>
    (q28_at _ r d).trans (congrArg (· * (Ideal.ofBits .f32 0x3D800000#32 : EReal)) (rd2 arg6 harg6 x5 0 0 _ r d r d (by omega) (by omega)))
  have hSk : ∀ r d, (kernelRun0_A.sl.r_9 c arg7 harg7 x6 (ix2 r d) : EReal) = x6 (ix2 r d) * Ideal.ofBits .f32 0x3D800000#32 := fun r d =>
    (q29_at _ r d).trans (congrArg (· * (Ideal.ofBits .f32 0x3D800000#32 : EReal)) (rd2 arg7 harg7 x6 0 0 _ r d r d (by omega) (by omega)))
  unfold out0_A_7
  refine (congrFun (View.read_writes_junk_eq_canon VO0_7 _) y).trans ?_
  refine View.canon_eq_of_allAt _ y _ (cover0_A_7 c i arg1 harg1 arg2 harg2 arg3 harg3 arg4 harg4 arg5 harg5 arg6 harg6 arg7 harg7 arg8 harg8 x0 x1 x2 x3 x4 x5 x6 y) ?_
  refine View.allAt_cons_unit _ _ _ _ _ (plain_t _ x4 x5 x6 _ hH _ 10240 (by omega) (fun e l => rd2 arg5 harg5 x4 0 10240 _ e l e ⟨10240 + l.val, by omega⟩ (by omega) rfl) _ (e55 _ _) y) ?_
  refine View.allAt_cons_unit _ _ _ _ _ (plain_t _ x4 x5 x6 _ hH _ 9216 (by omega) (fun e l => rd2 arg5 harg5 x4 0 9216 _ e l e ⟨9216 + l.val, by omega⟩ (by omega) rfl) _ (e54 _ _) y) ?_
  refine View.allAt_cons_unit _ _ _ _ _ (plain_t _ x4 x5 x6 _ hH _ 8192 (by omega) (fun e l => rd2 arg5 harg5 x4 0 8192 _ e l e ⟨8192 + l.val, by omega⟩ (by omega) rfl) _ (e53 _ _) y) ?_
  refine View.allAt_cons_unit _ _ _ _ _ (plain_t _ x4 x5 x6 _ hH _ 7168 (by omega) (fun e l => rd2 arg5 harg5 x4 0 7168 _ e l e ⟨7168 + l.val, by omega⟩ (by omega) rfl) _ (e52 _ _) y) ?_
  refine View.allAt_cons_unit _ _ _ _ _ (plain_t _ x4 x5 x6 _ hH _ 6144 (by omega) (fun e l => rd2 arg5 harg5 x4 0 6144 _ e l e ⟨6144 + l.val, by omega⟩ (by omega) rfl) _ (e51 _ _) y) ?_
  refine View.allAt_cons_unit _ _ _ _ _ (plain_t _ x4 x5 x6 _ hH _ 5120 (by omega) (fun e l => rd2 arg5 harg5 x4 0 5120 _ e l e ⟨5120 + l.val, by omega⟩ (by omega) rfl) _ (e50 _ _) y) ?_
  refine View.allAt_cons_unit _ _ _ _ _ (rotB_t _ x4 x5 x6 _ _ hH _ _ hCk hSk _ 4864 _ rfl (by omega) (by rfl) (fun k h1 h2 => if_neg (by omega)) (fun e l => rd2 arg5 harg5 x4 0 4864 _ e l e ⟨4864 + l.val, by omega⟩ (by omega) rfl) _ (e49 _ _ _ _) y) ?_
  refine View.allAt_cons_unit _ _ _ _ _ (rotA_t _ x4 x5 x6 _ _ hH _ _ hCk hSk _ 4864 (by omega) (by rfl) (fun k h1 h2 => if_neg (by omega)) (fun e l => rd2 arg5 harg5 x4 0 4864 _ e l e ⟨4864 + l.val, by omega⟩ (by omega) rfl) _ (e48 _ _ _ _) y) ?_
  refine View.allAt_cons_unit _ _ _ _ _ (rotB_t _ x4 x5 x6 _ _ hH _ _ hCk hSk _ 4608 _ rfl (by omega) (by rfl) (fun k h1 h2 => if_neg (by omega)) (fun e l => rd2 arg5 harg5 x4 0 4608 _ e l e ⟨4608 + l.val, by omega⟩ (by omega) rfl) _ (e44 _ _ _ _) y) ?_
  refine View.allAt_cons_unit _ _ _ _ _ (rotA_t _ x4 x5 x6 _ _ hH _ _ hCk hSk _ 4608 (by omega) (by rfl) (fun k h1 h2 => if_neg (by omega)) (fun e l => rd2 arg5 harg5 x4 0 4608 _ e l e ⟨4608 + l.val, by omega⟩ (by omega) rfl) _ (e43 _ _ _ _) y) ?_
  refine View.allAt_cons_unit _ _ _ _ _ (rotB_t _ x4 x5 x6 _ _ hH _ _ hCk hSk _ 4352 _ rfl (by omega) (by rfl) (fun k h1 h2 => if_neg (by omega)) (fun e l => rd2 arg5 harg5 x4 0 4352 _ e l e ⟨4352 + l.val, by omega⟩ (by omega) rfl) _ (e39 _ _ _ _) y) ?_
  refine View.allAt_cons_unit _ _ _ _ _ (rotA_t _ x4 x5 x6 _ _ hH _ _ hCk hSk _ 4352 (by omega) (by rfl) (fun k h1 h2 => if_neg (by omega)) (fun e l => rd2 arg5 harg5 x4 0 4352 _ e l e ⟨4352 + l.val, by omega⟩ (by omega) rfl) _ (e38 _ _ _ _) y) ?_
  refine View.allAt_cons_unit _ _ _ _ _ (rotB_t _ x4 x5 x6 _ _ hH _ _ hCk hSk _ 4096 _ rfl (by omega) (by rfl) (fun k h1 h2 => if_neg (by omega)) (fun e l => rd2 arg5 harg5 x4 0 4096 _ e l e ⟨4096 + l.val, by omega⟩ (by omega) rfl) _ (e34 _ _ _ _) y) ?_
  refine View.allAt_cons_unit _ _ _ _ _ (rotA_t _ x4 x5 x6 _ _ hH _ _ hCk hSk _ 4096 (by omega) (by rfl) (fun k h1 h2 => if_neg (by omega)) (fun e l => rd2 arg5 harg5 x4 0 4096 _ e l e ⟨4096 + l.val, by omega⟩ (by omega) rfl) _ (e33 _ _ _ _) y) ?_
  refine View.allAt_cons_unit _ _ _ _ _ (rotB_t _ x4 x5 x6 _ _ hH _ _ hC hS _ 3840 _ rfl (by omega) (by rfl) (fun k h1 h2 => if_pos (by omega)) (fun e l => rd2 arg5 harg5 x4 0 3840 _ e l e ⟨3840 + l.val, by omega⟩ (by omega) rfl) _ (e27 _ _ _ _) y) ?_
  refine View.allAt_cons_unit _ _ _ _ _ (rotA_t _ x4 x5 x6 _ _ hH _ _ hC hS _ 3840 (by omega) (by rfl) (fun k h1 h2 => if_pos (by omega)) (fun e l => rd2 arg5 harg5 x4 0 3840 _ e l e ⟨3840 + l.val, by omega⟩ (by omega) rfl) _ (e26 _ _ _ _) y) ?_
  refine View.allAt_cons_unit _ _ _ _ _ (rotB_t _ x4 x5 x6 _ _ hH _ _ hC hS _ 3584 _ rfl (by omega) (by rfl) (fun k h1 h2 => if_pos (by omega)) (fun e l => rd2 arg5 harg5 x4 0 3584 _ e l e ⟨3584 + l.val, by omega⟩ (by omega) rfl) _ (rfl ) y) ?_
  refine View.allAt_cons_unit _ _ _ _ _ (rotA_t _ x4 x5 x6 _ _ hH _ _ hC hS _ 3584 (by omega) (by rfl) (fun k h1 h2 => if_pos (by omega)) (fun e l => rd2 arg5 harg5 x4 0 3584 _ e l e ⟨3584 + l.val, by omega⟩ (by omega) rfl) _ (rfl ) y) ?_
  refine View.allAt_cons_unit _ _ _ _ _ (rotB_t _ x4 x5 x6 _ _ hH _ _ hC hS _ 3328 _ rfl (by omega) (by rfl) (fun k h1 h2 => if_pos (by omega)) (fun e l => rd2 arg5 harg5 x4 0 3328 _ e l e ⟨3328 + l.val, by omega⟩ (by omega) rfl) _ (e17 _ _ _ _) y) ?_
  refine View.allAt_cons_unit _ _ _ _ _ (rotA_t _ x4 x5 x6 _ _ hH _ _ hC hS _ 3328 (by omega) (by rfl) (fun k h1 h2 => if_pos (by omega)) (fun e l => rd2 arg5 harg5 x4 0 3328 _ e l e ⟨3328 + l.val, by omega⟩ (by omega) rfl) _ (e16 _ _ _ _) y) ?_
  refine View.allAt_cons_unit _ _ _ _ _ (rotB_t _ x4 x5 x6 _ _ hH _ _ hC hS _ 3072 _ rfl (by omega) (by rfl) (fun k h1 h2 => if_pos (by omega)) (fun e l => rd2 arg5 harg5 x4 0 3072 _ e l e ⟨3072 + l.val, by omega⟩ (by omega) rfl) _ (e11 _ _ _ _) y) ?_
  refine View.allAt_cons_unit _ _ _ _ _ (rotA_t _ x4 x5 x6 _ _ hH _ _ hC hS _ 3072 (by omega) (by rfl) (fun k h1 h2 => if_pos (by omega)) (fun e l => rd2 arg5 harg5 x4 0 3072 _ e l e ⟨3072 + l.val, by omega⟩ (by omega) rfl) _ (e10 _ _ _ _) y) ?_
  refine View.allAt_cons_unit _ _ _ _ _ (plain_t _ x4 x5 x6 _ hH _ 2048 (by omega) (fun e l => rd2 arg5 harg5 x4 0 2048 _ e l e ⟨2048 + l.val, by omega⟩ (by omega) rfl) _ (rfl ) y) ?_
  refine View.allAt_cons_unit _ _ _ _ _ (plain_t _ x4 x5 x6 _ hH _ 1024 (by omega) (fun e l => rd2 arg5 harg5 x4 0 1024 _ e l e ⟨1024 + l.val, by omega⟩ (by omega) rfl) _ (e3 _ _ _ _ _) y) ?_
  refine View.allAt_cons_unit _ _ _ _ _ (plain_t _ x4 x5 x6 _ hH _ 0 (by omega) (fun e l => rd2 arg5 harg5 x4 0 0 _ e l e ⟨0 + l.val, by omega⟩ (by omega) rfl) _ (e2 _ _ _ _ _) y) ?_
  exact View.allAt_nil _ _

variable (m : (ℓ : Loc nD τ sig) → Buf (Elt Ideal) ℓ) (ρ : Dev nD → PrngReg)
theorem v12 (c : Dev nD) : V m c main_v12 = shapeCast S16384x1024 (m ((c.tc : Thread nD τ).loc main_arg0)) shapeCasts_S2x8192x1024_S16384x1024 := by
  show StableHlo.after hostOps0 _ _ = _
  simp only [hostOps0]
  after_results_simp
  rfl
theorem v7 (c : Dev nD) : V m c main_v7 = shapeCast S2x1x1024 (extractStridedSlice S2x1024 ![0, 1024] (m ((c.tc : Thread nD τ).loc main_arg1)) slices_S2x6144_S2x1024_0_1024) shapeCasts_S2x1024_S2x1x1024 := by
  show StableHlo.after hostOps0 _ _ = _
  simp only [hostOps0]
  after_results_simp
  rfl
theorem v6 (c : Dev nD) : V m c main_v6 = shapeCast S2x1x1024 (extractStridedSlice S2x1024 ![0, 0] (m ((c.tc : Thread nD τ).loc main_arg1)) slices_S2x6144_S2x1024_0_0) shapeCasts_S2x1024_S2x1x1024 := by
  show StableHlo.after hostOps0 _ _ = _
  simp only [hostOps0]
  after_results_simp
  rfl
theorem v13 (c : Dev nD) : V m c main_v13 = shapeCast S1x1024 (m ((c.tc : Thread nD τ).loc main_arg2)) shapeCasts_S1024_S1x1024 := by
  show StableHlo.after hostOps0 _ _ = _
  simp only [hostOps0]
  after_results_simp
  rfl
theorem v14 (c : Dev nD) : V m c main_v14 = (m ((c.tc : Thread nD τ).loc main_arg3)) := by
  show StableHlo.after hostOps0 _ _ = _
  simp only [hostOps0]
  after_results_simp
  rfl

theorem tr0 : ∀ i : grid0.Coords, cc0_transform_0 i = ![(i 0).val, 0] := by decide +kernel
theorem tr1 : ∀ i : grid0.Coords, cc0_transform_1 i = ![(i 0).val / 16, 0, 0] := by decide +kernel
theorem tr2 : ∀ i : grid0.Coords, cc0_transform_2 i = ![(i 0).val / 16, 0, 0] := by decide +kernel
theorem tr5 : ∀ i : grid0.Coords, cc0_transform_5 i = ![(i 0).val % 16, 0] := by decide +kernel
theorem tr6 : ∀ i : grid0.Coords, cc0_transform_6 i = ![(i 0).val % 16, 0] := by decide +kernel
theorem tr7 : ∀ i : grid0.Coords, cc0_transform_7 i = ![(i 0).val, 0] := by decide +kernel

variable (c : Dev nD) (t : Fin cfg0.N)
theorem pt_lt : (grid0.coords t 0).val < 32 := (grid0.coords t 0).isLt
theorem b0 (r : Fin 512) (e : Fin 1024) (b : Fin 2) (n : Fin 8192) (h : 512 * (grid0.coords t 0).val + r.val = 8192 * b.val + n.val) :
    (iblk m c 0 t (ix2 r e) : EReal) = (m ((c.tc : Thread nD τ).loc main_arg0) : Vec Ideal S2x8192x1024 .f32) (ix3 b n e) := by
  have h0 := pt_lt t
  have e1 : (iblk m c 0 t (ix2 r e) : EReal) = (V m c main_v12 : Vec Ideal S16384x1024 .f32) (ix2 ⟨8192 * b.val + n.val, by omega⟩ e) := by
    blk_simp [iblk]
    refine congrArg (V m c main_v12) (funext fun a => Fin.ext ?_)
    have ec := tr0 (grid0.coords t)
    match a with
    | ⟨0, _⟩ =>
      show cc0_transform_0 (grid0.coords t) 0 * 512 + 1 * r.val = _
      rw [ec]; show (grid0.coords t 0).val * 512 + 1 * r.val = 8192 * b.val + n.val; omega
    | ⟨1, _⟩ =>
      show cc0_transform_0 (grid0.coords t) 1 * 1024 + 1 * e.val = _
      rw [ec]; show 0 * 1024 + 1 * e.val = e.val; omega
  rw [e1, v12]
  exact flat_at _ _ _ _ b n rfl
theorem b1 (e : Fin 1024) (b : Fin 2) (h : (grid0.coords t 0).val / 16 = b.val) :
    (iblk m c 1 t (ix3 0 0 e) : EReal) = (m ((c.tc : Thread nD τ).loc main_arg1) : Vec Ideal S2x6144 .f32) (ix2 b ⟨1024 + e.val, by omega⟩) := by
  have e1 : (iblk m c 1 t (ix3 0 0 e) : EReal) = (V m c main_v7 : Vec Ideal S2x1x1024 .f32) (ix3 b 0 e) := by
    blk_simp [iblk]
    refine congrArg (V m c main_v7) (funext fun a => Fin.ext ?_)
    have ec := tr1 (grid0.coords t)
    match a with
    | ⟨0, _⟩ =>
      show cc0_transform_1 (grid0.coords t) 0 * 1 + 1 * 0 = _
      rw [ec]; show (grid0.coords t 0).val / 16 * 1 + 1 * 0 = b.val; omega
    | ⟨1, _⟩ =>
      show cc0_transform_1 (grid0.coords t) 1 * 1 + 1 * 0 = _
      rw [ec]; rfl
    | ⟨2, _⟩ =>
      show cc0_transform_1 (grid0.coords t) 2 * 1024 + 1 * e.val = _
      rw [ec]; show 0 * 1024 + 1 * e.val = e.val; omega
  rw [e1, v7]
  pointwise []
theorem b2 (e : Fin 1024) (b : Fin 2) (h : (grid0.coords t 0).val / 16 = b.val) :
    (iblk m c 2 t (ix3 0 0 e) : EReal) = (m ((c.tc : Thread nD τ).loc main_arg1) : Vec Ideal S2x6144 .f32) (ix2 b ⟨e.val, by omega⟩) := by
  have e1 : (iblk m c 2 t (ix3 0 0 e) : EReal) = (V m c main_v6 : Vec Ideal S2x1x1024 .f32) (ix3 b 0 e) := by
    blk_simp [iblk]
    refine congrArg (V m c main_v6) (funext fun a => Fin.ext ?_)
    have ec := tr2 (grid0.coords t)
    match a with
    | ⟨0, _⟩ =>
      show cc0_transform_2 (grid0.coords t) 0 * 1 + 1 * 0 = _
      rw [ec]; show (grid0.coords t 0).val / 16 * 1 + 1 * 0 = b.val; omega
    | ⟨1, _⟩ =>
      show cc0_transform_2 (grid0.coords t) 1 * 1 + 1 * 0 = _
      rw [ec]; rfl
    | ⟨2, _⟩ =>
      show cc0_transform_2 (grid0.coords t) 2 * 1024 + 1 * e.val = _
      rw [ec]; show 0 * 1024 + 1 * e.val = e.val; omega
  rw [e1, v6]
  pointwise []
theorem b3 (e : Fin 1024) : (iblk m c 3 t (ix2 0 e) : EReal) = (m ((c.tc : Thread nD τ).loc main_arg2) : Vec Ideal S1024 .f32) (ix1 e) := by
  have e1 : (iblk m c 3 t (ix2 0 e) : EReal) = (V m c main_v13 : Vec Ideal S1x1024 .f32) (ix2 0 e) := by
    blk_simp [iblk]
    refine congrArg (V m c main_v13) (funext fun a => Fin.ext ?_)
    match a with
    | ⟨0, _⟩ => rfl
    | ⟨1, _⟩ => show 0 * 1024 + 1 * e.val = e.val; omega
  rw [e1, v13]
  pointwise []
theorem b4 (e : Fin 1024) (l : Fin 11264) : (iblk m c 4 t (ix2 e l) : EReal) = (m ((c.tc : Thread nD τ).loc main_arg3) : Vec Ideal S1024x11264 .f32) (ix2 e l) := by
  have e1 : (iblk m c 4 t (ix2 e l) : EReal) = (V m c main_v14 : Vec Ideal S1024x11264 .bf16) (ix2 e l) := by
    blk_simp [iblk]
    refine congrArg (V m c main_v14) (funext fun a => Fin.ext ?_)
    match a with
    | ⟨0, _⟩ => show 0 * 1024 + 1 * e.val = e.val; omega
    | ⟨1, _⟩ => show 0 * 11264 + 1 * l.val = l.val; omega
  rw [e1, v14]
theorem b5 (r : Fin 512) (d : Fin 128) (b : Fin 2) (n : Fin 8192) (h : 512 * (grid0.coords t 0).val + r.val = 8192 * b.val + n.val) :
    (iblk m c 5 t (ix2 r d) : EReal) = (m ((c.tc : Thread nD τ).loc main_arg4) : Vec Ideal S8192x128 .f32) (ix2 n d) := by
  have h0 := pt_lt t
  have e1 : (iblk m c 5 t (ix2 r d) : EReal) = (V m c main_arg4 : Vec Ideal S8192x128 .f32) (ix2 n d) := by
    blk_simp [iblk]
    refine congrArg (V m c main_arg4) (funext fun a => Fin.ext ?_)
    have ec := tr5 (grid0.coords t)
    match a with
    | ⟨0, _⟩ =>
      show cc0_transform_5 (grid0.coords t) 0 * 512 + 1 * r.val = _
      rw [ec]; show (grid0.coords t 0).val % 16 * 512 + 1 * r.val = n.val; omega
    | ⟨1, _⟩ =>
      show cc0_transform_5 (grid0.coords t) 1 * 128 + 1 * d.val = _
      rw [ec]; show 0 * 128 + 1 * d.val = d.val; omega
  rw [e1, V_main_arg4]
theorem b6 (r : Fin 512) (d : Fin 128) (b : Fin 2) (n : Fin 8192) (h : 512 * (grid0.coords t 0).val + r.val = 8192 * b.val + n.val) :
    (iblk m c 6 t (ix2 r d) : EReal) = (m ((c.tc : Thread nD τ).loc main_arg5) : Vec Ideal S8192x128 .f32) (ix2 n d) := by
  have h0 := pt_lt t
  have e1 : (iblk m c 6 t (ix2 r d) : EReal) = (V m c main_arg5 : Vec Ideal S8192x128 .f32) (ix2 n d) := by
    blk_simp [iblk]
    refine congrArg (V m c main_arg5) (funext fun a => Fin.ext ?_)
    have ec := tr6 (grid0.coords t)
    match a with
    | ⟨0, _⟩ =>
      show cc0_transform_6 (grid0.coords t) 0 * 512 + 1 * r.val = _
      rw [ec]; show (grid0.coords t 0).val % 16 * 512 + 1 * r.val = n.val; omega
    | ⟨1, _⟩ =>
      show cc0_transform_6 (grid0.coords t) 1 * 128 + 1 * d.val = _
      rw [ec]; show 0 * 128 + 1 * d.val = d.val; omega
  rw [e1, V_main_arg5]

/-- The array after the run: the input projection of the arguments at a row's batch and token. -/
def outArr (R : Fin 16384) (k : Nat) : EReal :=
  inpOut (fun b n e => (m ((c.tc : Thread nD τ).loc main_arg0) : Vec Ideal S2x8192x1024 .f32) (ix3 b n e)) (fun b j => (m ((c.tc : Thread nD τ).loc main_arg1) : Vec Ideal S2x6144 .f32) (ix2 b j))
    (fun e => (m ((c.tc : Thread nD τ).loc main_arg2) : Vec Ideal S1024 .f32) (ix1 e)) (fun e l => (m ((c.tc : Thread nD τ).loc main_arg3) : Vec Ideal S1024x11264 .f32) (ix2 e l))
    (fun n d => (m ((c.tc : Thread nD τ).loc main_arg4) : Vec Ideal S8192x128 .f32) (ix2 n d)) (fun n d => (m ((c.tc : Thread nD τ).loc main_arg5) : Vec Ideal S8192x128 .f32) (ix2 n d))
    ⟨R.val / 8192, by omega⟩ ⟨R.val % 8192, by omega⟩ k

/-- A point's block holds its rows of the array. -/
theorem point (r : Fin 512) (k : Nat) (R : Fin 16384) (hR : R.val = 512 * (grid0.coords t 0).val + r.val) :
    bcol (bh (iblk m c 0 t) (iblk m c 1 t) (iblk m c 2 t) (iblk m c 3 t)) (iblk m c 4 t) (iblk m c 5 t) (iblk m c 6 t) r k = outArr m c R k := by
  have h0 := pt_lt t
  have hb : 512 * (grid0.coords t 0).val + r.val = 8192 * (R.val / 8192) + R.val % 8192 := by omega
  have hq : (grid0.coords t 0).val / 16 = R.val / 8192 := by omega
  refine inpv_congr (fun e => ?_) (fun e l => b4 m c t e l) (fun d => b5 m c t r d ⟨R.val / 8192, by omega⟩ ⟨R.val % 8192, by omega⟩ hb) (fun d => b6 m c t r d ⟨R.val / 8192, by omega⟩ ⟨R.val % 8192, by omega⟩ hb) k
  exact hrow_congr (fun e => b0 m c t r e ⟨R.val / 8192, by omega⟩ ⟨R.val % 8192, by omega⟩ hb) (fun e => b3 m c t e) (fun e => b1 m c t e ⟨R.val / 8192, by omega⟩ hq) (fun e => b2 m c t e ⟨R.val / 8192, by omega⟩ hq) e

theorem arr : (dats m 0 c).arrAt 7 cfg0.N = fun y : S16384x11264.Idx => outArr m c (y 0) (y 1).val := by
  refine (dats m 0 c).arrAt_eq_of_covers 7 _ (by decide +kernel) fun t hf y => ?_
  rw [after0_7]
  unfold outsAt0
  blk_simp
  refine (out_at c _ _ _ _ _ _ _ _ _ _ _ _ _ _ _ _ _ _ _ _ _ _ _ _ y).trans ?_
  have ec := tr7 (grid0.coords t)
  have e0 : (((win0_7.blk t).view.emb y) 0).val = 512 * (grid0.coords t 0).val + (y 0).val := by
    show cc0_transform_7 (grid0.coords t) 0 * 512 + 1 * (y 0).val = _
    rw [ec]; show (grid0.coords t 0).val * 512 + 1 * (y 0).val = _
    omega
  have e1 : (((win0_7.blk t).view.emb y) 1).val = (y 1).val := by
    show cc0_transform_7 (grid0.coords t) 1 * 11264 + 1 * (y 1).val = _
    rw [ec]; show 0 * 11264 + 1 * (y 1).val = _; omega
  refine (point m c t (y 0) (y 1).val (((win0_7.blk t).view.emb y) 0) e0).trans ?_
  refine (congrArg (outArr m c _) e1.symm).trans ?_
  blk_simp
end Cert.InprojKernelIdeal.Inp
-- ==== Proof.InpRef.lean ====
module
public import proofs.«01_k».proof.Proof.Gen.InprojReferenceIdeal.Run
public import proofs.«01_k».proof.Proof.LayerMath
public import Idealize.ShloMosaic.Lib.Pointwise

@[expose] public section
set_option maxRecDepth 16384
noncomputable section
open Idealize.ShloMosaic Idealize.ShloMosaic.TcCoe Idealize.SL.Sem
namespace Cert.InprojReferenceIdeal.Inp
open Cert.InprojReferenceIdeal Cert.InprojReferenceIdeal.Gen Cert.Layer

/-! The reference's input projection, in stages, each read at an index. -/

/-- The modulated norm of the tokens. -/
def Hs {F : FTy → Type} [FloatOps F] (arg0 : FVec F S2x8192x1024 .f32) (arg1 : FVec F S2x6144 .f32) (arg2 : FVec F S1024 .f32) : FVec F S2x8192x1024 .f32 :=
  have v12 : FVec F S2x8192x1024 .f32 := mulf arg0 arg0
  have cst : FVec F S_ .f32 := (constant S_ .f32 0x00000000#32)
  have v13 : FVec F S2x8192 .f32 := Host.reduceAdd v12 cst reducesTo_S2x8192x1024_S2x8192_d2 h_S_
  have v14 : FVec F S2x8192x1 .f32 := broadcastInDim S2x8192x1 ![0, 1] bcast_S2x8192_S2x8192x1_0_1 v13
  have cst_0 : FVec F S_ .f32 := (constant S_ .f32 0x44800000#32)
  have v15 : FVec F S2x8192x1 .f32 := broadcastInDim S2x8192x1 ![] bcast_S_S2x8192x1 cst_0
  have v16 : FVec F S2x8192x1 .f32 := Host.divf v14 v15
  have cst_1 : FVec F S_ .f32 := (constant S_ .f32 0x358637BD#32)
  have v17 : FVec F S2x8192x1 .f32 := broadcastInDim S2x8192x1 ![] bcast_S_S2x8192x1 cst_1
  have v18 : FVec F S2x8192x1 .f32 := addf v16 v17
  have v19 : FVec F S2x8192x1 .f32 := Host.rsqrt v18
  have v20 : FVec F S2x8192x1024 .f32 := broadcastInDim S2x8192x1024 ![0, 1, 2] bcast_S2x8192x1_S2x8192x1024_0_1_2 v19
  have v21 : FVec F S2x8192x1024 .f32 := mulf arg0 v20
  have v22 : FVec F S1x1x1024 .f32 := broadcastInDim S1x1x1024 ![2] bcast_S1024_S1x1x1024_2 arg2
  have v23 : FVec F S2x8192x1024 .f32 := broadcastInDim S2x8192x1024 ![0, 1, 2] bcast_S1x1x1024_S2x8192x1024_0_1_2 v22
  have v24 : FVec F S2x8192x1024 .f32 := mulf v21 v23
  have cst_2 : FVec F S_ .f32 := (constant S_ .f32 0x3F800000#32)
  have v25 : FVec F S2x1x1024 .f32 := broadcastInDim S2x1x1024 ![] bcast_S_S2x1x1024 cst_2
  have v1 : FVec F S2x1024 .f32 := extractStridedSlice S2x1024 ![0, 1024] arg1 slices_S2x6144_S2x1024_0_1024
  have v7 : FVec F S2x1x1024 .f32 := broadcastInDim S2x1x1024 ![0, 2] bcast_S2x1024_S2x1x1024_0_2 v1
  have v26 : FVec F S2x1x1024 .f32 := addf v25 v7
  have v27 : FVec F S2x8192x1024 .f32 := broadcastInDim S2x8192x1024 ![0, 1, 2] bcast_S2x1x1024_S2x8192x1024_0_1_2 v26
  have v28 : FVec F S2x8192x1024 .f32 := mulf v24 v27
  have v0 : FVec F S2x1024 .f32 := extractStridedSlice S2x1024 ![0, 0] arg1 slices_S2x6144_S2x1024_0_0
  have v6 : FVec F S2x1x1024 .f32 := broadcastInDim S2x1x1024 ![0, 2] bcast_S2x1024_S2x1x1024_0_2 v0
  have v29 : FVec F S2x8192x1024 .f32 := broadcastInDim S2x8192x1024 ![0, 1, 2] bcast_S2x1x1024_S2x8192x1024_0_1_2 v6
  have v30 : FVec F S2x8192x1024 .f32 := addf v28 v29
  v30
/-- Its product with the projection weight. -/
def Ps {F : FTy → Type} [FloatOps F] (arg3 : FVec F S1024x11264 .f32) (v30 : FVec F S2x8192x1024 .f32) : FVec F S2x8192x11264 .f32 :=
  have v31 : FVec F S2x8192x11264 .f32 := Host.dotGeneral dot_S2x8192x1024_S1024x11264_S2x8192x11264_2_0_01_1_n_n none v30 arg3
  v31
/-- The queries, by head. -/
def Q4 {F : FTy → Type} [FloatOps F] (v31 : FVec F S2x8192x11264 .f32) : FVec F S2x8192x4x256 .f32 :=
  have v33 : FVec F S2x8192x1024 .f32 := extractStridedSlice S2x8192x1024 ![0, 0, 3072] v31 slices_S2x8192x11264_S2x8192x1024_0_0_3072
  have v36 : FVec F S2x8192x4x256 .f32 := shapeCast S2x8192x4x256 v33 shapeCasts_S2x8192x1024_S2x8192x4x256
  v36
/-- The queries rotated. -/
def RQ {F : FTy → Type} [FloatOps F] (arg4 : FVec F S8192x128 .f32) (arg5 : FVec F S8192x128 .f32) (v36 : FVec F S2x8192x4x256 .f32) : FVec F S2x8192x4x256 .f32 :=
  have v37 : FVec F S2x8192x4x128 .f32 := extractStridedSlice S2x8192x4x128 ![0, 0, 0, 0] v36 slices_S2x8192x4x256_S2x8192x4x128_0_0_0_0
  have v39 : FVec F S1x8192x1x128 .f32 := broadcastInDim S1x8192x1x128 ![1, 3] bcast_S8192x128_S1x8192x1x128_1_3 arg4
  have v41 : FVec F S2x8192x4x128 .f32 := broadcastInDim S2x8192x4x128 ![0, 1, 2, 3] bcast_S1x8192x1x128_S2x8192x4x128_0_1_2_3 v39
  have v42 : FVec F S2x8192x4x128 .f32 := mulf v37 v41
  have v38 : FVec F S2x8192x4x128 .f32 := extractStridedSlice S2x8192x4x128 ![0, 0, 0, 128] v36 slices_S2x8192x4x256_S2x8192x4x128_0_0_0_128
  have v40 : FVec F S1x8192x1x128 .f32 := broadcastInDim S1x8192x1x128 ![1, 3] bcast_S8192x128_S1x8192x1x128_1_3 arg5
  have v43 : FVec F S2x8192x4x128 .f32 := broadcastInDim S2x8192x4x128 ![0, 1, 2, 3] bcast_S1x8192x1x128_S2x8192x4x128_0_1_2_3 v40
  have v44 : FVec F S2x8192x4x128 .f32 := mulf v38 v43
  have v45 : FVec F S2x8192x4x128 .f32 := subf v42 v44
  have v46 : FVec F S2x8192x4x128 .f32 := broadcastInDim S2x8192x4x128 ![0, 1, 2, 3] bcast_S1x8192x1x128_S2x8192x4x128_0_1_2_3 v40
  have v47 : FVec F S2x8192x4x128 .f32 := mulf v37 v46
  have v48 : FVec F S2x8192x4x128 .f32 := broadcastInDim S2x8192x4x128 ![0, 1, 2, 3] bcast_S1x8192x1x128_S2x8192x4x128_0_1_2_3 v39
  have v49 : FVec F S2x8192x4x128 .f32 := mulf v38 v48
  have v50 : FVec F S2x8192x4x128 .f32 := addf v47 v49
  have v51 : FVec F S2x8192x4x256 .f32 := concatenate S2x8192x4x256 3 [⟨S2x8192x4x128, v45⟩, ⟨S2x8192x4x128, v50⟩] concatenates_S2x8192x4x128_S2x8192x4x128_S2x8192x4x256_d3
  v51
/-- The rotated queries laid out as columns. -/
def Q3 {F : FTy → Type} [FloatOps F] (v51 : FVec F S2x8192x4x256 .f32) : FVec F S2x8192x1024 .f32 :=
  have v52 : FVec F S2x8192x1024 .f32 := shapeCast S2x8192x1024 v51 shapeCasts_S2x8192x4x256_S2x8192x1024
  v52
/-- The keys, by head. -/
def K4 {F : FTy → Type} [FloatOps F] (v31 : FVec F S2x8192x11264 .f32) : FVec F S2x8192x4x256 .f32 :=
  have v34 : FVec F S2x8192x1024 .f32 := extractStridedSlice S2x8192x1024 ![0, 0, 4096] v31 slices_S2x8192x11264_S2x8192x1024_0_0_4096
  have v53 : FVec F S2x8192x4x256 .f32 := shapeCast S2x8192x4x256 v34 shapeCasts_S2x8192x1024_S2x8192x4x256
  v53
/-- The keys rotated. -/
def RK {F : FTy → Type} [FloatOps F] (arg4 : FVec F S8192x128 .f32) (arg5 : FVec F S8192x128 .f32) (v53 : FVec F S2x8192x4x256 .f32) : FVec F S2x8192x4x256 .f32 :=
  have v54 : FVec F S2x8192x4x128 .f32 := extractStridedSlice S2x8192x4x128 ![0, 0, 0, 0] v53 slices_S2x8192x4x256_S2x8192x4x128_0_0_0_0
  have v56 : FVec F S1x8192x1x128 .f32 := broadcastInDim S1x8192x1x128 ![1, 3] bcast_S8192x128_S1x8192x1x128_1_3 arg4
  have v58 : FVec F S2x8192x4x128 .f32 := broadcastInDim S2x8192x4x128 ![0, 1, 2, 3] bcast_S1x8192x1x128_S2x8192x4x128_0_1_2_3 v56
  have v59 : FVec F S2x8192x4x128 .f32 := mulf v54 v58
  have v55 : FVec F S2x8192x4x128 .f32 := extractStridedSlice S2x8192x4x128 ![0, 0, 0, 128] v53 slices_S2x8192x4x256_S2x8192x4x128_0_0_0_128
  have v57 : FVec F S1x8192x1x128 .f32 := broadcastInDim S1x8192x1x128 ![1, 3] bcast_S8192x128_S1x8192x1x128_1_3 arg5
  have v60 : FVec F S2x8192x4x128 .f32 := broadcastInDim S2x8192x4x128 ![0, 1, 2, 3] bcast_S1x8192x1x128_S2x8192x4x128_0_1_2_3 v57
  have v61 : FVec F S2x8192x4x128 .f32 := mulf v55 v60
  have v62 : FVec F S2x8192x4x128 .f32 := subf v59 v61
  have v63 : FVec F S2x8192x4x128 .f32 := broadcastInDim S2x8192x4x128 ![0, 1, 2, 3] bcast_S1x8192x1x128_S2x8192x4x128_0_1_2_3 v57
  have v64 : FVec F S2x8192x4x128 .f32 := mulf v54 v63
  have v65 : FVec F S2x8192x4x128 .f32 := broadcastInDim S2x8192x4x128 ![0, 1, 2, 3] bcast_S1x8192x1x128_S2x8192x4x128_0_1_2_3 v56
  have v66 : FVec F S2x8192x4x128 .f32 := mulf v55 v65
  have v67 : FVec F S2x8192x4x128 .f32 := addf v64 v66
  have v68 : FVec F S2x8192x4x256 .f32 := concatenate S2x8192x4x256 3 [⟨S2x8192x4x128, v62⟩, ⟨S2x8192x4x128, v67⟩] concatenates_S2x8192x4x128_S2x8192x4x128_S2x8192x4x256_d3
  v68
/-- The rotated keys laid out as columns and scaled. -/
def K3 {F : FTy → Type} [FloatOps F] (v68 : FVec F S2x8192x4x256 .f32) : FVec F S2x8192x1024 .f32 :=
  have v69 : FVec F S2x8192x1024 .f32 := shapeCast S2x8192x1024 v68 shapeCasts_S2x8192x4x256_S2x8192x1024
  have cst_3 : FVec F S_ .f32 := (constant S_ .f32 0x3D800000#32)
  have v70 : FVec F S2x8192x1024 .f32 := broadcastInDim S2x8192x1024 ![] bcast_S_S2x8192x1024 cst_3
  have v71 : FVec F S2x8192x1024 .f32 := mulf v69 v70
  v71
/-- All the columns. -/
def ALL {F : FTy → Type} [FloatOps F] (v31 : FVec F S2x8192x11264 .f32) (v52 : FVec F S2x8192x1024 .f32) (v71 : FVec F S2x8192x1024 .f32) : FVec F S2x8192x11264 .f32 :=
  have v32 : FVec F S2x8192x3072 .f32 := extractStridedSlice S2x8192x3072 ![0, 0, 0] v31 slices_S2x8192x11264_S2x8192x3072_0_0_0
  have v35 : FVec F S2x8192x6144 .f32 := extractStridedSlice S2x8192x6144 ![0, 0, 5120] v31 slices_S2x8192x11264_S2x8192x6144_0_0_5120
  have v72 : FVec F S2x8192x11264 .f32 := (concatenate S2x8192x11264 2 [⟨S2x8192x3072, v32⟩, ⟨S2x8192x1024, v52⟩, ⟨S2x8192x1024, v71⟩, ⟨S2x8192x6144, v35⟩] concatenates_S2x8192x3072_S2x8192x1024_S2x8192x1024_S2x8192x6144_S2x8192x11264_d2 : (⟨S2x8192x11264, .f32⟩ : BufTy).Contents (Elt F))
  v72

theorem Hs_at (x : FVec Ideal S2x8192x1024 .f32) (M : FVec Ideal S2x6144 .f32) (g : FVec Ideal S1024 .f32) (b : Fin 2) (n : Fin 8192) (e : Fin 1024) :
    (Hs x M g (ix3 b n e) : EReal) = hrow (fun e => x (ix3 b n e)) (fun e => g (ix1 e)) (fun e => M (ix2 b ⟨1024 + e.val, by omega⟩)) (fun e => M (ix2 b ⟨e.val, by omega⟩)) e := by
  pointwise [Hs, hrow, nrm, ms]
theorem Ps_at (W : FVec Ideal S1024x11264 .f32) (h : FVec Ideal S2x8192x1024 .f32) (b : Fin 2) (n : Fin 8192) (l : Fin 11264) :
    (Ps W h (ix3 b n l) : EReal) = mulrow (fun e => h (ix3 b n e)) (fun e l => W (ix2 e l)) l := by
  pointwise [Ps, mulrow]
/-- The rotation of a head's halves. -/
def rot4 (q : Fin 256 → EReal) (C S : Fin 128 → EReal) (j : Fin 256) : EReal :=
  if h : j.val < 128 then q ⟨j.val, by omega⟩ * C ⟨j.val, h⟩ - q ⟨128 + j.val, by omega⟩ * S ⟨j.val, h⟩
  else q ⟨j.val - 128, by omega⟩ * S ⟨j.val - 128, by omega⟩ + q ⟨128 + (j.val - 128), by omega⟩ * C ⟨j.val - 128, by omega⟩
theorem RQ_at (C S : FVec Ideal S8192x128 .f32) (q : FVec Ideal S2x8192x4x256 .f32) (b : Fin 2) (n : Fin 8192) (hd : Fin 4) (j : Fin 256) :
    (RQ C S q (ix4 b n hd j) : EReal) = rot4 (fun j => q (ix4 b n hd j)) (fun d => C (ix2 n d)) (fun d => S (ix2 n d)) j := by
  pointwise [RQ, rot4]
theorem RK_at (C S : FVec Ideal S8192x128 .f32) (q : FVec Ideal S2x8192x4x256 .f32) (b : Fin 2) (n : Fin 8192) (hd : Fin 4) (j : Fin 256) :
    (RK C S q (ix4 b n hd j) : EReal) = rot4 (fun j => q (ix4 b n hd j)) (fun d => C (ix2 n d)) (fun d => S (ix2 n d)) j := by
  pointwise [RK, rot4]
/-- All the columns, of the arguments. -/
def allOf {F : FTy → Type} [FloatOps F] (x : FVec F S2x8192x1024 .f32) (M : FVec F S2x6144 .f32) (g : FVec F S1024 .f32) (W : FVec F S1024x11264 .f32) (C S : FVec F S8192x128 .f32) : FVec F S2x8192x11264 .f32 :=
  ALL (Ps W (Hs x M g)) (Q3 (RQ C S (Q4 (Ps W (Hs x M g))))) (K3 (RK C S (K4 (Ps W (Hs x M g)))))
theorem Q4_at (v : FVec Ideal S2x8192x11264 .f32) (b : Fin 2) (n : Fin 8192) (hd : Fin 4) (j : Fin 256) :
    (Q4 v (ix4 b n hd j) : EReal) = v (ix3 b n ⟨3072 + (256 * hd.val + j.val), by omega⟩) := by
  refine (split_at 4 256 (extractStridedSlice S2x8192x1024 ![0, 0, 3072] v slices_S2x8192x11264_S2x8192x1024_0_0_3072) shapeCasts_S2x8192x1024_S2x8192x4x256 b n hd j ⟨256 * hd.val + j.val, by omega⟩ rfl).trans ?_
  pointwise []
theorem K4_at (v : FVec Ideal S2x8192x11264 .f32) (b : Fin 2) (n : Fin 8192) (hd : Fin 4) (j : Fin 256) :
    (K4 v (ix4 b n hd j) : EReal) = v (ix3 b n ⟨4096 + (256 * hd.val + j.val), by omega⟩) := by
  refine (split_at 4 256 (extractStridedSlice S2x8192x1024 ![0, 0, 4096] v slices_S2x8192x11264_S2x8192x1024_0_0_4096) shapeCasts_S2x8192x1024_S2x8192x4x256 b n hd j ⟨256 * hd.val + j.val, by omega⟩ rfl).trans ?_
  pointwise []
theorem Q3_at (v : FVec Ideal S2x8192x4x256 .f32) (b : Fin 2) (n : Fin 8192) (k : Fin 1024) :
    (Q3 v (ix3 b n k) : EReal) = v (ix4 b n ⟨k.val / 256, by omega⟩ ⟨k.val % 256, by omega⟩) :=
  join_at 4 256 _ _ b n _ _ k (by show k.val = 256 * (k.val / 256) + k.val % 256; omega)
theorem K3_at (v : FVec Ideal S2x8192x4x256 .f32) (b : Fin 2) (n : Fin 8192) (k : Fin 1024) :
    (K3 v (ix3 b n k) : EReal) = v (ix4 b n ⟨k.val / 256, by omega⟩ ⟨k.val % 256, by omega⟩) * Ideal.ofBits .f32 0x3D800000#32 :=
  congrArg (· * (Ideal.ofBits .f32 0x3D800000#32 : EReal)) (join_at 4 256 v shapeCasts_S2x8192x4x256_S2x8192x1024 b n _ _ k (by show k.val = 256 * (k.val / 256) + k.val % 256; omega))
theorem ALL_at (v : FVec Ideal S2x8192x11264 .f32) (q k : FVec Ideal S2x8192x1024 .f32) (b : Fin 2) (n : Fin 8192) (l : Fin 11264) :
    (ALL v q k (ix3 b n l) : EReal) = if h1 : l.val < 3072 then v (ix3 b n ⟨l.val, by omega⟩)
      else if h2 : l.val - 3072 < 1024 then q (ix3 b n ⟨l.val - 3072, h2⟩)
      else if h3 : l.val - 3072 - 1024 < 1024 then k (ix3 b n ⟨l.val - 3072 - 1024, h3⟩)
      else v (ix3 b n ⟨5120 + (l.val - 3072 - 1024 - 1024), by omega⟩) := by
  pointwise [ALL]
/-- The reference's result, composed of the stages. -/
theorem res_eq {F : FTy → Type} [FloatOps F] (m : (ℓ : Loc nD τ sig) → Buf (Elt F) ℓ) (c : Dev nD) :
    Value.res_main_v74 m c = truncf .bf16 (shapeCast S16384x11264 (allOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S2x8192x11264_S16384x11264) bitsLt_bf16_f32 := by
  unfold Value.res_main_v74 allOf ALL K3 RK K4 Q3 RQ Q4 Ps Hs
  rfl
theorem sixteenth : (Ideal.ofBits .f32 0x3D800000#32 : EReal) = ((1 / 16 : ℝ) : EReal) := by
  simp [Ideal.ofBits, Ideal.ieee, -EReal.coe_mul]
  norm_num
theorem sc_add (a c b d s : EReal) (h0 : 0 ≤ s) (ht : s ≠ ⊤) : (a * c + b * d) * s = a * (c * s) + b * (d * s) := by
  rw [EReal.right_distrib_of_nonneg_of_ne_top h0 ht, mul_assoc, mul_assoc]
theorem sc_sub (a c b d s : EReal) (h0 : 0 ≤ s) (ht : s ≠ ⊤) : (a * c - b * d) * s = a * (c * s) - b * (d * s) := by
  rw [sub_eq_add_neg, EReal.right_distrib_of_nonneg_of_ne_top h0 ht, EReal.neg_mul, mul_assoc, mul_assoc, sub_eq_add_neg]
theorem rot4_sc (q : Fin 256 → EReal) (C S : Fin 128 → EReal) (j : Fin 256) (s : EReal) (h0 : 0 ≤ s) (ht : s ≠ ⊤) :
    rot4 q C S j * s = if h : j.val < 128 then rotA (q ⟨j.val, by omega⟩) (q ⟨128 + j.val, by omega⟩) (C ⟨j.val, h⟩) (S ⟨j.val, h⟩) s
      else rotB (q ⟨j.val - 128, by omega⟩) (q ⟨128 + (j.val - 128), by omega⟩) (C ⟨j.val - 128, by omega⟩) (S ⟨j.val - 128, by omega⟩) s := by
  unfold rot4 rotA rotB
  split
  · exact sc_sub _ _ _ _ s h0 ht
  · exact sc_add _ _ _ _ s h0 ht
/-- A rotated column of the reference, scaled, is the projection's column there. -/
theorem rot_col (h : Fin 1024 → EReal) (W : Fin 1024 → Fin 11264 → EReal) (C S : Fin 128 → EReal) (q : Fin 256 → EReal) (l B : Nat) (s : EReal) (h0 : 0 ≤ s) (ht : s ≠ ⊤)
    (hl : 3072 ≤ l ∧ l < 5120) (hB : B = l - l % 256) (hs : rsc l = s) (hq : ∀ j : Fin 256, q j = dotc h W (B + j.val)) :
    rot4 q C S ⟨l % 256, Nat.mod_lt _ (by decide)⟩ * s = inpv h W C S l := by
  rw [rot4_sc q C S _ s h0 ht]
  unfold inpv
  rw [if_neg (by omega), hs]
  by_cases hh : l % 256 < 128
  · rw [dif_pos hh, if_pos hh, hq, hq]
    have e1 : B + l % 256 = l := by omega
    have e2 : B + (128 + l % 256) = l + 128 := by omega
    have e3 : (⟨l % 256, hh⟩ : Fin 128) = ⟨l % 128, Nat.mod_lt _ (by decide)⟩ := Fin.ext (by show l % 256 = l % 128; omega)
    show rotA (dotc h W (B + l % 256)) (dotc h W (B + (128 + l % 256))) _ _ s = _
    rw [e1, e2, e3]
  · rw [dif_neg hh, if_neg hh, hq, hq]
    have e1 : B + (l % 256 - 128) = l - 128 := by omega
    have e2 : B + (128 + (l % 256 - 128)) = l := by omega
    have e3 : (⟨l % 256 - 128, by omega⟩ : Fin 128) = ⟨l % 128, Nat.mod_lt _ (by decide)⟩ := Fin.ext (by show l % 256 - 128 = l % 128; omega)
    show rotB (dotc h W (B + (l % 256 - 128))) (dotc h W (B + (128 + (l % 256 - 128)))) _ _ s = _
    rw [e1, e2, e3]
/-- The stages' columns at a batch and token. -/
theorem all_col (x : FVec Ideal S2x8192x1024 .f32) (M : FVec Ideal S2x6144 .f32) (g : FVec Ideal S1024 .f32) (W : FVec Ideal S1024x11264 .f32) (C S : FVec Ideal S8192x128 .f32) (b : Fin 2) (n : Fin 8192) (l : Fin 11264) :
    (allOf x M g W C S (ix3 b n l) : EReal) = inpOut (fun b n e => x (ix3 b n e)) (fun b j => M (ix2 b j)) (fun e => g (ix1 e)) (fun e l => W (ix2 e l)) (fun n d => C (ix2 n d)) (fun n d => S (ix2 n d)) b n l.val := by
  have hP : ∀ k : Fin 11264, (Ps W (Hs x M g) (ix3 b n k) : EReal) = dotc (hrow (fun e => x (ix3 b n e)) (fun e => g (ix1 e)) (fun e => M (ix2 b ⟨1024 + e.val, by omega⟩)) (fun e => M (ix2 b ⟨e.val, by omega⟩))) (fun e l => W (ix2 e l)) k.val := by
    intro k
    rw [Ps_at, dotc, dif_pos k.isLt]
    simp only [Hs_at]
  unfold allOf inpOut
  rw [ALL_at]
  have hl := l.isLt
  by_cases h1 : l.val < 3072
  · rw [dif_pos h1, hP, inpv, if_pos (Or.inl h1)]
  rw [dif_neg h1]
  by_cases h2 : l.val - 3072 < 1024
  · rw [dif_pos h2, Q3_at, RQ_at]
    have e : (⟨(l.val - 3072) % 256, by omega⟩ : Fin 256) = ⟨l.val % 256, Nat.mod_lt _ (by decide)⟩ := Fin.ext (by show (l.val - 3072) % 256 = l.val % 256; omega)
    refine (mul_one _).symm.trans ?_
    refine Eq.trans (congrArg (fun j => rot4 _ _ _ j * (1 : EReal)) e) ?_
    refine rot_col _ _ _ _ _ l.val (l.val - l.val % 256) 1 zero_le_one (by decide) (by omega) rfl (if_pos (by omega)) fun j => ?_
    rw [Q4_at, hP]
    refine congrArg (dotc _ _) ?_
    show 3072 + (256 * ((l.val - 3072) / 256) + j.val) = _
    omega
  rw [dif_neg h2]
  by_cases h3 : l.val - 3072 - 1024 < 1024
  · rw [dif_pos h3, K3_at, RK_at]
    have e : (⟨(l.val - 3072 - 1024) % 256, by omega⟩ : Fin 256) = ⟨l.val % 256, Nat.mod_lt _ (by decide)⟩ := Fin.ext (by show (l.val - 3072 - 1024) % 256 = l.val % 256; omega)
    refine Eq.trans (congrArg (fun j => rot4 _ _ _ j * (Ideal.ofBits .f32 0x3D800000#32 : EReal)) e) ?_
    refine rot_col _ _ _ _ _ l.val (l.val - l.val % 256) _ ?_ ?_ (by omega) rfl (if_neg (by omega)) fun j => ?_
    · rw [sixteenth]; exact_mod_cast (by norm_num : (0 : ℝ) ≤ 1 / 16)
    · rw [sixteenth]; exact EReal.coe_ne_top _
    rw [K4_at, hP]
    refine congrArg (dotc _ _) ?_
    show 4096 + (256 * ((l.val - 3072 - 1024) / 256) + j.val) = _
    omega
  rw [dif_neg h3, hP, inpv, if_pos (Or.inr (by omega))]
  refine congrArg (dotc _ _) ?_
  show 5120 + (l.val - 3072 - 1024 - 1024) = _
  omega

/-- The reference's result at a row and column. -/
theorem res_at (m : (ℓ : Loc nD τ sig) → Buf (Elt Ideal) ℓ) (c : Dev nD) (R : Fin 16384) (l : Fin 11264) :
    (Value.res_main_v74 m c (ix2 R l) : EReal) = inpOut (fun b n e => (m ((c.tc : Thread nD τ).loc main_arg0) : Vec Ideal S2x8192x1024 .f32) (ix3 b n e)) (fun b j => (m ((c.tc : Thread nD τ).loc main_arg1) : Vec Ideal S2x6144 .f32) (ix2 b j))
    (fun e => (m ((c.tc : Thread nD τ).loc main_arg2) : Vec Ideal S1024 .f32) (ix1 e)) (fun e l => (m ((c.tc : Thread nD τ).loc main_arg3) : Vec Ideal S1024x11264 .f32) (ix2 e l))
    (fun n d => (m ((c.tc : Thread nD τ).loc main_arg4) : Vec Ideal S8192x128 .f32) (ix2 n d)) (fun n d => (m ((c.tc : Thread nD τ).loc main_arg5) : Vec Ideal S8192x128 .f32) (ix2 n d))
    ⟨R.val / 8192, by omega⟩ ⟨R.val % 8192, by omega⟩ l.val := by
  rw [res_eq]
  refine (flat_at (allOf (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S2x8192x11264_S16384x11264 R l ⟨R.val / 8192, by omega⟩ ⟨R.val % 8192, by omega⟩ (by show _ = 8192 * (R.val / 8192) + R.val % 8192; omega)).trans ?_
  exact all_col _ _ _ _ _ _ _ _ l
end Cert.InprojReferenceIdeal.Inp
-- ==== Proof.InpAlg.lean ====
module
public import proofs.«01_k».proof.Defs
public import proofs.«01_k».proof.Proof.InpRun
public import proofs.«01_k».proof.Proof.InpRef

@[expose] public section
set_option maxRecDepth 16384
noncomputable section
open Idealize.ShloMosaic Idealize.ShloMosaic.TcCoe Idealize.SL.Sem
namespace Cert.Proof

/-- Every execution of the input-projection reference ends with its arguments as launched and every semaphore at zero. -/
theorem inproj_reference_frame : Cert.quiescent_InprojReferenceIdeal := fun m ρ _ =>
  (θ_run _ _ _).mono (fun r h => ⟨fun c => (h c).2, Idealize.ShloMosaic.sem_eq_zero_of_no_sems (by decide) r.2⟩) (Cert.InprojReferenceIdeal.Value.run m ρ)

/-- The input projection's results are the reference's, of any arguments. -/
theorem inproj_algebraic : Cert.algebraic_InprojKernelIdeal_InprojReferenceIdeal := by
  intro m g m' g' hpre hargs
  refine ⟨fun c => (Cert.InprojKernelIdeal.Gen.dats m 0 c).arrAt 7 Cert.InprojKernelIdeal.cfg0.N, Cert.InprojKernelIdeal.Value.run_blocks m g,
    (θ_run _ _ _).mono (fun r h c => ⟨(h c).1.trans ?_, (h c).2⟩) (Cert.InprojReferenceIdeal.Value.run m' g')⟩
  refine Eq.trans ?_ (Cert.InprojKernelIdeal.Inp.arr m c).symm
  obtain ⟨h0, h1, h2, h3, h4, h5⟩ := hargs c
  funext y
  obtain ⟨R, o, rfl⟩ : ∃ (R : Fin 16384) (o : Fin 11264), y = ix2 R o := ⟨y 0, y 1, by
    funext d
    match d with
    | ⟨0, _⟩ => rfl
    | ⟨1, _⟩ => rfl⟩
  refine (Cert.InprojReferenceIdeal.Inp.res_at m' c R o).trans ?_
  rw [h0, h1, h2, h3, h4, h5]
  rfl
end Cert.Proof
-- ==== Proof.MergeKer.lean ====
module
public import proofs.«01_k».proof.Proof.Gen.MergeKernelIdeal.Skeleton
public import proofs.«01_k».proof.Proof.LayerMath
public import Idealize.ShloMosaic.Lib.Pointwise

@[expose] public section
set_option maxRecDepth 16384
noncomputable section
open Idealize.ShloMosaic Idealize.ShloMosaic.TcCoe Idealize.SL.Sem
namespace Cert.MergeKernelIdeal.Merge
open Cert.MergeKernelIdeal Cert.MergeKernelIdeal.Gen Cert.Layer

/-- Four heads side by side. -/
def CAT {F : FTy → Type} [FloatOps F] (z0 z1 z2 z3 : FVec F S256x512 .bf16) : FVec F S256x2048 .bf16 :=
  concatenate S256x2048 1 [⟨S256x512, z0⟩, ⟨S256x512, z1⟩, ⟨S256x512, z2⟩, ⟨S256x512, z3⟩] concatenates_S256x512_S256x512_S256x512_S256x512_S256x2048_d1
/-- The retention branch's product. -/
def UPR {F : FTy → Type} [FloatOps F] (z : FVec F S256x2048 .bf16) (w : Vec F S2048x1024 .bf16) : FVec F S256x1024 .f32 :=
  matmul dot_S256x2048_S2048x1024_S256x1024_1_0_0_1_n_n none z (shapeCast S2048x1024 w shapeCasts_S2048x1024_S2048x1024) (constant S256x1024 .f32 0x00000000#32)
/-- The two branches under their gates. -/
def MIX {F : FTy → Type} [FloatOps F] (a b : FVec F S256x1024 .f32) (ga gb : Vec F S256x1024 .bf16) : FVec F S256x1024 .bf16 :=
  truncf .bf16 (addf (mulf (logistic (extf .f32 (shapeCast S256x1024 ga shapeCasts_S256x1024_S256x1024) bitsLt_bf16_f32)) a)
    (mulf (logistic (extf .f32 (shapeCast S256x1024 gb shapeCasts_S256x1024_S256x1024) bitsLt_bf16_f32)) b)) bitsLt_bf16_f32
/-- The output product. -/
def OUTM {F : FTy → Type} [FloatOps F] (u : FVec F S256x1024 .bf16) (wo : Vec F S1024x1024 .bf16) : FVec F S256x1024 .f32 :=
  matmul dot_S256x1024_S1024x1024_S256x1024_1_0_0_1_n_n none u (shapeCast S1024x1024 wo shapeCasts_S1024x1024_S1024x1024) (constant S256x1024 .f32 0x00000000#32)
/-- The slab's close: norm, gate and residual. -/
def CLO {F : FTy → Type} [FloatOps F] (x : Vec F S256x1024 .f32) (f : FVec F S256x1024 .f32) (gp : Vec F S1x1024 .f32) (gt : Vec F S1x1x1024 .f32) : FVec F S256x1024 .f32 :=
  addf (shapeCast S256x1024 x shapeCasts_S256x1024_S256x1024) (mulf (broadcastTo S256x1024 (shapeCast S1x1024 gt shapeCasts_S1x1x1024_S1x1024) broadcasts_S1x1024_S256x1024)
    (mulf (mulf f (broadcastTo S256x1024 (rsqrt (addf (divf (shapeCast S256x1 (multiReduction .add [1] S256 (mulf f f) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024))
      (broadcastTo S256x1024 (shapeCast S1x1024 gp shapeCasts_S1x1024_S1x1024) broadcasts_S1x1024_S256x1024)))
theorem HD_at (y : Vec Ideal S256x512 .bf16) (gn : Vec Ideal S1x512 .f32) (rg : Vec Ideal S256x512 .bf16) (r : Fin 256) (j : Fin 512) :
    (k0_pay2 y gn rg (ix2 r j) : EReal) = ghead (fun j => y (ix2 r j)) (fun j => gn (ix2 0 j)) (fun j => rg (ix2 r j)) j := by
  pointwise [k0_pay2, ghead, mu]
theorem UPA_at (a : Vec Ideal S256x1024 .bf16) (w : Vec Ideal S1024x1024 .bf16) (r : Fin 256) (l : Fin 1024) :
    (k0_pay1 a w (ix2 r l) : EReal) = mulrow (fun e => a (ix2 r e)) (fun e l => w (ix2 e l)) l := by
  pointwise [k0_pay1, mulrow]
theorem CAT_at (z0 z1 z2 z3 : FVec Ideal S256x512 .bf16) (r : Fin 256) (k : Fin 2048) :
    (CAT z0 z1 z2 z3 (ix2 r k) : EReal) = if h : k.val < 512 then z0 (ix2 r ⟨k.val, h⟩) else if h : k.val - 512 < 512 then z1 (ix2 r ⟨k.val - 512, h⟩)
      else if h : k.val - 512 - 512 < 512 then z2 (ix2 r ⟨k.val - 512 - 512, h⟩) else z3 (ix2 r ⟨k.val - 512 - 512 - 512, by omega⟩) := by
  pointwise [CAT]
theorem UPR_at (z : FVec Ideal S256x2048 .bf16) (w : Vec Ideal S2048x1024 .bf16) (r : Fin 256) (l : Fin 1024) :
    (UPR z w (ix2 r l) : EReal) = mulrow (fun e => z (ix2 r e)) (fun e l => w (ix2 e l)) l := by
  pointwise [UPR, mulrow]
theorem MIX_at (a b : FVec Ideal S256x1024 .f32) (ga gb : Vec Ideal S256x1024 .bf16) (r : Fin 256) (l : Fin 1024) :
    (MIX a b ga gb (ix2 r l) : EReal) = mix (ga (ix2 r l)) (gb (ix2 r l)) (a (ix2 r l)) (b (ix2 r l)) := by
  pointwise [MIX, mix]
theorem OUTM_at (u : FVec Ideal S256x1024 .bf16) (wo : Vec Ideal S1024x1024 .bf16) (r : Fin 256) (o : Fin 1024) :
    (OUTM u wo (ix2 r o) : EReal) = mulrow (fun k => u (ix2 r k)) (fun k o => wo (ix2 k o)) o := by
  pointwise [OUTM, mulrow]
theorem CLO_at (x : Vec Ideal S256x1024 .f32) (f : FVec Ideal S256x1024 .f32) (gp : Vec Ideal S1x1024 .f32) (gt : Vec Ideal S1x1x1024 .f32) (r : Fin 256) (o : Fin 1024) :
    (CLO x f gp gt (ix2 r o) : EReal) = close (fun e => x (ix2 r e)) (fun e => gt (ix3 0 0 e)) (fun e => f (ix2 r e)) (fun e => gp (ix2 0 e)) o := by
  pointwise [CLO, close, nrm, ms]

/-- One slab's whole arithmetic. -/
def SLAB {F : FTy → Type} [FloatOps F] (x : Vec F S256x1024 .f32) (a : Vec F S256x1024 .bf16) (y0 y1 y2 y3 : Vec F S256x512 .bf16) (g0 g1 g2 g3 : Vec F S1x512 .f32) (r0 r1 r2 r3 : Vec F S256x512 .bf16) (ga gb : Vec F S256x1024 .bf16)
    (wa : Vec F S1024x1024 .bf16) (wb : Vec F S2048x1024 .bf16) (wo : Vec F S1024x1024 .bf16) (gp : Vec F S1x1024 .f32) (gt : Vec F S1x1x1024 .f32) : FVec F S256x1024 .f32 :=
  CLO x (OUTM (MIX (k0_pay1 a wa) (UPR (CAT (k0_pay2 y0 g0 r0) (k0_pay2 y1 g1 r1) (k0_pay2 y2 g2 r2) (k0_pay2 y3 g3 r3)) wb) ga gb) wo) gp gt
theorem slab0 {F : FTy → Type} [FloatOps F] (x : Vec F S256x1024 .f32) (a : Vec F S256x1024 .bf16) (y0 y1 y2 y3 : Vec F S256x512 .bf16) (g0 g1 g2 g3 : Vec F S1x512 .f32) (r0 r1 r2 r3 : Vec F S256x512 .bf16) (ga gb : Vec F S256x1024 .bf16)
    (wa : Vec F S1024x1024 .bf16) (wb : Vec F S2048x1024 .bf16) (wo : Vec F S1024x1024 .bf16) (gp : Vec F S1x1024 .f32) (gt : Vec F S1x1x1024 .f32) :
    k0_pay9 (k0_pay1 a wa) (k0_pay7 (k0_pay2 y0 g0 r0) (k0_pay5 (k0_pay3 y1) (k0_pay4 y1) g1 r1) (k0_pay6 y2) g2 r2 y3 g3 r3) (k0_pay8 wb) ga gb wo gp x gt = SLAB x a y0 y1 y2 y3 g0 g1 g2 g3 r0 r1 r2 r3 ga gb wa wb wo gp gt := by
  unfold SLAB CLO OUTM MIX UPR CAT k0_pay1 k0_pay2 k0_pay3 k0_pay4 k0_pay5 k0_pay6 k0_pay7 k0_pay8 k0_pay9 k0_pay3; rfl
theorem slab1 {F : FTy → Type} [FloatOps F] (x : Vec F S256x1024 .f32) (a : Vec F S256x1024 .bf16) (y0 y1 y2 y3 : Vec F S256x512 .bf16) (g0 g1 g2 g3 : Vec F S1x512 .f32) (r0 r1 r2 r3 : Vec F S256x512 .bf16) (ga gb : Vec F S256x1024 .bf16)
    (wa : Vec F S1024x1024 .bf16) (wb : Vec F S2048x1024 .bf16) (wo : Vec F S1024x1024 .bf16) (gp : Vec F S1x1024 .f32) (gt : Vec F S1x1x1024 .f32) :
    k0_pay18 (k0_pay10 a wa) (k0_pay17 (k0_pay11 y0 g0 r0) (k0_pay15 (k0_pay12 y1) (k0_pay13 y1) (k0_pay14 (F := F)) g1 r1) (k0_pay16 y2) g2 r2 y3 g3 r3 wb) ga gb wo gp x gt = SLAB x a y0 y1 y2 y3 g0 g1 g2 g3 r0 r1 r2 r3 ga gb wa wb wo gp gt := by
  unfold SLAB CLO OUTM MIX UPR CAT k0_pay1 k0_pay2 k0_pay10 k0_pay11 k0_pay15 k0_pay13 k0_pay12 k0_pay14 k0_pay16 k0_pay17 k0_pay18; rfl

/-- A slab at a row and lane. -/
theorem SLAB_at (x : Vec Ideal S256x1024 .f32) (a : Vec Ideal S256x1024 .bf16) (y0 y1 y2 y3 : Vec Ideal S256x512 .bf16) (g0 g1 g2 g3 : Vec Ideal S1x512 .f32) (r0 r1 r2 r3 : Vec Ideal S256x512 .bf16) (ga gb : Vec Ideal S256x1024 .bf16)
    (wa : Vec Ideal S1024x1024 .bf16) (wb : Vec Ideal S2048x1024 .bf16) (wo : Vec Ideal S1024x1024 .bf16) (gp : Vec Ideal S1x1024 .f32) (gt : Vec Ideal S1x1x1024 .f32) (r : Fin 256) (o : Fin 1024) :
    (SLAB x a y0 y1 y2 y3 g0 g1 g2 g3 r0 r1 r2 r3 ga gb wa wb wo gp gt (ix2 r o) : EReal) = mergerow (fun e => x (ix2 r e)) (fun e => a (ix2 r e))
      (fun k => if h : k.val < 512 then ghead (fun j => y0 (ix2 r j)) (fun j => g0 (ix2 0 j)) (fun j => r0 (ix2 r j)) ⟨k.val, h⟩
        else if h : k.val - 512 < 512 then ghead (fun j => y1 (ix2 r j)) (fun j => g1 (ix2 0 j)) (fun j => r1 (ix2 r j)) ⟨k.val - 512, h⟩
        else if h : k.val - 512 - 512 < 512 then ghead (fun j => y2 (ix2 r j)) (fun j => g2 (ix2 0 j)) (fun j => r2 (ix2 r j)) ⟨k.val - 512 - 512, h⟩
        else ghead (fun j => y3 (ix2 r j)) (fun j => g3 (ix2 0 j)) (fun j => r3 (ix2 r j)) ⟨k.val - 512 - 512 - 512, by omega⟩)
      (fun e => ga (ix2 r e)) (fun e => gb (ix2 r e)) (fun e l => wa (ix2 e l)) (fun e l => wb (ix2 e l)) (fun e l => wo (ix2 e l)) (fun e => gp (ix2 0 e)) (fun e => gt (ix3 0 0 e)) o := by
  rw [SLAB, CLO_at]
  simp only [OUTM_at, MIX_at, UPA_at, UPR_at, CAT_at, HD_at]
  rfl
end Cert.MergeKernelIdeal.Merge
-- ==== Proof.MergeRun.lean ====
module
public import proofs.«01_k».proof.Proof.MergeKer
public import proofs.«01_k».proof.Proof.Gen.MergeKernelIdeal.Value
public import Idealize.ShloMosaic.Lib.Pipeline.ValueKit

@[expose] public section
set_option maxRecDepth 65536
noncomputable section
open Idealize.ShloMosaic Idealize.ShloMosaic.TcCoe Idealize.SL.Sem
namespace Cert.MergeKernelIdeal.Merge
open Cert.MergeKernelIdeal Cert.MergeKernelIdeal.Gen Cert.Layer

/-- The retention's gate: two windows' columns side by side. -/
def rgv (x3 x4 : Vec Ideal S512x1024 .bf16) (r : Fin 512) (k : Fin 2048) : EReal := if h : k.val < 1024 then x3 (ix2 r ⟨k.val, h⟩) else x4 (ix2 r ⟨k.val - 1024, by omega⟩)
theorem rgv_lo (x3 x4 : Vec Ideal S512x1024 .bf16) (r : Fin 512) (k : Fin 2048) (h : k.val < 1024) : rgv x3 x4 r k = x3 (ix2 r ⟨k.val, h⟩) := dif_pos h
theorem rgv_hi (x3 x4 : Vec Ideal S512x1024 .bf16) (r : Fin 512) (k : Fin 2048) (h : ¬ k.val < 1024) : rgv x3 x4 r k = x4 (ix2 r ⟨k.val - 1024, by omega⟩) := dif_neg h
/-- A block's row, of the windows' blocks. -/
def brow (x0 : Vec Ideal S512x1024 .f32) (x1 : Vec Ideal S512x1024 .bf16) (x2 : Vec Ideal S512x2048 .bf16) (x3 x4 x5 x6 : Vec Ideal S512x1024 .bf16) (x7 : Vec Ideal S1x2048 .f32) (x8 : Vec Ideal S1024x1024 .bf16) (x9 : Vec Ideal S2048x1024 .bf16) (x10 : Vec Ideal S1024x1024 .bf16) (x11 : Vec Ideal S1x1024 .f32) (x12 : Vec Ideal S1x1x1024 .f32)
    (r : Fin 512) (o : Fin 1024) : EReal :=
  mergerow (fun e => x0 (ix2 r e)) (fun e => x1 (ix2 r e))
    (gret (fun k => x2 (ix2 r k)) (fun k => x7 (ix2 0 k)) (rgv x3 x4 r))
    (fun e => x5 (ix2 r e)) (fun e => x6 (ix2 r e)) (fun e l => x8 (ix2 e l)) (fun e l => x9 (ix2 e l)) (fun e l => x10 (ix2 e l)) (fun e => x11 (ix2 0 e)) (fun e => x12 (ix3 0 0 e)) o

/-- A rectangle of a matrix read at a place. -/
theorem rd {e : EltTy} {n0 n1 m0 m1 : Nat} (x : Vec Ideal ⟨2, ![n0, n1]⟩ e) (o0 o1 : Nat) (h) (a : Fin m0) (b : Fin m1) (a' : Fin n0) (b' : Fin n1) (h0 : o0 + a.val = a'.val) (h1 : o1 + b.val = b'.val) :
    View.ld (Val := Elt Ideal) (e' := e) x (Rect.unit (s := ⟨2, ![n0, n1]⟩) ![o0, o1] ![m0, m1] h) (ix2 a b) = x (ix2 a' b') := by
  refine congrArg x (funext fun d => Fin.ext ?_)
  match d with
  | ⟨0, _⟩ => exact (congrArg (o0 + ·) (Nat.one_mul _)).trans h0
  | ⟨1, _⟩ => exact (congrArg (o1 + ·) (Nat.one_mul _)).trans h1
theorem rdv (x : Vec Ideal S1x1x1024 .f32) (e : Fin 1024) : View.ld (Val := Elt Ideal) (e' := .f32) x r0_14 (ix3 0 0 e) = x (ix3 0 0 e) := by
  refine congrArg x (funext fun a => Fin.ext ?_)
  match a with
  | ⟨0, _⟩ => rfl
  | ⟨1, _⟩ => rfl
  | ⟨2, _⟩ => show 0 + 1 * e.val = e.val; omega

/-- The slab of rows from 0 is the block's rows there. -/
theorem slab0_t (x0 : Vec Ideal S512x1024 .f32) (x1 : Vec Ideal S512x1024 .bf16) (x2 : Vec Ideal S512x2048 .bf16) (x3 x4 x5 x6 : Vec Ideal S512x1024 .bf16) (x7 : Vec Ideal S1x2048 .f32) (x8 : Vec Ideal S1024x1024 .bf16) (x9 : Vec Ideal S2048x1024 .bf16) (x10 : Vec Ideal S1024x1024 .bf16) (x11 : Vec Ideal S1x1024 .f32) (x12 : Vec Ideal S1x1x1024 .f32) (y : S512x1024.Idx) :
    View.TileAt (Val := Elt Ideal) (e := .f32) y ![0, 0] S256x1024.size
      (SLAB (View.ld x0 r0_0) (View.ld x1 r0_0) (View.ld x2 r0_2) (View.ld x2 r0_5) (View.ld x2 r0_8) (View.ld x2 r0_10) (View.ld x7 r0_3) (View.ld x7 r0_6) (View.ld x7 r0_9) (View.ld x7 r0_11) (View.ld x3 r0_4) (View.ld x3 r0_7) (View.ld x4 r0_4) (View.ld x4 r0_7) (View.ld x5 r0_0) (View.ld x6 r0_0) (View.ld x8 r0_1) (View.ld x9 r0_12) (View.ld x10 r0_1) (View.ld x11 r0_13) (View.ld x12 r0_14))
      (brow x0 x1 x2 x3 x4 x5 x6 x7 x8 x9 x10 x11 x12 (y 0) (y 1)) := by
  intro z hz
  have y0 : (y 0).val = 0 + (z 0).val := hz 0
  have y1 : (y 1).val = 0 + (z 1).val := hz 1
  obtain ⟨r, o, rfl⟩ : ∃ (r : Fin 256) (o : Fin 1024), z = ix2 r o := ⟨z 0, z 1, by
    funext d
    match d with
    | ⟨0, _⟩ => rfl
    | ⟨1, _⟩ => rfl⟩
  change (y 0).val = 0 + r.val at y0
  change (y 1).val = 0 + o.val at y1
  refine (SLAB_at _ _ _ _ _ _ _ _ _ _ _ _ _ _ _ _ _ _ _ _ _ r o).trans ?_
  have eo : o = y 1 := Fin.ext (by omega)
  refine mergerow_congr (fun e => rd x0 0 0 _ r e (y 0) e y0.symm (Nat.zero_add _)) (fun e => rd x1 0 0 _ r e (y 0) e y0.symm (Nat.zero_add _)) (fun k => ?_)
    (fun e => rd x5 0 0 _ r e (y 0) e y0.symm (Nat.zero_add _)) (fun e => rd x6 0 0 _ r e (y 0) e y0.symm (Nat.zero_add _))
    (fun e l => rd x8 0 0 _ e l e l (Nat.zero_add _) (Nat.zero_add _)) (fun e l => rd x9 0 0 _ e l e l (Nat.zero_add _) (Nat.zero_add _)) (fun e l => rd x10 0 0 _ e l e l (Nat.zero_add _) (Nat.zero_add _))
    (fun e => rd x11 0 0 _ 0 e 0 e rfl (Nat.zero_add _)) (fun e => rdv x12 e) eo
  have hk := k.isLt
  split_ifs with h1 h2 h3
  · exact ghead_congr (fun j => rd x2 0 0 _ r j (y 0) _ y0.symm (show 0 + j.val = 512 * (k.val / 512) + j.val by omega)) (fun j => rd x7 0 0 _ 0 j 0 _ rfl (show 0 + j.val = 512 * (k.val / 512) + j.val by omega))
      (fun j => (rd x3 0 0 _ r j (y 0) ⟨512 * (k.val / 512) + j.val, by omega⟩ y0.symm (show 0 + j.val = 512 * (k.val / 512) + j.val by omega)).trans (rgv_lo x3 x4 (y 0) ⟨512 * (k.val / 512) + j.val, by omega⟩ (show 512 * (k.val / 512) + j.val < 1024 by omega)).symm) (Fin.ext (show k.val = k.val % 512 by omega))
  · exact ghead_congr (fun j => rd x2 0 512 _ r j (y 0) _ y0.symm (show 512 + j.val = 512 * (k.val / 512) + j.val by omega)) (fun j => rd x7 0 512 _ 0 j 0 _ rfl (show 512 + j.val = 512 * (k.val / 512) + j.val by omega))
      (fun j => (rd x3 0 512 _ r j (y 0) ⟨512 * (k.val / 512) + j.val, by omega⟩ y0.symm (show 512 + j.val = 512 * (k.val / 512) + j.val by omega)).trans (rgv_lo x3 x4 (y 0) ⟨512 * (k.val / 512) + j.val, by omega⟩ (show 512 * (k.val / 512) + j.val < 1024 by omega)).symm) (Fin.ext (show k.val - 512 = k.val % 512 by omega))
  · exact ghead_congr (fun j => rd x2 0 1024 _ r j (y 0) _ y0.symm (show 1024 + j.val = 512 * (k.val / 512) + j.val by omega)) (fun j => rd x7 0 1024 _ 0 j 0 _ rfl (show 1024 + j.val = 512 * (k.val / 512) + j.val by omega))
      (fun j => (rd x4 0 0 _ r j (y 0) ⟨512 * (k.val / 512) + j.val - 1024, by omega⟩ y0.symm (show 0 + j.val = 512 * (k.val / 512) + j.val - 1024 by omega)).trans (rgv_hi x3 x4 (y 0) ⟨512 * (k.val / 512) + j.val, by omega⟩ (show ¬ 512 * (k.val / 512) + j.val < 1024 by omega)).symm) (Fin.ext (show k.val - 512 - 512 = k.val % 512 by omega))
  · exact ghead_congr (fun j => rd x2 0 1536 _ r j (y 0) _ y0.symm (show 1536 + j.val = 512 * (k.val / 512) + j.val by omega)) (fun j => rd x7 0 1536 _ 0 j 0 _ rfl (show 1536 + j.val = 512 * (k.val / 512) + j.val by omega))
      (fun j => (rd x4 0 512 _ r j (y 0) ⟨512 * (k.val / 512) + j.val - 1024, by omega⟩ y0.symm (show 512 + j.val = 512 * (k.val / 512) + j.val - 1024 by omega)).trans (rgv_hi x3 x4 (y 0) ⟨512 * (k.val / 512) + j.val, by omega⟩ (show ¬ 512 * (k.val / 512) + j.val < 1024 by omega)).symm) (Fin.ext (show k.val - 512 - 512 - 512 = k.val % 512 by omega))
/-- The slab of rows from 256 is the block's rows there. -/
theorem slab1_t (x0 : Vec Ideal S512x1024 .f32) (x1 : Vec Ideal S512x1024 .bf16) (x2 : Vec Ideal S512x2048 .bf16) (x3 x4 x5 x6 : Vec Ideal S512x1024 .bf16) (x7 : Vec Ideal S1x2048 .f32) (x8 : Vec Ideal S1024x1024 .bf16) (x9 : Vec Ideal S2048x1024 .bf16) (x10 : Vec Ideal S1024x1024 .bf16) (x11 : Vec Ideal S1x1024 .f32) (x12 : Vec Ideal S1x1x1024 .f32) (y : S512x1024.Idx) :
    View.TileAt (Val := Elt Ideal) (e := .f32) y ![256, 0] S256x1024.size
      (SLAB (View.ld x0 r0_15) (View.ld x1 r0_15) (View.ld x2 r0_16) (View.ld x2 r0_18) (View.ld x2 r0_20) (View.ld x2 r0_21) (View.ld x7 r0_3) (View.ld x7 r0_6) (View.ld x7 r0_9) (View.ld x7 r0_11) (View.ld x3 r0_17) (View.ld x3 r0_19) (View.ld x4 r0_17) (View.ld x4 r0_19) (View.ld x5 r0_15) (View.ld x6 r0_15) (View.ld x8 r0_1) (View.ld x9 r0_12) (View.ld x10 r0_1) (View.ld x11 r0_13) (View.ld x12 r0_14))
      (brow x0 x1 x2 x3 x4 x5 x6 x7 x8 x9 x10 x11 x12 (y 0) (y 1)) := by
  intro z hz
  have y0 : (y 0).val = 256 + (z 0).val := hz 0
  have y1 : (y 1).val = 0 + (z 1).val := hz 1
  obtain ⟨r, o, rfl⟩ : ∃ (r : Fin 256) (o : Fin 1024), z = ix2 r o := ⟨z 0, z 1, by
    funext d
    match d with
    | ⟨0, _⟩ => rfl
    | ⟨1, _⟩ => rfl⟩
  change (y 0).val = 256 + r.val at y0
  change (y 1).val = 0 + o.val at y1
  refine (SLAB_at _ _ _ _ _ _ _ _ _ _ _ _ _ _ _ _ _ _ _ _ _ r o).trans ?_
  have eo : o = y 1 := Fin.ext (by omega)
  refine mergerow_congr (fun e => rd x0 256 0 _ r e (y 0) e y0.symm (Nat.zero_add _)) (fun e => rd x1 256 0 _ r e (y 0) e y0.symm (Nat.zero_add _)) (fun k => ?_)
    (fun e => rd x5 256 0 _ r e (y 0) e y0.symm (Nat.zero_add _)) (fun e => rd x6 256 0 _ r e (y 0) e y0.symm (Nat.zero_add _))
    (fun e l => rd x8 0 0 _ e l e l (Nat.zero_add _) (Nat.zero_add _)) (fun e l => rd x9 0 0 _ e l e l (Nat.zero_add _) (Nat.zero_add _)) (fun e l => rd x10 0 0 _ e l e l (Nat.zero_add _) (Nat.zero_add _))
    (fun e => rd x11 0 0 _ 0 e 0 e rfl (Nat.zero_add _)) (fun e => rdv x12 e) eo
  have hk := k.isLt
  split_ifs with h1 h2 h3
  · exact ghead_congr (fun j => rd x2 256 0 _ r j (y 0) _ y0.symm (show 0 + j.val = 512 * (k.val / 512) + j.val by omega)) (fun j => rd x7 0 0 _ 0 j 0 _ rfl (show 0 + j.val = 512 * (k.val / 512) + j.val by omega))
      (fun j => (rd x3 256 0 _ r j (y 0) ⟨512 * (k.val / 512) + j.val, by omega⟩ y0.symm (show 0 + j.val = 512 * (k.val / 512) + j.val by omega)).trans (rgv_lo x3 x4 (y 0) ⟨512 * (k.val / 512) + j.val, by omega⟩ (show 512 * (k.val / 512) + j.val < 1024 by omega)).symm) (Fin.ext (show k.val = k.val % 512 by omega))
  · exact ghead_congr (fun j => rd x2 256 512 _ r j (y 0) _ y0.symm (show 512 + j.val = 512 * (k.val / 512) + j.val by omega)) (fun j => rd x7 0 512 _ 0 j 0 _ rfl (show 512 + j.val = 512 * (k.val / 512) + j.val by omega))
      (fun j => (rd x3 256 512 _ r j (y 0) ⟨512 * (k.val / 512) + j.val, by omega⟩ y0.symm (show 512 + j.val = 512 * (k.val / 512) + j.val by omega)).trans (rgv_lo x3 x4 (y 0) ⟨512 * (k.val / 512) + j.val, by omega⟩ (show 512 * (k.val / 512) + j.val < 1024 by omega)).symm) (Fin.ext (show k.val - 512 = k.val % 512 by omega))
  · exact ghead_congr (fun j => rd x2 256 1024 _ r j (y 0) _ y0.symm (show 1024 + j.val = 512 * (k.val / 512) + j.val by omega)) (fun j => rd x7 0 1024 _ 0 j 0 _ rfl (show 1024 + j.val = 512 * (k.val / 512) + j.val by omega))
      (fun j => (rd x4 256 0 _ r j (y 0) ⟨512 * (k.val / 512) + j.val - 1024, by omega⟩ y0.symm (show 0 + j.val = 512 * (k.val / 512) + j.val - 1024 by omega)).trans (rgv_hi x3 x4 (y 0) ⟨512 * (k.val / 512) + j.val, by omega⟩ (show ¬ 512 * (k.val / 512) + j.val < 1024 by omega)).symm) (Fin.ext (show k.val - 512 - 512 = k.val % 512 by omega))
  · exact ghead_congr (fun j => rd x2 256 1536 _ r j (y 0) _ y0.symm (show 1536 + j.val = 512 * (k.val / 512) + j.val by omega)) (fun j => rd x7 0 1536 _ 0 j 0 _ rfl (show 1536 + j.val = 512 * (k.val / 512) + j.val by omega))
      (fun j => (rd x4 256 512 _ r j (y 0) ⟨512 * (k.val / 512) + j.val - 1024, by omega⟩ y0.symm (show 512 + j.val = 512 * (k.val / 512) + j.val - 1024 by omega)).trans (rgv_hi x3 x4 (y 0) ⟨512 * (k.val / 512) + j.val, by omega⟩ (show ¬ 512 * (k.val / 512) + j.val < 1024 by omega)).symm) (Fin.ext (show k.val - 512 - 512 - 512 = k.val % 512 by omega))

/-- A point's block. -/
theorem out_at (x0 : Vec Ideal S512x1024 .f32) (x1 : Vec Ideal S512x1024 .bf16) (x2 : Vec Ideal S512x2048 .bf16) (x3 x4 x5 x6 : Vec Ideal S512x1024 .bf16) (x7 : Vec Ideal S1x2048 .f32) (x8 : Vec Ideal S1024x1024 .bf16) (x9 : Vec Ideal S2048x1024 .bf16) (x10 : Vec Ideal S1024x1024 .bf16) (x11 : Vec Ideal S1x1024 .f32) (x12 : Vec Ideal S1x1x1024 .f32) (y : S512x1024.Idx) :
    out0_13 x0 x1 x2 x3 x4 x5 x6 x7 x8 x9 x10 x11 x12 y = brow x0 x1 x2 x3 x4 x5 x6 x7 x8 x9 x10 x11 x12 (y 0) (y 1) := by
  unfold out0_13
  rw [slab0, slab1]
  refine View.canon_eq_of_allAt _ y _ (cover0_13 _ _ y) ?_
  refine View.allAt_cons_unit _ _ _ _ _ (slab1_t x0 x1 x2 x3 x4 x5 x6 x7 x8 x9 x10 x11 x12 y) ?_
  refine View.allAt_cons_unit _ _ _ _ _ (slab0_t x0 x1 x2 x3 x4 x5 x6 x7 x8 x9 x10 x11 x12 y) ?_
  exact View.allAt_nil _ _

variable (m : (ℓ : Loc nD τ sig) → Buf (Elt Ideal) ℓ) (ρ : Dev nD → PrngReg)
theorem v12 (c : Dev nD) : V m c main_v12 = shapeCast S16384x1024 (m ((c.tc : Thread nD τ).loc main_arg0)) shapeCasts_S2x8192x1024_S16384x1024 := by
  show StableHlo.after hostOps0 _ _ = _
  simp only [hostOps0]
  after_results_simp
  rfl
theorem v13 (c : Dev nD) : V m c main_v13 = shapeCast S16384x1024 (m ((c.tc : Thread nD τ).loc main_arg2)) shapeCasts_S2x8192x1024_S16384x1024 := by
  show StableHlo.after hostOps0 _ _ = _
  simp only [hostOps0]
  after_results_simp
  rfl
theorem v14 (c : Dev nD) : V m c main_v14 = shapeCast S16384x2048 (m ((c.tc : Thread nD τ).loc main_arg3)) shapeCasts_S2x8192x2048_S16384x2048 := by
  show StableHlo.after hostOps0 _ _ = _
  simp only [hostOps0]
  after_results_simp
  rfl
theorem v15 (c : Dev nD) : V m c main_v15 = shapeCast S16384x11264 (m ((c.tc : Thread nD τ).loc main_arg4)) shapeCasts_S2x8192x11264_S16384x11264 := by
  show StableHlo.after hostOps0 _ _ = _
  simp only [hostOps0]
  after_results_simp
  rfl
theorem v16 (c : Dev nD) : V m c main_v16 = m ((c.tc : Thread nD τ).loc main_arg6) := by
  show StableHlo.after hostOps0 _ _ = _
  simp only [hostOps0]
  after_results_simp
  rfl
theorem v17 (c : Dev nD) : V m c main_v17 = m ((c.tc : Thread nD τ).loc main_arg7) := by
  show StableHlo.after hostOps0 _ _ = _
  simp only [hostOps0]
  after_results_simp
  rfl
theorem v18 (c : Dev nD) : V m c main_v18 = m ((c.tc : Thread nD τ).loc main_arg8) := by
  show StableHlo.after hostOps0 _ _ = _
  simp only [hostOps0]
  after_results_simp
  rfl
theorem v19 (c : Dev nD) : V m c main_v19 = shapeCast S1x1024 (m ((c.tc : Thread nD τ).loc main_arg9)) shapeCasts_S1024_S1x1024 := by
  show StableHlo.after hostOps0 _ _ = _
  simp only [hostOps0]
  after_results_simp
  rfl
theorem v20 (c : Dev nD) : V m c main_v20 = shapeCast S1x2048 (m ((c.tc : Thread nD τ).loc main_arg5)) shapeCasts_S2048_S1x2048 := by
  show StableHlo.after hostOps0 _ _ = _
  simp only [hostOps0]
  after_results_simp
  rfl
theorem v8 (c : Dev nD) : V m c main_v8 = shapeCast S2x1x1024 (extractStridedSlice S2x1024 ![0, 2048] (m ((c.tc : Thread nD τ).loc main_arg1)) slices_S2x6144_S2x1024_0_2048) shapeCasts_S2x1024_S2x1x1024 := by
  show StableHlo.after hostOps0 _ _ = _
  simp only [hostOps0]
  after_results_simp
  rfl

theorem tr0 : ∀ i : grid0.Coords, cc0_transform_0 i = ![(i 0).val, 0] := by decide +kernel
theorem tr1 : ∀ i : grid0.Coords, cc0_transform_1 i = ![(i 0).val, 0] := by decide +kernel
theorem tr2 : ∀ i : grid0.Coords, cc0_transform_2 i = ![(i 0).val, 0] := by decide +kernel
theorem tr3 : ∀ i : grid0.Coords, cc0_transform_3 i = ![(i 0).val, 7] := by decide +kernel
theorem tr4 : ∀ i : grid0.Coords, cc0_transform_4 i = ![(i 0).val, 8] := by decide +kernel
theorem tr5 : ∀ i : grid0.Coords, cc0_transform_5 i = ![(i 0).val, 9] := by decide +kernel
theorem tr6 : ∀ i : grid0.Coords, cc0_transform_6 i = ![(i 0).val, 10] := by decide +kernel
theorem tr12 : ∀ i : grid0.Coords, cc0_transform_12 i = ![(i 0).val / 16, 0, 0] := by decide +kernel
theorem tr13 : ∀ i : grid0.Coords, cc0_transform_13 i = ![(i 0).val, 0] := by decide +kernel

variable (c : Dev nD) (t : Fin cfg0.N)
theorem pt_lt : (grid0.coords t 0).val < 32 := (grid0.coords t 0).isLt
theorem b0 (r : Fin 512) (e : Fin 1024) (b : Fin 2) (n : Fin 8192) (h : 512 * (grid0.coords t 0).val + r.val = 8192 * b.val + n.val) :
    (iblk m c 0 t (ix2 r e) : EReal) = (m ((c.tc : Thread nD τ).loc main_arg0) : Vec Ideal S2x8192x1024 .f32) (ix3 b n e) := by
  have h0 := pt_lt t
  have e1 : (iblk m c 0 t (ix2 r e) : EReal) = (V m c main_v12 : Vec Ideal S16384x1024 .f32) (ix2 ⟨8192 * b.val + n.val, by omega⟩ e) := by
    blk_simp [iblk]
    refine congrArg (V m c main_v12) (funext fun a => Fin.ext ?_)
    have ec := tr0 (grid0.coords t)
    match a with
    | ⟨0, _⟩ =>
      show cc0_transform_0 (grid0.coords t) 0 * 512 + 1 * r.val = _
      rw [ec]; show (grid0.coords t 0).val * 512 + 1 * r.val = 8192 * b.val + n.val; omega
    | ⟨1, _⟩ =>
      show cc0_transform_0 (grid0.coords t) 1 * 1024 + 1 * e.val = _
      rw [ec]; show 0 * 1024 + 1 * e.val = e.val; omega
  rw [e1, v12]
  exact flat_at _ _ _ _ b n rfl
theorem b1 (r : Fin 512) (e : Fin 1024) (b : Fin 2) (n : Fin 8192) (h : 512 * (grid0.coords t 0).val + r.val = 8192 * b.val + n.val) :
    (iblk m c 1 t (ix2 r e) : EReal) = (m ((c.tc : Thread nD τ).loc main_arg2) : Vec Ideal S2x8192x1024 .bf16) (ix3 b n e) := by
  have h0 := pt_lt t
  have e1 : (iblk m c 1 t (ix2 r e) : EReal) = (V m c main_v13 : Vec Ideal S16384x1024 .bf16) (ix2 ⟨8192 * b.val + n.val, by omega⟩ e) := by
    blk_simp [iblk]
    refine congrArg (V m c main_v13) (funext fun a => Fin.ext ?_)
    have ec := tr1 (grid0.coords t)
    match a with
    | ⟨0, _⟩ =>
      show cc0_transform_1 (grid0.coords t) 0 * 512 + 1 * r.val = _
      rw [ec]; show (grid0.coords t 0).val * 512 + 1 * r.val = 8192 * b.val + n.val; omega
    | ⟨1, _⟩ =>
      show cc0_transform_1 (grid0.coords t) 1 * 1024 + 1 * e.val = _
      rw [ec]; show 0 * 1024 + 1 * e.val = e.val; omega
  rw [e1, v13]
  exact flat_at _ _ _ _ b n rfl
theorem b2 (r : Fin 512) (e : Fin 2048) (b : Fin 2) (n : Fin 8192) (h : 512 * (grid0.coords t 0).val + r.val = 8192 * b.val + n.val) :
    (iblk m c 2 t (ix2 r e) : EReal) = (m ((c.tc : Thread nD τ).loc main_arg3) : Vec Ideal S2x8192x2048 .bf16) (ix3 b n e) := by
  have h0 := pt_lt t
  have e1 : (iblk m c 2 t (ix2 r e) : EReal) = (V m c main_v14 : Vec Ideal S16384x2048 .bf16) (ix2 ⟨8192 * b.val + n.val, by omega⟩ e) := by
    blk_simp [iblk]
    refine congrArg (V m c main_v14) (funext fun a => Fin.ext ?_)
    have ec := tr2 (grid0.coords t)
    match a with
    | ⟨0, _⟩ =>
      show cc0_transform_2 (grid0.coords t) 0 * 512 + 1 * r.val = _
      rw [ec]; show (grid0.coords t 0).val * 512 + 1 * r.val = 8192 * b.val + n.val; omega
    | ⟨1, _⟩ =>
      show cc0_transform_2 (grid0.coords t) 1 * 2048 + 1 * e.val = _
      rw [ec]; show 0 * 2048 + 1 * e.val = e.val; omega
  rw [e1, v14]
  exact flat_at _ _ _ _ b n rfl
theorem b3 (r : Fin 512) (e : Fin 1024) (b : Fin 2) (n : Fin 8192) (h : 512 * (grid0.coords t 0).val + r.val = 8192 * b.val + n.val) :
    (iblk m c 3 t (ix2 r e) : EReal) = (m ((c.tc : Thread nD τ).loc main_arg4) : Vec Ideal S2x8192x11264 .bf16) (ix3 b n ⟨7168 + e.val, by omega⟩) := by
  have h0 := pt_lt t
  have e1 : (iblk m c 3 t (ix2 r e) : EReal) = (V m c main_v15 : Vec Ideal S16384x11264 .bf16) (ix2 ⟨8192 * b.val + n.val, by omega⟩ ⟨7168 + e.val, by omega⟩) := by
    blk_simp [iblk]
    refine congrArg (V m c main_v15) (funext fun a => Fin.ext ?_)
    have ec := tr3 (grid0.coords t)
    match a with
    | ⟨0, _⟩ =>
      show cc0_transform_3 (grid0.coords t) 0 * 512 + 1 * r.val = _
      rw [ec]; show (grid0.coords t 0).val * 512 + 1 * r.val = 8192 * b.val + n.val; omega
    | ⟨1, _⟩ =>
      show cc0_transform_3 (grid0.coords t) 1 * 1024 + 1 * e.val = _
      rw [ec]; show 7 * 1024 + 1 * e.val = 7168 + e.val; omega
  rw [e1, v15]
  exact flat_at _ _ _ _ b n rfl
theorem b4 (r : Fin 512) (e : Fin 1024) (b : Fin 2) (n : Fin 8192) (h : 512 * (grid0.coords t 0).val + r.val = 8192 * b.val + n.val) :
    (iblk m c 4 t (ix2 r e) : EReal) = (m ((c.tc : Thread nD τ).loc main_arg4) : Vec Ideal S2x8192x11264 .bf16) (ix3 b n ⟨8192 + e.val, by omega⟩) := by
  have h0 := pt_lt t
  have e1 : (iblk m c 4 t (ix2 r e) : EReal) = (V m c main_v15 : Vec Ideal S16384x11264 .bf16) (ix2 ⟨8192 * b.val + n.val, by omega⟩ ⟨8192 + e.val, by omega⟩) := by
    blk_simp [iblk]
    refine congrArg (V m c main_v15) (funext fun a => Fin.ext ?_)
    have ec := tr4 (grid0.coords t)
    match a with
    | ⟨0, _⟩ =>
      show cc0_transform_4 (grid0.coords t) 0 * 512 + 1 * r.val = _
      rw [ec]; show (grid0.coords t 0).val * 512 + 1 * r.val = 8192 * b.val + n.val; omega
    | ⟨1, _⟩ =>
      show cc0_transform_4 (grid0.coords t) 1 * 1024 + 1 * e.val = _
      rw [ec]; show 8 * 1024 + 1 * e.val = 8192 + e.val; omega
  rw [e1, v15]
  exact flat_at _ _ _ _ b n rfl
theorem b5 (r : Fin 512) (e : Fin 1024) (b : Fin 2) (n : Fin 8192) (h : 512 * (grid0.coords t 0).val + r.val = 8192 * b.val + n.val) :
    (iblk m c 5 t (ix2 r e) : EReal) = (m ((c.tc : Thread nD τ).loc main_arg4) : Vec Ideal S2x8192x11264 .bf16) (ix3 b n ⟨9216 + e.val, by omega⟩) := by
  have h0 := pt_lt t
  have e1 : (iblk m c 5 t (ix2 r e) : EReal) = (V m c main_v15 : Vec Ideal S16384x11264 .bf16) (ix2 ⟨8192 * b.val + n.val, by omega⟩ ⟨9216 + e.val, by omega⟩) := by
    blk_simp [iblk]
    refine congrArg (V m c main_v15) (funext fun a => Fin.ext ?_)
    have ec := tr5 (grid0.coords t)
    match a with
    | ⟨0, _⟩ =>
      show cc0_transform_5 (grid0.coords t) 0 * 512 + 1 * r.val = _
      rw [ec]; show (grid0.coords t 0).val * 512 + 1 * r.val = 8192 * b.val + n.val; omega
    | ⟨1, _⟩ =>
      show cc0_transform_5 (grid0.coords t) 1 * 1024 + 1 * e.val = _
      rw [ec]; show 9 * 1024 + 1 * e.val = 9216 + e.val; omega
  rw [e1, v15]
  exact flat_at _ _ _ _ b n rfl
theorem b6 (r : Fin 512) (e : Fin 1024) (b : Fin 2) (n : Fin 8192) (h : 512 * (grid0.coords t 0).val + r.val = 8192 * b.val + n.val) :
    (iblk m c 6 t (ix2 r e) : EReal) = (m ((c.tc : Thread nD τ).loc main_arg4) : Vec Ideal S2x8192x11264 .bf16) (ix3 b n ⟨10240 + e.val, by omega⟩) := by
  have h0 := pt_lt t
  have e1 : (iblk m c 6 t (ix2 r e) : EReal) = (V m c main_v15 : Vec Ideal S16384x11264 .bf16) (ix2 ⟨8192 * b.val + n.val, by omega⟩ ⟨10240 + e.val, by omega⟩) := by
    blk_simp [iblk]
    refine congrArg (V m c main_v15) (funext fun a => Fin.ext ?_)
    have ec := tr6 (grid0.coords t)
    match a with
    | ⟨0, _⟩ =>
      show cc0_transform_6 (grid0.coords t) 0 * 512 + 1 * r.val = _
      rw [ec]; show (grid0.coords t 0).val * 512 + 1 * r.val = 8192 * b.val + n.val; omega
    | ⟨1, _⟩ =>
      show cc0_transform_6 (grid0.coords t) 1 * 1024 + 1 * e.val = _
      rw [ec]; show 10 * 1024 + 1 * e.val = 10240 + e.val; omega
  rw [e1, v15]
  exact flat_at _ _ _ _ b n rfl
theorem b7 (e : Fin 2048) : (iblk m c 7 t (ix2 0 e) : EReal) = (m ((c.tc : Thread nD τ).loc main_arg5) : Vec Ideal S2048 .f32) (ix1 e) := by
  have e1 : (iblk m c 7 t (ix2 0 e) : EReal) = (V m c main_v20 : Vec Ideal S1x2048 .f32) (ix2 0 e) := by
    blk_simp [iblk]
    refine congrArg (V m c main_v20) (funext fun a => Fin.ext ?_)
    match a with
    | ⟨0, _⟩ => show 0 * 1 + 1 * 0 = 0; rfl
    | ⟨1, _⟩ => show 0 * 2048 + 1 * e.val = e.val; omega
  rw [e1, v20]
  pointwise []
theorem b11 (e : Fin 1024) : (iblk m c 11 t (ix2 0 e) : EReal) = (m ((c.tc : Thread nD τ).loc main_arg9) : Vec Ideal S1024 .f32) (ix1 e) := by
  have e1 : (iblk m c 11 t (ix2 0 e) : EReal) = (V m c main_v19 : Vec Ideal S1x1024 .f32) (ix2 0 e) := by
    blk_simp [iblk]
    refine congrArg (V m c main_v19) (funext fun a => Fin.ext ?_)
    match a with
    | ⟨0, _⟩ => show 0 * 1 + 1 * 0 = 0; rfl
    | ⟨1, _⟩ => show 0 * 1024 + 1 * e.val = e.val; omega
  rw [e1, v19]
  pointwise []
theorem b8 (e : Fin 1024) (l : Fin 1024) : (iblk m c 8 t (ix2 e l) : EReal) = (m ((c.tc : Thread nD τ).loc main_arg6) : Vec Ideal S1024x1024 .f32) (ix2 e l) := by
  have e1 : (iblk m c 8 t (ix2 e l) : EReal) = (V m c main_v16 : Vec Ideal S1024x1024 .bf16) (ix2 e l) := by
    blk_simp [iblk]
    refine congrArg (V m c main_v16) (funext fun a => Fin.ext ?_)
    match a with
    | ⟨0, _⟩ => show 0 * 1024 + 1 * e.val = e.val; omega
    | ⟨1, _⟩ => show 0 * 1024 + 1 * l.val = l.val; omega
  rw [e1, v16]
theorem b9 (e : Fin 2048) (l : Fin 1024) : (iblk m c 9 t (ix2 e l) : EReal) = (m ((c.tc : Thread nD τ).loc main_arg7) : Vec Ideal S2048x1024 .f32) (ix2 e l) := by
  have e1 : (iblk m c 9 t (ix2 e l) : EReal) = (V m c main_v17 : Vec Ideal S2048x1024 .bf16) (ix2 e l) := by
    blk_simp [iblk]
    refine congrArg (V m c main_v17) (funext fun a => Fin.ext ?_)
    match a with
    | ⟨0, _⟩ => show 0 * 2048 + 1 * e.val = e.val; omega
    | ⟨1, _⟩ => show 0 * 1024 + 1 * l.val = l.val; omega
  rw [e1, v17]
theorem b10 (e : Fin 1024) (l : Fin 1024) : (iblk m c 10 t (ix2 e l) : EReal) = (m ((c.tc : Thread nD τ).loc main_arg8) : Vec Ideal S1024x1024 .f32) (ix2 e l) := by
  have e1 : (iblk m c 10 t (ix2 e l) : EReal) = (V m c main_v18 : Vec Ideal S1024x1024 .bf16) (ix2 e l) := by
    blk_simp [iblk]
    refine congrArg (V m c main_v18) (funext fun a => Fin.ext ?_)
    match a with
    | ⟨0, _⟩ => show 0 * 1024 + 1 * e.val = e.val; omega
    | ⟨1, _⟩ => show 0 * 1024 + 1 * l.val = l.val; omega
  rw [e1, v18]
theorem b12 (e : Fin 1024) (b : Fin 2) (h : (grid0.coords t 0).val / 16 = b.val) :
    (iblk m c 12 t (ix3 0 0 e) : EReal) = (m ((c.tc : Thread nD τ).loc main_arg1) : Vec Ideal S2x6144 .f32) (ix2 b ⟨2048 + e.val, by omega⟩) := by
  have e1 : (iblk m c 12 t (ix3 0 0 e) : EReal) = (V m c main_v8 : Vec Ideal S2x1x1024 .f32) (ix3 b 0 e) := by
    blk_simp [iblk]
    refine congrArg (V m c main_v8) (funext fun a => Fin.ext ?_)
    have ec := tr12 (grid0.coords t)
    match a with
    | ⟨0, _⟩ =>
      show cc0_transform_12 (grid0.coords t) 0 * 1 + 1 * 0 = _
      rw [ec]; show (grid0.coords t 0).val / 16 * 1 + 1 * 0 = b.val; omega
    | ⟨1, _⟩ =>
      show cc0_transform_12 (grid0.coords t) 1 * 1 + 1 * 0 = _
      rw [ec]; rfl
    | ⟨2, _⟩ =>
      show cc0_transform_12 (grid0.coords t) 2 * 1024 + 1 * e.val = _
      rw [ec]; show 0 * 1024 + 1 * e.val = e.val; omega
  rw [e1, v8]
  pointwise []

/-- The result array's row and lane, of the arguments. -/
def outArr (R : Fin 16384) (o : Fin 1024) : EReal :=
  mergeOut (fun b n e => (m ((c.tc : Thread nD τ).loc main_arg0) : Vec Ideal S2x8192x1024 .f32) (ix3 b n e)) (fun b j => (m ((c.tc : Thread nD τ).loc main_arg1) : Vec Ideal S2x6144 .f32) (ix2 b j))
    (fun b n e => (m ((c.tc : Thread nD τ).loc main_arg2) : Vec Ideal S2x8192x1024 .bf16) (ix3 b n e)) (fun b n e => (m ((c.tc : Thread nD τ).loc main_arg3) : Vec Ideal S2x8192x2048 .bf16) (ix3 b n e))
    (fun b n e => (m ((c.tc : Thread nD τ).loc main_arg4) : Vec Ideal S2x8192x11264 .bf16) (ix3 b n e)) (fun e => (m ((c.tc : Thread nD τ).loc main_arg5) : Vec Ideal S2048 .f32) (ix1 e))
    (fun e l => (m ((c.tc : Thread nD τ).loc main_arg6) : Vec Ideal S1024x1024 .f32) (ix2 e l)) (fun e l => (m ((c.tc : Thread nD τ).loc main_arg7) : Vec Ideal S2048x1024 .f32) (ix2 e l))
    (fun e l => (m ((c.tc : Thread nD τ).loc main_arg8) : Vec Ideal S1024x1024 .f32) (ix2 e l)) (fun e => (m ((c.tc : Thread nD τ).loc main_arg9) : Vec Ideal S1024 .f32) (ix1 e))
    ⟨R.val / 8192, by omega⟩ ⟨R.val % 8192, by omega⟩ o

theorem point (r : Fin 512) (o : Fin 1024) (R : Fin 16384) (h : R.val = 512 * (grid0.coords t 0).val + r.val) :
    brow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r o = outArr m c R o := by
  have h0 := pt_lt t
  have hb : (grid0.coords t 0).val / 16 = R.val / 8192 := by omega
  have hr : 512 * (grid0.coords t 0).val + r.val = 8192 * (R.val / 8192) + R.val % 8192 := by omega
  unfold brow outArr mergeOut
  refine mergerow_congr (fun e => b0 m c t r e _ _ hr) (fun e => b1 m c t r e _ _ hr) (fun k => ?_) (fun e => b5 m c t r e _ _ hr) (fun e => b6 m c t r e _ _ hr)
    (fun e l => b8 m c t e l) (fun e l => b9 m c t e l) (fun e l => b10 m c t e l) (fun e => b11 m c t e) (fun e => b12 m c t e _ hb) rfl
  refine ghead_congr (fun j => b2 m c t r _ _ _ hr) (fun j => b7 m c t _) (fun j => ?_) rfl
  have hk := k.isLt
  by_cases h1 : 512 * (k.val / 512) + j.val < 1024
  · exact (rgv_lo _ _ r ⟨512 * (k.val / 512) + j.val, by omega⟩ h1).trans (b3 m c t r _ _ _ hr)
  · refine ((rgv_hi _ _ r ⟨512 * (k.val / 512) + j.val, by omega⟩ h1).trans (b4 m c t r _ _ _ hr)).trans (congrArg (m ((c.tc : Thread nD τ).loc main_arg4)) (congrArg (ix3 _ _) (Fin.ext ?_)))
    show 8192 + (512 * (k.val / 512) + j.val - 1024) = 7168 + (512 * (k.val / 512) + j.val)
    omega

/-- The result array after the call. -/
theorem arr : (dats m 0 c).arrAt 13 cfg0.N = fun y : S16384x1024.Idx => outArr m c (y 0) (y 1) := by
  refine (dats m 0 c).arrAt_eq_of_covers 13 _ (by decide +kernel) fun t hf y => ?_
  rw [after0_13]
  blk_simp
  refine (out_at _ _ _ _ _ _ _ _ _ _ _ _ _ y).trans ?_
  have ec := tr13 (grid0.coords t)
  have e0 : (((win0_13.blk t).view.emb y) 0).val = 512 * (grid0.coords t 0).val + (y 0).val := by
    show cc0_transform_13 (grid0.coords t) 0 * 512 + 1 * (y 0).val = _
    rw [ec]; show (grid0.coords t 0).val * 512 + 1 * (y 0).val = _
    omega
  have e1 : ((win0_13.blk t).view.emb y) 1 = y 1 := by
    refine Fin.ext ?_
    show cc0_transform_13 (grid0.coords t) 1 * 1024 + 1 * (y 1).val = _
    rw [ec]; show 0 * 1024 + 1 * (y 1).val = _; omega
  refine (point m c t (y 0) (y 1) (((win0_13.blk t).view.emb y) 0) e0).trans ?_
  refine (congrArg (outArr m c _) e1.symm).trans ?_
  blk_simp
end Cert.MergeKernelIdeal.Merge
-- ==== Proof.MergeRef.lean ====
module
public import proofs.«01_k».proof.Proof.Gen.MergeReferenceIdeal.Run
public import proofs.«01_k».proof.Proof.LayerMath
public import Idealize.ShloMosaic.Lib.Pointwise

@[expose] public section
set_option maxRecDepth 16384
noncomputable section
open Idealize.ShloMosaic Idealize.ShloMosaic.TcCoe Idealize.SL.Sem
namespace Cert.MergeReferenceIdeal.Merge
open Cert.MergeReferenceIdeal Cert.MergeReferenceIdeal.Gen Cert.Layer

/-! The reference's merge, in stages, each read at an index. -/

/-- The retention's values, by head. -/
def Y4 {F : FTy → Type} [FloatOps F] (arg3 : FVec F S2x8192x2048 .bf16) : FVec F S2x8192x4x512 .f32 :=
  have v13 : FVec F S2x8192x2048 .f32 := extf .f32 arg3 bitsLt_bf16_f32
  have v18 : FVec F S2x8192x4x512 .f32 := shapeCast S2x8192x4x512 v13 shapeCasts_S2x8192x2048_S2x8192x4x512
  v18
/-- Each head's mean. -/
def MU {F : FTy → Type} [FloatOps F] (v18 : FVec F S2x8192x4x512 .f32) : FVec F S2x8192x4x1 .f32 :=
  have cst : FVec F S_ .f32 := (constant S_ .f32 0x00000000#32)
  have v19 : FVec F S2x8192x4 .f32 := Host.reduceAdd v18 cst reducesTo_S2x8192x4x512_S2x8192x4_d3 h_S_
  have v20 : FVec F S2x8192x4x1 .f32 := broadcastInDim S2x8192x4x1 ![0, 1, 2] bcast_S2x8192x4_S2x8192x4x1_0_1_2 v19
  have cst_0 : FVec F S_ .f32 := (constant S_ .f32 0x44000000#32)
  have v21 : FVec F S2x8192x4x1 .f32 := broadcastInDim S2x8192x4x1 ![] bcast_S_S2x8192x4x1 cst_0
  have v22 : FVec F S2x8192x4x1 .f32 := Host.divf v20 v21
  v22
/-- The heads normalised. -/
def N4 {F : FTy → Type} [FloatOps F] (v18 : FVec F S2x8192x4x512 .f32) (v22 : FVec F S2x8192x4x1 .f32) : FVec F S2x8192x4x512 .f32 :=
  have v30 : FVec F S2x8192x4x512 .f32 := broadcastInDim S2x8192x4x512 ![0, 1, 2, 3] bcast_S2x8192x4x1_S2x8192x4x512_0_1_2_3 v22
  have v31 : FVec F S2x8192x4x512 .f32 := subf v18 v30
  have v23 : FVec F S2x8192x4x512 .f32 := broadcastInDim S2x8192x4x512 ![0, 1, 2, 3] bcast_S2x8192x4x1_S2x8192x4x512_0_1_2_3 v22
  have v24 : FVec F S2x8192x4x512 .f32 := subf v18 v23
  have v25 : FVec F S2x8192x4x512 .f32 := mulf v24 v24
  have cst_1 : FVec F S_ .f32 := (constant S_ .f32 0x00000000#32)
  have v26 : FVec F S2x8192x4 .f32 := Host.reduceAdd v25 cst_1 reducesTo_S2x8192x4x512_S2x8192x4_d3 h_S_
  have v27 : FVec F S2x8192x4x1 .f32 := broadcastInDim S2x8192x4x1 ![0, 1, 2] bcast_S2x8192x4_S2x8192x4x1_0_1_2 v26
  have cst_2 : FVec F S_ .f32 := (constant S_ .f32 0x44000000#32)
  have v28 : FVec F S2x8192x4x1 .f32 := broadcastInDim S2x8192x4x1 ![] bcast_S_S2x8192x4x1 cst_2
  have v29 : FVec F S2x8192x4x1 .f32 := Host.divf v27 v28
  have cst_3 : FVec F S_ .f32 := (constant S_ .f32 0x358637BD#32)
  have v32 : FVec F S2x8192x4x1 .f32 := broadcastInDim S2x8192x4x1 ![] bcast_S_S2x8192x4x1 cst_3
  have v33 : FVec F S2x8192x4x1 .f32 := addf v29 v32
  have v34 : FVec F S2x8192x4x1 .f32 := Host.rsqrt v33
  have v35 : FVec F S2x8192x4x512 .f32 := broadcastInDim S2x8192x4x512 ![0, 1, 2, 3] bcast_S2x8192x4x1_S2x8192x4x512_0_1_2_3 v34
  have v36 : FVec F S2x8192x4x512 .f32 := mulf v31 v35
  v36
/-- The normalised heads laid out as columns. -/
def N3 {F : FTy → Type} [FloatOps F] (v36 : FVec F S2x8192x4x512 .f32) : FVec F S2x8192x2048 .f32 :=
  have v37 : FVec F S2x8192x2048 .f32 := shapeCast S2x8192x2048 v36 shapeCasts_S2x8192x4x512_S2x8192x2048
  v37
/-- Times the gain and under the gate. -/
def Zs {F : FTy → Type} [FloatOps F] (arg4 : FVec F S2x8192x11264 .bf16) (arg5 : FVec F S2048 .f32) (v37 : FVec F S2x8192x2048 .f32) : FVec F S2x8192x2048 .f32 :=
  have v14 : FVec F S2x8192x11264 .f32 := extf .f32 arg4 bitsLt_bf16_f32
  have v15 : FVec F S2x8192x2048 .f32 := extractStridedSlice S2x8192x2048 ![0, 0, 7168] v14 slices_S2x8192x11264_S2x8192x2048_0_0_7168
  have v41 : FVec F S2x8192x2048 .f32 := mulf v15 (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf v15))))
  have v38 : FVec F S1x1x2048 .f32 := broadcastInDim S1x1x2048 ![2] bcast_S2048_S1x1x2048_2 arg5
  have v39 : FVec F S2x8192x2048 .f32 := broadcastInDim S2x8192x2048 ![0, 1, 2] bcast_S1x1x2048_S2x8192x2048_0_1_2 v38
  have v40 : FVec F S2x8192x2048 .f32 := mulf v37 v39
  have v42 : FVec F S2x8192x2048 .f32 := mulf v41 v40
  v42
/-- The two branches' products under their gates. -/
def MX {F : FTy → Type} [FloatOps F] (arg2 : FVec F S2x8192x1024 .bf16) (arg4 : FVec F S2x8192x11264 .bf16) (arg6 : FVec F S1024x1024 .f32) (arg7 : FVec F S2048x1024 .f32) (v42 : FVec F S2x8192x2048 .f32) : FVec F S2x8192x1024 .f32 :=
  have cst_5 : FVec F S_ .f32 := (constant S_ .f32 0x3F800000#32)
  have v47 : FVec F S2x8192x1024 .f32 := broadcastInDim S2x8192x1024 ![] bcast_S_S2x8192x1024 cst_5
  have cst_4 : FVec F S_ .f32 := (constant S_ .f32 0x3F800000#32)
  have v45 : FVec F S2x8192x1024 .f32 := broadcastInDim S2x8192x1024 ![] bcast_S_S2x8192x1024 cst_4
  have v14 : FVec F S2x8192x11264 .f32 := extf .f32 arg4 bitsLt_bf16_f32
  have v16 : FVec F S2x8192x1024 .f32 := extractStridedSlice S2x8192x1024 ![0, 0, 9216] v14 slices_S2x8192x11264_S2x8192x1024_0_0_9216
  have v43 : FVec F S2x8192x1024 .f32 := Host.negf v16
  have v44 : FVec F S2x8192x1024 .f32 := Host.exp v43
  have v46 : FVec F S2x8192x1024 .f32 := addf v45 v44
  have v48 : FVec F S2x8192x1024 .f32 := Host.divf v47 v46
  have v12 : FVec F S2x8192x1024 .f32 := extf .f32 arg2 bitsLt_bf16_f32
  have v49 : FVec F S2x8192x1024 .f32 := Host.dotGeneral dot_S2x8192x1024_S1024x1024_S2x8192x1024_2_0_01_1_n_n none v12 arg6
  have v50 : FVec F S2x8192x1024 .f32 := mulf v48 v49
  have cst_7 : FVec F S_ .f32 := (constant S_ .f32 0x3F800000#32)
  have v55 : FVec F S2x8192x1024 .f32 := broadcastInDim S2x8192x1024 ![] bcast_S_S2x8192x1024 cst_7
  have cst_6 : FVec F S_ .f32 := (constant S_ .f32 0x3F800000#32)
  have v53 : FVec F S2x8192x1024 .f32 := broadcastInDim S2x8192x1024 ![] bcast_S_S2x8192x1024 cst_6
  have v17 : FVec F S2x8192x1024 .f32 := extractStridedSlice S2x8192x1024 ![0, 0, 10240] v14 slices_S2x8192x11264_S2x8192x1024_0_0_10240
  have v51 : FVec F S2x8192x1024 .f32 := Host.negf v17
  have v52 : FVec F S2x8192x1024 .f32 := Host.exp v51
  have v54 : FVec F S2x8192x1024 .f32 := addf v53 v52
  have v56 : FVec F S2x8192x1024 .f32 := Host.divf v55 v54
  have v57 : FVec F S2x8192x1024 .f32 := Host.dotGeneral dot_S2x8192x2048_S2048x1024_S2x8192x1024_2_0_01_1_n_n none v42 arg7
  have v58 : FVec F S2x8192x1024 .f32 := mulf v56 v57
  have v59 : FVec F S2x8192x1024 .f32 := addf v50 v58
  v59
/-- The output product. -/
def Fs {F : FTy → Type} [FloatOps F] (arg8 : FVec F S1024x1024 .f32) (v59 : FVec F S2x8192x1024 .f32) : FVec F S2x8192x1024 .f32 :=
  have v60 : FVec F S2x8192x1024 .f32 := Host.dotGeneral dot_S2x8192x1024_S1024x1024_S2x8192x1024_2_0_01_1_n_n none v59 arg8
  v60
/-- The norm, gate and residual. -/
def Os {F : FTy → Type} [FloatOps F] (arg0 : FVec F S2x8192x1024 .f32) (arg1 : FVec F S2x6144 .f32) (arg9 : FVec F S1024 .f32) (v60 : FVec F S2x8192x1024 .f32) : FVec F S2x8192x1024 .f32 :=
  have v2 : FVec F S2x1024 .f32 := extractStridedSlice S2x1024 ![0, 2048] arg1 slices_S2x6144_S2x1024_0_2048
  have v8 : FVec F S2x1x1024 .f32 := broadcastInDim S2x1x1024 ![0, 2] bcast_S2x1024_S2x1x1024_0_2 v2
  have v74 : FVec F S2x8192x1024 .f32 := broadcastInDim S2x8192x1024 ![0, 1, 2] bcast_S2x1x1024_S2x8192x1024_0_1_2 v8
  have v61 : FVec F S2x8192x1024 .f32 := mulf v60 v60
  have cst_8 : FVec F S_ .f32 := (constant S_ .f32 0x00000000#32)
  have v62 : FVec F S2x8192 .f32 := Host.reduceAdd v61 cst_8 reducesTo_S2x8192x1024_S2x8192_d2 h_S_
  have v63 : FVec F S2x8192x1 .f32 := broadcastInDim S2x8192x1 ![0, 1] bcast_S2x8192_S2x8192x1_0_1 v62
  have cst_9 : FVec F S_ .f32 := (constant S_ .f32 0x44800000#32)
  have v64 : FVec F S2x8192x1 .f32 := broadcastInDim S2x8192x1 ![] bcast_S_S2x8192x1 cst_9
  have v65 : FVec F S2x8192x1 .f32 := Host.divf v63 v64
  have cst_10 : FVec F S_ .f32 := (constant S_ .f32 0x358637BD#32)
  have v66 : FVec F S2x8192x1 .f32 := broadcastInDim S2x8192x1 ![] bcast_S_S2x8192x1 cst_10
  have v67 : FVec F S2x8192x1 .f32 := addf v65 v66
  have v68 : FVec F S2x8192x1 .f32 := Host.rsqrt v67
  have v69 : FVec F S2x8192x1024 .f32 := broadcastInDim S2x8192x1024 ![0, 1, 2] bcast_S2x8192x1_S2x8192x1024_0_1_2 v68
  have v70 : FVec F S2x8192x1024 .f32 := mulf v60 v69
  have v71 : FVec F S1x1x1024 .f32 := broadcastInDim S1x1x1024 ![2] bcast_S1024_S1x1x1024_2 arg9
  have v72 : FVec F S2x8192x1024 .f32 := broadcastInDim S2x8192x1024 ![0, 1, 2] bcast_S1x1x1024_S2x8192x1024_0_1_2 v71
  have v73 : FVec F S2x8192x1024 .f32 := mulf v70 v72
  have v75 : FVec F S2x8192x1024 .f32 := mulf v74 v73
  have v76 : FVec F S2x8192x1024 .f32 := addf arg0 v75
  v76

theorem Y4_at (y : FVec Ideal S2x8192x2048 .bf16) (b : Fin 2) (n : Fin 8192) (hd : Fin 4) (j : Fin 512) :
    (Y4 y (ix4 b n hd j) : EReal) = y (ix3 b n ⟨512 * hd.val + j.val, by omega⟩) :=
  split_at 4 512 y shapeCasts_S2x8192x2048_S2x8192x4x512 b n hd j ⟨512 * hd.val + j.val, by omega⟩ rfl
theorem MU_at (y : FVec Ideal S2x8192x4x512 .f32) (b : Fin 2) (n : Fin 8192) (hd : Fin 4) (z : Fin 1) :
    (MU y (ix4 b n hd z) : EReal) = mu (fun j => y (ix4 b n hd j)) := by
  pointwise [MU, mu]
theorem N4_at (y : FVec Ideal S2x8192x4x512 .f32) (u : FVec Ideal S2x8192x4x1 .f32) (b : Fin 2) (n : Fin 8192) (hd : Fin 4) (j : Fin 512) :
    (N4 y u (ix4 b n hd j) : EReal) = (y (ix4 b n hd j) - u (ix4 b n hd 0)) * Ideal.rsqrt (mu (fun e => (y (ix4 b n hd e) - u (ix4 b n hd 0)) * (y (ix4 b n hd e) - u (ix4 b n hd 0))) + Ideal.ofBits .f32 0x358637BD#32) := by
  pointwise [N4, mu]
theorem N3_at (v : FVec Ideal S2x8192x4x512 .f32) (b : Fin 2) (n : Fin 8192) (k : Fin 2048) :
    (N3 v (ix3 b n k) : EReal) = v (ix4 b n ⟨k.val / 512, by omega⟩ ⟨k.val % 512, by omega⟩) :=
  join_at 4 512 v shapeCasts_S2x8192x4x512_S2x8192x2048 b n _ _ k (by show k.val = 512 * (k.val / 512) + k.val % 512; omega)
theorem Zs_at (p : FVec Ideal S2x8192x11264 .bf16) (gn : FVec Ideal S2048 .f32) (v : FVec Ideal S2x8192x2048 .f32) (b : Fin 2) (n : Fin 8192) (k : Fin 2048) :
    (Zs p gn v (ix3 b n k) : EReal) = p (ix3 b n ⟨7168 + k.val, by omega⟩) * Ideal.logistic (p (ix3 b n ⟨7168 + k.val, by omega⟩)) * (v (ix3 b n k) * gn (ix1 k)) := by
  pointwise [Zs, Ideal.logistic]
theorem MX_at (a : FVec Ideal S2x8192x1024 .bf16) (p : FVec Ideal S2x8192x11264 .bf16) (wa : FVec Ideal S1024x1024 .f32) (wb : FVec Ideal S2048x1024 .f32) (z : FVec Ideal S2x8192x2048 .f32) (b : Fin 2) (n : Fin 8192) (k : Fin 1024) :
    (MX a p wa wb z (ix3 b n k) : EReal) = mix (p (ix3 b n ⟨9216 + k.val, by omega⟩)) (p (ix3 b n ⟨10240 + k.val, by omega⟩)) (mulrow (fun e => a (ix3 b n e)) (fun e l => wa (ix2 e l)) k) (mulrow (fun e => z (ix3 b n e)) (fun e l => wb (ix2 e l)) k) := by
  pointwise [MX, mix, mulrow, Ideal.logistic]
theorem Fs_at (W : FVec Ideal S1024x1024 .f32) (u : FVec Ideal S2x8192x1024 .f32) (b : Fin 2) (n : Fin 8192) (o : Fin 1024) :
    (Fs W u (ix3 b n o) : EReal) = mulrow (fun k => u (ix3 b n k)) (fun k o => W (ix2 k o)) o := by
  pointwise [Fs, mulrow]
theorem Os_at (x : FVec Ideal S2x8192x1024 .f32) (M : FVec Ideal S2x6144 .f32) (g : FVec Ideal S1024 .f32) (f : FVec Ideal S2x8192x1024 .f32) (b : Fin 2) (n : Fin 8192) (o : Fin 1024) :
    (Os x M g f (ix3 b n o) : EReal) = close (fun e => x (ix3 b n e)) (fun e => M (ix2 b ⟨2048 + e.val, by omega⟩)) (fun e => f (ix3 b n e)) (fun e => g (ix1 e)) o := by
  pointwise [Os, close, nrm, ms]

/-- The retention's normalised gated columns, of the arguments. -/
def zOf {F : FTy → Type} [FloatOps F] (y : FVec F S2x8192x2048 .bf16) (p : FVec F S2x8192x11264 .bf16) (gn : FVec F S2048 .f32) : FVec F S2x8192x2048 .f32 :=
  Zs p gn (N3 (N4 (Y4 y) (MU (Y4 y))))
theorem zOf_at (y : FVec Ideal S2x8192x2048 .bf16) (p : FVec Ideal S2x8192x11264 .bf16) (gn : FVec Ideal S2048 .f32) (b : Fin 2) (n : Fin 8192) (k : Fin 2048) :
    (zOf y p gn (ix3 b n k) : EReal) = gret (fun k => y (ix3 b n k)) (fun k => gn (ix1 k)) (fun k => p (ix3 b n ⟨7168 + k.val, by omega⟩)) k := by
  have ek : 512 * (k.val / 512) + k.val % 512 = k.val := by omega
  rw [zOf, Zs_at, N3_at, N4_at]
  simp only [MU_at, Y4_at, gret, ghead, ek]

/-- The reference's result, composed of the stages. -/
theorem res_eq {F : FTy → Type} [FloatOps F] (m : (ℓ : Loc nD τ sig) → Buf (Elt F) ℓ) (c : Dev nD) :
    Value.res_main_v77 m c = shapeCast S16384x1024 (Os (m ((c.tc : Thread nD τ).loc main_arg0)) (m ((c.tc : Thread nD τ).loc main_arg1)) (m ((c.tc : Thread nD τ).loc main_arg9))
      (Fs (m ((c.tc : Thread nD τ).loc main_arg8)) (MX (m ((c.tc : Thread nD τ).loc main_arg2)) (m ((c.tc : Thread nD τ).loc main_arg4)) (m ((c.tc : Thread nD τ).loc main_arg6)) (m ((c.tc : Thread nD τ).loc main_arg7))
        (zOf (m ((c.tc : Thread nD τ).loc main_arg3)) (m ((c.tc : Thread nD τ).loc main_arg4)) (m ((c.tc : Thread nD τ).loc main_arg5)))))) shapeCasts_S2x8192x1024_S16384x1024 := by
  unfold Value.res_main_v77 Os Fs MX zOf Zs N3 N4 MU Y4
  rfl

/-- The reference's result at a row and lane. -/
theorem res_at (m : (ℓ : Loc nD τ sig) → Buf (Elt Ideal) ℓ) (c : Dev nD) (R : Fin 16384) (o : Fin 1024) :
    (Value.res_main_v77 m c (ix2 R o) : EReal) = mergeOut (fun b n e => (m ((c.tc : Thread nD τ).loc main_arg0) : Vec Ideal S2x8192x1024 .f32) (ix3 b n e)) (fun b j => (m ((c.tc : Thread nD τ).loc main_arg1) : Vec Ideal S2x6144 .f32) (ix2 b j))
    (fun b n e => (m ((c.tc : Thread nD τ).loc main_arg2) : Vec Ideal S2x8192x1024 .bf16) (ix3 b n e)) (fun b n e => (m ((c.tc : Thread nD τ).loc main_arg3) : Vec Ideal S2x8192x2048 .bf16) (ix3 b n e))
    (fun b n e => (m ((c.tc : Thread nD τ).loc main_arg4) : Vec Ideal S2x8192x11264 .bf16) (ix3 b n e)) (fun e => (m ((c.tc : Thread nD τ).loc main_arg5) : Vec Ideal S2048 .f32) (ix1 e))
    (fun e l => (m ((c.tc : Thread nD τ).loc main_arg6) : Vec Ideal S1024x1024 .f32) (ix2 e l)) (fun e l => (m ((c.tc : Thread nD τ).loc main_arg7) : Vec Ideal S2048x1024 .f32) (ix2 e l))
    (fun e l => (m ((c.tc : Thread nD τ).loc main_arg8) : Vec Ideal S1024x1024 .f32) (ix2 e l)) (fun e => (m ((c.tc : Thread nD τ).loc main_arg9) : Vec Ideal S1024 .f32) (ix1 e))
    ⟨R.val / 8192, by omega⟩ ⟨R.val % 8192, by omega⟩ o := by
  rw [res_eq]
  refine (flat_at _ _ R o ⟨R.val / 8192, by omega⟩ ⟨R.val % 8192, by omega⟩ (by show _ = 8192 * (R.val / 8192) + R.val % 8192; omega)).trans ?_
  rw [Os_at]
  simp only [Fs_at, MX_at, zOf_at]
  rfl
end Cert.MergeReferenceIdeal.Merge
-- ==== Proof.MergeAlg.lean ====
module
public import proofs.«01_k».proof.Defs
public import proofs.«01_k».proof.Proof.MergeRun
public import proofs.«01_k».proof.Proof.MergeRef

@[expose] public section
set_option maxRecDepth 16384
noncomputable section
open Idealize.ShloMosaic Idealize.ShloMosaic.TcCoe Idealize.SL.Sem
namespace Cert.Proof

/-- Every execution of the merge's reference ends with its arguments as launched and every semaphore at zero. -/
theorem merge_reference_frame : Cert.quiescent_MergeReferenceIdeal := fun m ρ _ =>
  (θ_run _ _ _).mono (fun r h => ⟨fun c => (h c).2, Idealize.ShloMosaic.sem_eq_zero_of_no_sems (by decide) r.2⟩) (Cert.MergeReferenceIdeal.Value.run m ρ)

/-- The merge call's results are the reference's, of any arguments. -/
theorem merge_algebraic : Cert.algebraic_MergeKernelIdeal_MergeReferenceIdeal := by
  intro m g m' g' hpre hargs
  refine ⟨fun c => (Cert.MergeKernelIdeal.Gen.dats m 0 c).arrAt 13 Cert.MergeKernelIdeal.cfg0.N, Cert.MergeKernelIdeal.Value.run_blocks m g,
    (θ_run _ _ _).mono (fun r h c => ⟨(h c).1.trans ?_, (h c).2⟩) (Cert.MergeReferenceIdeal.Value.run m' g')⟩
  refine Eq.trans ?_ (Cert.MergeKernelIdeal.Merge.arr m c).symm
  obtain ⟨h0, h1, h2, h3, h4, h5, h6, h7, h8, h9⟩ := hargs c
  funext y
  obtain ⟨R, o, rfl⟩ : ∃ (R : Fin 16384) (o : Fin 1024), y = ix2 R o := ⟨y 0, y 1, by
    funext d
    match d with
    | ⟨0, _⟩ => rfl
    | ⟨1, _⟩ => rfl⟩
  refine (Cert.MergeReferenceIdeal.Merge.res_at m' c R o).trans ?_
  rw [h0, h1, h2, h3, h4, h5, h6, h7, h8, h9]
  rfl
end Cert.Proof
-- ==== Proof.ModRun.lean ====
module
public import proofs.«01_k».proof.Proof.LayerMath
public import proofs.«01_k».proof.Proof.Gen.ModKernel.Frame
public import proofs.«01_k».proof.Proof.Gen.ModKernelIdeal.Value
public import Idealize.ShloMosaic.Lib.Pipeline.ValueKit
public import Idealize.ShloMosaic.Lib.Pointwise

@[expose] public section
set_option maxRecDepth 65536
noncomputable section
open Idealize.ShloMosaic Idealize.ShloMosaic.TcCoe Idealize.SL.Sem
namespace Cert.ModKernelIdeal.Mod
open Cert.ModKernelIdeal Cert.ModKernelIdeal.Gen Cert.Layer

/-! What the modulation call leaves in its result array. -/

theorem pay_at (x : Vec Ideal S8x1024 .f32) (w : Vec Ideal S1024x1536 .f32) (b : Vec Ideal S1x1536 .f32) (r : Fin 8) (l : Fin 1536) :
    (k0_pay1 x w b (ix2 r l) : EReal) = modrow (fun e => x (ix2 r e)) (fun e => w (ix2 e l)) (b (ix2 0 l)) := by
  pointwise [k0_pay1, modrow]

/-- A matrix read whole, at a place. -/
theorem rd {e : EltTy} {n0 n1 : Nat} (x : Vec Ideal ⟨2, ![n0, n1]⟩ e) (h) (a : Fin n0) (b : Fin n1) :
    View.ld (Val := Elt Ideal) (e' := e) x (Rect.unit (s := ⟨2, ![n0, n1]⟩) ![0, 0] ![n0, n1] h) (ix2 a b) = x (ix2 a b) := by
  refine congrArg x (funext fun d => Fin.ext ?_)
  match d with
  | ⟨0, _⟩ => show 0 + 1 * a.val = a.val; omega
  | ⟨1, _⟩ => show 0 + 1 * b.val = b.val; omega

theorem out_at (x : Vec Ideal S8x1024 .f32) (w : Vec Ideal S1024x1536 .f32) (b : Vec Ideal S1x1536 .f32) (y : S8x1536.Idx) :
    (out0_3 x w b y : EReal) = modrow (fun e => x (ix2 (y 0) e)) (fun e => w (ix2 e (y 1))) (b (ix2 0 (y 1))) := by
  unfold out0_3
  refine View.canon_eq_of_allAt _ y _ (cover0_3 _ y) ?_
  refine View.allAt_cons_unit _ _ _ _ _ ?_ (View.allAt_nil _ _)
  intro z hz
  have y0 : (y 0).val = 0 + (z 0).val := hz 0
  have y1 : (y 1).val = 0 + (z 1).val := hz 1
  obtain ⟨r, o, rfl⟩ : ∃ (r : Fin 8) (o : Fin 1536), z = ix2 r o := ⟨z 0, z 1, by
    funext d
    match d with
    | ⟨0, _⟩ => rfl
    | ⟨1, _⟩ => rfl⟩
  change (y 0).val = 0 + r.val at y0
  change (y 1).val = 0 + o.val at y1
  have er : y 0 = r := Fin.ext (by omega)
  have eo : y 1 = o := Fin.ext (by omega)
  rw [er, eo]
  refine (pay_at _ _ _ r o).trans ?_
  unfold modrow
  congr 1
  · exact Finset.sum_congr rfl fun e _ => congrArg₂ (· * ·) (congrArg (fun a => a * Ideal.logistic a) (rd x _ r e)) (rd w _ e o)
  · exact rd b _ 0 o

variable (m : (ℓ : Loc nD τ sig) → Buf (Elt Ideal) ℓ) (ρ : Dev nD → PrngReg)

/-- The conditioning vectors, one under the other, five rows of zeros after them. -/
def rows {F : FTy → Type} [FloatOps F] (a : FVec F S2x1024 .f32) (b : FVec F S1x1024 .f32) : FVec F S8x1024 .f32 :=
  pad S8x1024 ![0, 0] ![5, 0] ![0, 0] (concatenate S3x1024 0 [⟨S2x1024, a⟩, ⟨S1x1024, b⟩] concatenates_S2x1024_S1x1024_S3x1024_d0)
    (sitofp .f32 (constantI S_ 32 0#32)) pads_S3x1024_S8x1024_050_000 h_S_

theorem v1 (c : Dev nD) : V m c main_v1 = rows (F := Ideal) (m ((c.tc : Thread nD τ).loc main_arg0)) (m ((c.tc : Thread nD τ).loc main_arg1)) := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl
theorem v2 (c : Dev nD) : V m c main_v2 = shapeCast S1x6144 (m ((c.tc : Thread nD τ).loc main_arg3)) shapeCasts_S6144_S1x6144 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem tr1 : ∀ i : grid0.Coords, cc0_transform_1 i = ![0, (i 0).val] := by decide +kernel
theorem tr2 : ∀ i : grid0.Coords, cc0_transform_2 i = ![0, (i 0).val] := by decide +kernel
theorem tr3 : ∀ i : grid0.Coords, cc0_transform_3 i = ![0, (i 0).val] := by decide +kernel

variable (c : Dev nD) (t : Fin cfg0.N)
theorem pt_lt : (grid0.coords t 0).val < 4 := (grid0.coords t 0).isLt
theorem b0 (r : Fin 8) (e : Fin 1024) :
    (iblk m c 0 t (ix2 r e) : EReal) = rows (F := Ideal) (m ((c.tc : Thread nD τ).loc main_arg0)) (m ((c.tc : Thread nD τ).loc main_arg1)) (ix2 r e) := by
  have e1 : (iblk m c 0 t (ix2 r e) : EReal) = (V m c main_v1 : Vec Ideal S8x1024 .f32) (ix2 r e) := by
    blk_simp [iblk]
    refine congrArg (V m c main_v1) (funext fun a => Fin.ext ?_)
    match a with
    | ⟨0, _⟩ => show 0 * 8 + 1 * r.val = r.val; omega
    | ⟨1, _⟩ => show 0 * 1024 + 1 * e.val = e.val; omega
  rw [e1, v1]
theorem b1 (e : Fin 1024) (l : Fin 1536) (L : Fin 6144) (h : L.val = 1536 * (grid0.coords t 0).val + l.val) :
    (iblk m c 1 t (ix2 e l) : EReal) = (m ((c.tc : Thread nD τ).loc main_arg2) : Vec Ideal S1024x6144 .f32) (ix2 e L) := by
  have e1 : (iblk m c 1 t (ix2 e l) : EReal) = (V m c main_arg2 : Vec Ideal S1024x6144 .f32) (ix2 e L) := by
    blk_simp [iblk]
    refine congrArg (V m c main_arg2) (funext fun a => Fin.ext ?_)
    have ec := tr1 (grid0.coords t)
    match a with
    | ⟨0, _⟩ =>
      show cc0_transform_1 (grid0.coords t) 0 * 1024 + 1 * e.val = _
      rw [ec]; show 0 * 1024 + 1 * e.val = e.val; omega
    | ⟨1, _⟩ =>
      show cc0_transform_1 (grid0.coords t) 1 * 1536 + 1 * l.val = _
      rw [ec]; show (grid0.coords t 0).val * 1536 + 1 * l.val = L.val; omega
  rw [e1, V_main_arg2]
theorem b2 (l : Fin 1536) (L : Fin 6144) (h : L.val = 1536 * (grid0.coords t 0).val + l.val) :
    (iblk m c 2 t (ix2 0 l) : EReal) = (m ((c.tc : Thread nD τ).loc main_arg3) : Vec Ideal S6144 .f32) (ix1 L) := by
  have e1 : (iblk m c 2 t (ix2 0 l) : EReal) = (V m c main_v2 : Vec Ideal S1x6144 .f32) (ix2 0 L) := by
    blk_simp [iblk]
    refine congrArg (V m c main_v2) (funext fun a => Fin.ext ?_)
    have ec := tr2 (grid0.coords t)
    match a with
    | ⟨0, _⟩ =>
      show cc0_transform_2 (grid0.coords t) 0 * 1 + 1 * 0 = _
      rw [ec]; rfl
    | ⟨1, _⟩ =>
      show cc0_transform_2 (grid0.coords t) 1 * 1536 + 1 * l.val = _
      rw [ec]; show (grid0.coords t 0).val * 1536 + 1 * l.val = L.val; omega
  rw [e1, v2]
  pointwise []

/-- The result array at a row and a column. -/
def outArr (r : Fin 8) (L : Fin 6144) : EReal :=
  modrow (fun e => rows (F := Ideal) (m ((c.tc : Thread nD τ).loc main_arg0)) (m ((c.tc : Thread nD τ).loc main_arg1)) (ix2 r e))
    (fun e => (m ((c.tc : Thread nD τ).loc main_arg2) : Vec Ideal S1024x6144 .f32) (ix2 e L)) ((m ((c.tc : Thread nD τ).loc main_arg3) : Vec Ideal S6144 .f32) (ix1 L))

theorem arr : (dats m 0 c).arrAt 3 cfg0.N = fun y : S8x6144.Idx => outArr m c (y 0) (y 1) := by
  refine (dats m 0 c).arrAt_eq_of_covers 3 _ (by decide +kernel) fun t hf y => ?_
  rw [after0_3]
  blk_simp
  refine (out_at _ _ _ y).trans ?_
  have ec := tr3 (grid0.coords t)
  have e0 : ((win0_3.blk t).view.emb y) 0 = y 0 := by
    refine Fin.ext ?_
    show cc0_transform_3 (grid0.coords t) 0 * 8 + 1 * (y 0).val = _
    rw [ec]; show 0 * 8 + 1 * (y 0).val = _; omega
  have e1 : (((win0_3.blk t).view.emb y) 1).val = 1536 * (grid0.coords t 0).val + (y 1).val := by
    show cc0_transform_3 (grid0.coords t) 1 * 1536 + 1 * (y 1).val = _
    rw [ec]; show (grid0.coords t 0).val * 1536 + 1 * (y 1).val = _
    omega
  have e2 : outArr m c (y 0) (((win0_3.blk t).view.emb y) 1) = outArr m c (((win0_3.blk t).view.emb y) 0) (((win0_3.blk t).view.emb y) 1) := congrArg (fun a => outArr m c a _) e0.symm
  refine Eq.trans ?_ (e2.trans ?_)
  · unfold outArr
    congr 1
    · exact funext fun e => b0 m c t (y 0) e
    · exact funext fun e => b1 m c t e (y 1) _ e1
    · exact b2 m c t (y 1) _ e1
  · blk_simp
end Cert.ModKernelIdeal.Mod
-- ==== Proof.ModAlg.lean ====
module
public import proofs.«01_k».proof.Defs
public import proofs.«01_k».proof.Proof.ModRun
public import proofs.«01_k».proof.Proof.Gen.ModReferenceIdeal.Run

@[expose] public section
set_option maxRecDepth 16384
noncomputable section
open Idealize.ShloMosaic Idealize.ShloMosaic.TcCoe Idealize.SL.Sem
namespace Cert.ModReferenceIdeal.Mod
open Cert.ModReferenceIdeal Cert.ModReferenceIdeal.Gen Cert.Layer

/-- The reference's product of the padded conditioning rows, with the offset. -/
def MD {F : FTy → Type} [FloatOps F] (x : FVec F S8x1024 .f32) (w : FVec F S1024x6144 .f32) (b : FVec F S6144 .f32) : FVec F S8x6144 .f32 :=
  addf (Host.dotGeneral dot_S8x1024_S1024x6144_S8x6144_1_0_0_1_n_n none
    (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) w)
    (broadcastInDim S8x6144 ![0, 1] bcast_S1x6144_S8x6144_0_1 (broadcastInDim S1x6144 ![1] bcast_S6144_S1x6144_1 b))
theorem MD_at (x : FVec Ideal S8x1024 .f32) (w : FVec Ideal S1024x6144 .f32) (b : FVec Ideal S6144 .f32) (r : Fin 8) (l : Fin 6144) :
    (MD x w b (ix2 r l) : EReal) = modrow (fun e => x (ix2 r e)) (fun e => w (ix2 e l)) (b (ix1 l)) := by
  pointwise [MD, modrow, Ideal.logistic]
end Cert.ModReferenceIdeal.Mod

namespace Cert.Proof

/-- Every execution of the modulation's reference ends with its arguments as launched and every semaphore at zero. -/
theorem mod_reference_frame : Cert.quiescent_ModReferenceIdeal := fun m ρ _ =>
  (θ_run _ _ _).mono (fun r h => ⟨fun c => (h c).2, Idealize.ShloMosaic.sem_eq_zero_of_no_sems (by decide) r.2⟩) (Cert.ModReferenceIdeal.Value.run m ρ)

/-- The modulation call's results are the reference's, of any arguments. -/
theorem mod_algebraic : Cert.algebraic_ModKernelIdeal_ModReferenceIdeal := by
  intro m g m' g' hpre hargs
  refine ⟨fun c => (Cert.ModKernelIdeal.Gen.dats m 0 c).arrAt 3 Cert.ModKernelIdeal.cfg0.N, Cert.ModKernelIdeal.Value.run_blocks m g,
    (θ_run _ _ _).mono (fun r h c => ⟨(h c).1.trans ?_, (h c).2⟩) (Cert.ModReferenceIdeal.Value.run m' g')⟩
  refine Eq.trans ?_ (Cert.ModKernelIdeal.Mod.arr m c).symm
  obtain ⟨h0, h1, h2, h3⟩ := hargs c
  rw [h0, h1, h2, h3]
  funext y
  obtain ⟨r, o, rfl⟩ : ∃ (r : Fin 8) (o : Fin 6144), y = ix2 r o := ⟨y 0, y 1, by
    funext d
    match d with
    | ⟨0, _⟩ => rfl
    | ⟨1, _⟩ => rfl⟩
  exact Cert.ModReferenceIdeal.Mod.MD_at (Cert.ModKernelIdeal.Mod.rows (F := Ideal) _ _) _ _ r o
end Cert.Proof
-- ==== Proof.RopeRun.lean ====
module
public import proofs.«01_k».proof.Proof.LayerMath
public import proofs.«01_k».proof.Proof.Gen.RopeKernel.Frame
public import proofs.«01_k».proof.Proof.Gen.RopeKernelIdeal.Value
public import Idealize.ShloMosaic.Lib.Pipeline.ValueKit
public import Idealize.ShloMosaic.Lib.Pointwise

@[expose] public section
set_option maxRecDepth 65536
noncomputable section
open Idealize.ShloMosaic Idealize.ShloMosaic.TcCoe Idealize.SL.Sem
namespace Cert.RopeKernelIdeal.Rope
open Cert.RopeKernelIdeal Cert.RopeKernelIdeal.Gen Cert.Layer

/-! What the rotary tables' call leaves in its two result arrays. -/

/-- The cosine's block of 128 rows, from row `k` of the coarse tables. -/
def CB {F : FTy → Type} [FloatOps F] (k : Nat) (h : (S16x128 : Shape).Slices ![k, 0] S1x128) (c0 s0 : FVec F S128x128 .f32) (c1 s1 : FVec F S16x128 .f32) : FVec F S128x128 .f32 :=
  subf (mulf (broadcastTo S128x128 (extractStridedSlice S1x128 ![k, 0] c1 h) broadcasts_S1x128_S128x128) c0)
    (mulf (broadcastTo S128x128 (extractStridedSlice S1x128 ![k, 0] s1 h) broadcasts_S1x128_S128x128) s0)
/-- The sine's block of 128 rows, from row `k` of the coarse tables. -/
def SB {F : FTy → Type} [FloatOps F] (k : Nat) (h : (S16x128 : Shape).Slices ![k, 0] S1x128) (c0 s0 : FVec F S128x128 .f32) (c1 s1 : FVec F S16x128 .f32) : FVec F S128x128 .f32 :=
  addf (mulf (broadcastTo S128x128 (extractStridedSlice S1x128 ![k, 0] s1 h) broadcasts_S1x128_S128x128) c0)
    (mulf (broadcastTo S128x128 (extractStridedSlice S1x128 ![k, 0] c1 h) broadcasts_S1x128_S128x128) s0)

theorem out1_eq {F : FTy → Type} [FloatOps F] (i : grid0.Coords) (x0 : Vec F S1x128 .f32) : out0_1 i x0 = View.canon [⟨r0_16, CB 15 slices_S16x128_o15_0_S1x128 (k0_pay77 i x0) (k0_pay78 i x0) (k0_pay79 i x0) (k0_pay80 i x0)⟩,
    ⟨r0_15, CB 14 slices_S16x128_o14_0_S1x128 (k0_pay77 i x0) (k0_pay78 i x0) (k0_pay79 i x0) (k0_pay80 i x0)⟩,
    ⟨r0_14, CB 13 slices_S16x128_o13_0_S1x128 (k0_pay77 i x0) (k0_pay78 i x0) (k0_pay79 i x0) (k0_pay80 i x0)⟩,
    ⟨r0_13, CB 12 slices_S16x128_o12_0_S1x128 (k0_pay77 i x0) (k0_pay78 i x0) (k0_pay79 i x0) (k0_pay80 i x0)⟩,
    ⟨r0_12, CB 11 slices_S16x128_o11_0_S1x128 (k0_pay77 i x0) (k0_pay78 i x0) (k0_pay79 i x0) (k0_pay80 i x0)⟩,
    ⟨r0_11, CB 10 slices_S16x128_o10_0_S1x128 (k0_pay77 i x0) (k0_pay78 i x0) (k0_pay79 i x0) (k0_pay80 i x0)⟩,
    ⟨r0_10, CB 9 slices_S16x128_o9_0_S1x128 (k0_pay77 i x0) (k0_pay78 i x0) (k0_pay79 i x0) (k0_pay80 i x0)⟩,
    ⟨r0_9, CB 8 slices_S16x128_o8_0_S1x128 (k0_pay77 i x0) (k0_pay78 i x0) (k0_pay79 i x0) (k0_pay80 i x0)⟩,
    ⟨r0_8, CB 7 slices_S16x128_o7_0_S1x128 (k0_pay77 i x0) (k0_pay78 i x0) (k0_pay79 i x0) (k0_pay80 i x0)⟩,
    ⟨r0_7, CB 6 slices_S16x128_o6_0_S1x128 (k0_pay77 i x0) (k0_pay78 i x0) (k0_pay79 i x0) (k0_pay80 i x0)⟩,
    ⟨r0_6, CB 5 slices_S16x128_o5_0_S1x128 (k0_pay77 i x0) (k0_pay78 i x0) (k0_pay79 i x0) (k0_pay80 i x0)⟩,
    ⟨r0_5, CB 4 slices_S16x128_o4_0_S1x128 (k0_pay77 i x0) (k0_pay78 i x0) (k0_pay79 i x0) (k0_pay80 i x0)⟩,
    ⟨r0_4, CB 3 slices_S16x128_o3_0_S1x128 (k0_pay77 i x0) (k0_pay78 i x0) (k0_pay79 i x0) (k0_pay80 i x0)⟩,
    ⟨r0_3, CB 2 slices_S16x128_o2_0_S1x128 (k0_pay77 i x0) (k0_pay78 i x0) (k0_pay79 i x0) (k0_pay80 i x0)⟩,
    ⟨r0_2, CB 1 slices_S16x128_o1_0_S1x128 (k0_pay77 i x0) (k0_pay78 i x0) (k0_pay79 i x0) (k0_pay80 i x0)⟩,
    ⟨r0_1, CB 0 slices_S16x128_o0_0_S1x128 (k0_pay77 i x0) (k0_pay78 i x0) (k0_pay79 i x0) (k0_pay80 i x0)⟩] := by
  unfold out0_1 CB
  rfl
theorem out2_eq {F : FTy → Type} [FloatOps F] (i : grid0.Coords) (x0 : Vec F S1x128 .f32) : out0_2 i x0 = View.canon [⟨r0_16, SB 15 slices_S16x128_o15_0_S1x128 (k0_pay77 i x0) (k0_pay78 i x0) (k0_pay79 i x0) (k0_pay80 i x0)⟩,
    ⟨r0_15, SB 14 slices_S16x128_o14_0_S1x128 (k0_pay77 i x0) (k0_pay78 i x0) (k0_pay79 i x0) (k0_pay80 i x0)⟩,
    ⟨r0_14, SB 13 slices_S16x128_o13_0_S1x128 (k0_pay77 i x0) (k0_pay78 i x0) (k0_pay79 i x0) (k0_pay80 i x0)⟩,
    ⟨r0_13, SB 12 slices_S16x128_o12_0_S1x128 (k0_pay77 i x0) (k0_pay78 i x0) (k0_pay79 i x0) (k0_pay80 i x0)⟩,
    ⟨r0_12, SB 11 slices_S16x128_o11_0_S1x128 (k0_pay77 i x0) (k0_pay78 i x0) (k0_pay79 i x0) (k0_pay80 i x0)⟩,
    ⟨r0_11, SB 10 slices_S16x128_o10_0_S1x128 (k0_pay77 i x0) (k0_pay78 i x0) (k0_pay79 i x0) (k0_pay80 i x0)⟩,
    ⟨r0_10, SB 9 slices_S16x128_o9_0_S1x128 (k0_pay77 i x0) (k0_pay78 i x0) (k0_pay79 i x0) (k0_pay80 i x0)⟩,
    ⟨r0_9, SB 8 slices_S16x128_o8_0_S1x128 (k0_pay77 i x0) (k0_pay78 i x0) (k0_pay79 i x0) (k0_pay80 i x0)⟩,
    ⟨r0_8, SB 7 slices_S16x128_o7_0_S1x128 (k0_pay77 i x0) (k0_pay78 i x0) (k0_pay79 i x0) (k0_pay80 i x0)⟩,
    ⟨r0_7, SB 6 slices_S16x128_o6_0_S1x128 (k0_pay77 i x0) (k0_pay78 i x0) (k0_pay79 i x0) (k0_pay80 i x0)⟩,
    ⟨r0_6, SB 5 slices_S16x128_o5_0_S1x128 (k0_pay77 i x0) (k0_pay78 i x0) (k0_pay79 i x0) (k0_pay80 i x0)⟩,
    ⟨r0_5, SB 4 slices_S16x128_o4_0_S1x128 (k0_pay77 i x0) (k0_pay78 i x0) (k0_pay79 i x0) (k0_pay80 i x0)⟩,
    ⟨r0_4, SB 3 slices_S16x128_o3_0_S1x128 (k0_pay77 i x0) (k0_pay78 i x0) (k0_pay79 i x0) (k0_pay80 i x0)⟩,
    ⟨r0_3, SB 2 slices_S16x128_o2_0_S1x128 (k0_pay77 i x0) (k0_pay78 i x0) (k0_pay79 i x0) (k0_pay80 i x0)⟩,
    ⟨r0_2, SB 1 slices_S16x128_o1_0_S1x128 (k0_pay77 i x0) (k0_pay78 i x0) (k0_pay79 i x0) (k0_pay80 i x0)⟩,
    ⟨r0_1, SB 0 slices_S16x128_o0_0_S1x128 (k0_pay77 i x0) (k0_pay78 i x0) (k0_pay79 i x0) (k0_pay80 i x0)⟩] := by
  unfold out0_2 SB
  rfl

theorem CB_at (k : Nat) (hk : k < 16) (h) (c0 s0 : FVec Ideal S128x128 .f32) (c1 s1 : FVec Ideal S16x128 .f32) (r l : Fin 128) :
    (CB k h c0 s0 c1 s1 (ix2 r l) : EReal) = c1 (ix2 ⟨k, hk⟩ l) * c0 (ix2 r l) - s1 (ix2 ⟨k, hk⟩ l) * s0 (ix2 r l) := by
  pointwise [CB]
theorem SB_at (k : Nat) (hk : k < 16) (h) (c0 s0 : FVec Ideal S128x128 .f32) (c1 s1 : FVec Ideal S16x128 .f32) (r l : Fin 128) :
    (SB k h c0 s0 c1 s1 (ix2 r l) : EReal) = s1 (ix2 ⟨k, hk⟩ l) * c0 (ix2 r l) + c1 (ix2 ⟨k, hk⟩ l) * s0 (ix2 r l) := by
  pointwise [SB]
theorem lo_at (r l : Fin 128) : (k0_pay11 (F := Ideal) (ix2 r l) : EReal) = ((r.val : ℝ) : EReal) := by
  pointwise [k0_pay11]
  show ((((BitVec.ofNat 32 r.val).toInt : ℤ) : ℝ) : EReal) = _
  have e : (BitVec.ofNat 32 r.val).toInt = (r.val : ℤ) := by
    rw [BitVec.toInt_eq_toNat_of_lt (by rw [BitVec.toNat_ofNat]; omega), BitVec.toNat_ofNat]; omega
  rw [e, Int.cast_natCast]
theorem hi_at (i : grid0.Coords) (k : Fin 16) (l : Fin 128) : (k0_pay12 (F := Ideal) i (ix2 k l) : EReal) = (((128 * (16 * (i 0).val + k.val) : Nat) : ℝ) : EReal) := by
  pointwise [k0_pay12]
  show (((((BitVec.ofNat 32 (i 0).val * 16#32 + BitVec.ofNat 32 k.val) * 128#32).toInt : ℤ) : ℝ) : EReal) = _
  have hi : (i 0).val < 8 := (i 0).isLt
  have n : ((BitVec.ofNat 32 (i 0).val * 16#32 + BitVec.ofNat 32 k.val) * 128#32).toNat = 128 * (16 * (i 0).val + k.val) := by
    simp only [BitVec.toNat_mul, BitVec.toNat_add, BitVec.toNat_ofNat]; omega
  have e : ((BitVec.ofNat 32 (i 0).val * 16#32 + BitVec.ofNat 32 k.val) * 128#32).toInt = ((128 * (16 * (i 0).val + k.val) : Nat) : ℤ) := by
    rw [BitVec.toInt_eq_toNat_of_lt (by rw [n]; omega), n]
  rw [e, Int.cast_natCast]
theorem inv_at (x0 : Vec Ideal S1x128 .f32) (l : Fin 128) : (k0_pay10 x0 (ix2 0 l) : EReal) = x0 (ix2 0 l) := by
  pointwise [k0_pay10]
theorem c0_at (x0 : Vec Ideal S1x128 .f32) (r l : Fin 128) : (k0_pay13 x0 (ix2 r l) : EReal) = Ideal.cos (((r.val : ℝ) : EReal) * x0 (ix2 0 l)) := by
  refine Eq.trans (b := Ideal.cos (k0_pay11 (F := Ideal) (ix2 r l) * k0_pay10 x0 (ix2 0 l))) ?_ (by rw [lo_at, inv_at])
  pointwise [k0_pay13]
theorem s0_at (x0 : Vec Ideal S1x128 .f32) (r l : Fin 128) : (k0_pay14 x0 (ix2 r l) : EReal) = Ideal.sin (((r.val : ℝ) : EReal) * x0 (ix2 0 l)) := by
  refine Eq.trans (b := Ideal.sin (k0_pay11 (F := Ideal) (ix2 r l) * k0_pay10 x0 (ix2 0 l))) ?_ (by rw [lo_at, inv_at])
  pointwise [k0_pay14]
theorem c1_at (i : grid0.Coords) (x0 : Vec Ideal S1x128 .f32) (k : Fin 16) (l : Fin 128) : (k0_pay15 i x0 (ix2 k l) : EReal) = Ideal.cos ((((128 * (16 * (i 0).val + k.val) : Nat) : ℝ) : EReal) * x0 (ix2 0 l)) := by
  refine Eq.trans (b := Ideal.cos (k0_pay12 (F := Ideal) i (ix2 k l) * k0_pay10 x0 (ix2 0 l))) ?_ (by rw [hi_at, inv_at])
  pointwise [k0_pay15]
theorem s1_at (i : grid0.Coords) (x0 : Vec Ideal S1x128 .f32) (k : Fin 16) (l : Fin 128) : (k0_pay16 i x0 (ix2 k l) : EReal) = Ideal.sin ((((128 * (16 * (i 0).val + k.val) : Nat) : ℝ) : EReal) * x0 (ix2 0 l)) := by
  refine Eq.trans (b := Ideal.sin (k0_pay12 (F := Ideal) i (ix2 k l) * k0_pay10 x0 (ix2 0 l))) ?_ (by rw [hi_at, inv_at])
  pointwise [k0_pay16]

/-- The cosine of a sum, of a real frequency. -/
theorem cos_sum (a b n : Nat) (x : EReal) (hx : ∃ w : ℝ, x = w) (h : n = a + b) :
    Ideal.cos (((a : ℝ) : EReal) * x) * Ideal.cos (((b : ℝ) : EReal) * x) - Ideal.sin (((a : ℝ) : EReal) * x) * Ideal.sin (((b : ℝ) : EReal) * x) = Ideal.cos (((n : ℝ) : EReal) * x) := by
  obtain ⟨w, rfl⟩ := hx
  subst h
  rw [← EReal.coe_mul, ← EReal.coe_mul, ← EReal.coe_mul]
  show ((Real.cos (a * w) : ℝ) : EReal) * ((Real.cos (b * w) : ℝ) : EReal) - ((Real.sin (a * w) : ℝ) : EReal) * ((Real.sin (b * w) : ℝ) : EReal) = ((Real.cos (((a + b : Nat) : ℝ) * w) : ℝ) : EReal)
  rw [← EReal.coe_mul, ← EReal.coe_mul, ← EReal.coe_sub]
  congr 1
  push_cast
  rw [add_mul, Real.cos_add]
/-- The sine of a sum, of a real frequency. -/
theorem sin_sum (a b n : Nat) (x : EReal) (hx : ∃ w : ℝ, x = w) (h : n = a + b) :
    Ideal.sin (((a : ℝ) : EReal) * x) * Ideal.cos (((b : ℝ) : EReal) * x) + Ideal.cos (((a : ℝ) : EReal) * x) * Ideal.sin (((b : ℝ) : EReal) * x) = Ideal.sin (((n : ℝ) : EReal) * x) := by
  obtain ⟨w, rfl⟩ := hx
  subst h
  rw [← EReal.coe_mul, ← EReal.coe_mul, ← EReal.coe_mul]
  show ((Real.sin (a * w) : ℝ) : EReal) * ((Real.cos (b * w) : ℝ) : EReal) + ((Real.cos (a * w) : ℝ) : EReal) * ((Real.sin (b * w) : ℝ) : EReal) = ((Real.sin (((a + b : Nat) : ℝ) * w) : ℝ) : EReal)
  rw [← EReal.coe_mul, ← EReal.coe_mul, ← EReal.coe_add]
  congr 1
  push_cast
  rw [add_mul, Real.sin_add]

/-- The one row of a table read whole. -/
theorem rd (x : Vec Ideal S1x128 .f32) (l : Fin 128) : View.ld (Val := Elt Ideal) (e' := .f32) x r0_0 (ix2 0 l) = x (ix2 0 l) := by
  refine congrArg x (funext fun d => Fin.ext ?_)
  match d with
  | ⟨0, _⟩ => rfl
  | ⟨1, _⟩ => show 0 + 1 * l.val = l.val; omega

theorem cb_t (k : Nat) (hk : k < 16) (h) (i : grid0.Coords) (x0 : Vec Ideal S1x128 .f32) (hx : ∀ l : Fin 128, ∃ w : ℝ, (x0 (ix2 0 l) : EReal) = w) (y : S2048x128.Idx) :
    View.TileAt (Val := Elt Ideal) (e := .f32) y ![128 * k, 0] S128x128.size (CB k h (k0_pay77 i x0) (k0_pay78 i x0) (k0_pay79 i x0) (k0_pay80 i x0))
      (Ideal.cos ((((2048 * (i 0).val + (y 0).val : Nat) : ℝ) : EReal) * x0 (ix2 0 (y 1)))) := by
  intro z hz
  have y0 : (y 0).val = 128 * k + (z 0).val := hz 0
  have y1 : (y 1).val = 0 + (z 1).val := hz 1
  obtain ⟨r, o, rfl⟩ : ∃ (r o : Fin 128), z = ix2 r o := ⟨z 0, z 1, by
    funext d
    match d with
    | ⟨0, _⟩ => rfl
    | ⟨1, _⟩ => rfl⟩
  change (y 0).val = 128 * k + r.val at y0
  change (y 1).val = 0 + o.val at y1
  have eo : y 1 = o := Fin.ext (by omega)
  refine (CB_at k hk h _ _ _ _ r o).trans ?_
  unfold k0_pay77 k0_pay78 k0_pay79 k0_pay80
  rw [c0_at, s0_at, c1_at, s1_at, rd, eo]
  exact cos_sum _ _ _ _ (hx o) (by show _ = 128 * (16 * (i 0).val + k) + r.val; omega)
theorem cb_out (i : grid0.Coords) (x0 : Vec Ideal S1x128 .f32) (hx : ∀ l : Fin 128, ∃ w : ℝ, (x0 (ix2 0 l) : EReal) = w) (y : S2048x128.Idx) :
    (out0_1 i x0 y : EReal) = Ideal.cos ((((2048 * (i 0).val + (y 0).val : Nat) : ℝ) : EReal) * x0 (ix2 0 (y 1))) := by
  rw [out1_eq]
  refine View.canon_eq_of_allAt _ y _ (cover0_1 _ _ _ _ _ _ _ _ _ _ _ _ _ _ _ _ y) ?_
  refine View.allAt_cons_unit _ _ _ _ _ (cb_t 15 (by decide) slices_S16x128_o15_0_S1x128 i x0 hx y) ?_
  refine View.allAt_cons_unit _ _ _ _ _ (cb_t 14 (by decide) slices_S16x128_o14_0_S1x128 i x0 hx y) ?_
  refine View.allAt_cons_unit _ _ _ _ _ (cb_t 13 (by decide) slices_S16x128_o13_0_S1x128 i x0 hx y) ?_
  refine View.allAt_cons_unit _ _ _ _ _ (cb_t 12 (by decide) slices_S16x128_o12_0_S1x128 i x0 hx y) ?_
  refine View.allAt_cons_unit _ _ _ _ _ (cb_t 11 (by decide) slices_S16x128_o11_0_S1x128 i x0 hx y) ?_
  refine View.allAt_cons_unit _ _ _ _ _ (cb_t 10 (by decide) slices_S16x128_o10_0_S1x128 i x0 hx y) ?_
  refine View.allAt_cons_unit _ _ _ _ _ (cb_t 9 (by decide) slices_S16x128_o9_0_S1x128 i x0 hx y) ?_
  refine View.allAt_cons_unit _ _ _ _ _ (cb_t 8 (by decide) slices_S16x128_o8_0_S1x128 i x0 hx y) ?_
  refine View.allAt_cons_unit _ _ _ _ _ (cb_t 7 (by decide) slices_S16x128_o7_0_S1x128 i x0 hx y) ?_
  refine View.allAt_cons_unit _ _ _ _ _ (cb_t 6 (by decide) slices_S16x128_o6_0_S1x128 i x0 hx y) ?_
  refine View.allAt_cons_unit _ _ _ _ _ (cb_t 5 (by decide) slices_S16x128_o5_0_S1x128 i x0 hx y) ?_
  refine View.allAt_cons_unit _ _ _ _ _ (cb_t 4 (by decide) slices_S16x128_o4_0_S1x128 i x0 hx y) ?_
  refine View.allAt_cons_unit _ _ _ _ _ (cb_t 3 (by decide) slices_S16x128_o3_0_S1x128 i x0 hx y) ?_
  refine View.allAt_cons_unit _ _ _ _ _ (cb_t 2 (by decide) slices_S16x128_o2_0_S1x128 i x0 hx y) ?_
  refine View.allAt_cons_unit _ _ _ _ _ (cb_t 1 (by decide) slices_S16x128_o1_0_S1x128 i x0 hx y) ?_
  refine View.allAt_cons_unit _ _ _ _ _ (cb_t 0 (by decide) slices_S16x128_o0_0_S1x128 i x0 hx y) ?_
  exact View.allAt_nil _ _

theorem sb_t (k : Nat) (hk : k < 16) (h) (i : grid0.Coords) (x0 : Vec Ideal S1x128 .f32) (hx : ∀ l : Fin 128, ∃ w : ℝ, (x0 (ix2 0 l) : EReal) = w) (y : S2048x128.Idx) :
    View.TileAt (Val := Elt Ideal) (e := .f32) y ![128 * k, 0] S128x128.size (SB k h (k0_pay77 i x0) (k0_pay78 i x0) (k0_pay79 i x0) (k0_pay80 i x0))
      (Ideal.sin ((((2048 * (i 0).val + (y 0).val : Nat) : ℝ) : EReal) * x0 (ix2 0 (y 1)))) := by
  intro z hz
  have y0 : (y 0).val = 128 * k + (z 0).val := hz 0
  have y1 : (y 1).val = 0 + (z 1).val := hz 1
  obtain ⟨r, o, rfl⟩ : ∃ (r o : Fin 128), z = ix2 r o := ⟨z 0, z 1, by
    funext d
    match d with
    | ⟨0, _⟩ => rfl
    | ⟨1, _⟩ => rfl⟩
  change (y 0).val = 128 * k + r.val at y0
  change (y 1).val = 0 + o.val at y1
  have eo : y 1 = o := Fin.ext (by omega)
  refine (SB_at k hk h _ _ _ _ r o).trans ?_
  unfold k0_pay77 k0_pay78 k0_pay79 k0_pay80
  rw [c0_at, s0_at, c1_at, s1_at, rd, eo]
  exact sin_sum _ _ _ _ (hx o) (by show _ = 128 * (16 * (i 0).val + k) + r.val; omega)
theorem sb_out (i : grid0.Coords) (x0 : Vec Ideal S1x128 .f32) (hx : ∀ l : Fin 128, ∃ w : ℝ, (x0 (ix2 0 l) : EReal) = w) (y : S2048x128.Idx) :
    (out0_2 i x0 y : EReal) = Ideal.sin ((((2048 * (i 0).val + (y 0).val : Nat) : ℝ) : EReal) * x0 (ix2 0 (y 1))) := by
  rw [out2_eq]
  refine View.canon_eq_of_allAt _ y _ (cover0_2 _ _ _ _ _ _ _ _ _ _ _ _ _ _ _ _ y) ?_
  refine View.allAt_cons_unit _ _ _ _ _ (sb_t 15 (by decide) slices_S16x128_o15_0_S1x128 i x0 hx y) ?_
  refine View.allAt_cons_unit _ _ _ _ _ (sb_t 14 (by decide) slices_S16x128_o14_0_S1x128 i x0 hx y) ?_
  refine View.allAt_cons_unit _ _ _ _ _ (sb_t 13 (by decide) slices_S16x128_o13_0_S1x128 i x0 hx y) ?_
  refine View.allAt_cons_unit _ _ _ _ _ (sb_t 12 (by decide) slices_S16x128_o12_0_S1x128 i x0 hx y) ?_
  refine View.allAt_cons_unit _ _ _ _ _ (sb_t 11 (by decide) slices_S16x128_o11_0_S1x128 i x0 hx y) ?_
  refine View.allAt_cons_unit _ _ _ _ _ (sb_t 10 (by decide) slices_S16x128_o10_0_S1x128 i x0 hx y) ?_
  refine View.allAt_cons_unit _ _ _ _ _ (sb_t 9 (by decide) slices_S16x128_o9_0_S1x128 i x0 hx y) ?_
  refine View.allAt_cons_unit _ _ _ _ _ (sb_t 8 (by decide) slices_S16x128_o8_0_S1x128 i x0 hx y) ?_
  refine View.allAt_cons_unit _ _ _ _ _ (sb_t 7 (by decide) slices_S16x128_o7_0_S1x128 i x0 hx y) ?_
  refine View.allAt_cons_unit _ _ _ _ _ (sb_t 6 (by decide) slices_S16x128_o6_0_S1x128 i x0 hx y) ?_
  refine View.allAt_cons_unit _ _ _ _ _ (sb_t 5 (by decide) slices_S16x128_o5_0_S1x128 i x0 hx y) ?_
  refine View.allAt_cons_unit _ _ _ _ _ (sb_t 4 (by decide) slices_S16x128_o4_0_S1x128 i x0 hx y) ?_
  refine View.allAt_cons_unit _ _ _ _ _ (sb_t 3 (by decide) slices_S16x128_o3_0_S1x128 i x0 hx y) ?_
  refine View.allAt_cons_unit _ _ _ _ _ (sb_t 2 (by decide) slices_S16x128_o2_0_S1x128 i x0 hx y) ?_
  refine View.allAt_cons_unit _ _ _ _ _ (sb_t 1 (by decide) slices_S16x128_o1_0_S1x128 i x0 hx y) ?_
  refine View.allAt_cons_unit _ _ _ _ _ (sb_t 0 (by decide) slices_S16x128_o0_0_S1x128 i x0 hx y) ?_
  exact View.allAt_nil _ _

/-- The 128 frequencies: one over the base to the power `d / 128`. -/
def freq {F : FTy → Type} [FloatOps F] : FVec F S128 .f32 :=
  Host.divf (broadcastInDim S128 ![] bcast_S_S128 (constant S_ .f32 0x3F800000#32)) (Host.powf (broadcastInDim S128 ![] bcast_S_S128 (constant S_ .f32 0x461C4000#32)) (Host.divf (sitofp .f32 (iotaInDim S128 32 0)) (broadcastInDim S128 ![] bcast_S_S128 (constant S_ .f32 0x43000000#32))))
theorem base_eq : (Ideal.ofBits .f32 0x461C4000#32 : EReal) = ((10000 : ℝ) : EReal) := by
  simp [Ideal.ofBits, Ideal.ieee, -EReal.coe_mul]
  norm_num
theorem one_eq : (Ideal.ofBits .f32 0x3F800000#32 : EReal) = ((1 : ℝ) : EReal) := by
  refine Eq.trans (b := (((8388608 : ℝ) * (2 ^ 23)⁻¹ : ℝ) : EReal)) ?_ (congrArg _ (by norm_num))
  simp [Ideal.ofBits, Ideal.ieee]
theorem width_eq : (Ideal.ofBits .f32 0x43000000#32 : EReal) = ((128 : ℝ) : EReal) := by
  simp [Ideal.ofBits, Ideal.ieee, -EReal.coe_mul]
  norm_num
/-- A quotient of reals by a real other than zero is a real. -/
theorem div_real (a b : ℝ) (hb : b ≠ 0) : Ideal.div (a : EReal) (b : EReal) = ((a * b⁻¹ : ℝ) : EReal) := by
  unfold Ideal.div
  rw [if_neg (by exact_mod_cast hb), ← EReal.coe_inv, ← EReal.coe_mul]
/-- Every frequency is a real. -/
theorem freq_real (l : Fin 128) : ∃ w : ℝ, (freq (F := Ideal) (ix1 l) : EReal) = w := by
  have e : (freq (F := Ideal) (ix1 l) : EReal) = Ideal.div (Ideal.ofBits .f32 0x3F800000#32) (Ideal.pow (Ideal.ofBits .f32 0x461C4000#32) (Ideal.div ((((BitVec.ofNat 32 l.val).toInt : ℝ)) : EReal) (Ideal.ofBits .f32 0x43000000#32))) := by
    rfl
  rw [e, base_eq, width_eq, one_eq, div_real _ _ (by norm_num)]
  show ∃ w : ℝ, Ideal.div ((1 : ℝ) : EReal) ((Real.rpow 10000 _ : ℝ) : EReal) = w
  exact ⟨_, div_real _ _ (ne_of_gt (Real.rpow_pos_of_pos (by norm_num) _))⟩

variable (m : (ℓ : Loc nD τ sig) → Buf (Elt Ideal) ℓ) (ρ : Dev nD → PrngReg)

theorem v7 (c : Dev nD) : V m c main_v7 = shapeCast S1x128 (freq (F := Ideal)) shapeCasts_S128_S1x128 := by
  show StableHlo.after hostOps0 _ _ = _
  simp only [hostOps0]
  after_results_simp
  rfl
theorem tr1 : ∀ i : grid0.Coords, cc0_transform_1 i = ![(i 0).val, 0] := by decide +kernel
theorem tr2 : ∀ i : grid0.Coords, cc0_transform_2 i = ![(i 0).val, 0] := by decide +kernel

variable (c : Dev nD) (t : Fin cfg0.N)
theorem b0 (l : Fin 128) : (iblk m c 0 t (ix2 0 l) : EReal) = freq (F := Ideal) (ix1 l) := by
  have e1 : (iblk m c 0 t (ix2 0 l) : EReal) = (V m c main_v7 : Vec Ideal S1x128 .f32) (ix2 0 l) := by
    blk_simp [iblk]
    refine congrArg (V m c main_v7) (funext fun a => Fin.ext ?_)
    match a with
    | ⟨0, _⟩ => rfl
    | ⟨1, _⟩ => show 0 * 128 + 1 * l.val = l.val; omega
  rw [e1, v7]
  pointwise

/-- The cosine of every position's angles. -/
theorem arr1 : (dats m 0 c).arrAt 1 cfg0.N = fun y : S16384x128.Idx => Ideal.cos ((((y 0).val : ℝ) : EReal) * freq (F := Ideal) (ix1 (y 1))) := by
  refine (dats m 0 c).arrAt_eq_of_covers 1 _ (by decide +kernel) fun t hf y => ?_
  rw [after0_1]
  blk_simp
  refine (cb_out _ _ (fun l => by rw [b0]; exact freq_real l) y).trans ?_
  have ec := tr1 (grid0.coords t)
  have e0 : (((win0_1.blk t).view.emb y) 0).val = 2048 * (grid0.coords t 0).val + (y 0).val := by
    show cc0_transform_1 (grid0.coords t) 0 * 2048 + 1 * (y 0).val = _
    rw [ec]; show (grid0.coords t 0).val * 2048 + 1 * (y 0).val = _; omega
  have e1 : ((win0_1.blk t).view.emb y) 1 = y 1 := by
    refine Fin.ext ?_
    show cc0_transform_1 (grid0.coords t) 1 * 128 + 1 * (y 1).val = _
    rw [ec]; show 0 * 128 + 1 * (y 1).val = _; omega
  refine Eq.trans (b := Ideal.cos (((((win0_1.blk t).view.emb y) 0).val : ℝ) * freq (F := Ideal) (ix1 (((win0_1.blk t).view.emb y) 1)))) ?_ (by blk_simp)
  rw [e0]
  exact congrArg (fun a => Ideal.cos (_ * a)) ((b0 m c t (y 1)).trans (congrArg (fun a => freq (F := Ideal) (ix1 a)) e1.symm))

/-- The sine of every position's angles. -/
theorem arr2 : (dats m 0 c).arrAt 2 cfg0.N = fun y : S16384x128.Idx => Ideal.sin ((((y 0).val : ℝ) : EReal) * freq (F := Ideal) (ix1 (y 1))) := by
  refine (dats m 0 c).arrAt_eq_of_covers 2 _ (by decide +kernel) fun t hf y => ?_
  rw [after0_2]
  blk_simp
  refine (sb_out _ _ (fun l => by rw [b0]; exact freq_real l) y).trans ?_
  have ec := tr2 (grid0.coords t)
  have e0 : (((win0_2.blk t).view.emb y) 0).val = 2048 * (grid0.coords t 0).val + (y 0).val := by
    show cc0_transform_2 (grid0.coords t) 0 * 2048 + 1 * (y 0).val = _
    rw [ec]; show (grid0.coords t 0).val * 2048 + 1 * (y 0).val = _; omega
  have e1 : ((win0_2.blk t).view.emb y) 1 = y 1 := by
    refine Fin.ext ?_
    show cc0_transform_2 (grid0.coords t) 1 * 128 + 1 * (y 1).val = _
    rw [ec]; show 0 * 128 + 1 * (y 1).val = _; omega
  refine Eq.trans (b := Ideal.sin (((((win0_2.blk t).view.emb y) 0).val : ℝ) * freq (F := Ideal) (ix1 (((win0_2.blk t).view.emb y) 1)))) ?_ (by blk_simp)
  rw [e0]
  exact congrArg (fun a => Ideal.sin (_ * a)) ((b0 m c t (y 1)).trans (congrArg (fun a => freq (F := Ideal) (ix1 a)) e1.symm))
end Cert.RopeKernelIdeal.Rope
-- ==== Proof.RopeAlg.lean ====
module
public import proofs.«01_k».proof.Defs
public import proofs.«01_k».proof.Proof.RopeRun
public import proofs.«01_k».proof.Proof.Gen.RopeReferenceIdeal.Run

@[expose] public section
set_option maxRecDepth 16384
noncomputable section
open Idealize.ShloMosaic Idealize.ShloMosaic.TcCoe Idealize.SL.Sem
namespace Cert.RopeReferenceIdeal.Rope
open Cert.RopeReferenceIdeal Cert.RopeReferenceIdeal.Gen Cert.Layer

/-- The reference's cosines of every position times every frequency. -/
def CT {F : FTy → Type} [FloatOps F] (f : FVec F S128 .f32) : FVec F S16384x128 .f32 :=
  Host.cos (mulf (broadcastInDim S16384x128 ![0, 1] bcast_S16384x1_S16384x128_0_1 (broadcastInDim S16384x1 ![0] bcast_S16384_S16384x1_0 (sitofp .f32 (iotaInDim S16384 32 0)))) (broadcastInDim S16384x128 ![0, 1] bcast_S1x128_S16384x128_0_1 (broadcastInDim S1x128 ![1] bcast_S128_S1x128_1 f)))
/-- The reference's sines of every position times every frequency. -/
def ST {F : FTy → Type} [FloatOps F] (f : FVec F S128 .f32) : FVec F S16384x128 .f32 :=
  Host.sin (mulf (broadcastInDim S16384x128 ![0, 1] bcast_S16384x1_S16384x128_0_1 (broadcastInDim S16384x1 ![0] bcast_S16384_S16384x1_0 (sitofp .f32 (iotaInDim S16384 32 0)))) (broadcastInDim S16384x128 ![0, 1] bcast_S1x128_S16384x128_0_1 (broadcastInDim S1x128 ![1] bcast_S128_S1x128_1 f)))
/-- A position as a float is the position. -/
theorem pos_at (r : Fin 16384) : (FloatOps.sitofp (F := Ideal) FTy.f32 (BitVec.ofNat 32 r.val) : EReal) = ((r.val : ℝ) : EReal) := by
  show ((((BitVec.ofNat 32 r.val).toInt : ℤ) : ℝ) : EReal) = _
  have e : (BitVec.ofNat 32 r.val).toInt = (r.val : ℤ) := by
    rw [BitVec.toInt_eq_toNat_of_lt (by rw [BitVec.toNat_ofNat]; omega), BitVec.toNat_ofNat]; omega
  rw [e, Int.cast_natCast]
theorem CT_at (f : FVec Ideal S128 .f32) (r : Fin 16384) (l : Fin 128) : (CT f (ix2 r l) : EReal) = Ideal.cos (((r.val : ℝ) : EReal) * f (ix1 l)) := by
  rw [← pos_at]
  pointwise [CT]
theorem ST_at (f : FVec Ideal S128 .f32) (r : Fin 16384) (l : Fin 128) : (ST f (ix2 r l) : EReal) = Ideal.sin (((r.val : ℝ) : EReal) * f (ix1 l)) := by
  rw [← pos_at]
  pointwise [ST]
end Cert.RopeReferenceIdeal.Rope

namespace Cert.Proof

/-- Every execution of the rotary tables' reference ends with every semaphore at zero. -/
theorem rope_reference_frame : Cert.quiescent_RopeReferenceIdeal := fun m ρ _ =>
  (θ_run _ _ _).mono (fun r h => ⟨fun _ => trivial, Idealize.ShloMosaic.sem_eq_zero_of_no_sems (by decide) r.2⟩) (Cert.RopeReferenceIdeal.Value.run m ρ)

/-- The rotary tables' results are the reference's. -/
theorem rope_algebraic : Cert.algebraic_RopeKernelIdeal_RopeReferenceIdeal := by
  intro m g m' g' hpre hargs
  refine ⟨fun c => (Cert.RopeKernelIdeal.Gen.dats m 0 c).arrAt 1 Cert.RopeKernelIdeal.cfg0.N, fun c => (Cert.RopeKernelIdeal.Gen.dats m 0 c).arrAt 2 Cert.RopeKernelIdeal.cfg0.N, Cert.RopeKernelIdeal.Value.run_blocks m g,
    (θ_run _ _ _).mono (fun r h c => ⟨(h c).1.trans ?_, (h c).2.trans ?_⟩) (Cert.RopeReferenceIdeal.Value.run m' g')⟩
  · refine Eq.trans ?_ (Cert.RopeKernelIdeal.Rope.arr1 m c).symm
    funext y
    obtain ⟨r, o, rfl⟩ : ∃ (r : Fin 16384) (o : Fin 128), y = ix2 r o := ⟨y 0, y 1, by
      funext d
      match d with
      | ⟨0, _⟩ => rfl
      | ⟨1, _⟩ => rfl⟩
    exact Cert.RopeReferenceIdeal.Rope.CT_at (Cert.RopeKernelIdeal.Rope.freq (F := Ideal)) r o
  · refine Eq.trans ?_ (Cert.RopeKernelIdeal.Rope.arr2 m c).symm
    funext y
    obtain ⟨r, o, rfl⟩ : ∃ (r : Fin 16384) (o : Fin 128), y = ix2 r o := ⟨y 0, y 1, by
      funext d
      match d with
      | ⟨0, _⟩ => rfl
      | ⟨1, _⟩ => rfl⟩
    exact Cert.RopeReferenceIdeal.Rope.ST_at (Cert.RopeKernelIdeal.Rope.freq (F := Ideal)) r o
end Cert.Proof
-- ==== Proof.RetChunk.lean ====
/- The retention kernel's body as a loop over the chunks of a block: the pure values of one chunk, the program of one
   chunk, and the printed body as the chunks in order. -/
module

public import proofs.«01_k».proof.Proof.Gen.RetKernelIdeal.Frame

@[expose] public section

set_option maxRecDepth 16384

noncomputable section

namespace Cert.RetKernelIdeal.Chunk

open Cert.RetKernelIdeal Cert.RetKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The decays, from a direction's logit -/

/-- The logarithm of the decay: the logarithm of the logit's sigmoid. -/
def logDecay (x : Vec F S1x1x1x1 .f32) : FVec F S1x1 .f32 :=
  subf (minimumf (shapeCast S1x1 x shapeCasts_S1x1x1x1_S1x1) (broadcast S1x1 (Scalar.ofBits .f32 0x00000000#32)))
    (log1p (exp (subf (broadcast S1x1 (Scalar.ofBits .f32 0x00000000#32)) (absf (shapeCast S1x1 x shapeCasts_S1x1x1x1_S1x1)))))

/-- The positions within a chunk. -/
def posn : FVec F S256x1 .f32 := sitofp .f32 (iota .tc S256x1 32 [0] iota_S256x1_d0_w32)

/-- Forward: the decay of the state met by a row; -/
def xiF (g : FVec F S1x1 .f32) : FVec F S256x1 .f32 :=
  exp (mulf (addf posn (broadcast S256x1 (Scalar.ofBits .f32 0x3F800000#32))) (broadcastTo S256x1 g broadcasts_S1x1_S256x1))
/-- of a row's product on its way to the chunk's end; -/
def zetaF (g : FVec F S1x1 .f32) : FVec F S256x1 .f32 :=
  exp (mulf (subf (broadcast S256x1 (Scalar.ofBits .f32 0x437F0000#32)) posn) (broadcastTo S256x1 g broadcasts_S1x1_S256x1))
/-- the distance of two rows, -/
def relF : FVec F S256x256 .f32 :=
  sitofp .f32 (subi (iota .tc S256x256 32 [0] iota_S256x256_d0_w32) (iota .tc S256x256 32 [1] iota_S256x256_d1_w32))
/-- which pairs count, -/
def maskF : IVec S256x256 1 := cmpf .oge (relF (F := F)) (broadcast S256x256 (Scalar.ofBits .f32 0x00000000#32))
/-- and the decay between two rows of a chunk. -/
def decF (g : FVec F S1x1 .f32) : FVec F S256x256 .f32 :=
  select (maskF (F := F)) (exp (mulf (select (maskF (F := F)) relF (broadcast S256x256 (Scalar.ofBits .f32 0x00000000#32))) (broadcastTo S256x256 g broadcasts_S1x1_S256x256)))
    (broadcast S256x256 (Scalar.ofBits .f32 0x00000000#32))

/-- Backward: the same four. -/
def xiB (g : FVec F S1x1 .f32) : FVec F S256x1 .f32 :=
  exp (mulf (subf (broadcast S256x1 (Scalar.ofBits .f32 0x43800000#32)) posn) (broadcastTo S256x1 g broadcasts_S1x1_S256x1))
def zetaB (g : FVec F S1x1 .f32) : FVec F S256x1 .f32 :=
  exp (mulf posn (broadcastTo S256x1 g broadcasts_S1x1_S256x1))
def relB : FVec F S256x256 .f32 :=
  sitofp .f32 (subi (iota .tc S256x256 32 [1] iota_S256x256_d1_w32) (iota .tc S256x256 32 [0] iota_S256x256_d0_w32))
def maskB : IVec S256x256 1 := cmpf .ogt (relB (F := F)) (broadcast S256x256 (Scalar.ofBits .f32 0x00000000#32))
def decB (g : FVec F S1x1 .f32) : FVec F S256x256 .f32 :=
  select (maskB (F := F)) (exp (mulf (select (maskB (F := F)) relB (broadcast S256x256 (Scalar.ofBits .f32 0x00000000#32))) (broadcastTo S256x256 g broadcasts_S1x1_S256x256)))
    (broadcast S256x256 (Scalar.ofBits .f32 0x00000000#32))

/-- The decay over a whole chunk. -/
def chunkDecay (g : FVec F S1x1 .f32) : FVec F S1x1 .f32 :=
  exp (mulf (broadcast S1x1 (Scalar.ofBits .f32 0x43800000#32)) g)

/-! ## One chunk's values -/

/-- The decays that a direction uses. -/
structure Decays (F : FTy → Type) where
  xi : FVec F S256x1 .f32
  zeta : FVec F S256x1 .f32
  dec : FVec F S256x256 .f32
  cd : FVec F S1x1 .f32

/-- Forward and backward. -/
def fwdD (x : Vec F S1x1x1x1 .f32) : Decays F := ⟨xiF (logDecay x), zetaF (logDecay x), decF (logDecay x), chunkDecay (logDecay x)⟩
def bwdD (x : Vec F S1x1x1x1 .f32) : Decays F := ⟨xiB (logDecay x), zetaB (logDecay x), decB (logDecay x), chunkDecay (logDecay x)⟩

/-- The rows of a chunk's output, from its queries, keys and values and the state it meets. -/
def chunkY (D : Decays F) (q k : Vec F S1x256x256 .bf16) (v : Vec F S1x256x512 .bf16) (S : Vec F S256x512 .f32) : FVec F S256x512 .f32 :=
  addf
    (matmul dot_S256x256_S256x512_S256x512_1_0_0_1_n_n none
      (truncf .bf16 (mulf (matmul dot_S256x256_S256x256_S256x256_1_1_0_0_n_n none (shapeCast S256x256 q shapeCasts_S1x256x256_S256x256) (shapeCast S256x256 k shapeCasts_S1x256x256_S256x256) (constant S256x256 .f32 0x00000000#32)) D.dec) bitsLt_bf16_f32)
      (shapeCast S256x512 v shapeCasts_S1x256x512_S256x512) (constant S256x512 .f32 0x00000000#32))
    (mulf (matmul dot_S256x256_S256x512_S256x512_1_0_0_1_n_n none (shapeCast S256x256 q shapeCasts_S1x256x256_S256x256) (truncf .bf16 S bitsLt_bf16_f32) (constant S256x512 .f32 0x00000000#32))
      (broadcastTo S256x512 D.xi broadcasts_S256x1_S256x512))

/-- The state that a chunk leaves. -/
def chunkS (D : Decays F) (k : Vec F S1x256x256 .bf16) (v : Vec F S1x256x512 .bf16) (S : Vec F S256x512 .f32) : FVec F S256x512 .f32 :=
  addf (mulf S (broadcastTo S256x512 D.cd broadcasts_S1x1_S256x512))
    (matmul dot_S256x256_S256x512_S256x512_0_0_1_1_n_n none
      (truncf .bf16 (mulf (extf .f32 (shapeCast S256x256 k shapeCasts_S1x256x256_S256x256) bitsLt_bf16_f32) (broadcastTo S256x256 D.zeta broadcasts_S256x1_S256x256)) bitsLt_bf16_f32)
      (shapeCast S256x512 v shapeCasts_S1x256x512_S256x512) (constant S256x512 .f32 0x00000000#32))

/-! ## One chunk's program -/

theorem inbK (u : Fin 16) : ∀ a, (![0, 256 * u.val, 0] : Fin 3 → ℕ) a + S1x256x256.size a ≤ S1x4096x256.size a := by
  intro a; have := u.isLt; fin_cases a <;> simp <;> omega
theorem inbV (u : Fin 16) : ∀ a, (![0, 256 * u.val, 0] : Fin 3 → ℕ) a + S1x256x512.size a ≤ S1x4096x512.size a := by
  intro a; have := u.isLt; fin_cases a <;> simp <;> omega

/-- The rectangles of chunk `u`: of the queries and keys, and of the values. -/
abbrev rK (u : Fin 16) : Rect S1x4096x256 := Rect.unit (s := S1x4096x256) ![0, 256 * u.val, 0] S1x256x256.size (inbK u)
abbrev rV (u : Fin 16) : Rect S1x4096x512 := Rect.unit (s := S1x4096x512) ![0, 256 * u.val, 0] S1x256x512.size (inbV u)
/-- The state's whole rectangle. -/
abbrev rS : Rect S256x512 := Rect.unit (s := S256x512) ![0, 0] S256x512.size inb_S256x512_S256x512_0_0
/-- The chunk's rows of the parked outputs, forward and backward. -/
abbrev rF (i : grid0.Coords) (h2 : k0_cond2 i = 1#1) (u : Fin 16) : Rect S8192x512 :=
  Rect.unit (s := S8192x512) (k0_off1 i (BitVec.ofNat 32 (256 * u.val))) S256x512.size (k0_off1_inb i h2 u)
abbrev rB (i : grid0.Coords) (h3 : k0_cond3 i = 1#1) (u : Fin 16) : Rect S8192x512 :=
  Rect.unit (s := S8192x512) (k0_off2 i (BitVec.ofNat 32 (256 * u.val))) S256x512.size (k0_off2_inb i h3 u)

theorem packV (u : Fin 16) : (rV u).PackedRows (EltTy.packing .bf16) := by
  revert u; decide +kernel

section
variable (i : grid0.Coords) (arg3 : Memref sig .tc .vmem S2x1x1x1 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S256x512 .f32) (harg8 : arg8.IsWhole) (arg9 : Memref sig .tc .vmem S8192x512 .bf16) (harg9 : arg9.IsWhole)

/-- The forward program of chunk `u`: its output's rows are parked. -/
def fwdChunk (h2 : k0_cond2 i = 1#1) (D : Decays F) (u : Fin 16) : Prog (TpuEff nD τ sig (Elt F) Λ₀ .tc) PUnit := do
  let q : Vec F S1x256x256 .bf16 ← Prog.lift (.load arg4 (rK u).toLoadRect (View.loadsAt_vmem h_S1x256x256))
  let k : Vec F S1x256x256 .bf16 ← Prog.lift (.load arg5 (rK u).toLoadRect (View.loadsAt_vmem h_S1x256x256))
  let v : Vec F S1x256x512 .bf16 ← Prog.lift (.load arg6 (rV u).toLoadRect (View.loadsAt_vmem h_S1x256x512))
  let s : Vec F S256x512 .f32 ← Prog.lift (.load arg8 rS.toLoadRect (View.loadsAt_vmem h_S256x512))
  let _ ← Prog.lift (.load arg8 rS.toLoadRect (View.loadsAt_vmem h_S256x512))
  Prog.lift (.store arg8 rS (shapeCast S256x512 (chunkS D k v s) shapeCasts_S256x512_S256x512) Finset.univ (View.stores_vmem_bits_univ h_S256x512 rfl) (.inl rfl))
  let _ ← Prog.lift (.load arg9 (rF i h2 u).toLoadRect (View.loadsAt_vmem h_S256x512))
  Prog.lift (.store arg9 (rF i h2 u) (shapeCast S256x512 (truncf .bf16 (chunkY D q k v s) bitsLt_bf16_f32) shapeCasts_S256x512_S256x512) Finset.univ
    (View.stores_vmem h_S256x512 (harg9.storeExact_slice rfl _ (k0_off1_packedbf16 i h2 u)) (fun _ => rfl)) (.inl rfl))

/-- The backward program of chunk `u`: its rows and the parked ones are added and stored. -/
def bwdChunk (h3 : k0_cond3 i = 1#1) (D : Decays F) (u : Fin 16) : Prog (TpuEff nD τ sig (Elt F) Λ₀ .tc) PUnit := do
  let q : Vec F S1x256x256 .bf16 ← Prog.lift (.load arg4 (rK u).toLoadRect (View.loadsAt_vmem h_S1x256x256))
  let k : Vec F S1x256x256 .bf16 ← Prog.lift (.load arg5 (rK u).toLoadRect (View.loadsAt_vmem h_S1x256x256))
  let v : Vec F S1x256x512 .bf16 ← Prog.lift (.load arg6 (rV u).toLoadRect (View.loadsAt_vmem h_S1x256x512))
  let s : Vec F S256x512 .f32 ← Prog.lift (.load arg8 rS.toLoadRect (View.loadsAt_vmem h_S256x512))
  let _ ← Prog.lift (.load arg8 rS.toLoadRect (View.loadsAt_vmem h_S256x512))
  Prog.lift (.store arg8 rS (shapeCast S256x512 (chunkS D k v s) shapeCasts_S256x512_S256x512) Finset.univ (View.stores_vmem_bits_univ h_S256x512 rfl) (.inl rfl))
  let p : Vec F S256x512 .bf16 ← Prog.lift (.load arg9 (rB i h3 u).toLoadRect (View.loadsAt_vmem h_S256x512))
  let _ ← Prog.lift (.load arg7 (rV u).toLoadRect (View.loadsAt_vmem h_S1x256x512))
  Prog.lift (.store arg7 (rV u) (shapeCast S1x256x512 (truncf .bf16 (addf (chunkY D q k v s) (extf .f32 p bitsLt_bf16_f32)) bitsLt_bf16_f32) shapeCasts_S256x512_S1x256x512) Finset.univ
    (View.stores_vmem h_S1x256x512 (harg7.storeExact_slice rfl _ (packV u)) (fun _ => rfl)) (.inl rfl))

/-- The chunks of a list in order. -/
def inOrder (p : Fin 16 → Prog (TpuEff nD τ sig (Elt F) Λ₀ .tc) PUnit) : List (Fin 16) → Prog (TpuEff nD τ sig (Elt F) Λ₀ .tc) PUnit
  | [] => pure ⟨⟩
  | u :: us => p u >>= fun _ => inOrder p us

/-- The forward branch: the decays, then the chunks from the first to the last. -/
def fwdBody (h2 : k0_cond2 i = 1#1) : Prog (TpuEff nD τ sig (Elt F) Λ₀ .tc) PUnit := do
  let x : Vec F S1x1x1x1 .f32 ← Prog.lift (.load arg3 (Rect.unit (s := S2x1x1x1) ![0, 0, 0, 0] S1x1x1x1.size inb_S2x1x1x1_S1x1x1x1_0_0_0_0).toLoadRect (View.loadsAt_vmem h_S1x1x1x1))
  inOrder (fwdChunk i arg4 arg5 arg6 arg8 arg9 harg9 h2 (fwdD x)) [0, 1, 2, 3, 4, 5, 6, 7, 8, 9, 10, 11, 12, 13, 14, 15]

/-- The backward branch: the decays, then the chunks from the last to the first. -/
def bwdBody (h3 : k0_cond3 i = 1#1) : Prog (TpuEff nD τ sig (Elt F) Λ₀ .tc) PUnit := do
  let x : Vec F S1x1x1x1 .f32 ← Prog.lift (.load arg3 (Rect.unit (s := S2x1x1x1) ![1, 0, 0, 0] S1x1x1x1.size inb_S2x1x1x1_S1x1x1x1_1_0_0_0).toLoadRect (View.loadsAt_vmem h_S1x1x1x1))
  inOrder (bwdChunk i arg4 arg5 arg6 arg7 harg7 arg8 arg9 h3 (bwdD x)) [15, 14, 13, 12, 11, 10, 9, 8, 7, 6, 5, 4, 3, 2, 1, 0]

/-- The state set to zero. -/
def resetBody : Prog (TpuEff nD τ sig (Elt F) Λ₀ .tc) PUnit := do
  let _ : Vec F S256x512 .f32 ← Prog.lift (.load arg8 rS.toLoadRect (View.loadsAt_vmem h_S256x512))
  Prog.lift (.store arg8 rS (shapeCast S256x512 (broadcast S256x512 (Scalar.ofBits .f32 0x00000000#32 : F .f32)) shapeCasts_S256x512_S256x512) Finset.univ (View.stores_vmem_bits_univ h_S256x512 rfl) (.inl rfl))

/-- When the state is set to zero: at a direction's first block. -/
def cond1 (i : grid0.Coords) : BitVec 1 :=
  Scalar.cmpi .ne (Scalar.extui (Scalar.ori (Scalar.cmpi .eq (BitVec.ofNat 32 (i 2).val) 0#32) (Scalar.cmpi .eq (BitVec.ofNat 32 (i 2).val) 2#32)) : BitVec 32) 0#32

/-! ## The printed body, at each kind of point -/

theorem body_fwd0 (h1 : cond1 i = 1#1) (h2 : k0_cond2 i = 1#1) (h3 : ¬ k0_cond3 i = 1#1) :
    cc0_retention (F := F) i arg3 harg3 arg4 harg4 arg5 harg5 arg6 harg6 arg7 harg7 arg8 harg8 arg9 harg9
      = resetBody arg8 >>= fun _ => fwdBody i arg3 arg4 arg5 arg6 arg8 arg9 harg9 h2 := by
  unfold cc0_retention
  refine (dif_pos h1).trans ?_
  simp only [dif_pos h2, dif_neg h3]
  rfl

theorem body_fwd1 (h1 : ¬ cond1 i = 1#1) (h2 : k0_cond2 i = 1#1) (h3 : ¬ k0_cond3 i = 1#1) :
    cc0_retention (F := F) i arg3 harg3 arg4 harg4 arg5 harg5 arg6 harg6 arg7 harg7 arg8 harg8 arg9 harg9
      = fwdBody i arg3 arg4 arg5 arg6 arg8 arg9 harg9 h2 := by
  unfold cc0_retention
  refine (dif_neg h1).trans ?_
  refine (dif_pos h2).trans ?_
  simp only [dif_neg h3]
  rfl

theorem body_bwd0 (h1 : cond1 i = 1#1) (h2 : ¬ k0_cond2 i = 1#1) (h3 : k0_cond3 i = 1#1) :
    cc0_retention (F := F) i arg3 harg3 arg4 harg4 arg5 harg5 arg6 harg6 arg7 harg7 arg8 harg8 arg9 harg9
      = resetBody arg8 >>= fun _ => bwdBody i arg3 arg4 arg5 arg6 arg7 harg7 arg8 arg9 h3 := by
  unfold cc0_retention
  refine (dif_pos h1).trans ?_
  simp only [dif_neg h2, dif_pos h3]
  rfl

theorem body_bwd1 (h1 : ¬ cond1 i = 1#1) (h2 : ¬ k0_cond2 i = 1#1) (h3 : k0_cond3 i = 1#1) :
    cc0_retention (F := F) i arg3 harg3 arg4 harg4 arg5 harg5 arg6 harg6 arg7 harg7 arg8 harg8 arg9 harg9
      = bwdBody i arg3 arg4 arg5 arg6 arg7 harg7 arg8 arg9 h3 := by
  unfold cc0_retention
  refine (dif_neg h1).trans ?_
  refine (dif_neg h2).trans ?_
  refine (dif_pos h3).trans ?_
  rfl

end
end Cert.RetKernelIdeal.Chunk
end
-- ==== Proof.RetRun.lean ====
/- The retention kernel's run: what a load and a store do to a memref held at given contents, what one chunk does, and
   what the chunks do in order. -/
module

public import proofs.«01_k».proof.Proof.RetChunk
public import Idealize.ShloMosaic.Lib.Pointwise.Reshape

@[expose] public section

set_option maxRecDepth 16384

noncomputable section

namespace Cert.RetKernelIdeal.Chunk

open Cert.RetKernelIdeal Cert.RetKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Reading and overwriting a rectangle -/

/-- What a rectangle reads of contents. -/
def rd {s : Shape} {e : EltTy} (r : Rect s) (X : Vec F s e) : Vec F r.shape e := fun x => X (r.emb x)

open Classical in
/-- Contents with a rectangle overwritten. -/
def put {s : Shape} {e : EltTy} (r : Rect s) (w : Vec F r.shape e) (X : Vec F s e) : Vec F s e :=
  fun y => if h : ∃ x, r.emb x = y then w h.choose else X y

theorem put_emb {s : Shape} {e : EltTy} (r : Rect s) (w : Vec F r.shape e) (X : Vec F s e) (x : r.shape.Idx) :
    put r w X (r.emb x) = w x := by
  have h : ∃ x', r.emb x' = r.emb x := ⟨x, rfl⟩
  unfold put
  rw [dif_pos h]
  exact congrArg w (r.emb.injective h.choose_spec)

theorem put_miss {s : Shape} {e : EltTy} (r : Rect s) (w : Vec F r.shape e) (X : Vec F s e) (y : s.Idx) (h : ∀ x, r.emb x ≠ y) :
    put r w X y = X y := by
  unfold put
  rw [dif_neg (fun ⟨x, hx⟩ => h x hx)]

variable (c : Dev nD) {s : Shape} {e : EltTy}

/-- A load of a memref held at contents. -/
theorem wp_ld {Q : PUnit → sProp 𝕄} {sp : CoreSpace} (m : Memref sig .tc sp s e) (r : Rect s) (hl : m.view.LoadsAt r.toLoadRect)
    (k : Vec F r.shape e → Prog (TpuEff nD τ sig (Elt F) Λ₀ .tc) PUnit) (q : PosShare TreeShare) (X : Vec F s e) :
    iprop(owns (c : Thread nD τ) m q X ∗ (owns (c : Thread nD τ) m q X -∗ wp frame (wpE (defs₀ (F := F)) Variants.none c none) Set.univ (k (rd r X)) Q))
      ⊢ wp frame (wpE (defs₀ (F := F)) Variants.none c none) Set.univ ((Prog.lift (.load m r.toLoadRect hl) : Prog (TpuEff nD τ sig (Elt F) Λ₀ .tc) (Vec F r.shape e)) >>= k) Q := by
  unfold owns
  iintro ⟨⟨%f, %hf, H⟩, Hk⟩
  subst hf
  iapply (wp_load (defs := defs₀ (F := F)) Variants.none c none Set.univ (k := k) (m := m) (r := r.toLoadRect) (hl := hl) (S := m.view.set) (q := q) (f := f) (Q := Q) (m.view.setOn_subset_set _)) $$ H
  iintro H
  iapply Hk
  iexists f
  isplitr
  · ipureintro; rfl
  · iexact H

/-- What a view reads after a store through one of its rectangles. -/
theorem read_put {κ : Kind} {sp : Space} (v : View sig κ sp s e) (r : Rect s) (w : Vec F r.shape e) (f : v.ty.Contents (Elt F)) :
    v.read (Elt F) (v.writes (Elt F) f [⟨r, w⟩]) = put r w (v.read (Elt F) f) := by
  funext y
  by_cases h : ∃ x, r.emb x = y
  · obtain ⟨x, rfl⟩ := h
    rw [put_emb, View.read_writes_cons_emb]
  · rw [put_miss r w _ y (fun x hx => h ⟨x, hx⟩), View.read_writes_cons_miss _ _ _ _ _ (fun hy => h (r.exists_idx_of_mem hy))]
    rfl

/-- A store into a memref held whole at contents. -/
theorem wp_st {Q : PUnit → sProp 𝕄} {sp : CoreSpace} (m : Memref sig .tc sp s e) (r : Rect s) (w : Vec F r.shape e) (hx : (m.access r).Stores Finset.univ)
    (hm : Finset.univ = Finset.univ ∨ ∀ a, r.stride a = 1) (X : Vec F s e) :
    iprop(owns (c : Thread nD τ) m fullShare X ∗ (owns (c : Thread nD τ) m fullShare (put r w X) -∗ Q ⟨⟩))
      ⊢ wp frame (wpE (defs₀ (F := F)) Variants.none c none) Set.univ (Prog.lift (.store m r w Finset.univ hx hm) : Prog (TpuEff nD τ sig (Elt F) Λ₀ .tc) PUnit) Q := by
  unfold owns
  iintro ⟨⟨%f, %hf, H⟩, Hk⟩
  subst hf
  iapply (wp_store_writes₀ (defs := defs₀ (F := F)) Variants.none c none Set.univ (k := fun x => .ret x) (m := m) (r := r) (hx := hx) (hm := hm) (S := m.view.set) (f := f) (Q := Q)
    (m.view.set_slice_subset r)) $$ H
  iintro H
  iapply (le_wp_ret frame (wpE (defs₀ (F := F)) Variants.none c none) Set.univ (⟨⟩ : PUnit) Q)
  iapply Hk
  iexists _
  isplitr
  swap
  · iexact H
  · ipureintro; exact read_put m.view r w f

/-- A list of chunks in order, from an assertion that each chunk advances by one. -/
theorem wp_inOrder (p : Fin 16 → Prog (TpuEff nD τ sig (Elt F) Λ₀ .tc) PUnit) (I : ℕ → sProp 𝕄) (us : List (Fin 16)) (n : ℕ)
    (h : ∀ k (hk : k < us.length), I (n + k) ⊢ wp frame (wpE (defs₀ (F := F)) Variants.none c none) Set.univ (p us[k]) (fun _ => I (n + k + 1))) :
    I n ⊢ wp frame (wpE (defs₀ (F := F)) Variants.none c none) Set.univ (inOrder p us) (fun _ => I (n + us.length)) := by
  induction us generalizing n with
  | nil => exact le_wp_ret frame (wpE (defs₀ (F := F)) Variants.none c none) Set.univ (⟨⟩ : PUnit) (fun _ => I n)
  | cons u us ih =>
    unfold inOrder
    rw [wp_bind]
    refine (h 0 (by simp)).trans (wp_mono _ _ _ fun _ => ?_)
    have := ih (n + 1) (fun k hk => by
      have := h (k + 1) (by simpa using hk)
      rw [show n + 1 + k = n + (k + 1) by omega]
      exact this)
    rw [show n + (u :: us).length = n + 1 + us.length by simp; omega]
    exact this

/-! ## One chunk -/

theorem emb_whole (x : rS.shape.Idx) : rS.emb x = x := by
  refine funext fun a => Fin.ext ?_
  show (![0, 0] : Fin 2 → ℕ) a + 1 * (x a).val = (x a).val
  fin_cases a <;> simp

theorem rd_whole (X : Vec F S256x512 .f32) : rd rS X = X := by
  funext x
  exact congrArg X (emb_whole x)

theorem put_whole (w : Vec F S256x512 .f32) (X : Vec F S256x512 .f32) : put rS w X = w := by
  funext y
  have := put_emb rS w X y
  rwa [emb_whole] at this

section
variable (i : grid0.Coords) (arg3 : Memref sig .tc .vmem S2x1x1x1 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S256x512 .f32) (harg8 : arg8.IsWhole) (arg9 : Memref sig .tc .vmem S8192x512 .bf16) (harg9 : arg9.IsWhole)

/-- The blocks that the body reads, held at their contents. -/
def ins (Bq Bk : Vec F S1x4096x256 .bf16) (Bv : Vec F S1x4096x512 .bf16) : sProp 𝕄 :=
  iprop(owns (c : Thread nD τ) arg4 fullShare Bq ∗ owns (c : Thread nD τ) arg5 fullShare Bk ∗ owns (c : Thread nD τ) arg6 fullShare Bv)

/-- The rows that chunk `u` computes, of the blocks. -/
def rowsOf (D : Decays F) (Bq Bk : Vec F S1x4096x256 .bf16) (Bv : Vec F S1x4096x512 .bf16) (u : Fin 16) (S : Vec F S256x512 .f32) : FVec F S256x512 .f32 :=
  chunkY D (rd (rK u) Bq) (rd (rK u) Bk) (rd (rV u) Bv) S
/-- The state that it leaves. -/
def stateOf (D : Decays F) (Bk : Vec F S1x4096x256 .bf16) (Bv : Vec F S1x4096x512 .bf16) (u : Fin 16) (S : Vec F S256x512 .f32) : Vec F S256x512 .f32 :=
  chunkS D (rd (rK u) Bk) (rd (rV u) Bv) S

theorem wp_fwdChunk (h2 : k0_cond2 i = 1#1) (D : Decays F) (u : Fin 16) (Bq Bk : Vec F S1x4096x256 .bf16) (Bv : Vec F S1x4096x512 .bf16)
    (S : Vec F S256x512 .f32) (P : Vec F S8192x512 .bf16) :
    iprop(ins c arg4 arg5 arg6 Bq Bk Bv ∗ owns (c : Thread nD τ) arg8 fullShare S ∗ owns (c : Thread nD τ) arg9 fullShare P)
      ⊢ wp frame (wpE (defs₀ (F := F)) Variants.none c none) Set.univ (fwdChunk i arg4 arg5 arg6 arg8 arg9 harg9 h2 D u) (fun _ =>
        iprop(ins c arg4 arg5 arg6 Bq Bk Bv ∗ owns (c : Thread nD τ) arg8 fullShare (stateOf D Bk Bv u S)
          ∗ owns (c : Thread nD τ) arg9 fullShare (put (rF i h2 u) (truncf .bf16 (rowsOf D Bq Bk Bv u S) bitsLt_bf16_f32) P))) := by
  unfold fwdChunk ins
  iintro ⟨⟨H4, H5, H6⟩, H8, H9⟩
  iapply (wp_ld c arg4 (rK u) _ _ fullShare Bq); isplitl [H4]; · iexact H4
  iintro H4
  iapply (wp_ld c arg5 (rK u) _ _ fullShare Bk); isplitl [H5]; · iexact H5
  iintro H5
  iapply (wp_ld c arg6 (rV u) _ _ fullShare Bv); isplitl [H6]; · iexact H6
  iintro H6
  iapply (wp_ld c arg8 rS _ _ fullShare S); isplitl [H8]; · iexact H8
  iintro H8
  iapply (wp_ld c arg8 rS _ _ fullShare S); isplitl [H8]; · iexact H8
  iintro H8
  rw [wp_bind]
  iapply (wp_st c arg8 rS _ _ _ S); isplitl [H8]; · iexact H8
  iintro H8
  iapply (wp_ld c arg9 (rF i h2 u) _ _ fullShare P); isplitl [H9]; · iexact H9
  iintro H9
  iapply (wp_st c arg9 (rF i h2 u) _ _ _ P); isplitl [H9]; · iexact H9
  iintro H9
  rw [put_whole, rd_whole, shapeCast_id, shapeCast_id]
  isplitl [H4 H5 H6]
  · isplitl [H4]; · iexact H4
    isplitl [H5]; · iexact H5
    iexact H6
  isplitl [H8]; · iexact H8
  iexact H9

theorem wp_bwdChunk (h3 : k0_cond3 i = 1#1) (D : Decays F) (u : Fin 16) (Bq Bk : Vec F S1x4096x256 .bf16) (Bv : Vec F S1x4096x512 .bf16)
    (S : Vec F S256x512 .f32) (P : Vec F S8192x512 .bf16) (O : Vec F S1x4096x512 .bf16) :
    iprop(ins c arg4 arg5 arg6 Bq Bk Bv ∗ owns (c : Thread nD τ) arg8 fullShare S ∗ owns (c : Thread nD τ) arg9 fullShare P ∗ owns (c : Thread nD τ) arg7 fullShare O)
      ⊢ wp frame (wpE (defs₀ (F := F)) Variants.none c none) Set.univ (bwdChunk i arg4 arg5 arg6 arg7 harg7 arg8 arg9 h3 D u) (fun _ =>
        iprop(ins c arg4 arg5 arg6 Bq Bk Bv ∗ owns (c : Thread nD τ) arg8 fullShare (stateOf D Bk Bv u S)
          ∗ owns (c : Thread nD τ) arg9 fullShare P
          ∗ owns (c : Thread nD τ) arg7 fullShare (put (rV u) (shapeCast S1x256x512 (truncf .bf16 (addf (rowsOf D Bq Bk Bv u S) (extf .f32 (rd (rB i h3 u) P) bitsLt_bf16_f32)) bitsLt_bf16_f32) shapeCasts_S256x512_S1x256x512) O))) := by
  unfold bwdChunk ins
  iintro ⟨⟨H4, H5, H6⟩, H8, H9, H7⟩
  iapply (wp_ld c arg4 (rK u) _ _ fullShare Bq); isplitl [H4]; · iexact H4
  iintro H4
  iapply (wp_ld c arg5 (rK u) _ _ fullShare Bk); isplitl [H5]; · iexact H5
  iintro H5
  iapply (wp_ld c arg6 (rV u) _ _ fullShare Bv); isplitl [H6]; · iexact H6
  iintro H6
  iapply (wp_ld c arg8 rS _ _ fullShare S); isplitl [H8]; · iexact H8
  iintro H8
  iapply (wp_ld c arg8 rS _ _ fullShare S); isplitl [H8]; · iexact H8
  iintro H8
  rw [wp_bind]
  iapply (wp_st c arg8 rS _ _ _ S); isplitl [H8]; · iexact H8
  iintro H8
  iapply (wp_ld c arg9 (rB i h3 u) _ _ fullShare P); isplitl [H9]; · iexact H9
  iintro H9
  iapply (wp_ld c arg7 (rV u) _ _ fullShare O); isplitl [H7]; · iexact H7
  iintro H7
  iapply (wp_st c arg7 (rV u) _ _ _ O); isplitl [H7]; · iexact H7
  iintro H7
  rw [put_whole, rd_whole, shapeCast_id]
  isplitl [H4 H5 H6]
  · isplitl [H4]; · iexact H4
    isplitl [H5]; · iexact H5
    iexact H6
  isplitl [H8]; · iexact H8
  isplitl [H9]; · iexact H9
  iexact H7

/-- The state set to zero. -/
theorem wp_reset (S : Vec F S256x512 .f32) :
    (owns (c : Thread nD τ) arg8 fullShare S : sProp 𝕄)
      ⊢ wp frame (wpE (defs₀ (F := F)) Variants.none c none) Set.univ (resetBody arg8) (fun _ =>
        owns (c : Thread nD τ) arg8 fullShare (broadcast S256x512 (Scalar.ofBits .f32 0x00000000#32 : F .f32))) := by
  unfold resetBody
  iintro H8
  iapply (wp_ld c arg8 rS _ _ fullShare S); isplitl [H8]; · iexact H8
  iintro H8
  iapply (wp_st c arg8 rS _ _ _ S); isplitl [H8]; · iexact H8
  iintro H8
  rw [put_whole, shapeCast_id]
  iexact H8

/-! ## One block -/

/-- The rectangles of the two logits. -/
abbrev r0 : Rect S2x1x1x1 := Rect.unit (s := S2x1x1x1) ![0, 0, 0, 0] S1x1x1x1.size inb_S2x1x1x1_S1x1x1x1_0_0_0_0
abbrev r1 : Rect S2x1x1x1 := Rect.unit (s := S2x1x1x1) ![1, 0, 0, 0] S1x1x1x1.size inb_S2x1x1x1_S1x1x1x1_1_0_0_0

/-- What a chunk parks, and what it stores given what was parked. -/
def parkOf (D : Decays F) (Bq Bk : Vec F S1x4096x256 .bf16) (Bv : Vec F S1x4096x512 .bf16) (u : Fin 16) (S : Vec F S256x512 .f32) : FVec F S256x512 .bf16 :=
  truncf .bf16 (rowsOf D Bq Bk Bv u S) bitsLt_bf16_f32
def sumOf (D : Decays F) (Bq Bk : Vec F S1x4096x256 .bf16) (Bv : Vec F S1x4096x512 .bf16) (u : Fin 16) (S : Vec F S256x512 .f32) (p : FVec F S256x512 .bf16) : FVec F S256x512 .bf16 :=
  truncf .bf16 (addf (rowsOf D Bq Bk Bv u S) (extf .f32 p bitsLt_bf16_f32)) bitsLt_bf16_f32

theorem upList : ∀ (k : Fin 16), ([0, 1, 2, 3, 4, 5, 6, 7, 8, 9, 10, 11, 12, 13, 14, 15] : List (Fin 16))[k.val]'(k.isLt) = k := by decide
theorem downList : ∀ (k : Fin 16), ([15, 14, 13, 12, 11, 10, 9, 8, 7, 6, 5, 4, 3, 2, 1, 0] : List (Fin 16))[k.val]'(k.isLt) = k.rev := by decide

/-- The forward branch, along the states `st` and a statement `J` on the parked rows that each chunk advances. -/
theorem wp_fwdBody (h2 : k0_cond2 i = 1#1) (B0 : Vec F S2x1x1x1 .f32) (Bq Bk : Vec F S1x4096x256 .bf16) (Bv : Vec F S1x4096x512 .bf16)
    (st : ℕ → Vec F S256x512 .f32) (hst : ∀ k : Fin 16, st (k.val + 1) = stateOf (fwdD (rd r0 B0)) Bk Bv k (st k.val))
    (J : ℕ → Vec F S8192x512 .bf16 → Prop)
    (hJ : ∀ (k : Fin 16) P, J k.val P → J (k.val + 1) (put (rF i h2 k) (parkOf (fwdD (rd r0 B0)) Bq Bk Bv k (st k.val)) P)) :
    iprop(owns (c : Thread nD τ) arg3 fullShare B0 ∗ ins c arg4 arg5 arg6 Bq Bk Bv ∗ owns (c : Thread nD τ) arg8 fullShare (st 0)
        ∗ (∃ P, ⌜J 0 P⌝ ∗ owns (c : Thread nD τ) arg9 fullShare P))
      ⊢ wp frame (wpE (defs₀ (F := F)) Variants.none c none) Set.univ (fwdBody i arg3 arg4 arg5 arg6 arg8 arg9 harg9 h2) (fun _ =>
        iprop(owns (c : Thread nD τ) arg3 fullShare B0 ∗ ins c arg4 arg5 arg6 Bq Bk Bv ∗ owns (c : Thread nD τ) arg8 fullShare (st 16)
          ∗ (∃ P, ⌜J 16 P⌝ ∗ owns (c : Thread nD τ) arg9 fullShare P))) := by
  unfold fwdBody
  iintro ⟨H3, Hi, H8, H9⟩
  iapply (wp_ld c arg3 r0 _ _ fullShare B0); isplitl [H3]; · iexact H3
  iintro H3
  iapply (wp_inOrder c _ (fun n => iprop(owns (c : Thread nD τ) arg3 fullShare B0 ∗ ins c arg4 arg5 arg6 Bq Bk Bv ∗ owns (c : Thread nD τ) arg8 fullShare (st n)
          ∗ (∃ P, ⌜J n P⌝ ∗ owns (c : Thread nD τ) arg9 fullShare P))) _ 0 ?_)
  swap
  · isplitl [H3]; · iexact H3
    isplitl [Hi]; · iexact Hi
    isplitl [H8]; · iexact H8
    iexact H9
  intro k hk
  have hk' : k < 16 := hk
  rw [upList ⟨k, hk'⟩, Nat.zero_add]
  iintro ⟨H3, Hi, H8, ⟨%P, %hP, H9⟩⟩
  iapply (wp_mono frame (wpE (defs₀ (F := F)) Variants.none c none) Set.univ (Q := fun _ =>
        iprop((ins c arg4 arg5 arg6 Bq Bk Bv ∗ owns (c : Thread nD τ) arg8 fullShare (stateOf (fwdD (rd r0 B0)) Bk Bv ⟨k, hk'⟩ (st k))
          ∗ owns (c : Thread nD τ) arg9 fullShare (put (rF i h2 ⟨k, hk'⟩) (truncf .bf16 (rowsOf (fwdD (rd r0 B0)) Bq Bk Bv ⟨k, hk'⟩ (st k)) bitsLt_bf16_f32) P)) ∗ owns (c : Thread nD τ) arg3 fullShare B0)) fun _ => ?_)
  swap
  · iapply (wp_frame_r frame (wpE (defs₀ (F := F)) Variants.none c none) Set.univ)
    isplitr [H3]
    · iapply (wp_fwdChunk c i arg4 arg5 arg6 arg8 arg9 harg9 h2 (fwdD (rd r0 B0)) ⟨k, hk'⟩ Bq Bk Bv (st k) P)
      isplitl [Hi]; · iexact Hi
      isplitl [H8]; · iexact H8
      iexact H9
    · iexact H3
  iintro ⟨⟨Hi, H8, H9⟩, H3⟩
  isplitl [H3]; · iexact H3
  isplitl [Hi]; · iexact Hi
  rw [hst ⟨k, hk'⟩]
  isplitl [H8]; · iexact H8
  iexists _
  isplitr
  swap
  · iexact H9
  · ipureintro; exact hJ ⟨k, hk'⟩ P hP

/-- The backward branch, along the states `st` and a statement `J` on the output's block that each chunk advances. -/
theorem wp_bwdBody (h3 : k0_cond3 i = 1#1) (B0 : Vec F S2x1x1x1 .f32) (Bq Bk : Vec F S1x4096x256 .bf16) (Bv : Vec F S1x4096x512 .bf16)
    (P : Vec F S8192x512 .bf16)
    (st : ℕ → Vec F S256x512 .f32) (hst : ∀ k : Fin 16, st (k.val + 1) = stateOf (bwdD (rd r1 B0)) Bk Bv k.rev (st k.val))
    (J : ℕ → Vec F S1x4096x512 .bf16 → Prop)
    (hJ : ∀ (k : Fin 16) O, J k.val O → J (k.val + 1) (put (rV k.rev) (shapeCast S1x256x512 (sumOf (bwdD (rd r1 B0)) Bq Bk Bv k.rev (st k.val) (rd (rB i h3 k.rev) P)) shapeCasts_S256x512_S1x256x512) O)) :
    iprop(owns (c : Thread nD τ) arg3 fullShare B0 ∗ ins c arg4 arg5 arg6 Bq Bk Bv ∗ owns (c : Thread nD τ) arg8 fullShare (st 0)
        ∗ owns (c : Thread nD τ) arg9 fullShare P ∗ (∃ O, ⌜J 0 O⌝ ∗ owns (c : Thread nD τ) arg7 fullShare O))
      ⊢ wp frame (wpE (defs₀ (F := F)) Variants.none c none) Set.univ (bwdBody i arg3 arg4 arg5 arg6 arg7 harg7 arg8 arg9 h3) (fun _ =>
        iprop(owns (c : Thread nD τ) arg3 fullShare B0 ∗ ins c arg4 arg5 arg6 Bq Bk Bv ∗ owns (c : Thread nD τ) arg8 fullShare (st 16)
          ∗ owns (c : Thread nD τ) arg9 fullShare P ∗ (∃ O, ⌜J 16 O⌝ ∗ owns (c : Thread nD τ) arg7 fullShare O))) := by
  unfold bwdBody
  iintro ⟨H3, Hi, H8, H9, H7⟩
  iapply (wp_ld c arg3 r1 _ _ fullShare B0); isplitl [H3]; · iexact H3
  iintro H3
  iapply (wp_inOrder c _ (fun n => iprop(owns (c : Thread nD τ) arg3 fullShare B0 ∗ ins c arg4 arg5 arg6 Bq Bk Bv ∗ owns (c : Thread nD τ) arg8 fullShare (st n)
          ∗ owns (c : Thread nD τ) arg9 fullShare P ∗ (∃ O, ⌜J n O⌝ ∗ owns (c : Thread nD τ) arg7 fullShare O))) _ 0 ?_)
  swap
  · isplitl [H3]; · iexact H3
    isplitl [Hi]; · iexact Hi
    isplitl [H8]; · iexact H8
    isplitl [H9]; · iexact H9
    iexact H7
  intro k hk
  have hk' : k < 16 := hk
  rw [downList ⟨k, hk'⟩, Nat.zero_add]
  iintro ⟨H3, Hi, H8, H9, ⟨%O, %hO, H7⟩⟩
  iapply (wp_mono frame (wpE (defs₀ (F := F)) Variants.none c none) Set.univ (Q := fun _ =>
        iprop((ins c arg4 arg5 arg6 Bq Bk Bv ∗ owns (c : Thread nD τ) arg8 fullShare (stateOf (bwdD (rd r1 B0)) Bk Bv (Fin.rev ⟨k, hk'⟩) (st k))
          ∗ owns (c : Thread nD τ) arg9 fullShare P
          ∗ owns (c : Thread nD τ) arg7 fullShare (put (rV (Fin.rev ⟨k, hk'⟩)) (shapeCast S1x256x512 (sumOf (bwdD (rd r1 B0)) Bq Bk Bv (Fin.rev ⟨k, hk'⟩) (st k) (rd (rB i h3 (Fin.rev ⟨k, hk'⟩)) P)) shapeCasts_S256x512_S1x256x512) O))
          ∗ owns (c : Thread nD τ) arg3 fullShare B0)) fun _ => ?_)
  swap
  · iapply (wp_frame_r frame (wpE (defs₀ (F := F)) Variants.none c none) Set.univ)
    isplitr [H3]
    · iapply (wp_bwdChunk c i arg4 arg5 arg6 arg7 harg7 arg8 arg9 h3 (bwdD (rd r1 B0)) (Fin.rev ⟨k, hk'⟩) Bq Bk Bv (st k) P O)
      isplitl [Hi]; · iexact Hi
      isplitl [H8]; · iexact H8
      isplitl [H9]; · iexact H9
      iexact H7
    · iexact H3
  iintro ⟨⟨Hi, H8, H9, H7⟩, H3⟩
  isplitl [H3]; · iexact H3
  isplitl [Hi]; · iexact Hi
  rw [hst ⟨k, hk'⟩]
  isplitl [H8]; · iexact H8
  isplitl [H9]; · iexact H9
  iexists _
  isplitr
  swap
  · iexact H7
  · ipureintro; exact hJ ⟨k, hk'⟩ O hO

end

end Cert.RetKernelIdeal.Chunk
end
-- ==== Proof.RetFrame.lean ====
/- The retention kernel's states from point to point, its run from them, and what the run leaves. -/
module

public import proofs.«01_k».proof.Proof.RetRun
public import Idealize.ShloMosaic.Lib.Pointwise
public import Idealize.ShloMosaic.Lib.Claim

@[expose] public section

set_option maxRecDepth 16384

noncomputable section

namespace Cert.RetKernelIdeal.Chunk

open Cert.RetKernelIdeal Cert.RetKernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The states of a batch's head, `g` of them in the grid's order -/

/-- Point `n` of the grid. -/
def pt (n : ℕ) : Fin cfg0.N := ⟨n % 32, lt_of_lt_of_eq (Nat.mod_lt _ (by decide)) N_0.symm⟩
/-- The chunk of a block. -/
def uOf (e : ℕ) : Fin 16 := ⟨e % 16, Nat.mod_lt _ (by decide)⟩
/-- The state at a direction's start. -/
def zeroS : Vec F S256x512 .f32 := broadcast S256x512 (Scalar.ofBits .f32 0x00000000#32 : F .f32)

/-- A point's blocks: the logits, the queries, the keys and the values. -/
abbrev bG (c : Dev nD) (t : Fin cfg0.N) : Vec F S2x1x1x1 .f32 := iblk m c 0 t
abbrev bQ (c : Dev nD) (t : Fin cfg0.N) : Vec F S1x4096x256 .bf16 := iblk m c 1 t
abbrev bK (c : Dev nD) (t : Fin cfg0.N) : Vec F S1x4096x256 .bf16 := iblk m c 2 t
abbrev bV (c : Dev nD) (t : Fin cfg0.N) : Vec F S1x4096x512 .bf16 := iblk m c 3 t

/-- The forward state before the `e`-th chunk of the sequence. -/
def SF (c : Dev nD) (g : ℕ) : ℕ → Vec F S256x512 .f32
  | 0 => zeroS
  | e + 1 => stateOf (fwdD (rd r0 (bG m c (pt (4 * g + e / 16))))) (bK m c (pt (4 * g + e / 16))) (bV m c (pt (4 * g + e / 16))) (uOf e) (SF c g e)
/-- What that chunk parks. -/
def park (c : Dev nD) (g e : ℕ) : FVec F S256x512 .bf16 :=
  parkOf (fwdD (rd r0 (bG m c (pt (4 * g + e / 16))))) (bQ m c (pt (4 * g + e / 16))) (bK m c (pt (4 * g + e / 16))) (bV m c (pt (4 * g + e / 16))) (uOf e) (SF m c g e)
/-- The backward state before the `e`-th chunk from the end. -/
def SB (c : Dev nD) (g : ℕ) : ℕ → Vec F S256x512 .f32
  | 0 => zeroS
  | e + 1 => stateOf (bwdD (rd r1 (bG m c (pt (4 * g + 2 + e / 16))))) (bK m c (pt (4 * g + 2 + e / 16))) (bV m c (pt (4 * g + 2 + e / 16))) (uOf e).rev (SB c g e)
/-- What that chunk stores. -/
def outC (c : Dev nD) (g e : ℕ) : FVec F S256x512 .bf16 :=
  sumOf (bwdD (rd r1 (bG m c (pt (4 * g + 2 + e / 16))))) (bQ m c (pt (4 * g + 2 + e / 16))) (bK m c (pt (4 * g + 2 + e / 16))) (bV m c (pt (4 * g + 2 + e / 16))) (uOf e).rev (SB m c g e) (park m c g (31 - e))

/-- A row of a chunk by its place in a longer sequence of rows. -/
def inChunk (r : ℕ) (d : Fin 512) : S256x512.Idx := ix2 ⟨r % 256, Nat.mod_lt _ (by decide)⟩ d

/-- The block of the output that backward step `j` leaves. -/
def outB (c : Dev nD) (g j : ℕ) : Vec F S1x4096x512 .bf16 :=
  fun y => outC m c g (16 * j + (15 - (y 1).val / 256)) (inChunk (y 1).val (y 2))

/-- The parked rows up to row `n`. -/
def parkedTo (c : Dev nD) (g n : ℕ) (P : Vec F S8192x512 .bf16) : Prop :=
  ∀ y : S8192x512.Idx, (y 0).val < n → P y = park m c g ((y 0).val / 256) (inChunk (y 0).val (y 1))

/-! ## The grid's facts -/

theorem off1_eq : ∀ (t : Fin grid0.N) (k : Fin 16), t.val % 4 < 2 →
    k0_off1 (grid0.coords t) (BitVec.ofNat 32 (256 * k.val)) 0 = 256 * (16 * (t.val % 4) + k.val) ∧ k0_off1 (grid0.coords t) (BitVec.ofNat 32 (256 * k.val)) 1 = 0 := by
  decide +kernel
theorem off2_eq : ∀ (t : Fin grid0.N) (k : Fin 16), 2 ≤ t.val % 4 →
    k0_off2 (grid0.coords t) (BitVec.ofNat 32 (256 * k.val)) 0 = 256 * (16 * (3 - t.val % 4) + k.val) ∧ k0_off2 (grid0.coords t) (BitVec.ofNat 32 (256 * k.val)) 1 = 0 := by
  decide +kernel
theorem cond1_iff : ∀ t : Fin grid0.N, cond1 (grid0.coords t) = 1#1 ↔ t.val % 2 = 0 := by decide +kernel
theorem cond2_iff : ∀ t : Fin grid0.N, k0_cond2 (grid0.coords t) = 1#1 ↔ t.val % 4 < 2 := by decide +kernel
theorem cond3_iff : ∀ t : Fin grid0.N, k0_cond3 (grid0.coords t) = 1#1 ↔ 2 ≤ t.val % 4 := by decide +kernel
theorem flush4 : ∀ t : Fin grid0.N, win0_4.flush t = true ↔ 2 ≤ t.val % 4 := by decide +kernel

theorem pt_eq (t : Fin cfg0.N) (n : ℕ) (h : n = t.val) : pt n = t := by
  have : t.val < 32 := lt_of_lt_of_eq t.isLt N_0
  exact Fin.ext (by show n % 32 = t.val; omega)

/-! ## One point -/

section
variable (c : Dev nD) (t : Fin cfg0.N) (arg3 : Memref sig .tc .vmem S2x1x1x1 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S256x512 .f32) (harg8 : arg8.IsWhole) (arg9 : Memref sig .tc .vmem S8192x512 .bf16) (harg9 : arg9.IsWhole)

theorem park_step (g s : ℕ) (hs : s = t.val % 4) (h2 : k0_cond2 (grid0.coords t) = 1#1) (k : Fin 16) (P : Vec F S8192x512 .bf16)
    (w : FVec F S256x512 .bf16) (hw : w = park m c g (16 * s + k.val))
    (hP : parkedTo m c g (256 * (16 * s + k.val)) P) : parkedTo m c g (256 * (16 * s + (k.val + 1))) (put (rF (grid0.coords t) h2 k) w P) := by
  have ho := off1_eq t k ((cond2_iff t).mp h2)
  rw [← hs] at ho
  intro y hy
  by_cases h : (y 0).val < 256 * (16 * s + k.val)
  · rw [put_miss]
    · exact hP y h
    · intro x hx
      have := congrArg (fun z : S8192x512.Idx => (z 0).val) hx
      have e : ((rF (grid0.coords t) h2 k).emb x 0).val = k0_off1 (grid0.coords t) (BitVec.ofNat 32 (256 * k.val)) 0 + 1 * (x 0).val := rfl
      simp only [e, ho.1] at this
      omega
  · have hx : (rF (grid0.coords t) h2 k).emb (inChunk (y 0).val (y 1)) = y := by
      funext a
      refine Fin.ext ?_
      have e : ((rF (grid0.coords t) h2 k).emb (inChunk (y 0).val (y 1)) a).val = k0_off1 (grid0.coords t) (BitVec.ofNat 32 (256 * k.val)) a + 1 * (inChunk (y 0).val (y 1) a).val := rfl
      rw [e]
      fin_cases a
      · show k0_off1 (grid0.coords t) (BitVec.ofNat 32 (256 * k.val)) 0 + 1 * ((y 0).val % 256) = (y 0).val
        rw [ho.1]; omega
      · show k0_off1 (grid0.coords t) (BitVec.ofNat 32 (256 * k.val)) 1 + 1 * (y 1).val = (y 1).val
        rw [ho.2]; omega
    have hd : (y 0).val / 256 = 16 * s + k.val := by omega
    rw [hd, ← hw]
    conv_lhs => rw [← hx]
    rw [put_emb]

theorem rd_park (g j : ℕ) (hj : 2 + j = t.val % 4) (h3 : k0_cond3 (grid0.coords t) = 1#1) (k : Fin 16) (P : Vec F S8192x512 .bf16)
    (hP : parkedTo m c g 8192 P) : rd (rB (grid0.coords t) h3 k.rev) P = park m c g (31 - (16 * j + k.val)) := by
  have ho := off2_eq t k.rev ((cond3_iff t).mp h3)
  rw [← hj] at ho
  have hk := k.isLt
  have hr : k.rev.val = 15 - k.val := by rw [Fin.val_rev]; omega
  rw [hr] at ho
  funext x
  have hx0 : (x 0).val < 256 := (x 0).isLt
  have e0 : ((rB (grid0.coords t) h3 k.rev).emb x 0).val = k0_off2 (grid0.coords t) (BitVec.ofNat 32 (256 * k.rev.val)) 0 + 1 * (x 0).val := rfl
  have e1 : ((rB (grid0.coords t) h3 k.rev).emb x 1).val = k0_off2 (grid0.coords t) (BitVec.ofNat 32 (256 * k.rev.val)) 1 + 1 * (x 1).val := rfl
  rw [hr, ho.1] at e0
  rw [hr, ho.2] at e1
  have h4 : t.val % 4 < 4 := Nat.mod_lt _ (by decide)
  unfold rd
  rw [hP _ (by rw [e0]; omega), e0, show (256 * (16 * (3 - (2 + j)) + (15 - k.val)) + 1 * (x 0).val) / 256 = 31 - (16 * j + k.val) by omega]
  refine congrArg (park m c g (31 - (16 * j + k.val))) (funext fun a => Fin.ext ?_)
  fin_cases a
  · show (256 * (16 * (3 - (2 + j)) + (15 - k.val)) + 1 * (x 0).val) % 256 = (x 0).val
    omega
  · show ((rB (grid0.coords t) h3 k.rev).emb x 1).val = (x 1).val
    omega

/-- The output's block up to the `n`-th chunk from its end. -/
def outTo (g j n : ℕ) (O : Vec F S1x4096x512 .bf16) : Prop :=
  ∀ y : S1x4096x512.Idx, 15 - (y 1).val / 256 < n → O y = outB m c g j y

theorem cast_row (w : FVec F S256x512 .bf16) (a : Fin 256) (d : Fin 512) :
    shapeCast S1x256x512 w shapeCasts_S256x512_S1x256x512 (ix3 0 a d) = w (ix2 a d) := by
  pointwise

theorem out_step (g j : ℕ) (k : Fin 16) (O : Vec F S1x4096x512 .bf16) (w : FVec F S256x512 .bf16) (hw : w = outC m c g (16 * j + k.val))
    (hO : outTo m c g j k.val O) : outTo m c g j (k.val + 1) (put (rV k.rev) (shapeCast S1x256x512 w shapeCasts_S256x512_S1x256x512) O) := by
  have hk := k.isLt
  have hr : k.rev.val = 15 - k.val := by rw [Fin.val_rev]; omega
  intro y hy
  have hy1 : (y 1).val < 4096 := (y 1).isLt
  by_cases h : 15 - (y 1).val / 256 < k.val
  · rw [put_miss]
    · exact hO y h
    · intro x hx
      have := congrArg (fun z : S1x4096x512.Idx => (z 1).val) hx
      have e : ((rV k.rev).emb x 1).val = 256 * k.rev.val + 1 * (x 1).val := rfl
      have hx1 : (x 1).val < 256 := (x 1).isLt
      simp only [e, hr] at this
      omega
  · have hx : (rV k.rev).emb (ix3 0 ⟨(y 1).val % 256, Nat.mod_lt _ (by decide)⟩ (y 2)) = y := by
      funext a
      refine Fin.ext ?_
      fin_cases a
      · have : (y 0).val < 1 := (y 0).isLt
        show 0 + 1 * 0 = (y 0).val
        omega
      · show 256 * k.rev.val + 1 * ((y 1).val % 256) = (y 1).val
        rw [hr]; omega
      · show 0 + 1 * (y 2).val = (y 2).val
        omega
    have hd : 15 - (y 1).val / 256 = k.val := by omega
    unfold outB
    rw [hd, ← hw]
    conv_lhs => rw [← hx]
    rw [put_emb]
    exact cast_row w _ _

/-- A forward point, from the states at its start. -/
theorem wp_fwdAt (g s : ℕ) (hs : s = t.val % 4) (hg : g = t.val / 4) (h2 : k0_cond2 (grid0.coords t) = 1#1) :
    iprop(owns (c : Thread nD τ) arg3 fullShare (bG m c t) ∗ ins c arg4 arg5 arg6 (bQ m c t) (bK m c t) (bV m c t) ∗ owns (c : Thread nD τ) arg8 fullShare (SF m c g (16 * s))
        ∗ (∃ P, ⌜parkedTo m c g (4096 * s) P⌝ ∗ owns (c : Thread nD τ) arg9 fullShare P))
      ⊢ wp Idealize.ShloMosaic.frame (wpE (defs₀ (F := F)) Variants.none c none) Set.univ (fwdBody (grid0.coords t) arg3 arg4 arg5 arg6 arg8 arg9 harg9 h2) (fun _ =>
        iprop(owns (c : Thread nD τ) arg3 fullShare (bG m c t) ∗ ins c arg4 arg5 arg6 (bQ m c t) (bK m c t) (bV m c t) ∗ owns (c : Thread nD τ) arg8 fullShare (SF m c g (16 * s + 16))
          ∗ (∃ P, ⌜parkedTo m c g (4096 * (s + 1)) P⌝ ∗ owns (c : Thread nD τ) arg9 fullShare P))) := by
  have hp : ∀ k : Fin 16, pt (4 * g + (16 * s + k.val) / 16) = t := fun k => pt_eq t _ (by have := k.isLt; omega)
  have hu : ∀ k : Fin 16, uOf (16 * s + k.val) = k := fun k => Fin.ext (by show (16 * s + k.val) % 16 = k.val; have := k.isLt; omega)
  have h := wp_fwdBody c (grid0.coords t) arg3 arg4 arg5 arg6 arg8 arg9 harg9 h2 (bG m c t) (bQ m c t) (bK m c t) (bV m c t)
    (fun k => SF m c g (16 * s + k))
    (fun k => by
      show stateOf (fwdD (rd r0 (bG m c (pt (4 * g + (16 * s + k.val) / 16))))) (bK m c (pt (4 * g + (16 * s + k.val) / 16))) (bV m c (pt (4 * g + (16 * s + k.val) / 16))) (uOf (16 * s + k.val)) (SF m c g (16 * s + k.val)) = _
      rw [hp k, hu k])
    (fun n => parkedTo m c g (256 * (16 * s + n)))
    (fun k P hP => park_step m c t g s hs h2 k P _ (by unfold park; rw [hp k, hu k]) hP)
  rw [show 4096 * s = 256 * (16 * s + 0) by omega, show 4096 * (s + 1) = 256 * (16 * s + 16) by omega]
  exact h

/-- A backward point, from the states at its start. -/
theorem wp_bwdAt (g j : ℕ) (hj : 2 + j = t.val % 4) (hg : g = t.val / 4) (h3 : k0_cond3 (grid0.coords t) = 1#1)
    (P : Vec F S8192x512 .bf16) (hP : parkedTo m c g 8192 P) :
    iprop(owns (c : Thread nD τ) arg3 fullShare (bG m c t) ∗ ins c arg4 arg5 arg6 (bQ m c t) (bK m c t) (bV m c t) ∗ owns (c : Thread nD τ) arg8 fullShare (SB m c g (16 * j))
        ∗ owns (c : Thread nD τ) arg9 fullShare P ∗ (∃ O, owns (c : Thread nD τ) arg7 fullShare O))
      ⊢ wp Idealize.ShloMosaic.frame (wpE (defs₀ (F := F)) Variants.none c none) Set.univ (bwdBody (grid0.coords t) arg3 arg4 arg5 arg6 arg7 harg7 arg8 arg9 h3) (fun _ =>
        iprop(owns (c : Thread nD τ) arg3 fullShare (bG m c t) ∗ ins c arg4 arg5 arg6 (bQ m c t) (bK m c t) (bV m c t) ∗ owns (c : Thread nD τ) arg8 fullShare (SB m c g (16 * j + 16))
          ∗ owns (c : Thread nD τ) arg9 fullShare P ∗ owns (c : Thread nD τ) arg7 fullShare (outB m c g j))) := by
  have hp : ∀ k : Fin 16, pt (4 * g + 2 + (16 * j + k.val) / 16) = t := fun k => pt_eq t _ (by have := k.isLt; omega)
  have hu : ∀ k : Fin 16, uOf (16 * j + k.val) = k := fun k => Fin.ext (by show (16 * j + k.val) % 16 = k.val; have := k.isLt; omega)
  have h := wp_bwdBody c (grid0.coords t) arg3 arg4 arg5 arg6 arg7 harg7 arg8 arg9 h3 (bG m c t) (bQ m c t) (bK m c t) (bV m c t) P
    (fun k => SB m c g (16 * j + k))
    (fun k => by
      show stateOf (bwdD (rd r1 (bG m c (pt (4 * g + 2 + (16 * j + k.val) / 16))))) (bK m c (pt (4 * g + 2 + (16 * j + k.val) / 16))) (bV m c (pt (4 * g + 2 + (16 * j + k.val) / 16))) (uOf (16 * j + k.val)).rev (SB m c g (16 * j + k.val)) = _
      rw [hp k, hu k])
    (fun n => outTo m c g j n)
    (fun k O hO => out_step m c g j k O _ (by unfold outC; rw [hp k, hu k, rd_park m c t g j hj h3 k P hP]) hO)
  refine BIBase.Entails.trans ?_ (h.trans (wp_mono _ _ _ fun _ => ?_))
  · iintro ⟨H3, Hi, H8, H9, ⟨%O, H7⟩⟩
    isplitl [H3]; · iexact H3
    isplitl [Hi]; · iexact Hi
    isplitl [H8]; · iexact H8
    isplitl [H9]; · iexact H9
    iexists O
    isplitr
    swap
    · iexact H7
    · ipureintro; exact fun y hy => absurd hy (Nat.not_lt_zero _)
  · iintro ⟨H3, Hi, H8, H9, ⟨%O, %hO, H7⟩⟩
    isplitl [H3]; · iexact H3
    isplitl [Hi]; · iexact Hi
    isplitl [H8]; · iexact H8
    isplitl [H9]; · iexact H9
    rw [show outB m c g j = O from funext fun y => (hO y (by omega)).symm]
    iexact H7

end

/-! ## The proof data -/

/-- The two scratch buffers. -/
abbrev scS : Memref sig .tc .vmem S256x512 .f32 := Memref.whole cc0_scratch0
abbrev scP : Memref sig .tc .vmem S8192x512 .bf16 := Memref.whole cc0_scratch1

/-- What the scratch holds before point `n`. -/
def Held (c : Dev nD) (n : ℕ) (S : Vec F S256x512 .f32) (P : Vec F S8192x512 .bf16) : Prop :=
  (n % 4 = 1 → S = SF m c (n / 4) 16) ∧ (n % 4 = 3 → S = SB m c (n / 4) 16) ∧ (n % 4 = 1 → parkedTo m c (n / 4) 4096 P) ∧ (2 ≤ n % 4 → parkedTo m c (n / 4) 8192 P)

/-- The invariant before point `n`: the scratch as `Held` says, and the generator register. -/
def Inv (c : Dev nD) (n : ℕ) : sProp 𝕄 :=
  iprop((∃ S P, ⌜Held m c n S P⌝ ∗ owns (c : Thread nD τ) scS fullShare S ∗ owns (c : Thread nD τ) scP fullShare P) ∗ (∃ r, prngReg c r))

theorem PhiA0_eq (c : Dev nD) :
    (Pipeline.ΦA spec0 c : sProp 𝕄)
      = iprop(iprop((∃ d, owns (c : Thread nD τ) scS fullShare d) ∗ (∃ d, owns (c : Thread nD τ) scP fullShare d)) ∗ (∃ r, prngReg c r)) := by
  unfold Pipeline.ΦA; rw [scopedRest0_eq]; simp only [scS, scP, owns_whole]; try rfl

/-- The proof data: the arrays as the region finds them; after the body at point `t` each input's buffer at its block and
    the output's at the block that a backward step leaves; the invariant `Inv`; the shares of windows on one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c (t.val / 4) (t.val % 4 - 2)
  Φ n := Inv m c n.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB m c (t.val / 4) (t.val % 4 - 2) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- and what it returns: at a forward point the output's buffer as it was, -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((dats m 0 c).before 4 t d)))
/-- at a backward point its block. -/
def bodyPostB (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A forward point's run from a scratch held at contents. -/
theorem fwd_point (c : Dev nD) (t : Fin cfg0.N) (h : t.val % 4 < 2) (S : Vec F S256x512 .f32) (P : Vec F S8192x512 .bf16) (hH : Held m c t.val S P) :
    iprop(owns (c : Thread nD τ) (st0_0 t) fullShare (bG m c t) ∗ ins c (st0_1 t) (st0_2 t) (st0_3 t) (bQ m c t) (bK m c t) (bV m c t)
        ∗ owns (c : Thread nD τ) scS fullShare S ∗ owns (c : Thread nD τ) scP fullShare P)
      ⊢ wp Idealize.ShloMosaic.frame (wpE (defs₀ (F := F)) Variants.none c none) Set.univ (bodyAt0 t) (fun _ =>
        iprop(owns (c : Thread nD τ) (st0_0 t) fullShare (bG m c t) ∗ ins c (st0_1 t) (st0_2 t) (st0_3 t) (bQ m c t) (bK m c t) (bV m c t)
          ∗ (∃ S P, ⌜Held m c (t.val + 1) S P⌝ ∗ owns (c : Thread nD τ) scS fullShare S ∗ owns (c : Thread nD τ) scP fullShare P))) := by
  have h2 := (cond2_iff t).mpr h
  have h3 : ¬ k0_cond3 (grid0.coords t) = 1#1 := fun hc => by have := (cond3_iff t).mp hc; omega
  have hpost : ∀ s, s = t.val % 4 → (iprop(owns (c : Thread nD τ) (st0_0 t) fullShare (bG m c t) ∗ ins c (st0_1 t) (st0_2 t) (st0_3 t) (bQ m c t) (bK m c t) (bV m c t) ∗ owns (c : Thread nD τ) scS fullShare (SF m c (t.val / 4) (16 * s + 16))
          ∗ (∃ P, ⌜parkedTo m c (t.val / 4) (4096 * (s + 1)) P⌝ ∗ owns (c : Thread nD τ) scP fullShare P)) : sProp 𝕄)
      ⊢ iprop(owns (c : Thread nD τ) (st0_0 t) fullShare (bG m c t) ∗ ins c (st0_1 t) (st0_2 t) (st0_3 t) (bQ m c t) (bK m c t) (bV m c t)
          ∗ (∃ S P, ⌜Held m c (t.val + 1) S P⌝ ∗ owns (c : Thread nD τ) scS fullShare S ∗ owns (c : Thread nD τ) scP fullShare P)) := by
    intro s hs
    iintro ⟨H3, Hi, H8, ⟨%P', %hP', H9⟩⟩
    isplitl [H3]; · iexact H3
    isplitl [Hi]; · iexact Hi
    iexists _; iexists P'
    isplitr
    swap
    · isplitl [H8]; · iexact H8
      iexact H9
    · ipureintro
      have hd : (t.val + 1) / 4 = t.val / 4 := by omega
      unfold Held
      rw [hd]
      refine ⟨fun h1 => ?_, fun h1 => by omega, fun h1 => ?_, fun h1 => ?_⟩
      · rw [show s = 0 by omega]
      · rwa [show s = 0 by omega] at hP'
      · rwa [show s = 1 by omega] at hP'
  rcases (show t.val % 4 = 0 ∨ t.val % 4 = 1 by omega) with h0 | h0
  · have h1 := (cond1_iff t).mpr (by omega)
    unfold bodyAt0
    rw [body_fwd0 _ _ _ _ _ _ _ _ _ _ _ _ _ _ _ h1 h2 h3, wp_bind]
    iintro ⟨H3, Hi, H8, H9⟩
    iapply (wp_mono Idealize.ShloMosaic.frame (wpE (defs₀ (F := F)) Variants.none c none) Set.univ (Q := fun _ =>
      iprop(owns (c : Thread nD τ) scS fullShare (zeroS : Vec F S256x512 .f32) ∗ (owns (c : Thread nD τ) (st0_0 t) fullShare (bG m c t) ∗ ins c (st0_1 t) (st0_2 t) (st0_3 t) (bQ m c t) (bK m c t) (bV m c t) ∗ owns (c : Thread nD τ) scP fullShare P))) fun _ => ?_)
    swap
    · iapply (wp_frame_r Idealize.ShloMosaic.frame (wpE (defs₀ (F := F)) Variants.none c none) Set.univ)
      isplitl [H8]
      · iapply (wp_reset c scS S); iexact H8
      · isplitl [H3]; · iexact H3
        isplitl [Hi]; · iexact Hi
        iexact H9
    refine BIBase.Entails.trans ?_ ((wp_fwdAt m c t (st0_0 t) (st0_1 t) (st0_2 t) (st0_3 t) scS scP _ (t.val / 4) 0 h0.symm rfl h2).trans (wp_mono _ _ _ fun _ => hpost 0 h0.symm))
    iintro ⟨H8, H3, Hi, H9⟩
    isplitl [H3]; · iexact H3
    isplitl [Hi]; · iexact Hi
    isplitl [H8]; · iexact H8
    iexists P
    isplitr
    swap
    · iexact H9
    · ipureintro; exact fun y hy => absurd hy (Nat.not_lt_zero _)
  · have h1 : ¬ cond1 (grid0.coords t) = 1#1 := fun hc => by have := (cond1_iff t).mp hc; omega
    unfold bodyAt0
    rw [body_fwd1 _ _ _ _ _ _ _ _ _ _ _ _ _ _ _ h1 h2 h3]
    refine BIBase.Entails.trans ?_ ((wp_fwdAt m c t (st0_0 t) (st0_1 t) (st0_2 t) (st0_3 t) scS scP _ (t.val / 4) 1 h0.symm rfl h2).trans (wp_mono _ _ _ fun _ => hpost 1 h0.symm))
    iintro ⟨H3, Hi, H8, H9⟩
    isplitl [H3]; · iexact H3
    isplitl [Hi]; · iexact Hi
    rw [hH.1 h0]
    isplitl [H8]; · iexact H8
    iexists P
    isplitr
    swap
    · iexact H9
    · ipureintro; exact hH.2.2.1 h0

/-- A backward point's run from a scratch held at contents. -/
theorem bwd_point (c : Dev nD) (t : Fin cfg0.N) (h : 2 ≤ t.val % 4) (S : Vec F S256x512 .f32) (P : Vec F S8192x512 .bf16) (hH : Held m c t.val S P) :
    iprop(owns (c : Thread nD τ) (st0_0 t) fullShare (bG m c t) ∗ ins c (st0_1 t) (st0_2 t) (st0_3 t) (bQ m c t) (bK m c t) (bV m c t)
        ∗ owns (c : Thread nD τ) scS fullShare S ∗ owns (c : Thread nD τ) scP fullShare P ∗ (∃ O, owns (c : Thread nD τ) (st0_4 t) fullShare O))
      ⊢ wp Idealize.ShloMosaic.frame (wpE (defs₀ (F := F)) Variants.none c none) Set.univ (bodyAt0 t) (fun _ =>
        iprop(owns (c : Thread nD τ) (st0_0 t) fullShare (bG m c t) ∗ ins c (st0_1 t) (st0_2 t) (st0_3 t) (bQ m c t) (bK m c t) (bV m c t)
          ∗ (∃ S P, ⌜Held m c (t.val + 1) S P⌝ ∗ owns (c : Thread nD τ) scS fullShare S ∗ owns (c : Thread nD τ) scP fullShare P)
          ∗ owns (c : Thread nD τ) (st0_4 t) fullShare (outB m c (t.val / 4) (t.val % 4 - 2)))) := by
  have h3 := (cond3_iff t).mpr h
  have h2 : ¬ k0_cond2 (grid0.coords t) = 1#1 := fun hc => by have := (cond2_iff t).mp hc; omega
  have hP := hH.2.2.2 h
  have hpost : ∀ j, 2 + j = t.val % 4 → (iprop(owns (c : Thread nD τ) (st0_0 t) fullShare (bG m c t) ∗ ins c (st0_1 t) (st0_2 t) (st0_3 t) (bQ m c t) (bK m c t) (bV m c t) ∗ owns (c : Thread nD τ) scS fullShare (SB m c (t.val / 4) (16 * j + 16))
          ∗ owns (c : Thread nD τ) scP fullShare P ∗ owns (c : Thread nD τ) (st0_4 t) fullShare (outB m c (t.val / 4) j)) : sProp 𝕄)
      ⊢ iprop(owns (c : Thread nD τ) (st0_0 t) fullShare (bG m c t) ∗ ins c (st0_1 t) (st0_2 t) (st0_3 t) (bQ m c t) (bK m c t) (bV m c t)
          ∗ (∃ S P, ⌜Held m c (t.val + 1) S P⌝ ∗ owns (c : Thread nD τ) scS fullShare S ∗ owns (c : Thread nD τ) scP fullShare P)
          ∗ owns (c : Thread nD τ) (st0_4 t) fullShare (outB m c (t.val / 4) (t.val % 4 - 2))) := by
    intro j hj
    rw [show t.val % 4 - 2 = j by omega]
    iintro ⟨H3, Hi, H8, H9, H7⟩
    isplitl [H3]; · iexact H3
    isplitl [Hi]; · iexact Hi
    isplitr [H7]
    swap
    · iexact H7
    iexists _; iexists P
    isplitr
    swap
    · isplitl [H8]; · iexact H8
      iexact H9
    · ipureintro
      unfold Held
      refine ⟨fun h1 => by omega, fun h1 => ?_, fun h1 => by omega, fun h1 => ?_⟩
      · rw [show j = 0 by omega, show (t.val + 1) / 4 = t.val / 4 by omega]
      · rw [show (t.val + 1) / 4 = t.val / 4 by omega]; exact hP
  rcases (show t.val % 4 = 2 ∨ t.val % 4 = 3 by omega) with h0 | h0
  · have h1 := (cond1_iff t).mpr (by omega)
    unfold bodyAt0
    rw [body_bwd0 _ _ _ _ _ _ _ _ _ _ _ _ _ _ _ h1 h2 h3, wp_bind]
    iintro ⟨H3, Hi, H8, H9, H7⟩
    iapply (wp_mono Idealize.ShloMosaic.frame (wpE (defs₀ (F := F)) Variants.none c none) Set.univ (Q := fun _ =>
      iprop(owns (c : Thread nD τ) scS fullShare (zeroS : Vec F S256x512 .f32) ∗ (owns (c : Thread nD τ) (st0_0 t) fullShare (bG m c t) ∗ ins c (st0_1 t) (st0_2 t) (st0_3 t) (bQ m c t) (bK m c t) (bV m c t) ∗ owns (c : Thread nD τ) scP fullShare P
        ∗ (∃ O, owns (c : Thread nD τ) (st0_4 t) fullShare O)))) fun _ => ?_)
    swap
    · iapply (wp_frame_r Idealize.ShloMosaic.frame (wpE (defs₀ (F := F)) Variants.none c none) Set.univ)
      isplitl [H8]
      · iapply (wp_reset c scS S); iexact H8
      · isplitl [H3]; · iexact H3
        isplitl [Hi]; · iexact Hi
        isplitl [H9]; · iexact H9
        iexact H7
    refine BIBase.Entails.trans ?_ ((wp_bwdAt m c t (st0_0 t) (st0_1 t) (st0_2 t) (st0_3 t) (st0_4 t) _ scS scP (t.val / 4) 0 h0.symm rfl h3 P hP).trans (wp_mono _ _ _ fun _ => hpost 0 h0.symm))
    iintro ⟨H8, H3, Hi, H9, H7⟩
    isplitl [H3]; · iexact H3
    isplitl [Hi]; · iexact Hi
    isplitl [H8]; · iexact H8
    isplitl [H9]; · iexact H9
    iexact H7
  · have h1 : ¬ cond1 (grid0.coords t) = 1#1 := fun hc => by have := (cond1_iff t).mp hc; omega
    unfold bodyAt0
    rw [body_bwd1 _ _ _ _ _ _ _ _ _ _ _ _ _ _ _ h1 h2 h3]
    refine BIBase.Entails.trans ?_ ((wp_bwdAt m c t (st0_0 t) (st0_1 t) (st0_2 t) (st0_3 t) (st0_4 t) _ scS scP (t.val / 4) 1 h0.symm rfl h3 P hP).trans (wp_mono _ _ _ fun _ => hpost 1 h0.symm))
    rw [hH.2.1 h0]
    exact .rfl

theorem sound_fwd (c : Dev nD) (t : Fin cfg0.N) (h : t.val % 4 < 2) :
    bodyPre m c t ⊢ wp Idealize.ShloMosaic.frame (wpE (defs₀ (F := F)) Variants.none c none) Set.univ (bodyAt0 t) (fun _ => bodyPostF m c t) := by
  unfold bodyPre bodyPostF
  simp only [before0_0, before0_1, before0_2, before0_3]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after0_0, after0_1, after0_2, after0_3]
  unfold Inv
  iintro ⟨⟨⟨%S, %P, %hH, H8, H9⟩, Hr⟩, Ho, ⟨%d0, H0⟩, ⟨%d1, H1⟩, ⟨%d2, H2⟩, ⟨%d3, H3⟩, H4⟩
  iapply (wp_mono Idealize.ShloMosaic.frame (wpE (defs₀ (F := F)) Variants.none c none) Set.univ (Q := fun _ =>
    iprop((owns (c : Thread nD τ) (st0_0 t) fullShare (bG m c t) ∗ ins c (st0_1 t) (st0_2 t) (st0_3 t) (bQ m c t) (bK m c t) (bV m c t)
          ∗ (∃ S P, ⌜Held m c (t.val + 1) S P⌝ ∗ owns (c : Thread nD τ) scS fullShare S ∗ owns (c : Thread nD τ) scP fullShare P))
      ∗ ((∃ r, prngReg c r) ∗ (dats m 0 c).owesAt () t.castSucc ∗ (∃ d, owns (c : Thread nD τ) (st0_4 t) fullShare ((dats m 0 c).before 4 t d))))) fun _ => ?_)
  swap
  · iapply (wp_frame_r Idealize.ShloMosaic.frame (wpE (defs₀ (F := F)) Variants.none c none) Set.univ)
    isplitr [Hr Ho H4]
    · iapply (fwd_point m c t h S P hH)
      unfold ins
      isplitl [H0]; · iexact H0
      isplitl [H1 H2 H3]
      · isplitl [H1]; · iexact H1
        isplitl [H2]; · iexact H2
        iexact H3
      isplitl [H8]; · iexact H8
      iexact H9
    · isplitl [Hr]; · iexact Hr
      isplitl [Ho]; · iexact Ho
      iexact H4
  unfold ins
  iintro ⟨⟨H0, ⟨H1, H2, H3⟩, HS⟩, Hr, Ho, H4⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  iexact H4

theorem sound_bwd (c : Dev nD) (t : Fin cfg0.N) (h : 2 ≤ t.val % 4) :
    bodyPre m c t ⊢ wp Idealize.ShloMosaic.frame (wpE (defs₀ (F := F)) Variants.none c none) Set.univ (bodyAt0 t) (fun _ => bodyPostB m c t) := by
  unfold bodyPre bodyPostB
  simp only [before0_0, before0_1, before0_2, before0_3]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after0_0, after0_1, after0_2, after0_3, after0_4]
  unfold Inv
  iintro ⟨⟨⟨%S, %P, %hH, H8, H9⟩, Hr⟩, Ho, ⟨%d0, H0⟩, ⟨%d1, H1⟩, ⟨%d2, H2⟩, ⟨%d3, H3⟩, ⟨%d4, H4⟩⟩
  iapply (wp_mono Idealize.ShloMosaic.frame (wpE (defs₀ (F := F)) Variants.none c none) Set.univ (Q := fun _ =>
    iprop((owns (c : Thread nD τ) (st0_0 t) fullShare (bG m c t) ∗ ins c (st0_1 t) (st0_2 t) (st0_3 t) (bQ m c t) (bK m c t) (bV m c t)
          ∗ (∃ S P, ⌜Held m c (t.val + 1) S P⌝ ∗ owns (c : Thread nD τ) scS fullShare S ∗ owns (c : Thread nD τ) scP fullShare P)
          ∗ owns (c : Thread nD τ) (st0_4 t) fullShare (outB m c (t.val / 4) (t.val % 4 - 2)))
      ∗ ((∃ r, prngReg c r) ∗ (dats m 0 c).owesAt () t.castSucc))) fun _ => ?_)
  swap
  · iapply (wp_frame_r Idealize.ShloMosaic.frame (wpE (defs₀ (F := F)) Variants.none c none) Set.univ)
    isplitr [Hr Ho]
    · iapply (bwd_point m c t h S P hH)
      unfold ins
      isplitl [H0]; · iexact H0
      isplitl [H1 H2 H3]
      · isplitl [H1]; · iexact H1
        isplitl [H2]; · iexact H2
        iexact H3
      isplitl [H8]; · iexact H8
      isplitl [H9]; · iexact H9
      iexists _; iexact H4
    · isplitl [Hr]; · iexact Hr
      iexact Ho
  unfold ins
  iintro ⟨⟨H0, ⟨H1, H2, H3⟩, HS, H4⟩, Hr, Ho⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h : t.val % 4 < 2
  · have hi : cfg0.idle 4 (cfg0.grid.coords t) = true := by
      show (!(k0_cond3 (grid0.coords t) == 1#1)) = true
      rw [Bool.not_eq_true', beq_eq_false_iff_ne]
      intro hc
      have := (cond3_iff t).mp hc
      omega
    have hf : (cfg0.win 4).flush t = false := by
      rw [← Bool.not_eq_true]
      intro hc
      have := (flush4 t).mp hc
      omega
    have hi' : idle0 4 (grid0.coords t) = true := hi
    simp only [hf]
    rw [hi']
    exact triple_restated (sound_fwd m c t h) rfl .rfl fun _ => .rfl
  · have hi : cfg0.idle 4 (cfg0.grid.coords t) = false := by
      show (!(k0_cond3 (grid0.coords t) == 1#1)) = false
      rw [Bool.not_eq_false', beq_iff_eq]
      exact (cond3_iff t).mpr (by omega)
    have hi' : idle0 4 (grid0.coords t) = false := hi
    simp only []
    rw [hi']
    exact triple_restated (sound_bwd m c t (by omega)) rfl .rfl fun _ => .rfl

/-! ## The run and the frame -/

theorem phi_in (c : Dev nD) : (Pipeline.ΦA spec0 c : sProp 𝕄) ⊢ (dats m 0 c).Φ 0 := by
  rw [show (dats m 0 c).Φ 0 = Inv m c 0 from rfl, PhiA0_eq]
  unfold Inv
  iintro ⟨⟨⟨%S, H8⟩, ⟨%P, H9⟩⟩, Hr⟩
  isplitr [Hr]
  swap
  · iexact Hr
  iexists S; iexists P
  isplitr
  swap
  · isplitl [H8]; · iexact H8
    iexact H9
  · ipureintro
    exact ⟨fun h => absurd h (by decide), fun h => absurd h (by decide), fun h => absurd h (by decide), fun h => absurd h (by decide)⟩

theorem phi_out (c : Dev nD) : (dats m 0 c).Φ (Fin.last cfg0.N) ⊢ (Pipeline.ΦA spec0 c : sProp 𝕄) := by
  rw [show (dats m 0 c).Φ (Fin.last cfg0.N) = Inv m c cfg0.N from rfl, PhiA0_eq]
  unfold Inv
  iintro ⟨⟨%S, %P, %hH, H8, H9⟩, Hr⟩
  isplitr [Hr]
  swap
  · iexact Hr
  isplitl [H8]
  · iexists S; iexact H8
  · iexists P; iexact H9

set_option backward.isDefEq.respectTransparency.types false in
/-- The launch: the run, and every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.RetKernelIdeal.Chunk
end
-- ==== Proof.RetMath.lean ====
/- The retention's arithmetic over the reals: a sum over all earlier rows under a decaying weight, taken chunk by chunk through
   a state, and the two directions together. -/
module
public import proofs.«01_k».proof.Proof.Softmax

@[expose] public section
noncomputable section
open Idealize.ShloMosaic
namespace Cert.Ret

/-! ## The decay of a logit -/

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The logarithm of the sigmoid: the smaller of the logit and zero, less `log (1 + e^-|x|)`. -/
def lsg (x : EReal) : EReal := min x 0 - Ideal.log1p (Ideal.exp (0 - max x (-x)))

theorem lsg_coe (x : ℝ) : lsg x = ((min x 0 - Real.log (1 + Real.exp (0 - max x (-x))) : ℝ) : EReal) := by
  unfold lsg
  rw [← EReal.coe_zero, ← EReal.coe_neg, ← coe_max, ← coe_min, ← EReal.coe_sub, Ideal.exp_coe, Ideal.log1p, ← EReal.coe_one, ← EReal.coe_add, Ideal.log_coe,
    if_neg (by have := Real.exp_pos (0 - max x (-x)); linarith), ← EReal.coe_sub]
theorem log1p_zero : Ideal.log1p 0 = 0 := by
  rw [Ideal.log1p, add_zero, ← EReal.coe_one, Ideal.log_coe, if_neg (by norm_num), Real.log_one, EReal.coe_zero]
theorem exp_bot : Ideal.exp ⊥ = 0 := rfl
theorem lsg_top : lsg ⊤ = 0 := by
  unfold lsg
  rw [min_eq_right le_top, EReal.neg_top, max_eq_left bot_le, zero_sub (⊤ : EReal), EReal.neg_top, exp_bot, log1p_zero, sub_zero]
theorem lsg_bot : lsg ⊥ = ⊥ := by
  unfold lsg
  rw [min_eq_left bot_le, EReal.neg_bot, max_eq_right bot_le, zero_sub (⊤ : EReal), EReal.neg_top, exp_bot, log1p_zero, sub_zero]
theorem lsg_ne_top (x : EReal) : lsg x ≠ ⊤ := by
  induction x with
  | bot => rw [lsg_bot]; exact bot_ne_top
  | top => rw [lsg_top]; exact EReal.zero_ne_top
  | coe x => rw [lsg_coe]; exact EReal.coe_ne_top _
/-- It is the softplus of the negated logit, negated. -/
theorem lsg_softplus (x : EReal) : -(max (-x) 0 + Ideal.log1p (Ideal.exp (-max (-x) (-(-x))))) = lsg x := by
  induction x with
  | bot => rw [lsg_bot, EReal.neg_bot, EReal.neg_top, max_eq_left bot_le, max_eq_left le_top, EReal.neg_top, exp_bot, log1p_zero, add_zero, EReal.neg_top]
  | top => rw [lsg_top, EReal.neg_top, EReal.neg_bot, max_eq_right bot_le, max_eq_right bot_le, EReal.neg_top, exp_bot, log1p_zero, add_zero, neg_zero]
  | coe x =>
    rw [lsg_coe, neg_neg, max_comm (-(x : EReal)) (x : EReal), ← EReal.coe_zero, ← EReal.coe_neg, ← coe_max, ← coe_max, ← EReal.coe_neg, Ideal.exp_coe, Ideal.log1p, ← EReal.coe_one, ← EReal.coe_add, Ideal.log_coe,
      if_neg (by have := Real.exp_pos (-max x (-x)); linarith), ← EReal.coe_add, ← EReal.coe_neg]
    refine congrArg _ ?_
    rw [zero_sub]
    rcases le_total 0 x with h | h
    · rw [min_eq_right h, max_eq_right (a := -x) (by linarith)]; ring
    · rw [min_eq_left h, max_eq_left (a := -x) (by linarith)]; ring

/-- The decay over one row. -/
def rho (x : EReal) : ℝ := (Ideal.exp (lsg x)).toReal
/-- The exponential of a number of rows times the logarithm is the decay over as many rows, whatever the logit. -/
theorem exp_rows (x : EReal) (n : ℕ) : Ideal.exp (((n : ℝ) : EReal) * lsg x) = ((rho x ^ n : ℝ) : EReal) := by
  unfold rho
  have h := lsg_ne_top x
  generalize lsg x = l at *
  induction l with
  | top => exact absurd rfl h
  | bot =>
    rcases Nat.eq_zero_or_pos n with h0 | h0
    · subst h0
      rw [Nat.cast_zero, EReal.coe_zero, zero_mul, ← EReal.coe_zero, Ideal.exp_coe, Real.exp_zero, pow_zero]
    · rw [EReal.coe_mul_bot_of_pos (by exact_mod_cast h0), exp_bot, EReal.toReal_zero, zero_pow h0.ne', EReal.coe_zero]
  | coe l => rw [← EReal.coe_mul, Ideal.exp_coe, Ideal.exp_coe, EReal.toReal_coe, Real.exp_nat_mul]

/-! ## The sums -/

/-- The weight of row `n` in row `R`'s sum: the decay of an earlier row, `w0` of the row itself, none of a later row. -/
def W (l w0 : ℝ) (R n : ℕ) : ℝ := if n < R then l ^ (R - n) else if n = R then w0 else 0

/-- The state before chunk `e`: the products of all rows before it, each decayed to the chunk before's end. -/
def st (l : ℝ) (p : ℕ → ℝ) (e : ℕ) : ℝ := ∑ n ∈ Finset.range (256 * e), l ^ (256 * e - 1 - n) * p n

theorem st_zero (l : ℝ) (p : ℕ → ℝ) : st l p 0 = 0 := by simp [st]

/-- A chunk's step of the state. -/
theorem st_succ (l : ℝ) (p : ℕ → ℝ) (e : ℕ) :
    st l p (e + 1) = st l p e * l ^ 256 + ∑ r : Fin 256, l ^ (255 - r.val) * p (256 * e + r.val) := by
  unfold st
  rw [show 256 * (e + 1) = 256 * e + 256 by ring, Finset.sum_range_add, Finset.sum_mul, Finset.sum_range (n := 256)]
  refine congrArg₂ (· + ·) (Finset.sum_congr rfl fun n hn => ?_) (Finset.sum_congr rfl fun r _ => ?_)
  · have hn := Finset.mem_range.mp hn
    rw [mul_right_comm, ← pow_add]
    congr 2
    omega
  · congr 2
    omega

theorem W_shift (l w0 : ℝ) (k r c : ℕ) : W l w0 (k + r) (k + c) = W l w0 r c := by
  unfold W
  rw [Nat.add_sub_add_left]
  simp only [Nat.add_lt_add_iff_left, Nat.add_left_cancel_iff]

/-- A row's sum, of its chunk's rows and the state the chunk meets. -/
theorem row_eq (l w0 : ℝ) (Q : Fin 256 → ℝ) (K : ℕ → Fin 256 → ℝ) (v : ℕ → ℝ) (e : ℕ) (r : Fin 256) (he : e < 32) :
    ∑ c : Fin 256, (∑ a, Q a * K (256 * e + c.val) a) * W l w0 r.val c.val * v (256 * e + c.val)
      + (∑ a, Q a * st l (fun n => K n a * v n) e) * l ^ (r.val + 1)
      = ∑ n ∈ Finset.range 8192, (∑ a, Q a * K n a) * W l w0 (256 * e + r.val) n * v n := by
  have hr := r.isLt
  obtain ⟨k, hk⟩ : ∃ k, 8192 = 256 * e + 256 + k := ⟨8192 - (256 * e + 256), by omega⟩
  rw [hk, Finset.sum_range_add, Finset.sum_range_add, Finset.sum_range (n := 256)]
  have h3 : ∑ x ∈ Finset.range k, (∑ a, Q a * K (256 * e + 256 + x) a) * W l w0 (256 * e + r.val) (256 * e + 256 + x) * v (256 * e + 256 + x) = 0 := by
    refine Finset.sum_eq_zero fun x _ => ?_
    unfold W
    rw [if_neg (by omega), if_neg (by omega)]
    ring
  rw [h3, add_zero, add_comm]
  refine congrArg₂ (· + ·) ?_ (Finset.sum_congr rfl fun c _ => by rw [W_shift])
  unfold st
  simp only [Finset.mul_sum, Finset.sum_mul]
  rw [Finset.sum_comm]
  refine Finset.sum_congr rfl fun n hn => Finset.sum_congr rfl fun a _ => ?_
  have hn := Finset.mem_range.mp hn
  unfold W
  rw [if_pos (by omega), show 256 * e + r.val - n = (256 * e - 1 - n) + (r.val + 1) by omega, pow_add]
  ring

/-- The two directions' weights together: the decay by the distance, forward's of the row itself and earlier, backward's of later. -/
theorem W_both (l0 l1 : ℝ) (R n : ℕ) (hR : R < 8192) (hn : n < 8192) :
    W l0 1 R n + W l1 0 (8191 - R) (8191 - n) = if n ≤ R then l0 ^ (R - n) else l1 ^ (n - R) := by
  unfold W
  rcases Nat.lt_trichotomy n R with h | h | h
  · rw [if_pos h, if_neg (by omega), if_neg (by omega), if_pos h.le, add_zero]
  · subst h; simp
  · rw [if_neg (by omega), if_neg (by omega), if_pos (by omega), if_neg (by omega), zero_add]
    congr 1
    omega

/-- Forward and backward rows add to the sum over every row. -/
theorem both (l0 l1 : ℝ) (Q : Fin 256 → ℝ) (K : ℕ → Fin 256 → ℝ) (v : ℕ → ℝ) (R : ℕ) (hR : R < 8192) :
    ∑ n ∈ Finset.range 8192, (∑ a, Q a * K (8191 - n) a) * W l1 0 (8191 - R) n * v (8191 - n)
      + ∑ n ∈ Finset.range 8192, (∑ a, Q a * K n a) * W l0 1 R n * v n
      = ∑ n : Fin 8192, v n.val * ((∑ a, Q a * K n.val a) * if n.val ≤ R then l0 ^ (R - n.val) else l1 ^ (n.val - R)) := by
  rw [← Finset.sum_range_reflect (fun n => (∑ a, Q a * K (8191 - n) a) * W l1 0 (8191 - R) n * v (8191 - n)), ← Finset.sum_add_distrib, Finset.sum_range]
  refine Finset.sum_congr rfl fun n _ => ?_
  have hn := n.isLt
  rw [← W_both l0 l1 R n.val hR hn, show 8192 - 1 - n.val = 8191 - n.val by omega, show 8191 - (8191 - n.val) = n.val by omega]
  ring

end Cert.Ret
end
-- ==== Proof.RetKer.lean ====
/- The retention kernel's chunk over the extended reals, read at an index, of real inputs. -/
module
public import proofs.«01_k».proof.Proof.RetFrame
public import proofs.«01_k».proof.Proof.RetMath

@[expose] public section
set_option maxRecDepth 16384
noncomputable section
open Idealize.ShloMosaic Idealize.ShloMosaic.TcCoe Idealize.SL.Sem
namespace Cert.RetKernelIdeal.Chunk
open Cert.RetKernelIdeal Cert.RetKernelIdeal.Gen Cert.Ret

theorem zero_f32 : Ideal.ofBits .f32 0x00000000#32 = ((0 : ℝ) : EReal) := by
  simp [Ideal.ofBits, Ideal.ieee, -EReal.coe_mul]
theorem one_f32 : Ideal.ofBits .f32 0x3F800000#32 = ((1 : ℝ) : EReal) := by
  refine Eq.trans (b := ((8388608 * (2 ^ 23)⁻¹ : ℝ) : EReal)) ?_ ?_
  · simp [Ideal.ofBits, Ideal.ieee, -EReal.coe_mul]
  · norm_num
theorem c255_f32 : Ideal.ofBits .f32 0x437F0000#32 = ((255 : ℝ) : EReal) := by
  simp [Ideal.ofBits, Ideal.ieee, -EReal.coe_mul]; norm_num
theorem c256_f32 : Ideal.ofBits .f32 0x43800000#32 = ((256 : ℝ) : EReal) := by
  simp [Ideal.ofBits, Ideal.ieee, -EReal.coe_mul]; norm_num

/-- A position as a float is the position, and a difference of positions their difference. -/
theorem pos_at (r : Fin 256) : (FloatOps.sitofp (F := Ideal) FTy.f32 (BitVec.ofNat 32 r.val) : EReal) = ((r.val : ℝ) : EReal) := by
  show ((((BitVec.ofNat 32 r.val).toInt : ℤ) : ℝ) : EReal) = _
  have e : (BitVec.ofNat 32 r.val).toInt = (r.val : ℤ) := by
    rw [BitVec.toInt_eq_toNat_of_lt (by rw [BitVec.toNat_ofNat]; omega), BitVec.toNat_ofNat]; omega
  rw [e, Int.cast_natCast]
theorem dist_at (r c : Fin 256) : (FloatOps.sitofp (F := Ideal) FTy.f32 (IntOp.subi (BitVec.ofNat 32 r.val) (BitVec.ofNat 32 c.val)) : EReal) = (((r.val : ℝ) - c.val : ℝ) : EReal) := by
  show ((((BitVec.ofNat 32 r.val - BitVec.ofNat 32 c.val).toInt : ℤ) : ℝ) : EReal) = _
  have e : (BitVec.ofNat 32 r.val - BitVec.ofNat 32 c.val).toInt = (r.val : ℤ) - c.val := by
    have hr := r.isLt
    have hc := c.isLt
    rw [BitVec.toInt_sub, BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega), Int.bmod_eq_of_le (by omega) (by omega)]
  rw [e, Int.cast_sub, Int.cast_natCast, Int.cast_natCast]

/-- The direction's decay is the logarithm of its logit's sigmoid. -/
theorem logDecay_at (x : Vec Ideal S1x1x1x1 .f32) : (logDecay x (ix2 0 0) : EReal) = lsg (x (ix4 0 0 0 0)) := by
  pointwise [logDecay, lsg]
  rfl
theorem chunkY_at (D : Decays Ideal) (q k : Vec Ideal S1x256x256 .bf16) (v : Vec Ideal S1x256x512 .bf16) (S : Vec Ideal S256x512 .f32) (r : Fin 256) (d : Fin 512) :
    (chunkY D q k v S (ix2 r d) : EReal) = (∑ c : Fin 256, (∑ a : Fin 256, q (ix3 0 r a) * k (ix3 0 c a)) * D.dec (ix2 r c) * v (ix3 0 c d))
      + (∑ a : Fin 256, q (ix3 0 r a) * S (ix2 a d)) * D.xi (ix2 r 0) := by
  pointwise [chunkY]
theorem chunkS_at (D : Decays Ideal) (k : Vec Ideal S1x256x256 .bf16) (v : Vec Ideal S1x256x512 .bf16) (S : Vec Ideal S256x512 .f32) (a : Fin 256) (d : Fin 512) :
    (chunkS D k v S (ix2 a d) : EReal) = S (ix2 a d) * D.cd (ix2 0 0) + ∑ c : Fin 256, k (ix3 0 c a) * D.zeta (ix2 c 0) * v (ix3 0 c d) := by
  pointwise [chunkS]
theorem xiF_at (g : FVec Ideal S1x1 .f32) (r : Fin 256) : (xiF g (ix2 r 0) : EReal) = Ideal.exp ((FloatOps.sitofp (F := Ideal) FTy.f32 (BitVec.ofNat 32 r.val) + Ideal.ofBits .f32 0x3F800000#32) * g (ix2 0 0)) := by
  pointwise [xiF, posn]
theorem zetaF_at (g : FVec Ideal S1x1 .f32) (r : Fin 256) : (zetaF g (ix2 r 0) : EReal) = Ideal.exp ((Ideal.ofBits .f32 0x437F0000#32 - FloatOps.sitofp (F := Ideal) FTy.f32 (BitVec.ofNat 32 r.val)) * g (ix2 0 0)) := by
  pointwise [zetaF, posn]
theorem xiB_at (g : FVec Ideal S1x1 .f32) (r : Fin 256) : (xiB g (ix2 r 0) : EReal) = Ideal.exp ((Ideal.ofBits .f32 0x43800000#32 - FloatOps.sitofp (F := Ideal) FTy.f32 (BitVec.ofNat 32 r.val)) * g (ix2 0 0)) := by
  pointwise [xiB, posn]
theorem zetaB_at (g : FVec Ideal S1x1 .f32) (r : Fin 256) : (zetaB g (ix2 r 0) : EReal) = Ideal.exp (FloatOps.sitofp (F := Ideal) FTy.f32 (BitVec.ofNat 32 r.val) * g (ix2 0 0)) := by
  pointwise [zetaB, posn]
theorem cd_at (g : FVec Ideal S1x1 .f32) : (chunkDecay g (ix2 0 0) : EReal) = Ideal.exp (Ideal.ofBits .f32 0x43800000#32 * g (ix2 0 0)) := by
  pointwise [chunkDecay]
theorem zero_le_dist (r c : Fin 256) : (0 : EReal) ≤ (((r.val : ℝ) - c.val : ℝ) : EReal) ↔ c.val ≤ r.val := by
  rw [← EReal.coe_zero, EReal.coe_le_coe_iff, sub_nonneg, Nat.cast_le]
theorem zero_lt_dist (r c : Fin 256) : (0 : EReal) < (((r.val : ℝ) - c.val : ℝ) : EReal) ↔ c.val < r.val := by
  rw [← EReal.coe_zero, EReal.coe_lt_coe_iff, sub_pos, Nat.cast_lt]
theorem decF_at (g : FVec Ideal S1x1 .f32) (x : EReal) (hg : g (ix2 0 0) = lsg x) (r c : Fin 256) : (decF g (ix2 r c) : EReal) = (W (rho x) 1 r.val c.val : EReal) := by
  have e : (decF g (ix2 r c) : EReal) = if (0 : EReal) ≤ FloatOps.sitofp (F := Ideal) FTy.f32 (IntOp.subi (BitVec.ofNat 32 r.val) (BitVec.ofNat 32 c.val)) then
      Ideal.exp ((if (0 : EReal) ≤ FloatOps.sitofp (F := Ideal) FTy.f32 (IntOp.subi (BitVec.ofNat 32 r.val) (BitVec.ofNat 32 c.val)) then
        FloatOps.sitofp (F := Ideal) FTy.f32 (IntOp.subi (BitVec.ofNat 32 r.val) (BitVec.ofNat 32 c.val)) else 0) * g (ix2 0 0)) else 0 := by
    pointwise [decF, maskF, relF]
  rw [e, hg]
  simp only [dist_at, zero_le_dist]
  unfold W
  by_cases h : c.val ≤ r.val
  · rw [if_pos h, if_pos h, ← Nat.cast_sub h, exp_rows]
    rcases h.lt_or_eq with h1 | h1
    · rw [if_pos h1]
    · rw [if_neg (by omega), if_pos h1, h1, Nat.sub_self, pow_zero]
  · rw [if_neg h, if_neg (by omega), if_neg (by omega), EReal.coe_zero]
theorem decB_at (g : FVec Ideal S1x1 .f32) (x : EReal) (hg : g (ix2 0 0) = lsg x) (r c : Fin 256) : (decB g (ix2 r c) : EReal) = (W (rho x) 0 r.rev.val c.rev.val : EReal) := by
  have e : (decB g (ix2 r c) : EReal) = if (0 : EReal) < FloatOps.sitofp (F := Ideal) FTy.f32 (IntOp.subi (BitVec.ofNat 32 c.val) (BitVec.ofNat 32 r.val)) then
      Ideal.exp ((if (0 : EReal) < FloatOps.sitofp (F := Ideal) FTy.f32 (IntOp.subi (BitVec.ofNat 32 c.val) (BitVec.ofNat 32 r.val)) then
        FloatOps.sitofp (F := Ideal) FTy.f32 (IntOp.subi (BitVec.ofNat 32 c.val) (BitVec.ofNat 32 r.val)) else 0) * g (ix2 0 0)) else 0 := by
    pointwise [decB, maskB, relB]
  rw [e, hg]
  simp only [dist_at, zero_lt_dist]
  have hr := r.isLt
  have hc := c.isLt
  have er : r.rev.val = 255 - r.val := by rw [Fin.val_rev]; omega
  have ec : c.rev.val = 255 - c.val := by rw [Fin.val_rev]; omega
  rw [er, ec]
  unfold W
  by_cases h : r.val < c.val
  · rw [if_pos h, if_pos h, ← Nat.cast_sub h.le, exp_rows, if_pos (by omega), show 255 - r.val - (255 - c.val) = c.val - r.val by omega]
  · rw [if_neg h, if_neg (by omega), ite_self, EReal.coe_zero]

/-- What a direction's decays are, `f` the order of its rows. -/
structure Reads (D : Decays Ideal) (l w0 : ℝ) (f : Fin 256 ≃ Fin 256) : Prop where
  xi : ∀ r, D.xi (ix2 r 0) = ((l ^ ((f r).val + 1) : ℝ) : EReal)
  zeta : ∀ r, D.zeta (ix2 r 0) = ((l ^ (255 - (f r).val) : ℝ) : EReal)
  dec : ∀ r c, D.dec (ix2 r c) = (W l w0 (f r).val (f c).val : EReal)
  cd : D.cd (ix2 0 0) = ((l ^ 256 : ℝ) : EReal)

theorem real_pow (x : EReal) (r : ℝ) (n n' : ℕ) (h : r = n) (h' : n = n') : Ideal.exp ((r : EReal) * lsg x) = ((rho x ^ n' : ℝ) : EReal) := by
  rw [h, exp_rows, h']
theorem fwd_reads (x : Vec Ideal S1x1x1x1 .f32) : Reads (fwdD x) (rho (x (ix4 0 0 0 0))) 1 (Equiv.refl _) where
  xi i := by
    refine (xiF_at _ i).trans ?_
    rw [logDecay_at, pos_at, one_f32, ← EReal.coe_add]
    exact real_pow _ _ _ _ (by push_cast; rfl) rfl
  zeta i := by
    have hi := i.isLt
    refine (zetaF_at _ i).trans ?_
    rw [logDecay_at, pos_at, c255_f32, ← EReal.coe_sub]
    exact real_pow _ _ (255 - i.val) _ (by rw [Nat.cast_sub (by omega)]; norm_num) rfl
  dec i j := decF_at _ _ (logDecay_at x) i j
  cd := by
    refine (cd_at _).trans ?_
    rw [logDecay_at, c256_f32]
    exact real_pow _ _ 256 _ (by norm_num) rfl
theorem rev_val (i : Fin 256) : (Fin.revPerm i).val = 255 - i.val := by
  rw [Fin.revPerm_apply, Fin.val_rev]; omega
theorem bwd_reads (x : Vec Ideal S1x1x1x1 .f32) : Reads (bwdD x) (rho (x (ix4 0 0 0 0))) 0 Fin.revPerm where
  xi i := by
    have hi := i.isLt
    refine (xiB_at _ i).trans ?_
    rw [logDecay_at, pos_at, c256_f32, ← EReal.coe_sub]
    exact real_pow _ _ (256 - i.val) _ (by rw [Nat.cast_sub (by omega)]; norm_num) (by rw [rev_val]; omega)
  zeta i := by
    have hi := i.isLt
    refine (zetaB_at _ i).trans ?_
    rw [logDecay_at, pos_at]
    exact real_pow _ _ i.val _ rfl (by rw [rev_val]; omega)
  dec i j := decB_at _ _ (logDecay_at x) i j
  cd := by
    refine (cd_at _).trans ?_
    rw [logDecay_at, c256_f32]
    exact real_pow _ _ 256 _ (by norm_num) rfl

/-- A chunk's step of the state, of real rows: the state before the next chunk. -/
theorem step_at (D : Decays Ideal) (l w0 : ℝ) (f : Fin 256 ≃ Fin 256) (hD : Reads D l w0 f) (k : Vec Ideal S1x256x256 .bf16) (v : Vec Ideal S1x256x512 .bf16) (S : Vec Ideal S256x512 .f32)
    (K : ℕ → Fin 256 → ℝ) (U : ℕ → Fin 512 → ℝ) (e : ℕ) (hk : ∀ r a, k (ix3 0 r a) = (K (256 * e + (f r).val) a : EReal)) (hv : ∀ r d, v (ix3 0 r d) = (U (256 * e + (f r).val) d : EReal))
    (hS : ∀ a d, S (ix2 a d) = (st l (fun n => K n a * U n d) e : EReal)) (a : Fin 256) (d : Fin 512) :
    (chunkS D k v S (ix2 a d) : EReal) = (st l (fun n => K n a * U n d) (e + 1) : EReal) := by
  rw [chunkS_at, hS, hD.cd, st_succ]
  simp only [hk, hv, hD.zeta, ← EReal.coe_mul, ← Softmax.coe_sum, ← EReal.coe_add]
  rw [← Equiv.sum_comp f (fun r => l ^ (255 - r.val) * (K (256 * e + r.val) a * U (256 * e + r.val) d))]
  refine congrArg (fun z : ℝ => ((st l (fun n => K n a * U n d) e * l ^ 256 + z : ℝ) : EReal)) (Finset.sum_congr rfl fun r _ => ?_)
  ring
/-- A chunk's row, of real rows: the weighted sum over every row. -/
theorem row_at (D : Decays Ideal) (l w0 : ℝ) (f : Fin 256 ≃ Fin 256) (hD : Reads D l w0 f) (q k : Vec Ideal S1x256x256 .bf16) (v : Vec Ideal S1x256x512 .bf16) (S : Vec Ideal S256x512 .f32)
    (Q K : ℕ → Fin 256 → ℝ) (U : ℕ → Fin 512 → ℝ) (e : ℕ) (he : e < 32) (hq : ∀ r a, q (ix3 0 r a) = (Q (256 * e + (f r).val) a : EReal)) (hk : ∀ r a, k (ix3 0 r a) = (K (256 * e + (f r).val) a : EReal)) (hv : ∀ r d, v (ix3 0 r d) = (U (256 * e + (f r).val) d : EReal))
    (hS : ∀ a d, S (ix2 a d) = (st l (fun n => K n a * U n d) e : EReal)) (r : Fin 256) (d : Fin 512) :
    (chunkY D q k v S (ix2 r d) : EReal) = ((∑ n ∈ Finset.range 8192, (∑ a, Q (256 * e + (f r).val) a * K n a) * W l w0 (256 * e + (f r).val) n * U n d : ℝ) : EReal) := by
  rw [chunkY_at, hD.xi, ← row_eq l w0 _ K (fun n => U n d) e (f r) he]
  simp only [hq, hk, hv, hS, hD.dec, ← EReal.coe_mul, ← Softmax.coe_sum, ← EReal.coe_add]
  rw [← Equiv.sum_comp f (fun c => (∑ a, Q (256 * e + (f r).val) a * K (256 * e + c.val) a) * W l w0 (f r).val c.val * U (256 * e + c.val) d)]
end Cert.RetKernelIdeal.Chunk
end
-- ==== Proof.RetOut.lean ====
/- The retention kernel's result: the states and rows of every chunk, of a real projection, and the array they leave. -/
module
public import proofs.«01_k».proof.Proof.RetKer
public import proofs.«01_k».proof.Proof.LayerMath
public import Idealize.ShloMosaic.Lib.Pipeline.ValueKit

@[expose] public section
set_option maxRecDepth 65536
noncomputable section
open Idealize.ShloMosaic Idealize.ShloMosaic.TcCoe Idealize.SL.Sem
namespace Cert.RetKernelIdeal.Chunk
open Cert.RetKernelIdeal Cert.RetKernelIdeal.Gen Cert.Ret

variable (m : (ℓ : Loc nD τ sig) → Buf (Elt Ideal) ℓ) (ρ : Dev nD → PrngReg) (c : Dev nD)

/-! ## The blocks -/

/-- The projection's entry as a real, and a direction's logit at a head. -/
def xr (b n k : ℕ) : ℝ := ((m ((c.tc : Thread nD τ).loc main_arg0) : Vec Ideal S2x8192x11264 .bf16) (ix3 ⟨b % 2, Nat.mod_lt _ (by decide)⟩ ⟨n % 8192, Nat.mod_lt _ (by decide)⟩ ⟨k % 11264, Nat.mod_lt _ (by decide)⟩)).toReal
def lo (d : Fin 2) (h : ℕ) : EReal := (m ((c.tc : Thread nD τ).loc main_arg1) : Vec Ideal S2x4 .f32) (ix2 d ⟨h % 4, Nat.mod_lt _ (by decide)⟩)
/-- Every entry of the projection is a real number. -/
def RealX : Prop := ∀ y : S2x8192x11264.Idx, ∃ r : ℝ, (m ((c.tc : Thread nD τ).loc main_arg0) : Vec Ideal S2x8192x11264 .bf16) y = (r : EReal)

theorem x_real (h : RealX m c) (b : Fin 2) (n : Fin 8192) (k : Fin 11264) (b' n' k' : ℕ) (hb : b.val = b') (hn : n.val = n') (hk : k.val = k') :
    (m ((c.tc : Thread nD τ).loc main_arg0) : Vec Ideal S2x8192x11264 .bf16) (ix3 b n k) = (xr m c b' n' k' : EReal) := by
  subst hb hn hk
  unfold xr
  rw [show (⟨b.val % 2, Nat.mod_lt _ (by decide)⟩ : Fin 2) = b from Fin.ext (Nat.mod_eq_of_lt b.isLt), show (⟨n.val % 8192, Nat.mod_lt _ (by decide)⟩ : Fin 8192) = n from Fin.ext (Nat.mod_eq_of_lt n.isLt),
    show (⟨k.val % 11264, Nat.mod_lt _ (by decide)⟩ : Fin 11264) = k from Fin.ext (Nat.mod_eq_of_lt k.isLt)]
  obtain ⟨r, hr⟩ := h (ix3 b n k)
  rw [hr, EReal.toReal_coe]

theorem tr0 : ∀ t : Fin grid0.N, cc0_transform_0 (grid0.coords t) = ![0, t.val / 4 % 4, 0, 0] := by decide +kernel
theorem tr1 : ∀ t : Fin grid0.N, cc0_transform_1 (grid0.coords t) = ![t.val / 16, if t.val % 4 < 2 then t.val % 4 else 3 - t.val % 4, 12 + t.val / 4 % 4] := by decide +kernel
theorem tr2 : ∀ t : Fin grid0.N, cc0_transform_2 (grid0.coords t) = ![t.val / 16, if t.val % 4 < 2 then t.val % 4 else 3 - t.val % 4, 16 + t.val / 4 % 4] := by decide +kernel
theorem tr3 : ∀ t : Fin grid0.N, cc0_transform_3 (grid0.coords t) = ![t.val / 16, if t.val % 4 < 2 then t.val % 4 else 3 - t.val % 4, 10 + t.val / 4 % 4] := by decide +kernel
theorem tr4 : ∀ t : Fin grid0.N, 2 ≤ t.val % 4 → cc0_transform_4 (grid0.coords t) = ![t.val / 16, 3 - t.val % 4, t.val / 4 % 4] := by decide +kernel

theorem t_lt (t : Fin cfg0.N) : t.val < 32 := lt_of_lt_of_eq t.isLt N_0
/-- The block of rows that a point reads. -/
def rowB (t : ℕ) : ℕ := if t % 4 < 2 then t % 4 else 3 - t % 4
theorem rowB_lt (t : ℕ) : rowB t < 2 := by unfold rowB; split_ifs <;> omega

theorem q_blk (h : RealX m c) (t : Fin cfg0.N) (r : Fin 4096) (a : Fin 256) :
    (bQ m c t (ix3 0 r a) : EReal) = (xr m c (t.val / 16) (4096 * rowB t.val + r.val) (3072 + 256 * (t.val / 4 % 4) + a.val) : EReal) := by
  have ht := t_lt t
  have hb := rowB_lt t.val
  refine Eq.trans ?_ (x_real m c h ⟨t.val / 16, by omega⟩ ⟨4096 * rowB t.val + r.val, by omega⟩ ⟨3072 + 256 * (t.val / 4 % 4) + a.val, by omega⟩ _ _ _ rfl rfl rfl)
  rw [← V_main_arg0 m c]
  blk_simp [bQ, iblk]
  refine congrArg (V m c main_arg0) (funext fun d => Fin.ext ?_)
  have ec := tr1 t
  match d with
  | ⟨0, _⟩ =>
    show cc0_transform_1 (grid0.coords t) 0 * 1 + 1 * 0 = _
    rw [ec]; show t.val / 16 * 1 + 1 * 0 = t.val / 16; omega
  | ⟨1, _⟩ =>
    show cc0_transform_1 (grid0.coords t) 1 * 4096 + 1 * r.val = _
    rw [ec]; show rowB t.val * 4096 + 1 * r.val = 4096 * rowB t.val + r.val; omega
  | ⟨2, _⟩ =>
    show cc0_transform_1 (grid0.coords t) 2 * 256 + 1 * a.val = _
    rw [ec]; show (12 + t.val / 4 % 4) * 256 + 1 * a.val = 3072 + 256 * (t.val / 4 % 4) + a.val; omega
theorem k_blk (h : RealX m c) (t : Fin cfg0.N) (r : Fin 4096) (a : Fin 256) :
    (bK m c t (ix3 0 r a) : EReal) = (xr m c (t.val / 16) (4096 * rowB t.val + r.val) (4096 + 256 * (t.val / 4 % 4) + a.val) : EReal) := by
  have ht := t_lt t
  have hb := rowB_lt t.val
  refine Eq.trans ?_ (x_real m c h ⟨t.val / 16, by omega⟩ ⟨4096 * rowB t.val + r.val, by omega⟩ ⟨4096 + 256 * (t.val / 4 % 4) + a.val, by omega⟩ _ _ _ rfl rfl rfl)
  rw [← V_main_arg0 m c]
  blk_simp [bK, iblk]
  refine congrArg (V m c main_arg0) (funext fun d => Fin.ext ?_)
  have ec := tr2 t
  match d with
  | ⟨0, _⟩ =>
    show cc0_transform_2 (grid0.coords t) 0 * 1 + 1 * 0 = _
    rw [ec]; show t.val / 16 * 1 + 1 * 0 = t.val / 16; omega
  | ⟨1, _⟩ =>
    show cc0_transform_2 (grid0.coords t) 1 * 4096 + 1 * r.val = _
    rw [ec]; show rowB t.val * 4096 + 1 * r.val = 4096 * rowB t.val + r.val; omega
  | ⟨2, _⟩ =>
    show cc0_transform_2 (grid0.coords t) 2 * 256 + 1 * a.val = _
    rw [ec]; show (16 + t.val / 4 % 4) * 256 + 1 * a.val = 4096 + 256 * (t.val / 4 % 4) + a.val; omega
theorem v_blk (h : RealX m c) (t : Fin cfg0.N) (r : Fin 4096) (a : Fin 512) :
    (bV m c t (ix3 0 r a) : EReal) = (xr m c (t.val / 16) (4096 * rowB t.val + r.val) (5120 + 512 * (t.val / 4 % 4) + a.val) : EReal) := by
  have ht := t_lt t
  have hb := rowB_lt t.val
  refine Eq.trans ?_ (x_real m c h ⟨t.val / 16, by omega⟩ ⟨4096 * rowB t.val + r.val, by omega⟩ ⟨5120 + 512 * (t.val / 4 % 4) + a.val, by omega⟩ _ _ _ rfl rfl rfl)
  rw [← V_main_arg0 m c]
  blk_simp [bV, iblk]
  refine congrArg (V m c main_arg0) (funext fun d => Fin.ext ?_)
  have ec := tr3 t
  match d with
  | ⟨0, _⟩ =>
    show cc0_transform_3 (grid0.coords t) 0 * 1 + 1 * 0 = _
    rw [ec]; show t.val / 16 * 1 + 1 * 0 = t.val / 16; omega
  | ⟨1, _⟩ =>
    show cc0_transform_3 (grid0.coords t) 1 * 4096 + 1 * r.val = _
    rw [ec]; show rowB t.val * 4096 + 1 * r.val = 4096 * rowB t.val + r.val; omega
  | ⟨2, _⟩ =>
    show cc0_transform_3 (grid0.coords t) 2 * 512 + 1 * a.val = _
    rw [ec]; show (10 + t.val / 4 % 4) * 512 + 1 * a.val = 5120 + 512 * (t.val / 4 % 4) + a.val; omega

theorem v0 : V m c main_v0 = shapeCast S2x4x1x1 (m ((c.tc : Thread nD τ).loc main_arg1)) shapeCasts_S2x4_S2x4x1x1 := by
  show StableHlo.after hostOps0 _ _ = _
  simp only [hostOps0]
  after_results_simp
  rfl
theorem logit_cast (L : Vec Ideal S2x4 .f32) (d : Fin 2) (h : Fin 4) : shapeCast S2x4x1x1 L shapeCasts_S2x4_S2x4x1x1 (ix4 d h 0 0) = L (ix2 d h) := by
  rw [Pointwise.shapeCast_apply]
  refine congrArg L (Shape.reshapeEquiv_eq_of_vals _ _ _ (d.val * 4 + h.val) (d.val * 4 + h.val) ?_ ?_ rfl)
  · exact rowMajor_val2 _ 4 rfl
  · refine (rowMajor_val4 (d := ![2, 4, 1, 1]) _ 4 1 1 rfl rfl rfl).trans ?_
    show d.val * 4 + h.val * 1 + 0 * 1 + 0 = d.val * 4 + h.val
    omega
theorem g_blk (t : Fin cfg0.N) (d : Fin 2) : (bG m c t (ix4 d 0 0 0) : EReal) = lo m c d (t.val / 4) := by
  have ht := t_lt t
  have e1 : (bG m c t (ix4 d 0 0 0) : EReal) = (V m c main_v0 : Vec Ideal S2x4x1x1 .f32) (ix4 d ⟨t.val / 4 % 4, Nat.mod_lt _ (by decide)⟩ 0 0) := by
    blk_simp [bG, iblk]
    refine congrArg (V m c main_v0) (funext fun a => Fin.ext ?_)
    have ec := tr0 t
    match a with
    | ⟨0, _⟩ =>
      show cc0_transform_0 (grid0.coords t) 0 * 2 + 1 * d.val = _
      rw [ec]; show 0 * 2 + 1 * d.val = d.val; omega
    | ⟨1, _⟩ =>
      show cc0_transform_0 (grid0.coords t) 1 * 1 + 1 * 0 = _
      rw [ec]; show t.val / 4 % 4 * 1 + 1 * 0 = t.val / 4 % 4; omega
    | ⟨2, _⟩ =>
      show cc0_transform_0 (grid0.coords t) 2 * 1 + 1 * 0 = _
      rw [ec]; rfl
    | ⟨3, _⟩ =>
      show cc0_transform_0 (grid0.coords t) 3 * 1 + 1 * 0 = _
      rw [ec]; rfl
  rw [e1, v0]
  exact logit_cast _ _ _

theorem rd_K (u : Fin 16) (B : Vec Ideal S1x4096x256 .bf16) (r a : Fin 256) : rd (rK u) B (ix3 0 r a) = B (ix3 0 ⟨256 * u.val + r.val, by omega⟩ a) := by
  refine congrArg B (funext fun d => Fin.ext ?_)
  match d with
  | ⟨0, _⟩ => rfl
  | ⟨1, _⟩ => show 256 * u.val + 1 * r.val = 256 * u.val + r.val; omega
  | ⟨2, _⟩ => show 0 + 1 * a.val = a.val; omega
theorem rd_V (u : Fin 16) (B : Vec Ideal S1x4096x512 .bf16) (r : Fin 256) (a : Fin 512) : rd (rV u) B (ix3 0 r a) = B (ix3 0 ⟨256 * u.val + r.val, by omega⟩ a) := by
  refine congrArg B (funext fun d => Fin.ext ?_)
  match d with
  | ⟨0, _⟩ => rfl
  | ⟨1, _⟩ => show 256 * u.val + 1 * r.val = 256 * u.val + r.val; omega
  | ⟨2, _⟩ => show 0 + 1 * a.val = a.val; omega
theorem rd_G0 (B : Vec Ideal S2x1x1x1 .f32) : rd r0 B (ix4 0 0 0 0) = B (ix4 0 0 0 0) := by
  refine congrArg B (funext fun d => Fin.ext ?_)
  match d with
  | ⟨0, _⟩ => rfl
  | ⟨1, _⟩ => rfl
  | ⟨2, _⟩ => rfl
  | ⟨3, _⟩ => rfl
theorem rd_G1 (B : Vec Ideal S2x1x1x1 .f32) : rd r1 B (ix4 0 0 0 0) = B (ix4 1 0 0 0) := by
  refine congrArg B (funext fun d => Fin.ext ?_)
  match d with
  | ⟨0, _⟩ => rfl
  | ⟨1, _⟩ => rfl
  | ⟨2, _⟩ => rfl
  | ⟨3, _⟩ => rfl

/-! ## The sequences of a batch's head -/

/-- The queries, keys and values of group `g`, by row. -/
def Qs (g n : ℕ) (a : Fin 256) : ℝ := xr m c (g / 4) n (3072 + 256 * (g % 4) + a.val)
def Ks (g n : ℕ) (a : Fin 256) : ℝ := xr m c (g / 4) n (4096 + 256 * (g % 4) + a.val)
def Us (g n : ℕ) (d : Fin 512) : ℝ := xr m c (g / 4) n (5120 + 512 * (g % 4) + d.val)

section
variable (h : RealX m c) (g e : ℕ) (hg : g < 8) (he : e < 32) (r : Fin 256)
include h hg he
theorem pt_f : (pt (4 * g + e / 16)).val = 4 * g + e / 16 := by show (4 * g + e / 16) % 32 = _; omega
theorem pt_b : (pt (4 * g + 2 + e / 16)).val = 4 * g + 2 + e / 16 := by show (4 * g + 2 + e / 16) % 32 = _; omega
theorem row_f : 4096 * rowB (4 * g + e / 16) + (256 * (uOf e).val + r.val) = 256 * e + r.val := by
  have hu : (uOf e).val = e % 16 := rfl
  unfold rowB; rw [if_pos (by omega), hu]; omega
theorem row_b : 4096 * rowB (4 * g + 2 + e / 16) + (256 * (uOf e).rev.val + r.val) = 8191 - (256 * e + (Fin.revPerm r).val) := by
  have hr := r.isLt
  have hu : (uOf e).val = e % 16 := rfl
  rw [rev_val, Fin.val_rev, hu]
  unfold rowB; rw [if_neg (by omega)]; omega
theorem q_f (a : Fin 256) : rd (rK (uOf e)) (bQ m c (pt (4 * g + e / 16))) (ix3 0 r a) = (Qs m c g (256 * e + r.val) a : EReal) := by
  rw [rd_K, q_blk m c h]
  show ((xr m c _ (4096 * rowB _ + (256 * (uOf e).val + r.val)) _ : ℝ) : EReal) = _
  rw [pt_f m c h g e hg he, row_f m c h g e hg he, show (4 * g + e / 16) / 16 = g / 4 by omega, show (4 * g + e / 16) / 4 % 4 = g % 4 by omega]; rfl
theorem k_f (a : Fin 256) : rd (rK (uOf e)) (bK m c (pt (4 * g + e / 16))) (ix3 0 r a) = (Ks m c g (256 * e + r.val) a : EReal) := by
  rw [rd_K, k_blk m c h]
  show ((xr m c _ (4096 * rowB _ + (256 * (uOf e).val + r.val)) _ : ℝ) : EReal) = _
  rw [pt_f m c h g e hg he, row_f m c h g e hg he, show (4 * g + e / 16) / 16 = g / 4 by omega, show (4 * g + e / 16) / 4 % 4 = g % 4 by omega]; rfl
theorem v_f (d : Fin 512) : rd (rV (uOf e)) (bV m c (pt (4 * g + e / 16))) (ix3 0 r d) = (Us m c g (256 * e + r.val) d : EReal) := by
  rw [rd_V, v_blk m c h]
  show ((xr m c _ (4096 * rowB _ + (256 * (uOf e).val + r.val)) _ : ℝ) : EReal) = _
  rw [pt_f m c h g e hg he, row_f m c h g e hg he, show (4 * g + e / 16) / 16 = g / 4 by omega, show (4 * g + e / 16) / 4 % 4 = g % 4 by omega]; rfl
theorem q_b (a : Fin 256) : rd (rK (uOf e).rev) (bQ m c (pt (4 * g + 2 + e / 16))) (ix3 0 r a) = (Qs m c g (8191 - (256 * e + (Fin.revPerm r).val)) a : EReal) := by
  rw [rd_K, q_blk m c h]
  show ((xr m c _ (4096 * rowB _ + (256 * (uOf e).rev.val + r.val)) _ : ℝ) : EReal) = _
  rw [pt_b m c h g e hg he, row_b m c h g e hg he, show (4 * g + 2 + e / 16) / 16 = g / 4 by omega, show (4 * g + 2 + e / 16) / 4 % 4 = g % 4 by omega]; rfl
theorem k_b (a : Fin 256) : rd (rK (uOf e).rev) (bK m c (pt (4 * g + 2 + e / 16))) (ix3 0 r a) = (Ks m c g (8191 - (256 * e + (Fin.revPerm r).val)) a : EReal) := by
  rw [rd_K, k_blk m c h]
  show ((xr m c _ (4096 * rowB _ + (256 * (uOf e).rev.val + r.val)) _ : ℝ) : EReal) = _
  rw [pt_b m c h g e hg he, row_b m c h g e hg he, show (4 * g + 2 + e / 16) / 16 = g / 4 by omega, show (4 * g + 2 + e / 16) / 4 % 4 = g % 4 by omega]; rfl
theorem v_b (d : Fin 512) : rd (rV (uOf e).rev) (bV m c (pt (4 * g + 2 + e / 16))) (ix3 0 r d) = (Us m c g (8191 - (256 * e + (Fin.revPerm r).val)) d : EReal) := by
  rw [rd_V, v_blk m c h]
  show ((xr m c _ (4096 * rowB _ + (256 * (uOf e).rev.val + r.val)) _ : ℝ) : EReal) = _
  rw [pt_b m c h g e hg he, row_b m c h g e hg he, show (4 * g + 2 + e / 16) / 16 = g / 4 by omega, show (4 * g + 2 + e / 16) / 4 % 4 = g % 4 by omega]; rfl
theorem D_f : Reads (fwdD (rd r0 (bG m c (pt (4 * g + e / 16))))) (rho (lo m c 0 g)) 1 (Equiv.refl _) := by
  have e1 := fwd_reads (rd r0 (bG m c (pt (4 * g + e / 16))))
  rwa [rd_G0, g_blk, pt_f m c h g e hg he, show (4 * g + e / 16) / 4 = g by omega] at e1
theorem D_b : Reads (bwdD (rd r1 (bG m c (pt (4 * g + 2 + e / 16))))) (rho (lo m c 1 g)) 0 Fin.revPerm := by
  have e1 := bwd_reads (rd r1 (bG m c (pt (4 * g + 2 + e / 16))))
  rwa [rd_G1, g_blk, pt_b m c h g e hg he, show (4 * g + 2 + e / 16) / 4 = g by omega] at e1
end

/-! ## The states and the rows -/

theorem zeroS_at (a : Fin 256) (d : Fin 512) : (zeroS (F := Ideal) (ix2 a d) : EReal) = 0 := by
  pointwise [zeroS]
theorem SF_at (h : RealX m c) (g : ℕ) (hg : g < 8) (e : ℕ) (he : e ≤ 32) (a : Fin 256) (d : Fin 512) :
    (SF m c g e (ix2 a d) : EReal) = (st (rho (lo m c 0 g)) (fun n => Ks m c g n a * Us m c g n d) e : EReal) := by
  induction e generalizing a d with
  | zero => rw [st_zero, EReal.coe_zero]; exact zeroS_at a d
  | succ e ih =>
    exact step_at _ _ _ _ (D_f m c h g e hg (by omega)) _ _ _ (Ks m c g) (Us m c g) e (fun r a => k_f m c h g e hg (by omega) r a) (fun r d => v_f m c h g e hg (by omega) r d) (fun a d => ih (by omega) a d) a d
theorem SB_at (h : RealX m c) (g : ℕ) (hg : g < 8) (e : ℕ) (he : e ≤ 32) (a : Fin 256) (d : Fin 512) :
    (SB m c g e (ix2 a d) : EReal) = (st (rho (lo m c 1 g)) (fun n => Ks m c g (8191 - n) a * Us m c g (8191 - n) d) e : EReal) := by
  induction e generalizing a d with
  | zero => rw [st_zero, EReal.coe_zero]; exact zeroS_at a d
  | succ e ih =>
    exact step_at _ _ _ _ (D_b m c h g e hg (by omega)) _ _ _ (fun n => Ks m c g (8191 - n)) (fun n => Us m c g (8191 - n)) e (fun r a => k_b m c h g e hg (by omega) r a) (fun r d => v_b m c h g e hg (by omega) r d) (fun a d => ih (by omega) a d) a d
theorem park_at (h : RealX m c) (g : ℕ) (hg : g < 8) (e : ℕ) (he : e < 32) (r : Fin 256) (d : Fin 512) :
    (park m c g e (ix2 r d) : EReal) = ((∑ n ∈ Finset.range 8192, (∑ a, Qs m c g (256 * e + r.val) a * Ks m c g n a) * W (rho (lo m c 0 g)) 1 (256 * e + r.val) n * Us m c g n d : ℝ) : EReal) :=
  row_at _ _ _ _ (D_f m c h g e hg he) _ _ _ _ (Qs m c g) (Ks m c g) (Us m c g) e he (fun r a => q_f m c h g e hg he r a) (fun r a => k_f m c h g e hg he r a) (fun r d => v_f m c h g e hg he r d) (fun a d => SF_at m c h g hg e he.le a d) r d

/-- A row of the result: every row's value, weighed by the product of query and key and by the decay of the distance. -/
def retV (g R : ℕ) (d : Fin 512) : ℝ :=
  ∑ n : Fin 8192, Us m c g n.val d * ((∑ a, Qs m c g R a * Ks m c g n.val a) * if n.val ≤ R then rho (lo m c 0 g) ^ (R - n.val) else rho (lo m c 1 g) ^ (n.val - R))

theorem outC_at (h : RealX m c) (g : ℕ) (hg : g < 8) (e : ℕ) (he : e < 32) (r : Fin 256) (d : Fin 512) :
    (outC m c g e (ix2 r d) : EReal) = (retV m c g (256 * (31 - e) + r.val) d : EReal) := by
  have hr := r.isLt
  have eR : 256 * e + (Fin.revPerm r).val = 8191 - (256 * (31 - e) + r.val) := by rw [rev_val]; omega
  have h1 := row_at _ _ _ _ (D_b m c h g e hg he) _ _ _ _ (fun n => Qs m c g (8191 - n)) (fun n => Ks m c g (8191 - n)) (fun n => Us m c g (8191 - n)) e he (fun r a => q_b m c h g e hg he r a) (fun r a => k_b m c h g e hg he r a) (fun r d => v_b m c h g e hg he r d) (fun a d => SB_at m c h g hg e he.le a d) r d
  have h2 := park_at m c h g hg (31 - e) (by omega) r d
  rw [eR] at h1
  simp only [show 8191 - (8191 - (256 * (31 - e) + r.val)) = 256 * (31 - e) + r.val by omega] at h1
  unfold retV
  rw [← both _ _ _ _ (fun n => Us m c g n d) _ (by omega), EReal.coe_add, ← h2, ← h1]
  rfl

theorem outB_at (h : RealX m c) (g : ℕ) (hg : g < 8) (j : ℕ) (hj : j < 2) (y : S1x4096x512.Idx) :
    (outB m c g j y : EReal) = (retV m c g (4096 * (1 - j) + (y 1).val) (y 2) : EReal) := by
  have hy : (y 1).val < 4096 := (y 1).isLt
  refine (outC_at m c h g hg _ (by omega) _ _).trans ?_
  show ((retV m c g (256 * (31 - (16 * j + (15 - (y 1).val / 256))) + (y 1).val % 256) (y 2) : ℝ) : EReal) = _
  rw [show 256 * (31 - (16 * j + (15 - (y 1).val / 256))) + (y 1).val % 256 = 4096 * (1 - j) + (y 1).val by omega]

/-- The result array. -/
def outArr : Vec Ideal S2x8192x2048 .bf16 := fun y => (retV m c (4 * (y 0).val + (y 2).val / 512) (y 1).val ⟨(y 2).val % 512, Nat.mod_lt _ (by decide)⟩ : EReal)

theorem arr (h : RealX m c) : (dats m 0 c).arrAt 4 cfg0.N = outArr m c := by
  refine (dats m 0 c).arrAt_eq_of_covers 4 _ (by decide +kernel) fun t hf y => ?_
  have h2 := (flush4 t).mp hf
  have ht := t_lt t
  rw [after0_4]
  blk_simp
  refine (outB_at m c h (t.val / 4) (by omega) (t.val % 4 - 2) (by omega) y).trans ?_
  have ec := tr4 t h2
  have hy0 : (y 0).val < 1 := (y 0).isLt
  have hy2 : (y 2).val < 512 := (y 2).isLt
  have e0 : (((win0_4.blk t).view.emb y) 0).val = t.val / 16 := by
    show cc0_transform_4 (grid0.coords t) 0 * 1 + 1 * (y 0).val = _
    rw [ec]; show t.val / 16 * 1 + 1 * (y 0).val = _
    omega
  have e1 : (((win0_4.blk t).view.emb y) 1).val = 4096 * (1 - (t.val % 4 - 2)) + (y 1).val := by
    show cc0_transform_4 (grid0.coords t) 1 * 4096 + 1 * (y 1).val = _
    rw [ec]; show (3 - t.val % 4) * 4096 + 1 * (y 1).val = _
    omega
  have e2 : (((win0_4.blk t).view.emb y) 2).val = 512 * (t.val / 4 % 4) + (y 2).val := by
    show cc0_transform_4 (grid0.coords t) 2 * 512 + 1 * (y 2).val = _
    rw [ec]; show t.val / 4 % 4 * 512 + 1 * (y 2).val = _
    omega
  have e3 : outArr m c ((win0_4.blk t).view.emb y) = (retV m c (t.val / 4) (4096 * (1 - (t.val % 4 - 2)) + (y 1).val) (y 2) : EReal) := by
    have f : (⟨(((win0_4.blk t).view.emb y) 2).val % 512, Nat.mod_lt _ (by decide)⟩ : Fin 512) = y 2 := Fin.ext (by show (((win0_4.blk t).view.emb y) 2).val % 512 = (y 2).val; omega)
    unfold outArr
    rw [f, e1, e0, show 4 * (t.val / 16) + (((win0_4.blk t).view.emb y) 2).val / 512 = t.val / 4 by omega]
  rw [← e3]
end Cert.RetKernelIdeal.Chunk
end
-- ==== Proof.RetRef.lean ====
/- The retention's plain reference, read at an index. -/
module
public import proofs.«01_k».proof.Proof.Gen.RetReferenceIdeal.Run
public import proofs.«01_k».proof.Proof.RetMath
public import proofs.«01_k».proof.Proof.LayerMath

@[expose] public section
set_option maxRecDepth 16384
noncomputable section
open Idealize.ShloMosaic Idealize.ShloMosaic.TcCoe Idealize.SL.Sem
namespace Cert.RetReferenceIdeal.Ret
open Cert.RetReferenceIdeal Cert.RetReferenceIdeal.Gen Cert.Ret

/-- The logarithm of the decays, by direction and head. -/
def LG {F : FTy → Type} [FloatOps F] (x : FVec F S2x4 .f32) : FVec F S2x4x1x1 .f32 :=
  broadcastInDim S2x4x1x1 ![0, 1] bcast_S2x4_S2x4x1x1_0_1 (Host.negf (select (cmpf .une (subf (Host.negf x) (broadcastInDim S2x4 ![] bcast_S_S2x4 (constant S_ .f32 0x00000000#32))) (subf (Host.negf x) (broadcastInDim S2x4 ![] bcast_S_S2x4 (constant S_ .f32 0x00000000#32)))) (addf (Host.negf x) (broadcastInDim S2x4 ![] bcast_S_S2x4 (constant S_ .f32 0x00000000#32))) (addf (maximumf (Host.negf x) (broadcastInDim S2x4 ![] bcast_S_S2x4 (constant S_ .f32 0x00000000#32))) (Host.log1p (Host.exp (Host.negf (Host.absf (subf (Host.negf x) (broadcastInDim S2x4 ![] bcast_S_S2x4 (constant S_ .f32 0x00000000#32))))))))))
/-- How far row `n` lies before row `R`. -/
def BACK {F : FTy → Type} [FloatOps F] : FVec F S8192x8192 .f32 :=
  subf (broadcastInDim S8192x8192 ![0, 1] bcast_S8192x1_S8192x8192_0_1 (broadcastInDim S8192x1 ![0] bcast_S8192_S8192x1_0 (sitofp .f32 (iotaInDim S8192 32 0)))) (broadcastInDim S8192x8192 ![0, 1] bcast_S1x8192_S8192x8192_0_1 (broadcastInDim S1x8192 ![1] bcast_S8192_S1x8192_1 (sitofp .f32 (iotaInDim S8192 32 0))))
/-- The decay between rows, by head. -/
def DEC {F : FTy → Type} [FloatOps F] (b : FVec F S8192x8192 .f32) (g : FVec F S2x4x1x1 .f32) : FVec F S4x8192x8192 .f32 :=
  select (broadcastInDim S4x8192x8192 ![1, 2] bcast_S8192x8192_S4x8192x8192_1_2 (cmpf .oge b (broadcastInDim S8192x8192 ![] bcast_S_S8192x8192 (constant S_ .f32 0x00000000#32))))
    (Host.exp (mulf (broadcastInDim S4x8192x8192 ![0, 1, 2] bcast_S1x8192x8192_S4x8192x8192_0_1_2 (broadcastInDim S1x8192x8192 ![1, 2] bcast_S8192x8192_S1x8192x8192_1_2 b)) (broadcastInDim S4x8192x8192 ![0, 1, 2] bcast_S4x1x1_S4x8192x8192_0_1_2 (shapeCast _ (extractStridedSlice S1x4x1x1 ![0, 0, 0, 0] g slices_S2x4x1x1_S1x4x1x1_0_0_0_0) shapeCasts_S1x4x1x1_S4x1x1))))
    (Host.exp (mulf (broadcastInDim S4x8192x8192 ![0, 1, 2] bcast_S1x8192x8192_S4x8192x8192_0_1_2 (broadcastInDim S1x8192x8192 ![1, 2] bcast_S8192x8192_S1x8192x8192_1_2 (Host.negf b))) (broadcastInDim S4x8192x8192 ![0, 1, 2] bcast_S4x1x1_S4x8192x8192_0_1_2 (shapeCast _ (extractStridedSlice S1x4x1x1 ![1, 0, 0, 0] g slices_S2x4x1x1_S1x4x1x1_1_0_0_0) shapeCasts_S1x4x1x1_S4x1x1))))
/-- Queries, keys and values, by head. -/
def Q4 {F : FTy → Type} [FloatOps F] (X : FVec F S2x8192x11264 .bf16) : FVec F S2x8192x4x256 .f32 :=
  shapeCast _ (extractStridedSlice S2x8192x1024 ![0, 0, 3072] (extf .f32 X bitsLt_bf16_f32) slices_S2x8192x11264_S2x8192x1024_0_0_3072) shapeCasts_S2x8192x1024_S2x8192x4x256
def K4 {F : FTy → Type} [FloatOps F] (X : FVec F S2x8192x11264 .bf16) : FVec F S2x8192x4x256 .f32 :=
  shapeCast _ (extractStridedSlice S2x8192x1024 ![0, 0, 4096] (extf .f32 X bitsLt_bf16_f32) slices_S2x8192x11264_S2x8192x1024_0_0_4096) shapeCasts_S2x8192x1024_S2x8192x4x256
def V4 {F : FTy → Type} [FloatOps F] (X : FVec F S2x8192x11264 .bf16) : FVec F S2x8192x4x512 .f32 :=
  shapeCast _ (extractStridedSlice S2x8192x2048 ![0, 0, 5120] (extf .f32 X bitsLt_bf16_f32) slices_S2x8192x11264_S2x8192x2048_0_0_5120) shapeCasts_S2x8192x2048_S2x8192x4x512
/-- The weighted sums, by head. -/
def OUT4 {F : FTy → Type} [FloatOps F] (q k : FVec F S2x8192x4x256 .f32) (v : FVec F S2x8192x4x512 .f32) (w : FVec F S4x8192x8192 .f32) : FVec F S2x8192x4x512 .f32 :=
  transpose S2x8192x4x512 [0, 3, 1, 2] (Host.dotGeneral dot_S2x8192x4x512_S2x4x8192x8192_S2x4x512x8192_1_3_3_2_02_01 none v (mulf (Host.dotGeneral dot_S2x8192x4x256_S2x8192x4x256_S2x4x8192x8192_3_3_1_1_02_02 none q k) (broadcastInDim S2x4x8192x8192 ![0, 1, 2, 3] bcast_S1x4x8192x8192_S2x4x8192x8192_0_1_2_3 (broadcastInDim S1x4x8192x8192 ![1, 2, 3] bcast_S4x8192x8192_S1x4x8192x8192_1_2_3 w)))) transposes_S2x4x512x8192_S2x8192x4x512_0_3_1_2

theorem res_eq {F : FTy → Type} [FloatOps F] (m : (ℓ : Loc nD τ sig) → Buf (Elt F) ℓ) (c : Dev nD) :
    Value.res_out0 m c = truncf .bf16 (shapeCast _ (OUT4 (Q4 (m ((c.tc : Thread nD τ).loc main_arg0))) (K4 (m ((c.tc : Thread nD τ).loc main_arg0))) (V4 (m ((c.tc : Thread nD τ).loc main_arg0))) (DEC BACK (LG (m ((c.tc : Thread nD τ).loc main_arg1))))) shapeCasts_S2x8192x4x512_S2x8192x2048) bitsLt_bf16_f32 := by
  unfold Value.res_out0 Value.res_main_v40 OUT4 Q4 K4 V4 DEC BACK LG; rfl

theorem LG_at (x : FVec Ideal S2x4 .f32) (d : Fin 2) (h : Fin 4) : (LG x (ix4 d h 0 0) : EReal) = lsg (x (ix2 d h)) := by
  rw [← lsg_softplus]
  pointwise [LG]
  rw [if_neg (not_not.mpr rfl)]
  rfl
theorem pos_at (r : Fin 8192) : (FloatOps.sitofp (F := Ideal) FTy.f32 (BitVec.ofNat 32 r.val) : EReal) = ((r.val : ℝ) : EReal) := by
  show ((((BitVec.ofNat 32 r.val).toInt : ℤ) : ℝ) : EReal) = _
  have e : (BitVec.ofNat 32 r.val).toInt = (r.val : ℤ) := by
    rw [BitVec.toInt_eq_toNat_of_lt (by rw [BitVec.toNat_ofNat]; omega), BitVec.toNat_ofNat]; omega
  rw [e, Int.cast_natCast]
theorem BACK_at (R n : Fin 8192) : (BACK (F := Ideal) (ix2 R n) : EReal) = (((R.val : ℝ) - n.val : ℝ) : EReal) := by
  rw [EReal.coe_sub, ← pos_at, ← pos_at]
  pointwise [BACK]
theorem DEC_at (b : FVec Ideal S8192x8192 .f32) (g : FVec Ideal S2x4x1x1 .f32) (h : Fin 4) (R n : Fin 8192) :
    (DEC b g (ix3 h R n) : EReal) = if (0 : EReal) ≤ b (ix2 R n) then Ideal.exp (b (ix2 R n) * g (ix4 0 h 0 0)) else Ideal.exp (-(b (ix2 R n)) * g (ix4 1 h 0 0)) := by
  pointwise [DEC]
theorem OUT4_at (q k : FVec Ideal S2x8192x4x256 .f32) (v : FVec Ideal S2x8192x4x512 .f32) (w : FVec Ideal S4x8192x8192 .f32) (b : Fin 2) (R : Fin 8192) (h : Fin 4) (d : Fin 512) :
    (OUT4 q k v w (ix4 b R h d) : EReal) = ∑ n : Fin 8192, v (ix4 b n h d) * ((∑ a : Fin 256, q (ix4 b R h a) * k (ix4 b n h a)) * w (ix3 h R n)) := by
  pointwise [OUT4]
theorem Q4_at (X : FVec Ideal S2x8192x11264 .bf16) (b : Fin 2) (n : Fin 8192) (h : Fin 4) (a : Fin 256) :
    (Q4 X (ix4 b n h a) : EReal) = X (ix3 b n ⟨3072 + 256 * h.val + a.val, by omega⟩) := by
  refine (Layer.split_at 4 256 _ _ b n h a ⟨256 * h.val + a.val, by omega⟩ rfl).trans ?_
  refine congrArg X (funext fun d => Fin.ext ?_)
  match d with
  | ⟨0, _⟩ => show 0 + b.val = b.val; omega
  | ⟨1, _⟩ => show 0 + n.val = n.val; omega
  | ⟨2, _⟩ => show 3072 + (256 * h.val + a.val) = 3072 + 256 * h.val + a.val; omega
theorem K4_at (X : FVec Ideal S2x8192x11264 .bf16) (b : Fin 2) (n : Fin 8192) (h : Fin 4) (a : Fin 256) :
    (K4 X (ix4 b n h a) : EReal) = X (ix3 b n ⟨4096 + 256 * h.val + a.val, by omega⟩) := by
  refine (Layer.split_at 4 256 _ _ b n h a ⟨256 * h.val + a.val, by omega⟩ rfl).trans ?_
  refine congrArg X (funext fun d => Fin.ext ?_)
  match d with
  | ⟨0, _⟩ => show 0 + b.val = b.val; omega
  | ⟨1, _⟩ => show 0 + n.val = n.val; omega
  | ⟨2, _⟩ => show 4096 + (256 * h.val + a.val) = 4096 + 256 * h.val + a.val; omega
theorem V4_at (X : FVec Ideal S2x8192x11264 .bf16) (b : Fin 2) (n : Fin 8192) (h : Fin 4) (a : Fin 512) :
    (V4 X (ix4 b n h a) : EReal) = X (ix3 b n ⟨5120 + 512 * h.val + a.val, by omega⟩) := by
  refine (Layer.split_at 4 512 _ _ b n h a ⟨512 * h.val + a.val, by omega⟩ rfl).trans ?_
  refine congrArg X (funext fun d => Fin.ext ?_)
  match d with
  | ⟨0, _⟩ => show 0 + b.val = b.val; omega
  | ⟨1, _⟩ => show 0 + n.val = n.val; omega
  | ⟨2, _⟩ => show 5120 + (512 * h.val + a.val) = 5120 + 512 * h.val + a.val; omega

/-- The decay between two rows: a power of the direction's decay over one row. -/
theorem dec_real (x0 x1 : EReal) (R n : ℕ) :
    (if (0 : EReal) ≤ (((R : ℝ) - n : ℝ) : EReal) then Ideal.exp ((((R : ℝ) - n : ℝ) : EReal) * lsg x0) else Ideal.exp (-(((R : ℝ) - n : ℝ) : EReal) * lsg x1))
      = ((if n ≤ R then rho x0 ^ (R - n) else rho x1 ^ (n - R) : ℝ) : EReal) := by
  have e : (0 : EReal) ≤ (((R : ℝ) - n : ℝ) : EReal) ↔ n ≤ R := by
    rw [← EReal.coe_zero, EReal.coe_le_coe_iff, sub_nonneg, Nat.cast_le]
  simp only [e]
  split_ifs with h
  · rw [← Nat.cast_sub h, exp_rows]
  · rw [← EReal.coe_neg, neg_sub, ← Nat.cast_sub (by omega), exp_rows]

/-- The result at a batch, row, head and lane. -/
theorem res_at (m : (ℓ : Loc nD τ sig) → Buf (Elt Ideal) ℓ) (c : Dev nD) (b : Fin 2) (R : Fin 8192) (h : Fin 4) (d : Fin 512) (k : Fin 2048) (hk : k.val = 512 * h.val + d.val)
    (X : FVec Ideal S2x8192x11264 .bf16) (L : FVec Ideal S2x4 .f32) (hX : m ((c.tc : Thread nD τ).loc main_arg0) = X) (hL : m ((c.tc : Thread nD τ).loc main_arg1) = L) :
    (Value.res_out0 m c (ix3 b R k) : EReal) = ∑ n : Fin 8192, X (ix3 b n ⟨5120 + 512 * h.val + d.val, by omega⟩)
      * ((∑ a : Fin 256, X (ix3 b R ⟨3072 + 256 * h.val + a.val, by omega⟩) * X (ix3 b n ⟨4096 + 256 * h.val + a.val, by omega⟩))
        * ((if n.val ≤ R.val then rho (L (ix2 0 h)) ^ (R.val - n.val) else rho (L (ix2 1 h)) ^ (n.val - R.val) : ℝ) : EReal)) := by
  rw [res_eq, hX, hL]
  show (shapeCast S2x8192x2048 (OUT4 (Q4 X) (K4 X) (V4 X) (DEC BACK (LG L))) shapeCasts_S2x8192x4x512_S2x8192x2048 (ix3 b R k) : EReal) = _
  refine (Layer.join_at 4 512 _ _ b R h d k hk).trans ?_
  rw [OUT4_at]
  simp only [V4_at, Q4_at, K4_at, DEC_at, BACK_at, LG_at, dec_real]
end Cert.RetReferenceIdeal.Ret
end
-- ==== Proof.RetAlg.lean ====
/- The retention's value claim: kernel and plain reference end with the same array, of a real projection. -/
module
public import proofs.«01_k».proof.Defs
public import proofs.«01_k».proof.Proof.Gen.RetKernel
public import proofs.«01_k».proof.Proof.RetOut
public import proofs.«01_k».proof.Proof.RetRef
public import proofs.«01_k».proof.Proof.Softmax

@[expose] public section
set_option maxRecDepth 65536
noncomputable section
open Idealize.ShloMosaic Idealize.ShloMosaic.TcCoe Idealize.SL.Sem

namespace Cert.RetKernelIdeal.Chunk
open Cert.RetKernelIdeal Cert.RetKernelIdeal.Gen Cert.Ret
variable (m : (ℓ : Loc nD τ sig) → Buf (Elt Ideal) ℓ) (ρ : Dev nD → PrngReg)

/-- The run, with the result array named. -/
theorem run_named : θ_run defs (onTc (τ := τ) (main (F := Ideal))) ⟨m, fun _ => 0, ρ⟩ (fun r => ∀ c : Dev nD,
      r.2.mem ((c.tc : Thread nD τ).loc main_v1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 4, h.2 c⟩) (θ_run_and (run_main m ρ) (unchanged m ρ))

/-- A sum over rows of real entries, as the plain reference writes it, is the real sum. -/
theorem retV_sum (c : Dev nD) (b : Fin 2) (R : Fin 8192) (h : Fin 4) (d : Fin 512) (hX : RealX m c)
    (X : FVec Ideal S2x8192x11264 .bf16) (L : FVec Ideal S2x4 .f32) (eX : m ((c.tc : Thread nD τ).loc main_arg0) = X) (eL : m ((c.tc : Thread nD τ).loc main_arg1) = L) :
    ∑ n : Fin 8192, (X (ix3 b n ⟨5120 + 512 * h.val + d.val, by omega⟩) : EReal)
      * ((∑ a : Fin 256, (X (ix3 b R ⟨3072 + 256 * h.val + a.val, by omega⟩) : EReal) * X (ix3 b n ⟨4096 + 256 * h.val + a.val, by omega⟩))
        * ((if n.val ≤ R.val then rho (L (ix2 0 h)) ^ (R.val - n.val) else rho (L (ix2 1 h)) ^ (n.val - R.val) : ℝ) : EReal))
      = (retV m c (4 * b.val + h.val) R.val d : EReal) := by
  subst eX eL
  have eb : (4 * b.val + h.val) / 4 = b.val := by omega
  have eh : (4 * b.val + h.val) % 4 = h.val := by omega
  have el (d : Fin 2) : lo m c d (4 * b.val + h.val) = (m ((c.tc : Thread nD τ).loc main_arg1) : Vec Ideal S2x4 .f32) (ix2 d h) := by
    unfold lo
    exact congrArg _ (congrArg (ix2 d) (Fin.ext eh))
  unfold retV Us Qs Ks
  rw [Softmax.coe_sum]
  refine Finset.sum_congr rfl fun n _ => ?_
  rw [el, el, eb, eh, EReal.coe_mul, EReal.coe_mul, Softmax.coe_sum]
  refine congrArg₂ (· * ·) (x_real m c hX _ _ _ _ _ _ rfl rfl rfl) (congrArg₂ (· * ·) (Finset.sum_congr rfl fun a _ => ?_) rfl)
  rw [EReal.coe_mul]
  exact congrArg₂ (· * ·) (x_real m c hX _ _ _ _ _ _ rfl rfl rfl) (x_real m c hX _ _ _ _ _ _ rfl rfl rfl)
end Cert.RetKernelIdeal.Chunk

namespace Cert.Proof

theorem facts_finite_ret : Cert.Pre_finite_ret.Facts where
  bcast_S_S2x8192x11264 := by decide

/-! The kernel and its idealization have the same text: their bodies, body tables and programs are equal. -/

theorem ret_body_eq : Cert.RetKernelIdeal.cc0_retention (F := Bits) = Cert.RetKernel.cc0_retention (F := Bits) := by
  funext i
  unfold Cert.RetKernelIdeal.cc0_retention Cert.RetKernel.cc0_retention
  rfl
theorem ret_table_eq : Cert.RetKernelIdeal.defs₀ (F := Bits) = Cert.RetKernel.defs₀ (F := Bits) := by
  unfold Cert.RetKernelIdeal.defs₀ Cert.RetKernel.defs₀
  refine congrArg Defs.onTc ?_
  funext a b
  match a, b with
  | 0, (t, s) =>
    dsimp only
    rw [ret_body_eq]
    rfl
theorem ret_defs_eq : Cert.RetKernelIdeal.defs (F := Bits) = Cert.RetKernel.defs (F := Bits) := by
  unfold Cert.RetKernelIdeal.defs Cert.RetKernel.defs
  rw [ret_table_eq]
  rfl

/-- The retention kernel's frame on the words: the run over any float values, at the words. -/
theorem ret_kernel_frame : Cert.quiescent_RetKernel := by
  intro m ρ _
  rw [← ret_defs_eq]
  exact Cert.RetKernelIdeal.Chunk.frame (F := Bits) m ρ

/-- The plain retention leaves its arguments unchanged; it declares no semaphore. -/
theorem ret_reference_frame : Cert.quiescent_RetReferenceIdeal :=
  fun m ρ _ => (θ_run _ _ _).mono (fun r h => ⟨fun c => (h c).2, Idealize.ShloMosaic.sem_eq_zero_of_no_sems (by decide) r.2⟩)
    (Cert.RetReferenceIdeal.Value.run m ρ)

/-- The value claim: both programs end with the two-way retention of the same arguments, when the projection
    holds real numbers (`hreal`: the precondition, read at an index). -/
theorem ret_algebraic [h0 : Cert.Pre_finite_ret.Facts]
    (hreal : ∀ m c, Cert.Pre_finite_ret.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) = (fun _ => 1#1)
      → Cert.RetKernelIdeal.Chunk.RealX m c) :
    Cert.algebraic_RetKernelIdeal_RetReferenceIdeal_pre_finite_ret := by
  intro m g m' g' hpre hargs
  refine ⟨fun c => (Cert.RetKernelIdeal.Chunk.dats m 0 c).arrAt 4 Cert.RetKernelIdeal.cfg0.N, Cert.RetKernelIdeal.Chunk.run_named m g,
    (θ_run _ _ _).mono (fun r h c => ⟨(h c).1.trans ?_, (h c).2⟩) (Cert.RetReferenceIdeal.Value.run m' g')⟩
  have hX := hreal m c (hpre c)
  refine Eq.trans ?_ (Cert.RetKernelIdeal.Chunk.arr m c hX).symm
  funext y
  obtain ⟨b, R, k, rfl⟩ : ∃ (b : Fin 2) (R : Fin 8192) (k : Fin 2048), y = ix3 b R k := ⟨y 0, y 1, y 2, by
    funext d
    match d with
    | ⟨0, _⟩ => rfl
    | ⟨1, _⟩ => rfl
    | ⟨2, _⟩ => rfl⟩
  refine (Cert.RetReferenceIdeal.Ret.res_at m' c b R ⟨k.val / 512, by omega⟩ ⟨k.val % 512, by omega⟩ k (by show k.val = 512 * (k.val / 512) + k.val % 512; omega) _ _ (hargs c).1 (hargs c).2).trans ?_
  exact Cert.RetKernelIdeal.Chunk.retV_sum m c b R ⟨k.val / 512, by omega⟩ ⟨k.val % 512, by omega⟩ hX _ _ rfl rfl
end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojKernelIdeal.Value
public import proofs.«01_k».proof.Proof.Gen.InprojReferenceIdeal
public import proofs.«01_k».proof.Proof.Gen.InprojReferenceIdeal.Run
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.ModKernel
public import proofs.«01_k».proof.Proof.Gen.ModKernel.Skeleton
public import proofs.«01_k».proof.Proof.Gen.ModKernel.Launch
public import proofs.«01_k».proof.Proof.Gen.ModKernel.Points
public import proofs.«01_k».proof.Proof.Gen.ModKernel.Frame
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Points
public import proofs.«01_k».proof.Proof.Gen.ModKernelIdeal.Frame
public import proofs.«01_k».proof.Proof.Gen.ModKernelIdeal.Value
public import proofs.«01_k».proof.Proof.Gen.ModReferenceIdeal
public import proofs.«01_k».proof.Proof.Gen.ModReferenceIdeal.Run
public import proofs.«01_k».proof.Proof.Gen.RopeKernel
public import proofs.«01_k».proof.Proof.Gen.RopeKernel.Skeleton
public import proofs.«01_k».proof.Proof.Gen.RopeKernel.Launch
public import proofs.«01_k».proof.Proof.Gen.RopeKernel.Points
public import proofs.«01_k».proof.Proof.Gen.RopeKernel.Frame
public import proofs.«01_k».proof.Proof.Gen.RopeKernelIdeal
public import proofs.«01_k».proof.Proof.Gen.RopeKernelIdeal.Skeleton
public import proofs.«01_k».proof.Proof.Gen.RopeKernelIdeal.Launch
public import proofs.«01_k».proof.Proof.Gen.RopeKernelIdeal.Points
public import proofs.«01_k».proof.Proof.Gen.RopeKernelIdeal.Frame
public import proofs.«01_k».proof.Proof.Gen.RopeKernelIdeal.Value
public import proofs.«01_k».proof.Proof.Gen.RopeReferenceIdeal
public import proofs.«01_k».proof.Proof.Gen.RopeReferenceIdeal.Run
public import proofs.«01_k».proof.Proof.Gen.RetKernel
public import proofs.«01_k».proof.Proof.Gen.RetKernelIdeal
public import proofs.«01_k».proof.Proof.Gen.RetKernelIdeal.Skeleton
public import proofs.«01_k».proof.Proof.Gen.RetKernelIdeal.Launch
public import proofs.«01_k».proof.Proof.Gen.RetKernelIdeal.Points
public import proofs.«01_k».proof.Proof.Gen.RetKernelIdeal.Frame
public import proofs.«01_k».proof.Proof.Gen.RetReferenceIdeal
public import proofs.«01_k».proof.Proof.Gen.RetReferenceIdeal.Run
public import proofs.«01_k».proof.Proof.NaMath
public import proofs.«01_k».proof.Proof.FfnAlg
public import proofs.«01_k».proof.Proof.InpAlg
public import proofs.«01_k».proof.Proof.MergeAlg
public import proofs.«01_k».proof.Proof.ModAlg
public import proofs.«01_k».proof.Proof.RopeAlg
public import proofs.«01_k».proof.Proof.RetAlg
public import Idealize.ShloMosaic.Adequacy
public import Idealize.ShloMosaic.Init

@[expose] public section

noncomputable section

namespace Cert.Proof

open Idealize.ShloMosaic Idealize.SL.Sem Cert.Kernel

/-- A value whose absolute value is below infinity is a real number. -/
theorem real_of_lt (x : EReal) (h : max x (-x) < ⊤) : ∃ r : ℝ, x = (r : EReal) := by
  induction x with
  | bot => simp at h
  | top => simp at h
  | coe r => exact ⟨r, rfl⟩

theorem inf_bf16 : Ideal.ofBits .bf16 0x7F80#16 = ⊤ := by
  simp [Ideal.ofBits, Ideal.ieee, -EReal.coe_mul]
theorem inf_f32 : Ideal.ofBits .f32 0x7F800000#32 = ⊤ := by
  simp [Ideal.ofBits, Ideal.ieee, -EReal.coe_mul]

theorem facts_finite : Cert.Pre_finite.Facts where
  bcast_S_S2x8192x11264 := by decide
  bcast_S_S16x15x31 := by decide

/-- The precondition, read at an index: both arrays hold real numbers. -/
theorem finite_reals [h0 : Cert.Pre_finite.Facts] (X : Vec Ideal Cert.KernelIdeal.S2x8192x11264 .bf16) (B : Vec Ideal Cert.KernelIdeal.S16x15x31 .f32)
    (h : (Cert.Pre_finite.fn (F := Ideal) X B).1 = (fun _ => 1#1) ∧ (Cert.Pre_finite.fn (F := Ideal) X B).2 = (fun _ => 1#1)) :
    (∀ y, ∃ r : ℝ, X y = (r : EReal)) ∧ ∀ y, ∃ r : ℝ, B y = (r : EReal) := by
  refine ⟨fun y => real_of_lt _ ?_, fun y => real_of_lt _ ?_⟩
  · have h1 : BitVec.ofBool (decide (max (X y) (-(X y)) < Ideal.ofBits .bf16 0x7F80#16)) = 1#1 := congrFun h.1 y
    rw [inf_bf16] at h1
    by_contra hc
    rw [decide_eq_false hc] at h1
    exact absurd h1 (by decide)
  · have h1 : BitVec.ofBool (decide (max (B y) (-(B y)) < Ideal.ofBits .f32 0x7F800000#32)) = 1#1 := congrFun h.2 y
    rw [inf_f32] at h1
    by_contra hc
    rw [decide_eq_false hc] at h1
    exact absurd h1 (by decide)

/-- The retention's precondition, read at an index: the projection holds real numbers. -/
theorem finite_ret_reals [h0 : Cert.Pre_finite_ret.Facts] (X : Vec Ideal Cert.RetKernelIdeal.S2x8192x11264 .bf16) (L : Vec Ideal Cert.RetKernelIdeal.S2x4 .f32)
    (h : Cert.Pre_finite_ret.fn (F := Ideal) X L = (fun _ => 1#1)) (y : Cert.RetKernelIdeal.S2x8192x11264.Idx) : ∃ r : ℝ, X y = (r : EReal) := by
  refine real_of_lt _ ?_
  have h1 : BitVec.ofBool (decide (max (X y) (-(X y)) < Ideal.ofBits .bf16 0x7F80#16)) = 1#1 := congrFun h y
  rw [inf_bf16] at h1
  by_contra hc
  rw [decide_eq_false hc] at h1
  exact absurd h1 (by decide)

/-- The reference leaves its arguments unchanged; it declares no semaphore. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.1, (h c).2.2⟩, Idealize.ShloMosaic.sem_eq_zero_of_no_sems (by decide) r.2⟩) (Cert.ReferenceIdeal.Value.run m ρ)

/-- The value claim: both programs end with the neighbourhood attention of the same arguments. -/
theorem algebraic [h0 : Cert.Pre_finite.Facts] : Cert.algebraic_KernelIdeal_ReferenceIdeal_pre_finite := by
  intro m g m' g' hpre hargs
  refine ⟨fun c => Cert.KernelIdeal.Gen.W3 m g c (Proc.devRef .tc Cert.KernelIdeal.main_v6), Cert.KernelIdeal.NA.run3 m g,
    (θ_run _ _ _).mono (fun r h c => ⟨(h c).1.trans ?_, (h c).2.1, (h c).2.2⟩) (Cert.ReferenceIdeal.Value.run m' g')⟩
  obtain ⟨hX, hB⟩ := finite_reals _ _ (hpre c)
  refine (Cert.ReferenceIdeal.NA.res_eq m' c).trans ?_
  rw [(hargs c).1, (hargs c).2]
  exact ((Cert.KernelIdeal.NA.v6_eq m g c).trans (Cert.KernelIdeal.NA.values_eq _ _ hX hB)).symm

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.InprojKernel.Gen.facts, Cert.InprojKernelIdeal.Gen.facts, Cert.InprojReferenceIdeal.Gen.facts,
  Cert.MergeKernel.Gen.facts, Cert.MergeKernelIdeal.Gen.facts, Cert.MergeReferenceIdeal.Gen.facts,
  Cert.ModKernel.Gen.facts, Cert.ModKernelIdeal.Gen.facts, Cert.ModReferenceIdeal.Gen.facts,
  Cert.RopeKernel.Gen.facts, Cert.RopeKernelIdeal.Gen.facts, Cert.RopeReferenceIdeal.Gen.facts,
  Cert.RetKernel.Gen.facts, Cert.RetKernelIdeal.Gen.facts, Cert.RetReferenceIdeal.Gen.facts,
  facts_finite, facts_finite_ret,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.FfnKernel.Gen.frame m ρ,
  fun m ρ _ => Cert.FfnKernelIdeal.Gen.frame m ρ,
  ffn_reference_frame,
  fun m ρ _ => Cert.InprojKernel.Gen.frame m ρ,
  fun m ρ _ => Cert.InprojKernelIdeal.Gen.frame m ρ,
  inproj_reference_frame,
  fun m ρ _ => Cert.MergeKernel.Gen.frame m ρ,
  fun m ρ _ => Cert.MergeKernelIdeal.Gen.frame m ρ,
  merge_reference_frame,
  fun m ρ _ => Cert.ModKernel.Gen.frame m ρ,
  fun m ρ _ => Cert.ModKernelIdeal.Gen.frame m ρ,
  mod_reference_frame,
  fun m ρ _ => Cert.RopeKernel.Gen.frame m ρ,
  fun m ρ _ => Cert.RopeKernelIdeal.Gen.frame m ρ,
  rope_reference_frame,
  ret_kernel_frame,
  fun m ρ _ => Cert.RetKernelIdeal.Chunk.frame m ρ,
  fun m ρ _ => Cert.RetKernelIdeal.Chunk.frame m ρ,
  ret_reference_frame,
  fun m ρ _ => ret_reference_frame m ρ trivial,
  ⟨IdealRules.named_const.statement _ _ _ _ _ rfl, IdealRules.named_const.statement _ _ _ _ _ rfl, IdealRules.named_const.statement _ _ _ _ _ rfl⟩,
  algebraic (h0 := facts_finite),
  trivial, ffn_algebraic,
  trivial, inproj_algebraic,
  trivial, merge_algebraic,
  trivial, mod_algebraic,
  trivial, rope_algebraic,
  trivial, ret_algebraic (h0 := facts_finite_ret) fun _ _ => finite_ret_reals (h0 := facts_finite_ret) _ _⟩

end Cert.Proof

end
